-- ==== Defs.lean ====
def Pre_Kernel [hPre_visits_as_drawn : Cert.Pre_visits_as_drawn.Facts] (m : (ℓ : Loc Cert.Kernel.nD Cert.Kernel.τ Cert.Kernel.sig) → Buf (Elt Bits) ℓ) : Prop :=
  ∀ c : Dev Cert.Kernel.nD,
    (Cert.Pre_visits_as_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).1 = (fun _ => 1#1)
    ∧ (Cert.Pre_visits_as_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.1 = (fun _ => 1#1)
    ∧ (Cert.Pre_visits_as_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.1 = (fun _ => 1#1)
    ∧ (Cert.Pre_visits_as_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.1 = (fun _ => 1#1)
    ∧ (Cert.Pre_visits_as_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.1 = (fun _ => 1#1)
    ∧ (Cert.Pre_visits_as_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.1 = (fun _ => 1#1)
    ∧ (Cert.Pre_visits_as_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.1 = (fun _ => 1#1)
    ∧ (Cert.Pre_visits_as_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.2.1 = (fun _ => 1#1)
    ∧ (Cert.Pre_visits_as_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.2.2.1 = (fun _ => 1#1)
    ∧ (Cert.Pre_visits_as_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.2.2.2 = (fun _ => 1#1)

def Pre_KernelIdeal [hPre_visits_as_drawn : Cert.Pre_visits_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_visits_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_visits_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_visits_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_visits_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_visits_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_visits_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_visits_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_visits_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_visits_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_visits_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_visits_as_drawn [hPre_visits_as_drawn : Cert.Pre_visits_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_visits_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_visits_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_visits_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_visits_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_visits_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_visits_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_visits_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_visits_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_visits_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_visits_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2 = (fun _ => 1#1)

def quiescent_Kernel [hKernel : Cert.Kernel.Facts] [hPre_visits_as_drawn : Cert.Pre_visits_as_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_visits_as_drawn : Cert.Pre_visits_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_visits_as_drawn [hReferenceIdeal : Cert.ReferenceIdeal.Facts] [hPre_visits_as_drawn : Cert.Pre_visits_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_visits_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "inv_v2" .f32 0x3B03126F#32 ((500⁻¹ : ℝ) : EReal)

def algebraic_KernelIdeal_ReferenceIdeal [hKernelIdeal : Cert.KernelIdeal.Facts] [hReferenceIdeal : Cert.ReferenceIdeal.Facts] [hPre_visits_as_drawn : Cert.Pre_visits_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_visits_as_drawn : Cert.Pre_visits_as_drawn.Facts),
    quiescent_Kernel (hKernel := hKernel) (hPre_visits_as_drawn := hPre_visits_as_drawn)
    ∧ quiescent_KernelIdeal (hKernelIdeal := hKernelIdeal) (hPre_visits_as_drawn := hPre_visits_as_drawn)
    ∧ quiescent_ReferenceIdeal (hReferenceIdeal := hReferenceIdeal)
    ∧ quiescent_ReferenceIdeal_pre_visits_as_drawn (hReferenceIdeal := hReferenceIdeal) (hPre_visits_as_drawn := hPre_visits_as_drawn)
    ∧ preserves_Kernel_KernelIdeal
    ∧ algebraic_KernelIdeal_ReferenceIdeal (hKernelIdeal := hKernelIdeal) (hReferenceIdeal := hReferenceIdeal) (hPre_visits_as_drawn := hPre_visits_as_drawn)
-- ==== Pre_visits_as_drawn.lean ====
abbrev S24x4000 : Shape := ⟨2, ![24, 4000]⟩
abbrev S24x25 : Shape := ⟨2, ![24, 25]⟩
abbrev S4001x256 : Shape := ⟨2, ![4001, 256]⟩
abbrev S768x256 : Shape := ⟨2, ![768, 256]⟩
abbrev S768 : Shape := ⟨1, ![768]⟩
abbrev S1x256 : Shape := ⟨2, ![1, 256]⟩
abbrev S1 : Shape := ⟨1, ![1]⟩
abbrev S256x256 : Shape := ⟨2, ![256, 256]⟩
abbrev S256 : Shape := ⟨1, ![256]⟩
abbrev S500x256 : Shape := ⟨2, ![500, 256]⟩
abbrev S500 : Shape := ⟨1, ![500]⟩
abbrev S24x40 : Shape := ⟨2, ![24, 40]⟩
abbrev S_ : Shape := ⟨0, ![]⟩
abbrev S24x20 : Shape := ⟨2, ![24, 20]⟩
abbrev S23x25 : Shape := ⟨2, ![23, 25]⟩
abbrev S23x3915 : Shape := ⟨2, ![23, 3915]⟩
abbrev S23x60 : Shape := ⟨2, ![23, 60]⟩
abbrev S23x3940 : Shape := ⟨2, ![23, 3940]⟩

class Facts : Prop where
  slices_S24x4000_S24x40_0_0 : S24x4000.Slices ![0, 0] S24x40
  bcast_S_S24x40 : S_.BroadcastsInDim S24x40 (![] : Fin 0 → Fin S24x40.rank)
  slices_S24x4000_S24x20_0_40 : S24x4000.Slices ![0, 40] S24x20
  bcast_S_S24x20 : S_.BroadcastsInDim S24x20 (![] : Fin 0 → Fin S24x20.rank)
  slices_S24x4000_S23x25_0_60 : S24x4000.Slices ![0, 60] S23x25
  slices_S24x25_S23x25_0_0 : S24x25.Slices ![0, 0] S23x25
  bcast_S_S23x25 : S_.BroadcastsInDim S23x25 (![] : Fin 0 → Fin S23x25.rank)
  slices_S24x4000_S23x3915_0_85 : S24x4000.Slices ![0, 85] S23x3915
  bcast_S_S23x3915 : S_.BroadcastsInDim S23x3915 (![] : Fin 0 → Fin S23x3915.rank)
  slices_S24x4000_S23x60_1_0 : S24x4000.Slices ![1, 0] S23x60
  slices_S24x4000_S23x3940_1_60 : S24x4000.Slices ![1, 60] S23x3940
  bcast_S_S23x3940 : S_.BroadcastsInDim S23x3940 (![] : Fin 0 → Fin S23x3940.rank)
  bcast_S_S24x25 : S_.BroadcastsInDim S24x25 (![] : Fin 0 → Fin S24x25.rank)
  slices_S4001x256_S1x256_4000_0 : S4001x256.Slices ![4000, 0] S1x256
  shapeCasts_S1x256_S256 : S1x256.ShapeCasts S256
  bcast_S_S256 : S_.BroadcastsInDim S256 (![] : Fin 0 → Fin S256.rank)
  bcast_S_S1x256 : S_.BroadcastsInDim S1x256 (![] : Fin 0 → Fin S1x256.rank)
  bcast_S_S1 : S_.BroadcastsInDim S1 (![] : Fin 0 → Fin S1.rank)

variable [Facts]

def fn_part2 {F : FTy → Type} [FloatOps F] (main_arg13 : FVec F S1 .f32) (main_v6 : IVec S24x40 1) (main_v13 : IVec S24x20 1) (main_v18 : IVec S23x25 1) (main_v21 : IVec S23x3915 1) (main_v24 : IVec S23x60 1) (main_v27 : IVec S23x3940 1) (main_v32 : IVec S24x25 1) (main_v36 : IVec S256 1) (main_v37 : FVec F S1x256 .f32) : IVec S24x40 1 × IVec S24x20 1 × IVec S23x25 1 × IVec S23x3915 1 × IVec S23x60 1 × IVec S23x3940 1 × IVec S24x25 1 × IVec S256 1 × IVec S1x256 1 × IVec S1 1 :=
  let main_cst_8 : FVec F S_ .f32 := constant S_ .f32 0x7F800000#32
  let main_v38 : FVec F S1x256 .f32 := broadcastInDim S1x256 ![] bcast_S_S1x256 main_cst_8
  let main_v39 : IVec S1x256 1 := cmpf .olt main_v37 main_v38
  let main_v40 : FVec F S1 .f32 := Host.absf main_arg13
  let main_cst_9 : FVec F S_ .f32 := constant S_ .f32 0x7F800000#32
  let main_v41 : FVec F S1 .f32 := broadcastInDim S1 ![] bcast_S_S1 main_cst_9
  let main_v42 : IVec S1 1 := cmpf .olt main_v40 main_v41
  (main_v6, main_v13, main_v18, main_v21, main_v24, main_v27, main_v32, main_v36, main_v39, main_v42)

def fn_part1 {F : FTy → Type} [FloatOps F] (main_arg0 : IVec S24x4000 32) (main_arg1 : IVec S24x4000 32) (main_arg2 : IVec S24x25 32) (main_arg3 : FVec F S4001x256 .f32) (main_arg12 : FVec F S1x256 .f32) (main_arg13 : FVec F S1 .f32) (main_v6 : IVec S24x40 1) (main_v13 : IVec S24x20 1) (main_v18 : IVec S23x25 1) : IVec S24x40 1 × IVec S24x20 1 × IVec S23x25 1 × IVec S23x3915 1 × IVec S23x60 1 × IVec S23x3940 1 × IVec S24x25 1 × IVec S256 1 × IVec S1x256 1 × IVec S1 1 :=
  let main_v19 : IVec S23x3915 32 := (extractStridedSlice S23x3915 ![0, 85] · slices_S24x4000_S23x3915_0_85) main_arg0
  let main_c_4 : IVec S_ 32 := constantI S_ 32 4000#32
  let main_v20 : IVec S23x3915 32 := broadcastInDim S23x3915 ![] bcast_S_S23x3915 main_c_4
  let main_v21 : IVec S23x3915 1 := cmpi .eq main_v19 main_v20
  let main_v22 : IVec S23x60 32 := (extractStridedSlice S23x60 ![1, 0] · slices_S24x4000_S23x60_1_0) main_arg1
  let main_v23 : IVec S23x60 32 := (extractStridedSlice S23x60 ![1, 0] · slices_S24x4000_S23x60_1_0) main_arg0
  let main_v24 : IVec S23x60 1 := cmpi .eq main_v22 main_v23
  let main_v25 : IVec S23x3940 32 := (extractStridedSlice S23x3940 ![1, 60] · slices_S24x4000_S23x3940_1_60) main_arg1
  let main_c_5 : IVec S_ 32 := constantI S_ 32 4000#32
  let main_v26 : IVec S23x3940 32 := broadcastInDim S23x3940 ![] bcast_S_S23x3940 main_c_5
  let main_v27 : IVec S23x3940 1 := cmpi .eq main_v25 main_v26
  let main_c_6 : IVec S_ 32 := constantI S_ 32 0#32
  let main_v28 : IVec S24x25 32 := broadcastInDim S24x25 ![] bcast_S_S24x25 main_c_6
  let main_v29 : IVec S24x25 1 := cmpi .sge main_arg2 main_v28
  let main_c_7 : IVec S_ 32 := constantI S_ 32 500#32
  let main_v30 : IVec S24x25 32 := broadcastInDim S24x25 ![] bcast_S_S24x25 main_c_7
  let main_v31 : IVec S24x25 1 := cmpi .slt main_arg2 main_v30
  let main_v32 : IVec S24x25 1 := andi main_v29 main_v31
  let main_v33 : FVec F S1x256 .f32 := (extractStridedSlice S1x256 ![4000, 0] · slices_S4001x256_S1x256_4000_0) main_arg3
  let main_v34 : FVec F S256 .f32 := shapeCast S256 main_v33 shapeCasts_S1x256_S256
  let main_cst : FVec F S_ .f32 := constant S_ .f32 0x00000000#32
  let main_v35 : FVec F S256 .f32 := broadcastInDim S256 ![] bcast_S_S256 main_cst
  let main_v36 : IVec S256 1 := cmpf .oeq main_v34 main_v35
  let main_v37 : FVec F S1x256 .f32 := Host.absf main_arg12
  fn_part2 (F := F) main_arg13 main_v6 main_v13 main_v18 main_v21 main_v24 main_v27 main_v32 main_v36 main_v37

def fn {F : FTy → Type} [FloatOps F] (main_arg0 : IVec S24x4000 32) (main_arg1 : IVec S24x4000 32) (main_arg2 : IVec S24x25 32) (main_arg3 : FVec F S4001x256 .f32) (main_arg4 : FVec F S768x256 .f32) (main_arg5 : FVec F S768x256 .f32) (main_arg6 : FVec F S768 .f32) (main_arg7 : FVec F S768 .f32) (main_arg8 : FVec F S768x256 .f32) (main_arg9 : FVec F S768x256 .f32) (main_arg10 : FVec F S768 .f32) (main_arg11 : FVec F S768 .f32) (main_arg12 : FVec F S1x256 .f32) (main_arg13 : FVec F S1 .f32) (main_arg14 : FVec F S256x256 .f32) (main_arg15 : FVec F S256 .f32) (main_arg16 : FVec F S500x256 .f32) (main_arg17 : FVec F S500 .f32) : IVec S24x40 1 × IVec S24x20 1 × IVec S23x25 1 × IVec S23x3915 1 × IVec S23x60 1 × IVec S23x3940 1 × IVec S24x25 1 × IVec S256 1 × IVec S1x256 1 × IVec S1 1 :=
  let main_v0 : IVec S24x40 32 := (extractStridedSlice S24x40 ![0, 0] · slices_S24x4000_S24x40_0_0) main_arg0
  let main_c : IVec S_ 32 := constantI S_ 32 0#32
  let main_v1 : IVec S24x40 32 := broadcastInDim S24x40 ![] bcast_S_S24x40 main_c
  let main_v2 : IVec S24x40 1 := cmpi .sge main_v0 main_v1
  let main_v3 : IVec S24x40 32 := (extractStridedSlice S24x40 ![0, 0] · slices_S24x4000_S24x40_0_0) main_arg0
  let main_c_0 : IVec S_ 32 := constantI S_ 32 2000#32
  let main_v4 : IVec S24x40 32 := broadcastInDim S24x40 ![] bcast_S_S24x40 main_c_0
  let main_v5 : IVec S24x40 1 := cmpi .slt main_v3 main_v4
  let main_v6 : IVec S24x40 1 := andi main_v2 main_v5
  let main_v7 : IVec S24x20 32 := (extractStridedSlice S24x20 ![0, 40] · slices_S24x4000_S24x20_0_40) main_arg0
  let main_c_1 : IVec S_ 32 := constantI S_ 32 2000#32
  let main_v8 : IVec S24x20 32 := broadcastInDim S24x20 ![] bcast_S_S24x20 main_c_1
  let main_v9 : IVec S24x20 1 := cmpi .sge main_v7 main_v8
  let main_v10 : IVec S24x20 32 := (extractStridedSlice S24x20 ![0, 40] · slices_S24x4000_S24x20_0_40) main_arg0
  let main_c_2 : IVec S_ 32 := constantI S_ 32 3500#32
  let main_v11 : IVec S24x20 32 := broadcastInDim S24x20 ![] bcast_S_S24x20 main_c_2
  let main_v12 : IVec S24x20 1 := cmpi .slt main_v10 main_v11
  let main_v13 : IVec S24x20 1 := andi main_v9 main_v12
  let main_v14 : IVec S23x25 32 := (extractStridedSlice S23x25 ![0, 60] · slices_S24x4000_S23x25_0_60) main_arg0
  let main_v15 : IVec S23x25 32 := (extractStridedSlice S23x25 ![0, 0] · slices_S24x25_S23x25_0_0) main_arg2
  let main_c_3 : IVec S_ 32 := constantI S_ 32 3500#32
  let main_v16 : IVec S23x25 32 := broadcastInDim S23x25 ![] bcast_S_S23x25 main_c_3
  let main_v17 : IVec S23x25 32 := addi main_v15 main_v16
  let main_v18 : IVec S23x25 1 := cmpi .eq main_v14 main_v17
  fn_part1 (F := F) main_arg0 main_arg1 main_arg2 main_arg3 main_arg12 main_arg13 main_v6 main_v13 main_v18
-- ==== Kernel.lean ====
abbrev S24x4000 : Shape := ⟨2, ![24, 4000]⟩
abbrev S24x25 : Shape := ⟨2, ![24, 25]⟩
abbrev S4001x256 : Shape := ⟨2, ![4001, 256]⟩
abbrev S768x256 : Shape := ⟨2, ![768, 256]⟩
abbrev S768 : Shape := ⟨1, ![768]⟩
abbrev S1x256 : Shape := ⟨2, ![1, 256]⟩
abbrev S1 : Shape := ⟨1, ![1]⟩
abbrev S256x256 : Shape := ⟨2, ![256, 256]⟩
abbrev S256 : Shape := ⟨1, ![256]⟩
abbrev S500x256 : Shape := ⟨2, ![500, 256]⟩
abbrev S500 : Shape := ⟨1, ![500]⟩
abbrev S23x500 : Shape := ⟨2, ![23, 500]⟩
abbrev S_ : Shape := ⟨0, ![]⟩
abbrev S24x256 : Shape := ⟨2, ![24, 256]⟩
abbrev S24x768 : Shape := ⟨2, ![24, 768]⟩
abbrev S4001x1x256 : Shape := ⟨3, ![4001, 1, 256]⟩
abbrev S24x128 : Shape := ⟨2, ![24, 128]⟩
abbrev S504x256 : Shape := ⟨2, ![504, 256]⟩
abbrev S2048x1x256 : Shape := ⟨3, ![2048, 1, 256]⟩
abbrev S2048x256 : Shape := ⟨2, ![2048, 256]⟩
abbrev S1952x1x256 : Shape := ⟨3, ![1952, 1, 256]⟩
abbrev S1952x256 : Shape := ⟨2, ![1952, 256]⟩
abbrev S23x25 : Shape := ⟨2, ![23, 25]⟩
abbrev S24x504 : Shape := ⟨2, ![24, 504]⟩
abbrev S24x1 : Shape := ⟨2, ![24, 1]⟩
abbrev S1x1 : Shape := ⟨2, ![1, 1]⟩
abbrev S1x1x256 : Shape := ⟨3, ![1, 1, 256]⟩
abbrev S1x768 : Shape := ⟨2, ![1, 768]⟩
abbrev S4x256 : Shape := ⟨2, ![4, 256]⟩
abbrev S4x768 : Shape := ⟨2, ![4, 768]⟩
abbrev S24x500 : Shape := ⟨2, ![24, 500]⟩
abbrev S1x500 : Shape := ⟨2, ![1, 500]⟩
abbrev S1x23x500 : Shape := ⟨3, ![1, 23, 500]⟩
abbrev S1x1x1 : Shape := ⟨3, ![1, 1, 1]⟩

abbrev nBuf : Space → Nat
  | .hbm => 22
  | .vmem => 18
  | .smem => 2
  | _ => 0

abbrev bufTy : (tb : Table) → Fin (tcTables nBuf tb) → BufTy
  | .hbm, ⟨0, _⟩ => ⟨S24x4000, .i32⟩
  | .hbm, ⟨1, _⟩ => ⟨S24x4000, .i32⟩
  | .hbm, ⟨2, _⟩ => ⟨S24x25, .i32⟩
  | .hbm, ⟨3, _⟩ => ⟨S4001x256, .f32⟩
  | .hbm, ⟨4, _⟩ => ⟨S768x256, .f32⟩
  | .hbm, ⟨5, _⟩ => ⟨S768x256, .f32⟩
  | .hbm, ⟨6, _⟩ => ⟨S768, .f32⟩
  | .hbm, ⟨7, _⟩ => ⟨S768, .f32⟩
  | .hbm, ⟨8, _⟩ => ⟨S768x256, .f32⟩
  | .hbm, ⟨9, _⟩ => ⟨S768x256, .f32⟩
  | .hbm, ⟨10, _⟩ => ⟨S768, .f32⟩
  | .hbm, ⟨11, _⟩ => ⟨S768, .f32⟩
  | .hbm, ⟨12, _⟩ => ⟨S1x256, .f32⟩
  | .hbm, ⟨13, _⟩ => ⟨S1, .f32⟩
  | .hbm, ⟨14, _⟩ => ⟨S256x256, .f32⟩
  | .hbm, ⟨15, _⟩ => ⟨S256, .f32⟩
  | .hbm, ⟨16, _⟩ => ⟨S500x256, .f32⟩
  | .hbm, ⟨17, _⟩ => ⟨S500, .f32⟩
  | .hbm, ⟨18, _⟩ => ⟨S23x500, .f32⟩
  | .hbm, ⟨19, _⟩ => ⟨S23x500, .i32⟩
  | .hbm, ⟨20, _⟩ => ⟨S23x500, .f32⟩
  | .hbm, ⟨21, _⟩ => ⟨S_, .f32⟩
  | .local _ .vmem, ⟨0, _⟩ => ⟨S24x25, .i32⟩
  | .local _ .vmem, ⟨1, _⟩ => ⟨S768x256, .f32⟩
  | .local _ .vmem, ⟨2, _⟩ => ⟨S768x256, .f32⟩
  | .local _ .vmem, ⟨3, _⟩ => ⟨S768, .f32⟩
  | .local _ .vmem, ⟨4, _⟩ => ⟨S768, .f32⟩
  | .local _ .vmem, ⟨5, _⟩ => ⟨S256x256, .f32⟩
  | .local _ .vmem, ⟨6, _⟩ => ⟨S256, .f32⟩
  | .local _ .vmem, ⟨7, _⟩ => ⟨S500x256, .f32⟩
  | .local _ .vmem, ⟨8, _⟩ => ⟨S500, .f32⟩
  | .local _ .vmem, ⟨9, _⟩ => ⟨S23x500, .f32⟩
  | .local _ .vmem, ⟨10, _⟩ => ⟨S23x500, .i32⟩
  | .local _ .vmem, ⟨11, _⟩ => ⟨S23x500, .f32⟩
  | .local _ .vmem, ⟨12, _⟩ => ⟨S24x256, .f32⟩
  | .local _ .vmem, ⟨13, _⟩ => ⟨S24x256, .f32⟩
  | .local _ .vmem, ⟨14, _⟩ => ⟨S24x768, .f32⟩
  | .local _ .vmem, ⟨15, _⟩ => ⟨S24x256, .f32⟩
  | .local _ .vmem, ⟨16, _⟩ => ⟨S4001x1x256, .f32⟩
  | .local _ .vmem, ⟨17, _⟩ => ⟨S504x256, .f32⟩
  | .local _ .smem, ⟨0, _⟩ => ⟨S_, .f32⟩
  | .local _ .smem, ⟨1, _⟩ => ⟨S24x128, .i32⟩
  | _, _ => ⟨S24x4000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch9 : Ref sig .tc := ⟨.vmem, 17, rfl⟩
abbrev cc0_stg12_0 : Ref sig .tc := ⟨.smem, 0, rfl⟩
abbrev cc0_scratch7 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

def k0_off1 (v206 : BitVec 32) : Fin 3 → Nat :=
  let v207 : Index := Scalar.indexCast v206
  let c0_85 : Index := 0#32
  let c0_86 : Index := 0#32
  ![v207.toNat, 0, 0]

def k0_chk1 (v206 : BitVec 32) : Prop :=
  (∀ a, (k0_off1 v206) a + S1x1x256.size a ≤ S4001x1x256.size a)
theorem k0_off1_inb : ∀ (v206 : BitVec 32) (k0_hw1 : k0_chk1 v206), ∀ a, (k0_off1 v206) a + S1x1x256.size a ≤ S4001x1x256.size a := fun v206 k0_hw1 => k0_hw1

def k0_off2 (v210 : BitVec 32) : Fin 3 → Nat :=
  let v211 : Index := Scalar.indexCast v210
  let c0_88 : Index := 0#32
  let c0_89 : Index := 0#32
  ![v211.toNat, 0, 0]

def k0_chk2 (v210 : BitVec 32) : Prop :=
  (∀ a, (k0_off2 v210) a + S1x1x256.size a ≤ S4001x1x256.size a)
theorem k0_off2_inb : ∀ (v210 : BitVec 32) (k0_hw2 : k0_chk2 v210), ∀ a, (k0_off2 v210) a + S1x1x256.size a ≤ S4001x1x256.size a := fun v210 k0_hw2 => k0_hw2

def k0_off3 (v214 : BitVec 32) : Fin 3 → Nat :=
  let v215 : Index := Scalar.indexCast v214
  let c0_91 : Index := 0#32
  let c0_92 : Index := 0#32
  ![v215.toNat, 0, 0]

def k0_chk3 (v214 : BitVec 32) : Prop :=
  (∀ a, (k0_off3 v214) a + S1x1x256.size a ≤ S4001x1x256.size a)
theorem k0_off3_inb : ∀ (v214 : BitVec 32) (k0_hw3 : k0_chk3 v214), ∀ a, (k0_off3 v214) a + S1x1x256.size a ≤ S4001x1x256.size a := fun v214 k0_hw3 => k0_hw3

def k0_off4 (v218 : BitVec 32) : Fin 3 → Nat :=
  let v219 : Index := Scalar.indexCast v218
  let c0_94 : Index := 0#32
  let c0_95 : Index := 0#32
  ![v219.toNat, 0, 0]

def k0_chk4 (v218 : BitVec 32) : Prop :=
  (∀ a, (k0_off4 v218) a + S1x1x256.size a ≤ S4001x1x256.size a)
theorem k0_off4_inb : ∀ (v218 : BitVec 32) (k0_hw4 : k0_chk4 v218), ∀ a, (k0_off4 v218) a + S1x1x256.size a ≤ S4001x1x256.size a := fun v218 k0_hw4 => k0_hw4

def k0_off5 (v222 : BitVec 32) : Fin 3 → Nat :=
  let v223 : Index := Scalar.indexCast v222
  let c0_97 : Index := 0#32
  let c0_98 : Index := 0#32
  ![v223.toNat, 0, 0]

def k0_chk5 (v222 : BitVec 32) : Prop :=
  (∀ a, (k0_off5 v222) a + S1x1x256.size a ≤ S4001x1x256.size a)
theorem k0_off5_inb : ∀ (v222 : BitVec 32) (k0_hw5 : k0_chk5 v222), ∀ a, (k0_off5 v222) a + S1x1x256.size a ≤ S4001x1x256.size a := fun v222 k0_hw5 => k0_hw5

def k0_off6 (v226 : BitVec 32) : Fin 3 → Nat :=
  let v227 : Index := Scalar.indexCast v226
  let c0_100 : Index := 0#32
  let c0_101 : Index := 0#32
  ![v227.toNat, 0, 0]

def k0_chk6 (v226 : BitVec 32) : Prop :=
  (∀ a, (k0_off6 v226) a + S1x1x256.size a ≤ S4001x1x256.size a)
theorem k0_off6_inb : ∀ (v226 : BitVec 32) (k0_hw6 : k0_chk6 v226), ∀ a, (k0_off6 v226) a + S1x1x256.size a ≤ S4001x1x256.size a := fun v226 k0_hw6 => k0_hw6

def k0_off7 (v230 : BitVec 32) : Fin 3 → Nat :=
  let v231 : Index := Scalar.indexCast v230
  let c0_103 : Index := 0#32
  let c0_104 : Index := 0#32
  ![v231.toNat, 0, 0]

def k0_chk7 (v230 : BitVec 32) : Prop :=
  (∀ a, (k0_off7 v230) a + S1x1x256.size a ≤ S4001x1x256.size a)
theorem k0_off7_inb : ∀ (v230 : BitVec 32) (k0_hw7 : k0_chk7 v230), ∀ a, (k0_off7 v230) a + S1x1x256.size a ≤ S4001x1x256.size a := fun v230 k0_hw7 => k0_hw7

def k0_off8 (v234 : BitVec 32) : Fin 3 → Nat :=
  let v235 : Index := Scalar.indexCast v234
  let c0_106 : Index := 0#32
  let c0_107 : Index := 0#32
  ![v235.toNat, 0, 0]

def k0_chk8 (v234 : BitVec 32) : Prop :=
  (∀ a, (k0_off8 v234) a + S1x1x256.size a ≤ S4001x1x256.size a)
theorem k0_off8_inb : ∀ (v234 : BitVec 32) (k0_hw8 : k0_chk8 v234), ∀ a, (k0_off8 v234) a + S1x1x256.size a ≤ S4001x1x256.size a := fun v234 k0_hw8 => k0_hw8

def k0_off9 (v238 : BitVec 32) : Fin 3 → Nat :=
  let v239 : Index := Scalar.indexCast v238
  let c0_109 : Index := 0#32
  let c0_110 : Index := 0#32
  ![v239.toNat, 0, 0]

def k0_chk9 (v238 : BitVec 32) : Prop :=
  (∀ a, (k0_off9 v238) a + S1x1x256.size a ≤ S4001x1x256.size a)
theorem k0_off9_inb : ∀ (v238 : BitVec 32) (k0_hw9 : k0_chk9 v238), ∀ a, (k0_off9 v238) a + S1x1x256.size a ≤ S4001x1x256.size a := fun v238 k0_hw9 => k0_hw9

def k0_off10 (v242 : BitVec 32) : Fin 3 → Nat :=
  let v243 : Index := Scalar.indexCast v242
  let c0_112 : Index := 0#32
  let c0_113 : Index := 0#32
  ![v243.toNat, 0, 0]

def k0_chk10 (v242 : BitVec 32) : Prop :=
  (∀ a, (k0_off10 v242) a + S1x1x256.size a ≤ S4001x1x256.size a)
theorem k0_off10_inb : ∀ (v242 : BitVec 32) (k0_hw10 : k0_chk10 v242), ∀ a, (k0_off10 v242) a + S1x1x256.size a ≤ S4001x1x256.size a := fun v242 k0_hw10 => k0_hw10

def k0_off11 (v246 : BitVec 32) : Fin 3 → Nat :=
  let v247 : Index := Scalar.indexCast v246
  let c0_115 : Index := 0#32
  let c0_116 : Index := 0#32
  ![v247.toNat, 0, 0]

def k0_chk11 (v246 : BitVec 32) : Prop :=
  (∀ a, (k0_off11 v246) a + S1x1x256.size a ≤ S4001x1x256.size a)
theorem k0_off11_inb : ∀ (v246 : BitVec 32) (k0_hw11 : k0_chk11 v246), ∀ a, (k0_off11 v246) a + S1x1x256.size a ≤ S4001x1x256.size a := fun v246 k0_hw11 => k0_hw11

def k0_off12 (v250 : BitVec 32) : Fin 3 → Nat :=
  let v251 : Index := Scalar.indexCast v250
  let c0_118 : Index := 0#32
  let c0_119 : Index := 0#32
  ![v251.toNat, 0, 0]

def k0_chk12 (v250 : BitVec 32) : Prop :=
  (∀ a, (k0_off12 v250) a + S1x1x256.size a ≤ S4001x1x256.size a)
theorem k0_off12_inb : ∀ (v250 : BitVec 32) (k0_hw12 : k0_chk12 v250), ∀ a, (k0_off12 v250) a + S1x1x256.size a ≤ S4001x1x256.size a := fun v250 k0_hw12 => k0_hw12

def k0_off13 (v254 : BitVec 32) : Fin 3 → Nat :=
  let v255 : Index := Scalar.indexCast v254
  let c0_121 : Index := 0#32
  let c0_122 : Index := 0#32
  ![v255.toNat, 0, 0]

def k0_chk13 (v254 : BitVec 32) : Prop :=
  (∀ a, (k0_off13 v254) a + S1x1x256.size a ≤ S4001x1x256.size a)
theorem k0_off13_inb : ∀ (v254 : BitVec 32) (k0_hw13 : k0_chk13 v254), ∀ a, (k0_off13 v254) a + S1x1x256.size a ≤ S4001x1x256.size a := fun v254 k0_hw13 => k0_hw13

def k0_off14 (v258 : BitVec 32) : Fin 3 → Nat :=
  let v259 : Index := Scalar.indexCast v258
  let c0_124 : Index := 0#32
  let c0_125 : Index := 0#32
  ![v259.toNat, 0, 0]

def k0_chk14 (v258 : BitVec 32) : Prop :=
  (∀ a, (k0_off14 v258) a + S1x1x256.size a ≤ S4001x1x256.size a)
theorem k0_off14_inb : ∀ (v258 : BitVec 32) (k0_hw14 : k0_chk14 v258), ∀ a, (k0_off14 v258) a + S1x1x256.size a ≤ S4001x1x256.size a := fun v258 k0_hw14 => k0_hw14

def k0_off15 (v262 : BitVec 32) : Fin 3 → Nat :=
  let v263 : Index := Scalar.indexCast v262
  let c0_127 : Index := 0#32
  let c0_128 : Index := 0#32
  ![v263.toNat, 0, 0]

def k0_chk15 (v262 : BitVec 32) : Prop :=
  (∀ a, (k0_off15 v262) a + S1x1x256.size a ≤ S4001x1x256.size a)
theorem k0_off15_inb : ∀ (v262 : BitVec 32) (k0_hw15 : k0_chk15 v262), ∀ a, (k0_off15 v262) a + S1x1x256.size a ≤ S4001x1x256.size a := fun v262 k0_hw15 => k0_hw15

def k0_off16 (v266 : BitVec 32) : Fin 3 → Nat :=
  let v267 : Index := Scalar.indexCast v266
  let c0_130 : Index := 0#32
  let c0_131 : Index := 0#32
  ![v267.toNat, 0, 0]

def k0_chk16 (v266 : BitVec 32) : Prop :=
  (∀ a, (k0_off16 v266) a + S1x1x256.size a ≤ S4001x1x256.size a)
theorem k0_off16_inb : ∀ (v266 : BitVec 32) (k0_hw16 : k0_chk16 v266), ∀ a, (k0_off16 v266) a + S1x1x256.size a ≤ S4001x1x256.size a := fun v266 k0_hw16 => k0_hw16

def k0_off17 (v270 : BitVec 32) : Fin 3 → Nat :=
  let v271 : Index := Scalar.indexCast v270
  let c0_133 : Index := 0#32
  let c0_134 : Index := 0#32
  ![v271.toNat, 0, 0]

def k0_chk17 (v270 : BitVec 32) : Prop :=
  (∀ a, (k0_off17 v270) a + S1x1x256.size a ≤ S4001x1x256.size a)
theorem k0_off17_inb : ∀ (v270 : BitVec 32) (k0_hw17 : k0_chk17 v270), ∀ a, (k0_off17 v270) a + S1x1x256.size a ≤ S4001x1x256.size a := fun v270 k0_hw17 => k0_hw17

def k0_off18 (v274 : BitVec 32) : Fin 3 → Nat :=
  let v275 : Index := Scalar.indexCast v274
  let c0_136 : Index := 0#32
  let c0_137 : Index := 0#32
  ![v275.toNat, 0, 0]

def k0_chk18 (v274 : BitVec 32) : Prop :=
  (∀ a, (k0_off18 v274) a + S1x1x256.size a ≤ S4001x1x256.size a)
theorem k0_off18_inb : ∀ (v274 : BitVec 32) (k0_hw18 : k0_chk18 v274), ∀ a, (k0_off18 v274) a + S1x1x256.size a ≤ S4001x1x256.size a := fun v274 k0_hw18 => k0_hw18

def k0_off19 (v278 : BitVec 32) : Fin 3 → Nat :=
  let v279 : Index := Scalar.indexCast v278
  let c0_139 : Index := 0#32
  let c0_140 : Index := 0#32
  ![v279.toNat, 0, 0]

def k0_chk19 (v278 : BitVec 32) : Prop :=
  (∀ a, (k0_off19 v278) a + S1x1x256.size a ≤ S4001x1x256.size a)
theorem k0_off19_inb : ∀ (v278 : BitVec 32) (k0_hw19 : k0_chk19 v278), ∀ a, (k0_off19 v278) a + S1x1x256.size a ≤ S4001x1x256.size a := fun v278 k0_hw19 => k0_hw19

def k0_off20 (v282 : BitVec 32) : Fin 3 → Nat :=
  let v283 : Index := Scalar.indexCast v282
  let c0_142 : Index := 0#32
  let c0_143 : Index := 0#32
  ![v283.toNat, 0, 0]

def k0_chk20 (v282 : BitVec 32) : Prop :=
  (∀ a, (k0_off20 v282) a + S1x1x256.size a ≤ S4001x1x256.size a)
theorem k0_off20_inb : ∀ (v282 : BitVec 32) (k0_hw20 : k0_chk20 v282), ∀ a, (k0_off20 v282) a + S1x1x256.size a ≤ S4001x1x256.size a := fun v282 k0_hw20 => k0_hw20

def k0_off21 (v286 : BitVec 32) : Fin 3 → Nat :=
  let v287 : Index := Scalar.indexCast v286
  let c0_145 : Index := 0#32
  let c0_146 : Index := 0#32
  ![v287.toNat, 0, 0]

def k0_chk21 (v286 : BitVec 32) : Prop :=
  (∀ a, (k0_off21 v286) a + S1x1x256.size a ≤ S4001x1x256.size a)
theorem k0_off21_inb : ∀ (v286 : BitVec 32) (k0_hw21 : k0_chk21 v286), ∀ a, (k0_off21 v286) a + S1x1x256.size a ≤ S4001x1x256.size a := fun v286 k0_hw21 => k0_hw21

def k0_off22 (v290 : BitVec 32) : Fin 3 → Nat :=
  let v291 : Index := Scalar.indexCast v290
  let c0_148 : Index := 0#32
  let c0_149 : Index := 0#32
  ![v291.toNat, 0, 0]

def k0_chk22 (v290 : BitVec 32) : Prop :=
  (∀ a, (k0_off22 v290) a + S1x1x256.size a ≤ S4001x1x256.size a)
theorem k0_off22_inb : ∀ (v290 : BitVec 32) (k0_hw22 : k0_chk22 v290), ∀ a, (k0_off22 v290) a + S1x1x256.size a ≤ S4001x1x256.size a := fun v290 k0_hw22 => k0_hw22

def k0_off23 (v294 : BitVec 32) : Fin 3 → Nat :=
  let v295 : Index := Scalar.indexCast v294
  let c0_151 : Index := 0#32
  let c0_152 : Index := 0#32
  ![v295.toNat, 0, 0]

def k0_chk23 (v294 : BitVec 32) : Prop :=
  (∀ a, (k0_off23 v294) a + S1x1x256.size a ≤ S4001x1x256.size a)
theorem k0_off23_inb : ∀ (v294 : BitVec 32) (k0_hw23 : k0_chk23 v294), ∀ a, (k0_off23 v294) a + S1x1x256.size a ≤ S4001x1x256.size a := fun v294 k0_hw23 => k0_hw23

def k0_off24 (v298 : BitVec 32) : Fin 3 → Nat :=
  let v299 : Index := Scalar.indexCast v298
  let c0_154 : Index := 0#32
  let c0_155 : Index := 0#32
  ![v299.toNat, 0, 0]

def k0_chk24 (v298 : BitVec 32) : Prop :=
  (∀ a, (k0_off24 v298) a + S1x1x256.size a ≤ S4001x1x256.size a)
theorem k0_off24_inb : ∀ (v298 : BitVec 32) (k0_hw24 : k0_chk24 v298), ∀ a, (k0_off24 v298) a + S1x1x256.size a ≤ S4001x1x256.size a := fun v298 k0_hw24 => k0_hw24

def k0_off25 (v302 : BitVec 32) : Fin 3 → Nat :=
  let v303 : Index := Scalar.indexCast v302
  let c0_157 : Index := 0#32
  let c0_158 : Index := 0#32
  ![v303.toNat, 0, 0]

def k0_chk25 (v302 : BitVec 32) : Prop :=
  (∀ a, (k0_off25 v302) a + S1x1x256.size a ≤ S4001x1x256.size a)
theorem k0_off25_inb : ∀ (v302 : BitVec 32) (k0_hw25 : k0_chk25 v302), ∀ a, (k0_off25 v302) a + S1x1x256.size a ≤ S4001x1x256.size a := fun v302 k0_hw25 => k0_hw25

def k0_off26 (v306 : BitVec 32) : Fin 3 → Nat :=
  let v307 : Index := Scalar.indexCast v306
  let c0_160 : Index := 0#32
  let c0_161 : Index := 0#32
  ![v307.toNat, 0, 0]

def k0_chk26 (v306 : BitVec 32) : Prop :=
  (∀ a, (k0_off26 v306) a + S1x1x256.size a ≤ S4001x1x256.size a)
theorem k0_off26_inb : ∀ (v306 : BitVec 32) (k0_hw26 : k0_chk26 v306), ∀ a, (k0_off26 v306) a + S1x1x256.size a ≤ S4001x1x256.size a := fun v306 k0_hw26 => k0_hw26

def k0_off27 (v310 : BitVec 32) : Fin 3 → Nat :=
  let v311 : Index := Scalar.indexCast v310
  let c0_163 : Index := 0#32
  let c0_164 : Index := 0#32
  ![v311.toNat, 0, 0]

def k0_chk27 (v310 : BitVec 32) : Prop :=
  (∀ a, (k0_off27 v310) a + S1x1x256.size a ≤ S4001x1x256.size a)
theorem k0_off27_inb : ∀ (v310 : BitVec 32) (k0_hw27 : k0_chk27 v310), ∀ a, (k0_off27 v310) a + S1x1x256.size a ≤ S4001x1x256.size a := fun v310 k0_hw27 => k0_hw27

def k0_off28 (v314 : BitVec 32) : Fin 3 → Nat :=
  let v315 : Index := Scalar.indexCast v314
  let c0_166 : Index := 0#32
  let c0_167 : Index := 0#32
  ![v315.toNat, 0, 0]

def k0_chk28 (v314 : BitVec 32) : Prop :=
  (∀ a, (k0_off28 v314) a + S1x1x256.size a ≤ S4001x1x256.size a)
theorem k0_off28_inb : ∀ (v314 : BitVec 32) (k0_hw28 : k0_chk28 v314), ∀ a, (k0_off28 v314) a + S1x1x256.size a ≤ S4001x1x256.size a := fun v314 k0_hw28 => k0_hw28

def k0_off29 (v318 : BitVec 32) : Fin 3 → Nat :=
  let v319 : Index := Scalar.indexCast v318
  let c0_169 : Index := 0#32
  let c0_170 : Index := 0#32
  ![v319.toNat, 0, 0]

def k0_chk29 (v318 : BitVec 32) : Prop :=
  (∀ a, (k0_off29 v318) a + S1x1x256.size a ≤ S4001x1x256.size a)
theorem k0_off29_inb : ∀ (v318 : BitVec 32) (k0_hw29 : k0_chk29 v318), ∀ a, (k0_off29 v318) a + S1x1x256.size a ≤ S4001x1x256.size a := fun v318 k0_hw29 => k0_hw29

def k0_off30 (v322 : BitVec 32) : Fin 3 → Nat :=
  let v323 : Index := Scalar.indexCast v322
  let c0_172 : Index := 0#32
  let c0_173 : Index := 0#32
  ![v323.toNat, 0, 0]

def k0_chk30 (v322 : BitVec 32) : Prop :=
  (∀ a, (k0_off30 v322) a + S1x1x256.size a ≤ S4001x1x256.size a)
theorem k0_off30_inb : ∀ (v322 : BitVec 32) (k0_hw30 : k0_chk30 v322), ∀ a, (k0_off30 v322) a + S1x1x256.size a ≤ S4001x1x256.size a := fun v322 k0_hw30 => k0_hw30

def k0_off31 (v326 : BitVec 32) : Fin 3 → Nat :=
  let v327 : Index := Scalar.indexCast v326
  let c0_175 : Index := 0#32
  let c0_176 : Index := 0#32
  ![v327.toNat, 0, 0]

def k0_chk31 (v326 : BitVec 32) : Prop :=
  (∀ a, (k0_off31 v326) a + S1x1x256.size a ≤ S4001x1x256.size a)
theorem k0_off31_inb : ∀ (v326 : BitVec 32) (k0_hw31 : k0_chk31 v326), ∀ a, (k0_off31 v326) a + S1x1x256.size a ≤ S4001x1x256.size a := fun v326 k0_hw31 => k0_hw31

def k0_off32 (v330 : BitVec 32) : Fin 3 → Nat :=
  let v331 : Index := Scalar.indexCast v330
  let c0_178 : Index := 0#32
  let c0_179 : Index := 0#32
  ![v331.toNat, 0, 0]

def k0_chk32 (v330 : BitVec 32) : Prop :=
  (∀ a, (k0_off32 v330) a + S1x1x256.size a ≤ S4001x1x256.size a)
theorem k0_off32_inb : ∀ (v330 : BitVec 32) (k0_hw32 : k0_chk32 v330), ∀ a, (k0_off32 v330) a + S1x1x256.size a ≤ S4001x1x256.size a := fun v330 k0_hw32 => k0_hw32

def k0_off33 (v334 : BitVec 32) : Fin 3 → Nat :=
  let v335 : Index := Scalar.indexCast v334
  let c0_181 : Index := 0#32
  let c0_182 : Index := 0#32
  ![v335.toNat, 0, 0]

def k0_chk33 (v334 : BitVec 32) : Prop :=
  (∀ a, (k0_off33 v334) a + S1x1x256.size a ≤ S4001x1x256.size a)
theorem k0_off33_inb : ∀ (v334 : BitVec 32) (k0_hw33 : k0_chk33 v334), ∀ a, (k0_off33 v334) a + S1x1x256.size a ≤ S4001x1x256.size a := fun v334 k0_hw33 => k0_hw33

def k0_off34 (v338 : BitVec 32) : Fin 3 → Nat :=
  let v339 : Index := Scalar.indexCast v338
  let c0_184 : Index := 0#32
  let c0_185 : Index := 0#32
  ![v339.toNat, 0, 0]

def k0_chk34 (v338 : BitVec 32) : Prop :=
  (∀ a, (k0_off34 v338) a + S1x1x256.size a ≤ S4001x1x256.size a)
theorem k0_off34_inb : ∀ (v338 : BitVec 32) (k0_hw34 : k0_chk34 v338), ∀ a, (k0_off34 v338) a + S1x1x256.size a ≤ S4001x1x256.size a := fun v338 k0_hw34 => k0_hw34

def k0_off35 (v342 : BitVec 32) : Fin 3 → Nat :=
  let v343 : Index := Scalar.indexCast v342
  let c0_187 : Index := 0#32
  let c0_188 : Index := 0#32
  ![v343.toNat, 0, 0]

def k0_chk35 (v342 : BitVec 32) : Prop :=
  (∀ a, (k0_off35 v342) a + S1x1x256.size a ≤ S4001x1x256.size a)
theorem k0_off35_inb : ∀ (v342 : BitVec 32) (k0_hw35 : k0_chk35 v342), ∀ a, (k0_off35 v342) a + S1x1x256.size a ≤ S4001x1x256.size a := fun v342 k0_hw35 => k0_hw35

def k0_off36 (v346 : BitVec 32) : Fin 3 → Nat :=
  let v347 : Index := Scalar.indexCast v346
  let c0_190 : Index := 0#32
  let c0_191 : Index := 0#32
  ![v347.toNat, 0, 0]

def k0_chk36 (v346 : BitVec 32) : Prop :=
  (∀ a, (k0_off36 v346) a + S1x1x256.size a ≤ S4001x1x256.size a)
theorem k0_off36_inb : ∀ (v346 : BitVec 32) (k0_hw36 : k0_chk36 v346), ∀ a, (k0_off36 v346) a + S1x1x256.size a ≤ S4001x1x256.size a := fun v346 k0_hw36 => k0_hw36

def k0_off37 (v350 : BitVec 32) : Fin 3 → Nat :=
  let v351 : Index := Scalar.indexCast v350
  let c0_193 : Index := 0#32
  let c0_194 : Index := 0#32
  ![v351.toNat, 0, 0]

def k0_chk37 (v350 : BitVec 32) : Prop :=
  (∀ a, (k0_off37 v350) a + S1x1x256.size a ≤ S4001x1x256.size a)
theorem k0_off37_inb : ∀ (v350 : BitVec 32) (k0_hw37 : k0_chk37 v350), ∀ a, (k0_off37 v350) a + S1x1x256.size a ≤ S4001x1x256.size a := fun v350 k0_hw37 => k0_hw37

def k0_off38 (v354 : BitVec 32) : Fin 3 → Nat :=
  let v355 : Index := Scalar.indexCast v354
  let c0_196 : Index := 0#32
  let c0_197 : Index := 0#32
  ![v355.toNat, 0, 0]

def k0_chk38 (v354 : BitVec 32) : Prop :=
  (∀ a, (k0_off38 v354) a + S1x1x256.size a ≤ S4001x1x256.size a)
theorem k0_off38_inb : ∀ (v354 : BitVec 32) (k0_hw38 : k0_chk38 v354), ∀ a, (k0_off38 v354) a + S1x1x256.size a ≤ S4001x1x256.size a := fun v354 k0_hw38 => k0_hw38

def k0_off39 (v358 : BitVec 32) : Fin 3 → Nat :=
  let v359 : Index := Scalar.indexCast v358
  let c0_199 : Index := 0#32
  let c0_200 : Index := 0#32
  ![v359.toNat, 0, 0]

def k0_chk39 (v358 : BitVec 32) : Prop :=
  (∀ a, (k0_off39 v358) a + S1x1x256.size a ≤ S4001x1x256.size a)
theorem k0_off39_inb : ∀ (v358 : BitVec 32) (k0_hw39 : k0_chk39 v358), ∀ a, (k0_off39 v358) a + S1x1x256.size a ≤ S4001x1x256.size a := fun v358 k0_hw39 => k0_hw39

def k0_off40 (v362 : BitVec 32) : Fin 3 → Nat :=
  let v363 : Index := Scalar.indexCast v362
  let c0_202 : Index := 0#32
  let c0_203 : Index := 0#32
  ![v363.toNat, 0, 0]

def k0_chk40 (v362 : BitVec 32) : Prop :=
  (∀ a, (k0_off40 v362) a + S1x1x256.size a ≤ S4001x1x256.size a)
theorem k0_off40_inb : ∀ (v362 : BitVec 32) (k0_hw40 : k0_chk40 v362), ∀ a, (k0_off40 v362) a + S1x1x256.size a ≤ S4001x1x256.size a := fun v362 k0_hw40 => k0_hw40

def k0_off41 (v405 : BitVec 32) : Fin 3 → Nat :=
  let v406 : Index := Scalar.indexCast v405
  let c0_206 : Index := 0#32
  let c0_207 : Index := 0#32
  ![v406.toNat, 0, 0]

def k0_chk41 (v405 : BitVec 32) : Prop :=
  (∀ a, (k0_off41 v405) a + S1x1x256.size a ≤ S4001x1x256.size a)
theorem k0_off41_inb : ∀ (v405 : BitVec 32) (k0_hw41 : k0_chk41 v405), ∀ a, (k0_off41 v405) a + S1x1x256.size a ≤ S4001x1x256.size a := fun v405 k0_hw41 => k0_hw41

def k0_off42 (v409 : BitVec 32) : Fin 3 → Nat :=
  let v410 : Index := Scalar.indexCast v409
  let c0_210 : Index := 0#32
  let c0_211 : Index := 0#32
  ![v410.toNat, 0, 0]

def k0_chk42 (v409 : BitVec 32) : Prop :=
  (∀ a, (k0_off42 v409) a + S1x1x256.size a ≤ S4001x1x256.size a)
theorem k0_off42_inb : ∀ (v409 : BitVec 32) (k0_hw42 : k0_chk42 v409), ∀ a, (k0_off42 v409) a + S1x1x256.size a ≤ S4001x1x256.size a := fun v409 k0_hw42 => k0_hw42

def k0_off43 (v413 : BitVec 32) : Fin 3 → Nat :=
  let v414 : Index := Scalar.indexCast v413
  let c0_214 : Index := 0#32
  let c0_215 : Index := 0#32
  ![v414.toNat, 0, 0]

def k0_chk43 (v413 : BitVec 32) : Prop :=
  (∀ a, (k0_off43 v413) a + S1x1x256.size a ≤ S4001x1x256.size a)
theorem k0_off43_inb : ∀ (v413 : BitVec 32) (k0_hw43 : k0_chk43 v413), ∀ a, (k0_off43 v413) a + S1x1x256.size a ≤ S4001x1x256.size a := fun v413 k0_hw43 => k0_hw43

def k0_off44 (v417 : BitVec 32) : Fin 3 → Nat :=
  let v418 : Index := Scalar.indexCast v417
  let c0_218 : Index := 0#32
  let c0_219 : Index := 0#32
  ![v418.toNat, 0, 0]

def k0_chk44 (v417 : BitVec 32) : Prop :=
  (∀ a, (k0_off44 v417) a + S1x1x256.size a ≤ S4001x1x256.size a)
theorem k0_off44_inb : ∀ (v417 : BitVec 32) (k0_hw44 : k0_chk44 v417), ∀ a, (k0_off44 v417) a + S1x1x256.size a ≤ S4001x1x256.size a := fun v417 k0_hw44 => k0_hw44

def k0_off45 (v421 : BitVec 32) : Fin 3 → Nat :=
  let v422 : Index := Scalar.indexCast v421
  let c0_222 : Index := 0#32
  let c0_223 : Index := 0#32
  ![v422.toNat, 0, 0]

def k0_chk45 (v421 : BitVec 32) : Prop :=
  (∀ a, (k0_off45 v421) a + S1x1x256.size a ≤ S4001x1x256.size a)
theorem k0_off45_inb : ∀ (v421 : BitVec 32) (k0_hw45 : k0_chk45 v421), ∀ a, (k0_off45 v421) a + S1x1x256.size a ≤ S4001x1x256.size a := fun v421 k0_hw45 => k0_hw45

def k0_off46 (v425 : BitVec 32) : Fin 3 → Nat :=
  let v426 : Index := Scalar.indexCast v425
  let c0_226 : Index := 0#32
  let c0_227 : Index := 0#32
  ![v426.toNat, 0, 0]

def k0_chk46 (v425 : BitVec 32) : Prop :=
  (∀ a, (k0_off46 v425) a + S1x1x256.size a ≤ S4001x1x256.size a)
theorem k0_off46_inb : ∀ (v425 : BitVec 32) (k0_hw46 : k0_chk46 v425), ∀ a, (k0_off46 v425) a + S1x1x256.size a ≤ S4001x1x256.size a := fun v425 k0_hw46 => k0_hw46

def k0_off47 (v429 : BitVec 32) : Fin 3 → Nat :=
  let v430 : Index := Scalar.indexCast v429
  let c0_230 : Index := 0#32
  let c0_231 : Index := 0#32
  ![v430.toNat, 0, 0]

def k0_chk47 (v429 : BitVec 32) : Prop :=
  (∀ a, (k0_off47 v429) a + S1x1x256.size a ≤ S4001x1x256.size a)
theorem k0_off47_inb : ∀ (v429 : BitVec 32) (k0_hw47 : k0_chk47 v429), ∀ a, (k0_off47 v429) a + S1x1x256.size a ≤ S4001x1x256.size a := fun v429 k0_hw47 => k0_hw47

def k0_off48 (v433 : BitVec 32) : Fin 3 → Nat :=
  let v434 : Index := Scalar.indexCast v433
  let c0_234 : Index := 0#32
  let c0_235 : Index := 0#32
  ![v434.toNat, 0, 0]

def k0_chk48 (v433 : BitVec 32) : Prop :=
  (∀ a, (k0_off48 v433) a + S1x1x256.size a ≤ S4001x1x256.size a)
theorem k0_off48_inb : ∀ (v433 : BitVec 32) (k0_hw48 : k0_chk48 v433), ∀ a, (k0_off48 v433) a + S1x1x256.size a ≤ S4001x1x256.size a := fun v433 k0_hw48 => k0_hw48

def k0_off49 (v437 : BitVec 32) : Fin 3 → Nat :=
  let v438 : Index := Scalar.indexCast v437
  let c0_238 : Index := 0#32
  let c0_239 : Index := 0#32
  ![v438.toNat, 0, 0]

def k0_chk49 (v437 : BitVec 32) : Prop :=
  (∀ a, (k0_off49 v437) a + S1x1x256.size a ≤ S4001x1x256.size a)
theorem k0_off49_inb : ∀ (v437 : BitVec 32) (k0_hw49 : k0_chk49 v437), ∀ a, (k0_off49 v437) a + S1x1x256.size a ≤ S4001x1x256.size a := fun v437 k0_hw49 => k0_hw49

def k0_off50 (v441 : BitVec 32) : Fin 3 → Nat :=
  let v442 : Index := Scalar.indexCast v441
  let c0_242 : Index := 0#32
  let c0_243 : Index := 0#32
  ![v442.toNat, 0, 0]

def k0_chk50 (v441 : BitVec 32) : Prop :=
  (∀ a, (k0_off50 v441) a + S1x1x256.size a ≤ S4001x1x256.size a)
theorem k0_off50_inb : ∀ (v441 : BitVec 32) (k0_hw50 : k0_chk50 v441), ∀ a, (k0_off50 v441) a + S1x1x256.size a ≤ S4001x1x256.size a := fun v441 k0_hw50 => k0_hw50

def k0_off51 (v445 : BitVec 32) : Fin 3 → Nat :=
  let v446 : Index := Scalar.indexCast v445
  let c0_246 : Index := 0#32
  let c0_247 : Index := 0#32
  ![v446.toNat, 0, 0]

def k0_chk51 (v445 : BitVec 32) : Prop :=
  (∀ a, (k0_off51 v445) a + S1x1x256.size a ≤ S4001x1x256.size a)
theorem k0_off51_inb : ∀ (v445 : BitVec 32) (k0_hw51 : k0_chk51 v445), ∀ a, (k0_off51 v445) a + S1x1x256.size a ≤ S4001x1x256.size a := fun v445 k0_hw51 => k0_hw51

def k0_off52 (v449 : BitVec 32) : Fin 3 → Nat :=
  let v450 : Index := Scalar.indexCast v449
  let c0_250 : Index := 0#32
  let c0_251 : Index := 0#32
  ![v450.toNat, 0, 0]

def k0_chk52 (v449 : BitVec 32) : Prop :=
  (∀ a, (k0_off52 v449) a + S1x1x256.size a ≤ S4001x1x256.size a)
theorem k0_off52_inb : ∀ (v449 : BitVec 32) (k0_hw52 : k0_chk52 v449), ∀ a, (k0_off52 v449) a + S1x1x256.size a ≤ S4001x1x256.size a := fun v449 k0_hw52 => k0_hw52

def k0_off53 (v453 : BitVec 32) : Fin 3 → Nat :=
  let v454 : Index := Scalar.indexCast v453
  let c0_254 : Index := 0#32
  let c0_255 : Index := 0#32
  ![v454.toNat, 0, 0]

def k0_chk53 (v453 : BitVec 32) : Prop :=
  (∀ a, (k0_off53 v453) a + S1x1x256.size a ≤ S4001x1x256.size a)
theorem k0_off53_inb : ∀ (v453 : BitVec 32) (k0_hw53 : k0_chk53 v453), ∀ a, (k0_off53 v453) a + S1x1x256.size a ≤ S4001x1x256.size a := fun v453 k0_hw53 => k0_hw53

def k0_off54 (v457 : BitVec 32) : Fin 3 → Nat :=
  let v458 : Index := Scalar.indexCast v457
  let c0_258 : Index := 0#32
  let c0_259 : Index := 0#32
  ![v458.toNat, 0, 0]

def k0_chk54 (v457 : BitVec 32) : Prop :=
  (∀ a, (k0_off54 v457) a + S1x1x256.size a ≤ S4001x1x256.size a)
theorem k0_off54_inb : ∀ (v457 : BitVec 32) (k0_hw54 : k0_chk54 v457), ∀ a, (k0_off54 v457) a + S1x1x256.size a ≤ S4001x1x256.size a := fun v457 k0_hw54 => k0_hw54

def k0_off55 (v461 : BitVec 32) : Fin 3 → Nat :=
  let v462 : Index := Scalar.indexCast v461
  let c0_262 : Index := 0#32
  let c0_263 : Index := 0#32
  ![v462.toNat, 0, 0]

def k0_chk55 (v461 : BitVec 32) : Prop :=
  (∀ a, (k0_off55 v461) a + S1x1x256.size a ≤ S4001x1x256.size a)
theorem k0_off55_inb : ∀ (v461 : BitVec 32) (k0_hw55 : k0_chk55 v461), ∀ a, (k0_off55 v461) a + S1x1x256.size a ≤ S4001x1x256.size a := fun v461 k0_hw55 => k0_hw55

def k0_off56 (v465 : BitVec 32) : Fin 3 → Nat :=
  let v466 : Index := Scalar.indexCast v465
  let c0_266 : Index := 0#32
  let c0_267 : Index := 0#32
  ![v466.toNat, 0, 0]

def k0_chk56 (v465 : BitVec 32) : Prop :=
  (∀ a, (k0_off56 v465) a + S1x1x256.size a ≤ S4001x1x256.size a)
theorem k0_off56_inb : ∀ (v465 : BitVec 32) (k0_hw56 : k0_chk56 v465), ∀ a, (k0_off56 v465) a + S1x1x256.size a ≤ S4001x1x256.size a := fun v465 k0_hw56 => k0_hw56

def k0_off57 (v469 : BitVec 32) : Fin 3 → Nat :=
  let v470 : Index := Scalar.indexCast v469
  let c0_270 : Index := 0#32
  let c0_271 : Index := 0#32
  ![v470.toNat, 0, 0]

def k0_chk57 (v469 : BitVec 32) : Prop :=
  (∀ a, (k0_off57 v469) a + S1x1x256.size a ≤ S4001x1x256.size a)
theorem k0_off57_inb : ∀ (v469 : BitVec 32) (k0_hw57 : k0_chk57 v469), ∀ a, (k0_off57 v469) a + S1x1x256.size a ≤ S4001x1x256.size a := fun v469 k0_hw57 => k0_hw57

def k0_off58 (v473 : BitVec 32) : Fin 3 → Nat :=
  let v474 : Index := Scalar.indexCast v473
  let c0_274 : Index := 0#32
  let c0_275 : Index := 0#32
  ![v474.toNat, 0, 0]

def k0_chk58 (v473 : BitVec 32) : Prop :=
  (∀ a, (k0_off58 v473) a + S1x1x256.size a ≤ S4001x1x256.size a)
theorem k0_off58_inb : ∀ (v473 : BitVec 32) (k0_hw58 : k0_chk58 v473), ∀ a, (k0_off58 v473) a + S1x1x256.size a ≤ S4001x1x256.size a := fun v473 k0_hw58 => k0_hw58

def k0_off59 (v477 : BitVec 32) : Fin 3 → Nat :=
  let v478 : Index := Scalar.indexCast v477
  let c0_278 : Index := 0#32
  let c0_279 : Index := 0#32
  ![v478.toNat, 0, 0]

def k0_chk59 (v477 : BitVec 32) : Prop :=
  (∀ a, (k0_off59 v477) a + S1x1x256.size a ≤ S4001x1x256.size a)
theorem k0_off59_inb : ∀ (v477 : BitVec 32) (k0_hw59 : k0_chk59 v477), ∀ a, (k0_off59 v477) a + S1x1x256.size a ≤ S4001x1x256.size a := fun v477 k0_hw59 => k0_hw59

def k0_off60 (v481 : BitVec 32) : Fin 3 → Nat :=
  let v482 : Index := Scalar.indexCast v481
  let c0_282 : Index := 0#32
  let c0_283 : Index := 0#32
  ![v482.toNat, 0, 0]

def k0_chk60 (v481 : BitVec 32) : Prop :=
  (∀ a, (k0_off60 v481) a + S1x1x256.size a ≤ S4001x1x256.size a)
theorem k0_off60_inb : ∀ (v481 : BitVec 32) (k0_hw60 : k0_chk60 v481), ∀ a, (k0_off60 v481) a + S1x1x256.size a ≤ S4001x1x256.size a := fun v481 k0_hw60 => k0_hw60

def k0_off61 (v485 : BitVec 32) : Fin 3 → Nat :=
  let v486 : Index := Scalar.indexCast v485
  let c0_286 : Index := 0#32
  let c0_287 : Index := 0#32
  ![v486.toNat, 0, 0]

def k0_chk61 (v485 : BitVec 32) : Prop :=
  (∀ a, (k0_off61 v485) a + S1x1x256.size a ≤ S4001x1x256.size a)
theorem k0_off61_inb : ∀ (v485 : BitVec 32) (k0_hw61 : k0_chk61 v485), ∀ a, (k0_off61 v485) a + S1x1x256.size a ≤ S4001x1x256.size a := fun v485 k0_hw61 => k0_hw61

def k0_off62 (v489 : BitVec 32) : Fin 3 → Nat :=
  let v490 : Index := Scalar.indexCast v489
  let c0_290 : Index := 0#32
  let c0_291 : Index := 0#32
  ![v490.toNat, 0, 0]

def k0_chk62 (v489 : BitVec 32) : Prop :=
  (∀ a, (k0_off62 v489) a + S1x1x256.size a ≤ S4001x1x256.size a)
theorem k0_off62_inb : ∀ (v489 : BitVec 32) (k0_hw62 : k0_chk62 v489), ∀ a, (k0_off62 v489) a + S1x1x256.size a ≤ S4001x1x256.size a := fun v489 k0_hw62 => k0_hw62

def k0_off63 (v493 : BitVec 32) : Fin 3 → Nat :=
  let v494 : Index := Scalar.indexCast v493
  let c0_294 : Index := 0#32
  let c0_295 : Index := 0#32
  ![v494.toNat, 0, 0]

def k0_chk63 (v493 : BitVec 32) : Prop :=
  (∀ a, (k0_off63 v493) a + S1x1x256.size a ≤ S4001x1x256.size a)
theorem k0_off63_inb : ∀ (v493 : BitVec 32) (k0_hw63 : k0_chk63 v493), ∀ a, (k0_off63 v493) a + S1x1x256.size a ≤ S4001x1x256.size a := fun v493 k0_hw63 => k0_hw63

def k0_off64 (v497 : BitVec 32) : Fin 3 → Nat :=
  let v498 : Index := Scalar.indexCast v497
  let c0_298 : Index := 0#32
  let c0_299 : Index := 0#32
  ![v498.toNat, 0, 0]

def k0_chk64 (v497 : BitVec 32) : Prop :=
  (∀ a, (k0_off64 v497) a + S1x1x256.size a ≤ S4001x1x256.size a)
theorem k0_off64_inb : ∀ (v497 : BitVec 32) (k0_hw64 : k0_chk64 v497), ∀ a, (k0_off64 v497) a + S1x1x256.size a ≤ S4001x1x256.size a := fun v497 k0_hw64 => k0_hw64

def k0_off65 (v501 : BitVec 32) : Fin 3 → Nat :=
  let v502 : Index := Scalar.indexCast v501
  let c0_302 : Index := 0#32
  let c0_303 : Index := 0#32
  ![v502.toNat, 0, 0]

def k0_chk65 (v501 : BitVec 32) : Prop :=
  (∀ a, (k0_off65 v501) a + S1x1x256.size a ≤ S4001x1x256.size a)
theorem k0_off65_inb : ∀ (v501 : BitVec 32) (k0_hw65 : k0_chk65 v501), ∀ a, (k0_off65 v501) a + S1x1x256.size a ≤ S4001x1x256.size a := fun v501 k0_hw65 => k0_hw65

def k0_off66 (v505 : BitVec 32) : Fin 3 → Nat :=
  let v506 : Index := Scalar.indexCast v505
  let c0_306 : Index := 0#32
  let c0_307 : Index := 0#32
  ![v506.toNat, 0, 0]

def k0_chk66 (v505 : BitVec 32) : Prop :=
  (∀ a, (k0_off66 v505) a + S1x1x256.size a ≤ S4001x1x256.size a)
theorem k0_off66_inb : ∀ (v505 : BitVec 32) (k0_hw66 : k0_chk66 v505), ∀ a, (k0_off66 v505) a + S1x1x256.size a ≤ S4001x1x256.size a := fun v505 k0_hw66 => k0_hw66

def k0_off67 (v509 : BitVec 32) : Fin 3 → Nat :=
  let v510 : Index := Scalar.indexCast v509
  let c0_310 : Index := 0#32
  let c0_311 : Index := 0#32
  ![v510.toNat, 0, 0]

def k0_chk67 (v509 : BitVec 32) : Prop :=
  (∀ a, (k0_off67 v509) a + S1x1x256.size a ≤ S4001x1x256.size a)
theorem k0_off67_inb : ∀ (v509 : BitVec 32) (k0_hw67 : k0_chk67 v509), ∀ a, (k0_off67 v509) a + S1x1x256.size a ≤ S4001x1x256.size a := fun v509 k0_hw67 => k0_hw67

def k0_off68 (v513 : BitVec 32) : Fin 3 → Nat :=
  let v514 : Index := Scalar.indexCast v513
  let c0_314 : Index := 0#32
  let c0_315 : Index := 0#32
  ![v514.toNat, 0, 0]

def k0_chk68 (v513 : BitVec 32) : Prop :=
  (∀ a, (k0_off68 v513) a + S1x1x256.size a ≤ S4001x1x256.size a)
theorem k0_off68_inb : ∀ (v513 : BitVec 32) (k0_hw68 : k0_chk68 v513), ∀ a, (k0_off68 v513) a + S1x1x256.size a ≤ S4001x1x256.size a := fun v513 k0_hw68 => k0_hw68

def k0_off69 (v517 : BitVec 32) : Fin 3 → Nat :=
  let v518 : Index := Scalar.indexCast v517
  let c0_318 : Index := 0#32
  let c0_319 : Index := 0#32
  ![v518.toNat, 0, 0]

def k0_chk69 (v517 : BitVec 32) : Prop :=
  (∀ a, (k0_off69 v517) a + S1x1x256.size a ≤ S4001x1x256.size a)
theorem k0_off69_inb : ∀ (v517 : BitVec 32) (k0_hw69 : k0_chk69 v517), ∀ a, (k0_off69 v517) a + S1x1x256.size a ≤ S4001x1x256.size a := fun v517 k0_hw69 => k0_hw69

def k0_off70 (v521 : BitVec 32) : Fin 3 → Nat :=
  let v522 : Index := Scalar.indexCast v521
  let c0_322 : Index := 0#32
  let c0_323 : Index := 0#32
  ![v522.toNat, 0, 0]

def k0_chk70 (v521 : BitVec 32) : Prop :=
  (∀ a, (k0_off70 v521) a + S1x1x256.size a ≤ S4001x1x256.size a)
theorem k0_off70_inb : ∀ (v521 : BitVec 32) (k0_hw70 : k0_chk70 v521), ∀ a, (k0_off70 v521) a + S1x1x256.size a ≤ S4001x1x256.size a := fun v521 k0_hw70 => k0_hw70

def k0_off71 (v525 : BitVec 32) : Fin 3 → Nat :=
  let v526 : Index := Scalar.indexCast v525
  let c0_326 : Index := 0#32
  let c0_327 : Index := 0#32
  ![v526.toNat, 0, 0]

def k0_chk71 (v525 : BitVec 32) : Prop :=
  (∀ a, (k0_off71 v525) a + S1x1x256.size a ≤ S4001x1x256.size a)
theorem k0_off71_inb : ∀ (v525 : BitVec 32) (k0_hw71 : k0_chk71 v525), ∀ a, (k0_off71 v525) a + S1x1x256.size a ≤ S4001x1x256.size a := fun v525 k0_hw71 => k0_hw71

def k0_off72 (v529 : BitVec 32) : Fin 3 → Nat :=
  let v530 : Index := Scalar.indexCast v529
  let c0_330 : Index := 0#32
  let c0_331 : Index := 0#32
  ![v530.toNat, 0, 0]

def k0_chk72 (v529 : BitVec 32) : Prop :=
  (∀ a, (k0_off72 v529) a + S1x1x256.size a ≤ S4001x1x256.size a)
theorem k0_off72_inb : ∀ (v529 : BitVec 32) (k0_hw72 : k0_chk72 v529), ∀ a, (k0_off72 v529) a + S1x1x256.size a ≤ S4001x1x256.size a := fun v529 k0_hw72 => k0_hw72

def k0_off73 (v533 : BitVec 32) : Fin 3 → Nat :=
  let v534 : Index := Scalar.indexCast v533
  let c0_334 : Index := 0#32
  let c0_335 : Index := 0#32
  ![v534.toNat, 0, 0]

def k0_chk73 (v533 : BitVec 32) : Prop :=
  (∀ a, (k0_off73 v533) a + S1x1x256.size a ≤ S4001x1x256.size a)
theorem k0_off73_inb : ∀ (v533 : BitVec 32) (k0_hw73 : k0_chk73 v533), ∀ a, (k0_off73 v533) a + S1x1x256.size a ≤ S4001x1x256.size a := fun v533 k0_hw73 => k0_hw73

def k0_off74 (v537 : BitVec 32) : Fin 3 → Nat :=
  let v538 : Index := Scalar.indexCast v537
  let c0_338 : Index := 0#32
  let c0_339 : Index := 0#32
  ![v538.toNat, 0, 0]

def k0_chk74 (v537 : BitVec 32) : Prop :=
  (∀ a, (k0_off74 v537) a + S1x1x256.size a ≤ S4001x1x256.size a)
theorem k0_off74_inb : ∀ (v537 : BitVec 32) (k0_hw74 : k0_chk74 v537), ∀ a, (k0_off74 v537) a + S1x1x256.size a ≤ S4001x1x256.size a := fun v537 k0_hw74 => k0_hw74

def k0_off75 (v541 : BitVec 32) : Fin 3 → Nat :=
  let v542 : Index := Scalar.indexCast v541
  let c0_342 : Index := 0#32
  let c0_343 : Index := 0#32
  ![v542.toNat, 0, 0]

def k0_chk75 (v541 : BitVec 32) : Prop :=
  (∀ a, (k0_off75 v541) a + S1x1x256.size a ≤ S4001x1x256.size a)
theorem k0_off75_inb : ∀ (v541 : BitVec 32) (k0_hw75 : k0_chk75 v541), ∀ a, (k0_off75 v541) a + S1x1x256.size a ≤ S4001x1x256.size a := fun v541 k0_hw75 => k0_hw75

def k0_off76 (v545 : BitVec 32) : Fin 3 → Nat :=
  let v546 : Index := Scalar.indexCast v545
  let c0_346 : Index := 0#32
  let c0_347 : Index := 0#32
  ![v546.toNat, 0, 0]

def k0_chk76 (v545 : BitVec 32) : Prop :=
  (∀ a, (k0_off76 v545) a + S1x1x256.size a ≤ S4001x1x256.size a)
theorem k0_off76_inb : ∀ (v545 : BitVec 32) (k0_hw76 : k0_chk76 v545), ∀ a, (k0_off76 v545) a + S1x1x256.size a ≤ S4001x1x256.size a := fun v545 k0_hw76 => k0_hw76

def k0_off77 (v549 : BitVec 32) : Fin 3 → Nat :=
  let v550 : Index := Scalar.indexCast v549
  let c0_350 : Index := 0#32
  let c0_351 : Index := 0#32
  ![v550.toNat, 0, 0]

def k0_chk77 (v549 : BitVec 32) : Prop :=
  (∀ a, (k0_off77 v549) a + S1x1x256.size a ≤ S4001x1x256.size a)
theorem k0_off77_inb : ∀ (v549 : BitVec 32) (k0_hw77 : k0_chk77 v549), ∀ a, (k0_off77 v549) a + S1x1x256.size a ≤ S4001x1x256.size a := fun v549 k0_hw77 => k0_hw77

def k0_off78 (v553 : BitVec 32) : Fin 3 → Nat :=
  let v554 : Index := Scalar.indexCast v553
  let c0_354 : Index := 0#32
  let c0_355 : Index := 0#32
  ![v554.toNat, 0, 0]

def k0_chk78 (v553 : BitVec 32) : Prop :=
  (∀ a, (k0_off78 v553) a + S1x1x256.size a ≤ S4001x1x256.size a)
theorem k0_off78_inb : ∀ (v553 : BitVec 32) (k0_hw78 : k0_chk78 v553), ∀ a, (k0_off78 v553) a + S1x1x256.size a ≤ S4001x1x256.size a := fun v553 k0_hw78 => k0_hw78

def k0_off79 (v557 : BitVec 32) : Fin 3 → Nat :=
  let v558 : Index := Scalar.indexCast v557
  let c0_358 : Index := 0#32
  let c0_359 : Index := 0#32
  ![v558.toNat, 0, 0]

def k0_chk79 (v557 : BitVec 32) : Prop :=
  (∀ a, (k0_off79 v557) a + S1x1x256.size a ≤ S4001x1x256.size a)
theorem k0_off79_inb : ∀ (v557 : BitVec 32) (k0_hw79 : k0_chk79 v557), ∀ a, (k0_off79 v557) a + S1x1x256.size a ≤ S4001x1x256.size a := fun v557 k0_hw79 => k0_hw79

def k0_off80 (v561 : BitVec 32) : Fin 3 → Nat :=
  let v562 : Index := Scalar.indexCast v561
  let c0_362 : Index := 0#32
  let c0_363 : Index := 0#32
  ![v562.toNat, 0, 0]

def k0_chk80 (v561 : BitVec 32) : Prop :=
  (∀ a, (k0_off80 v561) a + S1x1x256.size a ≤ S4001x1x256.size a)
theorem k0_off80_inb : ∀ (v561 : BitVec 32) (k0_hw80 : k0_chk80 v561), ∀ a, (k0_off80 v561) a + S1x1x256.size a ≤ S4001x1x256.size a := fun v561 k0_hw80 => k0_hw80

def k0_off81 (v604 : BitVec 32) : Fin 3 → Nat :=
  let v605 : Index := Scalar.indexCast v604
  let c0_366 : Index := 0#32
  let c0_367 : Index := 0#32
  ![v605.toNat, 0, 0]

def k0_chk81 (v604 : BitVec 32) : Prop :=
  (∀ a, (k0_off81 v604) a + S1x1x256.size a ≤ S4001x1x256.size a)
theorem k0_off81_inb : ∀ (v604 : BitVec 32) (k0_hw81 : k0_chk81 v604), ∀ a, (k0_off81 v604) a + S1x1x256.size a ≤ S4001x1x256.size a := fun v604 k0_hw81 => k0_hw81

def k0_off82 (v608 : BitVec 32) : Fin 3 → Nat :=
  let v609 : Index := Scalar.indexCast v608
  let c0_370 : Index := 0#32
  let c0_371 : Index := 0#32
  ![v609.toNat, 0, 0]

def k0_chk82 (v608 : BitVec 32) : Prop :=
  (∀ a, (k0_off82 v608) a + S1x1x256.size a ≤ S4001x1x256.size a)
theorem k0_off82_inb : ∀ (v608 : BitVec 32) (k0_hw82 : k0_chk82 v608), ∀ a, (k0_off82 v608) a + S1x1x256.size a ≤ S4001x1x256.size a := fun v608 k0_hw82 => k0_hw82

def k0_off83 (v612 : BitVec 32) : Fin 3 → Nat :=
  let v613 : Index := Scalar.indexCast v612
  let c0_374 : Index := 0#32
  let c0_375 : Index := 0#32
  ![v613.toNat, 0, 0]

def k0_chk83 (v612 : BitVec 32) : Prop :=
  (∀ a, (k0_off83 v612) a + S1x1x256.size a ≤ S4001x1x256.size a)
theorem k0_off83_inb : ∀ (v612 : BitVec 32) (k0_hw83 : k0_chk83 v612), ∀ a, (k0_off83 v612) a + S1x1x256.size a ≤ S4001x1x256.size a := fun v612 k0_hw83 => k0_hw83

def k0_off84 (v616 : BitVec 32) : Fin 3 → Nat :=
  let v617 : Index := Scalar.indexCast v616
  let c0_378 : Index := 0#32
  let c0_379 : Index := 0#32
  ![v617.toNat, 0, 0]

def k0_chk84 (v616 : BitVec 32) : Prop :=
  (∀ a, (k0_off84 v616) a + S1x1x256.size a ≤ S4001x1x256.size a)
theorem k0_off84_inb : ∀ (v616 : BitVec 32) (k0_hw84 : k0_chk84 v616), ∀ a, (k0_off84 v616) a + S1x1x256.size a ≤ S4001x1x256.size a := fun v616 k0_hw84 => k0_hw84

def k0_off85 (v620 : BitVec 32) : Fin 3 → Nat :=
  let v621 : Index := Scalar.indexCast v620
  let c0_382 : Index := 0#32
  let c0_383 : Index := 0#32
  ![v621.toNat, 0, 0]

def k0_chk85 (v620 : BitVec 32) : Prop :=
  (∀ a, (k0_off85 v620) a + S1x1x256.size a ≤ S4001x1x256.size a)
theorem k0_off85_inb : ∀ (v620 : BitVec 32) (k0_hw85 : k0_chk85 v620), ∀ a, (k0_off85 v620) a + S1x1x256.size a ≤ S4001x1x256.size a := fun v620 k0_hw85 => k0_hw85

def k0_off86 (v624 : BitVec 32) : Fin 3 → Nat :=
  let v625 : Index := Scalar.indexCast v624
  let c0_386 : Index := 0#32
  let c0_387 : Index := 0#32
  ![v625.toNat, 0, 0]

def k0_chk86 (v624 : BitVec 32) : Prop :=
  (∀ a, (k0_off86 v624) a + S1x1x256.size a ≤ S4001x1x256.size a)
theorem k0_off86_inb : ∀ (v624 : BitVec 32) (k0_hw86 : k0_chk86 v624), ∀ a, (k0_off86 v624) a + S1x1x256.size a ≤ S4001x1x256.size a := fun v624 k0_hw86 => k0_hw86

def k0_off87 (v628 : BitVec 32) : Fin 3 → Nat :=
  let v629 : Index := Scalar.indexCast v628
  let c0_390 : Index := 0#32
  let c0_391 : Index := 0#32
  ![v629.toNat, 0, 0]

def k0_chk87 (v628 : BitVec 32) : Prop :=
  (∀ a, (k0_off87 v628) a + S1x1x256.size a ≤ S4001x1x256.size a)
theorem k0_off87_inb : ∀ (v628 : BitVec 32) (k0_hw87 : k0_chk87 v628), ∀ a, (k0_off87 v628) a + S1x1x256.size a ≤ S4001x1x256.size a := fun v628 k0_hw87 => k0_hw87

def k0_off88 (v632 : BitVec 32) : Fin 3 → Nat :=
  let v633 : Index := Scalar.indexCast v632
  let c0_394 : Index := 0#32
  let c0_395 : Index := 0#32
  ![v633.toNat, 0, 0]

def k0_chk88 (v632 : BitVec 32) : Prop :=
  (∀ a, (k0_off88 v632) a + S1x1x256.size a ≤ S4001x1x256.size a)
theorem k0_off88_inb : ∀ (v632 : BitVec 32) (k0_hw88 : k0_chk88 v632), ∀ a, (k0_off88 v632) a + S1x1x256.size a ≤ S4001x1x256.size a := fun v632 k0_hw88 => k0_hw88

def k0_off89 (v636 : BitVec 32) : Fin 3 → Nat :=
  let v637 : Index := Scalar.indexCast v636
  let c0_398 : Index := 0#32
  let c0_399 : Index := 0#32
  ![v637.toNat, 0, 0]

def k0_chk89 (v636 : BitVec 32) : Prop :=
  (∀ a, (k0_off89 v636) a + S1x1x256.size a ≤ S4001x1x256.size a)
theorem k0_off89_inb : ∀ (v636 : BitVec 32) (k0_hw89 : k0_chk89 v636), ∀ a, (k0_off89 v636) a + S1x1x256.size a ≤ S4001x1x256.size a := fun v636 k0_hw89 => k0_hw89

def k0_off90 (v640 : BitVec 32) : Fin 3 → Nat :=
  let v641 : Index := Scalar.indexCast v640
  let c0_402 : Index := 0#32
  let c0_403 : Index := 0#32
  ![v641.toNat, 0, 0]

def k0_chk90 (v640 : BitVec 32) : Prop :=
  (∀ a, (k0_off90 v640) a + S1x1x256.size a ≤ S4001x1x256.size a)
theorem k0_off90_inb : ∀ (v640 : BitVec 32) (k0_hw90 : k0_chk90 v640), ∀ a, (k0_off90 v640) a + S1x1x256.size a ≤ S4001x1x256.size a := fun v640 k0_hw90 => k0_hw90

def k0_off91 (v644 : BitVec 32) : Fin 3 → Nat :=
  let v645 : Index := Scalar.indexCast v644
  let c0_406 : Index := 0#32
  let c0_407 : Index := 0#32
  ![v645.toNat, 0, 0]

def k0_chk91 (v644 : BitVec 32) : Prop :=
  (∀ a, (k0_off91 v644) a + S1x1x256.size a ≤ S4001x1x256.size a)
theorem k0_off91_inb : ∀ (v644 : BitVec 32) (k0_hw91 : k0_chk91 v644), ∀ a, (k0_off91 v644) a + S1x1x256.size a ≤ S4001x1x256.size a := fun v644 k0_hw91 => k0_hw91

def k0_off92 (v648 : BitVec 32) : Fin 3 → Nat :=
  let v649 : Index := Scalar.indexCast v648
  let c0_410 : Index := 0#32
  let c0_411 : Index := 0#32
  ![v649.toNat, 0, 0]

def k0_chk92 (v648 : BitVec 32) : Prop :=
  (∀ a, (k0_off92 v648) a + S1x1x256.size a ≤ S4001x1x256.size a)
theorem k0_off92_inb : ∀ (v648 : BitVec 32) (k0_hw92 : k0_chk92 v648), ∀ a, (k0_off92 v648) a + S1x1x256.size a ≤ S4001x1x256.size a := fun v648 k0_hw92 => k0_hw92

def k0_off93 (v652 : BitVec 32) : Fin 3 → Nat :=
  let v653 : Index := Scalar.indexCast v652
  let c0_414 : Index := 0#32
  let c0_415 : Index := 0#32
  ![v653.toNat, 0, 0]

def k0_chk93 (v652 : BitVec 32) : Prop :=
  (∀ a, (k0_off93 v652) a + S1x1x256.size a ≤ S4001x1x256.size a)
theorem k0_off93_inb : ∀ (v652 : BitVec 32) (k0_hw93 : k0_chk93 v652), ∀ a, (k0_off93 v652) a + S1x1x256.size a ≤ S4001x1x256.size a := fun v652 k0_hw93 => k0_hw93

def k0_off94 (v656 : BitVec 32) : Fin 3 → Nat :=
  let v657 : Index := Scalar.indexCast v656
  let c0_418 : Index := 0#32
  let c0_419 : Index := 0#32
  ![v657.toNat, 0, 0]

def k0_chk94 (v656 : BitVec 32) : Prop :=
  (∀ a, (k0_off94 v656) a + S1x1x256.size a ≤ S4001x1x256.size a)
theorem k0_off94_inb : ∀ (v656 : BitVec 32) (k0_hw94 : k0_chk94 v656), ∀ a, (k0_off94 v656) a + S1x1x256.size a ≤ S4001x1x256.size a := fun v656 k0_hw94 => k0_hw94

def k0_off95 (v660 : BitVec 32) : Fin 3 → Nat :=
  let v661 : Index := Scalar.indexCast v660
  let c0_422 : Index := 0#32
  let c0_423 : Index := 0#32
  ![v661.toNat, 0, 0]

def k0_chk95 (v660 : BitVec 32) : Prop :=
  (∀ a, (k0_off95 v660) a + S1x1x256.size a ≤ S4001x1x256.size a)
theorem k0_off95_inb : ∀ (v660 : BitVec 32) (k0_hw95 : k0_chk95 v660), ∀ a, (k0_off95 v660) a + S1x1x256.size a ≤ S4001x1x256.size a := fun v660 k0_hw95 => k0_hw95

def k0_off96 (v664 : BitVec 32) : Fin 3 → Nat :=
  let v665 : Index := Scalar.indexCast v664
  let c0_426 : Index := 0#32
  let c0_427 : Index := 0#32
  ![v665.toNat, 0, 0]

def k0_chk96 (v664 : BitVec 32) : Prop :=
  (∀ a, (k0_off96 v664) a + S1x1x256.size a ≤ S4001x1x256.size a)
theorem k0_off96_inb : ∀ (v664 : BitVec 32) (k0_hw96 : k0_chk96 v664), ∀ a, (k0_off96 v664) a + S1x1x256.size a ≤ S4001x1x256.size a := fun v664 k0_hw96 => k0_hw96

def k0_off97 (v668 : BitVec 32) : Fin 3 → Nat :=
  let v669 : Index := Scalar.indexCast v668
  let c0_430 : Index := 0#32
  let c0_431 : Index := 0#32
  ![v669.toNat, 0, 0]

def k0_chk97 (v668 : BitVec 32) : Prop :=
  (∀ a, (k0_off97 v668) a + S1x1x256.size a ≤ S4001x1x256.size a)
theorem k0_off97_inb : ∀ (v668 : BitVec 32) (k0_hw97 : k0_chk97 v668), ∀ a, (k0_off97 v668) a + S1x1x256.size a ≤ S4001x1x256.size a := fun v668 k0_hw97 => k0_hw97

def k0_off98 (v672 : BitVec 32) : Fin 3 → Nat :=
  let v673 : Index := Scalar.indexCast v672
  let c0_434 : Index := 0#32
  let c0_435 : Index := 0#32
  ![v673.toNat, 0, 0]

def k0_chk98 (v672 : BitVec 32) : Prop :=
  (∀ a, (k0_off98 v672) a + S1x1x256.size a ≤ S4001x1x256.size a)
theorem k0_off98_inb : ∀ (v672 : BitVec 32) (k0_hw98 : k0_chk98 v672), ∀ a, (k0_off98 v672) a + S1x1x256.size a ≤ S4001x1x256.size a := fun v672 k0_hw98 => k0_hw98

def k0_off99 (v676 : BitVec 32) : Fin 3 → Nat :=
  let v677 : Index := Scalar.indexCast v676
  let c0_438 : Index := 0#32
  let c0_439 : Index := 0#32
  ![v677.toNat, 0, 0]

def k0_chk99 (v676 : BitVec 32) : Prop :=
  (∀ a, (k0_off99 v676) a + S1x1x256.size a ≤ S4001x1x256.size a)
theorem k0_off99_inb : ∀ (v676 : BitVec 32) (k0_hw99 : k0_chk99 v676), ∀ a, (k0_off99 v676) a + S1x1x256.size a ≤ S4001x1x256.size a := fun v676 k0_hw99 => k0_hw99

def k0_off100 (v680 : BitVec 32) : Fin 3 → Nat :=
  let v681 : Index := Scalar.indexCast v680
  let c0_442 : Index := 0#32
  let c0_443 : Index := 0#32
  ![v681.toNat, 0, 0]

def k0_chk100 (v680 : BitVec 32) : Prop :=
  (∀ a, (k0_off100 v680) a + S1x1x256.size a ≤ S4001x1x256.size a)
theorem k0_off100_inb : ∀ (v680 : BitVec 32) (k0_hw100 : k0_chk100 v680), ∀ a, (k0_off100 v680) a + S1x1x256.size a ≤ S4001x1x256.size a := fun v680 k0_hw100 => k0_hw100

def k0_off101 (v684 : BitVec 32) : Fin 3 → Nat :=
  let v685 : Index := Scalar.indexCast v684
  let c0_446 : Index := 0#32
  let c0_447 : Index := 0#32
  ![v685.toNat, 0, 0]

def k0_chk101 (v684 : BitVec 32) : Prop :=
  (∀ a, (k0_off101 v684) a + S1x1x256.size a ≤ S4001x1x256.size a)
theorem k0_off101_inb : ∀ (v684 : BitVec 32) (k0_hw101 : k0_chk101 v684), ∀ a, (k0_off101 v684) a + S1x1x256.size a ≤ S4001x1x256.size a := fun v684 k0_hw101 => k0_hw101

def k0_off102 (v688 : BitVec 32) : Fin 3 → Nat :=
  let v689 : Index := Scalar.indexCast v688
  let c0_450 : Index := 0#32
  let c0_451 : Index := 0#32
  ![v689.toNat, 0, 0]

def k0_chk102 (v688 : BitVec 32) : Prop :=
  (∀ a, (k0_off102 v688) a + S1x1x256.size a ≤ S4001x1x256.size a)
theorem k0_off102_inb : ∀ (v688 : BitVec 32) (k0_hw102 : k0_chk102 v688), ∀ a, (k0_off102 v688) a + S1x1x256.size a ≤ S4001x1x256.size a := fun v688 k0_hw102 => k0_hw102

def k0_off103 (v692 : BitVec 32) : Fin 3 → Nat :=
  let v693 : Index := Scalar.indexCast v692
  let c0_454 : Index := 0#32
  let c0_455 : Index := 0#32
  ![v693.toNat, 0, 0]

def k0_chk103 (v692 : BitVec 32) : Prop :=
  (∀ a, (k0_off103 v692) a + S1x1x256.size a ≤ S4001x1x256.size a)
theorem k0_off103_inb : ∀ (v692 : BitVec 32) (k0_hw103 : k0_chk103 v692), ∀ a, (k0_off103 v692) a + S1x1x256.size a ≤ S4001x1x256.size a := fun v692 k0_hw103 => k0_hw103

def k0_off104 (v696 : BitVec 32) : Fin 3 → Nat :=
  let v697 : Index := Scalar.indexCast v696
  let c0_458 : Index := 0#32
  let c0_459 : Index := 0#32
  ![v697.toNat, 0, 0]

def k0_chk104 (v696 : BitVec 32) : Prop :=
  (∀ a, (k0_off104 v696) a + S1x1x256.size a ≤ S4001x1x256.size a)
theorem k0_off104_inb : ∀ (v696 : BitVec 32) (k0_hw104 : k0_chk104 v696), ∀ a, (k0_off104 v696) a + S1x1x256.size a ≤ S4001x1x256.size a := fun v696 k0_hw104 => k0_hw104

def k0_off105 (v700 : BitVec 32) : Fin 3 → Nat :=
  let v701 : Index := Scalar.indexCast v700
  let c0_462 : Index := 0#32
  let c0_463 : Index := 0#32
  ![v701.toNat, 0, 0]

def k0_chk105 (v700 : BitVec 32) : Prop :=
  (∀ a, (k0_off105 v700) a + S1x1x256.size a ≤ S4001x1x256.size a)
theorem k0_off105_inb : ∀ (v700 : BitVec 32) (k0_hw105 : k0_chk105 v700), ∀ a, (k0_off105 v700) a + S1x1x256.size a ≤ S4001x1x256.size a := fun v700 k0_hw105 => k0_hw105

def k0_off106 (v704 : BitVec 32) : Fin 3 → Nat :=
  let v705 : Index := Scalar.indexCast v704
  let c0_466 : Index := 0#32
  let c0_467 : Index := 0#32
  ![v705.toNat, 0, 0]

def k0_chk106 (v704 : BitVec 32) : Prop :=
  (∀ a, (k0_off106 v704) a + S1x1x256.size a ≤ S4001x1x256.size a)
theorem k0_off106_inb : ∀ (v704 : BitVec 32) (k0_hw106 : k0_chk106 v704), ∀ a, (k0_off106 v704) a + S1x1x256.size a ≤ S4001x1x256.size a := fun v704 k0_hw106 => k0_hw106

def k0_off107 (v708 : BitVec 32) : Fin 3 → Nat :=
  let v709 : Index := Scalar.indexCast v708
  let c0_470 : Index := 0#32
  let c0_471 : Index := 0#32
  ![v709.toNat, 0, 0]

def k0_chk107 (v708 : BitVec 32) : Prop :=
  (∀ a, (k0_off107 v708) a + S1x1x256.size a ≤ S4001x1x256.size a)
theorem k0_off107_inb : ∀ (v708 : BitVec 32) (k0_hw107 : k0_chk107 v708), ∀ a, (k0_off107 v708) a + S1x1x256.size a ≤ S4001x1x256.size a := fun v708 k0_hw107 => k0_hw107

def k0_off108 (v712 : BitVec 32) : Fin 3 → Nat :=
  let v713 : Index := Scalar.indexCast v712
  let c0_474 : Index := 0#32
  let c0_475 : Index := 0#32
  ![v713.toNat, 0, 0]

def k0_chk108 (v712 : BitVec 32) : Prop :=
  (∀ a, (k0_off108 v712) a + S1x1x256.size a ≤ S4001x1x256.size a)
theorem k0_off108_inb : ∀ (v712 : BitVec 32) (k0_hw108 : k0_chk108 v712), ∀ a, (k0_off108 v712) a + S1x1x256.size a ≤ S4001x1x256.size a := fun v712 k0_hw108 => k0_hw108

def k0_off109 (v716 : BitVec 32) : Fin 3 → Nat :=
  let v717 : Index := Scalar.indexCast v716
  let c0_478 : Index := 0#32
  let c0_479 : Index := 0#32
  ![v717.toNat, 0, 0]

def k0_chk109 (v716 : BitVec 32) : Prop :=
  (∀ a, (k0_off109 v716) a + S1x1x256.size a ≤ S4001x1x256.size a)
theorem k0_off109_inb : ∀ (v716 : BitVec 32) (k0_hw109 : k0_chk109 v716), ∀ a, (k0_off109 v716) a + S1x1x256.size a ≤ S4001x1x256.size a := fun v716 k0_hw109 => k0_hw109

def k0_off110 (v720 : BitVec 32) : Fin 3 → Nat :=
  let v721 : Index := Scalar.indexCast v720
  let c0_482 : Index := 0#32
  let c0_483 : Index := 0#32
  ![v721.toNat, 0, 0]

def k0_chk110 (v720 : BitVec 32) : Prop :=
  (∀ a, (k0_off110 v720) a + S1x1x256.size a ≤ S4001x1x256.size a)
theorem k0_off110_inb : ∀ (v720 : BitVec 32) (k0_hw110 : k0_chk110 v720), ∀ a, (k0_off110 v720) a + S1x1x256.size a ≤ S4001x1x256.size a := fun v720 k0_hw110 => k0_hw110

def k0_off111 (v724 : BitVec 32) : Fin 3 → Nat :=
  let v725 : Index := Scalar.indexCast v724
  let c0_486 : Index := 0#32
  let c0_487 : Index := 0#32
  ![v725.toNat, 0, 0]

def k0_chk111 (v724 : BitVec 32) : Prop :=
  (∀ a, (k0_off111 v724) a + S1x1x256.size a ≤ S4001x1x256.size a)
theorem k0_off111_inb : ∀ (v724 : BitVec 32) (k0_hw111 : k0_chk111 v724), ∀ a, (k0_off111 v724) a + S1x1x256.size a ≤ S4001x1x256.size a := fun v724 k0_hw111 => k0_hw111

def k0_off112 (v728 : BitVec 32) : Fin 3 → Nat :=
  let v729 : Index := Scalar.indexCast v728
  let c0_490 : Index := 0#32
  let c0_491 : Index := 0#32
  ![v729.toNat, 0, 0]

def k0_chk112 (v728 : BitVec 32) : Prop :=
  (∀ a, (k0_off112 v728) a + S1x1x256.size a ≤ S4001x1x256.size a)
theorem k0_off112_inb : ∀ (v728 : BitVec 32) (k0_hw112 : k0_chk112 v728), ∀ a, (k0_off112 v728) a + S1x1x256.size a ≤ S4001x1x256.size a := fun v728 k0_hw112 => k0_hw112

def k0_off113 (v732 : BitVec 32) : Fin 3 → Nat :=
  let v733 : Index := Scalar.indexCast v732
  let c0_494 : Index := 0#32
  let c0_495 : Index := 0#32
  ![v733.toNat, 0, 0]

def k0_chk113 (v732 : BitVec 32) : Prop :=
  (∀ a, (k0_off113 v732) a + S1x1x256.size a ≤ S4001x1x256.size a)
theorem k0_off113_inb : ∀ (v732 : BitVec 32) (k0_hw113 : k0_chk113 v732), ∀ a, (k0_off113 v732) a + S1x1x256.size a ≤ S4001x1x256.size a := fun v732 k0_hw113 => k0_hw113

def k0_off114 (v736 : BitVec 32) : Fin 3 → Nat :=
  let v737 : Index := Scalar.indexCast v736
  let c0_498 : Index := 0#32
  let c0_499 : Index := 0#32
  ![v737.toNat, 0, 0]

def k0_chk114 (v736 : BitVec 32) : Prop :=
  (∀ a, (k0_off114 v736) a + S1x1x256.size a ≤ S4001x1x256.size a)
theorem k0_off114_inb : ∀ (v736 : BitVec 32) (k0_hw114 : k0_chk114 v736), ∀ a, (k0_off114 v736) a + S1x1x256.size a ≤ S4001x1x256.size a := fun v736 k0_hw114 => k0_hw114

def k0_off115 (v740 : BitVec 32) : Fin 3 → Nat :=
  let v741 : Index := Scalar.indexCast v740
  let c0_502 : Index := 0#32
  let c0_503 : Index := 0#32
  ![v741.toNat, 0, 0]

def k0_chk115 (v740 : BitVec 32) : Prop :=
  (∀ a, (k0_off115 v740) a + S1x1x256.size a ≤ S4001x1x256.size a)
theorem k0_off115_inb : ∀ (v740 : BitVec 32) (k0_hw115 : k0_chk115 v740), ∀ a, (k0_off115 v740) a + S1x1x256.size a ≤ S4001x1x256.size a := fun v740 k0_hw115 => k0_hw115

def k0_off116 (v744 : BitVec 32) : Fin 3 → Nat :=
  let v745 : Index := Scalar.indexCast v744
  let c0_506 : Index := 0#32
  let c0_507 : Index := 0#32
  ![v745.toNat, 0, 0]

def k0_chk116 (v744 : BitVec 32) : Prop :=
  (∀ a, (k0_off116 v744) a + S1x1x256.size a ≤ S4001x1x256.size a)
theorem k0_off116_inb : ∀ (v744 : BitVec 32) (k0_hw116 : k0_chk116 v744), ∀ a, (k0_off116 v744) a + S1x1x256.size a ≤ S4001x1x256.size a := fun v744 k0_hw116 => k0_hw116

def k0_off117 (v748 : BitVec 32) : Fin 3 → Nat :=
  let v749 : Index := Scalar.indexCast v748
  let c0_510 : Index := 0#32
  let c0_511 : Index := 0#32
  ![v749.toNat, 0, 0]

def k0_chk117 (v748 : BitVec 32) : Prop :=
  (∀ a, (k0_off117 v748) a + S1x1x256.size a ≤ S4001x1x256.size a)
theorem k0_off117_inb : ∀ (v748 : BitVec 32) (k0_hw117 : k0_chk117 v748), ∀ a, (k0_off117 v748) a + S1x1x256.size a ≤ S4001x1x256.size a := fun v748 k0_hw117 => k0_hw117

def k0_off118 (v752 : BitVec 32) : Fin 3 → Nat :=
  let v753 : Index := Scalar.indexCast v752
  let c0_514 : Index := 0#32
  let c0_515 : Index := 0#32
  ![v753.toNat, 0, 0]

def k0_chk118 (v752 : BitVec 32) : Prop :=
  (∀ a, (k0_off118 v752) a + S1x1x256.size a ≤ S4001x1x256.size a)
theorem k0_off118_inb : ∀ (v752 : BitVec 32) (k0_hw118 : k0_chk118 v752), ∀ a, (k0_off118 v752) a + S1x1x256.size a ≤ S4001x1x256.size a := fun v752 k0_hw118 => k0_hw118

def k0_off119 (v756 : BitVec 32) : Fin 3 → Nat :=
  let v757 : Index := Scalar.indexCast v756
  let c0_518 : Index := 0#32
  let c0_519 : Index := 0#32
  ![v757.toNat, 0, 0]

def k0_chk119 (v756 : BitVec 32) : Prop :=
  (∀ a, (k0_off119 v756) a + S1x1x256.size a ≤ S4001x1x256.size a)
theorem k0_off119_inb : ∀ (v756 : BitVec 32) (k0_hw119 : k0_chk119 v756), ∀ a, (k0_off119 v756) a + S1x1x256.size a ≤ S4001x1x256.size a := fun v756 k0_hw119 => k0_hw119

def k0_off120 (v760 : BitVec 32) : Fin 3 → Nat :=
  let v761 : Index := Scalar.indexCast v760
  let c0_522 : Index := 0#32
  let c0_523 : Index := 0#32
  ![v761.toNat, 0, 0]

def k0_chk120 (v760 : BitVec 32) : Prop :=
  (∀ a, (k0_off120 v760) a + S1x1x256.size a ≤ S4001x1x256.size a)
theorem k0_off120_inb : ∀ (v760 : BitVec 32) (k0_hw120 : k0_chk120 v760), ∀ a, (k0_off120 v760) a + S1x1x256.size a ≤ S4001x1x256.size a := fun v760 k0_hw120 => k0_hw120

def k0_off121 (v803 : BitVec 32) : Fin 3 → Nat :=
  let v804 : Index := Scalar.indexCast v803
  let c0_526 : Index := 0#32
  let c0_527 : Index := 0#32
  ![v804.toNat, 0, 0]

def k0_chk121 (v803 : BitVec 32) : Prop :=
  (∀ a, (k0_off121 v803) a + S1x1x256.size a ≤ S4001x1x256.size a)
theorem k0_off121_inb : ∀ (v803 : BitVec 32) (k0_hw121 : k0_chk121 v803), ∀ a, (k0_off121 v803) a + S1x1x256.size a ≤ S4001x1x256.size a := fun v803 k0_hw121 => k0_hw121

def k0_off122 (v807 : BitVec 32) : Fin 3 → Nat :=
  let v808 : Index := Scalar.indexCast v807
  let c0_530 : Index := 0#32
  let c0_531 : Index := 0#32
  ![v808.toNat, 0, 0]

def k0_chk122 (v807 : BitVec 32) : Prop :=
  (∀ a, (k0_off122 v807) a + S1x1x256.size a ≤ S4001x1x256.size a)
theorem k0_off122_inb : ∀ (v807 : BitVec 32) (k0_hw122 : k0_chk122 v807), ∀ a, (k0_off122 v807) a + S1x1x256.size a ≤ S4001x1x256.size a := fun v807 k0_hw122 => k0_hw122

def k0_off123 (v811 : BitVec 32) : Fin 3 → Nat :=
  let v812 : Index := Scalar.indexCast v811
  let c0_534 : Index := 0#32
  let c0_535 : Index := 0#32
  ![v812.toNat, 0, 0]

def k0_chk123 (v811 : BitVec 32) : Prop :=
  (∀ a, (k0_off123 v811) a + S1x1x256.size a ≤ S4001x1x256.size a)
theorem k0_off123_inb : ∀ (v811 : BitVec 32) (k0_hw123 : k0_chk123 v811), ∀ a, (k0_off123 v811) a + S1x1x256.size a ≤ S4001x1x256.size a := fun v811 k0_hw123 => k0_hw123

def k0_off124 (v815 : BitVec 32) : Fin 3 → Nat :=
  let v816 : Index := Scalar.indexCast v815
  let c0_538 : Index := 0#32
  let c0_539 : Index := 0#32
  ![v816.toNat, 0, 0]

def k0_chk124 (v815 : BitVec 32) : Prop :=
  (∀ a, (k0_off124 v815) a + S1x1x256.size a ≤ S4001x1x256.size a)
theorem k0_off124_inb : ∀ (v815 : BitVec 32) (k0_hw124 : k0_chk124 v815), ∀ a, (k0_off124 v815) a + S1x1x256.size a ≤ S4001x1x256.size a := fun v815 k0_hw124 => k0_hw124

def k0_off125 (v819 : BitVec 32) : Fin 3 → Nat :=
  let v820 : Index := Scalar.indexCast v819
  let c0_542 : Index := 0#32
  let c0_543 : Index := 0#32
  ![v820.toNat, 0, 0]

def k0_chk125 (v819 : BitVec 32) : Prop :=
  (∀ a, (k0_off125 v819) a + S1x1x256.size a ≤ S4001x1x256.size a)
theorem k0_off125_inb : ∀ (v819 : BitVec 32) (k0_hw125 : k0_chk125 v819), ∀ a, (k0_off125 v819) a + S1x1x256.size a ≤ S4001x1x256.size a := fun v819 k0_hw125 => k0_hw125

def k0_off126 (v823 : BitVec 32) : Fin 3 → Nat :=
  let v824 : Index := Scalar.indexCast v823
  let c0_546 : Index := 0#32
  let c0_547 : Index := 0#32
  ![v824.toNat, 0, 0]

def k0_chk126 (v823 : BitVec 32) : Prop :=
  (∀ a, (k0_off126 v823) a + S1x1x256.size a ≤ S4001x1x256.size a)
theorem k0_off126_inb : ∀ (v823 : BitVec 32) (k0_hw126 : k0_chk126 v823), ∀ a, (k0_off126 v823) a + S1x1x256.size a ≤ S4001x1x256.size a := fun v823 k0_hw126 => k0_hw126

def k0_off127 (v827 : BitVec 32) : Fin 3 → Nat :=
  let v828 : Index := Scalar.indexCast v827
  let c0_550 : Index := 0#32
  let c0_551 : Index := 0#32
  ![v828.toNat, 0, 0]

def k0_chk127 (v827 : BitVec 32) : Prop :=
  (∀ a, (k0_off127 v827) a + S1x1x256.size a ≤ S4001x1x256.size a)
theorem k0_off127_inb : ∀ (v827 : BitVec 32) (k0_hw127 : k0_chk127 v827), ∀ a, (k0_off127 v827) a + S1x1x256.size a ≤ S4001x1x256.size a := fun v827 k0_hw127 => k0_hw127

def k0_off128 (v831 : BitVec 32) : Fin 3 → Nat :=
  let v832 : Index := Scalar.indexCast v831
  let c0_554 : Index := 0#32
  let c0_555 : Index := 0#32
  ![v832.toNat, 0, 0]

def k0_chk128 (v831 : BitVec 32) : Prop :=
  (∀ a, (k0_off128 v831) a + S1x1x256.size a ≤ S4001x1x256.size a)
theorem k0_off128_inb : ∀ (v831 : BitVec 32) (k0_hw128 : k0_chk128 v831), ∀ a, (k0_off128 v831) a + S1x1x256.size a ≤ S4001x1x256.size a := fun v831 k0_hw128 => k0_hw128

def k0_off129 (v835 : BitVec 32) : Fin 3 → Nat :=
  let v836 : Index := Scalar.indexCast v835
  let c0_558 : Index := 0#32
  let c0_559 : Index := 0#32
  ![v836.toNat, 0, 0]

def k0_chk129 (v835 : BitVec 32) : Prop :=
  (∀ a, (k0_off129 v835) a + S1x1x256.size a ≤ S4001x1x256.size a)
theorem k0_off129_inb : ∀ (v835 : BitVec 32) (k0_hw129 : k0_chk129 v835), ∀ a, (k0_off129 v835) a + S1x1x256.size a ≤ S4001x1x256.size a := fun v835 k0_hw129 => k0_hw129

def k0_off130 (v839 : BitVec 32) : Fin 3 → Nat :=
  let v840 : Index := Scalar.indexCast v839
  let c0_562 : Index := 0#32
  let c0_563 : Index := 0#32
  ![v840.toNat, 0, 0]

def k0_chk130 (v839 : BitVec 32) : Prop :=
  (∀ a, (k0_off130 v839) a + S1x1x256.size a ≤ S4001x1x256.size a)
theorem k0_off130_inb : ∀ (v839 : BitVec 32) (k0_hw130 : k0_chk130 v839), ∀ a, (k0_off130 v839) a + S1x1x256.size a ≤ S4001x1x256.size a := fun v839 k0_hw130 => k0_hw130

def k0_off131 (v843 : BitVec 32) : Fin 3 → Nat :=
  let v844 : Index := Scalar.indexCast v843
  let c0_566 : Index := 0#32
  let c0_567 : Index := 0#32
  ![v844.toNat, 0, 0]

def k0_chk131 (v843 : BitVec 32) : Prop :=
  (∀ a, (k0_off131 v843) a + S1x1x256.size a ≤ S4001x1x256.size a)
theorem k0_off131_inb : ∀ (v843 : BitVec 32) (k0_hw131 : k0_chk131 v843), ∀ a, (k0_off131 v843) a + S1x1x256.size a ≤ S4001x1x256.size a := fun v843 k0_hw131 => k0_hw131

def k0_off132 (v847 : BitVec 32) : Fin 3 → Nat :=
  let v848 : Index := Scalar.indexCast v847
  let c0_570 : Index := 0#32
  let c0_571 : Index := 0#32
  ![v848.toNat, 0, 0]

def k0_chk132 (v847 : BitVec 32) : Prop :=
  (∀ a, (k0_off132 v847) a + S1x1x256.size a ≤ S4001x1x256.size a)
theorem k0_off132_inb : ∀ (v847 : BitVec 32) (k0_hw132 : k0_chk132 v847), ∀ a, (k0_off132 v847) a + S1x1x256.size a ≤ S4001x1x256.size a := fun v847 k0_hw132 => k0_hw132

def k0_off133 (v851 : BitVec 32) : Fin 3 → Nat :=
  let v852 : Index := Scalar.indexCast v851
  let c0_574 : Index := 0#32
  let c0_575 : Index := 0#32
  ![v852.toNat, 0, 0]

def k0_chk133 (v851 : BitVec 32) : Prop :=
  (∀ a, (k0_off133 v851) a + S1x1x256.size a ≤ S4001x1x256.size a)
theorem k0_off133_inb : ∀ (v851 : BitVec 32) (k0_hw133 : k0_chk133 v851), ∀ a, (k0_off133 v851) a + S1x1x256.size a ≤ S4001x1x256.size a := fun v851 k0_hw133 => k0_hw133

def k0_off134 (v855 : BitVec 32) : Fin 3 → Nat :=
  let v856 : Index := Scalar.indexCast v855
  let c0_578 : Index := 0#32
  let c0_579 : Index := 0#32
  ![v856.toNat, 0, 0]

def k0_chk134 (v855 : BitVec 32) : Prop :=
  (∀ a, (k0_off134 v855) a + S1x1x256.size a ≤ S4001x1x256.size a)
theorem k0_off134_inb : ∀ (v855 : BitVec 32) (k0_hw134 : k0_chk134 v855), ∀ a, (k0_off134 v855) a + S1x1x256.size a ≤ S4001x1x256.size a := fun v855 k0_hw134 => k0_hw134

def k0_off135 (v859 : BitVec 32) : Fin 3 → Nat :=
  let v860 : Index := Scalar.indexCast v859
  let c0_582 : Index := 0#32
  let c0_583 : Index := 0#32
  ![v860.toNat, 0, 0]

def k0_chk135 (v859 : BitVec 32) : Prop :=
  (∀ a, (k0_off135 v859) a + S1x1x256.size a ≤ S4001x1x256.size a)
theorem k0_off135_inb : ∀ (v859 : BitVec 32) (k0_hw135 : k0_chk135 v859), ∀ a, (k0_off135 v859) a + S1x1x256.size a ≤ S4001x1x256.size a := fun v859 k0_hw135 => k0_hw135

def k0_off136 (v863 : BitVec 32) : Fin 3 → Nat :=
  let v864 : Index := Scalar.indexCast v863
  let c0_586 : Index := 0#32
  let c0_587 : Index := 0#32
  ![v864.toNat, 0, 0]

def k0_chk136 (v863 : BitVec 32) : Prop :=
  (∀ a, (k0_off136 v863) a + S1x1x256.size a ≤ S4001x1x256.size a)
theorem k0_off136_inb : ∀ (v863 : BitVec 32) (k0_hw136 : k0_chk136 v863), ∀ a, (k0_off136 v863) a + S1x1x256.size a ≤ S4001x1x256.size a := fun v863 k0_hw136 => k0_hw136

def k0_off137 (v867 : BitVec 32) : Fin 3 → Nat :=
  let v868 : Index := Scalar.indexCast v867
  let c0_590 : Index := 0#32
  let c0_591 : Index := 0#32
  ![v868.toNat, 0, 0]

def k0_chk137 (v867 : BitVec 32) : Prop :=
  (∀ a, (k0_off137 v867) a + S1x1x256.size a ≤ S4001x1x256.size a)
theorem k0_off137_inb : ∀ (v867 : BitVec 32) (k0_hw137 : k0_chk137 v867), ∀ a, (k0_off137 v867) a + S1x1x256.size a ≤ S4001x1x256.size a := fun v867 k0_hw137 => k0_hw137

def k0_off138 (v871 : BitVec 32) : Fin 3 → Nat :=
  let v872 : Index := Scalar.indexCast v871
  let c0_594 : Index := 0#32
  let c0_595 : Index := 0#32
  ![v872.toNat, 0, 0]

def k0_chk138 (v871 : BitVec 32) : Prop :=
  (∀ a, (k0_off138 v871) a + S1x1x256.size a ≤ S4001x1x256.size a)
theorem k0_off138_inb : ∀ (v871 : BitVec 32) (k0_hw138 : k0_chk138 v871), ∀ a, (k0_off138 v871) a + S1x1x256.size a ≤ S4001x1x256.size a := fun v871 k0_hw138 => k0_hw138

def k0_off139 (v875 : BitVec 32) : Fin 3 → Nat :=
  let v876 : Index := Scalar.indexCast v875
  let c0_598 : Index := 0#32
  let c0_599 : Index := 0#32
  ![v876.toNat, 0, 0]

def k0_chk139 (v875 : BitVec 32) : Prop :=
  (∀ a, (k0_off139 v875) a + S1x1x256.size a ≤ S4001x1x256.size a)
theorem k0_off139_inb : ∀ (v875 : BitVec 32) (k0_hw139 : k0_chk139 v875), ∀ a, (k0_off139 v875) a + S1x1x256.size a ≤ S4001x1x256.size a := fun v875 k0_hw139 => k0_hw139

def k0_off140 (v879 : BitVec 32) : Fin 3 → Nat :=
  let v880 : Index := Scalar.indexCast v879
  let c0_602 : Index := 0#32
  let c0_603 : Index := 0#32
  ![v880.toNat, 0, 0]

def k0_chk140 (v879 : BitVec 32) : Prop :=
  (∀ a, (k0_off140 v879) a + S1x1x256.size a ≤ S4001x1x256.size a)
theorem k0_off140_inb : ∀ (v879 : BitVec 32) (k0_hw140 : k0_chk140 v879), ∀ a, (k0_off140 v879) a + S1x1x256.size a ≤ S4001x1x256.size a := fun v879 k0_hw140 => k0_hw140

def k0_off141 (v883 : BitVec 32) : Fin 3 → Nat :=
  let v884 : Index := Scalar.indexCast v883
  let c0_606 : Index := 0#32
  let c0_607 : Index := 0#32
  ![v884.toNat, 0, 0]

def k0_chk141 (v883 : BitVec 32) : Prop :=
  (∀ a, (k0_off141 v883) a + S1x1x256.size a ≤ S4001x1x256.size a)
theorem k0_off141_inb : ∀ (v883 : BitVec 32) (k0_hw141 : k0_chk141 v883), ∀ a, (k0_off141 v883) a + S1x1x256.size a ≤ S4001x1x256.size a := fun v883 k0_hw141 => k0_hw141

def k0_off142 (v887 : BitVec 32) : Fin 3 → Nat :=
  let v888 : Index := Scalar.indexCast v887
  let c0_610 : Index := 0#32
  let c0_611 : Index := 0#32
  ![v888.toNat, 0, 0]

def k0_chk142 (v887 : BitVec 32) : Prop :=
  (∀ a, (k0_off142 v887) a + S1x1x256.size a ≤ S4001x1x256.size a)
theorem k0_off142_inb : ∀ (v887 : BitVec 32) (k0_hw142 : k0_chk142 v887), ∀ a, (k0_off142 v887) a + S1x1x256.size a ≤ S4001x1x256.size a := fun v887 k0_hw142 => k0_hw142

def k0_off143 (v891 : BitVec 32) : Fin 3 → Nat :=
  let v892 : Index := Scalar.indexCast v891
  let c0_614 : Index := 0#32
  let c0_615 : Index := 0#32
  ![v892.toNat, 0, 0]

def k0_chk143 (v891 : BitVec 32) : Prop :=
  (∀ a, (k0_off143 v891) a + S1x1x256.size a ≤ S4001x1x256.size a)
theorem k0_off143_inb : ∀ (v891 : BitVec 32) (k0_hw143 : k0_chk143 v891), ∀ a, (k0_off143 v891) a + S1x1x256.size a ≤ S4001x1x256.size a := fun v891 k0_hw143 => k0_hw143

def k0_off144 (v895 : BitVec 32) : Fin 3 → Nat :=
  let v896 : Index := Scalar.indexCast v895
  let c0_618 : Index := 0#32
  let c0_619 : Index := 0#32
  ![v896.toNat, 0, 0]

def k0_chk144 (v895 : BitVec 32) : Prop :=
  (∀ a, (k0_off144 v895) a + S1x1x256.size a ≤ S4001x1x256.size a)
theorem k0_off144_inb : ∀ (v895 : BitVec 32) (k0_hw144 : k0_chk144 v895), ∀ a, (k0_off144 v895) a + S1x1x256.size a ≤ S4001x1x256.size a := fun v895 k0_hw144 => k0_hw144

def k0_off145 (v899 : BitVec 32) : Fin 3 → Nat :=
  let v900 : Index := Scalar.indexCast v899
  let c0_622 : Index := 0#32
  let c0_623 : Index := 0#32
  ![v900.toNat, 0, 0]

def k0_chk145 (v899 : BitVec 32) : Prop :=
  (∀ a, (k0_off145 v899) a + S1x1x256.size a ≤ S4001x1x256.size a)
theorem k0_off145_inb : ∀ (v899 : BitVec 32) (k0_hw145 : k0_chk145 v899), ∀ a, (k0_off145 v899) a + S1x1x256.size a ≤ S4001x1x256.size a := fun v899 k0_hw145 => k0_hw145

def k0_off146 (v903 : BitVec 32) : Fin 3 → Nat :=
  let v904 : Index := Scalar.indexCast v903
  let c0_626 : Index := 0#32
  let c0_627 : Index := 0#32
  ![v904.toNat, 0, 0]

def k0_chk146 (v903 : BitVec 32) : Prop :=
  (∀ a, (k0_off146 v903) a + S1x1x256.size a ≤ S4001x1x256.size a)
theorem k0_off146_inb : ∀ (v903 : BitVec 32) (k0_hw146 : k0_chk146 v903), ∀ a, (k0_off146 v903) a + S1x1x256.size a ≤ S4001x1x256.size a := fun v903 k0_hw146 => k0_hw146

def k0_off147 (v907 : BitVec 32) : Fin 3 → Nat :=
  let v908 : Index := Scalar.indexCast v907
  let c0_630 : Index := 0#32
  let c0_631 : Index := 0#32
  ![v908.toNat, 0, 0]

def k0_chk147 (v907 : BitVec 32) : Prop :=
  (∀ a, (k0_off147 v907) a + S1x1x256.size a ≤ S4001x1x256.size a)
theorem k0_off147_inb : ∀ (v907 : BitVec 32) (k0_hw147 : k0_chk147 v907), ∀ a, (k0_off147 v907) a + S1x1x256.size a ≤ S4001x1x256.size a := fun v907 k0_hw147 => k0_hw147

def k0_off148 (v911 : BitVec 32) : Fin 3 → Nat :=
  let v912 : Index := Scalar.indexCast v911
  let c0_634 : Index := 0#32
  let c0_635 : Index := 0#32
  ![v912.toNat, 0, 0]

def k0_chk148 (v911 : BitVec 32) : Prop :=
  (∀ a, (k0_off148 v911) a + S1x1x256.size a ≤ S4001x1x256.size a)
theorem k0_off148_inb : ∀ (v911 : BitVec 32) (k0_hw148 : k0_chk148 v911), ∀ a, (k0_off148 v911) a + S1x1x256.size a ≤ S4001x1x256.size a := fun v911 k0_hw148 => k0_hw148

def k0_off149 (v915 : BitVec 32) : Fin 3 → Nat :=
  let v916 : Index := Scalar.indexCast v915
  let c0_638 : Index := 0#32
  let c0_639 : Index := 0#32
  ![v916.toNat, 0, 0]

def k0_chk149 (v915 : BitVec 32) : Prop :=
  (∀ a, (k0_off149 v915) a + S1x1x256.size a ≤ S4001x1x256.size a)
theorem k0_off149_inb : ∀ (v915 : BitVec 32) (k0_hw149 : k0_chk149 v915), ∀ a, (k0_off149 v915) a + S1x1x256.size a ≤ S4001x1x256.size a := fun v915 k0_hw149 => k0_hw149

def k0_off150 (v919 : BitVec 32) : Fin 3 → Nat :=
  let v920 : Index := Scalar.indexCast v919
  let c0_642 : Index := 0#32
  let c0_643 : Index := 0#32
  ![v920.toNat, 0, 0]

def k0_chk150 (v919 : BitVec 32) : Prop :=
  (∀ a, (k0_off150 v919) a + S1x1x256.size a ≤ S4001x1x256.size a)
theorem k0_off150_inb : ∀ (v919 : BitVec 32) (k0_hw150 : k0_chk150 v919), ∀ a, (k0_off150 v919) a + S1x1x256.size a ≤ S4001x1x256.size a := fun v919 k0_hw150 => k0_hw150

def k0_off151 (v923 : BitVec 32) : Fin 3 → Nat :=
  let v924 : Index := Scalar.indexCast v923
  let c0_646 : Index := 0#32
  let c0_647 : Index := 0#32
  ![v924.toNat, 0, 0]

def k0_chk151 (v923 : BitVec 32) : Prop :=
  (∀ a, (k0_off151 v923) a + S1x1x256.size a ≤ S4001x1x256.size a)
theorem k0_off151_inb : ∀ (v923 : BitVec 32) (k0_hw151 : k0_chk151 v923), ∀ a, (k0_off151 v923) a + S1x1x256.size a ≤ S4001x1x256.size a := fun v923 k0_hw151 => k0_hw151

def k0_off152 (v927 : BitVec 32) : Fin 3 → Nat :=
  let v928 : Index := Scalar.indexCast v927
  let c0_650 : Index := 0#32
  let c0_651 : Index := 0#32
  ![v928.toNat, 0, 0]

def k0_chk152 (v927 : BitVec 32) : Prop :=
  (∀ a, (k0_off152 v927) a + S1x1x256.size a ≤ S4001x1x256.size a)
theorem k0_off152_inb : ∀ (v927 : BitVec 32) (k0_hw152 : k0_chk152 v927), ∀ a, (k0_off152 v927) a + S1x1x256.size a ≤ S4001x1x256.size a := fun v927 k0_hw152 => k0_hw152

def k0_off153 (v931 : BitVec 32) : Fin 3 → Nat :=
  let v932 : Index := Scalar.indexCast v931
  let c0_654 : Index := 0#32
  let c0_655 : Index := 0#32
  ![v932.toNat, 0, 0]

def k0_chk153 (v931 : BitVec 32) : Prop :=
  (∀ a, (k0_off153 v931) a + S1x1x256.size a ≤ S4001x1x256.size a)
theorem k0_off153_inb : ∀ (v931 : BitVec 32) (k0_hw153 : k0_chk153 v931), ∀ a, (k0_off153 v931) a + S1x1x256.size a ≤ S4001x1x256.size a := fun v931 k0_hw153 => k0_hw153

def k0_off154 (v935 : BitVec 32) : Fin 3 → Nat :=
  let v936 : Index := Scalar.indexCast v935
  let c0_658 : Index := 0#32
  let c0_659 : Index := 0#32
  ![v936.toNat, 0, 0]

def k0_chk154 (v935 : BitVec 32) : Prop :=
  (∀ a, (k0_off154 v935) a + S1x1x256.size a ≤ S4001x1x256.size a)
theorem k0_off154_inb : ∀ (v935 : BitVec 32) (k0_hw154 : k0_chk154 v935), ∀ a, (k0_off154 v935) a + S1x1x256.size a ≤ S4001x1x256.size a := fun v935 k0_hw154 => k0_hw154

def k0_off155 (v939 : BitVec 32) : Fin 3 → Nat :=
  let v940 : Index := Scalar.indexCast v939
  let c0_662 : Index := 0#32
  let c0_663 : Index := 0#32
  ![v940.toNat, 0, 0]

def k0_chk155 (v939 : BitVec 32) : Prop :=
  (∀ a, (k0_off155 v939) a + S1x1x256.size a ≤ S4001x1x256.size a)
theorem k0_off155_inb : ∀ (v939 : BitVec 32) (k0_hw155 : k0_chk155 v939), ∀ a, (k0_off155 v939) a + S1x1x256.size a ≤ S4001x1x256.size a := fun v939 k0_hw155 => k0_hw155

def k0_off156 (v943 : BitVec 32) : Fin 3 → Nat :=
  let v944 : Index := Scalar.indexCast v943
  let c0_666 : Index := 0#32
  let c0_667 : Index := 0#32
  ![v944.toNat, 0, 0]

def k0_chk156 (v943 : BitVec 32) : Prop :=
  (∀ a, (k0_off156 v943) a + S1x1x256.size a ≤ S4001x1x256.size a)
theorem k0_off156_inb : ∀ (v943 : BitVec 32) (k0_hw156 : k0_chk156 v943), ∀ a, (k0_off156 v943) a + S1x1x256.size a ≤ S4001x1x256.size a := fun v943 k0_hw156 => k0_hw156

def k0_off157 (v947 : BitVec 32) : Fin 3 → Nat :=
  let v948 : Index := Scalar.indexCast v947
  let c0_670 : Index := 0#32
  let c0_671 : Index := 0#32
  ![v948.toNat, 0, 0]

def k0_chk157 (v947 : BitVec 32) : Prop :=
  (∀ a, (k0_off157 v947) a + S1x1x256.size a ≤ S4001x1x256.size a)
theorem k0_off157_inb : ∀ (v947 : BitVec 32) (k0_hw157 : k0_chk157 v947), ∀ a, (k0_off157 v947) a + S1x1x256.size a ≤ S4001x1x256.size a := fun v947 k0_hw157 => k0_hw157

def k0_off158 (v951 : BitVec 32) : Fin 3 → Nat :=
  let v952 : Index := Scalar.indexCast v951
  let c0_674 : Index := 0#32
  let c0_675 : Index := 0#32
  ![v952.toNat, 0, 0]

def k0_chk158 (v951 : BitVec 32) : Prop :=
  (∀ a, (k0_off158 v951) a + S1x1x256.size a ≤ S4001x1x256.size a)
theorem k0_off158_inb : ∀ (v951 : BitVec 32) (k0_hw158 : k0_chk158 v951), ∀ a, (k0_off158 v951) a + S1x1x256.size a ≤ S4001x1x256.size a := fun v951 k0_hw158 => k0_hw158

def k0_off159 (v955 : BitVec 32) : Fin 3 → Nat :=
  let v956 : Index := Scalar.indexCast v955
  let c0_678 : Index := 0#32
  let c0_679 : Index := 0#32
  ![v956.toNat, 0, 0]

def k0_chk159 (v955 : BitVec 32) : Prop :=
  (∀ a, (k0_off159 v955) a + S1x1x256.size a ≤ S4001x1x256.size a)
theorem k0_off159_inb : ∀ (v955 : BitVec 32) (k0_hw159 : k0_chk159 v955), ∀ a, (k0_off159 v955) a + S1x1x256.size a ≤ S4001x1x256.size a := fun v955 k0_hw159 => k0_hw159

def k0_off160 (v959 : BitVec 32) : Fin 3 → Nat :=
  let v960 : Index := Scalar.indexCast v959
  let c0_682 : Index := 0#32
  let c0_683 : Index := 0#32
  ![v960.toNat, 0, 0]

def k0_chk160 (v959 : BitVec 32) : Prop :=
  (∀ a, (k0_off160 v959) a + S1x1x256.size a ≤ S4001x1x256.size a)
theorem k0_off160_inb : ∀ (v959 : BitVec 32) (k0_hw160 : k0_chk160 v959), ∀ a, (k0_off160 v959) a + S1x1x256.size a ≤ S4001x1x256.size a := fun v959 k0_hw160 => k0_hw160

def k0_off161 (v1002 : BitVec 32) : Fin 3 → Nat :=
  let v1003 : Index := Scalar.indexCast v1002
  let c0_686 : Index := 0#32
  let c0_687 : Index := 0#32
  ![v1003.toNat, 0, 0]

def k0_chk161 (v1002 : BitVec 32) : Prop :=
  (∀ a, (k0_off161 v1002) a + S1x1x256.size a ≤ S4001x1x256.size a)
theorem k0_off161_inb : ∀ (v1002 : BitVec 32) (k0_hw161 : k0_chk161 v1002), ∀ a, (k0_off161 v1002) a + S1x1x256.size a ≤ S4001x1x256.size a := fun v1002 k0_hw161 => k0_hw161

def k0_off162 (v1006 : BitVec 32) : Fin 3 → Nat :=
  let v1007 : Index := Scalar.indexCast v1006
  let c0_690 : Index := 0#32
  let c0_691 : Index := 0#32
  ![v1007.toNat, 0, 0]

def k0_chk162 (v1006 : BitVec 32) : Prop :=
  (∀ a, (k0_off162 v1006) a + S1x1x256.size a ≤ S4001x1x256.size a)
theorem k0_off162_inb : ∀ (v1006 : BitVec 32) (k0_hw162 : k0_chk162 v1006), ∀ a, (k0_off162 v1006) a + S1x1x256.size a ≤ S4001x1x256.size a := fun v1006 k0_hw162 => k0_hw162

def k0_off163 (v1010 : BitVec 32) : Fin 3 → Nat :=
  let v1011 : Index := Scalar.indexCast v1010
  let c0_694 : Index := 0#32
  let c0_695 : Index := 0#32
  ![v1011.toNat, 0, 0]

def k0_chk163 (v1010 : BitVec 32) : Prop :=
  (∀ a, (k0_off163 v1010) a + S1x1x256.size a ≤ S4001x1x256.size a)
theorem k0_off163_inb : ∀ (v1010 : BitVec 32) (k0_hw163 : k0_chk163 v1010), ∀ a, (k0_off163 v1010) a + S1x1x256.size a ≤ S4001x1x256.size a := fun v1010 k0_hw163 => k0_hw163

def k0_off164 (v1014 : BitVec 32) : Fin 3 → Nat :=
  let v1015 : Index := Scalar.indexCast v1014
  let c0_698 : Index := 0#32
  let c0_699 : Index := 0#32
  ![v1015.toNat, 0, 0]

def k0_chk164 (v1014 : BitVec 32) : Prop :=
  (∀ a, (k0_off164 v1014) a + S1x1x256.size a ≤ S4001x1x256.size a)
theorem k0_off164_inb : ∀ (v1014 : BitVec 32) (k0_hw164 : k0_chk164 v1014), ∀ a, (k0_off164 v1014) a + S1x1x256.size a ≤ S4001x1x256.size a := fun v1014 k0_hw164 => k0_hw164

def k0_off165 (v1018 : BitVec 32) : Fin 3 → Nat :=
  let v1019 : Index := Scalar.indexCast v1018
  let c0_702 : Index := 0#32
  let c0_703 : Index := 0#32
  ![v1019.toNat, 0, 0]

def k0_chk165 (v1018 : BitVec 32) : Prop :=
  (∀ a, (k0_off165 v1018) a + S1x1x256.size a ≤ S4001x1x256.size a)
theorem k0_off165_inb : ∀ (v1018 : BitVec 32) (k0_hw165 : k0_chk165 v1018), ∀ a, (k0_off165 v1018) a + S1x1x256.size a ≤ S4001x1x256.size a := fun v1018 k0_hw165 => k0_hw165

def k0_off166 (v1022 : BitVec 32) : Fin 3 → Nat :=
  let v1023 : Index := Scalar.indexCast v1022
  let c0_706 : Index := 0#32
  let c0_707 : Index := 0#32
  ![v1023.toNat, 0, 0]

def k0_chk166 (v1022 : BitVec 32) : Prop :=
  (∀ a, (k0_off166 v1022) a + S1x1x256.size a ≤ S4001x1x256.size a)
theorem k0_off166_inb : ∀ (v1022 : BitVec 32) (k0_hw166 : k0_chk166 v1022), ∀ a, (k0_off166 v1022) a + S1x1x256.size a ≤ S4001x1x256.size a := fun v1022 k0_hw166 => k0_hw166

def k0_off167 (v1026 : BitVec 32) : Fin 3 → Nat :=
  let v1027 : Index := Scalar.indexCast v1026
  let c0_710 : Index := 0#32
  let c0_711 : Index := 0#32
  ![v1027.toNat, 0, 0]

def k0_chk167 (v1026 : BitVec 32) : Prop :=
  (∀ a, (k0_off167 v1026) a + S1x1x256.size a ≤ S4001x1x256.size a)
theorem k0_off167_inb : ∀ (v1026 : BitVec 32) (k0_hw167 : k0_chk167 v1026), ∀ a, (k0_off167 v1026) a + S1x1x256.size a ≤ S4001x1x256.size a := fun v1026 k0_hw167 => k0_hw167

def k0_off168 (v1030 : BitVec 32) : Fin 3 → Nat :=
  let v1031 : Index := Scalar.indexCast v1030
  let c0_714 : Index := 0#32
  let c0_715 : Index := 0#32
  ![v1031.toNat, 0, 0]

def k0_chk168 (v1030 : BitVec 32) : Prop :=
  (∀ a, (k0_off168 v1030) a + S1x1x256.size a ≤ S4001x1x256.size a)
theorem k0_off168_inb : ∀ (v1030 : BitVec 32) (k0_hw168 : k0_chk168 v1030), ∀ a, (k0_off168 v1030) a + S1x1x256.size a ≤ S4001x1x256.size a := fun v1030 k0_hw168 => k0_hw168

def k0_off169 (v1034 : BitVec 32) : Fin 3 → Nat :=
  let v1035 : Index := Scalar.indexCast v1034
  let c0_718 : Index := 0#32
  let c0_719 : Index := 0#32
  ![v1035.toNat, 0, 0]

def k0_chk169 (v1034 : BitVec 32) : Prop :=
  (∀ a, (k0_off169 v1034) a + S1x1x256.size a ≤ S4001x1x256.size a)
theorem k0_off169_inb : ∀ (v1034 : BitVec 32) (k0_hw169 : k0_chk169 v1034), ∀ a, (k0_off169 v1034) a + S1x1x256.size a ≤ S4001x1x256.size a := fun v1034 k0_hw169 => k0_hw169

def k0_off170 (v1038 : BitVec 32) : Fin 3 → Nat :=
  let v1039 : Index := Scalar.indexCast v1038
  let c0_722 : Index := 0#32
  let c0_723 : Index := 0#32
  ![v1039.toNat, 0, 0]

def k0_chk170 (v1038 : BitVec 32) : Prop :=
  (∀ a, (k0_off170 v1038) a + S1x1x256.size a ≤ S4001x1x256.size a)
theorem k0_off170_inb : ∀ (v1038 : BitVec 32) (k0_hw170 : k0_chk170 v1038), ∀ a, (k0_off170 v1038) a + S1x1x256.size a ≤ S4001x1x256.size a := fun v1038 k0_hw170 => k0_hw170

def k0_off171 (v1042 : BitVec 32) : Fin 3 → Nat :=
  let v1043 : Index := Scalar.indexCast v1042
  let c0_726 : Index := 0#32
  let c0_727 : Index := 0#32
  ![v1043.toNat, 0, 0]

def k0_chk171 (v1042 : BitVec 32) : Prop :=
  (∀ a, (k0_off171 v1042) a + S1x1x256.size a ≤ S4001x1x256.size a)
theorem k0_off171_inb : ∀ (v1042 : BitVec 32) (k0_hw171 : k0_chk171 v1042), ∀ a, (k0_off171 v1042) a + S1x1x256.size a ≤ S4001x1x256.size a := fun v1042 k0_hw171 => k0_hw171

def k0_off172 (v1046 : BitVec 32) : Fin 3 → Nat :=
  let v1047 : Index := Scalar.indexCast v1046
  let c0_730 : Index := 0#32
  let c0_731 : Index := 0#32
  ![v1047.toNat, 0, 0]

def k0_chk172 (v1046 : BitVec 32) : Prop :=
  (∀ a, (k0_off172 v1046) a + S1x1x256.size a ≤ S4001x1x256.size a)
theorem k0_off172_inb : ∀ (v1046 : BitVec 32) (k0_hw172 : k0_chk172 v1046), ∀ a, (k0_off172 v1046) a + S1x1x256.size a ≤ S4001x1x256.size a := fun v1046 k0_hw172 => k0_hw172

def k0_off173 (v1050 : BitVec 32) : Fin 3 → Nat :=
  let v1051 : Index := Scalar.indexCast v1050
  let c0_734 : Index := 0#32
  let c0_735 : Index := 0#32
  ![v1051.toNat, 0, 0]

def k0_chk173 (v1050 : BitVec 32) : Prop :=
  (∀ a, (k0_off173 v1050) a + S1x1x256.size a ≤ S4001x1x256.size a)
theorem k0_off173_inb : ∀ (v1050 : BitVec 32) (k0_hw173 : k0_chk173 v1050), ∀ a, (k0_off173 v1050) a + S1x1x256.size a ≤ S4001x1x256.size a := fun v1050 k0_hw173 => k0_hw173

def k0_off174 (v1054 : BitVec 32) : Fin 3 → Nat :=
  let v1055 : Index := Scalar.indexCast v1054
  let c0_738 : Index := 0#32
  let c0_739 : Index := 0#32
  ![v1055.toNat, 0, 0]

def k0_chk174 (v1054 : BitVec 32) : Prop :=
  (∀ a, (k0_off174 v1054) a + S1x1x256.size a ≤ S4001x1x256.size a)
theorem k0_off174_inb : ∀ (v1054 : BitVec 32) (k0_hw174 : k0_chk174 v1054), ∀ a, (k0_off174 v1054) a + S1x1x256.size a ≤ S4001x1x256.size a := fun v1054 k0_hw174 => k0_hw174

def k0_off175 (v1058 : BitVec 32) : Fin 3 → Nat :=
  let v1059 : Index := Scalar.indexCast v1058
  let c0_742 : Index := 0#32
  let c0_743 : Index := 0#32
  ![v1059.toNat, 0, 0]

def k0_chk175 (v1058 : BitVec 32) : Prop :=
  (∀ a, (k0_off175 v1058) a + S1x1x256.size a ≤ S4001x1x256.size a)
theorem k0_off175_inb : ∀ (v1058 : BitVec 32) (k0_hw175 : k0_chk175 v1058), ∀ a, (k0_off175 v1058) a + S1x1x256.size a ≤ S4001x1x256.size a := fun v1058 k0_hw175 => k0_hw175

def k0_off176 (v1062 : BitVec 32) : Fin 3 → Nat :=
  let v1063 : Index := Scalar.indexCast v1062
  let c0_746 : Index := 0#32
  let c0_747 : Index := 0#32
  ![v1063.toNat, 0, 0]

def k0_chk176 (v1062 : BitVec 32) : Prop :=
  (∀ a, (k0_off176 v1062) a + S1x1x256.size a ≤ S4001x1x256.size a)
theorem k0_off176_inb : ∀ (v1062 : BitVec 32) (k0_hw176 : k0_chk176 v1062), ∀ a, (k0_off176 v1062) a + S1x1x256.size a ≤ S4001x1x256.size a := fun v1062 k0_hw176 => k0_hw176

def k0_off177 (v1066 : BitVec 32) : Fin 3 → Nat :=
  let v1067 : Index := Scalar.indexCast v1066
  let c0_750 : Index := 0#32
  let c0_751 : Index := 0#32
  ![v1067.toNat, 0, 0]

def k0_chk177 (v1066 : BitVec 32) : Prop :=
  (∀ a, (k0_off177 v1066) a + S1x1x256.size a ≤ S4001x1x256.size a)
theorem k0_off177_inb : ∀ (v1066 : BitVec 32) (k0_hw177 : k0_chk177 v1066), ∀ a, (k0_off177 v1066) a + S1x1x256.size a ≤ S4001x1x256.size a := fun v1066 k0_hw177 => k0_hw177

def k0_off178 (v1070 : BitVec 32) : Fin 3 → Nat :=
  let v1071 : Index := Scalar.indexCast v1070
  let c0_754 : Index := 0#32
  let c0_755 : Index := 0#32
  ![v1071.toNat, 0, 0]

def k0_chk178 (v1070 : BitVec 32) : Prop :=
  (∀ a, (k0_off178 v1070) a + S1x1x256.size a ≤ S4001x1x256.size a)
theorem k0_off178_inb : ∀ (v1070 : BitVec 32) (k0_hw178 : k0_chk178 v1070), ∀ a, (k0_off178 v1070) a + S1x1x256.size a ≤ S4001x1x256.size a := fun v1070 k0_hw178 => k0_hw178

def k0_off179 (v1074 : BitVec 32) : Fin 3 → Nat :=
  let v1075 : Index := Scalar.indexCast v1074
  let c0_758 : Index := 0#32
  let c0_759 : Index := 0#32
  ![v1075.toNat, 0, 0]

def k0_chk179 (v1074 : BitVec 32) : Prop :=
  (∀ a, (k0_off179 v1074) a + S1x1x256.size a ≤ S4001x1x256.size a)
theorem k0_off179_inb : ∀ (v1074 : BitVec 32) (k0_hw179 : k0_chk179 v1074), ∀ a, (k0_off179 v1074) a + S1x1x256.size a ≤ S4001x1x256.size a := fun v1074 k0_hw179 => k0_hw179

def k0_off180 (v1078 : BitVec 32) : Fin 3 → Nat :=
  let v1079 : Index := Scalar.indexCast v1078
  let c0_762 : Index := 0#32
  let c0_763 : Index := 0#32
  ![v1079.toNat, 0, 0]

def k0_chk180 (v1078 : BitVec 32) : Prop :=
  (∀ a, (k0_off180 v1078) a + S1x1x256.size a ≤ S4001x1x256.size a)
theorem k0_off180_inb : ∀ (v1078 : BitVec 32) (k0_hw180 : k0_chk180 v1078), ∀ a, (k0_off180 v1078) a + S1x1x256.size a ≤ S4001x1x256.size a := fun v1078 k0_hw180 => k0_hw180

def k0_off181 (v1082 : BitVec 32) : Fin 3 → Nat :=
  let v1083 : Index := Scalar.indexCast v1082
  let c0_766 : Index := 0#32
  let c0_767 : Index := 0#32
  ![v1083.toNat, 0, 0]

def k0_chk181 (v1082 : BitVec 32) : Prop :=
  (∀ a, (k0_off181 v1082) a + S1x1x256.size a ≤ S4001x1x256.size a)
theorem k0_off181_inb : ∀ (v1082 : BitVec 32) (k0_hw181 : k0_chk181 v1082), ∀ a, (k0_off181 v1082) a + S1x1x256.size a ≤ S4001x1x256.size a := fun v1082 k0_hw181 => k0_hw181

def k0_off182 (v1086 : BitVec 32) : Fin 3 → Nat :=
  let v1087 : Index := Scalar.indexCast v1086
  let c0_770 : Index := 0#32
  let c0_771 : Index := 0#32
  ![v1087.toNat, 0, 0]

def k0_chk182 (v1086 : BitVec 32) : Prop :=
  (∀ a, (k0_off182 v1086) a + S1x1x256.size a ≤ S4001x1x256.size a)
theorem k0_off182_inb : ∀ (v1086 : BitVec 32) (k0_hw182 : k0_chk182 v1086), ∀ a, (k0_off182 v1086) a + S1x1x256.size a ≤ S4001x1x256.size a := fun v1086 k0_hw182 => k0_hw182

def k0_off183 (v1090 : BitVec 32) : Fin 3 → Nat :=
  let v1091 : Index := Scalar.indexCast v1090
  let c0_774 : Index := 0#32
  let c0_775 : Index := 0#32
  ![v1091.toNat, 0, 0]

def k0_chk183 (v1090 : BitVec 32) : Prop :=
  (∀ a, (k0_off183 v1090) a + S1x1x256.size a ≤ S4001x1x256.size a)
theorem k0_off183_inb : ∀ (v1090 : BitVec 32) (k0_hw183 : k0_chk183 v1090), ∀ a, (k0_off183 v1090) a + S1x1x256.size a ≤ S4001x1x256.size a := fun v1090 k0_hw183 => k0_hw183

def k0_off184 (v1094 : BitVec 32) : Fin 3 → Nat :=
  let v1095 : Index := Scalar.indexCast v1094
  let c0_778 : Index := 0#32
  let c0_779 : Index := 0#32
  ![v1095.toNat, 0, 0]

def k0_chk184 (v1094 : BitVec 32) : Prop :=
  (∀ a, (k0_off184 v1094) a + S1x1x256.size a ≤ S4001x1x256.size a)
theorem k0_off184_inb : ∀ (v1094 : BitVec 32) (k0_hw184 : k0_chk184 v1094), ∀ a, (k0_off184 v1094) a + S1x1x256.size a ≤ S4001x1x256.size a := fun v1094 k0_hw184 => k0_hw184

def k0_off185 (v1098 : BitVec 32) : Fin 3 → Nat :=
  let v1099 : Index := Scalar.indexCast v1098
  let c0_782 : Index := 0#32
  let c0_783 : Index := 0#32
  ![v1099.toNat, 0, 0]

def k0_chk185 (v1098 : BitVec 32) : Prop :=
  (∀ a, (k0_off185 v1098) a + S1x1x256.size a ≤ S4001x1x256.size a)
theorem k0_off185_inb : ∀ (v1098 : BitVec 32) (k0_hw185 : k0_chk185 v1098), ∀ a, (k0_off185 v1098) a + S1x1x256.size a ≤ S4001x1x256.size a := fun v1098 k0_hw185 => k0_hw185

def k0_off186 (v1102 : BitVec 32) : Fin 3 → Nat :=
  let v1103 : Index := Scalar.indexCast v1102
  let c0_786 : Index := 0#32
  let c0_787 : Index := 0#32
  ![v1103.toNat, 0, 0]

def k0_chk186 (v1102 : BitVec 32) : Prop :=
  (∀ a, (k0_off186 v1102) a + S1x1x256.size a ≤ S4001x1x256.size a)
theorem k0_off186_inb : ∀ (v1102 : BitVec 32) (k0_hw186 : k0_chk186 v1102), ∀ a, (k0_off186 v1102) a + S1x1x256.size a ≤ S4001x1x256.size a := fun v1102 k0_hw186 => k0_hw186

def k0_off187 (v1106 : BitVec 32) : Fin 3 → Nat :=
  let v1107 : Index := Scalar.indexCast v1106
  let c0_790 : Index := 0#32
  let c0_791 : Index := 0#32
  ![v1107.toNat, 0, 0]

def k0_chk187 (v1106 : BitVec 32) : Prop :=
  (∀ a, (k0_off187 v1106) a + S1x1x256.size a ≤ S4001x1x256.size a)
theorem k0_off187_inb : ∀ (v1106 : BitVec 32) (k0_hw187 : k0_chk187 v1106), ∀ a, (k0_off187 v1106) a + S1x1x256.size a ≤ S4001x1x256.size a := fun v1106 k0_hw187 => k0_hw187

def k0_off188 (v1110 : BitVec 32) : Fin 3 → Nat :=
  let v1111 : Index := Scalar.indexCast v1110
  let c0_794 : Index := 0#32
  let c0_795 : Index := 0#32
  ![v1111.toNat, 0, 0]

def k0_chk188 (v1110 : BitVec 32) : Prop :=
  (∀ a, (k0_off188 v1110) a + S1x1x256.size a ≤ S4001x1x256.size a)
theorem k0_off188_inb : ∀ (v1110 : BitVec 32) (k0_hw188 : k0_chk188 v1110), ∀ a, (k0_off188 v1110) a + S1x1x256.size a ≤ S4001x1x256.size a := fun v1110 k0_hw188 => k0_hw188

def k0_off189 (v1114 : BitVec 32) : Fin 3 → Nat :=
  let v1115 : Index := Scalar.indexCast v1114
  let c0_798 : Index := 0#32
  let c0_799 : Index := 0#32
  ![v1115.toNat, 0, 0]

def k0_chk189 (v1114 : BitVec 32) : Prop :=
  (∀ a, (k0_off189 v1114) a + S1x1x256.size a ≤ S4001x1x256.size a)
theorem k0_off189_inb : ∀ (v1114 : BitVec 32) (k0_hw189 : k0_chk189 v1114), ∀ a, (k0_off189 v1114) a + S1x1x256.size a ≤ S4001x1x256.size a := fun v1114 k0_hw189 => k0_hw189

def k0_off190 (v1118 : BitVec 32) : Fin 3 → Nat :=
  let v1119 : Index := Scalar.indexCast v1118
  let c0_802 : Index := 0#32
  let c0_803 : Index := 0#32
  ![v1119.toNat, 0, 0]

def k0_chk190 (v1118 : BitVec 32) : Prop :=
  (∀ a, (k0_off190 v1118) a + S1x1x256.size a ≤ S4001x1x256.size a)
theorem k0_off190_inb : ∀ (v1118 : BitVec 32) (k0_hw190 : k0_chk190 v1118), ∀ a, (k0_off190 v1118) a + S1x1x256.size a ≤ S4001x1x256.size a := fun v1118 k0_hw190 => k0_hw190

def k0_off191 (v1122 : BitVec 32) : Fin 3 → Nat :=
  let v1123 : Index := Scalar.indexCast v1122
  let c0_806 : Index := 0#32
  let c0_807 : Index := 0#32
  ![v1123.toNat, 0, 0]

def k0_chk191 (v1122 : BitVec 32) : Prop :=
  (∀ a, (k0_off191 v1122) a + S1x1x256.size a ≤ S4001x1x256.size a)
theorem k0_off191_inb : ∀ (v1122 : BitVec 32) (k0_hw191 : k0_chk191 v1122), ∀ a, (k0_off191 v1122) a + S1x1x256.size a ≤ S4001x1x256.size a := fun v1122 k0_hw191 => k0_hw191

def k0_off192 (v1126 : BitVec 32) : Fin 3 → Nat :=
  let v1127 : Index := Scalar.indexCast v1126
  let c0_810 : Index := 0#32
  let c0_811 : Index := 0#32
  ![v1127.toNat, 0, 0]

def k0_chk192 (v1126 : BitVec 32) : Prop :=
  (∀ a, (k0_off192 v1126) a + S1x1x256.size a ≤ S4001x1x256.size a)
theorem k0_off192_inb : ∀ (v1126 : BitVec 32) (k0_hw192 : k0_chk192 v1126), ∀ a, (k0_off192 v1126) a + S1x1x256.size a ≤ S4001x1x256.size a := fun v1126 k0_hw192 => k0_hw192

def k0_off193 (v1130 : BitVec 32) : Fin 3 → Nat :=
  let v1131 : Index := Scalar.indexCast v1130
  let c0_814 : Index := 0#32
  let c0_815 : Index := 0#32
  ![v1131.toNat, 0, 0]

def k0_chk193 (v1130 : BitVec 32) : Prop :=
  (∀ a, (k0_off193 v1130) a + S1x1x256.size a ≤ S4001x1x256.size a)
theorem k0_off193_inb : ∀ (v1130 : BitVec 32) (k0_hw193 : k0_chk193 v1130), ∀ a, (k0_off193 v1130) a + S1x1x256.size a ≤ S4001x1x256.size a := fun v1130 k0_hw193 => k0_hw193

def k0_off194 (v1134 : BitVec 32) : Fin 3 → Nat :=
  let v1135 : Index := Scalar.indexCast v1134
  let c0_818 : Index := 0#32
  let c0_819 : Index := 0#32
  ![v1135.toNat, 0, 0]

def k0_chk194 (v1134 : BitVec 32) : Prop :=
  (∀ a, (k0_off194 v1134) a + S1x1x256.size a ≤ S4001x1x256.size a)
theorem k0_off194_inb : ∀ (v1134 : BitVec 32) (k0_hw194 : k0_chk194 v1134), ∀ a, (k0_off194 v1134) a + S1x1x256.size a ≤ S4001x1x256.size a := fun v1134 k0_hw194 => k0_hw194

def k0_off195 (v1138 : BitVec 32) : Fin 3 → Nat :=
  let v1139 : Index := Scalar.indexCast v1138
  let c0_822 : Index := 0#32
  let c0_823 : Index := 0#32
  ![v1139.toNat, 0, 0]

def k0_chk195 (v1138 : BitVec 32) : Prop :=
  (∀ a, (k0_off195 v1138) a + S1x1x256.size a ≤ S4001x1x256.size a)
theorem k0_off195_inb : ∀ (v1138 : BitVec 32) (k0_hw195 : k0_chk195 v1138), ∀ a, (k0_off195 v1138) a + S1x1x256.size a ≤ S4001x1x256.size a := fun v1138 k0_hw195 => k0_hw195

def k0_off196 (v1142 : BitVec 32) : Fin 3 → Nat :=
  let v1143 : Index := Scalar.indexCast v1142
  let c0_826 : Index := 0#32
  let c0_827 : Index := 0#32
  ![v1143.toNat, 0, 0]

def k0_chk196 (v1142 : BitVec 32) : Prop :=
  (∀ a, (k0_off196 v1142) a + S1x1x256.size a ≤ S4001x1x256.size a)
theorem k0_off196_inb : ∀ (v1142 : BitVec 32) (k0_hw196 : k0_chk196 v1142), ∀ a, (k0_off196 v1142) a + S1x1x256.size a ≤ S4001x1x256.size a := fun v1142 k0_hw196 => k0_hw196

def k0_off197 (v1146 : BitVec 32) : Fin 3 → Nat :=
  let v1147 : Index := Scalar.indexCast v1146
  let c0_830 : Index := 0#32
  let c0_831 : Index := 0#32
  ![v1147.toNat, 0, 0]

def k0_chk197 (v1146 : BitVec 32) : Prop :=
  (∀ a, (k0_off197 v1146) a + S1x1x256.size a ≤ S4001x1x256.size a)
theorem k0_off197_inb : ∀ (v1146 : BitVec 32) (k0_hw197 : k0_chk197 v1146), ∀ a, (k0_off197 v1146) a + S1x1x256.size a ≤ S4001x1x256.size a := fun v1146 k0_hw197 => k0_hw197

def k0_off198 (v1150 : BitVec 32) : Fin 3 → Nat :=
  let v1151 : Index := Scalar.indexCast v1150
  let c0_834 : Index := 0#32
  let c0_835 : Index := 0#32
  ![v1151.toNat, 0, 0]

def k0_chk198 (v1150 : BitVec 32) : Prop :=
  (∀ a, (k0_off198 v1150) a + S1x1x256.size a ≤ S4001x1x256.size a)
theorem k0_off198_inb : ∀ (v1150 : BitVec 32) (k0_hw198 : k0_chk198 v1150), ∀ a, (k0_off198 v1150) a + S1x1x256.size a ≤ S4001x1x256.size a := fun v1150 k0_hw198 => k0_hw198

def k0_off199 (v1154 : BitVec 32) : Fin 3 → Nat :=
  let v1155 : Index := Scalar.indexCast v1154
  let c0_838 : Index := 0#32
  let c0_839 : Index := 0#32
  ![v1155.toNat, 0, 0]

def k0_chk199 (v1154 : BitVec 32) : Prop :=
  (∀ a, (k0_off199 v1154) a + S1x1x256.size a ≤ S4001x1x256.size a)
theorem k0_off199_inb : ∀ (v1154 : BitVec 32) (k0_hw199 : k0_chk199 v1154), ∀ a, (k0_off199 v1154) a + S1x1x256.size a ≤ S4001x1x256.size a := fun v1154 k0_hw199 => k0_hw199

def k0_off200 (v1158 : BitVec 32) : Fin 3 → Nat :=
  let v1159 : Index := Scalar.indexCast v1158
  let c0_842 : Index := 0#32
  let c0_843 : Index := 0#32
  ![v1159.toNat, 0, 0]

def k0_chk200 (v1158 : BitVec 32) : Prop :=
  (∀ a, (k0_off200 v1158) a + S1x1x256.size a ≤ S4001x1x256.size a)
theorem k0_off200_inb : ∀ (v1158 : BitVec 32) (k0_hw200 : k0_chk200 v1158), ∀ a, (k0_off200 v1158) a + S1x1x256.size a ≤ S4001x1x256.size a := fun v1158 k0_hw200 => k0_hw200

def k0_off201 (v1201 : BitVec 32) : Fin 3 → Nat :=
  let v1202 : Index := Scalar.indexCast v1201
  let c0_846 : Index := 0#32
  let c0_847 : Index := 0#32
  ![v1202.toNat, 0, 0]

def k0_chk201 (v1201 : BitVec 32) : Prop :=
  (∀ a, (k0_off201 v1201) a + S1x1x256.size a ≤ S4001x1x256.size a)
theorem k0_off201_inb : ∀ (v1201 : BitVec 32) (k0_hw201 : k0_chk201 v1201), ∀ a, (k0_off201 v1201) a + S1x1x256.size a ≤ S4001x1x256.size a := fun v1201 k0_hw201 => k0_hw201

def k0_off202 (v1205 : BitVec 32) : Fin 3 → Nat :=
  let v1206 : Index := Scalar.indexCast v1205
  let c0_850 : Index := 0#32
  let c0_851 : Index := 0#32
  ![v1206.toNat, 0, 0]

def k0_chk202 (v1205 : BitVec 32) : Prop :=
  (∀ a, (k0_off202 v1205) a + S1x1x256.size a ≤ S4001x1x256.size a)
theorem k0_off202_inb : ∀ (v1205 : BitVec 32) (k0_hw202 : k0_chk202 v1205), ∀ a, (k0_off202 v1205) a + S1x1x256.size a ≤ S4001x1x256.size a := fun v1205 k0_hw202 => k0_hw202

def k0_off203 (v1209 : BitVec 32) : Fin 3 → Nat :=
  let v1210 : Index := Scalar.indexCast v1209
  let c0_854 : Index := 0#32
  let c0_855 : Index := 0#32
  ![v1210.toNat, 0, 0]

def k0_chk203 (v1209 : BitVec 32) : Prop :=
  (∀ a, (k0_off203 v1209) a + S1x1x256.size a ≤ S4001x1x256.size a)
theorem k0_off203_inb : ∀ (v1209 : BitVec 32) (k0_hw203 : k0_chk203 v1209), ∀ a, (k0_off203 v1209) a + S1x1x256.size a ≤ S4001x1x256.size a := fun v1209 k0_hw203 => k0_hw203

def k0_off204 (v1213 : BitVec 32) : Fin 3 → Nat :=
  let v1214 : Index := Scalar.indexCast v1213
  let c0_858 : Index := 0#32
  let c0_859 : Index := 0#32
  ![v1214.toNat, 0, 0]

def k0_chk204 (v1213 : BitVec 32) : Prop :=
  (∀ a, (k0_off204 v1213) a + S1x1x256.size a ≤ S4001x1x256.size a)
theorem k0_off204_inb : ∀ (v1213 : BitVec 32) (k0_hw204 : k0_chk204 v1213), ∀ a, (k0_off204 v1213) a + S1x1x256.size a ≤ S4001x1x256.size a := fun v1213 k0_hw204 => k0_hw204

def k0_off205 (v1217 : BitVec 32) : Fin 3 → Nat :=
  let v1218 : Index := Scalar.indexCast v1217
  let c0_862 : Index := 0#32
  let c0_863 : Index := 0#32
  ![v1218.toNat, 0, 0]

def k0_chk205 (v1217 : BitVec 32) : Prop :=
  (∀ a, (k0_off205 v1217) a + S1x1x256.size a ≤ S4001x1x256.size a)
theorem k0_off205_inb : ∀ (v1217 : BitVec 32) (k0_hw205 : k0_chk205 v1217), ∀ a, (k0_off205 v1217) a + S1x1x256.size a ≤ S4001x1x256.size a := fun v1217 k0_hw205 => k0_hw205

def k0_off206 (v1221 : BitVec 32) : Fin 3 → Nat :=
  let v1222 : Index := Scalar.indexCast v1221
  let c0_866 : Index := 0#32
  let c0_867 : Index := 0#32
  ![v1222.toNat, 0, 0]

def k0_chk206 (v1221 : BitVec 32) : Prop :=
  (∀ a, (k0_off206 v1221) a + S1x1x256.size a ≤ S4001x1x256.size a)
theorem k0_off206_inb : ∀ (v1221 : BitVec 32) (k0_hw206 : k0_chk206 v1221), ∀ a, (k0_off206 v1221) a + S1x1x256.size a ≤ S4001x1x256.size a := fun v1221 k0_hw206 => k0_hw206

def k0_off207 (v1225 : BitVec 32) : Fin 3 → Nat :=
  let v1226 : Index := Scalar.indexCast v1225
  let c0_870 : Index := 0#32
  let c0_871 : Index := 0#32
  ![v1226.toNat, 0, 0]

def k0_chk207 (v1225 : BitVec 32) : Prop :=
  (∀ a, (k0_off207 v1225) a + S1x1x256.size a ≤ S4001x1x256.size a)
theorem k0_off207_inb : ∀ (v1225 : BitVec 32) (k0_hw207 : k0_chk207 v1225), ∀ a, (k0_off207 v1225) a + S1x1x256.size a ≤ S4001x1x256.size a := fun v1225 k0_hw207 => k0_hw207

def k0_off208 (v1229 : BitVec 32) : Fin 3 → Nat :=
  let v1230 : Index := Scalar.indexCast v1229
  let c0_874 : Index := 0#32
  let c0_875 : Index := 0#32
  ![v1230.toNat, 0, 0]

def k0_chk208 (v1229 : BitVec 32) : Prop :=
  (∀ a, (k0_off208 v1229) a + S1x1x256.size a ≤ S4001x1x256.size a)
theorem k0_off208_inb : ∀ (v1229 : BitVec 32) (k0_hw208 : k0_chk208 v1229), ∀ a, (k0_off208 v1229) a + S1x1x256.size a ≤ S4001x1x256.size a := fun v1229 k0_hw208 => k0_hw208

def k0_off209 (v1233 : BitVec 32) : Fin 3 → Nat :=
  let v1234 : Index := Scalar.indexCast v1233
  let c0_878 : Index := 0#32
  let c0_879 : Index := 0#32
  ![v1234.toNat, 0, 0]

def k0_chk209 (v1233 : BitVec 32) : Prop :=
  (∀ a, (k0_off209 v1233) a + S1x1x256.size a ≤ S4001x1x256.size a)
theorem k0_off209_inb : ∀ (v1233 : BitVec 32) (k0_hw209 : k0_chk209 v1233), ∀ a, (k0_off209 v1233) a + S1x1x256.size a ≤ S4001x1x256.size a := fun v1233 k0_hw209 => k0_hw209

def k0_off210 (v1237 : BitVec 32) : Fin 3 → Nat :=
  let v1238 : Index := Scalar.indexCast v1237
  let c0_882 : Index := 0#32
  let c0_883 : Index := 0#32
  ![v1238.toNat, 0, 0]

def k0_chk210 (v1237 : BitVec 32) : Prop :=
  (∀ a, (k0_off210 v1237) a + S1x1x256.size a ≤ S4001x1x256.size a)
theorem k0_off210_inb : ∀ (v1237 : BitVec 32) (k0_hw210 : k0_chk210 v1237), ∀ a, (k0_off210 v1237) a + S1x1x256.size a ≤ S4001x1x256.size a := fun v1237 k0_hw210 => k0_hw210

def k0_off211 (v1241 : BitVec 32) : Fin 3 → Nat :=
  let v1242 : Index := Scalar.indexCast v1241
  let c0_886 : Index := 0#32
  let c0_887 : Index := 0#32
  ![v1242.toNat, 0, 0]

def k0_chk211 (v1241 : BitVec 32) : Prop :=
  (∀ a, (k0_off211 v1241) a + S1x1x256.size a ≤ S4001x1x256.size a)
theorem k0_off211_inb : ∀ (v1241 : BitVec 32) (k0_hw211 : k0_chk211 v1241), ∀ a, (k0_off211 v1241) a + S1x1x256.size a ≤ S4001x1x256.size a := fun v1241 k0_hw211 => k0_hw211

def k0_off212 (v1245 : BitVec 32) : Fin 3 → Nat :=
  let v1246 : Index := Scalar.indexCast v1245
  let c0_890 : Index := 0#32
  let c0_891 : Index := 0#32
  ![v1246.toNat, 0, 0]

def k0_chk212 (v1245 : BitVec 32) : Prop :=
  (∀ a, (k0_off212 v1245) a + S1x1x256.size a ≤ S4001x1x256.size a)
theorem k0_off212_inb : ∀ (v1245 : BitVec 32) (k0_hw212 : k0_chk212 v1245), ∀ a, (k0_off212 v1245) a + S1x1x256.size a ≤ S4001x1x256.size a := fun v1245 k0_hw212 => k0_hw212

def k0_off213 (v1249 : BitVec 32) : Fin 3 → Nat :=
  let v1250 : Index := Scalar.indexCast v1249
  let c0_894 : Index := 0#32
  let c0_895 : Index := 0#32
  ![v1250.toNat, 0, 0]

def k0_chk213 (v1249 : BitVec 32) : Prop :=
  (∀ a, (k0_off213 v1249) a + S1x1x256.size a ≤ S4001x1x256.size a)
theorem k0_off213_inb : ∀ (v1249 : BitVec 32) (k0_hw213 : k0_chk213 v1249), ∀ a, (k0_off213 v1249) a + S1x1x256.size a ≤ S4001x1x256.size a := fun v1249 k0_hw213 => k0_hw213

def k0_off214 (v1253 : BitVec 32) : Fin 3 → Nat :=
  let v1254 : Index := Scalar.indexCast v1253
  let c0_898 : Index := 0#32
  let c0_899 : Index := 0#32
  ![v1254.toNat, 0, 0]

def k0_chk214 (v1253 : BitVec 32) : Prop :=
  (∀ a, (k0_off214 v1253) a + S1x1x256.size a ≤ S4001x1x256.size a)
theorem k0_off214_inb : ∀ (v1253 : BitVec 32) (k0_hw214 : k0_chk214 v1253), ∀ a, (k0_off214 v1253) a + S1x1x256.size a ≤ S4001x1x256.size a := fun v1253 k0_hw214 => k0_hw214

def k0_off215 (v1257 : BitVec 32) : Fin 3 → Nat :=
  let v1258 : Index := Scalar.indexCast v1257
  let c0_902 : Index := 0#32
  let c0_903 : Index := 0#32
  ![v1258.toNat, 0, 0]

def k0_chk215 (v1257 : BitVec 32) : Prop :=
  (∀ a, (k0_off215 v1257) a + S1x1x256.size a ≤ S4001x1x256.size a)
theorem k0_off215_inb : ∀ (v1257 : BitVec 32) (k0_hw215 : k0_chk215 v1257), ∀ a, (k0_off215 v1257) a + S1x1x256.size a ≤ S4001x1x256.size a := fun v1257 k0_hw215 => k0_hw215

def k0_off216 (v1261 : BitVec 32) : Fin 3 → Nat :=
  let v1262 : Index := Scalar.indexCast v1261
  let c0_906 : Index := 0#32
  let c0_907 : Index := 0#32
  ![v1262.toNat, 0, 0]

def k0_chk216 (v1261 : BitVec 32) : Prop :=
  (∀ a, (k0_off216 v1261) a + S1x1x256.size a ≤ S4001x1x256.size a)
theorem k0_off216_inb : ∀ (v1261 : BitVec 32) (k0_hw216 : k0_chk216 v1261), ∀ a, (k0_off216 v1261) a + S1x1x256.size a ≤ S4001x1x256.size a := fun v1261 k0_hw216 => k0_hw216

def k0_off217 (v1265 : BitVec 32) : Fin 3 → Nat :=
  let v1266 : Index := Scalar.indexCast v1265
  let c0_910 : Index := 0#32
  let c0_911 : Index := 0#32
  ![v1266.toNat, 0, 0]

def k0_chk217 (v1265 : BitVec 32) : Prop :=
  (∀ a, (k0_off217 v1265) a + S1x1x256.size a ≤ S4001x1x256.size a)
theorem k0_off217_inb : ∀ (v1265 : BitVec 32) (k0_hw217 : k0_chk217 v1265), ∀ a, (k0_off217 v1265) a + S1x1x256.size a ≤ S4001x1x256.size a := fun v1265 k0_hw217 => k0_hw217

def k0_off218 (v1269 : BitVec 32) : Fin 3 → Nat :=
  let v1270 : Index := Scalar.indexCast v1269
  let c0_914 : Index := 0#32
  let c0_915 : Index := 0#32
  ![v1270.toNat, 0, 0]

def k0_chk218 (v1269 : BitVec 32) : Prop :=
  (∀ a, (k0_off218 v1269) a + S1x1x256.size a ≤ S4001x1x256.size a)
theorem k0_off218_inb : ∀ (v1269 : BitVec 32) (k0_hw218 : k0_chk218 v1269), ∀ a, (k0_off218 v1269) a + S1x1x256.size a ≤ S4001x1x256.size a := fun v1269 k0_hw218 => k0_hw218

def k0_off219 (v1273 : BitVec 32) : Fin 3 → Nat :=
  let v1274 : Index := Scalar.indexCast v1273
  let c0_918 : Index := 0#32
  let c0_919 : Index := 0#32
  ![v1274.toNat, 0, 0]

def k0_chk219 (v1273 : BitVec 32) : Prop :=
  (∀ a, (k0_off219 v1273) a + S1x1x256.size a ≤ S4001x1x256.size a)
theorem k0_off219_inb : ∀ (v1273 : BitVec 32) (k0_hw219 : k0_chk219 v1273), ∀ a, (k0_off219 v1273) a + S1x1x256.size a ≤ S4001x1x256.size a := fun v1273 k0_hw219 => k0_hw219

def k0_off220 (v1277 : BitVec 32) : Fin 3 → Nat :=
  let v1278 : Index := Scalar.indexCast v1277
  let c0_922 : Index := 0#32
  let c0_923 : Index := 0#32
  ![v1278.toNat, 0, 0]

def k0_chk220 (v1277 : BitVec 32) : Prop :=
  (∀ a, (k0_off220 v1277) a + S1x1x256.size a ≤ S4001x1x256.size a)
theorem k0_off220_inb : ∀ (v1277 : BitVec 32) (k0_hw220 : k0_chk220 v1277), ∀ a, (k0_off220 v1277) a + S1x1x256.size a ≤ S4001x1x256.size a := fun v1277 k0_hw220 => k0_hw220

def k0_off221 (v1281 : BitVec 32) : Fin 3 → Nat :=
  let v1282 : Index := Scalar.indexCast v1281
  let c0_926 : Index := 0#32
  let c0_927 : Index := 0#32
  ![v1282.toNat, 0, 0]

def k0_chk221 (v1281 : BitVec 32) : Prop :=
  (∀ a, (k0_off221 v1281) a + S1x1x256.size a ≤ S4001x1x256.size a)
theorem k0_off221_inb : ∀ (v1281 : BitVec 32) (k0_hw221 : k0_chk221 v1281), ∀ a, (k0_off221 v1281) a + S1x1x256.size a ≤ S4001x1x256.size a := fun v1281 k0_hw221 => k0_hw221

def k0_off222 (v1285 : BitVec 32) : Fin 3 → Nat :=
  let v1286 : Index := Scalar.indexCast v1285
  let c0_930 : Index := 0#32
  let c0_931 : Index := 0#32
  ![v1286.toNat, 0, 0]

def k0_chk222 (v1285 : BitVec 32) : Prop :=
  (∀ a, (k0_off222 v1285) a + S1x1x256.size a ≤ S4001x1x256.size a)
theorem k0_off222_inb : ∀ (v1285 : BitVec 32) (k0_hw222 : k0_chk222 v1285), ∀ a, (k0_off222 v1285) a + S1x1x256.size a ≤ S4001x1x256.size a := fun v1285 k0_hw222 => k0_hw222

def k0_off223 (v1289 : BitVec 32) : Fin 3 → Nat :=
  let v1290 : Index := Scalar.indexCast v1289
  let c0_934 : Index := 0#32
  let c0_935 : Index := 0#32
  ![v1290.toNat, 0, 0]

def k0_chk223 (v1289 : BitVec 32) : Prop :=
  (∀ a, (k0_off223 v1289) a + S1x1x256.size a ≤ S4001x1x256.size a)
theorem k0_off223_inb : ∀ (v1289 : BitVec 32) (k0_hw223 : k0_chk223 v1289), ∀ a, (k0_off223 v1289) a + S1x1x256.size a ≤ S4001x1x256.size a := fun v1289 k0_hw223 => k0_hw223

def k0_off224 (v1293 : BitVec 32) : Fin 3 → Nat :=
  let v1294 : Index := Scalar.indexCast v1293
  let c0_938 : Index := 0#32
  let c0_939 : Index := 0#32
  ![v1294.toNat, 0, 0]

def k0_chk224 (v1293 : BitVec 32) : Prop :=
  (∀ a, (k0_off224 v1293) a + S1x1x256.size a ≤ S4001x1x256.size a)
theorem k0_off224_inb : ∀ (v1293 : BitVec 32) (k0_hw224 : k0_chk224 v1293), ∀ a, (k0_off224 v1293) a + S1x1x256.size a ≤ S4001x1x256.size a := fun v1293 k0_hw224 => k0_hw224

def k0_off225 (v1297 : BitVec 32) : Fin 3 → Nat :=
  let v1298 : Index := Scalar.indexCast v1297
  let c0_942 : Index := 0#32
  let c0_943 : Index := 0#32
  ![v1298.toNat, 0, 0]

def k0_chk225 (v1297 : BitVec 32) : Prop :=
  (∀ a, (k0_off225 v1297) a + S1x1x256.size a ≤ S4001x1x256.size a)
theorem k0_off225_inb : ∀ (v1297 : BitVec 32) (k0_hw225 : k0_chk225 v1297), ∀ a, (k0_off225 v1297) a + S1x1x256.size a ≤ S4001x1x256.size a := fun v1297 k0_hw225 => k0_hw225

def k0_off226 (v1301 : BitVec 32) : Fin 3 → Nat :=
  let v1302 : Index := Scalar.indexCast v1301
  let c0_946 : Index := 0#32
  let c0_947 : Index := 0#32
  ![v1302.toNat, 0, 0]

def k0_chk226 (v1301 : BitVec 32) : Prop :=
  (∀ a, (k0_off226 v1301) a + S1x1x256.size a ≤ S4001x1x256.size a)
theorem k0_off226_inb : ∀ (v1301 : BitVec 32) (k0_hw226 : k0_chk226 v1301), ∀ a, (k0_off226 v1301) a + S1x1x256.size a ≤ S4001x1x256.size a := fun v1301 k0_hw226 => k0_hw226

def k0_off227 (v1305 : BitVec 32) : Fin 3 → Nat :=
  let v1306 : Index := Scalar.indexCast v1305
  let c0_950 : Index := 0#32
  let c0_951 : Index := 0#32
  ![v1306.toNat, 0, 0]

def k0_chk227 (v1305 : BitVec 32) : Prop :=
  (∀ a, (k0_off227 v1305) a + S1x1x256.size a ≤ S4001x1x256.size a)
theorem k0_off227_inb : ∀ (v1305 : BitVec 32) (k0_hw227 : k0_chk227 v1305), ∀ a, (k0_off227 v1305) a + S1x1x256.size a ≤ S4001x1x256.size a := fun v1305 k0_hw227 => k0_hw227

def k0_off228 (v1309 : BitVec 32) : Fin 3 → Nat :=
  let v1310 : Index := Scalar.indexCast v1309
  let c0_954 : Index := 0#32
  let c0_955 : Index := 0#32
  ![v1310.toNat, 0, 0]

def k0_chk228 (v1309 : BitVec 32) : Prop :=
  (∀ a, (k0_off228 v1309) a + S1x1x256.size a ≤ S4001x1x256.size a)
theorem k0_off228_inb : ∀ (v1309 : BitVec 32) (k0_hw228 : k0_chk228 v1309), ∀ a, (k0_off228 v1309) a + S1x1x256.size a ≤ S4001x1x256.size a := fun v1309 k0_hw228 => k0_hw228

def k0_off229 (v1313 : BitVec 32) : Fin 3 → Nat :=
  let v1314 : Index := Scalar.indexCast v1313
  let c0_958 : Index := 0#32
  let c0_959 : Index := 0#32
  ![v1314.toNat, 0, 0]

def k0_chk229 (v1313 : BitVec 32) : Prop :=
  (∀ a, (k0_off229 v1313) a + S1x1x256.size a ≤ S4001x1x256.size a)
theorem k0_off229_inb : ∀ (v1313 : BitVec 32) (k0_hw229 : k0_chk229 v1313), ∀ a, (k0_off229 v1313) a + S1x1x256.size a ≤ S4001x1x256.size a := fun v1313 k0_hw229 => k0_hw229

def k0_off230 (v1317 : BitVec 32) : Fin 3 → Nat :=
  let v1318 : Index := Scalar.indexCast v1317
  let c0_962 : Index := 0#32
  let c0_963 : Index := 0#32
  ![v1318.toNat, 0, 0]

def k0_chk230 (v1317 : BitVec 32) : Prop :=
  (∀ a, (k0_off230 v1317) a + S1x1x256.size a ≤ S4001x1x256.size a)
theorem k0_off230_inb : ∀ (v1317 : BitVec 32) (k0_hw230 : k0_chk230 v1317), ∀ a, (k0_off230 v1317) a + S1x1x256.size a ≤ S4001x1x256.size a := fun v1317 k0_hw230 => k0_hw230

def k0_off231 (v1321 : BitVec 32) : Fin 3 → Nat :=
  let v1322 : Index := Scalar.indexCast v1321
  let c0_966 : Index := 0#32
  let c0_967 : Index := 0#32
  ![v1322.toNat, 0, 0]

def k0_chk231 (v1321 : BitVec 32) : Prop :=
  (∀ a, (k0_off231 v1321) a + S1x1x256.size a ≤ S4001x1x256.size a)
theorem k0_off231_inb : ∀ (v1321 : BitVec 32) (k0_hw231 : k0_chk231 v1321), ∀ a, (k0_off231 v1321) a + S1x1x256.size a ≤ S4001x1x256.size a := fun v1321 k0_hw231 => k0_hw231

def k0_off232 (v1325 : BitVec 32) : Fin 3 → Nat :=
  let v1326 : Index := Scalar.indexCast v1325
  let c0_970 : Index := 0#32
  let c0_971 : Index := 0#32
  ![v1326.toNat, 0, 0]

def k0_chk232 (v1325 : BitVec 32) : Prop :=
  (∀ a, (k0_off232 v1325) a + S1x1x256.size a ≤ S4001x1x256.size a)
theorem k0_off232_inb : ∀ (v1325 : BitVec 32) (k0_hw232 : k0_chk232 v1325), ∀ a, (k0_off232 v1325) a + S1x1x256.size a ≤ S4001x1x256.size a := fun v1325 k0_hw232 => k0_hw232

def k0_off233 (v1329 : BitVec 32) : Fin 3 → Nat :=
  let v1330 : Index := Scalar.indexCast v1329
  let c0_974 : Index := 0#32
  let c0_975 : Index := 0#32
  ![v1330.toNat, 0, 0]

def k0_chk233 (v1329 : BitVec 32) : Prop :=
  (∀ a, (k0_off233 v1329) a + S1x1x256.size a ≤ S4001x1x256.size a)
theorem k0_off233_inb : ∀ (v1329 : BitVec 32) (k0_hw233 : k0_chk233 v1329), ∀ a, (k0_off233 v1329) a + S1x1x256.size a ≤ S4001x1x256.size a := fun v1329 k0_hw233 => k0_hw233

def k0_off234 (v1333 : BitVec 32) : Fin 3 → Nat :=
  let v1334 : Index := Scalar.indexCast v1333
  let c0_978 : Index := 0#32
  let c0_979 : Index := 0#32
  ![v1334.toNat, 0, 0]

def k0_chk234 (v1333 : BitVec 32) : Prop :=
  (∀ a, (k0_off234 v1333) a + S1x1x256.size a ≤ S4001x1x256.size a)
theorem k0_off234_inb : ∀ (v1333 : BitVec 32) (k0_hw234 : k0_chk234 v1333), ∀ a, (k0_off234 v1333) a + S1x1x256.size a ≤ S4001x1x256.size a := fun v1333 k0_hw234 => k0_hw234

def k0_off235 (v1337 : BitVec 32) : Fin 3 → Nat :=
  let v1338 : Index := Scalar.indexCast v1337
  let c0_982 : Index := 0#32
  let c0_983 : Index := 0#32
  ![v1338.toNat, 0, 0]

def k0_chk235 (v1337 : BitVec 32) : Prop :=
  (∀ a, (k0_off235 v1337) a + S1x1x256.size a ≤ S4001x1x256.size a)
theorem k0_off235_inb : ∀ (v1337 : BitVec 32) (k0_hw235 : k0_chk235 v1337), ∀ a, (k0_off235 v1337) a + S1x1x256.size a ≤ S4001x1x256.size a := fun v1337 k0_hw235 => k0_hw235

def k0_off236 (v1341 : BitVec 32) : Fin 3 → Nat :=
  let v1342 : Index := Scalar.indexCast v1341
  let c0_986 : Index := 0#32
  let c0_987 : Index := 0#32
  ![v1342.toNat, 0, 0]

def k0_chk236 (v1341 : BitVec 32) : Prop :=
  (∀ a, (k0_off236 v1341) a + S1x1x256.size a ≤ S4001x1x256.size a)
theorem k0_off236_inb : ∀ (v1341 : BitVec 32) (k0_hw236 : k0_chk236 v1341), ∀ a, (k0_off236 v1341) a + S1x1x256.size a ≤ S4001x1x256.size a := fun v1341 k0_hw236 => k0_hw236

def k0_off237 (v1345 : BitVec 32) : Fin 3 → Nat :=
  let v1346 : Index := Scalar.indexCast v1345
  let c0_990 : Index := 0#32
  let c0_991 : Index := 0#32
  ![v1346.toNat, 0, 0]

def k0_chk237 (v1345 : BitVec 32) : Prop :=
  (∀ a, (k0_off237 v1345) a + S1x1x256.size a ≤ S4001x1x256.size a)
theorem k0_off237_inb : ∀ (v1345 : BitVec 32) (k0_hw237 : k0_chk237 v1345), ∀ a, (k0_off237 v1345) a + S1x1x256.size a ≤ S4001x1x256.size a := fun v1345 k0_hw237 => k0_hw237

def k0_off238 (v1349 : BitVec 32) : Fin 3 → Nat :=
  let v1350 : Index := Scalar.indexCast v1349
  let c0_994 : Index := 0#32
  let c0_995 : Index := 0#32
  ![v1350.toNat, 0, 0]

def k0_chk238 (v1349 : BitVec 32) : Prop :=
  (∀ a, (k0_off238 v1349) a + S1x1x256.size a ≤ S4001x1x256.size a)
theorem k0_off238_inb : ∀ (v1349 : BitVec 32) (k0_hw238 : k0_chk238 v1349), ∀ a, (k0_off238 v1349) a + S1x1x256.size a ≤ S4001x1x256.size a := fun v1349 k0_hw238 => k0_hw238

def k0_off239 (v1353 : BitVec 32) : Fin 3 → Nat :=
  let v1354 : Index := Scalar.indexCast v1353
  let c0_998 : Index := 0#32
  let c0_999 : Index := 0#32
  ![v1354.toNat, 0, 0]

def k0_chk239 (v1353 : BitVec 32) : Prop :=
  (∀ a, (k0_off239 v1353) a + S1x1x256.size a ≤ S4001x1x256.size a)
theorem k0_off239_inb : ∀ (v1353 : BitVec 32) (k0_hw239 : k0_chk239 v1353), ∀ a, (k0_off239 v1353) a + S1x1x256.size a ≤ S4001x1x256.size a := fun v1353 k0_hw239 => k0_hw239

def k0_off240 (v1357 : BitVec 32) : Fin 3 → Nat :=
  let v1358 : Index := Scalar.indexCast v1357
  let c0_1002 : Index := 0#32
  let c0_1003 : Index := 0#32
  ![v1358.toNat, 0, 0]

def k0_chk240 (v1357 : BitVec 32) : Prop :=
  (∀ a, (k0_off240 v1357) a + S1x1x256.size a ≤ S4001x1x256.size a)
theorem k0_off240_inb : ∀ (v1357 : BitVec 32) (k0_hw240 : k0_chk240 v1357), ∀ a, (k0_off240 v1357) a + S1x1x256.size a ≤ S4001x1x256.size a := fun v1357 k0_hw240 => k0_hw240

def k0_off241 (v1400 : BitVec 32) : Fin 3 → Nat :=
  let v1401 : Index := Scalar.indexCast v1400
  let c0_1006 : Index := 0#32
  let c0_1007 : Index := 0#32
  ![v1401.toNat, 0, 0]

def k0_chk241 (v1400 : BitVec 32) : Prop :=
  (∀ a, (k0_off241 v1400) a + S1x1x256.size a ≤ S4001x1x256.size a)
theorem k0_off241_inb : ∀ (v1400 : BitVec 32) (k0_hw241 : k0_chk241 v1400), ∀ a, (k0_off241 v1400) a + S1x1x256.size a ≤ S4001x1x256.size a := fun v1400 k0_hw241 => k0_hw241

def k0_off242 (v1404 : BitVec 32) : Fin 3 → Nat :=
  let v1405 : Index := Scalar.indexCast v1404
  let c0_1010 : Index := 0#32
  let c0_1011 : Index := 0#32
  ![v1405.toNat, 0, 0]

def k0_chk242 (v1404 : BitVec 32) : Prop :=
  (∀ a, (k0_off242 v1404) a + S1x1x256.size a ≤ S4001x1x256.size a)
theorem k0_off242_inb : ∀ (v1404 : BitVec 32) (k0_hw242 : k0_chk242 v1404), ∀ a, (k0_off242 v1404) a + S1x1x256.size a ≤ S4001x1x256.size a := fun v1404 k0_hw242 => k0_hw242

def k0_off243 (v1408 : BitVec 32) : Fin 3 → Nat :=
  let v1409 : Index := Scalar.indexCast v1408
  let c0_1014 : Index := 0#32
  let c0_1015 : Index := 0#32
  ![v1409.toNat, 0, 0]

def k0_chk243 (v1408 : BitVec 32) : Prop :=
  (∀ a, (k0_off243 v1408) a + S1x1x256.size a ≤ S4001x1x256.size a)
theorem k0_off243_inb : ∀ (v1408 : BitVec 32) (k0_hw243 : k0_chk243 v1408), ∀ a, (k0_off243 v1408) a + S1x1x256.size a ≤ S4001x1x256.size a := fun v1408 k0_hw243 => k0_hw243

def k0_off244 (v1412 : BitVec 32) : Fin 3 → Nat :=
  let v1413 : Index := Scalar.indexCast v1412
  let c0_1018 : Index := 0#32
  let c0_1019 : Index := 0#32
  ![v1413.toNat, 0, 0]

def k0_chk244 (v1412 : BitVec 32) : Prop :=
  (∀ a, (k0_off244 v1412) a + S1x1x256.size a ≤ S4001x1x256.size a)
theorem k0_off244_inb : ∀ (v1412 : BitVec 32) (k0_hw244 : k0_chk244 v1412), ∀ a, (k0_off244 v1412) a + S1x1x256.size a ≤ S4001x1x256.size a := fun v1412 k0_hw244 => k0_hw244

def k0_off245 (v1416 : BitVec 32) : Fin 3 → Nat :=
  let v1417 : Index := Scalar.indexCast v1416
  let c0_1022 : Index := 0#32
  let c0_1023 : Index := 0#32
  ![v1417.toNat, 0, 0]

def k0_chk245 (v1416 : BitVec 32) : Prop :=
  (∀ a, (k0_off245 v1416) a + S1x1x256.size a ≤ S4001x1x256.size a)
theorem k0_off245_inb : ∀ (v1416 : BitVec 32) (k0_hw245 : k0_chk245 v1416), ∀ a, (k0_off245 v1416) a + S1x1x256.size a ≤ S4001x1x256.size a := fun v1416 k0_hw245 => k0_hw245

def k0_off246 (v1420 : BitVec 32) : Fin 3 → Nat :=
  let v1421 : Index := Scalar.indexCast v1420
  let c0_1026 : Index := 0#32
  let c0_1027 : Index := 0#32
  ![v1421.toNat, 0, 0]

def k0_chk246 (v1420 : BitVec 32) : Prop :=
  (∀ a, (k0_off246 v1420) a + S1x1x256.size a ≤ S4001x1x256.size a)
theorem k0_off246_inb : ∀ (v1420 : BitVec 32) (k0_hw246 : k0_chk246 v1420), ∀ a, (k0_off246 v1420) a + S1x1x256.size a ≤ S4001x1x256.size a := fun v1420 k0_hw246 => k0_hw246

def k0_off247 (v1424 : BitVec 32) : Fin 3 → Nat :=
  let v1425 : Index := Scalar.indexCast v1424
  let c0_1030 : Index := 0#32
  let c0_1031 : Index := 0#32
  ![v1425.toNat, 0, 0]

def k0_chk247 (v1424 : BitVec 32) : Prop :=
  (∀ a, (k0_off247 v1424) a + S1x1x256.size a ≤ S4001x1x256.size a)
theorem k0_off247_inb : ∀ (v1424 : BitVec 32) (k0_hw247 : k0_chk247 v1424), ∀ a, (k0_off247 v1424) a + S1x1x256.size a ≤ S4001x1x256.size a := fun v1424 k0_hw247 => k0_hw247

def k0_off248 (v1428 : BitVec 32) : Fin 3 → Nat :=
  let v1429 : Index := Scalar.indexCast v1428
  let c0_1034 : Index := 0#32
  let c0_1035 : Index := 0#32
  ![v1429.toNat, 0, 0]

def k0_chk248 (v1428 : BitVec 32) : Prop :=
  (∀ a, (k0_off248 v1428) a + S1x1x256.size a ≤ S4001x1x256.size a)
theorem k0_off248_inb : ∀ (v1428 : BitVec 32) (k0_hw248 : k0_chk248 v1428), ∀ a, (k0_off248 v1428) a + S1x1x256.size a ≤ S4001x1x256.size a := fun v1428 k0_hw248 => k0_hw248

def k0_off249 (v1432 : BitVec 32) : Fin 3 → Nat :=
  let v1433 : Index := Scalar.indexCast v1432
  let c0_1038 : Index := 0#32
  let c0_1039 : Index := 0#32
  ![v1433.toNat, 0, 0]

def k0_chk249 (v1432 : BitVec 32) : Prop :=
  (∀ a, (k0_off249 v1432) a + S1x1x256.size a ≤ S4001x1x256.size a)
theorem k0_off249_inb : ∀ (v1432 : BitVec 32) (k0_hw249 : k0_chk249 v1432), ∀ a, (k0_off249 v1432) a + S1x1x256.size a ≤ S4001x1x256.size a := fun v1432 k0_hw249 => k0_hw249

def k0_off250 (v1436 : BitVec 32) : Fin 3 → Nat :=
  let v1437 : Index := Scalar.indexCast v1436
  let c0_1042 : Index := 0#32
  let c0_1043 : Index := 0#32
  ![v1437.toNat, 0, 0]

def k0_chk250 (v1436 : BitVec 32) : Prop :=
  (∀ a, (k0_off250 v1436) a + S1x1x256.size a ≤ S4001x1x256.size a)
theorem k0_off250_inb : ∀ (v1436 : BitVec 32) (k0_hw250 : k0_chk250 v1436), ∀ a, (k0_off250 v1436) a + S1x1x256.size a ≤ S4001x1x256.size a := fun v1436 k0_hw250 => k0_hw250

def k0_off251 (v1440 : BitVec 32) : Fin 3 → Nat :=
  let v1441 : Index := Scalar.indexCast v1440
  let c0_1046 : Index := 0#32
  let c0_1047 : Index := 0#32
  ![v1441.toNat, 0, 0]

def k0_chk251 (v1440 : BitVec 32) : Prop :=
  (∀ a, (k0_off251 v1440) a + S1x1x256.size a ≤ S4001x1x256.size a)
theorem k0_off251_inb : ∀ (v1440 : BitVec 32) (k0_hw251 : k0_chk251 v1440), ∀ a, (k0_off251 v1440) a + S1x1x256.size a ≤ S4001x1x256.size a := fun v1440 k0_hw251 => k0_hw251

def k0_off252 (v1444 : BitVec 32) : Fin 3 → Nat :=
  let v1445 : Index := Scalar.indexCast v1444
  let c0_1050 : Index := 0#32
  let c0_1051 : Index := 0#32
  ![v1445.toNat, 0, 0]

def k0_chk252 (v1444 : BitVec 32) : Prop :=
  (∀ a, (k0_off252 v1444) a + S1x1x256.size a ≤ S4001x1x256.size a)
theorem k0_off252_inb : ∀ (v1444 : BitVec 32) (k0_hw252 : k0_chk252 v1444), ∀ a, (k0_off252 v1444) a + S1x1x256.size a ≤ S4001x1x256.size a := fun v1444 k0_hw252 => k0_hw252

def k0_off253 (v1448 : BitVec 32) : Fin 3 → Nat :=
  let v1449 : Index := Scalar.indexCast v1448
  let c0_1054 : Index := 0#32
  let c0_1055 : Index := 0#32
  ![v1449.toNat, 0, 0]

def k0_chk253 (v1448 : BitVec 32) : Prop :=
  (∀ a, (k0_off253 v1448) a + S1x1x256.size a ≤ S4001x1x256.size a)
theorem k0_off253_inb : ∀ (v1448 : BitVec 32) (k0_hw253 : k0_chk253 v1448), ∀ a, (k0_off253 v1448) a + S1x1x256.size a ≤ S4001x1x256.size a := fun v1448 k0_hw253 => k0_hw253

def k0_off254 (v1452 : BitVec 32) : Fin 3 → Nat :=
  let v1453 : Index := Scalar.indexCast v1452
  let c0_1058 : Index := 0#32
  let c0_1059 : Index := 0#32
  ![v1453.toNat, 0, 0]

def k0_chk254 (v1452 : BitVec 32) : Prop :=
  (∀ a, (k0_off254 v1452) a + S1x1x256.size a ≤ S4001x1x256.size a)
theorem k0_off254_inb : ∀ (v1452 : BitVec 32) (k0_hw254 : k0_chk254 v1452), ∀ a, (k0_off254 v1452) a + S1x1x256.size a ≤ S4001x1x256.size a := fun v1452 k0_hw254 => k0_hw254

def k0_off255 (v1456 : BitVec 32) : Fin 3 → Nat :=
  let v1457 : Index := Scalar.indexCast v1456
  let c0_1062 : Index := 0#32
  let c0_1063 : Index := 0#32
  ![v1457.toNat, 0, 0]

def k0_chk255 (v1456 : BitVec 32) : Prop :=
  (∀ a, (k0_off255 v1456) a + S1x1x256.size a ≤ S4001x1x256.size a)
theorem k0_off255_inb : ∀ (v1456 : BitVec 32) (k0_hw255 : k0_chk255 v1456), ∀ a, (k0_off255 v1456) a + S1x1x256.size a ≤ S4001x1x256.size a := fun v1456 k0_hw255 => k0_hw255

def k0_off256 (v1460 : BitVec 32) : Fin 3 → Nat :=
  let v1461 : Index := Scalar.indexCast v1460
  let c0_1066 : Index := 0#32
  let c0_1067 : Index := 0#32
  ![v1461.toNat, 0, 0]

def k0_chk256 (v1460 : BitVec 32) : Prop :=
  (∀ a, (k0_off256 v1460) a + S1x1x256.size a ≤ S4001x1x256.size a)
theorem k0_off256_inb : ∀ (v1460 : BitVec 32) (k0_hw256 : k0_chk256 v1460), ∀ a, (k0_off256 v1460) a + S1x1x256.size a ≤ S4001x1x256.size a := fun v1460 k0_hw256 => k0_hw256

def k0_off257 (v1464 : BitVec 32) : Fin 3 → Nat :=
  let v1465 : Index := Scalar.indexCast v1464
  let c0_1070 : Index := 0#32
  let c0_1071 : Index := 0#32
  ![v1465.toNat, 0, 0]

def k0_chk257 (v1464 : BitVec 32) : Prop :=
  (∀ a, (k0_off257 v1464) a + S1x1x256.size a ≤ S4001x1x256.size a)
theorem k0_off257_inb : ∀ (v1464 : BitVec 32) (k0_hw257 : k0_chk257 v1464), ∀ a, (k0_off257 v1464) a + S1x1x256.size a ≤ S4001x1x256.size a := fun v1464 k0_hw257 => k0_hw257

def k0_off258 (v1468 : BitVec 32) : Fin 3 → Nat :=
  let v1469 : Index := Scalar.indexCast v1468
  let c0_1074 : Index := 0#32
  let c0_1075 : Index := 0#32
  ![v1469.toNat, 0, 0]

def k0_chk258 (v1468 : BitVec 32) : Prop :=
  (∀ a, (k0_off258 v1468) a + S1x1x256.size a ≤ S4001x1x256.size a)
theorem k0_off258_inb : ∀ (v1468 : BitVec 32) (k0_hw258 : k0_chk258 v1468), ∀ a, (k0_off258 v1468) a + S1x1x256.size a ≤ S4001x1x256.size a := fun v1468 k0_hw258 => k0_hw258

def k0_off259 (v1472 : BitVec 32) : Fin 3 → Nat :=
  let v1473 : Index := Scalar.indexCast v1472
  let c0_1078 : Index := 0#32
  let c0_1079 : Index := 0#32
  ![v1473.toNat, 0, 0]

def k0_chk259 (v1472 : BitVec 32) : Prop :=
  (∀ a, (k0_off259 v1472) a + S1x1x256.size a ≤ S4001x1x256.size a)
theorem k0_off259_inb : ∀ (v1472 : BitVec 32) (k0_hw259 : k0_chk259 v1472), ∀ a, (k0_off259 v1472) a + S1x1x256.size a ≤ S4001x1x256.size a := fun v1472 k0_hw259 => k0_hw259

def k0_off260 (v1476 : BitVec 32) : Fin 3 → Nat :=
  let v1477 : Index := Scalar.indexCast v1476
  let c0_1082 : Index := 0#32
  let c0_1083 : Index := 0#32
  ![v1477.toNat, 0, 0]

def k0_chk260 (v1476 : BitVec 32) : Prop :=
  (∀ a, (k0_off260 v1476) a + S1x1x256.size a ≤ S4001x1x256.size a)
theorem k0_off260_inb : ∀ (v1476 : BitVec 32) (k0_hw260 : k0_chk260 v1476), ∀ a, (k0_off260 v1476) a + S1x1x256.size a ≤ S4001x1x256.size a := fun v1476 k0_hw260 => k0_hw260

def k0_off261 (v1480 : BitVec 32) : Fin 3 → Nat :=
  let v1481 : Index := Scalar.indexCast v1480
  let c0_1086 : Index := 0#32
  let c0_1087 : Index := 0#32
  ![v1481.toNat, 0, 0]

def k0_chk261 (v1480 : BitVec 32) : Prop :=
  (∀ a, (k0_off261 v1480) a + S1x1x256.size a ≤ S4001x1x256.size a)
theorem k0_off261_inb : ∀ (v1480 : BitVec 32) (k0_hw261 : k0_chk261 v1480), ∀ a, (k0_off261 v1480) a + S1x1x256.size a ≤ S4001x1x256.size a := fun v1480 k0_hw261 => k0_hw261

def k0_off262 (v1484 : BitVec 32) : Fin 3 → Nat :=
  let v1485 : Index := Scalar.indexCast v1484
  let c0_1090 : Index := 0#32
  let c0_1091 : Index := 0#32
  ![v1485.toNat, 0, 0]

def k0_chk262 (v1484 : BitVec 32) : Prop :=
  (∀ a, (k0_off262 v1484) a + S1x1x256.size a ≤ S4001x1x256.size a)
theorem k0_off262_inb : ∀ (v1484 : BitVec 32) (k0_hw262 : k0_chk262 v1484), ∀ a, (k0_off262 v1484) a + S1x1x256.size a ≤ S4001x1x256.size a := fun v1484 k0_hw262 => k0_hw262

def k0_off263 (v1488 : BitVec 32) : Fin 3 → Nat :=
  let v1489 : Index := Scalar.indexCast v1488
  let c0_1094 : Index := 0#32
  let c0_1095 : Index := 0#32
  ![v1489.toNat, 0, 0]

def k0_chk263 (v1488 : BitVec 32) : Prop :=
  (∀ a, (k0_off263 v1488) a + S1x1x256.size a ≤ S4001x1x256.size a)
theorem k0_off263_inb : ∀ (v1488 : BitVec 32) (k0_hw263 : k0_chk263 v1488), ∀ a, (k0_off263 v1488) a + S1x1x256.size a ≤ S4001x1x256.size a := fun v1488 k0_hw263 => k0_hw263

def k0_off264 (v1492 : BitVec 32) : Fin 3 → Nat :=
  let v1493 : Index := Scalar.indexCast v1492
  let c0_1098 : Index := 0#32
  let c0_1099 : Index := 0#32
  ![v1493.toNat, 0, 0]

def k0_chk264 (v1492 : BitVec 32) : Prop :=
  (∀ a, (k0_off264 v1492) a + S1x1x256.size a ≤ S4001x1x256.size a)
theorem k0_off264_inb : ∀ (v1492 : BitVec 32) (k0_hw264 : k0_chk264 v1492), ∀ a, (k0_off264 v1492) a + S1x1x256.size a ≤ S4001x1x256.size a := fun v1492 k0_hw264 => k0_hw264

def k0_off265 (v1496 : BitVec 32) : Fin 3 → Nat :=
  let v1497 : Index := Scalar.indexCast v1496
  let c0_1102 : Index := 0#32
  let c0_1103 : Index := 0#32
  ![v1497.toNat, 0, 0]

def k0_chk265 (v1496 : BitVec 32) : Prop :=
  (∀ a, (k0_off265 v1496) a + S1x1x256.size a ≤ S4001x1x256.size a)
theorem k0_off265_inb : ∀ (v1496 : BitVec 32) (k0_hw265 : k0_chk265 v1496), ∀ a, (k0_off265 v1496) a + S1x1x256.size a ≤ S4001x1x256.size a := fun v1496 k0_hw265 => k0_hw265

def k0_off266 (v1500 : BitVec 32) : Fin 3 → Nat :=
  let v1501 : Index := Scalar.indexCast v1500
  let c0_1106 : Index := 0#32
  let c0_1107 : Index := 0#32
  ![v1501.toNat, 0, 0]

def k0_chk266 (v1500 : BitVec 32) : Prop :=
  (∀ a, (k0_off266 v1500) a + S1x1x256.size a ≤ S4001x1x256.size a)
theorem k0_off266_inb : ∀ (v1500 : BitVec 32) (k0_hw266 : k0_chk266 v1500), ∀ a, (k0_off266 v1500) a + S1x1x256.size a ≤ S4001x1x256.size a := fun v1500 k0_hw266 => k0_hw266

def k0_off267 (v1504 : BitVec 32) : Fin 3 → Nat :=
  let v1505 : Index := Scalar.indexCast v1504
  let c0_1110 : Index := 0#32
  let c0_1111 : Index := 0#32
  ![v1505.toNat, 0, 0]

def k0_chk267 (v1504 : BitVec 32) : Prop :=
  (∀ a, (k0_off267 v1504) a + S1x1x256.size a ≤ S4001x1x256.size a)
theorem k0_off267_inb : ∀ (v1504 : BitVec 32) (k0_hw267 : k0_chk267 v1504), ∀ a, (k0_off267 v1504) a + S1x1x256.size a ≤ S4001x1x256.size a := fun v1504 k0_hw267 => k0_hw267

def k0_off268 (v1508 : BitVec 32) : Fin 3 → Nat :=
  let v1509 : Index := Scalar.indexCast v1508
  let c0_1114 : Index := 0#32
  let c0_1115 : Index := 0#32
  ![v1509.toNat, 0, 0]

def k0_chk268 (v1508 : BitVec 32) : Prop :=
  (∀ a, (k0_off268 v1508) a + S1x1x256.size a ≤ S4001x1x256.size a)
theorem k0_off268_inb : ∀ (v1508 : BitVec 32) (k0_hw268 : k0_chk268 v1508), ∀ a, (k0_off268 v1508) a + S1x1x256.size a ≤ S4001x1x256.size a := fun v1508 k0_hw268 => k0_hw268

def k0_off269 (v1512 : BitVec 32) : Fin 3 → Nat :=
  let v1513 : Index := Scalar.indexCast v1512
  let c0_1118 : Index := 0#32
  let c0_1119 : Index := 0#32
  ![v1513.toNat, 0, 0]

def k0_chk269 (v1512 : BitVec 32) : Prop :=
  (∀ a, (k0_off269 v1512) a + S1x1x256.size a ≤ S4001x1x256.size a)
theorem k0_off269_inb : ∀ (v1512 : BitVec 32) (k0_hw269 : k0_chk269 v1512), ∀ a, (k0_off269 v1512) a + S1x1x256.size a ≤ S4001x1x256.size a := fun v1512 k0_hw269 => k0_hw269

def k0_off270 (v1516 : BitVec 32) : Fin 3 → Nat :=
  let v1517 : Index := Scalar.indexCast v1516
  let c0_1122 : Index := 0#32
  let c0_1123 : Index := 0#32
  ![v1517.toNat, 0, 0]

def k0_chk270 (v1516 : BitVec 32) : Prop :=
  (∀ a, (k0_off270 v1516) a + S1x1x256.size a ≤ S4001x1x256.size a)
theorem k0_off270_inb : ∀ (v1516 : BitVec 32) (k0_hw270 : k0_chk270 v1516), ∀ a, (k0_off270 v1516) a + S1x1x256.size a ≤ S4001x1x256.size a := fun v1516 k0_hw270 => k0_hw270

def k0_off271 (v1520 : BitVec 32) : Fin 3 → Nat :=
  let v1521 : Index := Scalar.indexCast v1520
  let c0_1126 : Index := 0#32
  let c0_1127 : Index := 0#32
  ![v1521.toNat, 0, 0]

def k0_chk271 (v1520 : BitVec 32) : Prop :=
  (∀ a, (k0_off271 v1520) a + S1x1x256.size a ≤ S4001x1x256.size a)
theorem k0_off271_inb : ∀ (v1520 : BitVec 32) (k0_hw271 : k0_chk271 v1520), ∀ a, (k0_off271 v1520) a + S1x1x256.size a ≤ S4001x1x256.size a := fun v1520 k0_hw271 => k0_hw271

def k0_off272 (v1524 : BitVec 32) : Fin 3 → Nat :=
  let v1525 : Index := Scalar.indexCast v1524
  let c0_1130 : Index := 0#32
  let c0_1131 : Index := 0#32
  ![v1525.toNat, 0, 0]

def k0_chk272 (v1524 : BitVec 32) : Prop :=
  (∀ a, (k0_off272 v1524) a + S1x1x256.size a ≤ S4001x1x256.size a)
theorem k0_off272_inb : ∀ (v1524 : BitVec 32) (k0_hw272 : k0_chk272 v1524), ∀ a, (k0_off272 v1524) a + S1x1x256.size a ≤ S4001x1x256.size a := fun v1524 k0_hw272 => k0_hw272

def k0_off273 (v1528 : BitVec 32) : Fin 3 → Nat :=
  let v1529 : Index := Scalar.indexCast v1528
  let c0_1134 : Index := 0#32
  let c0_1135 : Index := 0#32
  ![v1529.toNat, 0, 0]

def k0_chk273 (v1528 : BitVec 32) : Prop :=
  (∀ a, (k0_off273 v1528) a + S1x1x256.size a ≤ S4001x1x256.size a)
theorem k0_off273_inb : ∀ (v1528 : BitVec 32) (k0_hw273 : k0_chk273 v1528), ∀ a, (k0_off273 v1528) a + S1x1x256.size a ≤ S4001x1x256.size a := fun v1528 k0_hw273 => k0_hw273

def k0_off274 (v1532 : BitVec 32) : Fin 3 → Nat :=
  let v1533 : Index := Scalar.indexCast v1532
  let c0_1138 : Index := 0#32
  let c0_1139 : Index := 0#32
  ![v1533.toNat, 0, 0]

def k0_chk274 (v1532 : BitVec 32) : Prop :=
  (∀ a, (k0_off274 v1532) a + S1x1x256.size a ≤ S4001x1x256.size a)
theorem k0_off274_inb : ∀ (v1532 : BitVec 32) (k0_hw274 : k0_chk274 v1532), ∀ a, (k0_off274 v1532) a + S1x1x256.size a ≤ S4001x1x256.size a := fun v1532 k0_hw274 => k0_hw274

def k0_off275 (v1536 : BitVec 32) : Fin 3 → Nat :=
  let v1537 : Index := Scalar.indexCast v1536
  let c0_1142 : Index := 0#32
  let c0_1143 : Index := 0#32
  ![v1537.toNat, 0, 0]

def k0_chk275 (v1536 : BitVec 32) : Prop :=
  (∀ a, (k0_off275 v1536) a + S1x1x256.size a ≤ S4001x1x256.size a)
theorem k0_off275_inb : ∀ (v1536 : BitVec 32) (k0_hw275 : k0_chk275 v1536), ∀ a, (k0_off275 v1536) a + S1x1x256.size a ≤ S4001x1x256.size a := fun v1536 k0_hw275 => k0_hw275

def k0_off276 (v1540 : BitVec 32) : Fin 3 → Nat :=
  let v1541 : Index := Scalar.indexCast v1540
  let c0_1146 : Index := 0#32
  let c0_1147 : Index := 0#32
  ![v1541.toNat, 0, 0]

def k0_chk276 (v1540 : BitVec 32) : Prop :=
  (∀ a, (k0_off276 v1540) a + S1x1x256.size a ≤ S4001x1x256.size a)
theorem k0_off276_inb : ∀ (v1540 : BitVec 32) (k0_hw276 : k0_chk276 v1540), ∀ a, (k0_off276 v1540) a + S1x1x256.size a ≤ S4001x1x256.size a := fun v1540 k0_hw276 => k0_hw276

def k0_off277 (v1544 : BitVec 32) : Fin 3 → Nat :=
  let v1545 : Index := Scalar.indexCast v1544
  let c0_1150 : Index := 0#32
  let c0_1151 : Index := 0#32
  ![v1545.toNat, 0, 0]

def k0_chk277 (v1544 : BitVec 32) : Prop :=
  (∀ a, (k0_off277 v1544) a + S1x1x256.size a ≤ S4001x1x256.size a)
theorem k0_off277_inb : ∀ (v1544 : BitVec 32) (k0_hw277 : k0_chk277 v1544), ∀ a, (k0_off277 v1544) a + S1x1x256.size a ≤ S4001x1x256.size a := fun v1544 k0_hw277 => k0_hw277

def k0_off278 (v1548 : BitVec 32) : Fin 3 → Nat :=
  let v1549 : Index := Scalar.indexCast v1548
  let c0_1154 : Index := 0#32
  let c0_1155 : Index := 0#32
  ![v1549.toNat, 0, 0]

def k0_chk278 (v1548 : BitVec 32) : Prop :=
  (∀ a, (k0_off278 v1548) a + S1x1x256.size a ≤ S4001x1x256.size a)
theorem k0_off278_inb : ∀ (v1548 : BitVec 32) (k0_hw278 : k0_chk278 v1548), ∀ a, (k0_off278 v1548) a + S1x1x256.size a ≤ S4001x1x256.size a := fun v1548 k0_hw278 => k0_hw278

def k0_off279 (v1552 : BitVec 32) : Fin 3 → Nat :=
  let v1553 : Index := Scalar.indexCast v1552
  let c0_1158 : Index := 0#32
  let c0_1159 : Index := 0#32
  ![v1553.toNat, 0, 0]

def k0_chk279 (v1552 : BitVec 32) : Prop :=
  (∀ a, (k0_off279 v1552) a + S1x1x256.size a ≤ S4001x1x256.size a)
theorem k0_off279_inb : ∀ (v1552 : BitVec 32) (k0_hw279 : k0_chk279 v1552), ∀ a, (k0_off279 v1552) a + S1x1x256.size a ≤ S4001x1x256.size a := fun v1552 k0_hw279 => k0_hw279

def k0_off280 (v1556 : BitVec 32) : Fin 3 → Nat :=
  let v1557 : Index := Scalar.indexCast v1556
  let c0_1162 : Index := 0#32
  let c0_1163 : Index := 0#32
  ![v1557.toNat, 0, 0]

def k0_chk280 (v1556 : BitVec 32) : Prop :=
  (∀ a, (k0_off280 v1556) a + S1x1x256.size a ≤ S4001x1x256.size a)
theorem k0_off280_inb : ∀ (v1556 : BitVec 32) (k0_hw280 : k0_chk280 v1556), ∀ a, (k0_off280 v1556) a + S1x1x256.size a ≤ S4001x1x256.size a := fun v1556 k0_hw280 => k0_hw280

def k0_off281 (v1599 : BitVec 32) : Fin 3 → Nat :=
  let v1600 : Index := Scalar.indexCast v1599
  let c0_1166 : Index := 0#32
  let c0_1167 : Index := 0#32
  ![v1600.toNat, 0, 0]

def k0_chk281 (v1599 : BitVec 32) : Prop :=
  (∀ a, (k0_off281 v1599) a + S1x1x256.size a ≤ S4001x1x256.size a)
theorem k0_off281_inb : ∀ (v1599 : BitVec 32) (k0_hw281 : k0_chk281 v1599), ∀ a, (k0_off281 v1599) a + S1x1x256.size a ≤ S4001x1x256.size a := fun v1599 k0_hw281 => k0_hw281

def k0_off282 (v1603 : BitVec 32) : Fin 3 → Nat :=
  let v1604 : Index := Scalar.indexCast v1603
  let c0_1170 : Index := 0#32
  let c0_1171 : Index := 0#32
  ![v1604.toNat, 0, 0]

def k0_chk282 (v1603 : BitVec 32) : Prop :=
  (∀ a, (k0_off282 v1603) a + S1x1x256.size a ≤ S4001x1x256.size a)
theorem k0_off282_inb : ∀ (v1603 : BitVec 32) (k0_hw282 : k0_chk282 v1603), ∀ a, (k0_off282 v1603) a + S1x1x256.size a ≤ S4001x1x256.size a := fun v1603 k0_hw282 => k0_hw282

def k0_off283 (v1607 : BitVec 32) : Fin 3 → Nat :=
  let v1608 : Index := Scalar.indexCast v1607
  let c0_1174 : Index := 0#32
  let c0_1175 : Index := 0#32
  ![v1608.toNat, 0, 0]

def k0_chk283 (v1607 : BitVec 32) : Prop :=
  (∀ a, (k0_off283 v1607) a + S1x1x256.size a ≤ S4001x1x256.size a)
theorem k0_off283_inb : ∀ (v1607 : BitVec 32) (k0_hw283 : k0_chk283 v1607), ∀ a, (k0_off283 v1607) a + S1x1x256.size a ≤ S4001x1x256.size a := fun v1607 k0_hw283 => k0_hw283

def k0_off284 (v1611 : BitVec 32) : Fin 3 → Nat :=
  let v1612 : Index := Scalar.indexCast v1611
  let c0_1178 : Index := 0#32
  let c0_1179 : Index := 0#32
  ![v1612.toNat, 0, 0]

def k0_chk284 (v1611 : BitVec 32) : Prop :=
  (∀ a, (k0_off284 v1611) a + S1x1x256.size a ≤ S4001x1x256.size a)
theorem k0_off284_inb : ∀ (v1611 : BitVec 32) (k0_hw284 : k0_chk284 v1611), ∀ a, (k0_off284 v1611) a + S1x1x256.size a ≤ S4001x1x256.size a := fun v1611 k0_hw284 => k0_hw284

def k0_off285 (v1615 : BitVec 32) : Fin 3 → Nat :=
  let v1616 : Index := Scalar.indexCast v1615
  let c0_1182 : Index := 0#32
  let c0_1183 : Index := 0#32
  ![v1616.toNat, 0, 0]

def k0_chk285 (v1615 : BitVec 32) : Prop :=
  (∀ a, (k0_off285 v1615) a + S1x1x256.size a ≤ S4001x1x256.size a)
theorem k0_off285_inb : ∀ (v1615 : BitVec 32) (k0_hw285 : k0_chk285 v1615), ∀ a, (k0_off285 v1615) a + S1x1x256.size a ≤ S4001x1x256.size a := fun v1615 k0_hw285 => k0_hw285

def k0_off286 (v1619 : BitVec 32) : Fin 3 → Nat :=
  let v1620 : Index := Scalar.indexCast v1619
  let c0_1186 : Index := 0#32
  let c0_1187 : Index := 0#32
  ![v1620.toNat, 0, 0]

def k0_chk286 (v1619 : BitVec 32) : Prop :=
  (∀ a, (k0_off286 v1619) a + S1x1x256.size a ≤ S4001x1x256.size a)
theorem k0_off286_inb : ∀ (v1619 : BitVec 32) (k0_hw286 : k0_chk286 v1619), ∀ a, (k0_off286 v1619) a + S1x1x256.size a ≤ S4001x1x256.size a := fun v1619 k0_hw286 => k0_hw286

def k0_off287 (v1623 : BitVec 32) : Fin 3 → Nat :=
  let v1624 : Index := Scalar.indexCast v1623
  let c0_1190 : Index := 0#32
  let c0_1191 : Index := 0#32
  ![v1624.toNat, 0, 0]

def k0_chk287 (v1623 : BitVec 32) : Prop :=
  (∀ a, (k0_off287 v1623) a + S1x1x256.size a ≤ S4001x1x256.size a)
theorem k0_off287_inb : ∀ (v1623 : BitVec 32) (k0_hw287 : k0_chk287 v1623), ∀ a, (k0_off287 v1623) a + S1x1x256.size a ≤ S4001x1x256.size a := fun v1623 k0_hw287 => k0_hw287

def k0_off288 (v1627 : BitVec 32) : Fin 3 → Nat :=
  let v1628 : Index := Scalar.indexCast v1627
  let c0_1194 : Index := 0#32
  let c0_1195 : Index := 0#32
  ![v1628.toNat, 0, 0]

def k0_chk288 (v1627 : BitVec 32) : Prop :=
  (∀ a, (k0_off288 v1627) a + S1x1x256.size a ≤ S4001x1x256.size a)
theorem k0_off288_inb : ∀ (v1627 : BitVec 32) (k0_hw288 : k0_chk288 v1627), ∀ a, (k0_off288 v1627) a + S1x1x256.size a ≤ S4001x1x256.size a := fun v1627 k0_hw288 => k0_hw288

def k0_off289 (v1631 : BitVec 32) : Fin 3 → Nat :=
  let v1632 : Index := Scalar.indexCast v1631
  let c0_1198 : Index := 0#32
  let c0_1199 : Index := 0#32
  ![v1632.toNat, 0, 0]

def k0_chk289 (v1631 : BitVec 32) : Prop :=
  (∀ a, (k0_off289 v1631) a + S1x1x256.size a ≤ S4001x1x256.size a)
theorem k0_off289_inb : ∀ (v1631 : BitVec 32) (k0_hw289 : k0_chk289 v1631), ∀ a, (k0_off289 v1631) a + S1x1x256.size a ≤ S4001x1x256.size a := fun v1631 k0_hw289 => k0_hw289

def k0_off290 (v1635 : BitVec 32) : Fin 3 → Nat :=
  let v1636 : Index := Scalar.indexCast v1635
  let c0_1202 : Index := 0#32
  let c0_1203 : Index := 0#32
  ![v1636.toNat, 0, 0]

def k0_chk290 (v1635 : BitVec 32) : Prop :=
  (∀ a, (k0_off290 v1635) a + S1x1x256.size a ≤ S4001x1x256.size a)
theorem k0_off290_inb : ∀ (v1635 : BitVec 32) (k0_hw290 : k0_chk290 v1635), ∀ a, (k0_off290 v1635) a + S1x1x256.size a ≤ S4001x1x256.size a := fun v1635 k0_hw290 => k0_hw290

def k0_off291 (v1639 : BitVec 32) : Fin 3 → Nat :=
  let v1640 : Index := Scalar.indexCast v1639
  let c0_1206 : Index := 0#32
  let c0_1207 : Index := 0#32
  ![v1640.toNat, 0, 0]

def k0_chk291 (v1639 : BitVec 32) : Prop :=
  (∀ a, (k0_off291 v1639) a + S1x1x256.size a ≤ S4001x1x256.size a)
theorem k0_off291_inb : ∀ (v1639 : BitVec 32) (k0_hw291 : k0_chk291 v1639), ∀ a, (k0_off291 v1639) a + S1x1x256.size a ≤ S4001x1x256.size a := fun v1639 k0_hw291 => k0_hw291

def k0_off292 (v1643 : BitVec 32) : Fin 3 → Nat :=
  let v1644 : Index := Scalar.indexCast v1643
  let c0_1210 : Index := 0#32
  let c0_1211 : Index := 0#32
  ![v1644.toNat, 0, 0]

def k0_chk292 (v1643 : BitVec 32) : Prop :=
  (∀ a, (k0_off292 v1643) a + S1x1x256.size a ≤ S4001x1x256.size a)
theorem k0_off292_inb : ∀ (v1643 : BitVec 32) (k0_hw292 : k0_chk292 v1643), ∀ a, (k0_off292 v1643) a + S1x1x256.size a ≤ S4001x1x256.size a := fun v1643 k0_hw292 => k0_hw292

def k0_off293 (v1647 : BitVec 32) : Fin 3 → Nat :=
  let v1648 : Index := Scalar.indexCast v1647
  let c0_1214 : Index := 0#32
  let c0_1215 : Index := 0#32
  ![v1648.toNat, 0, 0]

def k0_chk293 (v1647 : BitVec 32) : Prop :=
  (∀ a, (k0_off293 v1647) a + S1x1x256.size a ≤ S4001x1x256.size a)
theorem k0_off293_inb : ∀ (v1647 : BitVec 32) (k0_hw293 : k0_chk293 v1647), ∀ a, (k0_off293 v1647) a + S1x1x256.size a ≤ S4001x1x256.size a := fun v1647 k0_hw293 => k0_hw293

def k0_off294 (v1651 : BitVec 32) : Fin 3 → Nat :=
  let v1652 : Index := Scalar.indexCast v1651
  let c0_1218 : Index := 0#32
  let c0_1219 : Index := 0#32
  ![v1652.toNat, 0, 0]

def k0_chk294 (v1651 : BitVec 32) : Prop :=
  (∀ a, (k0_off294 v1651) a + S1x1x256.size a ≤ S4001x1x256.size a)
theorem k0_off294_inb : ∀ (v1651 : BitVec 32) (k0_hw294 : k0_chk294 v1651), ∀ a, (k0_off294 v1651) a + S1x1x256.size a ≤ S4001x1x256.size a := fun v1651 k0_hw294 => k0_hw294

def k0_off295 (v1655 : BitVec 32) : Fin 3 → Nat :=
  let v1656 : Index := Scalar.indexCast v1655
  let c0_1222 : Index := 0#32
  let c0_1223 : Index := 0#32
  ![v1656.toNat, 0, 0]

def k0_chk295 (v1655 : BitVec 32) : Prop :=
  (∀ a, (k0_off295 v1655) a + S1x1x256.size a ≤ S4001x1x256.size a)
theorem k0_off295_inb : ∀ (v1655 : BitVec 32) (k0_hw295 : k0_chk295 v1655), ∀ a, (k0_off295 v1655) a + S1x1x256.size a ≤ S4001x1x256.size a := fun v1655 k0_hw295 => k0_hw295

def k0_off296 (v1659 : BitVec 32) : Fin 3 → Nat :=
  let v1660 : Index := Scalar.indexCast v1659
  let c0_1226 : Index := 0#32
  let c0_1227 : Index := 0#32
  ![v1660.toNat, 0, 0]

def k0_chk296 (v1659 : BitVec 32) : Prop :=
  (∀ a, (k0_off296 v1659) a + S1x1x256.size a ≤ S4001x1x256.size a)
theorem k0_off296_inb : ∀ (v1659 : BitVec 32) (k0_hw296 : k0_chk296 v1659), ∀ a, (k0_off296 v1659) a + S1x1x256.size a ≤ S4001x1x256.size a := fun v1659 k0_hw296 => k0_hw296

def k0_off297 (v1663 : BitVec 32) : Fin 3 → Nat :=
  let v1664 : Index := Scalar.indexCast v1663
  let c0_1230 : Index := 0#32
  let c0_1231 : Index := 0#32
  ![v1664.toNat, 0, 0]

def k0_chk297 (v1663 : BitVec 32) : Prop :=
  (∀ a, (k0_off297 v1663) a + S1x1x256.size a ≤ S4001x1x256.size a)
theorem k0_off297_inb : ∀ (v1663 : BitVec 32) (k0_hw297 : k0_chk297 v1663), ∀ a, (k0_off297 v1663) a + S1x1x256.size a ≤ S4001x1x256.size a := fun v1663 k0_hw297 => k0_hw297

def k0_off298 (v1667 : BitVec 32) : Fin 3 → Nat :=
  let v1668 : Index := Scalar.indexCast v1667
  let c0_1234 : Index := 0#32
  let c0_1235 : Index := 0#32
  ![v1668.toNat, 0, 0]

def k0_chk298 (v1667 : BitVec 32) : Prop :=
  (∀ a, (k0_off298 v1667) a + S1x1x256.size a ≤ S4001x1x256.size a)
theorem k0_off298_inb : ∀ (v1667 : BitVec 32) (k0_hw298 : k0_chk298 v1667), ∀ a, (k0_off298 v1667) a + S1x1x256.size a ≤ S4001x1x256.size a := fun v1667 k0_hw298 => k0_hw298

def k0_off299 (v1671 : BitVec 32) : Fin 3 → Nat :=
  let v1672 : Index := Scalar.indexCast v1671
  let c0_1238 : Index := 0#32
  let c0_1239 : Index := 0#32
  ![v1672.toNat, 0, 0]

def k0_chk299 (v1671 : BitVec 32) : Prop :=
  (∀ a, (k0_off299 v1671) a + S1x1x256.size a ≤ S4001x1x256.size a)
theorem k0_off299_inb : ∀ (v1671 : BitVec 32) (k0_hw299 : k0_chk299 v1671), ∀ a, (k0_off299 v1671) a + S1x1x256.size a ≤ S4001x1x256.size a := fun v1671 k0_hw299 => k0_hw299

def k0_off300 (v1675 : BitVec 32) : Fin 3 → Nat :=
  let v1676 : Index := Scalar.indexCast v1675
  let c0_1242 : Index := 0#32
  let c0_1243 : Index := 0#32
  ![v1676.toNat, 0, 0]

def k0_chk300 (v1675 : BitVec 32) : Prop :=
  (∀ a, (k0_off300 v1675) a + S1x1x256.size a ≤ S4001x1x256.size a)
theorem k0_off300_inb : ∀ (v1675 : BitVec 32) (k0_hw300 : k0_chk300 v1675), ∀ a, (k0_off300 v1675) a + S1x1x256.size a ≤ S4001x1x256.size a := fun v1675 k0_hw300 => k0_hw300

def k0_off301 (v1679 : BitVec 32) : Fin 3 → Nat :=
  let v1680 : Index := Scalar.indexCast v1679
  let c0_1246 : Index := 0#32
  let c0_1247 : Index := 0#32
  ![v1680.toNat, 0, 0]

def k0_chk301 (v1679 : BitVec 32) : Prop :=
  (∀ a, (k0_off301 v1679) a + S1x1x256.size a ≤ S4001x1x256.size a)
theorem k0_off301_inb : ∀ (v1679 : BitVec 32) (k0_hw301 : k0_chk301 v1679), ∀ a, (k0_off301 v1679) a + S1x1x256.size a ≤ S4001x1x256.size a := fun v1679 k0_hw301 => k0_hw301

def k0_off302 (v1683 : BitVec 32) : Fin 3 → Nat :=
  let v1684 : Index := Scalar.indexCast v1683
  let c0_1250 : Index := 0#32
  let c0_1251 : Index := 0#32
  ![v1684.toNat, 0, 0]

def k0_chk302 (v1683 : BitVec 32) : Prop :=
  (∀ a, (k0_off302 v1683) a + S1x1x256.size a ≤ S4001x1x256.size a)
theorem k0_off302_inb : ∀ (v1683 : BitVec 32) (k0_hw302 : k0_chk302 v1683), ∀ a, (k0_off302 v1683) a + S1x1x256.size a ≤ S4001x1x256.size a := fun v1683 k0_hw302 => k0_hw302

def k0_off303 (v1687 : BitVec 32) : Fin 3 → Nat :=
  let v1688 : Index := Scalar.indexCast v1687
  let c0_1254 : Index := 0#32
  let c0_1255 : Index := 0#32
  ![v1688.toNat, 0, 0]

def k0_chk303 (v1687 : BitVec 32) : Prop :=
  (∀ a, (k0_off303 v1687) a + S1x1x256.size a ≤ S4001x1x256.size a)
theorem k0_off303_inb : ∀ (v1687 : BitVec 32) (k0_hw303 : k0_chk303 v1687), ∀ a, (k0_off303 v1687) a + S1x1x256.size a ≤ S4001x1x256.size a := fun v1687 k0_hw303 => k0_hw303

def k0_off304 (v1691 : BitVec 32) : Fin 3 → Nat :=
  let v1692 : Index := Scalar.indexCast v1691
  let c0_1258 : Index := 0#32
  let c0_1259 : Index := 0#32
  ![v1692.toNat, 0, 0]

def k0_chk304 (v1691 : BitVec 32) : Prop :=
  (∀ a, (k0_off304 v1691) a + S1x1x256.size a ≤ S4001x1x256.size a)
theorem k0_off304_inb : ∀ (v1691 : BitVec 32) (k0_hw304 : k0_chk304 v1691), ∀ a, (k0_off304 v1691) a + S1x1x256.size a ≤ S4001x1x256.size a := fun v1691 k0_hw304 => k0_hw304

def k0_off305 (v1695 : BitVec 32) : Fin 3 → Nat :=
  let v1696 : Index := Scalar.indexCast v1695
  let c0_1262 : Index := 0#32
  let c0_1263 : Index := 0#32
  ![v1696.toNat, 0, 0]

def k0_chk305 (v1695 : BitVec 32) : Prop :=
  (∀ a, (k0_off305 v1695) a + S1x1x256.size a ≤ S4001x1x256.size a)
theorem k0_off305_inb : ∀ (v1695 : BitVec 32) (k0_hw305 : k0_chk305 v1695), ∀ a, (k0_off305 v1695) a + S1x1x256.size a ≤ S4001x1x256.size a := fun v1695 k0_hw305 => k0_hw305

def k0_off306 (v1699 : BitVec 32) : Fin 3 → Nat :=
  let v1700 : Index := Scalar.indexCast v1699
  let c0_1266 : Index := 0#32
  let c0_1267 : Index := 0#32
  ![v1700.toNat, 0, 0]

def k0_chk306 (v1699 : BitVec 32) : Prop :=
  (∀ a, (k0_off306 v1699) a + S1x1x256.size a ≤ S4001x1x256.size a)
theorem k0_off306_inb : ∀ (v1699 : BitVec 32) (k0_hw306 : k0_chk306 v1699), ∀ a, (k0_off306 v1699) a + S1x1x256.size a ≤ S4001x1x256.size a := fun v1699 k0_hw306 => k0_hw306

def k0_off307 (v1703 : BitVec 32) : Fin 3 → Nat :=
  let v1704 : Index := Scalar.indexCast v1703
  let c0_1270 : Index := 0#32
  let c0_1271 : Index := 0#32
  ![v1704.toNat, 0, 0]

def k0_chk307 (v1703 : BitVec 32) : Prop :=
  (∀ a, (k0_off307 v1703) a + S1x1x256.size a ≤ S4001x1x256.size a)
theorem k0_off307_inb : ∀ (v1703 : BitVec 32) (k0_hw307 : k0_chk307 v1703), ∀ a, (k0_off307 v1703) a + S1x1x256.size a ≤ S4001x1x256.size a := fun v1703 k0_hw307 => k0_hw307

def k0_off308 (v1707 : BitVec 32) : Fin 3 → Nat :=
  let v1708 : Index := Scalar.indexCast v1707
  let c0_1274 : Index := 0#32
  let c0_1275 : Index := 0#32
  ![v1708.toNat, 0, 0]

def k0_chk308 (v1707 : BitVec 32) : Prop :=
  (∀ a, (k0_off308 v1707) a + S1x1x256.size a ≤ S4001x1x256.size a)
theorem k0_off308_inb : ∀ (v1707 : BitVec 32) (k0_hw308 : k0_chk308 v1707), ∀ a, (k0_off308 v1707) a + S1x1x256.size a ≤ S4001x1x256.size a := fun v1707 k0_hw308 => k0_hw308

def k0_off309 (v1711 : BitVec 32) : Fin 3 → Nat :=
  let v1712 : Index := Scalar.indexCast v1711
  let c0_1278 : Index := 0#32
  let c0_1279 : Index := 0#32
  ![v1712.toNat, 0, 0]

def k0_chk309 (v1711 : BitVec 32) : Prop :=
  (∀ a, (k0_off309 v1711) a + S1x1x256.size a ≤ S4001x1x256.size a)
theorem k0_off309_inb : ∀ (v1711 : BitVec 32) (k0_hw309 : k0_chk309 v1711), ∀ a, (k0_off309 v1711) a + S1x1x256.size a ≤ S4001x1x256.size a := fun v1711 k0_hw309 => k0_hw309

def k0_off310 (v1715 : BitVec 32) : Fin 3 → Nat :=
  let v1716 : Index := Scalar.indexCast v1715
  let c0_1282 : Index := 0#32
  let c0_1283 : Index := 0#32
  ![v1716.toNat, 0, 0]

def k0_chk310 (v1715 : BitVec 32) : Prop :=
  (∀ a, (k0_off310 v1715) a + S1x1x256.size a ≤ S4001x1x256.size a)
theorem k0_off310_inb : ∀ (v1715 : BitVec 32) (k0_hw310 : k0_chk310 v1715), ∀ a, (k0_off310 v1715) a + S1x1x256.size a ≤ S4001x1x256.size a := fun v1715 k0_hw310 => k0_hw310

def k0_off311 (v1719 : BitVec 32) : Fin 3 → Nat :=
  let v1720 : Index := Scalar.indexCast v1719
  let c0_1286 : Index := 0#32
  let c0_1287 : Index := 0#32
  ![v1720.toNat, 0, 0]

def k0_chk311 (v1719 : BitVec 32) : Prop :=
  (∀ a, (k0_off311 v1719) a + S1x1x256.size a ≤ S4001x1x256.size a)
theorem k0_off311_inb : ∀ (v1719 : BitVec 32) (k0_hw311 : k0_chk311 v1719), ∀ a, (k0_off311 v1719) a + S1x1x256.size a ≤ S4001x1x256.size a := fun v1719 k0_hw311 => k0_hw311

def k0_off312 (v1723 : BitVec 32) : Fin 3 → Nat :=
  let v1724 : Index := Scalar.indexCast v1723
  let c0_1290 : Index := 0#32
  let c0_1291 : Index := 0#32
  ![v1724.toNat, 0, 0]

def k0_chk312 (v1723 : BitVec 32) : Prop :=
  (∀ a, (k0_off312 v1723) a + S1x1x256.size a ≤ S4001x1x256.size a)
theorem k0_off312_inb : ∀ (v1723 : BitVec 32) (k0_hw312 : k0_chk312 v1723), ∀ a, (k0_off312 v1723) a + S1x1x256.size a ≤ S4001x1x256.size a := fun v1723 k0_hw312 => k0_hw312

def k0_off313 (v1727 : BitVec 32) : Fin 3 → Nat :=
  let v1728 : Index := Scalar.indexCast v1727
  let c0_1294 : Index := 0#32
  let c0_1295 : Index := 0#32
  ![v1728.toNat, 0, 0]

def k0_chk313 (v1727 : BitVec 32) : Prop :=
  (∀ a, (k0_off313 v1727) a + S1x1x256.size a ≤ S4001x1x256.size a)
theorem k0_off313_inb : ∀ (v1727 : BitVec 32) (k0_hw313 : k0_chk313 v1727), ∀ a, (k0_off313 v1727) a + S1x1x256.size a ≤ S4001x1x256.size a := fun v1727 k0_hw313 => k0_hw313

def k0_off314 (v1731 : BitVec 32) : Fin 3 → Nat :=
  let v1732 : Index := Scalar.indexCast v1731
  let c0_1298 : Index := 0#32
  let c0_1299 : Index := 0#32
  ![v1732.toNat, 0, 0]

def k0_chk314 (v1731 : BitVec 32) : Prop :=
  (∀ a, (k0_off314 v1731) a + S1x1x256.size a ≤ S4001x1x256.size a)
theorem k0_off314_inb : ∀ (v1731 : BitVec 32) (k0_hw314 : k0_chk314 v1731), ∀ a, (k0_off314 v1731) a + S1x1x256.size a ≤ S4001x1x256.size a := fun v1731 k0_hw314 => k0_hw314

def k0_off315 (v1735 : BitVec 32) : Fin 3 → Nat :=
  let v1736 : Index := Scalar.indexCast v1735
  let c0_1302 : Index := 0#32
  let c0_1303 : Index := 0#32
  ![v1736.toNat, 0, 0]

def k0_chk315 (v1735 : BitVec 32) : Prop :=
  (∀ a, (k0_off315 v1735) a + S1x1x256.size a ≤ S4001x1x256.size a)
theorem k0_off315_inb : ∀ (v1735 : BitVec 32) (k0_hw315 : k0_chk315 v1735), ∀ a, (k0_off315 v1735) a + S1x1x256.size a ≤ S4001x1x256.size a := fun v1735 k0_hw315 => k0_hw315

def k0_off316 (v1739 : BitVec 32) : Fin 3 → Nat :=
  let v1740 : Index := Scalar.indexCast v1739
  let c0_1306 : Index := 0#32
  let c0_1307 : Index := 0#32
  ![v1740.toNat, 0, 0]

def k0_chk316 (v1739 : BitVec 32) : Prop :=
  (∀ a, (k0_off316 v1739) a + S1x1x256.size a ≤ S4001x1x256.size a)
theorem k0_off316_inb : ∀ (v1739 : BitVec 32) (k0_hw316 : k0_chk316 v1739), ∀ a, (k0_off316 v1739) a + S1x1x256.size a ≤ S4001x1x256.size a := fun v1739 k0_hw316 => k0_hw316

def k0_off317 (v1743 : BitVec 32) : Fin 3 → Nat :=
  let v1744 : Index := Scalar.indexCast v1743
  let c0_1310 : Index := 0#32
  let c0_1311 : Index := 0#32
  ![v1744.toNat, 0, 0]

def k0_chk317 (v1743 : BitVec 32) : Prop :=
  (∀ a, (k0_off317 v1743) a + S1x1x256.size a ≤ S4001x1x256.size a)
theorem k0_off317_inb : ∀ (v1743 : BitVec 32) (k0_hw317 : k0_chk317 v1743), ∀ a, (k0_off317 v1743) a + S1x1x256.size a ≤ S4001x1x256.size a := fun v1743 k0_hw317 => k0_hw317

def k0_off318 (v1747 : BitVec 32) : Fin 3 → Nat :=
  let v1748 : Index := Scalar.indexCast v1747
  let c0_1314 : Index := 0#32
  let c0_1315 : Index := 0#32
  ![v1748.toNat, 0, 0]

def k0_chk318 (v1747 : BitVec 32) : Prop :=
  (∀ a, (k0_off318 v1747) a + S1x1x256.size a ≤ S4001x1x256.size a)
theorem k0_off318_inb : ∀ (v1747 : BitVec 32) (k0_hw318 : k0_chk318 v1747), ∀ a, (k0_off318 v1747) a + S1x1x256.size a ≤ S4001x1x256.size a := fun v1747 k0_hw318 => k0_hw318

def k0_off319 (v1751 : BitVec 32) : Fin 3 → Nat :=
  let v1752 : Index := Scalar.indexCast v1751
  let c0_1318 : Index := 0#32
  let c0_1319 : Index := 0#32
  ![v1752.toNat, 0, 0]

def k0_chk319 (v1751 : BitVec 32) : Prop :=
  (∀ a, (k0_off319 v1751) a + S1x1x256.size a ≤ S4001x1x256.size a)
theorem k0_off319_inb : ∀ (v1751 : BitVec 32) (k0_hw319 : k0_chk319 v1751), ∀ a, (k0_off319 v1751) a + S1x1x256.size a ≤ S4001x1x256.size a := fun v1751 k0_hw319 => k0_hw319

def k0_off320 (v1755 : BitVec 32) : Fin 3 → Nat :=
  let v1756 : Index := Scalar.indexCast v1755
  let c0_1322 : Index := 0#32
  let c0_1323 : Index := 0#32
  ![v1756.toNat, 0, 0]

def k0_chk320 (v1755 : BitVec 32) : Prop :=
  (∀ a, (k0_off320 v1755) a + S1x1x256.size a ≤ S4001x1x256.size a)
theorem k0_off320_inb : ∀ (v1755 : BitVec 32) (k0_hw320 : k0_chk320 v1755), ∀ a, (k0_off320 v1755) a + S1x1x256.size a ≤ S4001x1x256.size a := fun v1755 k0_hw320 => k0_hw320

def k0_off321 (v1807 : BitVec 32) : Fin 3 → Nat :=
  let v1808 : Index := Scalar.indexCast v1807
  let c0_1335 : Index := 0#32
  let c0_1336 : Index := 0#32
  ![v1808.toNat, 0, 0]

def k0_chk321 (v1807 : BitVec 32) : Prop :=
  (∀ a, (k0_off321 v1807) a + S1x1x256.size a ≤ S4001x1x256.size a)
theorem k0_off321_inb : ∀ (v1807 : BitVec 32) (k0_hw321 : k0_chk321 v1807), ∀ a, (k0_off321 v1807) a + S1x1x256.size a ≤ S4001x1x256.size a := fun v1807 k0_hw321 => k0_hw321

def k0_off322 (v1811 : BitVec 32) : Fin 3 → Nat :=
  let v1812 : Index := Scalar.indexCast v1811
  let c0_1338 : Index := 0#32
  let c0_1339 : Index := 0#32
  ![v1812.toNat, 0, 0]

def k0_chk322 (v1811 : BitVec 32) : Prop :=
  (∀ a, (k0_off322 v1811) a + S1x1x256.size a ≤ S4001x1x256.size a)
theorem k0_off322_inb : ∀ (v1811 : BitVec 32) (k0_hw322 : k0_chk322 v1811), ∀ a, (k0_off322 v1811) a + S1x1x256.size a ≤ S4001x1x256.size a := fun v1811 k0_hw322 => k0_hw322

def k0_off323 (v1815 : BitVec 32) : Fin 3 → Nat :=
  let v1816 : Index := Scalar.indexCast v1815
  let c0_1341 : Index := 0#32
  let c0_1342 : Index := 0#32
  ![v1816.toNat, 0, 0]

def k0_chk323 (v1815 : BitVec 32) : Prop :=
  (∀ a, (k0_off323 v1815) a + S1x1x256.size a ≤ S4001x1x256.size a)
theorem k0_off323_inb : ∀ (v1815 : BitVec 32) (k0_hw323 : k0_chk323 v1815), ∀ a, (k0_off323 v1815) a + S1x1x256.size a ≤ S4001x1x256.size a := fun v1815 k0_hw323 => k0_hw323

def k0_off324 (v1819 : BitVec 32) : Fin 3 → Nat :=
  let v1820 : Index := Scalar.indexCast v1819
  let c0_1344 : Index := 0#32
  let c0_1345 : Index := 0#32
  ![v1820.toNat, 0, 0]

def k0_chk324 (v1819 : BitVec 32) : Prop :=
  (∀ a, (k0_off324 v1819) a + S1x1x256.size a ≤ S4001x1x256.size a)
theorem k0_off324_inb : ∀ (v1819 : BitVec 32) (k0_hw324 : k0_chk324 v1819), ∀ a, (k0_off324 v1819) a + S1x1x256.size a ≤ S4001x1x256.size a := fun v1819 k0_hw324 => k0_hw324

def k0_off325 (v1823 : BitVec 32) : Fin 3 → Nat :=
  let v1824 : Index := Scalar.indexCast v1823
  let c0_1347 : Index := 0#32
  let c0_1348 : Index := 0#32
  ![v1824.toNat, 0, 0]

def k0_chk325 (v1823 : BitVec 32) : Prop :=
  (∀ a, (k0_off325 v1823) a + S1x1x256.size a ≤ S4001x1x256.size a)
theorem k0_off325_inb : ∀ (v1823 : BitVec 32) (k0_hw325 : k0_chk325 v1823), ∀ a, (k0_off325 v1823) a + S1x1x256.size a ≤ S4001x1x256.size a := fun v1823 k0_hw325 => k0_hw325

def k0_off326 (v1827 : BitVec 32) : Fin 3 → Nat :=
  let v1828 : Index := Scalar.indexCast v1827
  let c0_1350 : Index := 0#32
  let c0_1351 : Index := 0#32
  ![v1828.toNat, 0, 0]

def k0_chk326 (v1827 : BitVec 32) : Prop :=
  (∀ a, (k0_off326 v1827) a + S1x1x256.size a ≤ S4001x1x256.size a)
theorem k0_off326_inb : ∀ (v1827 : BitVec 32) (k0_hw326 : k0_chk326 v1827), ∀ a, (k0_off326 v1827) a + S1x1x256.size a ≤ S4001x1x256.size a := fun v1827 k0_hw326 => k0_hw326

def k0_off327 (v1831 : BitVec 32) : Fin 3 → Nat :=
  let v1832 : Index := Scalar.indexCast v1831
  let c0_1353 : Index := 0#32
  let c0_1354 : Index := 0#32
  ![v1832.toNat, 0, 0]

def k0_chk327 (v1831 : BitVec 32) : Prop :=
  (∀ a, (k0_off327 v1831) a + S1x1x256.size a ≤ S4001x1x256.size a)
theorem k0_off327_inb : ∀ (v1831 : BitVec 32) (k0_hw327 : k0_chk327 v1831), ∀ a, (k0_off327 v1831) a + S1x1x256.size a ≤ S4001x1x256.size a := fun v1831 k0_hw327 => k0_hw327

def k0_off328 (v1835 : BitVec 32) : Fin 3 → Nat :=
  let v1836 : Index := Scalar.indexCast v1835
  let c0_1356 : Index := 0#32
  let c0_1357 : Index := 0#32
  ![v1836.toNat, 0, 0]

def k0_chk328 (v1835 : BitVec 32) : Prop :=
  (∀ a, (k0_off328 v1835) a + S1x1x256.size a ≤ S4001x1x256.size a)
theorem k0_off328_inb : ∀ (v1835 : BitVec 32) (k0_hw328 : k0_chk328 v1835), ∀ a, (k0_off328 v1835) a + S1x1x256.size a ≤ S4001x1x256.size a := fun v1835 k0_hw328 => k0_hw328

def k0_off329 (v1839 : BitVec 32) : Fin 3 → Nat :=
  let v1840 : Index := Scalar.indexCast v1839
  let c0_1359 : Index := 0#32
  let c0_1360 : Index := 0#32
  ![v1840.toNat, 0, 0]

def k0_chk329 (v1839 : BitVec 32) : Prop :=
  (∀ a, (k0_off329 v1839) a + S1x1x256.size a ≤ S4001x1x256.size a)
theorem k0_off329_inb : ∀ (v1839 : BitVec 32) (k0_hw329 : k0_chk329 v1839), ∀ a, (k0_off329 v1839) a + S1x1x256.size a ≤ S4001x1x256.size a := fun v1839 k0_hw329 => k0_hw329

def k0_off330 (v1843 : BitVec 32) : Fin 3 → Nat :=
  let v1844 : Index := Scalar.indexCast v1843
  let c0_1362 : Index := 0#32
  let c0_1363 : Index := 0#32
  ![v1844.toNat, 0, 0]

def k0_chk330 (v1843 : BitVec 32) : Prop :=
  (∀ a, (k0_off330 v1843) a + S1x1x256.size a ≤ S4001x1x256.size a)
theorem k0_off330_inb : ∀ (v1843 : BitVec 32) (k0_hw330 : k0_chk330 v1843), ∀ a, (k0_off330 v1843) a + S1x1x256.size a ≤ S4001x1x256.size a := fun v1843 k0_hw330 => k0_hw330

def k0_off331 (v1847 : BitVec 32) : Fin 3 → Nat :=
  let v1848 : Index := Scalar.indexCast v1847
  let c0_1365 : Index := 0#32
  let c0_1366 : Index := 0#32
  ![v1848.toNat, 0, 0]

def k0_chk331 (v1847 : BitVec 32) : Prop :=
  (∀ a, (k0_off331 v1847) a + S1x1x256.size a ≤ S4001x1x256.size a)
theorem k0_off331_inb : ∀ (v1847 : BitVec 32) (k0_hw331 : k0_chk331 v1847), ∀ a, (k0_off331 v1847) a + S1x1x256.size a ≤ S4001x1x256.size a := fun v1847 k0_hw331 => k0_hw331

def k0_off332 (v1851 : BitVec 32) : Fin 3 → Nat :=
  let v1852 : Index := Scalar.indexCast v1851
  let c0_1368 : Index := 0#32
  let c0_1369 : Index := 0#32
  ![v1852.toNat, 0, 0]

def k0_chk332 (v1851 : BitVec 32) : Prop :=
  (∀ a, (k0_off332 v1851) a + S1x1x256.size a ≤ S4001x1x256.size a)
theorem k0_off332_inb : ∀ (v1851 : BitVec 32) (k0_hw332 : k0_chk332 v1851), ∀ a, (k0_off332 v1851) a + S1x1x256.size a ≤ S4001x1x256.size a := fun v1851 k0_hw332 => k0_hw332

def k0_off333 (v1855 : BitVec 32) : Fin 3 → Nat :=
  let v1856 : Index := Scalar.indexCast v1855
  let c0_1371 : Index := 0#32
  let c0_1372 : Index := 0#32
  ![v1856.toNat, 0, 0]

def k0_chk333 (v1855 : BitVec 32) : Prop :=
  (∀ a, (k0_off333 v1855) a + S1x1x256.size a ≤ S4001x1x256.size a)
theorem k0_off333_inb : ∀ (v1855 : BitVec 32) (k0_hw333 : k0_chk333 v1855), ∀ a, (k0_off333 v1855) a + S1x1x256.size a ≤ S4001x1x256.size a := fun v1855 k0_hw333 => k0_hw333

def k0_off334 (v1859 : BitVec 32) : Fin 3 → Nat :=
  let v1860 : Index := Scalar.indexCast v1859
  let c0_1374 : Index := 0#32
  let c0_1375 : Index := 0#32
  ![v1860.toNat, 0, 0]

def k0_chk334 (v1859 : BitVec 32) : Prop :=
  (∀ a, (k0_off334 v1859) a + S1x1x256.size a ≤ S4001x1x256.size a)
theorem k0_off334_inb : ∀ (v1859 : BitVec 32) (k0_hw334 : k0_chk334 v1859), ∀ a, (k0_off334 v1859) a + S1x1x256.size a ≤ S4001x1x256.size a := fun v1859 k0_hw334 => k0_hw334

def k0_off335 (v1863 : BitVec 32) : Fin 3 → Nat :=
  let v1864 : Index := Scalar.indexCast v1863
  let c0_1377 : Index := 0#32
  let c0_1378 : Index := 0#32
  ![v1864.toNat, 0, 0]

def k0_chk335 (v1863 : BitVec 32) : Prop :=
  (∀ a, (k0_off335 v1863) a + S1x1x256.size a ≤ S4001x1x256.size a)
theorem k0_off335_inb : ∀ (v1863 : BitVec 32) (k0_hw335 : k0_chk335 v1863), ∀ a, (k0_off335 v1863) a + S1x1x256.size a ≤ S4001x1x256.size a := fun v1863 k0_hw335 => k0_hw335

def k0_off336 (v1867 : BitVec 32) : Fin 3 → Nat :=
  let v1868 : Index := Scalar.indexCast v1867
  let c0_1380 : Index := 0#32
  let c0_1381 : Index := 0#32
  ![v1868.toNat, 0, 0]

def k0_chk336 (v1867 : BitVec 32) : Prop :=
  (∀ a, (k0_off336 v1867) a + S1x1x256.size a ≤ S4001x1x256.size a)
theorem k0_off336_inb : ∀ (v1867 : BitVec 32) (k0_hw336 : k0_chk336 v1867), ∀ a, (k0_off336 v1867) a + S1x1x256.size a ≤ S4001x1x256.size a := fun v1867 k0_hw336 => k0_hw336

def k0_off337 (v1871 : BitVec 32) : Fin 3 → Nat :=
  let v1872 : Index := Scalar.indexCast v1871
  let c0_1383 : Index := 0#32
  let c0_1384 : Index := 0#32
  ![v1872.toNat, 0, 0]

def k0_chk337 (v1871 : BitVec 32) : Prop :=
  (∀ a, (k0_off337 v1871) a + S1x1x256.size a ≤ S4001x1x256.size a)
theorem k0_off337_inb : ∀ (v1871 : BitVec 32) (k0_hw337 : k0_chk337 v1871), ∀ a, (k0_off337 v1871) a + S1x1x256.size a ≤ S4001x1x256.size a := fun v1871 k0_hw337 => k0_hw337

def k0_off338 (v1875 : BitVec 32) : Fin 3 → Nat :=
  let v1876 : Index := Scalar.indexCast v1875
  let c0_1386 : Index := 0#32
  let c0_1387 : Index := 0#32
  ![v1876.toNat, 0, 0]

def k0_chk338 (v1875 : BitVec 32) : Prop :=
  (∀ a, (k0_off338 v1875) a + S1x1x256.size a ≤ S4001x1x256.size a)
theorem k0_off338_inb : ∀ (v1875 : BitVec 32) (k0_hw338 : k0_chk338 v1875), ∀ a, (k0_off338 v1875) a + S1x1x256.size a ≤ S4001x1x256.size a := fun v1875 k0_hw338 => k0_hw338

def k0_off339 (v1879 : BitVec 32) : Fin 3 → Nat :=
  let v1880 : Index := Scalar.indexCast v1879
  let c0_1389 : Index := 0#32
  let c0_1390 : Index := 0#32
  ![v1880.toNat, 0, 0]

def k0_chk339 (v1879 : BitVec 32) : Prop :=
  (∀ a, (k0_off339 v1879) a + S1x1x256.size a ≤ S4001x1x256.size a)
theorem k0_off339_inb : ∀ (v1879 : BitVec 32) (k0_hw339 : k0_chk339 v1879), ∀ a, (k0_off339 v1879) a + S1x1x256.size a ≤ S4001x1x256.size a := fun v1879 k0_hw339 => k0_hw339

def k0_off340 (v1883 : BitVec 32) : Fin 3 → Nat :=
  let v1884 : Index := Scalar.indexCast v1883
  let c0_1392 : Index := 0#32
  let c0_1393 : Index := 0#32
  ![v1884.toNat, 0, 0]

def k0_chk340 (v1883 : BitVec 32) : Prop :=
  (∀ a, (k0_off340 v1883) a + S1x1x256.size a ≤ S4001x1x256.size a)
theorem k0_off340_inb : ∀ (v1883 : BitVec 32) (k0_hw340 : k0_chk340 v1883), ∀ a, (k0_off340 v1883) a + S1x1x256.size a ≤ S4001x1x256.size a := fun v1883 k0_hw340 => k0_hw340

def k0_off341 (v1912 : BitVec 32) : Fin 3 → Nat :=
  let v1913 : Index := Scalar.indexCast v1912
  let c0_1398 : Index := 0#32
  let c0_1399 : Index := 0#32
  ![v1913.toNat, 0, 0]

def k0_chk341 (v1912 : BitVec 32) : Prop :=
  (∀ a, (k0_off341 v1912) a + S1x1x256.size a ≤ S4001x1x256.size a)
theorem k0_off341_inb : ∀ (v1912 : BitVec 32) (k0_hw341 : k0_chk341 v1912), ∀ a, (k0_off341 v1912) a + S1x1x256.size a ≤ S4001x1x256.size a := fun v1912 k0_hw341 => k0_hw341

def k0_off342 (v1916 : BitVec 32) : Fin 3 → Nat :=
  let v1917 : Index := Scalar.indexCast v1916
  let c0_1402 : Index := 0#32
  let c0_1403 : Index := 0#32
  ![v1917.toNat, 0, 0]

def k0_chk342 (v1916 : BitVec 32) : Prop :=
  (∀ a, (k0_off342 v1916) a + S1x1x256.size a ≤ S4001x1x256.size a)
theorem k0_off342_inb : ∀ (v1916 : BitVec 32) (k0_hw342 : k0_chk342 v1916), ∀ a, (k0_off342 v1916) a + S1x1x256.size a ≤ S4001x1x256.size a := fun v1916 k0_hw342 => k0_hw342

def k0_off343 (v1920 : BitVec 32) : Fin 3 → Nat :=
  let v1921 : Index := Scalar.indexCast v1920
  let c0_1406 : Index := 0#32
  let c0_1407 : Index := 0#32
  ![v1921.toNat, 0, 0]

def k0_chk343 (v1920 : BitVec 32) : Prop :=
  (∀ a, (k0_off343 v1920) a + S1x1x256.size a ≤ S4001x1x256.size a)
theorem k0_off343_inb : ∀ (v1920 : BitVec 32) (k0_hw343 : k0_chk343 v1920), ∀ a, (k0_off343 v1920) a + S1x1x256.size a ≤ S4001x1x256.size a := fun v1920 k0_hw343 => k0_hw343

def k0_off344 (v1924 : BitVec 32) : Fin 3 → Nat :=
  let v1925 : Index := Scalar.indexCast v1924
  let c0_1410 : Index := 0#32
  let c0_1411 : Index := 0#32
  ![v1925.toNat, 0, 0]

def k0_chk344 (v1924 : BitVec 32) : Prop :=
  (∀ a, (k0_off344 v1924) a + S1x1x256.size a ≤ S4001x1x256.size a)
theorem k0_off344_inb : ∀ (v1924 : BitVec 32) (k0_hw344 : k0_chk344 v1924), ∀ a, (k0_off344 v1924) a + S1x1x256.size a ≤ S4001x1x256.size a := fun v1924 k0_hw344 => k0_hw344

def k0_off345 (v1928 : BitVec 32) : Fin 3 → Nat :=
  let v1929 : Index := Scalar.indexCast v1928
  let c0_1414 : Index := 0#32
  let c0_1415 : Index := 0#32
  ![v1929.toNat, 0, 0]

def k0_chk345 (v1928 : BitVec 32) : Prop :=
  (∀ a, (k0_off345 v1928) a + S1x1x256.size a ≤ S4001x1x256.size a)
theorem k0_off345_inb : ∀ (v1928 : BitVec 32) (k0_hw345 : k0_chk345 v1928), ∀ a, (k0_off345 v1928) a + S1x1x256.size a ≤ S4001x1x256.size a := fun v1928 k0_hw345 => k0_hw345

def k0_off346 (v1932 : BitVec 32) : Fin 3 → Nat :=
  let v1933 : Index := Scalar.indexCast v1932
  let c0_1418 : Index := 0#32
  let c0_1419 : Index := 0#32
  ![v1933.toNat, 0, 0]

def k0_chk346 (v1932 : BitVec 32) : Prop :=
  (∀ a, (k0_off346 v1932) a + S1x1x256.size a ≤ S4001x1x256.size a)
theorem k0_off346_inb : ∀ (v1932 : BitVec 32) (k0_hw346 : k0_chk346 v1932), ∀ a, (k0_off346 v1932) a + S1x1x256.size a ≤ S4001x1x256.size a := fun v1932 k0_hw346 => k0_hw346

def k0_off347 (v1936 : BitVec 32) : Fin 3 → Nat :=
  let v1937 : Index := Scalar.indexCast v1936
  let c0_1422 : Index := 0#32
  let c0_1423 : Index := 0#32
  ![v1937.toNat, 0, 0]

def k0_chk347 (v1936 : BitVec 32) : Prop :=
  (∀ a, (k0_off347 v1936) a + S1x1x256.size a ≤ S4001x1x256.size a)
theorem k0_off347_inb : ∀ (v1936 : BitVec 32) (k0_hw347 : k0_chk347 v1936), ∀ a, (k0_off347 v1936) a + S1x1x256.size a ≤ S4001x1x256.size a := fun v1936 k0_hw347 => k0_hw347

def k0_off348 (v1940 : BitVec 32) : Fin 3 → Nat :=
  let v1941 : Index := Scalar.indexCast v1940
  let c0_1426 : Index := 0#32
  let c0_1427 : Index := 0#32
  ![v1941.toNat, 0, 0]

def k0_chk348 (v1940 : BitVec 32) : Prop :=
  (∀ a, (k0_off348 v1940) a + S1x1x256.size a ≤ S4001x1x256.size a)
theorem k0_off348_inb : ∀ (v1940 : BitVec 32) (k0_hw348 : k0_chk348 v1940), ∀ a, (k0_off348 v1940) a + S1x1x256.size a ≤ S4001x1x256.size a := fun v1940 k0_hw348 => k0_hw348

def k0_off349 (v1944 : BitVec 32) : Fin 3 → Nat :=
  let v1945 : Index := Scalar.indexCast v1944
  let c0_1430 : Index := 0#32
  let c0_1431 : Index := 0#32
  ![v1945.toNat, 0, 0]

def k0_chk349 (v1944 : BitVec 32) : Prop :=
  (∀ a, (k0_off349 v1944) a + S1x1x256.size a ≤ S4001x1x256.size a)
theorem k0_off349_inb : ∀ (v1944 : BitVec 32) (k0_hw349 : k0_chk349 v1944), ∀ a, (k0_off349 v1944) a + S1x1x256.size a ≤ S4001x1x256.size a := fun v1944 k0_hw349 => k0_hw349

def k0_off350 (v1948 : BitVec 32) : Fin 3 → Nat :=
  let v1949 : Index := Scalar.indexCast v1948
  let c0_1434 : Index := 0#32
  let c0_1435 : Index := 0#32
  ![v1949.toNat, 0, 0]

def k0_chk350 (v1948 : BitVec 32) : Prop :=
  (∀ a, (k0_off350 v1948) a + S1x1x256.size a ≤ S4001x1x256.size a)
theorem k0_off350_inb : ∀ (v1948 : BitVec 32) (k0_hw350 : k0_chk350 v1948), ∀ a, (k0_off350 v1948) a + S1x1x256.size a ≤ S4001x1x256.size a := fun v1948 k0_hw350 => k0_hw350

def k0_off351 (v1952 : BitVec 32) : Fin 3 → Nat :=
  let v1953 : Index := Scalar.indexCast v1952
  let c0_1438 : Index := 0#32
  let c0_1439 : Index := 0#32
  ![v1953.toNat, 0, 0]

def k0_chk351 (v1952 : BitVec 32) : Prop :=
  (∀ a, (k0_off351 v1952) a + S1x1x256.size a ≤ S4001x1x256.size a)
theorem k0_off351_inb : ∀ (v1952 : BitVec 32) (k0_hw351 : k0_chk351 v1952), ∀ a, (k0_off351 v1952) a + S1x1x256.size a ≤ S4001x1x256.size a := fun v1952 k0_hw351 => k0_hw351

def k0_off352 (v1956 : BitVec 32) : Fin 3 → Nat :=
  let v1957 : Index := Scalar.indexCast v1956
  let c0_1442 : Index := 0#32
  let c0_1443 : Index := 0#32
  ![v1957.toNat, 0, 0]

def k0_chk352 (v1956 : BitVec 32) : Prop :=
  (∀ a, (k0_off352 v1956) a + S1x1x256.size a ≤ S4001x1x256.size a)
theorem k0_off352_inb : ∀ (v1956 : BitVec 32) (k0_hw352 : k0_chk352 v1956), ∀ a, (k0_off352 v1956) a + S1x1x256.size a ≤ S4001x1x256.size a := fun v1956 k0_hw352 => k0_hw352

def k0_off353 (v1960 : BitVec 32) : Fin 3 → Nat :=
  let v1961 : Index := Scalar.indexCast v1960
  let c0_1446 : Index := 0#32
  let c0_1447 : Index := 0#32
  ![v1961.toNat, 0, 0]

def k0_chk353 (v1960 : BitVec 32) : Prop :=
  (∀ a, (k0_off353 v1960) a + S1x1x256.size a ≤ S4001x1x256.size a)
theorem k0_off353_inb : ∀ (v1960 : BitVec 32) (k0_hw353 : k0_chk353 v1960), ∀ a, (k0_off353 v1960) a + S1x1x256.size a ≤ S4001x1x256.size a := fun v1960 k0_hw353 => k0_hw353

def k0_off354 (v1964 : BitVec 32) : Fin 3 → Nat :=
  let v1965 : Index := Scalar.indexCast v1964
  let c0_1450 : Index := 0#32
  let c0_1451 : Index := 0#32
  ![v1965.toNat, 0, 0]

def k0_chk354 (v1964 : BitVec 32) : Prop :=
  (∀ a, (k0_off354 v1964) a + S1x1x256.size a ≤ S4001x1x256.size a)
theorem k0_off354_inb : ∀ (v1964 : BitVec 32) (k0_hw354 : k0_chk354 v1964), ∀ a, (k0_off354 v1964) a + S1x1x256.size a ≤ S4001x1x256.size a := fun v1964 k0_hw354 => k0_hw354

def k0_off355 (v1968 : BitVec 32) : Fin 3 → Nat :=
  let v1969 : Index := Scalar.indexCast v1968
  let c0_1454 : Index := 0#32
  let c0_1455 : Index := 0#32
  ![v1969.toNat, 0, 0]

def k0_chk355 (v1968 : BitVec 32) : Prop :=
  (∀ a, (k0_off355 v1968) a + S1x1x256.size a ≤ S4001x1x256.size a)
theorem k0_off355_inb : ∀ (v1968 : BitVec 32) (k0_hw355 : k0_chk355 v1968), ∀ a, (k0_off355 v1968) a + S1x1x256.size a ≤ S4001x1x256.size a := fun v1968 k0_hw355 => k0_hw355

def k0_off356 (v1972 : BitVec 32) : Fin 3 → Nat :=
  let v1973 : Index := Scalar.indexCast v1972
  let c0_1458 : Index := 0#32
  let c0_1459 : Index := 0#32
  ![v1973.toNat, 0, 0]

def k0_chk356 (v1972 : BitVec 32) : Prop :=
  (∀ a, (k0_off356 v1972) a + S1x1x256.size a ≤ S4001x1x256.size a)
theorem k0_off356_inb : ∀ (v1972 : BitVec 32) (k0_hw356 : k0_chk356 v1972), ∀ a, (k0_off356 v1972) a + S1x1x256.size a ≤ S4001x1x256.size a := fun v1972 k0_hw356 => k0_hw356

def k0_off357 (v1976 : BitVec 32) : Fin 3 → Nat :=
  let v1977 : Index := Scalar.indexCast v1976
  let c0_1462 : Index := 0#32
  let c0_1463 : Index := 0#32
  ![v1977.toNat, 0, 0]

def k0_chk357 (v1976 : BitVec 32) : Prop :=
  (∀ a, (k0_off357 v1976) a + S1x1x256.size a ≤ S4001x1x256.size a)
theorem k0_off357_inb : ∀ (v1976 : BitVec 32) (k0_hw357 : k0_chk357 v1976), ∀ a, (k0_off357 v1976) a + S1x1x256.size a ≤ S4001x1x256.size a := fun v1976 k0_hw357 => k0_hw357

def k0_off358 (v1980 : BitVec 32) : Fin 3 → Nat :=
  let v1981 : Index := Scalar.indexCast v1980
  let c0_1466 : Index := 0#32
  let c0_1467 : Index := 0#32
  ![v1981.toNat, 0, 0]

def k0_chk358 (v1980 : BitVec 32) : Prop :=
  (∀ a, (k0_off358 v1980) a + S1x1x256.size a ≤ S4001x1x256.size a)
theorem k0_off358_inb : ∀ (v1980 : BitVec 32) (k0_hw358 : k0_chk358 v1980), ∀ a, (k0_off358 v1980) a + S1x1x256.size a ≤ S4001x1x256.size a := fun v1980 k0_hw358 => k0_hw358

def k0_off359 (v1984 : BitVec 32) : Fin 3 → Nat :=
  let v1985 : Index := Scalar.indexCast v1984
  let c0_1470 : Index := 0#32
  let c0_1471 : Index := 0#32
  ![v1985.toNat, 0, 0]

def k0_chk359 (v1984 : BitVec 32) : Prop :=
  (∀ a, (k0_off359 v1984) a + S1x1x256.size a ≤ S4001x1x256.size a)
theorem k0_off359_inb : ∀ (v1984 : BitVec 32) (k0_hw359 : k0_chk359 v1984), ∀ a, (k0_off359 v1984) a + S1x1x256.size a ≤ S4001x1x256.size a := fun v1984 k0_hw359 => k0_hw359

def k0_off360 (v1988 : BitVec 32) : Fin 3 → Nat :=
  let v1989 : Index := Scalar.indexCast v1988
  let c0_1474 : Index := 0#32
  let c0_1475 : Index := 0#32
  ![v1989.toNat, 0, 0]

def k0_chk360 (v1988 : BitVec 32) : Prop :=
  (∀ a, (k0_off360 v1988) a + S1x1x256.size a ≤ S4001x1x256.size a)
theorem k0_off360_inb : ∀ (v1988 : BitVec 32) (k0_hw360 : k0_chk360 v1988), ∀ a, (k0_off360 v1988) a + S1x1x256.size a ≤ S4001x1x256.size a := fun v1988 k0_hw360 => k0_hw360

def k0_off361 (v2020 : BitVec 32) : Fin 3 → Nat :=
  let v2021 : Index := Scalar.indexCast v2020
  let c0_1482 : Index := 0#32
  let c0_1483 : Index := 0#32
  ![v2021.toNat, 0, 0]

def k0_chk361 (v2020 : BitVec 32) : Prop :=
  (∀ a, (k0_off361 v2020) a + S1x1x256.size a ≤ S4001x1x256.size a)
theorem k0_off361_inb : ∀ (v2020 : BitVec 32) (k0_hw361 : k0_chk361 v2020), ∀ a, (k0_off361 v2020) a + S1x1x256.size a ≤ S4001x1x256.size a := fun v2020 k0_hw361 => k0_hw361

def k0_off362 (v2024 : BitVec 32) : Fin 3 → Nat :=
  let v2025 : Index := Scalar.indexCast v2024
  let c0_1486 : Index := 0#32
  let c0_1487 : Index := 0#32
  ![v2025.toNat, 0, 0]

def k0_chk362 (v2024 : BitVec 32) : Prop :=
  (∀ a, (k0_off362 v2024) a + S1x1x256.size a ≤ S4001x1x256.size a)
theorem k0_off362_inb : ∀ (v2024 : BitVec 32) (k0_hw362 : k0_chk362 v2024), ∀ a, (k0_off362 v2024) a + S1x1x256.size a ≤ S4001x1x256.size a := fun v2024 k0_hw362 => k0_hw362

def k0_off363 (v2028 : BitVec 32) : Fin 3 → Nat :=
  let v2029 : Index := Scalar.indexCast v2028
  let c0_1490 : Index := 0#32
  let c0_1491 : Index := 0#32
  ![v2029.toNat, 0, 0]

def k0_chk363 (v2028 : BitVec 32) : Prop :=
  (∀ a, (k0_off363 v2028) a + S1x1x256.size a ≤ S4001x1x256.size a)
theorem k0_off363_inb : ∀ (v2028 : BitVec 32) (k0_hw363 : k0_chk363 v2028), ∀ a, (k0_off363 v2028) a + S1x1x256.size a ≤ S4001x1x256.size a := fun v2028 k0_hw363 => k0_hw363

def k0_off364 (v2032 : BitVec 32) : Fin 3 → Nat :=
  let v2033 : Index := Scalar.indexCast v2032
  let c0_1494 : Index := 0#32
  let c0_1495 : Index := 0#32
  ![v2033.toNat, 0, 0]

def k0_chk364 (v2032 : BitVec 32) : Prop :=
  (∀ a, (k0_off364 v2032) a + S1x1x256.size a ≤ S4001x1x256.size a)
theorem k0_off364_inb : ∀ (v2032 : BitVec 32) (k0_hw364 : k0_chk364 v2032), ∀ a, (k0_off364 v2032) a + S1x1x256.size a ≤ S4001x1x256.size a := fun v2032 k0_hw364 => k0_hw364

def k0_off365 (v2036 : BitVec 32) : Fin 3 → Nat :=
  let v2037 : Index := Scalar.indexCast v2036
  let c0_1498 : Index := 0#32
  let c0_1499 : Index := 0#32
  ![v2037.toNat, 0, 0]

def k0_chk365 (v2036 : BitVec 32) : Prop :=
  (∀ a, (k0_off365 v2036) a + S1x1x256.size a ≤ S4001x1x256.size a)
theorem k0_off365_inb : ∀ (v2036 : BitVec 32) (k0_hw365 : k0_chk365 v2036), ∀ a, (k0_off365 v2036) a + S1x1x256.size a ≤ S4001x1x256.size a := fun v2036 k0_hw365 => k0_hw365

def k0_off366 (v2040 : BitVec 32) : Fin 3 → Nat :=
  let v2041 : Index := Scalar.indexCast v2040
  let c0_1502 : Index := 0#32
  let c0_1503 : Index := 0#32
  ![v2041.toNat, 0, 0]

def k0_chk366 (v2040 : BitVec 32) : Prop :=
  (∀ a, (k0_off366 v2040) a + S1x1x256.size a ≤ S4001x1x256.size a)
theorem k0_off366_inb : ∀ (v2040 : BitVec 32) (k0_hw366 : k0_chk366 v2040), ∀ a, (k0_off366 v2040) a + S1x1x256.size a ≤ S4001x1x256.size a := fun v2040 k0_hw366 => k0_hw366

def k0_off367 (v2044 : BitVec 32) : Fin 3 → Nat :=
  let v2045 : Index := Scalar.indexCast v2044
  let c0_1506 : Index := 0#32
  let c0_1507 : Index := 0#32
  ![v2045.toNat, 0, 0]

def k0_chk367 (v2044 : BitVec 32) : Prop :=
  (∀ a, (k0_off367 v2044) a + S1x1x256.size a ≤ S4001x1x256.size a)
theorem k0_off367_inb : ∀ (v2044 : BitVec 32) (k0_hw367 : k0_chk367 v2044), ∀ a, (k0_off367 v2044) a + S1x1x256.size a ≤ S4001x1x256.size a := fun v2044 k0_hw367 => k0_hw367

def k0_off368 (v2048 : BitVec 32) : Fin 3 → Nat :=
  let v2049 : Index := Scalar.indexCast v2048
  let c0_1510 : Index := 0#32
  let c0_1511 : Index := 0#32
  ![v2049.toNat, 0, 0]

def k0_chk368 (v2048 : BitVec 32) : Prop :=
  (∀ a, (k0_off368 v2048) a + S1x1x256.size a ≤ S4001x1x256.size a)
theorem k0_off368_inb : ∀ (v2048 : BitVec 32) (k0_hw368 : k0_chk368 v2048), ∀ a, (k0_off368 v2048) a + S1x1x256.size a ≤ S4001x1x256.size a := fun v2048 k0_hw368 => k0_hw368

def k0_off369 (v2052 : BitVec 32) : Fin 3 → Nat :=
  let v2053 : Index := Scalar.indexCast v2052
  let c0_1514 : Index := 0#32
  let c0_1515 : Index := 0#32
  ![v2053.toNat, 0, 0]

def k0_chk369 (v2052 : BitVec 32) : Prop :=
  (∀ a, (k0_off369 v2052) a + S1x1x256.size a ≤ S4001x1x256.size a)
theorem k0_off369_inb : ∀ (v2052 : BitVec 32) (k0_hw369 : k0_chk369 v2052), ∀ a, (k0_off369 v2052) a + S1x1x256.size a ≤ S4001x1x256.size a := fun v2052 k0_hw369 => k0_hw369

def k0_off370 (v2056 : BitVec 32) : Fin 3 → Nat :=
  let v2057 : Index := Scalar.indexCast v2056
  let c0_1518 : Index := 0#32
  let c0_1519 : Index := 0#32
  ![v2057.toNat, 0, 0]

def k0_chk370 (v2056 : BitVec 32) : Prop :=
  (∀ a, (k0_off370 v2056) a + S1x1x256.size a ≤ S4001x1x256.size a)
theorem k0_off370_inb : ∀ (v2056 : BitVec 32) (k0_hw370 : k0_chk370 v2056), ∀ a, (k0_off370 v2056) a + S1x1x256.size a ≤ S4001x1x256.size a := fun v2056 k0_hw370 => k0_hw370

def k0_off371 (v2060 : BitVec 32) : Fin 3 → Nat :=
  let v2061 : Index := Scalar.indexCast v2060
  let c0_1522 : Index := 0#32
  let c0_1523 : Index := 0#32
  ![v2061.toNat, 0, 0]

def k0_chk371 (v2060 : BitVec 32) : Prop :=
  (∀ a, (k0_off371 v2060) a + S1x1x256.size a ≤ S4001x1x256.size a)
theorem k0_off371_inb : ∀ (v2060 : BitVec 32) (k0_hw371 : k0_chk371 v2060), ∀ a, (k0_off371 v2060) a + S1x1x256.size a ≤ S4001x1x256.size a := fun v2060 k0_hw371 => k0_hw371

def k0_off372 (v2064 : BitVec 32) : Fin 3 → Nat :=
  let v2065 : Index := Scalar.indexCast v2064
  let c0_1526 : Index := 0#32
  let c0_1527 : Index := 0#32
  ![v2065.toNat, 0, 0]

def k0_chk372 (v2064 : BitVec 32) : Prop :=
  (∀ a, (k0_off372 v2064) a + S1x1x256.size a ≤ S4001x1x256.size a)
theorem k0_off372_inb : ∀ (v2064 : BitVec 32) (k0_hw372 : k0_chk372 v2064), ∀ a, (k0_off372 v2064) a + S1x1x256.size a ≤ S4001x1x256.size a := fun v2064 k0_hw372 => k0_hw372

def k0_off373 (v2068 : BitVec 32) : Fin 3 → Nat :=
  let v2069 : Index := Scalar.indexCast v2068
  let c0_1530 : Index := 0#32
  let c0_1531 : Index := 0#32
  ![v2069.toNat, 0, 0]

def k0_chk373 (v2068 : BitVec 32) : Prop :=
  (∀ a, (k0_off373 v2068) a + S1x1x256.size a ≤ S4001x1x256.size a)
theorem k0_off373_inb : ∀ (v2068 : BitVec 32) (k0_hw373 : k0_chk373 v2068), ∀ a, (k0_off373 v2068) a + S1x1x256.size a ≤ S4001x1x256.size a := fun v2068 k0_hw373 => k0_hw373

def k0_off374 (v2072 : BitVec 32) : Fin 3 → Nat :=
  let v2073 : Index := Scalar.indexCast v2072
  let c0_1534 : Index := 0#32
  let c0_1535 : Index := 0#32
  ![v2073.toNat, 0, 0]

def k0_chk374 (v2072 : BitVec 32) : Prop :=
  (∀ a, (k0_off374 v2072) a + S1x1x256.size a ≤ S4001x1x256.size a)
theorem k0_off374_inb : ∀ (v2072 : BitVec 32) (k0_hw374 : k0_chk374 v2072), ∀ a, (k0_off374 v2072) a + S1x1x256.size a ≤ S4001x1x256.size a := fun v2072 k0_hw374 => k0_hw374

def k0_off375 (v2076 : BitVec 32) : Fin 3 → Nat :=
  let v2077 : Index := Scalar.indexCast v2076
  let c0_1538 : Index := 0#32
  let c0_1539 : Index := 0#32
  ![v2077.toNat, 0, 0]

def k0_chk375 (v2076 : BitVec 32) : Prop :=
  (∀ a, (k0_off375 v2076) a + S1x1x256.size a ≤ S4001x1x256.size a)
theorem k0_off375_inb : ∀ (v2076 : BitVec 32) (k0_hw375 : k0_chk375 v2076), ∀ a, (k0_off375 v2076) a + S1x1x256.size a ≤ S4001x1x256.size a := fun v2076 k0_hw375 => k0_hw375

def k0_off376 (v2080 : BitVec 32) : Fin 3 → Nat :=
  let v2081 : Index := Scalar.indexCast v2080
  let c0_1542 : Index := 0#32
  let c0_1543 : Index := 0#32
  ![v2081.toNat, 0, 0]

def k0_chk376 (v2080 : BitVec 32) : Prop :=
  (∀ a, (k0_off376 v2080) a + S1x1x256.size a ≤ S4001x1x256.size a)
theorem k0_off376_inb : ∀ (v2080 : BitVec 32) (k0_hw376 : k0_chk376 v2080), ∀ a, (k0_off376 v2080) a + S1x1x256.size a ≤ S4001x1x256.size a := fun v2080 k0_hw376 => k0_hw376

def k0_off377 (v2084 : BitVec 32) : Fin 3 → Nat :=
  let v2085 : Index := Scalar.indexCast v2084
  let c0_1546 : Index := 0#32
  let c0_1547 : Index := 0#32
  ![v2085.toNat, 0, 0]

def k0_chk377 (v2084 : BitVec 32) : Prop :=
  (∀ a, (k0_off377 v2084) a + S1x1x256.size a ≤ S4001x1x256.size a)
theorem k0_off377_inb : ∀ (v2084 : BitVec 32) (k0_hw377 : k0_chk377 v2084), ∀ a, (k0_off377 v2084) a + S1x1x256.size a ≤ S4001x1x256.size a := fun v2084 k0_hw377 => k0_hw377

def k0_off378 (v2088 : BitVec 32) : Fin 3 → Nat :=
  let v2089 : Index := Scalar.indexCast v2088
  let c0_1550 : Index := 0#32
  let c0_1551 : Index := 0#32
  ![v2089.toNat, 0, 0]

def k0_chk378 (v2088 : BitVec 32) : Prop :=
  (∀ a, (k0_off378 v2088) a + S1x1x256.size a ≤ S4001x1x256.size a)
theorem k0_off378_inb : ∀ (v2088 : BitVec 32) (k0_hw378 : k0_chk378 v2088), ∀ a, (k0_off378 v2088) a + S1x1x256.size a ≤ S4001x1x256.size a := fun v2088 k0_hw378 => k0_hw378

def k0_off379 (v2092 : BitVec 32) : Fin 3 → Nat :=
  let v2093 : Index := Scalar.indexCast v2092
  let c0_1554 : Index := 0#32
  let c0_1555 : Index := 0#32
  ![v2093.toNat, 0, 0]

def k0_chk379 (v2092 : BitVec 32) : Prop :=
  (∀ a, (k0_off379 v2092) a + S1x1x256.size a ≤ S4001x1x256.size a)
theorem k0_off379_inb : ∀ (v2092 : BitVec 32) (k0_hw379 : k0_chk379 v2092), ∀ a, (k0_off379 v2092) a + S1x1x256.size a ≤ S4001x1x256.size a := fun v2092 k0_hw379 => k0_hw379

def k0_off380 (v2096 : BitVec 32) : Fin 3 → Nat :=
  let v2097 : Index := Scalar.indexCast v2096
  let c0_1558 : Index := 0#32
  let c0_1559 : Index := 0#32
  ![v2097.toNat, 0, 0]

def k0_chk380 (v2096 : BitVec 32) : Prop :=
  (∀ a, (k0_off380 v2096) a + S1x1x256.size a ≤ S4001x1x256.size a)
theorem k0_off380_inb : ∀ (v2096 : BitVec 32) (k0_hw380 : k0_chk380 v2096), ∀ a, (k0_off380 v2096) a + S1x1x256.size a ≤ S4001x1x256.size a := fun v2096 k0_hw380 => k0_hw380

def k0_off381 (v2128 : BitVec 32) : Fin 3 → Nat :=
  let v2129 : Index := Scalar.indexCast v2128
  let c0_1566 : Index := 0#32
  let c0_1567 : Index := 0#32
  ![v2129.toNat, 0, 0]

def k0_chk381 (v2128 : BitVec 32) : Prop :=
  (∀ a, (k0_off381 v2128) a + S1x1x256.size a ≤ S4001x1x256.size a)
theorem k0_off381_inb : ∀ (v2128 : BitVec 32) (k0_hw381 : k0_chk381 v2128), ∀ a, (k0_off381 v2128) a + S1x1x256.size a ≤ S4001x1x256.size a := fun v2128 k0_hw381 => k0_hw381

def k0_off382 (v2132 : BitVec 32) : Fin 3 → Nat :=
  let v2133 : Index := Scalar.indexCast v2132
  let c0_1570 : Index := 0#32
  let c0_1571 : Index := 0#32
  ![v2133.toNat, 0, 0]

def k0_chk382 (v2132 : BitVec 32) : Prop :=
  (∀ a, (k0_off382 v2132) a + S1x1x256.size a ≤ S4001x1x256.size a)
theorem k0_off382_inb : ∀ (v2132 : BitVec 32) (k0_hw382 : k0_chk382 v2132), ∀ a, (k0_off382 v2132) a + S1x1x256.size a ≤ S4001x1x256.size a := fun v2132 k0_hw382 => k0_hw382

def k0_off383 (v2136 : BitVec 32) : Fin 3 → Nat :=
  let v2137 : Index := Scalar.indexCast v2136
  let c0_1574 : Index := 0#32
  let c0_1575 : Index := 0#32
  ![v2137.toNat, 0, 0]

def k0_chk383 (v2136 : BitVec 32) : Prop :=
  (∀ a, (k0_off383 v2136) a + S1x1x256.size a ≤ S4001x1x256.size a)
theorem k0_off383_inb : ∀ (v2136 : BitVec 32) (k0_hw383 : k0_chk383 v2136), ∀ a, (k0_off383 v2136) a + S1x1x256.size a ≤ S4001x1x256.size a := fun v2136 k0_hw383 => k0_hw383

def k0_off384 (v2140 : BitVec 32) : Fin 3 → Nat :=
  let v2141 : Index := Scalar.indexCast v2140
  let c0_1578 : Index := 0#32
  let c0_1579 : Index := 0#32
  ![v2141.toNat, 0, 0]

def k0_chk384 (v2140 : BitVec 32) : Prop :=
  (∀ a, (k0_off384 v2140) a + S1x1x256.size a ≤ S4001x1x256.size a)
theorem k0_off384_inb : ∀ (v2140 : BitVec 32) (k0_hw384 : k0_chk384 v2140), ∀ a, (k0_off384 v2140) a + S1x1x256.size a ≤ S4001x1x256.size a := fun v2140 k0_hw384 => k0_hw384

def k0_off385 (v2144 : BitVec 32) : Fin 3 → Nat :=
  let v2145 : Index := Scalar.indexCast v2144
  let c0_1582 : Index := 0#32
  let c0_1583 : Index := 0#32
  ![v2145.toNat, 0, 0]

def k0_chk385 (v2144 : BitVec 32) : Prop :=
  (∀ a, (k0_off385 v2144) a + S1x1x256.size a ≤ S4001x1x256.size a)
theorem k0_off385_inb : ∀ (v2144 : BitVec 32) (k0_hw385 : k0_chk385 v2144), ∀ a, (k0_off385 v2144) a + S1x1x256.size a ≤ S4001x1x256.size a := fun v2144 k0_hw385 => k0_hw385

def k0_off386 (v2148 : BitVec 32) : Fin 3 → Nat :=
  let v2149 : Index := Scalar.indexCast v2148
  let c0_1586 : Index := 0#32
  let c0_1587 : Index := 0#32
  ![v2149.toNat, 0, 0]

def k0_chk386 (v2148 : BitVec 32) : Prop :=
  (∀ a, (k0_off386 v2148) a + S1x1x256.size a ≤ S4001x1x256.size a)
theorem k0_off386_inb : ∀ (v2148 : BitVec 32) (k0_hw386 : k0_chk386 v2148), ∀ a, (k0_off386 v2148) a + S1x1x256.size a ≤ S4001x1x256.size a := fun v2148 k0_hw386 => k0_hw386

def k0_off387 (v2152 : BitVec 32) : Fin 3 → Nat :=
  let v2153 : Index := Scalar.indexCast v2152
  let c0_1590 : Index := 0#32
  let c0_1591 : Index := 0#32
  ![v2153.toNat, 0, 0]

def k0_chk387 (v2152 : BitVec 32) : Prop :=
  (∀ a, (k0_off387 v2152) a + S1x1x256.size a ≤ S4001x1x256.size a)
theorem k0_off387_inb : ∀ (v2152 : BitVec 32) (k0_hw387 : k0_chk387 v2152), ∀ a, (k0_off387 v2152) a + S1x1x256.size a ≤ S4001x1x256.size a := fun v2152 k0_hw387 => k0_hw387

def k0_off388 (v2156 : BitVec 32) : Fin 3 → Nat :=
  let v2157 : Index := Scalar.indexCast v2156
  let c0_1594 : Index := 0#32
  let c0_1595 : Index := 0#32
  ![v2157.toNat, 0, 0]

def k0_chk388 (v2156 : BitVec 32) : Prop :=
  (∀ a, (k0_off388 v2156) a + S1x1x256.size a ≤ S4001x1x256.size a)
theorem k0_off388_inb : ∀ (v2156 : BitVec 32) (k0_hw388 : k0_chk388 v2156), ∀ a, (k0_off388 v2156) a + S1x1x256.size a ≤ S4001x1x256.size a := fun v2156 k0_hw388 => k0_hw388

def k0_off389 (v2160 : BitVec 32) : Fin 3 → Nat :=
  let v2161 : Index := Scalar.indexCast v2160
  let c0_1598 : Index := 0#32
  let c0_1599 : Index := 0#32
  ![v2161.toNat, 0, 0]

def k0_chk389 (v2160 : BitVec 32) : Prop :=
  (∀ a, (k0_off389 v2160) a + S1x1x256.size a ≤ S4001x1x256.size a)
theorem k0_off389_inb : ∀ (v2160 : BitVec 32) (k0_hw389 : k0_chk389 v2160), ∀ a, (k0_off389 v2160) a + S1x1x256.size a ≤ S4001x1x256.size a := fun v2160 k0_hw389 => k0_hw389

def k0_off390 (v2164 : BitVec 32) : Fin 3 → Nat :=
  let v2165 : Index := Scalar.indexCast v2164
  let c0_1602 : Index := 0#32
  let c0_1603 : Index := 0#32
  ![v2165.toNat, 0, 0]

def k0_chk390 (v2164 : BitVec 32) : Prop :=
  (∀ a, (k0_off390 v2164) a + S1x1x256.size a ≤ S4001x1x256.size a)
theorem k0_off390_inb : ∀ (v2164 : BitVec 32) (k0_hw390 : k0_chk390 v2164), ∀ a, (k0_off390 v2164) a + S1x1x256.size a ≤ S4001x1x256.size a := fun v2164 k0_hw390 => k0_hw390

def k0_off391 (v2168 : BitVec 32) : Fin 3 → Nat :=
  let v2169 : Index := Scalar.indexCast v2168
  let c0_1606 : Index := 0#32
  let c0_1607 : Index := 0#32
  ![v2169.toNat, 0, 0]

def k0_chk391 (v2168 : BitVec 32) : Prop :=
  (∀ a, (k0_off391 v2168) a + S1x1x256.size a ≤ S4001x1x256.size a)
theorem k0_off391_inb : ∀ (v2168 : BitVec 32) (k0_hw391 : k0_chk391 v2168), ∀ a, (k0_off391 v2168) a + S1x1x256.size a ≤ S4001x1x256.size a := fun v2168 k0_hw391 => k0_hw391

def k0_off392 (v2172 : BitVec 32) : Fin 3 → Nat :=
  let v2173 : Index := Scalar.indexCast v2172
  let c0_1610 : Index := 0#32
  let c0_1611 : Index := 0#32
  ![v2173.toNat, 0, 0]

def k0_chk392 (v2172 : BitVec 32) : Prop :=
  (∀ a, (k0_off392 v2172) a + S1x1x256.size a ≤ S4001x1x256.size a)
theorem k0_off392_inb : ∀ (v2172 : BitVec 32) (k0_hw392 : k0_chk392 v2172), ∀ a, (k0_off392 v2172) a + S1x1x256.size a ≤ S4001x1x256.size a := fun v2172 k0_hw392 => k0_hw392

def k0_off393 (v2176 : BitVec 32) : Fin 3 → Nat :=
  let v2177 : Index := Scalar.indexCast v2176
  let c0_1614 : Index := 0#32
  let c0_1615 : Index := 0#32
  ![v2177.toNat, 0, 0]

def k0_chk393 (v2176 : BitVec 32) : Prop :=
  (∀ a, (k0_off393 v2176) a + S1x1x256.size a ≤ S4001x1x256.size a)
theorem k0_off393_inb : ∀ (v2176 : BitVec 32) (k0_hw393 : k0_chk393 v2176), ∀ a, (k0_off393 v2176) a + S1x1x256.size a ≤ S4001x1x256.size a := fun v2176 k0_hw393 => k0_hw393

def k0_off394 (v2180 : BitVec 32) : Fin 3 → Nat :=
  let v2181 : Index := Scalar.indexCast v2180
  let c0_1618 : Index := 0#32
  let c0_1619 : Index := 0#32
  ![v2181.toNat, 0, 0]

def k0_chk394 (v2180 : BitVec 32) : Prop :=
  (∀ a, (k0_off394 v2180) a + S1x1x256.size a ≤ S4001x1x256.size a)
theorem k0_off394_inb : ∀ (v2180 : BitVec 32) (k0_hw394 : k0_chk394 v2180), ∀ a, (k0_off394 v2180) a + S1x1x256.size a ≤ S4001x1x256.size a := fun v2180 k0_hw394 => k0_hw394

def k0_off395 (v2184 : BitVec 32) : Fin 3 → Nat :=
  let v2185 : Index := Scalar.indexCast v2184
  let c0_1622 : Index := 0#32
  let c0_1623 : Index := 0#32
  ![v2185.toNat, 0, 0]

def k0_chk395 (v2184 : BitVec 32) : Prop :=
  (∀ a, (k0_off395 v2184) a + S1x1x256.size a ≤ S4001x1x256.size a)
theorem k0_off395_inb : ∀ (v2184 : BitVec 32) (k0_hw395 : k0_chk395 v2184), ∀ a, (k0_off395 v2184) a + S1x1x256.size a ≤ S4001x1x256.size a := fun v2184 k0_hw395 => k0_hw395

def k0_off396 (v2188 : BitVec 32) : Fin 3 → Nat :=
  let v2189 : Index := Scalar.indexCast v2188
  let c0_1626 : Index := 0#32
  let c0_1627 : Index := 0#32
  ![v2189.toNat, 0, 0]

def k0_chk396 (v2188 : BitVec 32) : Prop :=
  (∀ a, (k0_off396 v2188) a + S1x1x256.size a ≤ S4001x1x256.size a)
theorem k0_off396_inb : ∀ (v2188 : BitVec 32) (k0_hw396 : k0_chk396 v2188), ∀ a, (k0_off396 v2188) a + S1x1x256.size a ≤ S4001x1x256.size a := fun v2188 k0_hw396 => k0_hw396

def k0_off397 (v2192 : BitVec 32) : Fin 3 → Nat :=
  let v2193 : Index := Scalar.indexCast v2192
  let c0_1630 : Index := 0#32
  let c0_1631 : Index := 0#32
  ![v2193.toNat, 0, 0]

def k0_chk397 (v2192 : BitVec 32) : Prop :=
  (∀ a, (k0_off397 v2192) a + S1x1x256.size a ≤ S4001x1x256.size a)
theorem k0_off397_inb : ∀ (v2192 : BitVec 32) (k0_hw397 : k0_chk397 v2192), ∀ a, (k0_off397 v2192) a + S1x1x256.size a ≤ S4001x1x256.size a := fun v2192 k0_hw397 => k0_hw397

def k0_off398 (v2196 : BitVec 32) : Fin 3 → Nat :=
  let v2197 : Index := Scalar.indexCast v2196
  let c0_1634 : Index := 0#32
  let c0_1635 : Index := 0#32
  ![v2197.toNat, 0, 0]

def k0_chk398 (v2196 : BitVec 32) : Prop :=
  (∀ a, (k0_off398 v2196) a + S1x1x256.size a ≤ S4001x1x256.size a)
theorem k0_off398_inb : ∀ (v2196 : BitVec 32) (k0_hw398 : k0_chk398 v2196), ∀ a, (k0_off398 v2196) a + S1x1x256.size a ≤ S4001x1x256.size a := fun v2196 k0_hw398 => k0_hw398

def k0_off399 (v2200 : BitVec 32) : Fin 3 → Nat :=
  let v2201 : Index := Scalar.indexCast v2200
  let c0_1638 : Index := 0#32
  let c0_1639 : Index := 0#32
  ![v2201.toNat, 0, 0]

def k0_chk399 (v2200 : BitVec 32) : Prop :=
  (∀ a, (k0_off399 v2200) a + S1x1x256.size a ≤ S4001x1x256.size a)
theorem k0_off399_inb : ∀ (v2200 : BitVec 32) (k0_hw399 : k0_chk399 v2200), ∀ a, (k0_off399 v2200) a + S1x1x256.size a ≤ S4001x1x256.size a := fun v2200 k0_hw399 => k0_hw399

def k0_off400 (v2204 : BitVec 32) : Fin 3 → Nat :=
  let v2205 : Index := Scalar.indexCast v2204
  let c0_1642 : Index := 0#32
  let c0_1643 : Index := 0#32
  ![v2205.toNat, 0, 0]

def k0_chk400 (v2204 : BitVec 32) : Prop :=
  (∀ a, (k0_off400 v2204) a + S1x1x256.size a ≤ S4001x1x256.size a)
theorem k0_off400_inb : ∀ (v2204 : BitVec 32) (k0_hw400 : k0_chk400 v2204), ∀ a, (k0_off400 v2204) a + S1x1x256.size a ≤ S4001x1x256.size a := fun v2204 k0_hw400 => k0_hw400

def k0_off401 (v2244 : BitVec 32) : Fin 3 → Nat :=
  let v2245 : Index := Scalar.indexCast v2244
  let c0_1657 : Index := 0#32
  let c0_1658 : Index := 0#32
  ![v2245.toNat, 0, 0]

def k0_chk401 (v2244 : BitVec 32) : Prop :=
  (∀ a, (k0_off401 v2244) a + S1x1x256.size a ≤ S4001x1x256.size a)
theorem k0_off401_inb : ∀ (v2244 : BitVec 32) (k0_hw401 : k0_chk401 v2244), ∀ a, (k0_off401 v2244) a + S1x1x256.size a ≤ S4001x1x256.size a := fun v2244 k0_hw401 => k0_hw401

def k0_off402 (v2248 : BitVec 32) : Fin 3 → Nat :=
  let v2249 : Index := Scalar.indexCast v2248
  let c0_1661 : Index := 0#32
  let c0_1662 : Index := 0#32
  ![v2249.toNat, 0, 0]

def k0_chk402 (v2248 : BitVec 32) : Prop :=
  (∀ a, (k0_off402 v2248) a + S1x1x256.size a ≤ S4001x1x256.size a)
theorem k0_off402_inb : ∀ (v2248 : BitVec 32) (k0_hw402 : k0_chk402 v2248), ∀ a, (k0_off402 v2248) a + S1x1x256.size a ≤ S4001x1x256.size a := fun v2248 k0_hw402 => k0_hw402

def k0_off403 (v2252 : BitVec 32) : Fin 3 → Nat :=
  let v2253 : Index := Scalar.indexCast v2252
  let c0_1665 : Index := 0#32
  let c0_1666 : Index := 0#32
  ![v2253.toNat, 0, 0]

def k0_chk403 (v2252 : BitVec 32) : Prop :=
  (∀ a, (k0_off403 v2252) a + S1x1x256.size a ≤ S4001x1x256.size a)
theorem k0_off403_inb : ∀ (v2252 : BitVec 32) (k0_hw403 : k0_chk403 v2252), ∀ a, (k0_off403 v2252) a + S1x1x256.size a ≤ S4001x1x256.size a := fun v2252 k0_hw403 => k0_hw403

def k0_off404 (v2256 : BitVec 32) : Fin 3 → Nat :=
  let v2257 : Index := Scalar.indexCast v2256
  let c0_1669 : Index := 0#32
  let c0_1670 : Index := 0#32
  ![v2257.toNat, 0, 0]

def k0_chk404 (v2256 : BitVec 32) : Prop :=
  (∀ a, (k0_off404 v2256) a + S1x1x256.size a ≤ S4001x1x256.size a)
theorem k0_off404_inb : ∀ (v2256 : BitVec 32) (k0_hw404 : k0_chk404 v2256), ∀ a, (k0_off404 v2256) a + S1x1x256.size a ≤ S4001x1x256.size a := fun v2256 k0_hw404 => k0_hw404

def k0_off405 (v2260 : BitVec 32) : Fin 3 → Nat :=
  let v2261 : Index := Scalar.indexCast v2260
  let c0_1673 : Index := 0#32
  let c0_1674 : Index := 0#32
  ![v2261.toNat, 0, 0]

def k0_chk405 (v2260 : BitVec 32) : Prop :=
  (∀ a, (k0_off405 v2260) a + S1x1x256.size a ≤ S4001x1x256.size a)
theorem k0_off405_inb : ∀ (v2260 : BitVec 32) (k0_hw405 : k0_chk405 v2260), ∀ a, (k0_off405 v2260) a + S1x1x256.size a ≤ S4001x1x256.size a := fun v2260 k0_hw405 => k0_hw405

def k0_off406 (v2264 : BitVec 32) : Fin 3 → Nat :=
  let v2265 : Index := Scalar.indexCast v2264
  let c0_1677 : Index := 0#32
  let c0_1678 : Index := 0#32
  ![v2265.toNat, 0, 0]

def k0_chk406 (v2264 : BitVec 32) : Prop :=
  (∀ a, (k0_off406 v2264) a + S1x1x256.size a ≤ S4001x1x256.size a)
theorem k0_off406_inb : ∀ (v2264 : BitVec 32) (k0_hw406 : k0_chk406 v2264), ∀ a, (k0_off406 v2264) a + S1x1x256.size a ≤ S4001x1x256.size a := fun v2264 k0_hw406 => k0_hw406

def k0_off407 (v2268 : BitVec 32) : Fin 3 → Nat :=
  let v2269 : Index := Scalar.indexCast v2268
  let c0_1681 : Index := 0#32
  let c0_1682 : Index := 0#32
  ![v2269.toNat, 0, 0]

def k0_chk407 (v2268 : BitVec 32) : Prop :=
  (∀ a, (k0_off407 v2268) a + S1x1x256.size a ≤ S4001x1x256.size a)
theorem k0_off407_inb : ∀ (v2268 : BitVec 32) (k0_hw407 : k0_chk407 v2268), ∀ a, (k0_off407 v2268) a + S1x1x256.size a ≤ S4001x1x256.size a := fun v2268 k0_hw407 => k0_hw407

def k0_off408 (v2272 : BitVec 32) : Fin 3 → Nat :=
  let v2273 : Index := Scalar.indexCast v2272
  let c0_1685 : Index := 0#32
  let c0_1686 : Index := 0#32
  ![v2273.toNat, 0, 0]

def k0_chk408 (v2272 : BitVec 32) : Prop :=
  (∀ a, (k0_off408 v2272) a + S1x1x256.size a ≤ S4001x1x256.size a)
theorem k0_off408_inb : ∀ (v2272 : BitVec 32) (k0_hw408 : k0_chk408 v2272), ∀ a, (k0_off408 v2272) a + S1x1x256.size a ≤ S4001x1x256.size a := fun v2272 k0_hw408 => k0_hw408

def k0_off409 (v2276 : BitVec 32) : Fin 3 → Nat :=
  let v2277 : Index := Scalar.indexCast v2276
  let c0_1689 : Index := 0#32
  let c0_1690 : Index := 0#32
  ![v2277.toNat, 0, 0]

def k0_chk409 (v2276 : BitVec 32) : Prop :=
  (∀ a, (k0_off409 v2276) a + S1x1x256.size a ≤ S4001x1x256.size a)
theorem k0_off409_inb : ∀ (v2276 : BitVec 32) (k0_hw409 : k0_chk409 v2276), ∀ a, (k0_off409 v2276) a + S1x1x256.size a ≤ S4001x1x256.size a := fun v2276 k0_hw409 => k0_hw409

def k0_off410 (v2280 : BitVec 32) : Fin 3 → Nat :=
  let v2281 : Index := Scalar.indexCast v2280
  let c0_1693 : Index := 0#32
  let c0_1694 : Index := 0#32
  ![v2281.toNat, 0, 0]

def k0_chk410 (v2280 : BitVec 32) : Prop :=
  (∀ a, (k0_off410 v2280) a + S1x1x256.size a ≤ S4001x1x256.size a)
theorem k0_off410_inb : ∀ (v2280 : BitVec 32) (k0_hw410 : k0_chk410 v2280), ∀ a, (k0_off410 v2280) a + S1x1x256.size a ≤ S4001x1x256.size a := fun v2280 k0_hw410 => k0_hw410

def k0_off411 (v2284 : BitVec 32) : Fin 3 → Nat :=
  let v2285 : Index := Scalar.indexCast v2284
  let c0_1697 : Index := 0#32
  let c0_1698 : Index := 0#32
  ![v2285.toNat, 0, 0]

def k0_chk411 (v2284 : BitVec 32) : Prop :=
  (∀ a, (k0_off411 v2284) a + S1x1x256.size a ≤ S4001x1x256.size a)
theorem k0_off411_inb : ∀ (v2284 : BitVec 32) (k0_hw411 : k0_chk411 v2284), ∀ a, (k0_off411 v2284) a + S1x1x256.size a ≤ S4001x1x256.size a := fun v2284 k0_hw411 => k0_hw411

def k0_off412 (v2288 : BitVec 32) : Fin 3 → Nat :=
  let v2289 : Index := Scalar.indexCast v2288
  let c0_1701 : Index := 0#32
  let c0_1702 : Index := 0#32
  ![v2289.toNat, 0, 0]

def k0_chk412 (v2288 : BitVec 32) : Prop :=
  (∀ a, (k0_off412 v2288) a + S1x1x256.size a ≤ S4001x1x256.size a)
theorem k0_off412_inb : ∀ (v2288 : BitVec 32) (k0_hw412 : k0_chk412 v2288), ∀ a, (k0_off412 v2288) a + S1x1x256.size a ≤ S4001x1x256.size a := fun v2288 k0_hw412 => k0_hw412

def k0_off413 (v2292 : BitVec 32) : Fin 3 → Nat :=
  let v2293 : Index := Scalar.indexCast v2292
  let c0_1705 : Index := 0#32
  let c0_1706 : Index := 0#32
  ![v2293.toNat, 0, 0]

def k0_chk413 (v2292 : BitVec 32) : Prop :=
  (∀ a, (k0_off413 v2292) a + S1x1x256.size a ≤ S4001x1x256.size a)
theorem k0_off413_inb : ∀ (v2292 : BitVec 32) (k0_hw413 : k0_chk413 v2292), ∀ a, (k0_off413 v2292) a + S1x1x256.size a ≤ S4001x1x256.size a := fun v2292 k0_hw413 => k0_hw413

def k0_off414 (v2296 : BitVec 32) : Fin 3 → Nat :=
  let v2297 : Index := Scalar.indexCast v2296
  let c0_1709 : Index := 0#32
  let c0_1710 : Index := 0#32
  ![v2297.toNat, 0, 0]

def k0_chk414 (v2296 : BitVec 32) : Prop :=
  (∀ a, (k0_off414 v2296) a + S1x1x256.size a ≤ S4001x1x256.size a)
theorem k0_off414_inb : ∀ (v2296 : BitVec 32) (k0_hw414 : k0_chk414 v2296), ∀ a, (k0_off414 v2296) a + S1x1x256.size a ≤ S4001x1x256.size a := fun v2296 k0_hw414 => k0_hw414

def k0_off415 (v2300 : BitVec 32) : Fin 3 → Nat :=
  let v2301 : Index := Scalar.indexCast v2300
  let c0_1713 : Index := 0#32
  let c0_1714 : Index := 0#32
  ![v2301.toNat, 0, 0]

def k0_chk415 (v2300 : BitVec 32) : Prop :=
  (∀ a, (k0_off415 v2300) a + S1x1x256.size a ≤ S4001x1x256.size a)
theorem k0_off415_inb : ∀ (v2300 : BitVec 32) (k0_hw415 : k0_chk415 v2300), ∀ a, (k0_off415 v2300) a + S1x1x256.size a ≤ S4001x1x256.size a := fun v2300 k0_hw415 => k0_hw415

def k0_off416 (v2304 : BitVec 32) : Fin 3 → Nat :=
  let v2305 : Index := Scalar.indexCast v2304
  let c0_1717 : Index := 0#32
  let c0_1718 : Index := 0#32
  ![v2305.toNat, 0, 0]

def k0_chk416 (v2304 : BitVec 32) : Prop :=
  (∀ a, (k0_off416 v2304) a + S1x1x256.size a ≤ S4001x1x256.size a)
theorem k0_off416_inb : ∀ (v2304 : BitVec 32) (k0_hw416 : k0_chk416 v2304), ∀ a, (k0_off416 v2304) a + S1x1x256.size a ≤ S4001x1x256.size a := fun v2304 k0_hw416 => k0_hw416

def k0_off417 (v2308 : BitVec 32) : Fin 3 → Nat :=
  let v2309 : Index := Scalar.indexCast v2308
  let c0_1721 : Index := 0#32
  let c0_1722 : Index := 0#32
  ![v2309.toNat, 0, 0]

def k0_chk417 (v2308 : BitVec 32) : Prop :=
  (∀ a, (k0_off417 v2308) a + S1x1x256.size a ≤ S4001x1x256.size a)
theorem k0_off417_inb : ∀ (v2308 : BitVec 32) (k0_hw417 : k0_chk417 v2308), ∀ a, (k0_off417 v2308) a + S1x1x256.size a ≤ S4001x1x256.size a := fun v2308 k0_hw417 => k0_hw417

def k0_off418 (v2312 : BitVec 32) : Fin 3 → Nat :=
  let v2313 : Index := Scalar.indexCast v2312
  let c0_1725 : Index := 0#32
  let c0_1726 : Index := 0#32
  ![v2313.toNat, 0, 0]

def k0_chk418 (v2312 : BitVec 32) : Prop :=
  (∀ a, (k0_off418 v2312) a + S1x1x256.size a ≤ S4001x1x256.size a)
theorem k0_off418_inb : ∀ (v2312 : BitVec 32) (k0_hw418 : k0_chk418 v2312), ∀ a, (k0_off418 v2312) a + S1x1x256.size a ≤ S4001x1x256.size a := fun v2312 k0_hw418 => k0_hw418

def k0_off419 (v2316 : BitVec 32) : Fin 3 → Nat :=
  let v2317 : Index := Scalar.indexCast v2316
  let c0_1729 : Index := 0#32
  let c0_1730 : Index := 0#32
  ![v2317.toNat, 0, 0]

def k0_chk419 (v2316 : BitVec 32) : Prop :=
  (∀ a, (k0_off419 v2316) a + S1x1x256.size a ≤ S4001x1x256.size a)
theorem k0_off419_inb : ∀ (v2316 : BitVec 32) (k0_hw419 : k0_chk419 v2316), ∀ a, (k0_off419 v2316) a + S1x1x256.size a ≤ S4001x1x256.size a := fun v2316 k0_hw419 => k0_hw419

def k0_off420 (v2320 : BitVec 32) : Fin 3 → Nat :=
  let v2321 : Index := Scalar.indexCast v2320
  let c0_1733 : Index := 0#32
  let c0_1734 : Index := 0#32
  ![v2321.toNat, 0, 0]

def k0_chk420 (v2320 : BitVec 32) : Prop :=
  (∀ a, (k0_off420 v2320) a + S1x1x256.size a ≤ S4001x1x256.size a)
theorem k0_off420_inb : ∀ (v2320 : BitVec 32) (k0_hw420 : k0_chk420 v2320), ∀ a, (k0_off420 v2320) a + S1x1x256.size a ≤ S4001x1x256.size a := fun v2320 k0_hw420 => k0_hw420

def k0_off421 (v2376 : BitVec 32) : Fin 3 → Nat :=
  let v2377 : Index := Scalar.indexCast v2376
  let c0_1747 : Index := 0#32
  let c0_1748 : Index := 0#32
  ![v2377.toNat, 0, 0]

def k0_chk421 (v2376 : BitVec 32) : Prop :=
  (∀ a, (k0_off421 v2376) a + S1x1x256.size a ≤ S4001x1x256.size a)
theorem k0_off421_inb : ∀ (v2376 : BitVec 32) (k0_hw421 : k0_chk421 v2376), ∀ a, (k0_off421 v2376) a + S1x1x256.size a ≤ S4001x1x256.size a := fun v2376 k0_hw421 => k0_hw421

def k0_off422 (v2380 : BitVec 32) : Fin 3 → Nat :=
  let v2381 : Index := Scalar.indexCast v2380
  let c0_1751 : Index := 0#32
  let c0_1752 : Index := 0#32
  ![v2381.toNat, 0, 0]

def k0_chk422 (v2380 : BitVec 32) : Prop :=
  (∀ a, (k0_off422 v2380) a + S1x1x256.size a ≤ S4001x1x256.size a)
theorem k0_off422_inb : ∀ (v2380 : BitVec 32) (k0_hw422 : k0_chk422 v2380), ∀ a, (k0_off422 v2380) a + S1x1x256.size a ≤ S4001x1x256.size a := fun v2380 k0_hw422 => k0_hw422

def k0_off423 (v2384 : BitVec 32) : Fin 3 → Nat :=
  let v2385 : Index := Scalar.indexCast v2384
  let c0_1755 : Index := 0#32
  let c0_1756 : Index := 0#32
  ![v2385.toNat, 0, 0]

def k0_chk423 (v2384 : BitVec 32) : Prop :=
  (∀ a, (k0_off423 v2384) a + S1x1x256.size a ≤ S4001x1x256.size a)
theorem k0_off423_inb : ∀ (v2384 : BitVec 32) (k0_hw423 : k0_chk423 v2384), ∀ a, (k0_off423 v2384) a + S1x1x256.size a ≤ S4001x1x256.size a := fun v2384 k0_hw423 => k0_hw423

def k0_off424 (v2388 : BitVec 32) : Fin 3 → Nat :=
  let v2389 : Index := Scalar.indexCast v2388
  let c0_1759 : Index := 0#32
  let c0_1760 : Index := 0#32
  ![v2389.toNat, 0, 0]

def k0_chk424 (v2388 : BitVec 32) : Prop :=
  (∀ a, (k0_off424 v2388) a + S1x1x256.size a ≤ S4001x1x256.size a)
theorem k0_off424_inb : ∀ (v2388 : BitVec 32) (k0_hw424 : k0_chk424 v2388), ∀ a, (k0_off424 v2388) a + S1x1x256.size a ≤ S4001x1x256.size a := fun v2388 k0_hw424 => k0_hw424

def k0_off425 (v2392 : BitVec 32) : Fin 3 → Nat :=
  let v2393 : Index := Scalar.indexCast v2392
  let c0_1763 : Index := 0#32
  let c0_1764 : Index := 0#32
  ![v2393.toNat, 0, 0]

def k0_chk425 (v2392 : BitVec 32) : Prop :=
  (∀ a, (k0_off425 v2392) a + S1x1x256.size a ≤ S4001x1x256.size a)
theorem k0_off425_inb : ∀ (v2392 : BitVec 32) (k0_hw425 : k0_chk425 v2392), ∀ a, (k0_off425 v2392) a + S1x1x256.size a ≤ S4001x1x256.size a := fun v2392 k0_hw425 => k0_hw425

def k0_off426 (v2396 : BitVec 32) : Fin 3 → Nat :=
  let v2397 : Index := Scalar.indexCast v2396
  let c0_1767 : Index := 0#32
  let c0_1768 : Index := 0#32
  ![v2397.toNat, 0, 0]

def k0_chk426 (v2396 : BitVec 32) : Prop :=
  (∀ a, (k0_off426 v2396) a + S1x1x256.size a ≤ S4001x1x256.size a)
theorem k0_off426_inb : ∀ (v2396 : BitVec 32) (k0_hw426 : k0_chk426 v2396), ∀ a, (k0_off426 v2396) a + S1x1x256.size a ≤ S4001x1x256.size a := fun v2396 k0_hw426 => k0_hw426

def k0_off427 (v2400 : BitVec 32) : Fin 3 → Nat :=
  let v2401 : Index := Scalar.indexCast v2400
  let c0_1771 : Index := 0#32
  let c0_1772 : Index := 0#32
  ![v2401.toNat, 0, 0]

def k0_chk427 (v2400 : BitVec 32) : Prop :=
  (∀ a, (k0_off427 v2400) a + S1x1x256.size a ≤ S4001x1x256.size a)
theorem k0_off427_inb : ∀ (v2400 : BitVec 32) (k0_hw427 : k0_chk427 v2400), ∀ a, (k0_off427 v2400) a + S1x1x256.size a ≤ S4001x1x256.size a := fun v2400 k0_hw427 => k0_hw427

def k0_off428 (v2404 : BitVec 32) : Fin 3 → Nat :=
  let v2405 : Index := Scalar.indexCast v2404
  let c0_1775 : Index := 0#32
  let c0_1776 : Index := 0#32
  ![v2405.toNat, 0, 0]

def k0_chk428 (v2404 : BitVec 32) : Prop :=
  (∀ a, (k0_off428 v2404) a + S1x1x256.size a ≤ S4001x1x256.size a)
theorem k0_off428_inb : ∀ (v2404 : BitVec 32) (k0_hw428 : k0_chk428 v2404), ∀ a, (k0_off428 v2404) a + S1x1x256.size a ≤ S4001x1x256.size a := fun v2404 k0_hw428 => k0_hw428

def k0_off429 (v2408 : BitVec 32) : Fin 3 → Nat :=
  let v2409 : Index := Scalar.indexCast v2408
  let c0_1779 : Index := 0#32
  let c0_1780 : Index := 0#32
  ![v2409.toNat, 0, 0]

def k0_chk429 (v2408 : BitVec 32) : Prop :=
  (∀ a, (k0_off429 v2408) a + S1x1x256.size a ≤ S4001x1x256.size a)
theorem k0_off429_inb : ∀ (v2408 : BitVec 32) (k0_hw429 : k0_chk429 v2408), ∀ a, (k0_off429 v2408) a + S1x1x256.size a ≤ S4001x1x256.size a := fun v2408 k0_hw429 => k0_hw429

def k0_off430 (v2412 : BitVec 32) : Fin 3 → Nat :=
  let v2413 : Index := Scalar.indexCast v2412
  let c0_1783 : Index := 0#32
  let c0_1784 : Index := 0#32
  ![v2413.toNat, 0, 0]

def k0_chk430 (v2412 : BitVec 32) : Prop :=
  (∀ a, (k0_off430 v2412) a + S1x1x256.size a ≤ S4001x1x256.size a)
theorem k0_off430_inb : ∀ (v2412 : BitVec 32) (k0_hw430 : k0_chk430 v2412), ∀ a, (k0_off430 v2412) a + S1x1x256.size a ≤ S4001x1x256.size a := fun v2412 k0_hw430 => k0_hw430

def k0_off431 (v2416 : BitVec 32) : Fin 3 → Nat :=
  let v2417 : Index := Scalar.indexCast v2416
  let c0_1787 : Index := 0#32
  let c0_1788 : Index := 0#32
  ![v2417.toNat, 0, 0]

def k0_chk431 (v2416 : BitVec 32) : Prop :=
  (∀ a, (k0_off431 v2416) a + S1x1x256.size a ≤ S4001x1x256.size a)
theorem k0_off431_inb : ∀ (v2416 : BitVec 32) (k0_hw431 : k0_chk431 v2416), ∀ a, (k0_off431 v2416) a + S1x1x256.size a ≤ S4001x1x256.size a := fun v2416 k0_hw431 => k0_hw431

def k0_off432 (v2420 : BitVec 32) : Fin 3 → Nat :=
  let v2421 : Index := Scalar.indexCast v2420
  let c0_1791 : Index := 0#32
  let c0_1792 : Index := 0#32
  ![v2421.toNat, 0, 0]

def k0_chk432 (v2420 : BitVec 32) : Prop :=
  (∀ a, (k0_off432 v2420) a + S1x1x256.size a ≤ S4001x1x256.size a)
theorem k0_off432_inb : ∀ (v2420 : BitVec 32) (k0_hw432 : k0_chk432 v2420), ∀ a, (k0_off432 v2420) a + S1x1x256.size a ≤ S4001x1x256.size a := fun v2420 k0_hw432 => k0_hw432

def k0_off433 (v2424 : BitVec 32) : Fin 3 → Nat :=
  let v2425 : Index := Scalar.indexCast v2424
  let c0_1795 : Index := 0#32
  let c0_1796 : Index := 0#32
  ![v2425.toNat, 0, 0]

def k0_chk433 (v2424 : BitVec 32) : Prop :=
  (∀ a, (k0_off433 v2424) a + S1x1x256.size a ≤ S4001x1x256.size a)
theorem k0_off433_inb : ∀ (v2424 : BitVec 32) (k0_hw433 : k0_chk433 v2424), ∀ a, (k0_off433 v2424) a + S1x1x256.size a ≤ S4001x1x256.size a := fun v2424 k0_hw433 => k0_hw433

def k0_off434 (v2428 : BitVec 32) : Fin 3 → Nat :=
  let v2429 : Index := Scalar.indexCast v2428
  let c0_1799 : Index := 0#32
  let c0_1800 : Index := 0#32
  ![v2429.toNat, 0, 0]

def k0_chk434 (v2428 : BitVec 32) : Prop :=
  (∀ a, (k0_off434 v2428) a + S1x1x256.size a ≤ S4001x1x256.size a)
theorem k0_off434_inb : ∀ (v2428 : BitVec 32) (k0_hw434 : k0_chk434 v2428), ∀ a, (k0_off434 v2428) a + S1x1x256.size a ≤ S4001x1x256.size a := fun v2428 k0_hw434 => k0_hw434

def k0_off435 (v2432 : BitVec 32) : Fin 3 → Nat :=
  let v2433 : Index := Scalar.indexCast v2432
  let c0_1803 : Index := 0#32
  let c0_1804 : Index := 0#32
  ![v2433.toNat, 0, 0]

def k0_chk435 (v2432 : BitVec 32) : Prop :=
  (∀ a, (k0_off435 v2432) a + S1x1x256.size a ≤ S4001x1x256.size a)
theorem k0_off435_inb : ∀ (v2432 : BitVec 32) (k0_hw435 : k0_chk435 v2432), ∀ a, (k0_off435 v2432) a + S1x1x256.size a ≤ S4001x1x256.size a := fun v2432 k0_hw435 => k0_hw435

def k0_off436 (v2436 : BitVec 32) : Fin 3 → Nat :=
  let v2437 : Index := Scalar.indexCast v2436
  let c0_1807 : Index := 0#32
  let c0_1808 : Index := 0#32
  ![v2437.toNat, 0, 0]

def k0_chk436 (v2436 : BitVec 32) : Prop :=
  (∀ a, (k0_off436 v2436) a + S1x1x256.size a ≤ S4001x1x256.size a)
theorem k0_off436_inb : ∀ (v2436 : BitVec 32) (k0_hw436 : k0_chk436 v2436), ∀ a, (k0_off436 v2436) a + S1x1x256.size a ≤ S4001x1x256.size a := fun v2436 k0_hw436 => k0_hw436

def k0_off437 (v2440 : BitVec 32) : Fin 3 → Nat :=
  let v2441 : Index := Scalar.indexCast v2440
  let c0_1811 : Index := 0#32
  let c0_1812 : Index := 0#32
  ![v2441.toNat, 0, 0]

def k0_chk437 (v2440 : BitVec 32) : Prop :=
  (∀ a, (k0_off437 v2440) a + S1x1x256.size a ≤ S4001x1x256.size a)
theorem k0_off437_inb : ∀ (v2440 : BitVec 32) (k0_hw437 : k0_chk437 v2440), ∀ a, (k0_off437 v2440) a + S1x1x256.size a ≤ S4001x1x256.size a := fun v2440 k0_hw437 => k0_hw437

def k0_off438 (v2444 : BitVec 32) : Fin 3 → Nat :=
  let v2445 : Index := Scalar.indexCast v2444
  let c0_1815 : Index := 0#32
  let c0_1816 : Index := 0#32
  ![v2445.toNat, 0, 0]

def k0_chk438 (v2444 : BitVec 32) : Prop :=
  (∀ a, (k0_off438 v2444) a + S1x1x256.size a ≤ S4001x1x256.size a)
theorem k0_off438_inb : ∀ (v2444 : BitVec 32) (k0_hw438 : k0_chk438 v2444), ∀ a, (k0_off438 v2444) a + S1x1x256.size a ≤ S4001x1x256.size a := fun v2444 k0_hw438 => k0_hw438

def k0_off439 (v2448 : BitVec 32) : Fin 3 → Nat :=
  let v2449 : Index := Scalar.indexCast v2448
  let c0_1819 : Index := 0#32
  let c0_1820 : Index := 0#32
  ![v2449.toNat, 0, 0]

def k0_chk439 (v2448 : BitVec 32) : Prop :=
  (∀ a, (k0_off439 v2448) a + S1x1x256.size a ≤ S4001x1x256.size a)
theorem k0_off439_inb : ∀ (v2448 : BitVec 32) (k0_hw439 : k0_chk439 v2448), ∀ a, (k0_off439 v2448) a + S1x1x256.size a ≤ S4001x1x256.size a := fun v2448 k0_hw439 => k0_hw439

def k0_off440 (v2452 : BitVec 32) : Fin 3 → Nat :=
  let v2453 : Index := Scalar.indexCast v2452
  let c0_1823 : Index := 0#32
  let c0_1824 : Index := 0#32
  ![v2453.toNat, 0, 0]

def k0_chk440 (v2452 : BitVec 32) : Prop :=
  (∀ a, (k0_off440 v2452) a + S1x1x256.size a ≤ S4001x1x256.size a)
theorem k0_off440_inb : ∀ (v2452 : BitVec 32) (k0_hw440 : k0_chk440 v2452), ∀ a, (k0_off440 v2452) a + S1x1x256.size a ≤ S4001x1x256.size a := fun v2452 k0_hw440 => k0_hw440

def k0_off441 (v2508 : BitVec 32) : Fin 3 → Nat :=
  let v2509 : Index := Scalar.indexCast v2508
  let c0_1837 : Index := 0#32
  let c0_1838 : Index := 0#32
  ![v2509.toNat, 0, 0]

def k0_chk441 (v2508 : BitVec 32) : Prop :=
  (∀ a, (k0_off441 v2508) a + S1x1x256.size a ≤ S4001x1x256.size a)
theorem k0_off441_inb : ∀ (v2508 : BitVec 32) (k0_hw441 : k0_chk441 v2508), ∀ a, (k0_off441 v2508) a + S1x1x256.size a ≤ S4001x1x256.size a := fun v2508 k0_hw441 => k0_hw441

def k0_off442 (v2512 : BitVec 32) : Fin 3 → Nat :=
  let v2513 : Index := Scalar.indexCast v2512
  let c0_1841 : Index := 0#32
  let c0_1842 : Index := 0#32
  ![v2513.toNat, 0, 0]

def k0_chk442 (v2512 : BitVec 32) : Prop :=
  (∀ a, (k0_off442 v2512) a + S1x1x256.size a ≤ S4001x1x256.size a)
theorem k0_off442_inb : ∀ (v2512 : BitVec 32) (k0_hw442 : k0_chk442 v2512), ∀ a, (k0_off442 v2512) a + S1x1x256.size a ≤ S4001x1x256.size a := fun v2512 k0_hw442 => k0_hw442

def k0_off443 (v2516 : BitVec 32) : Fin 3 → Nat :=
  let v2517 : Index := Scalar.indexCast v2516
  let c0_1845 : Index := 0#32
  let c0_1846 : Index := 0#32
  ![v2517.toNat, 0, 0]

def k0_chk443 (v2516 : BitVec 32) : Prop :=
  (∀ a, (k0_off443 v2516) a + S1x1x256.size a ≤ S4001x1x256.size a)
theorem k0_off443_inb : ∀ (v2516 : BitVec 32) (k0_hw443 : k0_chk443 v2516), ∀ a, (k0_off443 v2516) a + S1x1x256.size a ≤ S4001x1x256.size a := fun v2516 k0_hw443 => k0_hw443

def k0_off444 (v2520 : BitVec 32) : Fin 3 → Nat :=
  let v2521 : Index := Scalar.indexCast v2520
  let c0_1849 : Index := 0#32
  let c0_1850 : Index := 0#32
  ![v2521.toNat, 0, 0]

def k0_chk444 (v2520 : BitVec 32) : Prop :=
  (∀ a, (k0_off444 v2520) a + S1x1x256.size a ≤ S4001x1x256.size a)
theorem k0_off444_inb : ∀ (v2520 : BitVec 32) (k0_hw444 : k0_chk444 v2520), ∀ a, (k0_off444 v2520) a + S1x1x256.size a ≤ S4001x1x256.size a := fun v2520 k0_hw444 => k0_hw444

def k0_off445 (v2524 : BitVec 32) : Fin 3 → Nat :=
  let v2525 : Index := Scalar.indexCast v2524
  let c0_1853 : Index := 0#32
  let c0_1854 : Index := 0#32
  ![v2525.toNat, 0, 0]

def k0_chk445 (v2524 : BitVec 32) : Prop :=
  (∀ a, (k0_off445 v2524) a + S1x1x256.size a ≤ S4001x1x256.size a)
theorem k0_off445_inb : ∀ (v2524 : BitVec 32) (k0_hw445 : k0_chk445 v2524), ∀ a, (k0_off445 v2524) a + S1x1x256.size a ≤ S4001x1x256.size a := fun v2524 k0_hw445 => k0_hw445

def k0_off446 (v2528 : BitVec 32) : Fin 3 → Nat :=
  let v2529 : Index := Scalar.indexCast v2528
  let c0_1857 : Index := 0#32
  let c0_1858 : Index := 0#32
  ![v2529.toNat, 0, 0]

def k0_chk446 (v2528 : BitVec 32) : Prop :=
  (∀ a, (k0_off446 v2528) a + S1x1x256.size a ≤ S4001x1x256.size a)
theorem k0_off446_inb : ∀ (v2528 : BitVec 32) (k0_hw446 : k0_chk446 v2528), ∀ a, (k0_off446 v2528) a + S1x1x256.size a ≤ S4001x1x256.size a := fun v2528 k0_hw446 => k0_hw446

def k0_off447 (v2532 : BitVec 32) : Fin 3 → Nat :=
  let v2533 : Index := Scalar.indexCast v2532
  let c0_1861 : Index := 0#32
  let c0_1862 : Index := 0#32
  ![v2533.toNat, 0, 0]

def k0_chk447 (v2532 : BitVec 32) : Prop :=
  (∀ a, (k0_off447 v2532) a + S1x1x256.size a ≤ S4001x1x256.size a)
theorem k0_off447_inb : ∀ (v2532 : BitVec 32) (k0_hw447 : k0_chk447 v2532), ∀ a, (k0_off447 v2532) a + S1x1x256.size a ≤ S4001x1x256.size a := fun v2532 k0_hw447 => k0_hw447

def k0_off448 (v2536 : BitVec 32) : Fin 3 → Nat :=
  let v2537 : Index := Scalar.indexCast v2536
  let c0_1865 : Index := 0#32
  let c0_1866 : Index := 0#32
  ![v2537.toNat, 0, 0]

def k0_chk448 (v2536 : BitVec 32) : Prop :=
  (∀ a, (k0_off448 v2536) a + S1x1x256.size a ≤ S4001x1x256.size a)
theorem k0_off448_inb : ∀ (v2536 : BitVec 32) (k0_hw448 : k0_chk448 v2536), ∀ a, (k0_off448 v2536) a + S1x1x256.size a ≤ S4001x1x256.size a := fun v2536 k0_hw448 => k0_hw448

def k0_off449 (v2540 : BitVec 32) : Fin 3 → Nat :=
  let v2541 : Index := Scalar.indexCast v2540
  let c0_1869 : Index := 0#32
  let c0_1870 : Index := 0#32
  ![v2541.toNat, 0, 0]

def k0_chk449 (v2540 : BitVec 32) : Prop :=
  (∀ a, (k0_off449 v2540) a + S1x1x256.size a ≤ S4001x1x256.size a)
theorem k0_off449_inb : ∀ (v2540 : BitVec 32) (k0_hw449 : k0_chk449 v2540), ∀ a, (k0_off449 v2540) a + S1x1x256.size a ≤ S4001x1x256.size a := fun v2540 k0_hw449 => k0_hw449

def k0_off450 (v2544 : BitVec 32) : Fin 3 → Nat :=
  let v2545 : Index := Scalar.indexCast v2544
  let c0_1873 : Index := 0#32
  let c0_1874 : Index := 0#32
  ![v2545.toNat, 0, 0]

def k0_chk450 (v2544 : BitVec 32) : Prop :=
  (∀ a, (k0_off450 v2544) a + S1x1x256.size a ≤ S4001x1x256.size a)
theorem k0_off450_inb : ∀ (v2544 : BitVec 32) (k0_hw450 : k0_chk450 v2544), ∀ a, (k0_off450 v2544) a + S1x1x256.size a ≤ S4001x1x256.size a := fun v2544 k0_hw450 => k0_hw450

def k0_off451 (v2548 : BitVec 32) : Fin 3 → Nat :=
  let v2549 : Index := Scalar.indexCast v2548
  let c0_1877 : Index := 0#32
  let c0_1878 : Index := 0#32
  ![v2549.toNat, 0, 0]

def k0_chk451 (v2548 : BitVec 32) : Prop :=
  (∀ a, (k0_off451 v2548) a + S1x1x256.size a ≤ S4001x1x256.size a)
theorem k0_off451_inb : ∀ (v2548 : BitVec 32) (k0_hw451 : k0_chk451 v2548), ∀ a, (k0_off451 v2548) a + S1x1x256.size a ≤ S4001x1x256.size a := fun v2548 k0_hw451 => k0_hw451

def k0_off452 (v2552 : BitVec 32) : Fin 3 → Nat :=
  let v2553 : Index := Scalar.indexCast v2552
  let c0_1881 : Index := 0#32
  let c0_1882 : Index := 0#32
  ![v2553.toNat, 0, 0]

def k0_chk452 (v2552 : BitVec 32) : Prop :=
  (∀ a, (k0_off452 v2552) a + S1x1x256.size a ≤ S4001x1x256.size a)
theorem k0_off452_inb : ∀ (v2552 : BitVec 32) (k0_hw452 : k0_chk452 v2552), ∀ a, (k0_off452 v2552) a + S1x1x256.size a ≤ S4001x1x256.size a := fun v2552 k0_hw452 => k0_hw452

def k0_off453 (v2556 : BitVec 32) : Fin 3 → Nat :=
  let v2557 : Index := Scalar.indexCast v2556
  let c0_1885 : Index := 0#32
  let c0_1886 : Index := 0#32
  ![v2557.toNat, 0, 0]

def k0_chk453 (v2556 : BitVec 32) : Prop :=
  (∀ a, (k0_off453 v2556) a + S1x1x256.size a ≤ S4001x1x256.size a)
theorem k0_off453_inb : ∀ (v2556 : BitVec 32) (k0_hw453 : k0_chk453 v2556), ∀ a, (k0_off453 v2556) a + S1x1x256.size a ≤ S4001x1x256.size a := fun v2556 k0_hw453 => k0_hw453

def k0_off454 (v2560 : BitVec 32) : Fin 3 → Nat :=
  let v2561 : Index := Scalar.indexCast v2560
  let c0_1889 : Index := 0#32
  let c0_1890 : Index := 0#32
  ![v2561.toNat, 0, 0]

def k0_chk454 (v2560 : BitVec 32) : Prop :=
  (∀ a, (k0_off454 v2560) a + S1x1x256.size a ≤ S4001x1x256.size a)
theorem k0_off454_inb : ∀ (v2560 : BitVec 32) (k0_hw454 : k0_chk454 v2560), ∀ a, (k0_off454 v2560) a + S1x1x256.size a ≤ S4001x1x256.size a := fun v2560 k0_hw454 => k0_hw454

def k0_off455 (v2564 : BitVec 32) : Fin 3 → Nat :=
  let v2565 : Index := Scalar.indexCast v2564
  let c0_1893 : Index := 0#32
  let c0_1894 : Index := 0#32
  ![v2565.toNat, 0, 0]

def k0_chk455 (v2564 : BitVec 32) : Prop :=
  (∀ a, (k0_off455 v2564) a + S1x1x256.size a ≤ S4001x1x256.size a)
theorem k0_off455_inb : ∀ (v2564 : BitVec 32) (k0_hw455 : k0_chk455 v2564), ∀ a, (k0_off455 v2564) a + S1x1x256.size a ≤ S4001x1x256.size a := fun v2564 k0_hw455 => k0_hw455

def k0_off456 (v2568 : BitVec 32) : Fin 3 → Nat :=
  let v2569 : Index := Scalar.indexCast v2568
  let c0_1897 : Index := 0#32
  let c0_1898 : Index := 0#32
  ![v2569.toNat, 0, 0]

def k0_chk456 (v2568 : BitVec 32) : Prop :=
  (∀ a, (k0_off456 v2568) a + S1x1x256.size a ≤ S4001x1x256.size a)
theorem k0_off456_inb : ∀ (v2568 : BitVec 32) (k0_hw456 : k0_chk456 v2568), ∀ a, (k0_off456 v2568) a + S1x1x256.size a ≤ S4001x1x256.size a := fun v2568 k0_hw456 => k0_hw456

def k0_off457 (v2572 : BitVec 32) : Fin 3 → Nat :=
  let v2573 : Index := Scalar.indexCast v2572
  let c0_1901 : Index := 0#32
  let c0_1902 : Index := 0#32
  ![v2573.toNat, 0, 0]

def k0_chk457 (v2572 : BitVec 32) : Prop :=
  (∀ a, (k0_off457 v2572) a + S1x1x256.size a ≤ S4001x1x256.size a)
theorem k0_off457_inb : ∀ (v2572 : BitVec 32) (k0_hw457 : k0_chk457 v2572), ∀ a, (k0_off457 v2572) a + S1x1x256.size a ≤ S4001x1x256.size a := fun v2572 k0_hw457 => k0_hw457

def k0_off458 (v2576 : BitVec 32) : Fin 3 → Nat :=
  let v2577 : Index := Scalar.indexCast v2576
  let c0_1905 : Index := 0#32
  let c0_1906 : Index := 0#32
  ![v2577.toNat, 0, 0]

def k0_chk458 (v2576 : BitVec 32) : Prop :=
  (∀ a, (k0_off458 v2576) a + S1x1x256.size a ≤ S4001x1x256.size a)
theorem k0_off458_inb : ∀ (v2576 : BitVec 32) (k0_hw458 : k0_chk458 v2576), ∀ a, (k0_off458 v2576) a + S1x1x256.size a ≤ S4001x1x256.size a := fun v2576 k0_hw458 => k0_hw458

def k0_off459 (v2580 : BitVec 32) : Fin 3 → Nat :=
  let v2581 : Index := Scalar.indexCast v2580
  let c0_1909 : Index := 0#32
  let c0_1910 : Index := 0#32
  ![v2581.toNat, 0, 0]

def k0_chk459 (v2580 : BitVec 32) : Prop :=
  (∀ a, (k0_off459 v2580) a + S1x1x256.size a ≤ S4001x1x256.size a)
theorem k0_off459_inb : ∀ (v2580 : BitVec 32) (k0_hw459 : k0_chk459 v2580), ∀ a, (k0_off459 v2580) a + S1x1x256.size a ≤ S4001x1x256.size a := fun v2580 k0_hw459 => k0_hw459

def k0_off460 (v2584 : BitVec 32) : Fin 3 → Nat :=
  let v2585 : Index := Scalar.indexCast v2584
  let c0_1913 : Index := 0#32
  let c0_1914 : Index := 0#32
  ![v2585.toNat, 0, 0]

def k0_chk460 (v2584 : BitVec 32) : Prop :=
  (∀ a, (k0_off460 v2584) a + S1x1x256.size a ≤ S4001x1x256.size a)
theorem k0_off460_inb : ∀ (v2584 : BitVec 32) (k0_hw460 : k0_chk460 v2584), ∀ a, (k0_off460 v2584) a + S1x1x256.size a ≤ S4001x1x256.size a := fun v2584 k0_hw460 => k0_hw460

def k0_off461 (v2640 : BitVec 32) : Fin 3 → Nat :=
  let v2641 : Index := Scalar.indexCast v2640
  let c0_1927 : Index := 0#32
  let c0_1928 : Index := 0#32
  ![v2641.toNat, 0, 0]

def k0_chk461 (v2640 : BitVec 32) : Prop :=
  (∀ a, (k0_off461 v2640) a + S1x1x256.size a ≤ S4001x1x256.size a)
theorem k0_off461_inb : ∀ (v2640 : BitVec 32) (k0_hw461 : k0_chk461 v2640), ∀ a, (k0_off461 v2640) a + S1x1x256.size a ≤ S4001x1x256.size a := fun v2640 k0_hw461 => k0_hw461

def k0_off462 (v2644 : BitVec 32) : Fin 3 → Nat :=
  let v2645 : Index := Scalar.indexCast v2644
  let c0_1931 : Index := 0#32
  let c0_1932 : Index := 0#32
  ![v2645.toNat, 0, 0]

def k0_chk462 (v2644 : BitVec 32) : Prop :=
  (∀ a, (k0_off462 v2644) a + S1x1x256.size a ≤ S4001x1x256.size a)
theorem k0_off462_inb : ∀ (v2644 : BitVec 32) (k0_hw462 : k0_chk462 v2644), ∀ a, (k0_off462 v2644) a + S1x1x256.size a ≤ S4001x1x256.size a := fun v2644 k0_hw462 => k0_hw462

def k0_off463 (v2648 : BitVec 32) : Fin 3 → Nat :=
  let v2649 : Index := Scalar.indexCast v2648
  let c0_1935 : Index := 0#32
  let c0_1936 : Index := 0#32
  ![v2649.toNat, 0, 0]

def k0_chk463 (v2648 : BitVec 32) : Prop :=
  (∀ a, (k0_off463 v2648) a + S1x1x256.size a ≤ S4001x1x256.size a)
theorem k0_off463_inb : ∀ (v2648 : BitVec 32) (k0_hw463 : k0_chk463 v2648), ∀ a, (k0_off463 v2648) a + S1x1x256.size a ≤ S4001x1x256.size a := fun v2648 k0_hw463 => k0_hw463

def k0_off464 (v2652 : BitVec 32) : Fin 3 → Nat :=
  let v2653 : Index := Scalar.indexCast v2652
  let c0_1939 : Index := 0#32
  let c0_1940 : Index := 0#32
  ![v2653.toNat, 0, 0]

def k0_chk464 (v2652 : BitVec 32) : Prop :=
  (∀ a, (k0_off464 v2652) a + S1x1x256.size a ≤ S4001x1x256.size a)
theorem k0_off464_inb : ∀ (v2652 : BitVec 32) (k0_hw464 : k0_chk464 v2652), ∀ a, (k0_off464 v2652) a + S1x1x256.size a ≤ S4001x1x256.size a := fun v2652 k0_hw464 => k0_hw464

def k0_off465 (v2656 : BitVec 32) : Fin 3 → Nat :=
  let v2657 : Index := Scalar.indexCast v2656
  let c0_1943 : Index := 0#32
  let c0_1944 : Index := 0#32
  ![v2657.toNat, 0, 0]

def k0_chk465 (v2656 : BitVec 32) : Prop :=
  (∀ a, (k0_off465 v2656) a + S1x1x256.size a ≤ S4001x1x256.size a)
theorem k0_off465_inb : ∀ (v2656 : BitVec 32) (k0_hw465 : k0_chk465 v2656), ∀ a, (k0_off465 v2656) a + S1x1x256.size a ≤ S4001x1x256.size a := fun v2656 k0_hw465 => k0_hw465

def k0_off466 (v2660 : BitVec 32) : Fin 3 → Nat :=
  let v2661 : Index := Scalar.indexCast v2660
  let c0_1947 : Index := 0#32
  let c0_1948 : Index := 0#32
  ![v2661.toNat, 0, 0]

def k0_chk466 (v2660 : BitVec 32) : Prop :=
  (∀ a, (k0_off466 v2660) a + S1x1x256.size a ≤ S4001x1x256.size a)
theorem k0_off466_inb : ∀ (v2660 : BitVec 32) (k0_hw466 : k0_chk466 v2660), ∀ a, (k0_off466 v2660) a + S1x1x256.size a ≤ S4001x1x256.size a := fun v2660 k0_hw466 => k0_hw466

def k0_off467 (v2664 : BitVec 32) : Fin 3 → Nat :=
  let v2665 : Index := Scalar.indexCast v2664
  let c0_1951 : Index := 0#32
  let c0_1952 : Index := 0#32
  ![v2665.toNat, 0, 0]

def k0_chk467 (v2664 : BitVec 32) : Prop :=
  (∀ a, (k0_off467 v2664) a + S1x1x256.size a ≤ S4001x1x256.size a)
theorem k0_off467_inb : ∀ (v2664 : BitVec 32) (k0_hw467 : k0_chk467 v2664), ∀ a, (k0_off467 v2664) a + S1x1x256.size a ≤ S4001x1x256.size a := fun v2664 k0_hw467 => k0_hw467

def k0_off468 (v2668 : BitVec 32) : Fin 3 → Nat :=
  let v2669 : Index := Scalar.indexCast v2668
  let c0_1955 : Index := 0#32
  let c0_1956 : Index := 0#32
  ![v2669.toNat, 0, 0]

def k0_chk468 (v2668 : BitVec 32) : Prop :=
  (∀ a, (k0_off468 v2668) a + S1x1x256.size a ≤ S4001x1x256.size a)
theorem k0_off468_inb : ∀ (v2668 : BitVec 32) (k0_hw468 : k0_chk468 v2668), ∀ a, (k0_off468 v2668) a + S1x1x256.size a ≤ S4001x1x256.size a := fun v2668 k0_hw468 => k0_hw468

def k0_off469 (v2672 : BitVec 32) : Fin 3 → Nat :=
  let v2673 : Index := Scalar.indexCast v2672
  let c0_1959 : Index := 0#32
  let c0_1960 : Index := 0#32
  ![v2673.toNat, 0, 0]

def k0_chk469 (v2672 : BitVec 32) : Prop :=
  (∀ a, (k0_off469 v2672) a + S1x1x256.size a ≤ S4001x1x256.size a)
theorem k0_off469_inb : ∀ (v2672 : BitVec 32) (k0_hw469 : k0_chk469 v2672), ∀ a, (k0_off469 v2672) a + S1x1x256.size a ≤ S4001x1x256.size a := fun v2672 k0_hw469 => k0_hw469

def k0_off470 (v2676 : BitVec 32) : Fin 3 → Nat :=
  let v2677 : Index := Scalar.indexCast v2676
  let c0_1963 : Index := 0#32
  let c0_1964 : Index := 0#32
  ![v2677.toNat, 0, 0]

def k0_chk470 (v2676 : BitVec 32) : Prop :=
  (∀ a, (k0_off470 v2676) a + S1x1x256.size a ≤ S4001x1x256.size a)
theorem k0_off470_inb : ∀ (v2676 : BitVec 32) (k0_hw470 : k0_chk470 v2676), ∀ a, (k0_off470 v2676) a + S1x1x256.size a ≤ S4001x1x256.size a := fun v2676 k0_hw470 => k0_hw470

def k0_off471 (v2680 : BitVec 32) : Fin 3 → Nat :=
  let v2681 : Index := Scalar.indexCast v2680
  let c0_1967 : Index := 0#32
  let c0_1968 : Index := 0#32
  ![v2681.toNat, 0, 0]

def k0_chk471 (v2680 : BitVec 32) : Prop :=
  (∀ a, (k0_off471 v2680) a + S1x1x256.size a ≤ S4001x1x256.size a)
theorem k0_off471_inb : ∀ (v2680 : BitVec 32) (k0_hw471 : k0_chk471 v2680), ∀ a, (k0_off471 v2680) a + S1x1x256.size a ≤ S4001x1x256.size a := fun v2680 k0_hw471 => k0_hw471

def k0_off472 (v2684 : BitVec 32) : Fin 3 → Nat :=
  let v2685 : Index := Scalar.indexCast v2684
  let c0_1971 : Index := 0#32
  let c0_1972 : Index := 0#32
  ![v2685.toNat, 0, 0]

def k0_chk472 (v2684 : BitVec 32) : Prop :=
  (∀ a, (k0_off472 v2684) a + S1x1x256.size a ≤ S4001x1x256.size a)
theorem k0_off472_inb : ∀ (v2684 : BitVec 32) (k0_hw472 : k0_chk472 v2684), ∀ a, (k0_off472 v2684) a + S1x1x256.size a ≤ S4001x1x256.size a := fun v2684 k0_hw472 => k0_hw472

def k0_off473 (v2688 : BitVec 32) : Fin 3 → Nat :=
  let v2689 : Index := Scalar.indexCast v2688
  let c0_1975 : Index := 0#32
  let c0_1976 : Index := 0#32
  ![v2689.toNat, 0, 0]

def k0_chk473 (v2688 : BitVec 32) : Prop :=
  (∀ a, (k0_off473 v2688) a + S1x1x256.size a ≤ S4001x1x256.size a)
theorem k0_off473_inb : ∀ (v2688 : BitVec 32) (k0_hw473 : k0_chk473 v2688), ∀ a, (k0_off473 v2688) a + S1x1x256.size a ≤ S4001x1x256.size a := fun v2688 k0_hw473 => k0_hw473

def k0_off474 (v2692 : BitVec 32) : Fin 3 → Nat :=
  let v2693 : Index := Scalar.indexCast v2692
  let c0_1979 : Index := 0#32
  let c0_1980 : Index := 0#32
  ![v2693.toNat, 0, 0]

def k0_chk474 (v2692 : BitVec 32) : Prop :=
  (∀ a, (k0_off474 v2692) a + S1x1x256.size a ≤ S4001x1x256.size a)
theorem k0_off474_inb : ∀ (v2692 : BitVec 32) (k0_hw474 : k0_chk474 v2692), ∀ a, (k0_off474 v2692) a + S1x1x256.size a ≤ S4001x1x256.size a := fun v2692 k0_hw474 => k0_hw474

def k0_off475 (v2696 : BitVec 32) : Fin 3 → Nat :=
  let v2697 : Index := Scalar.indexCast v2696
  let c0_1983 : Index := 0#32
  let c0_1984 : Index := 0#32
  ![v2697.toNat, 0, 0]

def k0_chk475 (v2696 : BitVec 32) : Prop :=
  (∀ a, (k0_off475 v2696) a + S1x1x256.size a ≤ S4001x1x256.size a)
theorem k0_off475_inb : ∀ (v2696 : BitVec 32) (k0_hw475 : k0_chk475 v2696), ∀ a, (k0_off475 v2696) a + S1x1x256.size a ≤ S4001x1x256.size a := fun v2696 k0_hw475 => k0_hw475

def k0_off476 (v2700 : BitVec 32) : Fin 3 → Nat :=
  let v2701 : Index := Scalar.indexCast v2700
  let c0_1987 : Index := 0#32
  let c0_1988 : Index := 0#32
  ![v2701.toNat, 0, 0]

def k0_chk476 (v2700 : BitVec 32) : Prop :=
  (∀ a, (k0_off476 v2700) a + S1x1x256.size a ≤ S4001x1x256.size a)
theorem k0_off476_inb : ∀ (v2700 : BitVec 32) (k0_hw476 : k0_chk476 v2700), ∀ a, (k0_off476 v2700) a + S1x1x256.size a ≤ S4001x1x256.size a := fun v2700 k0_hw476 => k0_hw476

def k0_off477 (v2704 : BitVec 32) : Fin 3 → Nat :=
  let v2705 : Index := Scalar.indexCast v2704
  let c0_1991 : Index := 0#32
  let c0_1992 : Index := 0#32
  ![v2705.toNat, 0, 0]

def k0_chk477 (v2704 : BitVec 32) : Prop :=
  (∀ a, (k0_off477 v2704) a + S1x1x256.size a ≤ S4001x1x256.size a)
theorem k0_off477_inb : ∀ (v2704 : BitVec 32) (k0_hw477 : k0_chk477 v2704), ∀ a, (k0_off477 v2704) a + S1x1x256.size a ≤ S4001x1x256.size a := fun v2704 k0_hw477 => k0_hw477

def k0_off478 (v2708 : BitVec 32) : Fin 3 → Nat :=
  let v2709 : Index := Scalar.indexCast v2708
  let c0_1995 : Index := 0#32
  let c0_1996 : Index := 0#32
  ![v2709.toNat, 0, 0]

def k0_chk478 (v2708 : BitVec 32) : Prop :=
  (∀ a, (k0_off478 v2708) a + S1x1x256.size a ≤ S4001x1x256.size a)
theorem k0_off478_inb : ∀ (v2708 : BitVec 32) (k0_hw478 : k0_chk478 v2708), ∀ a, (k0_off478 v2708) a + S1x1x256.size a ≤ S4001x1x256.size a := fun v2708 k0_hw478 => k0_hw478

def k0_off479 (v2712 : BitVec 32) : Fin 3 → Nat :=
  let v2713 : Index := Scalar.indexCast v2712
  let c0_1999 : Index := 0#32
  let c0_2000 : Index := 0#32
  ![v2713.toNat, 0, 0]

def k0_chk479 (v2712 : BitVec 32) : Prop :=
  (∀ a, (k0_off479 v2712) a + S1x1x256.size a ≤ S4001x1x256.size a)
theorem k0_off479_inb : ∀ (v2712 : BitVec 32) (k0_hw479 : k0_chk479 v2712), ∀ a, (k0_off479 v2712) a + S1x1x256.size a ≤ S4001x1x256.size a := fun v2712 k0_hw479 => k0_hw479

def k0_off480 (v2716 : BitVec 32) : Fin 3 → Nat :=
  let v2717 : Index := Scalar.indexCast v2716
  let c0_2003 : Index := 0#32
  let c0_2004 : Index := 0#32
  ![v2717.toNat, 0, 0]

def k0_chk480 (v2716 : BitVec 32) : Prop :=
  (∀ a, (k0_off480 v2716) a + S1x1x256.size a ≤ S4001x1x256.size a)
theorem k0_off480_inb : ∀ (v2716 : BitVec 32) (k0_hw480 : k0_chk480 v2716), ∀ a, (k0_off480 v2716) a + S1x1x256.size a ≤ S4001x1x256.size a := fun v2716 k0_hw480 => k0_hw480

def k0_off481 (v2780 : BitVec 32) : Fin 3 → Nat :=
  let v2781 : Index := Scalar.indexCast v2780
  let c0_2024 : Index := 0#32
  let c0_2025 : Index := 0#32
  ![v2781.toNat, 0, 0]

def k0_chk481 (v2780 : BitVec 32) : Prop :=
  (∀ a, (k0_off481 v2780) a + S1x1x256.size a ≤ S4001x1x256.size a)
theorem k0_off481_inb : ∀ (v2780 : BitVec 32) (k0_hw481 : k0_chk481 v2780), ∀ a, (k0_off481 v2780) a + S1x1x256.size a ≤ S4001x1x256.size a := fun v2780 k0_hw481 => k0_hw481

def k0_off482 (v2784 : BitVec 32) : Fin 3 → Nat :=
  let v2785 : Index := Scalar.indexCast v2784
  let c0_2028 : Index := 0#32
  let c0_2029 : Index := 0#32
  ![v2785.toNat, 0, 0]

def k0_chk482 (v2784 : BitVec 32) : Prop :=
  (∀ a, (k0_off482 v2784) a + S1x1x256.size a ≤ S4001x1x256.size a)
theorem k0_off482_inb : ∀ (v2784 : BitVec 32) (k0_hw482 : k0_chk482 v2784), ∀ a, (k0_off482 v2784) a + S1x1x256.size a ≤ S4001x1x256.size a := fun v2784 k0_hw482 => k0_hw482

def k0_off483 (v2788 : BitVec 32) : Fin 3 → Nat :=
  let v2789 : Index := Scalar.indexCast v2788
  let c0_2032 : Index := 0#32
  let c0_2033 : Index := 0#32
  ![v2789.toNat, 0, 0]

def k0_chk483 (v2788 : BitVec 32) : Prop :=
  (∀ a, (k0_off483 v2788) a + S1x1x256.size a ≤ S4001x1x256.size a)
theorem k0_off483_inb : ∀ (v2788 : BitVec 32) (k0_hw483 : k0_chk483 v2788), ∀ a, (k0_off483 v2788) a + S1x1x256.size a ≤ S4001x1x256.size a := fun v2788 k0_hw483 => k0_hw483

def k0_off484 (v2792 : BitVec 32) : Fin 3 → Nat :=
  let v2793 : Index := Scalar.indexCast v2792
  let c0_2036 : Index := 0#32
  let c0_2037 : Index := 0#32
  ![v2793.toNat, 0, 0]

def k0_chk484 (v2792 : BitVec 32) : Prop :=
  (∀ a, (k0_off484 v2792) a + S1x1x256.size a ≤ S4001x1x256.size a)
theorem k0_off484_inb : ∀ (v2792 : BitVec 32) (k0_hw484 : k0_chk484 v2792), ∀ a, (k0_off484 v2792) a + S1x1x256.size a ≤ S4001x1x256.size a := fun v2792 k0_hw484 => k0_hw484

def k0_off485 (v2796 : BitVec 32) : Fin 3 → Nat :=
  let v2797 : Index := Scalar.indexCast v2796
  let c0_2040 : Index := 0#32
  let c0_2041 : Index := 0#32
  ![v2797.toNat, 0, 0]

def k0_chk485 (v2796 : BitVec 32) : Prop :=
  (∀ a, (k0_off485 v2796) a + S1x1x256.size a ≤ S4001x1x256.size a)
theorem k0_off485_inb : ∀ (v2796 : BitVec 32) (k0_hw485 : k0_chk485 v2796), ∀ a, (k0_off485 v2796) a + S1x1x256.size a ≤ S4001x1x256.size a := fun v2796 k0_hw485 => k0_hw485

def k0_off486 (v2800 : BitVec 32) : Fin 3 → Nat :=
  let v2801 : Index := Scalar.indexCast v2800
  let c0_2044 : Index := 0#32
  let c0_2045 : Index := 0#32
  ![v2801.toNat, 0, 0]

def k0_chk486 (v2800 : BitVec 32) : Prop :=
  (∀ a, (k0_off486 v2800) a + S1x1x256.size a ≤ S4001x1x256.size a)
theorem k0_off486_inb : ∀ (v2800 : BitVec 32) (k0_hw486 : k0_chk486 v2800), ∀ a, (k0_off486 v2800) a + S1x1x256.size a ≤ S4001x1x256.size a := fun v2800 k0_hw486 => k0_hw486

def k0_off487 (v2804 : BitVec 32) : Fin 3 → Nat :=
  let v2805 : Index := Scalar.indexCast v2804
  let c0_2048 : Index := 0#32
  let c0_2049 : Index := 0#32
  ![v2805.toNat, 0, 0]

def k0_chk487 (v2804 : BitVec 32) : Prop :=
  (∀ a, (k0_off487 v2804) a + S1x1x256.size a ≤ S4001x1x256.size a)
theorem k0_off487_inb : ∀ (v2804 : BitVec 32) (k0_hw487 : k0_chk487 v2804), ∀ a, (k0_off487 v2804) a + S1x1x256.size a ≤ S4001x1x256.size a := fun v2804 k0_hw487 => k0_hw487

def k0_off488 (v2808 : BitVec 32) : Fin 3 → Nat :=
  let v2809 : Index := Scalar.indexCast v2808
  let c0_2052 : Index := 0#32
  let c0_2053 : Index := 0#32
  ![v2809.toNat, 0, 0]

def k0_chk488 (v2808 : BitVec 32) : Prop :=
  (∀ a, (k0_off488 v2808) a + S1x1x256.size a ≤ S4001x1x256.size a)
theorem k0_off488_inb : ∀ (v2808 : BitVec 32) (k0_hw488 : k0_chk488 v2808), ∀ a, (k0_off488 v2808) a + S1x1x256.size a ≤ S4001x1x256.size a := fun v2808 k0_hw488 => k0_hw488

def k0_off489 (v2812 : BitVec 32) : Fin 3 → Nat :=
  let v2813 : Index := Scalar.indexCast v2812
  let c0_2056 : Index := 0#32
  let c0_2057 : Index := 0#32
  ![v2813.toNat, 0, 0]

def k0_chk489 (v2812 : BitVec 32) : Prop :=
  (∀ a, (k0_off489 v2812) a + S1x1x256.size a ≤ S4001x1x256.size a)
theorem k0_off489_inb : ∀ (v2812 : BitVec 32) (k0_hw489 : k0_chk489 v2812), ∀ a, (k0_off489 v2812) a + S1x1x256.size a ≤ S4001x1x256.size a := fun v2812 k0_hw489 => k0_hw489

def k0_off490 (v2816 : BitVec 32) : Fin 3 → Nat :=
  let v2817 : Index := Scalar.indexCast v2816
  let c0_2060 : Index := 0#32
  let c0_2061 : Index := 0#32
  ![v2817.toNat, 0, 0]

def k0_chk490 (v2816 : BitVec 32) : Prop :=
  (∀ a, (k0_off490 v2816) a + S1x1x256.size a ≤ S4001x1x256.size a)
theorem k0_off490_inb : ∀ (v2816 : BitVec 32) (k0_hw490 : k0_chk490 v2816), ∀ a, (k0_off490 v2816) a + S1x1x256.size a ≤ S4001x1x256.size a := fun v2816 k0_hw490 => k0_hw490

def k0_off491 (v2820 : BitVec 32) : Fin 3 → Nat :=
  let v2821 : Index := Scalar.indexCast v2820
  let c0_2064 : Index := 0#32
  let c0_2065 : Index := 0#32
  ![v2821.toNat, 0, 0]

def k0_chk491 (v2820 : BitVec 32) : Prop :=
  (∀ a, (k0_off491 v2820) a + S1x1x256.size a ≤ S4001x1x256.size a)
theorem k0_off491_inb : ∀ (v2820 : BitVec 32) (k0_hw491 : k0_chk491 v2820), ∀ a, (k0_off491 v2820) a + S1x1x256.size a ≤ S4001x1x256.size a := fun v2820 k0_hw491 => k0_hw491

def k0_off492 (v2824 : BitVec 32) : Fin 3 → Nat :=
  let v2825 : Index := Scalar.indexCast v2824
  let c0_2068 : Index := 0#32
  let c0_2069 : Index := 0#32
  ![v2825.toNat, 0, 0]

def k0_chk492 (v2824 : BitVec 32) : Prop :=
  (∀ a, (k0_off492 v2824) a + S1x1x256.size a ≤ S4001x1x256.size a)
theorem k0_off492_inb : ∀ (v2824 : BitVec 32) (k0_hw492 : k0_chk492 v2824), ∀ a, (k0_off492 v2824) a + S1x1x256.size a ≤ S4001x1x256.size a := fun v2824 k0_hw492 => k0_hw492

def k0_off493 (v2828 : BitVec 32) : Fin 3 → Nat :=
  let v2829 : Index := Scalar.indexCast v2828
  let c0_2072 : Index := 0#32
  let c0_2073 : Index := 0#32
  ![v2829.toNat, 0, 0]

def k0_chk493 (v2828 : BitVec 32) : Prop :=
  (∀ a, (k0_off493 v2828) a + S1x1x256.size a ≤ S4001x1x256.size a)
theorem k0_off493_inb : ∀ (v2828 : BitVec 32) (k0_hw493 : k0_chk493 v2828), ∀ a, (k0_off493 v2828) a + S1x1x256.size a ≤ S4001x1x256.size a := fun v2828 k0_hw493 => k0_hw493

def k0_off494 (v2832 : BitVec 32) : Fin 3 → Nat :=
  let v2833 : Index := Scalar.indexCast v2832
  let c0_2076 : Index := 0#32
  let c0_2077 : Index := 0#32
  ![v2833.toNat, 0, 0]

def k0_chk494 (v2832 : BitVec 32) : Prop :=
  (∀ a, (k0_off494 v2832) a + S1x1x256.size a ≤ S4001x1x256.size a)
theorem k0_off494_inb : ∀ (v2832 : BitVec 32) (k0_hw494 : k0_chk494 v2832), ∀ a, (k0_off494 v2832) a + S1x1x256.size a ≤ S4001x1x256.size a := fun v2832 k0_hw494 => k0_hw494

def k0_off495 (v2836 : BitVec 32) : Fin 3 → Nat :=
  let v2837 : Index := Scalar.indexCast v2836
  let c0_2080 : Index := 0#32
  let c0_2081 : Index := 0#32
  ![v2837.toNat, 0, 0]

def k0_chk495 (v2836 : BitVec 32) : Prop :=
  (∀ a, (k0_off495 v2836) a + S1x1x256.size a ≤ S4001x1x256.size a)
theorem k0_off495_inb : ∀ (v2836 : BitVec 32) (k0_hw495 : k0_chk495 v2836), ∀ a, (k0_off495 v2836) a + S1x1x256.size a ≤ S4001x1x256.size a := fun v2836 k0_hw495 => k0_hw495

def k0_off496 (v2840 : BitVec 32) : Fin 3 → Nat :=
  let v2841 : Index := Scalar.indexCast v2840
  let c0_2084 : Index := 0#32
  let c0_2085 : Index := 0#32
  ![v2841.toNat, 0, 0]

def k0_chk496 (v2840 : BitVec 32) : Prop :=
  (∀ a, (k0_off496 v2840) a + S1x1x256.size a ≤ S4001x1x256.size a)
theorem k0_off496_inb : ∀ (v2840 : BitVec 32) (k0_hw496 : k0_chk496 v2840), ∀ a, (k0_off496 v2840) a + S1x1x256.size a ≤ S4001x1x256.size a := fun v2840 k0_hw496 => k0_hw496

def k0_off497 (v2844 : BitVec 32) : Fin 3 → Nat :=
  let v2845 : Index := Scalar.indexCast v2844
  let c0_2088 : Index := 0#32
  let c0_2089 : Index := 0#32
  ![v2845.toNat, 0, 0]

def k0_chk497 (v2844 : BitVec 32) : Prop :=
  (∀ a, (k0_off497 v2844) a + S1x1x256.size a ≤ S4001x1x256.size a)
theorem k0_off497_inb : ∀ (v2844 : BitVec 32) (k0_hw497 : k0_chk497 v2844), ∀ a, (k0_off497 v2844) a + S1x1x256.size a ≤ S4001x1x256.size a := fun v2844 k0_hw497 => k0_hw497

def k0_off498 (v2848 : BitVec 32) : Fin 3 → Nat :=
  let v2849 : Index := Scalar.indexCast v2848
  let c0_2092 : Index := 0#32
  let c0_2093 : Index := 0#32
  ![v2849.toNat, 0, 0]

def k0_chk498 (v2848 : BitVec 32) : Prop :=
  (∀ a, (k0_off498 v2848) a + S1x1x256.size a ≤ S4001x1x256.size a)
theorem k0_off498_inb : ∀ (v2848 : BitVec 32) (k0_hw498 : k0_chk498 v2848), ∀ a, (k0_off498 v2848) a + S1x1x256.size a ≤ S4001x1x256.size a := fun v2848 k0_hw498 => k0_hw498

def k0_off499 (v2852 : BitVec 32) : Fin 3 → Nat :=
  let v2853 : Index := Scalar.indexCast v2852
  let c0_2096 : Index := 0#32
  let c0_2097 : Index := 0#32
  ![v2853.toNat, 0, 0]

def k0_chk499 (v2852 : BitVec 32) : Prop :=
  (∀ a, (k0_off499 v2852) a + S1x1x256.size a ≤ S4001x1x256.size a)
theorem k0_off499_inb : ∀ (v2852 : BitVec 32) (k0_hw499 : k0_chk499 v2852), ∀ a, (k0_off499 v2852) a + S1x1x256.size a ≤ S4001x1x256.size a := fun v2852 k0_hw499 => k0_hw499

def k0_off500 (v2856 : BitVec 32) : Fin 3 → Nat :=
  let v2857 : Index := Scalar.indexCast v2856
  let c0_2100 : Index := 0#32
  let c0_2101 : Index := 0#32
  ![v2857.toNat, 0, 0]

def k0_chk500 (v2856 : BitVec 32) : Prop :=
  (∀ a, (k0_off500 v2856) a + S1x1x256.size a ≤ S4001x1x256.size a)
theorem k0_off500_inb : ∀ (v2856 : BitVec 32) (k0_hw500 : k0_chk500 v2856), ∀ a, (k0_off500 v2856) a + S1x1x256.size a ≤ S4001x1x256.size a := fun v2856 k0_hw500 => k0_hw500

def k0_off501 (v2860 : BitVec 32) : Fin 3 → Nat :=
  let v2861 : Index := Scalar.indexCast v2860
  let c0_2104 : Index := 0#32
  let c0_2105 : Index := 0#32
  ![v2861.toNat, 0, 0]

def k0_chk501 (v2860 : BitVec 32) : Prop :=
  (∀ a, (k0_off501 v2860) a + S1x1x256.size a ≤ S4001x1x256.size a)
theorem k0_off501_inb : ∀ (v2860 : BitVec 32) (k0_hw501 : k0_chk501 v2860), ∀ a, (k0_off501 v2860) a + S1x1x256.size a ≤ S4001x1x256.size a := fun v2860 k0_hw501 => k0_hw501

def k0_off502 (v2864 : BitVec 32) : Fin 3 → Nat :=
  let v2865 : Index := Scalar.indexCast v2864
  let c0_2108 : Index := 0#32
  let c0_2109 : Index := 0#32
  ![v2865.toNat, 0, 0]

def k0_chk502 (v2864 : BitVec 32) : Prop :=
  (∀ a, (k0_off502 v2864) a + S1x1x256.size a ≤ S4001x1x256.size a)
theorem k0_off502_inb : ∀ (v2864 : BitVec 32) (k0_hw502 : k0_chk502 v2864), ∀ a, (k0_off502 v2864) a + S1x1x256.size a ≤ S4001x1x256.size a := fun v2864 k0_hw502 => k0_hw502

def k0_off503 (v2868 : BitVec 32) : Fin 3 → Nat :=
  let v2869 : Index := Scalar.indexCast v2868
  let c0_2112 : Index := 0#32
  let c0_2113 : Index := 0#32
  ![v2869.toNat, 0, 0]

def k0_chk503 (v2868 : BitVec 32) : Prop :=
  (∀ a, (k0_off503 v2868) a + S1x1x256.size a ≤ S4001x1x256.size a)
theorem k0_off503_inb : ∀ (v2868 : BitVec 32) (k0_hw503 : k0_chk503 v2868), ∀ a, (k0_off503 v2868) a + S1x1x256.size a ≤ S4001x1x256.size a := fun v2868 k0_hw503 => k0_hw503

def k0_off504 (v2872 : BitVec 32) : Fin 3 → Nat :=
  let v2873 : Index := Scalar.indexCast v2872
  let c0_2116 : Index := 0#32
  let c0_2117 : Index := 0#32
  ![v2873.toNat, 0, 0]

def k0_chk504 (v2872 : BitVec 32) : Prop :=
  (∀ a, (k0_off504 v2872) a + S1x1x256.size a ≤ S4001x1x256.size a)
theorem k0_off504_inb : ∀ (v2872 : BitVec 32) (k0_hw504 : k0_chk504 v2872), ∀ a, (k0_off504 v2872) a + S1x1x256.size a ≤ S4001x1x256.size a := fun v2872 k0_hw504 => k0_hw504

def k0_off505 (v2876 : BitVec 32) : Fin 3 → Nat :=
  let v2877 : Index := Scalar.indexCast v2876
  let c0_2120 : Index := 0#32
  let c0_2121 : Index := 0#32
  ![v2877.toNat, 0, 0]

def k0_chk505 (v2876 : BitVec 32) : Prop :=
  (∀ a, (k0_off505 v2876) a + S1x1x256.size a ≤ S4001x1x256.size a)
theorem k0_off505_inb : ∀ (v2876 : BitVec 32) (k0_hw505 : k0_chk505 v2876), ∀ a, (k0_off505 v2876) a + S1x1x256.size a ≤ S4001x1x256.size a := fun v2876 k0_hw505 => k0_hw505

def k0_off506 (v2880 : BitVec 32) : Fin 3 → Nat :=
  let v2881 : Index := Scalar.indexCast v2880
  let c0_2124 : Index := 0#32
  let c0_2125 : Index := 0#32
  ![v2881.toNat, 0, 0]

def k0_chk506 (v2880 : BitVec 32) : Prop :=
  (∀ a, (k0_off506 v2880) a + S1x1x256.size a ≤ S4001x1x256.size a)
theorem k0_off506_inb : ∀ (v2880 : BitVec 32) (k0_hw506 : k0_chk506 v2880), ∀ a, (k0_off506 v2880) a + S1x1x256.size a ≤ S4001x1x256.size a := fun v2880 k0_hw506 => k0_hw506

def k0_off507 (v2884 : BitVec 32) : Fin 3 → Nat :=
  let v2885 : Index := Scalar.indexCast v2884
  let c0_2128 : Index := 0#32
  let c0_2129 : Index := 0#32
  ![v2885.toNat, 0, 0]

def k0_chk507 (v2884 : BitVec 32) : Prop :=
  (∀ a, (k0_off507 v2884) a + S1x1x256.size a ≤ S4001x1x256.size a)
theorem k0_off507_inb : ∀ (v2884 : BitVec 32) (k0_hw507 : k0_chk507 v2884), ∀ a, (k0_off507 v2884) a + S1x1x256.size a ≤ S4001x1x256.size a := fun v2884 k0_hw507 => k0_hw507

def k0_off508 (v2888 : BitVec 32) : Fin 3 → Nat :=
  let v2889 : Index := Scalar.indexCast v2888
  let c0_2132 : Index := 0#32
  let c0_2133 : Index := 0#32
  ![v2889.toNat, 0, 0]

def k0_chk508 (v2888 : BitVec 32) : Prop :=
  (∀ a, (k0_off508 v2888) a + S1x1x256.size a ≤ S4001x1x256.size a)
theorem k0_off508_inb : ∀ (v2888 : BitVec 32) (k0_hw508 : k0_chk508 v2888), ∀ a, (k0_off508 v2888) a + S1x1x256.size a ≤ S4001x1x256.size a := fun v2888 k0_hw508 => k0_hw508

def k0_off509 (v2892 : BitVec 32) : Fin 3 → Nat :=
  let v2893 : Index := Scalar.indexCast v2892
  let c0_2136 : Index := 0#32
  let c0_2137 : Index := 0#32
  ![v2893.toNat, 0, 0]

def k0_chk509 (v2892 : BitVec 32) : Prop :=
  (∀ a, (k0_off509 v2892) a + S1x1x256.size a ≤ S4001x1x256.size a)
theorem k0_off509_inb : ∀ (v2892 : BitVec 32) (k0_hw509 : k0_chk509 v2892), ∀ a, (k0_off509 v2892) a + S1x1x256.size a ≤ S4001x1x256.size a := fun v2892 k0_hw509 => k0_hw509

def k0_off510 (v2896 : BitVec 32) : Fin 3 → Nat :=
  let v2897 : Index := Scalar.indexCast v2896
  let c0_2140 : Index := 0#32
  let c0_2141 : Index := 0#32
  ![v2897.toNat, 0, 0]

def k0_chk510 (v2896 : BitVec 32) : Prop :=
  (∀ a, (k0_off510 v2896) a + S1x1x256.size a ≤ S4001x1x256.size a)
theorem k0_off510_inb : ∀ (v2896 : BitVec 32) (k0_hw510 : k0_chk510 v2896), ∀ a, (k0_off510 v2896) a + S1x1x256.size a ≤ S4001x1x256.size a := fun v2896 k0_hw510 => k0_hw510

def k0_off511 (v2900 : BitVec 32) : Fin 3 → Nat :=
  let v2901 : Index := Scalar.indexCast v2900
  let c0_2144 : Index := 0#32
  let c0_2145 : Index := 0#32
  ![v2901.toNat, 0, 0]

def k0_chk511 (v2900 : BitVec 32) : Prop :=
  (∀ a, (k0_off511 v2900) a + S1x1x256.size a ≤ S4001x1x256.size a)
theorem k0_off511_inb : ∀ (v2900 : BitVec 32) (k0_hw511 : k0_chk511 v2900), ∀ a, (k0_off511 v2900) a + S1x1x256.size a ≤ S4001x1x256.size a := fun v2900 k0_hw511 => k0_hw511

def k0_off512 (v2904 : BitVec 32) : Fin 3 → Nat :=
  let v2905 : Index := Scalar.indexCast v2904
  let c0_2148 : Index := 0#32
  let c0_2149 : Index := 0#32
  ![v2905.toNat, 0, 0]

def k0_chk512 (v2904 : BitVec 32) : Prop :=
  (∀ a, (k0_off512 v2904) a + S1x1x256.size a ≤ S4001x1x256.size a)
theorem k0_off512_inb : ∀ (v2904 : BitVec 32) (k0_hw512 : k0_chk512 v2904), ∀ a, (k0_off512 v2904) a + S1x1x256.size a ≤ S4001x1x256.size a := fun v2904 k0_hw512 => k0_hw512

def k0_off513 (v2908 : BitVec 32) : Fin 3 → Nat :=
  let v2909 : Index := Scalar.indexCast v2908
  let c0_2152 : Index := 0#32
  let c0_2153 : Index := 0#32
  ![v2909.toNat, 0, 0]

def k0_chk513 (v2908 : BitVec 32) : Prop :=
  (∀ a, (k0_off513 v2908) a + S1x1x256.size a ≤ S4001x1x256.size a)
theorem k0_off513_inb : ∀ (v2908 : BitVec 32) (k0_hw513 : k0_chk513 v2908), ∀ a, (k0_off513 v2908) a + S1x1x256.size a ≤ S4001x1x256.size a := fun v2908 k0_hw513 => k0_hw513

def k0_off514 (v2912 : BitVec 32) : Fin 3 → Nat :=
  let v2913 : Index := Scalar.indexCast v2912
  let c0_2156 : Index := 0#32
  let c0_2157 : Index := 0#32
  ![v2913.toNat, 0, 0]

def k0_chk514 (v2912 : BitVec 32) : Prop :=
  (∀ a, (k0_off514 v2912) a + S1x1x256.size a ≤ S4001x1x256.size a)
theorem k0_off514_inb : ∀ (v2912 : BitVec 32) (k0_hw514 : k0_chk514 v2912), ∀ a, (k0_off514 v2912) a + S1x1x256.size a ≤ S4001x1x256.size a := fun v2912 k0_hw514 => k0_hw514

def k0_off515 (v2916 : BitVec 32) : Fin 3 → Nat :=
  let v2917 : Index := Scalar.indexCast v2916
  let c0_2160 : Index := 0#32
  let c0_2161 : Index := 0#32
  ![v2917.toNat, 0, 0]

def k0_chk515 (v2916 : BitVec 32) : Prop :=
  (∀ a, (k0_off515 v2916) a + S1x1x256.size a ≤ S4001x1x256.size a)
theorem k0_off515_inb : ∀ (v2916 : BitVec 32) (k0_hw515 : k0_chk515 v2916), ∀ a, (k0_off515 v2916) a + S1x1x256.size a ≤ S4001x1x256.size a := fun v2916 k0_hw515 => k0_hw515

def k0_off516 (v2920 : BitVec 32) : Fin 3 → Nat :=
  let v2921 : Index := Scalar.indexCast v2920
  let c0_2164 : Index := 0#32
  let c0_2165 : Index := 0#32
  ![v2921.toNat, 0, 0]

def k0_chk516 (v2920 : BitVec 32) : Prop :=
  (∀ a, (k0_off516 v2920) a + S1x1x256.size a ≤ S4001x1x256.size a)
theorem k0_off516_inb : ∀ (v2920 : BitVec 32) (k0_hw516 : k0_chk516 v2920), ∀ a, (k0_off516 v2920) a + S1x1x256.size a ≤ S4001x1x256.size a := fun v2920 k0_hw516 => k0_hw516

def k0_off517 (v2924 : BitVec 32) : Fin 3 → Nat :=
  let v2925 : Index := Scalar.indexCast v2924
  let c0_2168 : Index := 0#32
  let c0_2169 : Index := 0#32
  ![v2925.toNat, 0, 0]

def k0_chk517 (v2924 : BitVec 32) : Prop :=
  (∀ a, (k0_off517 v2924) a + S1x1x256.size a ≤ S4001x1x256.size a)
theorem k0_off517_inb : ∀ (v2924 : BitVec 32) (k0_hw517 : k0_chk517 v2924), ∀ a, (k0_off517 v2924) a + S1x1x256.size a ≤ S4001x1x256.size a := fun v2924 k0_hw517 => k0_hw517

def k0_off518 (v2928 : BitVec 32) : Fin 3 → Nat :=
  let v2929 : Index := Scalar.indexCast v2928
  let c0_2172 : Index := 0#32
  let c0_2173 : Index := 0#32
  ![v2929.toNat, 0, 0]

def k0_chk518 (v2928 : BitVec 32) : Prop :=
  (∀ a, (k0_off518 v2928) a + S1x1x256.size a ≤ S4001x1x256.size a)
theorem k0_off518_inb : ∀ (v2928 : BitVec 32) (k0_hw518 : k0_chk518 v2928), ∀ a, (k0_off518 v2928) a + S1x1x256.size a ≤ S4001x1x256.size a := fun v2928 k0_hw518 => k0_hw518

def k0_off519 (v2932 : BitVec 32) : Fin 3 → Nat :=
  let v2933 : Index := Scalar.indexCast v2932
  let c0_2176 : Index := 0#32
  let c0_2177 : Index := 0#32
  ![v2933.toNat, 0, 0]

def k0_chk519 (v2932 : BitVec 32) : Prop :=
  (∀ a, (k0_off519 v2932) a + S1x1x256.size a ≤ S4001x1x256.size a)
theorem k0_off519_inb : ∀ (v2932 : BitVec 32) (k0_hw519 : k0_chk519 v2932), ∀ a, (k0_off519 v2932) a + S1x1x256.size a ≤ S4001x1x256.size a := fun v2932 k0_hw519 => k0_hw519

def k0_off520 (v2936 : BitVec 32) : Fin 3 → Nat :=
  let v2937 : Index := Scalar.indexCast v2936
  let c0_2180 : Index := 0#32
  let c0_2181 : Index := 0#32
  ![v2937.toNat, 0, 0]

def k0_chk520 (v2936 : BitVec 32) : Prop :=
  (∀ a, (k0_off520 v2936) a + S1x1x256.size a ≤ S4001x1x256.size a)
theorem k0_off520_inb : ∀ (v2936 : BitVec 32) (k0_hw520 : k0_chk520 v2936), ∀ a, (k0_off520 v2936) a + S1x1x256.size a ≤ S4001x1x256.size a := fun v2936 k0_hw520 => k0_hw520

def k0_off521 (v2979 : BitVec 32) : Fin 3 → Nat :=
  let v2980 : Index := Scalar.indexCast v2979
  let c0_2184 : Index := 0#32
  let c0_2185 : Index := 0#32
  ![v2980.toNat, 0, 0]

def k0_chk521 (v2979 : BitVec 32) : Prop :=
  (∀ a, (k0_off521 v2979) a + S1x1x256.size a ≤ S4001x1x256.size a)
theorem k0_off521_inb : ∀ (v2979 : BitVec 32) (k0_hw521 : k0_chk521 v2979), ∀ a, (k0_off521 v2979) a + S1x1x256.size a ≤ S4001x1x256.size a := fun v2979 k0_hw521 => k0_hw521

def k0_off522 (v2983 : BitVec 32) : Fin 3 → Nat :=
  let v2984 : Index := Scalar.indexCast v2983
  let c0_2188 : Index := 0#32
  let c0_2189 : Index := 0#32
  ![v2984.toNat, 0, 0]

def k0_chk522 (v2983 : BitVec 32) : Prop :=
  (∀ a, (k0_off522 v2983) a + S1x1x256.size a ≤ S4001x1x256.size a)
theorem k0_off522_inb : ∀ (v2983 : BitVec 32) (k0_hw522 : k0_chk522 v2983), ∀ a, (k0_off522 v2983) a + S1x1x256.size a ≤ S4001x1x256.size a := fun v2983 k0_hw522 => k0_hw522

def k0_off523 (v2987 : BitVec 32) : Fin 3 → Nat :=
  let v2988 : Index := Scalar.indexCast v2987
  let c0_2192 : Index := 0#32
  let c0_2193 : Index := 0#32
  ![v2988.toNat, 0, 0]

def k0_chk523 (v2987 : BitVec 32) : Prop :=
  (∀ a, (k0_off523 v2987) a + S1x1x256.size a ≤ S4001x1x256.size a)
theorem k0_off523_inb : ∀ (v2987 : BitVec 32) (k0_hw523 : k0_chk523 v2987), ∀ a, (k0_off523 v2987) a + S1x1x256.size a ≤ S4001x1x256.size a := fun v2987 k0_hw523 => k0_hw523

def k0_off524 (v2991 : BitVec 32) : Fin 3 → Nat :=
  let v2992 : Index := Scalar.indexCast v2991
  let c0_2196 : Index := 0#32
  let c0_2197 : Index := 0#32
  ![v2992.toNat, 0, 0]

def k0_chk524 (v2991 : BitVec 32) : Prop :=
  (∀ a, (k0_off524 v2991) a + S1x1x256.size a ≤ S4001x1x256.size a)
theorem k0_off524_inb : ∀ (v2991 : BitVec 32) (k0_hw524 : k0_chk524 v2991), ∀ a, (k0_off524 v2991) a + S1x1x256.size a ≤ S4001x1x256.size a := fun v2991 k0_hw524 => k0_hw524

def k0_off525 (v2995 : BitVec 32) : Fin 3 → Nat :=
  let v2996 : Index := Scalar.indexCast v2995
  let c0_2200 : Index := 0#32
  let c0_2201 : Index := 0#32
  ![v2996.toNat, 0, 0]

def k0_chk525 (v2995 : BitVec 32) : Prop :=
  (∀ a, (k0_off525 v2995) a + S1x1x256.size a ≤ S4001x1x256.size a)
theorem k0_off525_inb : ∀ (v2995 : BitVec 32) (k0_hw525 : k0_chk525 v2995), ∀ a, (k0_off525 v2995) a + S1x1x256.size a ≤ S4001x1x256.size a := fun v2995 k0_hw525 => k0_hw525

def k0_off526 (v2999 : BitVec 32) : Fin 3 → Nat :=
  let v3000 : Index := Scalar.indexCast v2999
  let c0_2204 : Index := 0#32
  let c0_2205 : Index := 0#32
  ![v3000.toNat, 0, 0]

def k0_chk526 (v2999 : BitVec 32) : Prop :=
  (∀ a, (k0_off526 v2999) a + S1x1x256.size a ≤ S4001x1x256.size a)
theorem k0_off526_inb : ∀ (v2999 : BitVec 32) (k0_hw526 : k0_chk526 v2999), ∀ a, (k0_off526 v2999) a + S1x1x256.size a ≤ S4001x1x256.size a := fun v2999 k0_hw526 => k0_hw526

def k0_off527 (v3003 : BitVec 32) : Fin 3 → Nat :=
  let v3004 : Index := Scalar.indexCast v3003
  let c0_2208 : Index := 0#32
  let c0_2209 : Index := 0#32
  ![v3004.toNat, 0, 0]

def k0_chk527 (v3003 : BitVec 32) : Prop :=
  (∀ a, (k0_off527 v3003) a + S1x1x256.size a ≤ S4001x1x256.size a)
theorem k0_off527_inb : ∀ (v3003 : BitVec 32) (k0_hw527 : k0_chk527 v3003), ∀ a, (k0_off527 v3003) a + S1x1x256.size a ≤ S4001x1x256.size a := fun v3003 k0_hw527 => k0_hw527

def k0_off528 (v3007 : BitVec 32) : Fin 3 → Nat :=
  let v3008 : Index := Scalar.indexCast v3007
  let c0_2212 : Index := 0#32
  let c0_2213 : Index := 0#32
  ![v3008.toNat, 0, 0]

def k0_chk528 (v3007 : BitVec 32) : Prop :=
  (∀ a, (k0_off528 v3007) a + S1x1x256.size a ≤ S4001x1x256.size a)
theorem k0_off528_inb : ∀ (v3007 : BitVec 32) (k0_hw528 : k0_chk528 v3007), ∀ a, (k0_off528 v3007) a + S1x1x256.size a ≤ S4001x1x256.size a := fun v3007 k0_hw528 => k0_hw528

def k0_off529 (v3011 : BitVec 32) : Fin 3 → Nat :=
  let v3012 : Index := Scalar.indexCast v3011
  let c0_2216 : Index := 0#32
  let c0_2217 : Index := 0#32
  ![v3012.toNat, 0, 0]

def k0_chk529 (v3011 : BitVec 32) : Prop :=
  (∀ a, (k0_off529 v3011) a + S1x1x256.size a ≤ S4001x1x256.size a)
theorem k0_off529_inb : ∀ (v3011 : BitVec 32) (k0_hw529 : k0_chk529 v3011), ∀ a, (k0_off529 v3011) a + S1x1x256.size a ≤ S4001x1x256.size a := fun v3011 k0_hw529 => k0_hw529

def k0_off530 (v3015 : BitVec 32) : Fin 3 → Nat :=
  let v3016 : Index := Scalar.indexCast v3015
  let c0_2220 : Index := 0#32
  let c0_2221 : Index := 0#32
  ![v3016.toNat, 0, 0]

def k0_chk530 (v3015 : BitVec 32) : Prop :=
  (∀ a, (k0_off530 v3015) a + S1x1x256.size a ≤ S4001x1x256.size a)
theorem k0_off530_inb : ∀ (v3015 : BitVec 32) (k0_hw530 : k0_chk530 v3015), ∀ a, (k0_off530 v3015) a + S1x1x256.size a ≤ S4001x1x256.size a := fun v3015 k0_hw530 => k0_hw530

def k0_off531 (v3019 : BitVec 32) : Fin 3 → Nat :=
  let v3020 : Index := Scalar.indexCast v3019
  let c0_2224 : Index := 0#32
  let c0_2225 : Index := 0#32
  ![v3020.toNat, 0, 0]

def k0_chk531 (v3019 : BitVec 32) : Prop :=
  (∀ a, (k0_off531 v3019) a + S1x1x256.size a ≤ S4001x1x256.size a)
theorem k0_off531_inb : ∀ (v3019 : BitVec 32) (k0_hw531 : k0_chk531 v3019), ∀ a, (k0_off531 v3019) a + S1x1x256.size a ≤ S4001x1x256.size a := fun v3019 k0_hw531 => k0_hw531

def k0_off532 (v3023 : BitVec 32) : Fin 3 → Nat :=
  let v3024 : Index := Scalar.indexCast v3023
  let c0_2228 : Index := 0#32
  let c0_2229 : Index := 0#32
  ![v3024.toNat, 0, 0]

def k0_chk532 (v3023 : BitVec 32) : Prop :=
  (∀ a, (k0_off532 v3023) a + S1x1x256.size a ≤ S4001x1x256.size a)
theorem k0_off532_inb : ∀ (v3023 : BitVec 32) (k0_hw532 : k0_chk532 v3023), ∀ a, (k0_off532 v3023) a + S1x1x256.size a ≤ S4001x1x256.size a := fun v3023 k0_hw532 => k0_hw532

def k0_off533 (v3027 : BitVec 32) : Fin 3 → Nat :=
  let v3028 : Index := Scalar.indexCast v3027
  let c0_2232 : Index := 0#32
  let c0_2233 : Index := 0#32
  ![v3028.toNat, 0, 0]

def k0_chk533 (v3027 : BitVec 32) : Prop :=
  (∀ a, (k0_off533 v3027) a + S1x1x256.size a ≤ S4001x1x256.size a)
theorem k0_off533_inb : ∀ (v3027 : BitVec 32) (k0_hw533 : k0_chk533 v3027), ∀ a, (k0_off533 v3027) a + S1x1x256.size a ≤ S4001x1x256.size a := fun v3027 k0_hw533 => k0_hw533

def k0_off534 (v3031 : BitVec 32) : Fin 3 → Nat :=
  let v3032 : Index := Scalar.indexCast v3031
  let c0_2236 : Index := 0#32
  let c0_2237 : Index := 0#32
  ![v3032.toNat, 0, 0]

def k0_chk534 (v3031 : BitVec 32) : Prop :=
  (∀ a, (k0_off534 v3031) a + S1x1x256.size a ≤ S4001x1x256.size a)
theorem k0_off534_inb : ∀ (v3031 : BitVec 32) (k0_hw534 : k0_chk534 v3031), ∀ a, (k0_off534 v3031) a + S1x1x256.size a ≤ S4001x1x256.size a := fun v3031 k0_hw534 => k0_hw534

def k0_off535 (v3035 : BitVec 32) : Fin 3 → Nat :=
  let v3036 : Index := Scalar.indexCast v3035
  let c0_2240 : Index := 0#32
  let c0_2241 : Index := 0#32
  ![v3036.toNat, 0, 0]

def k0_chk535 (v3035 : BitVec 32) : Prop :=
  (∀ a, (k0_off535 v3035) a + S1x1x256.size a ≤ S4001x1x256.size a)
theorem k0_off535_inb : ∀ (v3035 : BitVec 32) (k0_hw535 : k0_chk535 v3035), ∀ a, (k0_off535 v3035) a + S1x1x256.size a ≤ S4001x1x256.size a := fun v3035 k0_hw535 => k0_hw535

def k0_off536 (v3039 : BitVec 32) : Fin 3 → Nat :=
  let v3040 : Index := Scalar.indexCast v3039
  let c0_2244 : Index := 0#32
  let c0_2245 : Index := 0#32
  ![v3040.toNat, 0, 0]

def k0_chk536 (v3039 : BitVec 32) : Prop :=
  (∀ a, (k0_off536 v3039) a + S1x1x256.size a ≤ S4001x1x256.size a)
theorem k0_off536_inb : ∀ (v3039 : BitVec 32) (k0_hw536 : k0_chk536 v3039), ∀ a, (k0_off536 v3039) a + S1x1x256.size a ≤ S4001x1x256.size a := fun v3039 k0_hw536 => k0_hw536

def k0_off537 (v3043 : BitVec 32) : Fin 3 → Nat :=
  let v3044 : Index := Scalar.indexCast v3043
  let c0_2248 : Index := 0#32
  let c0_2249 : Index := 0#32
  ![v3044.toNat, 0, 0]

def k0_chk537 (v3043 : BitVec 32) : Prop :=
  (∀ a, (k0_off537 v3043) a + S1x1x256.size a ≤ S4001x1x256.size a)
theorem k0_off537_inb : ∀ (v3043 : BitVec 32) (k0_hw537 : k0_chk537 v3043), ∀ a, (k0_off537 v3043) a + S1x1x256.size a ≤ S4001x1x256.size a := fun v3043 k0_hw537 => k0_hw537

def k0_off538 (v3047 : BitVec 32) : Fin 3 → Nat :=
  let v3048 : Index := Scalar.indexCast v3047
  let c0_2252 : Index := 0#32
  let c0_2253 : Index := 0#32
  ![v3048.toNat, 0, 0]

def k0_chk538 (v3047 : BitVec 32) : Prop :=
  (∀ a, (k0_off538 v3047) a + S1x1x256.size a ≤ S4001x1x256.size a)
theorem k0_off538_inb : ∀ (v3047 : BitVec 32) (k0_hw538 : k0_chk538 v3047), ∀ a, (k0_off538 v3047) a + S1x1x256.size a ≤ S4001x1x256.size a := fun v3047 k0_hw538 => k0_hw538

def k0_off539 (v3051 : BitVec 32) : Fin 3 → Nat :=
  let v3052 : Index := Scalar.indexCast v3051
  let c0_2256 : Index := 0#32
  let c0_2257 : Index := 0#32
  ![v3052.toNat, 0, 0]

def k0_chk539 (v3051 : BitVec 32) : Prop :=
  (∀ a, (k0_off539 v3051) a + S1x1x256.size a ≤ S4001x1x256.size a)
theorem k0_off539_inb : ∀ (v3051 : BitVec 32) (k0_hw539 : k0_chk539 v3051), ∀ a, (k0_off539 v3051) a + S1x1x256.size a ≤ S4001x1x256.size a := fun v3051 k0_hw539 => k0_hw539

def k0_off540 (v3055 : BitVec 32) : Fin 3 → Nat :=
  let v3056 : Index := Scalar.indexCast v3055
  let c0_2260 : Index := 0#32
  let c0_2261 : Index := 0#32
  ![v3056.toNat, 0, 0]

def k0_chk540 (v3055 : BitVec 32) : Prop :=
  (∀ a, (k0_off540 v3055) a + S1x1x256.size a ≤ S4001x1x256.size a)
theorem k0_off540_inb : ∀ (v3055 : BitVec 32) (k0_hw540 : k0_chk540 v3055), ∀ a, (k0_off540 v3055) a + S1x1x256.size a ≤ S4001x1x256.size a := fun v3055 k0_hw540 => k0_hw540

def k0_off541 (v3111 : BitVec 32) : Fin 3 → Nat :=
  let v3112 : Index := Scalar.indexCast v3111
  let c0_2274 : Index := 0#32
  let c0_2275 : Index := 0#32
  ![v3112.toNat, 0, 0]

def k0_chk541 (v3111 : BitVec 32) : Prop :=
  (∀ a, (k0_off541 v3111) a + S1x1x256.size a ≤ S4001x1x256.size a)
theorem k0_off541_inb : ∀ (v3111 : BitVec 32) (k0_hw541 : k0_chk541 v3111), ∀ a, (k0_off541 v3111) a + S1x1x256.size a ≤ S4001x1x256.size a := fun v3111 k0_hw541 => k0_hw541

def k0_off542 (v3115 : BitVec 32) : Fin 3 → Nat :=
  let v3116 : Index := Scalar.indexCast v3115
  let c0_2278 : Index := 0#32
  let c0_2279 : Index := 0#32
  ![v3116.toNat, 0, 0]

def k0_chk542 (v3115 : BitVec 32) : Prop :=
  (∀ a, (k0_off542 v3115) a + S1x1x256.size a ≤ S4001x1x256.size a)
theorem k0_off542_inb : ∀ (v3115 : BitVec 32) (k0_hw542 : k0_chk542 v3115), ∀ a, (k0_off542 v3115) a + S1x1x256.size a ≤ S4001x1x256.size a := fun v3115 k0_hw542 => k0_hw542

def k0_off543 (v3119 : BitVec 32) : Fin 3 → Nat :=
  let v3120 : Index := Scalar.indexCast v3119
  let c0_2282 : Index := 0#32
  let c0_2283 : Index := 0#32
  ![v3120.toNat, 0, 0]

def k0_chk543 (v3119 : BitVec 32) : Prop :=
  (∀ a, (k0_off543 v3119) a + S1x1x256.size a ≤ S4001x1x256.size a)
theorem k0_off543_inb : ∀ (v3119 : BitVec 32) (k0_hw543 : k0_chk543 v3119), ∀ a, (k0_off543 v3119) a + S1x1x256.size a ≤ S4001x1x256.size a := fun v3119 k0_hw543 => k0_hw543

def k0_off544 (v3123 : BitVec 32) : Fin 3 → Nat :=
  let v3124 : Index := Scalar.indexCast v3123
  let c0_2286 : Index := 0#32
  let c0_2287 : Index := 0#32
  ![v3124.toNat, 0, 0]

def k0_chk544 (v3123 : BitVec 32) : Prop :=
  (∀ a, (k0_off544 v3123) a + S1x1x256.size a ≤ S4001x1x256.size a)
theorem k0_off544_inb : ∀ (v3123 : BitVec 32) (k0_hw544 : k0_chk544 v3123), ∀ a, (k0_off544 v3123) a + S1x1x256.size a ≤ S4001x1x256.size a := fun v3123 k0_hw544 => k0_hw544

def k0_off545 (v3127 : BitVec 32) : Fin 3 → Nat :=
  let v3128 : Index := Scalar.indexCast v3127
  let c0_2290 : Index := 0#32
  let c0_2291 : Index := 0#32
  ![v3128.toNat, 0, 0]

def k0_chk545 (v3127 : BitVec 32) : Prop :=
  (∀ a, (k0_off545 v3127) a + S1x1x256.size a ≤ S4001x1x256.size a)
theorem k0_off545_inb : ∀ (v3127 : BitVec 32) (k0_hw545 : k0_chk545 v3127), ∀ a, (k0_off545 v3127) a + S1x1x256.size a ≤ S4001x1x256.size a := fun v3127 k0_hw545 => k0_hw545

def k0_off546 (v3131 : BitVec 32) : Fin 3 → Nat :=
  let v3132 : Index := Scalar.indexCast v3131
  let c0_2294 : Index := 0#32
  let c0_2295 : Index := 0#32
  ![v3132.toNat, 0, 0]

def k0_chk546 (v3131 : BitVec 32) : Prop :=
  (∀ a, (k0_off546 v3131) a + S1x1x256.size a ≤ S4001x1x256.size a)
theorem k0_off546_inb : ∀ (v3131 : BitVec 32) (k0_hw546 : k0_chk546 v3131), ∀ a, (k0_off546 v3131) a + S1x1x256.size a ≤ S4001x1x256.size a := fun v3131 k0_hw546 => k0_hw546

def k0_off547 (v3135 : BitVec 32) : Fin 3 → Nat :=
  let v3136 : Index := Scalar.indexCast v3135
  let c0_2298 : Index := 0#32
  let c0_2299 : Index := 0#32
  ![v3136.toNat, 0, 0]

def k0_chk547 (v3135 : BitVec 32) : Prop :=
  (∀ a, (k0_off547 v3135) a + S1x1x256.size a ≤ S4001x1x256.size a)
theorem k0_off547_inb : ∀ (v3135 : BitVec 32) (k0_hw547 : k0_chk547 v3135), ∀ a, (k0_off547 v3135) a + S1x1x256.size a ≤ S4001x1x256.size a := fun v3135 k0_hw547 => k0_hw547

def k0_off548 (v3139 : BitVec 32) : Fin 3 → Nat :=
  let v3140 : Index := Scalar.indexCast v3139
  let c0_2302 : Index := 0#32
  let c0_2303 : Index := 0#32
  ![v3140.toNat, 0, 0]

def k0_chk548 (v3139 : BitVec 32) : Prop :=
  (∀ a, (k0_off548 v3139) a + S1x1x256.size a ≤ S4001x1x256.size a)
theorem k0_off548_inb : ∀ (v3139 : BitVec 32) (k0_hw548 : k0_chk548 v3139), ∀ a, (k0_off548 v3139) a + S1x1x256.size a ≤ S4001x1x256.size a := fun v3139 k0_hw548 => k0_hw548

def k0_off549 (v3143 : BitVec 32) : Fin 3 → Nat :=
  let v3144 : Index := Scalar.indexCast v3143
  let c0_2306 : Index := 0#32
  let c0_2307 : Index := 0#32
  ![v3144.toNat, 0, 0]

def k0_chk549 (v3143 : BitVec 32) : Prop :=
  (∀ a, (k0_off549 v3143) a + S1x1x256.size a ≤ S4001x1x256.size a)
theorem k0_off549_inb : ∀ (v3143 : BitVec 32) (k0_hw549 : k0_chk549 v3143), ∀ a, (k0_off549 v3143) a + S1x1x256.size a ≤ S4001x1x256.size a := fun v3143 k0_hw549 => k0_hw549

def k0_off550 (v3147 : BitVec 32) : Fin 3 → Nat :=
  let v3148 : Index := Scalar.indexCast v3147
  let c0_2310 : Index := 0#32
  let c0_2311 : Index := 0#32
  ![v3148.toNat, 0, 0]

def k0_chk550 (v3147 : BitVec 32) : Prop :=
  (∀ a, (k0_off550 v3147) a + S1x1x256.size a ≤ S4001x1x256.size a)
theorem k0_off550_inb : ∀ (v3147 : BitVec 32) (k0_hw550 : k0_chk550 v3147), ∀ a, (k0_off550 v3147) a + S1x1x256.size a ≤ S4001x1x256.size a := fun v3147 k0_hw550 => k0_hw550

def k0_off551 (v3151 : BitVec 32) : Fin 3 → Nat :=
  let v3152 : Index := Scalar.indexCast v3151
  let c0_2314 : Index := 0#32
  let c0_2315 : Index := 0#32
  ![v3152.toNat, 0, 0]

def k0_chk551 (v3151 : BitVec 32) : Prop :=
  (∀ a, (k0_off551 v3151) a + S1x1x256.size a ≤ S4001x1x256.size a)
theorem k0_off551_inb : ∀ (v3151 : BitVec 32) (k0_hw551 : k0_chk551 v3151), ∀ a, (k0_off551 v3151) a + S1x1x256.size a ≤ S4001x1x256.size a := fun v3151 k0_hw551 => k0_hw551

def k0_off552 (v3155 : BitVec 32) : Fin 3 → Nat :=
  let v3156 : Index := Scalar.indexCast v3155
  let c0_2318 : Index := 0#32
  let c0_2319 : Index := 0#32
  ![v3156.toNat, 0, 0]

def k0_chk552 (v3155 : BitVec 32) : Prop :=
  (∀ a, (k0_off552 v3155) a + S1x1x256.size a ≤ S4001x1x256.size a)
theorem k0_off552_inb : ∀ (v3155 : BitVec 32) (k0_hw552 : k0_chk552 v3155), ∀ a, (k0_off552 v3155) a + S1x1x256.size a ≤ S4001x1x256.size a := fun v3155 k0_hw552 => k0_hw552

def k0_off553 (v3159 : BitVec 32) : Fin 3 → Nat :=
  let v3160 : Index := Scalar.indexCast v3159
  let c0_2322 : Index := 0#32
  let c0_2323 : Index := 0#32
  ![v3160.toNat, 0, 0]

def k0_chk553 (v3159 : BitVec 32) : Prop :=
  (∀ a, (k0_off553 v3159) a + S1x1x256.size a ≤ S4001x1x256.size a)
theorem k0_off553_inb : ∀ (v3159 : BitVec 32) (k0_hw553 : k0_chk553 v3159), ∀ a, (k0_off553 v3159) a + S1x1x256.size a ≤ S4001x1x256.size a := fun v3159 k0_hw553 => k0_hw553

def k0_off554 (v3163 : BitVec 32) : Fin 3 → Nat :=
  let v3164 : Index := Scalar.indexCast v3163
  let c0_2326 : Index := 0#32
  let c0_2327 : Index := 0#32
  ![v3164.toNat, 0, 0]

def k0_chk554 (v3163 : BitVec 32) : Prop :=
  (∀ a, (k0_off554 v3163) a + S1x1x256.size a ≤ S4001x1x256.size a)
theorem k0_off554_inb : ∀ (v3163 : BitVec 32) (k0_hw554 : k0_chk554 v3163), ∀ a, (k0_off554 v3163) a + S1x1x256.size a ≤ S4001x1x256.size a := fun v3163 k0_hw554 => k0_hw554

def k0_off555 (v3167 : BitVec 32) : Fin 3 → Nat :=
  let v3168 : Index := Scalar.indexCast v3167
  let c0_2330 : Index := 0#32
  let c0_2331 : Index := 0#32
  ![v3168.toNat, 0, 0]

def k0_chk555 (v3167 : BitVec 32) : Prop :=
  (∀ a, (k0_off555 v3167) a + S1x1x256.size a ≤ S4001x1x256.size a)
theorem k0_off555_inb : ∀ (v3167 : BitVec 32) (k0_hw555 : k0_chk555 v3167), ∀ a, (k0_off555 v3167) a + S1x1x256.size a ≤ S4001x1x256.size a := fun v3167 k0_hw555 => k0_hw555

def k0_off556 (v3171 : BitVec 32) : Fin 3 → Nat :=
  let v3172 : Index := Scalar.indexCast v3171
  let c0_2334 : Index := 0#32
  let c0_2335 : Index := 0#32
  ![v3172.toNat, 0, 0]

def k0_chk556 (v3171 : BitVec 32) : Prop :=
  (∀ a, (k0_off556 v3171) a + S1x1x256.size a ≤ S4001x1x256.size a)
theorem k0_off556_inb : ∀ (v3171 : BitVec 32) (k0_hw556 : k0_chk556 v3171), ∀ a, (k0_off556 v3171) a + S1x1x256.size a ≤ S4001x1x256.size a := fun v3171 k0_hw556 => k0_hw556

def k0_off557 (v3175 : BitVec 32) : Fin 3 → Nat :=
  let v3176 : Index := Scalar.indexCast v3175
  let c0_2338 : Index := 0#32
  let c0_2339 : Index := 0#32
  ![v3176.toNat, 0, 0]

def k0_chk557 (v3175 : BitVec 32) : Prop :=
  (∀ a, (k0_off557 v3175) a + S1x1x256.size a ≤ S4001x1x256.size a)
theorem k0_off557_inb : ∀ (v3175 : BitVec 32) (k0_hw557 : k0_chk557 v3175), ∀ a, (k0_off557 v3175) a + S1x1x256.size a ≤ S4001x1x256.size a := fun v3175 k0_hw557 => k0_hw557

def k0_off558 (v3179 : BitVec 32) : Fin 3 → Nat :=
  let v3180 : Index := Scalar.indexCast v3179
  let c0_2342 : Index := 0#32
  let c0_2343 : Index := 0#32
  ![v3180.toNat, 0, 0]

def k0_chk558 (v3179 : BitVec 32) : Prop :=
  (∀ a, (k0_off558 v3179) a + S1x1x256.size a ≤ S4001x1x256.size a)
theorem k0_off558_inb : ∀ (v3179 : BitVec 32) (k0_hw558 : k0_chk558 v3179), ∀ a, (k0_off558 v3179) a + S1x1x256.size a ≤ S4001x1x256.size a := fun v3179 k0_hw558 => k0_hw558

def k0_off559 (v3183 : BitVec 32) : Fin 3 → Nat :=
  let v3184 : Index := Scalar.indexCast v3183
  let c0_2346 : Index := 0#32
  let c0_2347 : Index := 0#32
  ![v3184.toNat, 0, 0]

def k0_chk559 (v3183 : BitVec 32) : Prop :=
  (∀ a, (k0_off559 v3183) a + S1x1x256.size a ≤ S4001x1x256.size a)
theorem k0_off559_inb : ∀ (v3183 : BitVec 32) (k0_hw559 : k0_chk559 v3183), ∀ a, (k0_off559 v3183) a + S1x1x256.size a ≤ S4001x1x256.size a := fun v3183 k0_hw559 => k0_hw559

def k0_off560 (v3187 : BitVec 32) : Fin 3 → Nat :=
  let v3188 : Index := Scalar.indexCast v3187
  let c0_2350 : Index := 0#32
  let c0_2351 : Index := 0#32
  ![v3188.toNat, 0, 0]

def k0_chk560 (v3187 : BitVec 32) : Prop :=
  (∀ a, (k0_off560 v3187) a + S1x1x256.size a ≤ S4001x1x256.size a)
theorem k0_off560_inb : ∀ (v3187 : BitVec 32) (k0_hw560 : k0_chk560 v3187), ∀ a, (k0_off560 v3187) a + S1x1x256.size a ≤ S4001x1x256.size a := fun v3187 k0_hw560 => k0_hw560

def k0_off561 (v3191 : BitVec 32) : Fin 3 → Nat :=
  let v3192 : Index := Scalar.indexCast v3191
  let c0_2354 : Index := 0#32
  let c0_2355 : Index := 0#32
  ![v3192.toNat, 0, 0]

def k0_chk561 (v3191 : BitVec 32) : Prop :=
  (∀ a, (k0_off561 v3191) a + S1x1x256.size a ≤ S4001x1x256.size a)
theorem k0_off561_inb : ∀ (v3191 : BitVec 32) (k0_hw561 : k0_chk561 v3191), ∀ a, (k0_off561 v3191) a + S1x1x256.size a ≤ S4001x1x256.size a := fun v3191 k0_hw561 => k0_hw561

def k0_off562 (v3195 : BitVec 32) : Fin 3 → Nat :=
  let v3196 : Index := Scalar.indexCast v3195
  let c0_2358 : Index := 0#32
  let c0_2359 : Index := 0#32
  ![v3196.toNat, 0, 0]

def k0_chk562 (v3195 : BitVec 32) : Prop :=
  (∀ a, (k0_off562 v3195) a + S1x1x256.size a ≤ S4001x1x256.size a)
theorem k0_off562_inb : ∀ (v3195 : BitVec 32) (k0_hw562 : k0_chk562 v3195), ∀ a, (k0_off562 v3195) a + S1x1x256.size a ≤ S4001x1x256.size a := fun v3195 k0_hw562 => k0_hw562

def k0_off563 (v3199 : BitVec 32) : Fin 3 → Nat :=
  let v3200 : Index := Scalar.indexCast v3199
  let c0_2362 : Index := 0#32
  let c0_2363 : Index := 0#32
  ![v3200.toNat, 0, 0]

def k0_chk563 (v3199 : BitVec 32) : Prop :=
  (∀ a, (k0_off563 v3199) a + S1x1x256.size a ≤ S4001x1x256.size a)
theorem k0_off563_inb : ∀ (v3199 : BitVec 32) (k0_hw563 : k0_chk563 v3199), ∀ a, (k0_off563 v3199) a + S1x1x256.size a ≤ S4001x1x256.size a := fun v3199 k0_hw563 => k0_hw563

def k0_off564 (v3203 : BitVec 32) : Fin 3 → Nat :=
  let v3204 : Index := Scalar.indexCast v3203
  let c0_2366 : Index := 0#32
  let c0_2367 : Index := 0#32
  ![v3204.toNat, 0, 0]

def k0_chk564 (v3203 : BitVec 32) : Prop :=
  (∀ a, (k0_off564 v3203) a + S1x1x256.size a ≤ S4001x1x256.size a)
theorem k0_off564_inb : ∀ (v3203 : BitVec 32) (k0_hw564 : k0_chk564 v3203), ∀ a, (k0_off564 v3203) a + S1x1x256.size a ≤ S4001x1x256.size a := fun v3203 k0_hw564 => k0_hw564

def k0_off565 (v3207 : BitVec 32) : Fin 3 → Nat :=
  let v3208 : Index := Scalar.indexCast v3207
  let c0_2370 : Index := 0#32
  let c0_2371 : Index := 0#32
  ![v3208.toNat, 0, 0]

def k0_chk565 (v3207 : BitVec 32) : Prop :=
  (∀ a, (k0_off565 v3207) a + S1x1x256.size a ≤ S4001x1x256.size a)
theorem k0_off565_inb : ∀ (v3207 : BitVec 32) (k0_hw565 : k0_chk565 v3207), ∀ a, (k0_off565 v3207) a + S1x1x256.size a ≤ S4001x1x256.size a := fun v3207 k0_hw565 => k0_hw565

def k0_off566 (v3211 : BitVec 32) : Fin 3 → Nat :=
  let v3212 : Index := Scalar.indexCast v3211
  let c0_2374 : Index := 0#32
  let c0_2375 : Index := 0#32
  ![v3212.toNat, 0, 0]

def k0_chk566 (v3211 : BitVec 32) : Prop :=
  (∀ a, (k0_off566 v3211) a + S1x1x256.size a ≤ S4001x1x256.size a)
theorem k0_off566_inb : ∀ (v3211 : BitVec 32) (k0_hw566 : k0_chk566 v3211), ∀ a, (k0_off566 v3211) a + S1x1x256.size a ≤ S4001x1x256.size a := fun v3211 k0_hw566 => k0_hw566

def k0_off567 (v3215 : BitVec 32) : Fin 3 → Nat :=
  let v3216 : Index := Scalar.indexCast v3215
  let c0_2378 : Index := 0#32
  let c0_2379 : Index := 0#32
  ![v3216.toNat, 0, 0]

def k0_chk567 (v3215 : BitVec 32) : Prop :=
  (∀ a, (k0_off567 v3215) a + S1x1x256.size a ≤ S4001x1x256.size a)
theorem k0_off567_inb : ∀ (v3215 : BitVec 32) (k0_hw567 : k0_chk567 v3215), ∀ a, (k0_off567 v3215) a + S1x1x256.size a ≤ S4001x1x256.size a := fun v3215 k0_hw567 => k0_hw567

def k0_off568 (v3219 : BitVec 32) : Fin 3 → Nat :=
  let v3220 : Index := Scalar.indexCast v3219
  let c0_2382 : Index := 0#32
  let c0_2383 : Index := 0#32
  ![v3220.toNat, 0, 0]

def k0_chk568 (v3219 : BitVec 32) : Prop :=
  (∀ a, (k0_off568 v3219) a + S1x1x256.size a ≤ S4001x1x256.size a)
theorem k0_off568_inb : ∀ (v3219 : BitVec 32) (k0_hw568 : k0_chk568 v3219), ∀ a, (k0_off568 v3219) a + S1x1x256.size a ≤ S4001x1x256.size a := fun v3219 k0_hw568 => k0_hw568

def k0_off569 (v3223 : BitVec 32) : Fin 3 → Nat :=
  let v3224 : Index := Scalar.indexCast v3223
  let c0_2386 : Index := 0#32
  let c0_2387 : Index := 0#32
  ![v3224.toNat, 0, 0]

def k0_chk569 (v3223 : BitVec 32) : Prop :=
  (∀ a, (k0_off569 v3223) a + S1x1x256.size a ≤ S4001x1x256.size a)
theorem k0_off569_inb : ∀ (v3223 : BitVec 32) (k0_hw569 : k0_chk569 v3223), ∀ a, (k0_off569 v3223) a + S1x1x256.size a ≤ S4001x1x256.size a := fun v3223 k0_hw569 => k0_hw569

def k0_off570 (v3227 : BitVec 32) : Fin 3 → Nat :=
  let v3228 : Index := Scalar.indexCast v3227
  let c0_2390 : Index := 0#32
  let c0_2391 : Index := 0#32
  ![v3228.toNat, 0, 0]

def k0_chk570 (v3227 : BitVec 32) : Prop :=
  (∀ a, (k0_off570 v3227) a + S1x1x256.size a ≤ S4001x1x256.size a)
theorem k0_off570_inb : ∀ (v3227 : BitVec 32) (k0_hw570 : k0_chk570 v3227), ∀ a, (k0_off570 v3227) a + S1x1x256.size a ≤ S4001x1x256.size a := fun v3227 k0_hw570 => k0_hw570

def k0_off571 (v3231 : BitVec 32) : Fin 3 → Nat :=
  let v3232 : Index := Scalar.indexCast v3231
  let c0_2394 : Index := 0#32
  let c0_2395 : Index := 0#32
  ![v3232.toNat, 0, 0]

def k0_chk571 (v3231 : BitVec 32) : Prop :=
  (∀ a, (k0_off571 v3231) a + S1x1x256.size a ≤ S4001x1x256.size a)
theorem k0_off571_inb : ∀ (v3231 : BitVec 32) (k0_hw571 : k0_chk571 v3231), ∀ a, (k0_off571 v3231) a + S1x1x256.size a ≤ S4001x1x256.size a := fun v3231 k0_hw571 => k0_hw571

def k0_off572 (v3235 : BitVec 32) : Fin 3 → Nat :=
  let v3236 : Index := Scalar.indexCast v3235
  let c0_2398 : Index := 0#32
  let c0_2399 : Index := 0#32
  ![v3236.toNat, 0, 0]

def k0_chk572 (v3235 : BitVec 32) : Prop :=
  (∀ a, (k0_off572 v3235) a + S1x1x256.size a ≤ S4001x1x256.size a)
theorem k0_off572_inb : ∀ (v3235 : BitVec 32) (k0_hw572 : k0_chk572 v3235), ∀ a, (k0_off572 v3235) a + S1x1x256.size a ≤ S4001x1x256.size a := fun v3235 k0_hw572 => k0_hw572

def k0_off573 (v3239 : BitVec 32) : Fin 3 → Nat :=
  let v3240 : Index := Scalar.indexCast v3239
  let c0_2402 : Index := 0#32
  let c0_2403 : Index := 0#32
  ![v3240.toNat, 0, 0]

def k0_chk573 (v3239 : BitVec 32) : Prop :=
  (∀ a, (k0_off573 v3239) a + S1x1x256.size a ≤ S4001x1x256.size a)
theorem k0_off573_inb : ∀ (v3239 : BitVec 32) (k0_hw573 : k0_chk573 v3239), ∀ a, (k0_off573 v3239) a + S1x1x256.size a ≤ S4001x1x256.size a := fun v3239 k0_hw573 => k0_hw573

def k0_off574 (v3243 : BitVec 32) : Fin 3 → Nat :=
  let v3244 : Index := Scalar.indexCast v3243
  let c0_2406 : Index := 0#32
  let c0_2407 : Index := 0#32
  ![v3244.toNat, 0, 0]

def k0_chk574 (v3243 : BitVec 32) : Prop :=
  (∀ a, (k0_off574 v3243) a + S1x1x256.size a ≤ S4001x1x256.size a)
theorem k0_off574_inb : ∀ (v3243 : BitVec 32) (k0_hw574 : k0_chk574 v3243), ∀ a, (k0_off574 v3243) a + S1x1x256.size a ≤ S4001x1x256.size a := fun v3243 k0_hw574 => k0_hw574

def k0_off575 (v3247 : BitVec 32) : Fin 3 → Nat :=
  let v3248 : Index := Scalar.indexCast v3247
  let c0_2410 : Index := 0#32
  let c0_2411 : Index := 0#32
  ![v3248.toNat, 0, 0]

def k0_chk575 (v3247 : BitVec 32) : Prop :=
  (∀ a, (k0_off575 v3247) a + S1x1x256.size a ≤ S4001x1x256.size a)
theorem k0_off575_inb : ∀ (v3247 : BitVec 32) (k0_hw575 : k0_chk575 v3247), ∀ a, (k0_off575 v3247) a + S1x1x256.size a ≤ S4001x1x256.size a := fun v3247 k0_hw575 => k0_hw575

def k0_off576 (v3251 : BitVec 32) : Fin 3 → Nat :=
  let v3252 : Index := Scalar.indexCast v3251
  let c0_2414 : Index := 0#32
  let c0_2415 : Index := 0#32
  ![v3252.toNat, 0, 0]

def k0_chk576 (v3251 : BitVec 32) : Prop :=
  (∀ a, (k0_off576 v3251) a + S1x1x256.size a ≤ S4001x1x256.size a)
theorem k0_off576_inb : ∀ (v3251 : BitVec 32) (k0_hw576 : k0_chk576 v3251), ∀ a, (k0_off576 v3251) a + S1x1x256.size a ≤ S4001x1x256.size a := fun v3251 k0_hw576 => k0_hw576

def k0_off577 (v3255 : BitVec 32) : Fin 3 → Nat :=
  let v3256 : Index := Scalar.indexCast v3255
  let c0_2418 : Index := 0#32
  let c0_2419 : Index := 0#32
  ![v3256.toNat, 0, 0]

def k0_chk577 (v3255 : BitVec 32) : Prop :=
  (∀ a, (k0_off577 v3255) a + S1x1x256.size a ≤ S4001x1x256.size a)
theorem k0_off577_inb : ∀ (v3255 : BitVec 32) (k0_hw577 : k0_chk577 v3255), ∀ a, (k0_off577 v3255) a + S1x1x256.size a ≤ S4001x1x256.size a := fun v3255 k0_hw577 => k0_hw577

def k0_off578 (v3259 : BitVec 32) : Fin 3 → Nat :=
  let v3260 : Index := Scalar.indexCast v3259
  let c0_2422 : Index := 0#32
  let c0_2423 : Index := 0#32
  ![v3260.toNat, 0, 0]

def k0_chk578 (v3259 : BitVec 32) : Prop :=
  (∀ a, (k0_off578 v3259) a + S1x1x256.size a ≤ S4001x1x256.size a)
theorem k0_off578_inb : ∀ (v3259 : BitVec 32) (k0_hw578 : k0_chk578 v3259), ∀ a, (k0_off578 v3259) a + S1x1x256.size a ≤ S4001x1x256.size a := fun v3259 k0_hw578 => k0_hw578

def k0_off579 (v3263 : BitVec 32) : Fin 3 → Nat :=
  let v3264 : Index := Scalar.indexCast v3263
  let c0_2426 : Index := 0#32
  let c0_2427 : Index := 0#32
  ![v3264.toNat, 0, 0]

def k0_chk579 (v3263 : BitVec 32) : Prop :=
  (∀ a, (k0_off579 v3263) a + S1x1x256.size a ≤ S4001x1x256.size a)
theorem k0_off579_inb : ∀ (v3263 : BitVec 32) (k0_hw579 : k0_chk579 v3263), ∀ a, (k0_off579 v3263) a + S1x1x256.size a ≤ S4001x1x256.size a := fun v3263 k0_hw579 => k0_hw579

def k0_off580 (v3267 : BitVec 32) : Fin 3 → Nat :=
  let v3268 : Index := Scalar.indexCast v3267
  let c0_2430 : Index := 0#32
  let c0_2431 : Index := 0#32
  ![v3268.toNat, 0, 0]

def k0_chk580 (v3267 : BitVec 32) : Prop :=
  (∀ a, (k0_off580 v3267) a + S1x1x256.size a ≤ S4001x1x256.size a)
theorem k0_off580_inb : ∀ (v3267 : BitVec 32) (k0_hw580 : k0_chk580 v3267), ∀ a, (k0_off580 v3267) a + S1x1x256.size a ≤ S4001x1x256.size a := fun v3267 k0_hw580 => k0_hw580

def k0_off581 (v3310 : BitVec 32) : Fin 3 → Nat :=
  let v3311 : Index := Scalar.indexCast v3310
  let c0_2434 : Index := 0#32
  let c0_2435 : Index := 0#32
  ![v3311.toNat, 0, 0]

def k0_chk581 (v3310 : BitVec 32) : Prop :=
  (∀ a, (k0_off581 v3310) a + S1x1x256.size a ≤ S4001x1x256.size a)
theorem k0_off581_inb : ∀ (v3310 : BitVec 32) (k0_hw581 : k0_chk581 v3310), ∀ a, (k0_off581 v3310) a + S1x1x256.size a ≤ S4001x1x256.size a := fun v3310 k0_hw581 => k0_hw581

def k0_off582 (v3314 : BitVec 32) : Fin 3 → Nat :=
  let v3315 : Index := Scalar.indexCast v3314
  let c0_2438 : Index := 0#32
  let c0_2439 : Index := 0#32
  ![v3315.toNat, 0, 0]

def k0_chk582 (v3314 : BitVec 32) : Prop :=
  (∀ a, (k0_off582 v3314) a + S1x1x256.size a ≤ S4001x1x256.size a)
theorem k0_off582_inb : ∀ (v3314 : BitVec 32) (k0_hw582 : k0_chk582 v3314), ∀ a, (k0_off582 v3314) a + S1x1x256.size a ≤ S4001x1x256.size a := fun v3314 k0_hw582 => k0_hw582

def k0_off583 (v3318 : BitVec 32) : Fin 3 → Nat :=
  let v3319 : Index := Scalar.indexCast v3318
  let c0_2442 : Index := 0#32
  let c0_2443 : Index := 0#32
  ![v3319.toNat, 0, 0]

def k0_chk583 (v3318 : BitVec 32) : Prop :=
  (∀ a, (k0_off583 v3318) a + S1x1x256.size a ≤ S4001x1x256.size a)
theorem k0_off583_inb : ∀ (v3318 : BitVec 32) (k0_hw583 : k0_chk583 v3318), ∀ a, (k0_off583 v3318) a + S1x1x256.size a ≤ S4001x1x256.size a := fun v3318 k0_hw583 => k0_hw583

def k0_off584 (v3322 : BitVec 32) : Fin 3 → Nat :=
  let v3323 : Index := Scalar.indexCast v3322
  let c0_2446 : Index := 0#32
  let c0_2447 : Index := 0#32
  ![v3323.toNat, 0, 0]

def k0_chk584 (v3322 : BitVec 32) : Prop :=
  (∀ a, (k0_off584 v3322) a + S1x1x256.size a ≤ S4001x1x256.size a)
theorem k0_off584_inb : ∀ (v3322 : BitVec 32) (k0_hw584 : k0_chk584 v3322), ∀ a, (k0_off584 v3322) a + S1x1x256.size a ≤ S4001x1x256.size a := fun v3322 k0_hw584 => k0_hw584

def k0_off585 (v3326 : BitVec 32) : Fin 3 → Nat :=
  let v3327 : Index := Scalar.indexCast v3326
  let c0_2450 : Index := 0#32
  let c0_2451 : Index := 0#32
  ![v3327.toNat, 0, 0]

def k0_chk585 (v3326 : BitVec 32) : Prop :=
  (∀ a, (k0_off585 v3326) a + S1x1x256.size a ≤ S4001x1x256.size a)
theorem k0_off585_inb : ∀ (v3326 : BitVec 32) (k0_hw585 : k0_chk585 v3326), ∀ a, (k0_off585 v3326) a + S1x1x256.size a ≤ S4001x1x256.size a := fun v3326 k0_hw585 => k0_hw585

def k0_off586 (v3330 : BitVec 32) : Fin 3 → Nat :=
  let v3331 : Index := Scalar.indexCast v3330
  let c0_2454 : Index := 0#32
  let c0_2455 : Index := 0#32
  ![v3331.toNat, 0, 0]

def k0_chk586 (v3330 : BitVec 32) : Prop :=
  (∀ a, (k0_off586 v3330) a + S1x1x256.size a ≤ S4001x1x256.size a)
theorem k0_off586_inb : ∀ (v3330 : BitVec 32) (k0_hw586 : k0_chk586 v3330), ∀ a, (k0_off586 v3330) a + S1x1x256.size a ≤ S4001x1x256.size a := fun v3330 k0_hw586 => k0_hw586

def k0_off587 (v3334 : BitVec 32) : Fin 3 → Nat :=
  let v3335 : Index := Scalar.indexCast v3334
  let c0_2458 : Index := 0#32
  let c0_2459 : Index := 0#32
  ![v3335.toNat, 0, 0]

def k0_chk587 (v3334 : BitVec 32) : Prop :=
  (∀ a, (k0_off587 v3334) a + S1x1x256.size a ≤ S4001x1x256.size a)
theorem k0_off587_inb : ∀ (v3334 : BitVec 32) (k0_hw587 : k0_chk587 v3334), ∀ a, (k0_off587 v3334) a + S1x1x256.size a ≤ S4001x1x256.size a := fun v3334 k0_hw587 => k0_hw587

def k0_off588 (v3338 : BitVec 32) : Fin 3 → Nat :=
  let v3339 : Index := Scalar.indexCast v3338
  let c0_2462 : Index := 0#32
  let c0_2463 : Index := 0#32
  ![v3339.toNat, 0, 0]

def k0_chk588 (v3338 : BitVec 32) : Prop :=
  (∀ a, (k0_off588 v3338) a + S1x1x256.size a ≤ S4001x1x256.size a)
theorem k0_off588_inb : ∀ (v3338 : BitVec 32) (k0_hw588 : k0_chk588 v3338), ∀ a, (k0_off588 v3338) a + S1x1x256.size a ≤ S4001x1x256.size a := fun v3338 k0_hw588 => k0_hw588

def k0_off589 (v3342 : BitVec 32) : Fin 3 → Nat :=
  let v3343 : Index := Scalar.indexCast v3342
  let c0_2466 : Index := 0#32
  let c0_2467 : Index := 0#32
  ![v3343.toNat, 0, 0]

def k0_chk589 (v3342 : BitVec 32) : Prop :=
  (∀ a, (k0_off589 v3342) a + S1x1x256.size a ≤ S4001x1x256.size a)
theorem k0_off589_inb : ∀ (v3342 : BitVec 32) (k0_hw589 : k0_chk589 v3342), ∀ a, (k0_off589 v3342) a + S1x1x256.size a ≤ S4001x1x256.size a := fun v3342 k0_hw589 => k0_hw589

def k0_off590 (v3346 : BitVec 32) : Fin 3 → Nat :=
  let v3347 : Index := Scalar.indexCast v3346
  let c0_2470 : Index := 0#32
  let c0_2471 : Index := 0#32
  ![v3347.toNat, 0, 0]

def k0_chk590 (v3346 : BitVec 32) : Prop :=
  (∀ a, (k0_off590 v3346) a + S1x1x256.size a ≤ S4001x1x256.size a)
theorem k0_off590_inb : ∀ (v3346 : BitVec 32) (k0_hw590 : k0_chk590 v3346), ∀ a, (k0_off590 v3346) a + S1x1x256.size a ≤ S4001x1x256.size a := fun v3346 k0_hw590 => k0_hw590

def k0_off591 (v3350 : BitVec 32) : Fin 3 → Nat :=
  let v3351 : Index := Scalar.indexCast v3350
  let c0_2474 : Index := 0#32
  let c0_2475 : Index := 0#32
  ![v3351.toNat, 0, 0]

def k0_chk591 (v3350 : BitVec 32) : Prop :=
  (∀ a, (k0_off591 v3350) a + S1x1x256.size a ≤ S4001x1x256.size a)
theorem k0_off591_inb : ∀ (v3350 : BitVec 32) (k0_hw591 : k0_chk591 v3350), ∀ a, (k0_off591 v3350) a + S1x1x256.size a ≤ S4001x1x256.size a := fun v3350 k0_hw591 => k0_hw591

def k0_off592 (v3354 : BitVec 32) : Fin 3 → Nat :=
  let v3355 : Index := Scalar.indexCast v3354
  let c0_2478 : Index := 0#32
  let c0_2479 : Index := 0#32
  ![v3355.toNat, 0, 0]

def k0_chk592 (v3354 : BitVec 32) : Prop :=
  (∀ a, (k0_off592 v3354) a + S1x1x256.size a ≤ S4001x1x256.size a)
theorem k0_off592_inb : ∀ (v3354 : BitVec 32) (k0_hw592 : k0_chk592 v3354), ∀ a, (k0_off592 v3354) a + S1x1x256.size a ≤ S4001x1x256.size a := fun v3354 k0_hw592 => k0_hw592

def k0_off593 (v3358 : BitVec 32) : Fin 3 → Nat :=
  let v3359 : Index := Scalar.indexCast v3358
  let c0_2482 : Index := 0#32
  let c0_2483 : Index := 0#32
  ![v3359.toNat, 0, 0]

def k0_chk593 (v3358 : BitVec 32) : Prop :=
  (∀ a, (k0_off593 v3358) a + S1x1x256.size a ≤ S4001x1x256.size a)
theorem k0_off593_inb : ∀ (v3358 : BitVec 32) (k0_hw593 : k0_chk593 v3358), ∀ a, (k0_off593 v3358) a + S1x1x256.size a ≤ S4001x1x256.size a := fun v3358 k0_hw593 => k0_hw593

def k0_off594 (v3362 : BitVec 32) : Fin 3 → Nat :=
  let v3363 : Index := Scalar.indexCast v3362
  let c0_2486 : Index := 0#32
  let c0_2487 : Index := 0#32
  ![v3363.toNat, 0, 0]

def k0_chk594 (v3362 : BitVec 32) : Prop :=
  (∀ a, (k0_off594 v3362) a + S1x1x256.size a ≤ S4001x1x256.size a)
theorem k0_off594_inb : ∀ (v3362 : BitVec 32) (k0_hw594 : k0_chk594 v3362), ∀ a, (k0_off594 v3362) a + S1x1x256.size a ≤ S4001x1x256.size a := fun v3362 k0_hw594 => k0_hw594

def k0_off595 (v3366 : BitVec 32) : Fin 3 → Nat :=
  let v3367 : Index := Scalar.indexCast v3366
  let c0_2490 : Index := 0#32
  let c0_2491 : Index := 0#32
  ![v3367.toNat, 0, 0]

def k0_chk595 (v3366 : BitVec 32) : Prop :=
  (∀ a, (k0_off595 v3366) a + S1x1x256.size a ≤ S4001x1x256.size a)
theorem k0_off595_inb : ∀ (v3366 : BitVec 32) (k0_hw595 : k0_chk595 v3366), ∀ a, (k0_off595 v3366) a + S1x1x256.size a ≤ S4001x1x256.size a := fun v3366 k0_hw595 => k0_hw595

def k0_off596 (v3370 : BitVec 32) : Fin 3 → Nat :=
  let v3371 : Index := Scalar.indexCast v3370
  let c0_2494 : Index := 0#32
  let c0_2495 : Index := 0#32
  ![v3371.toNat, 0, 0]

def k0_chk596 (v3370 : BitVec 32) : Prop :=
  (∀ a, (k0_off596 v3370) a + S1x1x256.size a ≤ S4001x1x256.size a)
theorem k0_off596_inb : ∀ (v3370 : BitVec 32) (k0_hw596 : k0_chk596 v3370), ∀ a, (k0_off596 v3370) a + S1x1x256.size a ≤ S4001x1x256.size a := fun v3370 k0_hw596 => k0_hw596

def k0_off597 (v3374 : BitVec 32) : Fin 3 → Nat :=
  let v3375 : Index := Scalar.indexCast v3374
  let c0_2498 : Index := 0#32
  let c0_2499 : Index := 0#32
  ![v3375.toNat, 0, 0]

def k0_chk597 (v3374 : BitVec 32) : Prop :=
  (∀ a, (k0_off597 v3374) a + S1x1x256.size a ≤ S4001x1x256.size a)
theorem k0_off597_inb : ∀ (v3374 : BitVec 32) (k0_hw597 : k0_chk597 v3374), ∀ a, (k0_off597 v3374) a + S1x1x256.size a ≤ S4001x1x256.size a := fun v3374 k0_hw597 => k0_hw597

def k0_off598 (v3378 : BitVec 32) : Fin 3 → Nat :=
  let v3379 : Index := Scalar.indexCast v3378
  let c0_2502 : Index := 0#32
  let c0_2503 : Index := 0#32
  ![v3379.toNat, 0, 0]

def k0_chk598 (v3378 : BitVec 32) : Prop :=
  (∀ a, (k0_off598 v3378) a + S1x1x256.size a ≤ S4001x1x256.size a)
theorem k0_off598_inb : ∀ (v3378 : BitVec 32) (k0_hw598 : k0_chk598 v3378), ∀ a, (k0_off598 v3378) a + S1x1x256.size a ≤ S4001x1x256.size a := fun v3378 k0_hw598 => k0_hw598

def k0_off599 (v3382 : BitVec 32) : Fin 3 → Nat :=
  let v3383 : Index := Scalar.indexCast v3382
  let c0_2506 : Index := 0#32
  let c0_2507 : Index := 0#32
  ![v3383.toNat, 0, 0]

def k0_chk599 (v3382 : BitVec 32) : Prop :=
  (∀ a, (k0_off599 v3382) a + S1x1x256.size a ≤ S4001x1x256.size a)
theorem k0_off599_inb : ∀ (v3382 : BitVec 32) (k0_hw599 : k0_chk599 v3382), ∀ a, (k0_off599 v3382) a + S1x1x256.size a ≤ S4001x1x256.size a := fun v3382 k0_hw599 => k0_hw599

def k0_off600 (v3386 : BitVec 32) : Fin 3 → Nat :=
  let v3387 : Index := Scalar.indexCast v3386
  let c0_2510 : Index := 0#32
  let c0_2511 : Index := 0#32
  ![v3387.toNat, 0, 0]

def k0_chk600 (v3386 : BitVec 32) : Prop :=
  (∀ a, (k0_off600 v3386) a + S1x1x256.size a ≤ S4001x1x256.size a)
theorem k0_off600_inb : ∀ (v3386 : BitVec 32) (k0_hw600 : k0_chk600 v3386), ∀ a, (k0_off600 v3386) a + S1x1x256.size a ≤ S4001x1x256.size a := fun v3386 k0_hw600 => k0_hw600

def k0_off601 (v3442 : BitVec 32) : Fin 3 → Nat :=
  let v3443 : Index := Scalar.indexCast v3442
  let c0_2524 : Index := 0#32
  let c0_2525 : Index := 0#32
  ![v3443.toNat, 0, 0]

def k0_chk601 (v3442 : BitVec 32) : Prop :=
  (∀ a, (k0_off601 v3442) a + S1x1x256.size a ≤ S4001x1x256.size a)
theorem k0_off601_inb : ∀ (v3442 : BitVec 32) (k0_hw601 : k0_chk601 v3442), ∀ a, (k0_off601 v3442) a + S1x1x256.size a ≤ S4001x1x256.size a := fun v3442 k0_hw601 => k0_hw601

def k0_off602 (v3446 : BitVec 32) : Fin 3 → Nat :=
  let v3447 : Index := Scalar.indexCast v3446
  let c0_2528 : Index := 0#32
  let c0_2529 : Index := 0#32
  ![v3447.toNat, 0, 0]

def k0_chk602 (v3446 : BitVec 32) : Prop :=
  (∀ a, (k0_off602 v3446) a + S1x1x256.size a ≤ S4001x1x256.size a)
theorem k0_off602_inb : ∀ (v3446 : BitVec 32) (k0_hw602 : k0_chk602 v3446), ∀ a, (k0_off602 v3446) a + S1x1x256.size a ≤ S4001x1x256.size a := fun v3446 k0_hw602 => k0_hw602

def k0_off603 (v3450 : BitVec 32) : Fin 3 → Nat :=
  let v3451 : Index := Scalar.indexCast v3450
  let c0_2532 : Index := 0#32
  let c0_2533 : Index := 0#32
  ![v3451.toNat, 0, 0]

def k0_chk603 (v3450 : BitVec 32) : Prop :=
  (∀ a, (k0_off603 v3450) a + S1x1x256.size a ≤ S4001x1x256.size a)
theorem k0_off603_inb : ∀ (v3450 : BitVec 32) (k0_hw603 : k0_chk603 v3450), ∀ a, (k0_off603 v3450) a + S1x1x256.size a ≤ S4001x1x256.size a := fun v3450 k0_hw603 => k0_hw603

def k0_off604 (v3454 : BitVec 32) : Fin 3 → Nat :=
  let v3455 : Index := Scalar.indexCast v3454
  let c0_2536 : Index := 0#32
  let c0_2537 : Index := 0#32
  ![v3455.toNat, 0, 0]

def k0_chk604 (v3454 : BitVec 32) : Prop :=
  (∀ a, (k0_off604 v3454) a + S1x1x256.size a ≤ S4001x1x256.size a)
theorem k0_off604_inb : ∀ (v3454 : BitVec 32) (k0_hw604 : k0_chk604 v3454), ∀ a, (k0_off604 v3454) a + S1x1x256.size a ≤ S4001x1x256.size a := fun v3454 k0_hw604 => k0_hw604

def k0_off605 (v3458 : BitVec 32) : Fin 3 → Nat :=
  let v3459 : Index := Scalar.indexCast v3458
  let c0_2540 : Index := 0#32
  let c0_2541 : Index := 0#32
  ![v3459.toNat, 0, 0]

def k0_chk605 (v3458 : BitVec 32) : Prop :=
  (∀ a, (k0_off605 v3458) a + S1x1x256.size a ≤ S4001x1x256.size a)
theorem k0_off605_inb : ∀ (v3458 : BitVec 32) (k0_hw605 : k0_chk605 v3458), ∀ a, (k0_off605 v3458) a + S1x1x256.size a ≤ S4001x1x256.size a := fun v3458 k0_hw605 => k0_hw605

def k0_off606 (v3462 : BitVec 32) : Fin 3 → Nat :=
  let v3463 : Index := Scalar.indexCast v3462
  let c0_2544 : Index := 0#32
  let c0_2545 : Index := 0#32
  ![v3463.toNat, 0, 0]

def k0_chk606 (v3462 : BitVec 32) : Prop :=
  (∀ a, (k0_off606 v3462) a + S1x1x256.size a ≤ S4001x1x256.size a)
theorem k0_off606_inb : ∀ (v3462 : BitVec 32) (k0_hw606 : k0_chk606 v3462), ∀ a, (k0_off606 v3462) a + S1x1x256.size a ≤ S4001x1x256.size a := fun v3462 k0_hw606 => k0_hw606

def k0_off607 (v3466 : BitVec 32) : Fin 3 → Nat :=
  let v3467 : Index := Scalar.indexCast v3466
  let c0_2548 : Index := 0#32
  let c0_2549 : Index := 0#32
  ![v3467.toNat, 0, 0]

def k0_chk607 (v3466 : BitVec 32) : Prop :=
  (∀ a, (k0_off607 v3466) a + S1x1x256.size a ≤ S4001x1x256.size a)
theorem k0_off607_inb : ∀ (v3466 : BitVec 32) (k0_hw607 : k0_chk607 v3466), ∀ a, (k0_off607 v3466) a + S1x1x256.size a ≤ S4001x1x256.size a := fun v3466 k0_hw607 => k0_hw607

def k0_off608 (v3470 : BitVec 32) : Fin 3 → Nat :=
  let v3471 : Index := Scalar.indexCast v3470
  let c0_2552 : Index := 0#32
  let c0_2553 : Index := 0#32
  ![v3471.toNat, 0, 0]

def k0_chk608 (v3470 : BitVec 32) : Prop :=
  (∀ a, (k0_off608 v3470) a + S1x1x256.size a ≤ S4001x1x256.size a)
theorem k0_off608_inb : ∀ (v3470 : BitVec 32) (k0_hw608 : k0_chk608 v3470), ∀ a, (k0_off608 v3470) a + S1x1x256.size a ≤ S4001x1x256.size a := fun v3470 k0_hw608 => k0_hw608

def k0_off609 (v3474 : BitVec 32) : Fin 3 → Nat :=
  let v3475 : Index := Scalar.indexCast v3474
  let c0_2556 : Index := 0#32
  let c0_2557 : Index := 0#32
  ![v3475.toNat, 0, 0]

def k0_chk609 (v3474 : BitVec 32) : Prop :=
  (∀ a, (k0_off609 v3474) a + S1x1x256.size a ≤ S4001x1x256.size a)
theorem k0_off609_inb : ∀ (v3474 : BitVec 32) (k0_hw609 : k0_chk609 v3474), ∀ a, (k0_off609 v3474) a + S1x1x256.size a ≤ S4001x1x256.size a := fun v3474 k0_hw609 => k0_hw609

def k0_off610 (v3478 : BitVec 32) : Fin 3 → Nat :=
  let v3479 : Index := Scalar.indexCast v3478
  let c0_2560 : Index := 0#32
  let c0_2561 : Index := 0#32
  ![v3479.toNat, 0, 0]

def k0_chk610 (v3478 : BitVec 32) : Prop :=
  (∀ a, (k0_off610 v3478) a + S1x1x256.size a ≤ S4001x1x256.size a)
theorem k0_off610_inb : ∀ (v3478 : BitVec 32) (k0_hw610 : k0_chk610 v3478), ∀ a, (k0_off610 v3478) a + S1x1x256.size a ≤ S4001x1x256.size a := fun v3478 k0_hw610 => k0_hw610

def k0_off611 (v3482 : BitVec 32) : Fin 3 → Nat :=
  let v3483 : Index := Scalar.indexCast v3482
  let c0_2564 : Index := 0#32
  let c0_2565 : Index := 0#32
  ![v3483.toNat, 0, 0]

def k0_chk611 (v3482 : BitVec 32) : Prop :=
  (∀ a, (k0_off611 v3482) a + S1x1x256.size a ≤ S4001x1x256.size a)
theorem k0_off611_inb : ∀ (v3482 : BitVec 32) (k0_hw611 : k0_chk611 v3482), ∀ a, (k0_off611 v3482) a + S1x1x256.size a ≤ S4001x1x256.size a := fun v3482 k0_hw611 => k0_hw611

def k0_off612 (v3486 : BitVec 32) : Fin 3 → Nat :=
  let v3487 : Index := Scalar.indexCast v3486
  let c0_2568 : Index := 0#32
  let c0_2569 : Index := 0#32
  ![v3487.toNat, 0, 0]

def k0_chk612 (v3486 : BitVec 32) : Prop :=
  (∀ a, (k0_off612 v3486) a + S1x1x256.size a ≤ S4001x1x256.size a)
theorem k0_off612_inb : ∀ (v3486 : BitVec 32) (k0_hw612 : k0_chk612 v3486), ∀ a, (k0_off612 v3486) a + S1x1x256.size a ≤ S4001x1x256.size a := fun v3486 k0_hw612 => k0_hw612

def k0_off613 (v3490 : BitVec 32) : Fin 3 → Nat :=
  let v3491 : Index := Scalar.indexCast v3490
  let c0_2572 : Index := 0#32
  let c0_2573 : Index := 0#32
  ![v3491.toNat, 0, 0]

def k0_chk613 (v3490 : BitVec 32) : Prop :=
  (∀ a, (k0_off613 v3490) a + S1x1x256.size a ≤ S4001x1x256.size a)
theorem k0_off613_inb : ∀ (v3490 : BitVec 32) (k0_hw613 : k0_chk613 v3490), ∀ a, (k0_off613 v3490) a + S1x1x256.size a ≤ S4001x1x256.size a := fun v3490 k0_hw613 => k0_hw613

def k0_off614 (v3494 : BitVec 32) : Fin 3 → Nat :=
  let v3495 : Index := Scalar.indexCast v3494
  let c0_2576 : Index := 0#32
  let c0_2577 : Index := 0#32
  ![v3495.toNat, 0, 0]

def k0_chk614 (v3494 : BitVec 32) : Prop :=
  (∀ a, (k0_off614 v3494) a + S1x1x256.size a ≤ S4001x1x256.size a)
theorem k0_off614_inb : ∀ (v3494 : BitVec 32) (k0_hw614 : k0_chk614 v3494), ∀ a, (k0_off614 v3494) a + S1x1x256.size a ≤ S4001x1x256.size a := fun v3494 k0_hw614 => k0_hw614

def k0_off615 (v3498 : BitVec 32) : Fin 3 → Nat :=
  let v3499 : Index := Scalar.indexCast v3498
  let c0_2580 : Index := 0#32
  let c0_2581 : Index := 0#32
  ![v3499.toNat, 0, 0]

def k0_chk615 (v3498 : BitVec 32) : Prop :=
  (∀ a, (k0_off615 v3498) a + S1x1x256.size a ≤ S4001x1x256.size a)
theorem k0_off615_inb : ∀ (v3498 : BitVec 32) (k0_hw615 : k0_chk615 v3498), ∀ a, (k0_off615 v3498) a + S1x1x256.size a ≤ S4001x1x256.size a := fun v3498 k0_hw615 => k0_hw615

def k0_off616 (v3502 : BitVec 32) : Fin 3 → Nat :=
  let v3503 : Index := Scalar.indexCast v3502
  let c0_2584 : Index := 0#32
  let c0_2585 : Index := 0#32
  ![v3503.toNat, 0, 0]

def k0_chk616 (v3502 : BitVec 32) : Prop :=
  (∀ a, (k0_off616 v3502) a + S1x1x256.size a ≤ S4001x1x256.size a)
theorem k0_off616_inb : ∀ (v3502 : BitVec 32) (k0_hw616 : k0_chk616 v3502), ∀ a, (k0_off616 v3502) a + S1x1x256.size a ≤ S4001x1x256.size a := fun v3502 k0_hw616 => k0_hw616

def k0_off617 (v3506 : BitVec 32) : Fin 3 → Nat :=
  let v3507 : Index := Scalar.indexCast v3506
  let c0_2588 : Index := 0#32
  let c0_2589 : Index := 0#32
  ![v3507.toNat, 0, 0]

def k0_chk617 (v3506 : BitVec 32) : Prop :=
  (∀ a, (k0_off617 v3506) a + S1x1x256.size a ≤ S4001x1x256.size a)
theorem k0_off617_inb : ∀ (v3506 : BitVec 32) (k0_hw617 : k0_chk617 v3506), ∀ a, (k0_off617 v3506) a + S1x1x256.size a ≤ S4001x1x256.size a := fun v3506 k0_hw617 => k0_hw617

def k0_off618 (v3510 : BitVec 32) : Fin 3 → Nat :=
  let v3511 : Index := Scalar.indexCast v3510
  let c0_2592 : Index := 0#32
  let c0_2593 : Index := 0#32
  ![v3511.toNat, 0, 0]

def k0_chk618 (v3510 : BitVec 32) : Prop :=
  (∀ a, (k0_off618 v3510) a + S1x1x256.size a ≤ S4001x1x256.size a)
theorem k0_off618_inb : ∀ (v3510 : BitVec 32) (k0_hw618 : k0_chk618 v3510), ∀ a, (k0_off618 v3510) a + S1x1x256.size a ≤ S4001x1x256.size a := fun v3510 k0_hw618 => k0_hw618

def k0_off619 (v3514 : BitVec 32) : Fin 3 → Nat :=
  let v3515 : Index := Scalar.indexCast v3514
  let c0_2596 : Index := 0#32
  let c0_2597 : Index := 0#32
  ![v3515.toNat, 0, 0]

def k0_chk619 (v3514 : BitVec 32) : Prop :=
  (∀ a, (k0_off619 v3514) a + S1x1x256.size a ≤ S4001x1x256.size a)
theorem k0_off619_inb : ∀ (v3514 : BitVec 32) (k0_hw619 : k0_chk619 v3514), ∀ a, (k0_off619 v3514) a + S1x1x256.size a ≤ S4001x1x256.size a := fun v3514 k0_hw619 => k0_hw619

def k0_off620 (v3518 : BitVec 32) : Fin 3 → Nat :=
  let v3519 : Index := Scalar.indexCast v3518
  let c0_2600 : Index := 0#32
  let c0_2601 : Index := 0#32
  ![v3519.toNat, 0, 0]

def k0_chk620 (v3518 : BitVec 32) : Prop :=
  (∀ a, (k0_off620 v3518) a + S1x1x256.size a ≤ S4001x1x256.size a)
theorem k0_off620_inb : ∀ (v3518 : BitVec 32) (k0_hw620 : k0_chk620 v3518), ∀ a, (k0_off620 v3518) a + S1x1x256.size a ≤ S4001x1x256.size a := fun v3518 k0_hw620 => k0_hw620

def k0_off621 (v3522 : BitVec 32) : Fin 3 → Nat :=
  let v3523 : Index := Scalar.indexCast v3522
  let c0_2604 : Index := 0#32
  let c0_2605 : Index := 0#32
  ![v3523.toNat, 0, 0]

def k0_chk621 (v3522 : BitVec 32) : Prop :=
  (∀ a, (k0_off621 v3522) a + S1x1x256.size a ≤ S4001x1x256.size a)
theorem k0_off621_inb : ∀ (v3522 : BitVec 32) (k0_hw621 : k0_chk621 v3522), ∀ a, (k0_off621 v3522) a + S1x1x256.size a ≤ S4001x1x256.size a := fun v3522 k0_hw621 => k0_hw621

def k0_off622 (v3526 : BitVec 32) : Fin 3 → Nat :=
  let v3527 : Index := Scalar.indexCast v3526
  let c0_2608 : Index := 0#32
  let c0_2609 : Index := 0#32
  ![v3527.toNat, 0, 0]

def k0_chk622 (v3526 : BitVec 32) : Prop :=
  (∀ a, (k0_off622 v3526) a + S1x1x256.size a ≤ S4001x1x256.size a)
theorem k0_off622_inb : ∀ (v3526 : BitVec 32) (k0_hw622 : k0_chk622 v3526), ∀ a, (k0_off622 v3526) a + S1x1x256.size a ≤ S4001x1x256.size a := fun v3526 k0_hw622 => k0_hw622

def k0_off623 (v3530 : BitVec 32) : Fin 3 → Nat :=
  let v3531 : Index := Scalar.indexCast v3530
  let c0_2612 : Index := 0#32
  let c0_2613 : Index := 0#32
  ![v3531.toNat, 0, 0]

def k0_chk623 (v3530 : BitVec 32) : Prop :=
  (∀ a, (k0_off623 v3530) a + S1x1x256.size a ≤ S4001x1x256.size a)
theorem k0_off623_inb : ∀ (v3530 : BitVec 32) (k0_hw623 : k0_chk623 v3530), ∀ a, (k0_off623 v3530) a + S1x1x256.size a ≤ S4001x1x256.size a := fun v3530 k0_hw623 => k0_hw623

def k0_off624 (v3534 : BitVec 32) : Fin 3 → Nat :=
  let v3535 : Index := Scalar.indexCast v3534
  let c0_2616 : Index := 0#32
  let c0_2617 : Index := 0#32
  ![v3535.toNat, 0, 0]

def k0_chk624 (v3534 : BitVec 32) : Prop :=
  (∀ a, (k0_off624 v3534) a + S1x1x256.size a ≤ S4001x1x256.size a)
theorem k0_off624_inb : ∀ (v3534 : BitVec 32) (k0_hw624 : k0_chk624 v3534), ∀ a, (k0_off624 v3534) a + S1x1x256.size a ≤ S4001x1x256.size a := fun v3534 k0_hw624 => k0_hw624

def k0_off625 (v3538 : BitVec 32) : Fin 3 → Nat :=
  let v3539 : Index := Scalar.indexCast v3538
  let c0_2620 : Index := 0#32
  let c0_2621 : Index := 0#32
  ![v3539.toNat, 0, 0]

def k0_chk625 (v3538 : BitVec 32) : Prop :=
  (∀ a, (k0_off625 v3538) a + S1x1x256.size a ≤ S4001x1x256.size a)
theorem k0_off625_inb : ∀ (v3538 : BitVec 32) (k0_hw625 : k0_chk625 v3538), ∀ a, (k0_off625 v3538) a + S1x1x256.size a ≤ S4001x1x256.size a := fun v3538 k0_hw625 => k0_hw625

def k0_off626 (v3542 : BitVec 32) : Fin 3 → Nat :=
  let v3543 : Index := Scalar.indexCast v3542
  let c0_2624 : Index := 0#32
  let c0_2625 : Index := 0#32
  ![v3543.toNat, 0, 0]

def k0_chk626 (v3542 : BitVec 32) : Prop :=
  (∀ a, (k0_off626 v3542) a + S1x1x256.size a ≤ S4001x1x256.size a)
theorem k0_off626_inb : ∀ (v3542 : BitVec 32) (k0_hw626 : k0_chk626 v3542), ∀ a, (k0_off626 v3542) a + S1x1x256.size a ≤ S4001x1x256.size a := fun v3542 k0_hw626 => k0_hw626

def k0_off627 (v3546 : BitVec 32) : Fin 3 → Nat :=
  let v3547 : Index := Scalar.indexCast v3546
  let c0_2628 : Index := 0#32
  let c0_2629 : Index := 0#32
  ![v3547.toNat, 0, 0]

def k0_chk627 (v3546 : BitVec 32) : Prop :=
  (∀ a, (k0_off627 v3546) a + S1x1x256.size a ≤ S4001x1x256.size a)
theorem k0_off627_inb : ∀ (v3546 : BitVec 32) (k0_hw627 : k0_chk627 v3546), ∀ a, (k0_off627 v3546) a + S1x1x256.size a ≤ S4001x1x256.size a := fun v3546 k0_hw627 => k0_hw627

def k0_off628 (v3550 : BitVec 32) : Fin 3 → Nat :=
  let v3551 : Index := Scalar.indexCast v3550
  let c0_2632 : Index := 0#32
  let c0_2633 : Index := 0#32
  ![v3551.toNat, 0, 0]

def k0_chk628 (v3550 : BitVec 32) : Prop :=
  (∀ a, (k0_off628 v3550) a + S1x1x256.size a ≤ S4001x1x256.size a)
theorem k0_off628_inb : ∀ (v3550 : BitVec 32) (k0_hw628 : k0_chk628 v3550), ∀ a, (k0_off628 v3550) a + S1x1x256.size a ≤ S4001x1x256.size a := fun v3550 k0_hw628 => k0_hw628

def k0_off629 (v3554 : BitVec 32) : Fin 3 → Nat :=
  let v3555 : Index := Scalar.indexCast v3554
  let c0_2636 : Index := 0#32
  let c0_2637 : Index := 0#32
  ![v3555.toNat, 0, 0]

def k0_chk629 (v3554 : BitVec 32) : Prop :=
  (∀ a, (k0_off629 v3554) a + S1x1x256.size a ≤ S4001x1x256.size a)
theorem k0_off629_inb : ∀ (v3554 : BitVec 32) (k0_hw629 : k0_chk629 v3554), ∀ a, (k0_off629 v3554) a + S1x1x256.size a ≤ S4001x1x256.size a := fun v3554 k0_hw629 => k0_hw629

def k0_off630 (v3558 : BitVec 32) : Fin 3 → Nat :=
  let v3559 : Index := Scalar.indexCast v3558
  let c0_2640 : Index := 0#32
  let c0_2641 : Index := 0#32
  ![v3559.toNat, 0, 0]

def k0_chk630 (v3558 : BitVec 32) : Prop :=
  (∀ a, (k0_off630 v3558) a + S1x1x256.size a ≤ S4001x1x256.size a)
theorem k0_off630_inb : ∀ (v3558 : BitVec 32) (k0_hw630 : k0_chk630 v3558), ∀ a, (k0_off630 v3558) a + S1x1x256.size a ≤ S4001x1x256.size a := fun v3558 k0_hw630 => k0_hw630

def k0_off631 (v3562 : BitVec 32) : Fin 3 → Nat :=
  let v3563 : Index := Scalar.indexCast v3562
  let c0_2644 : Index := 0#32
  let c0_2645 : Index := 0#32
  ![v3563.toNat, 0, 0]

def k0_chk631 (v3562 : BitVec 32) : Prop :=
  (∀ a, (k0_off631 v3562) a + S1x1x256.size a ≤ S4001x1x256.size a)
theorem k0_off631_inb : ∀ (v3562 : BitVec 32) (k0_hw631 : k0_chk631 v3562), ∀ a, (k0_off631 v3562) a + S1x1x256.size a ≤ S4001x1x256.size a := fun v3562 k0_hw631 => k0_hw631

def k0_off632 (v3566 : BitVec 32) : Fin 3 → Nat :=
  let v3567 : Index := Scalar.indexCast v3566
  let c0_2648 : Index := 0#32
  let c0_2649 : Index := 0#32
  ![v3567.toNat, 0, 0]

def k0_chk632 (v3566 : BitVec 32) : Prop :=
  (∀ a, (k0_off632 v3566) a + S1x1x256.size a ≤ S4001x1x256.size a)
theorem k0_off632_inb : ∀ (v3566 : BitVec 32) (k0_hw632 : k0_chk632 v3566), ∀ a, (k0_off632 v3566) a + S1x1x256.size a ≤ S4001x1x256.size a := fun v3566 k0_hw632 => k0_hw632

def k0_off633 (v3570 : BitVec 32) : Fin 3 → Nat :=
  let v3571 : Index := Scalar.indexCast v3570
  let c0_2652 : Index := 0#32
  let c0_2653 : Index := 0#32
  ![v3571.toNat, 0, 0]

def k0_chk633 (v3570 : BitVec 32) : Prop :=
  (∀ a, (k0_off633 v3570) a + S1x1x256.size a ≤ S4001x1x256.size a)
theorem k0_off633_inb : ∀ (v3570 : BitVec 32) (k0_hw633 : k0_chk633 v3570), ∀ a, (k0_off633 v3570) a + S1x1x256.size a ≤ S4001x1x256.size a := fun v3570 k0_hw633 => k0_hw633

def k0_off634 (v3574 : BitVec 32) : Fin 3 → Nat :=
  let v3575 : Index := Scalar.indexCast v3574
  let c0_2656 : Index := 0#32
  let c0_2657 : Index := 0#32
  ![v3575.toNat, 0, 0]

def k0_chk634 (v3574 : BitVec 32) : Prop :=
  (∀ a, (k0_off634 v3574) a + S1x1x256.size a ≤ S4001x1x256.size a)
theorem k0_off634_inb : ∀ (v3574 : BitVec 32) (k0_hw634 : k0_chk634 v3574), ∀ a, (k0_off634 v3574) a + S1x1x256.size a ≤ S4001x1x256.size a := fun v3574 k0_hw634 => k0_hw634

def k0_off635 (v3578 : BitVec 32) : Fin 3 → Nat :=
  let v3579 : Index := Scalar.indexCast v3578
  let c0_2660 : Index := 0#32
  let c0_2661 : Index := 0#32
  ![v3579.toNat, 0, 0]

def k0_chk635 (v3578 : BitVec 32) : Prop :=
  (∀ a, (k0_off635 v3578) a + S1x1x256.size a ≤ S4001x1x256.size a)
theorem k0_off635_inb : ∀ (v3578 : BitVec 32) (k0_hw635 : k0_chk635 v3578), ∀ a, (k0_off635 v3578) a + S1x1x256.size a ≤ S4001x1x256.size a := fun v3578 k0_hw635 => k0_hw635

def k0_off636 (v3582 : BitVec 32) : Fin 3 → Nat :=
  let v3583 : Index := Scalar.indexCast v3582
  let c0_2664 : Index := 0#32
  let c0_2665 : Index := 0#32
  ![v3583.toNat, 0, 0]

def k0_chk636 (v3582 : BitVec 32) : Prop :=
  (∀ a, (k0_off636 v3582) a + S1x1x256.size a ≤ S4001x1x256.size a)
theorem k0_off636_inb : ∀ (v3582 : BitVec 32) (k0_hw636 : k0_chk636 v3582), ∀ a, (k0_off636 v3582) a + S1x1x256.size a ≤ S4001x1x256.size a := fun v3582 k0_hw636 => k0_hw636

def k0_off637 (v3586 : BitVec 32) : Fin 3 → Nat :=
  let v3587 : Index := Scalar.indexCast v3586
  let c0_2668 : Index := 0#32
  let c0_2669 : Index := 0#32
  ![v3587.toNat, 0, 0]

def k0_chk637 (v3586 : BitVec 32) : Prop :=
  (∀ a, (k0_off637 v3586) a + S1x1x256.size a ≤ S4001x1x256.size a)
theorem k0_off637_inb : ∀ (v3586 : BitVec 32) (k0_hw637 : k0_chk637 v3586), ∀ a, (k0_off637 v3586) a + S1x1x256.size a ≤ S4001x1x256.size a := fun v3586 k0_hw637 => k0_hw637

def k0_off638 (v3590 : BitVec 32) : Fin 3 → Nat :=
  let v3591 : Index := Scalar.indexCast v3590
  let c0_2672 : Index := 0#32
  let c0_2673 : Index := 0#32
  ![v3591.toNat, 0, 0]

def k0_chk638 (v3590 : BitVec 32) : Prop :=
  (∀ a, (k0_off638 v3590) a + S1x1x256.size a ≤ S4001x1x256.size a)
theorem k0_off638_inb : ∀ (v3590 : BitVec 32) (k0_hw638 : k0_chk638 v3590), ∀ a, (k0_off638 v3590) a + S1x1x256.size a ≤ S4001x1x256.size a := fun v3590 k0_hw638 => k0_hw638

def k0_off639 (v3594 : BitVec 32) : Fin 3 → Nat :=
  let v3595 : Index := Scalar.indexCast v3594
  let c0_2676 : Index := 0#32
  let c0_2677 : Index := 0#32
  ![v3595.toNat, 0, 0]

def k0_chk639 (v3594 : BitVec 32) : Prop :=
  (∀ a, (k0_off639 v3594) a + S1x1x256.size a ≤ S4001x1x256.size a)
theorem k0_off639_inb : ∀ (v3594 : BitVec 32) (k0_hw639 : k0_chk639 v3594), ∀ a, (k0_off639 v3594) a + S1x1x256.size a ≤ S4001x1x256.size a := fun v3594 k0_hw639 => k0_hw639

def k0_off640 (v3598 : BitVec 32) : Fin 3 → Nat :=
  let v3599 : Index := Scalar.indexCast v3598
  let c0_2680 : Index := 0#32
  let c0_2681 : Index := 0#32
  ![v3599.toNat, 0, 0]

def k0_chk640 (v3598 : BitVec 32) : Prop :=
  (∀ a, (k0_off640 v3598) a + S1x1x256.size a ≤ S4001x1x256.size a)
theorem k0_off640_inb : ∀ (v3598 : BitVec 32) (k0_hw640 : k0_chk640 v3598), ∀ a, (k0_off640 v3598) a + S1x1x256.size a ≤ S4001x1x256.size a := fun v3598 k0_hw640 => k0_hw640

def k0_off641 (v3641 : BitVec 32) : Fin 3 → Nat :=
  let v3642 : Index := Scalar.indexCast v3641
  let c0_2684 : Index := 0#32
  let c0_2685 : Index := 0#32
  ![v3642.toNat, 0, 0]

def k0_chk641 (v3641 : BitVec 32) : Prop :=
  (∀ a, (k0_off641 v3641) a + S1x1x256.size a ≤ S4001x1x256.size a)
theorem k0_off641_inb : ∀ (v3641 : BitVec 32) (k0_hw641 : k0_chk641 v3641), ∀ a, (k0_off641 v3641) a + S1x1x256.size a ≤ S4001x1x256.size a := fun v3641 k0_hw641 => k0_hw641

def k0_off642 (v3645 : BitVec 32) : Fin 3 → Nat :=
  let v3646 : Index := Scalar.indexCast v3645
  let c0_2688 : Index := 0#32
  let c0_2689 : Index := 0#32
  ![v3646.toNat, 0, 0]

def k0_chk642 (v3645 : BitVec 32) : Prop :=
  (∀ a, (k0_off642 v3645) a + S1x1x256.size a ≤ S4001x1x256.size a)
theorem k0_off642_inb : ∀ (v3645 : BitVec 32) (k0_hw642 : k0_chk642 v3645), ∀ a, (k0_off642 v3645) a + S1x1x256.size a ≤ S4001x1x256.size a := fun v3645 k0_hw642 => k0_hw642

def k0_off643 (v3649 : BitVec 32) : Fin 3 → Nat :=
  let v3650 : Index := Scalar.indexCast v3649
  let c0_2692 : Index := 0#32
  let c0_2693 : Index := 0#32
  ![v3650.toNat, 0, 0]

def k0_chk643 (v3649 : BitVec 32) : Prop :=
  (∀ a, (k0_off643 v3649) a + S1x1x256.size a ≤ S4001x1x256.size a)
theorem k0_off643_inb : ∀ (v3649 : BitVec 32) (k0_hw643 : k0_chk643 v3649), ∀ a, (k0_off643 v3649) a + S1x1x256.size a ≤ S4001x1x256.size a := fun v3649 k0_hw643 => k0_hw643

def k0_off644 (v3653 : BitVec 32) : Fin 3 → Nat :=
  let v3654 : Index := Scalar.indexCast v3653
  let c0_2696 : Index := 0#32
  let c0_2697 : Index := 0#32
  ![v3654.toNat, 0, 0]

def k0_chk644 (v3653 : BitVec 32) : Prop :=
  (∀ a, (k0_off644 v3653) a + S1x1x256.size a ≤ S4001x1x256.size a)
theorem k0_off644_inb : ∀ (v3653 : BitVec 32) (k0_hw644 : k0_chk644 v3653), ∀ a, (k0_off644 v3653) a + S1x1x256.size a ≤ S4001x1x256.size a := fun v3653 k0_hw644 => k0_hw644

def k0_off645 (v3657 : BitVec 32) : Fin 3 → Nat :=
  let v3658 : Index := Scalar.indexCast v3657
  let c0_2700 : Index := 0#32
  let c0_2701 : Index := 0#32
  ![v3658.toNat, 0, 0]

def k0_chk645 (v3657 : BitVec 32) : Prop :=
  (∀ a, (k0_off645 v3657) a + S1x1x256.size a ≤ S4001x1x256.size a)
theorem k0_off645_inb : ∀ (v3657 : BitVec 32) (k0_hw645 : k0_chk645 v3657), ∀ a, (k0_off645 v3657) a + S1x1x256.size a ≤ S4001x1x256.size a := fun v3657 k0_hw645 => k0_hw645

def k0_off646 (v3661 : BitVec 32) : Fin 3 → Nat :=
  let v3662 : Index := Scalar.indexCast v3661
  let c0_2704 : Index := 0#32
  let c0_2705 : Index := 0#32
  ![v3662.toNat, 0, 0]

def k0_chk646 (v3661 : BitVec 32) : Prop :=
  (∀ a, (k0_off646 v3661) a + S1x1x256.size a ≤ S4001x1x256.size a)
theorem k0_off646_inb : ∀ (v3661 : BitVec 32) (k0_hw646 : k0_chk646 v3661), ∀ a, (k0_off646 v3661) a + S1x1x256.size a ≤ S4001x1x256.size a := fun v3661 k0_hw646 => k0_hw646

def k0_off647 (v3665 : BitVec 32) : Fin 3 → Nat :=
  let v3666 : Index := Scalar.indexCast v3665
  let c0_2708 : Index := 0#32
  let c0_2709 : Index := 0#32
  ![v3666.toNat, 0, 0]

def k0_chk647 (v3665 : BitVec 32) : Prop :=
  (∀ a, (k0_off647 v3665) a + S1x1x256.size a ≤ S4001x1x256.size a)
theorem k0_off647_inb : ∀ (v3665 : BitVec 32) (k0_hw647 : k0_chk647 v3665), ∀ a, (k0_off647 v3665) a + S1x1x256.size a ≤ S4001x1x256.size a := fun v3665 k0_hw647 => k0_hw647

def k0_off648 (v3669 : BitVec 32) : Fin 3 → Nat :=
  let v3670 : Index := Scalar.indexCast v3669
  let c0_2712 : Index := 0#32
  let c0_2713 : Index := 0#32
  ![v3670.toNat, 0, 0]

def k0_chk648 (v3669 : BitVec 32) : Prop :=
  (∀ a, (k0_off648 v3669) a + S1x1x256.size a ≤ S4001x1x256.size a)
theorem k0_off648_inb : ∀ (v3669 : BitVec 32) (k0_hw648 : k0_chk648 v3669), ∀ a, (k0_off648 v3669) a + S1x1x256.size a ≤ S4001x1x256.size a := fun v3669 k0_hw648 => k0_hw648

def k0_off649 (v3673 : BitVec 32) : Fin 3 → Nat :=
  let v3674 : Index := Scalar.indexCast v3673
  let c0_2716 : Index := 0#32
  let c0_2717 : Index := 0#32
  ![v3674.toNat, 0, 0]

def k0_chk649 (v3673 : BitVec 32) : Prop :=
  (∀ a, (k0_off649 v3673) a + S1x1x256.size a ≤ S4001x1x256.size a)
theorem k0_off649_inb : ∀ (v3673 : BitVec 32) (k0_hw649 : k0_chk649 v3673), ∀ a, (k0_off649 v3673) a + S1x1x256.size a ≤ S4001x1x256.size a := fun v3673 k0_hw649 => k0_hw649

def k0_off650 (v3677 : BitVec 32) : Fin 3 → Nat :=
  let v3678 : Index := Scalar.indexCast v3677
  let c0_2720 : Index := 0#32
  let c0_2721 : Index := 0#32
  ![v3678.toNat, 0, 0]

def k0_chk650 (v3677 : BitVec 32) : Prop :=
  (∀ a, (k0_off650 v3677) a + S1x1x256.size a ≤ S4001x1x256.size a)
theorem k0_off650_inb : ∀ (v3677 : BitVec 32) (k0_hw650 : k0_chk650 v3677), ∀ a, (k0_off650 v3677) a + S1x1x256.size a ≤ S4001x1x256.size a := fun v3677 k0_hw650 => k0_hw650

def k0_off651 (v3681 : BitVec 32) : Fin 3 → Nat :=
  let v3682 : Index := Scalar.indexCast v3681
  let c0_2724 : Index := 0#32
  let c0_2725 : Index := 0#32
  ![v3682.toNat, 0, 0]

def k0_chk651 (v3681 : BitVec 32) : Prop :=
  (∀ a, (k0_off651 v3681) a + S1x1x256.size a ≤ S4001x1x256.size a)
theorem k0_off651_inb : ∀ (v3681 : BitVec 32) (k0_hw651 : k0_chk651 v3681), ∀ a, (k0_off651 v3681) a + S1x1x256.size a ≤ S4001x1x256.size a := fun v3681 k0_hw651 => k0_hw651

def k0_off652 (v3685 : BitVec 32) : Fin 3 → Nat :=
  let v3686 : Index := Scalar.indexCast v3685
  let c0_2728 : Index := 0#32
  let c0_2729 : Index := 0#32
  ![v3686.toNat, 0, 0]

def k0_chk652 (v3685 : BitVec 32) : Prop :=
  (∀ a, (k0_off652 v3685) a + S1x1x256.size a ≤ S4001x1x256.size a)
theorem k0_off652_inb : ∀ (v3685 : BitVec 32) (k0_hw652 : k0_chk652 v3685), ∀ a, (k0_off652 v3685) a + S1x1x256.size a ≤ S4001x1x256.size a := fun v3685 k0_hw652 => k0_hw652

def k0_off653 (v3689 : BitVec 32) : Fin 3 → Nat :=
  let v3690 : Index := Scalar.indexCast v3689
  let c0_2732 : Index := 0#32
  let c0_2733 : Index := 0#32
  ![v3690.toNat, 0, 0]

def k0_chk653 (v3689 : BitVec 32) : Prop :=
  (∀ a, (k0_off653 v3689) a + S1x1x256.size a ≤ S4001x1x256.size a)
theorem k0_off653_inb : ∀ (v3689 : BitVec 32) (k0_hw653 : k0_chk653 v3689), ∀ a, (k0_off653 v3689) a + S1x1x256.size a ≤ S4001x1x256.size a := fun v3689 k0_hw653 => k0_hw653

def k0_off654 (v3693 : BitVec 32) : Fin 3 → Nat :=
  let v3694 : Index := Scalar.indexCast v3693
  let c0_2736 : Index := 0#32
  let c0_2737 : Index := 0#32
  ![v3694.toNat, 0, 0]

def k0_chk654 (v3693 : BitVec 32) : Prop :=
  (∀ a, (k0_off654 v3693) a + S1x1x256.size a ≤ S4001x1x256.size a)
theorem k0_off654_inb : ∀ (v3693 : BitVec 32) (k0_hw654 : k0_chk654 v3693), ∀ a, (k0_off654 v3693) a + S1x1x256.size a ≤ S4001x1x256.size a := fun v3693 k0_hw654 => k0_hw654

def k0_off655 (v3697 : BitVec 32) : Fin 3 → Nat :=
  let v3698 : Index := Scalar.indexCast v3697
  let c0_2740 : Index := 0#32
  let c0_2741 : Index := 0#32
  ![v3698.toNat, 0, 0]

def k0_chk655 (v3697 : BitVec 32) : Prop :=
  (∀ a, (k0_off655 v3697) a + S1x1x256.size a ≤ S4001x1x256.size a)
theorem k0_off655_inb : ∀ (v3697 : BitVec 32) (k0_hw655 : k0_chk655 v3697), ∀ a, (k0_off655 v3697) a + S1x1x256.size a ≤ S4001x1x256.size a := fun v3697 k0_hw655 => k0_hw655

def k0_off656 (v3701 : BitVec 32) : Fin 3 → Nat :=
  let v3702 : Index := Scalar.indexCast v3701
  let c0_2744 : Index := 0#32
  let c0_2745 : Index := 0#32
  ![v3702.toNat, 0, 0]

def k0_chk656 (v3701 : BitVec 32) : Prop :=
  (∀ a, (k0_off656 v3701) a + S1x1x256.size a ≤ S4001x1x256.size a)
theorem k0_off656_inb : ∀ (v3701 : BitVec 32) (k0_hw656 : k0_chk656 v3701), ∀ a, (k0_off656 v3701) a + S1x1x256.size a ≤ S4001x1x256.size a := fun v3701 k0_hw656 => k0_hw656

def k0_off657 (v3705 : BitVec 32) : Fin 3 → Nat :=
  let v3706 : Index := Scalar.indexCast v3705
  let c0_2748 : Index := 0#32
  let c0_2749 : Index := 0#32
  ![v3706.toNat, 0, 0]

def k0_chk657 (v3705 : BitVec 32) : Prop :=
  (∀ a, (k0_off657 v3705) a + S1x1x256.size a ≤ S4001x1x256.size a)
theorem k0_off657_inb : ∀ (v3705 : BitVec 32) (k0_hw657 : k0_chk657 v3705), ∀ a, (k0_off657 v3705) a + S1x1x256.size a ≤ S4001x1x256.size a := fun v3705 k0_hw657 => k0_hw657

def k0_off658 (v3709 : BitVec 32) : Fin 3 → Nat :=
  let v3710 : Index := Scalar.indexCast v3709
  let c0_2752 : Index := 0#32
  let c0_2753 : Index := 0#32
  ![v3710.toNat, 0, 0]

def k0_chk658 (v3709 : BitVec 32) : Prop :=
  (∀ a, (k0_off658 v3709) a + S1x1x256.size a ≤ S4001x1x256.size a)
theorem k0_off658_inb : ∀ (v3709 : BitVec 32) (k0_hw658 : k0_chk658 v3709), ∀ a, (k0_off658 v3709) a + S1x1x256.size a ≤ S4001x1x256.size a := fun v3709 k0_hw658 => k0_hw658

def k0_off659 (v3713 : BitVec 32) : Fin 3 → Nat :=
  let v3714 : Index := Scalar.indexCast v3713
  let c0_2756 : Index := 0#32
  let c0_2757 : Index := 0#32
  ![v3714.toNat, 0, 0]

def k0_chk659 (v3713 : BitVec 32) : Prop :=
  (∀ a, (k0_off659 v3713) a + S1x1x256.size a ≤ S4001x1x256.size a)
theorem k0_off659_inb : ∀ (v3713 : BitVec 32) (k0_hw659 : k0_chk659 v3713), ∀ a, (k0_off659 v3713) a + S1x1x256.size a ≤ S4001x1x256.size a := fun v3713 k0_hw659 => k0_hw659

def k0_off660 (v3717 : BitVec 32) : Fin 3 → Nat :=
  let v3718 : Index := Scalar.indexCast v3717
  let c0_2760 : Index := 0#32
  let c0_2761 : Index := 0#32
  ![v3718.toNat, 0, 0]

def k0_chk660 (v3717 : BitVec 32) : Prop :=
  (∀ a, (k0_off660 v3717) a + S1x1x256.size a ≤ S4001x1x256.size a)
theorem k0_off660_inb : ∀ (v3717 : BitVec 32) (k0_hw660 : k0_chk660 v3717), ∀ a, (k0_off660 v3717) a + S1x1x256.size a ≤ S4001x1x256.size a := fun v3717 k0_hw660 => k0_hw660

def k0_off661 (v3773 : BitVec 32) : Fin 3 → Nat :=
  let v3774 : Index := Scalar.indexCast v3773
  let c0_2774 : Index := 0#32
  let c0_2775 : Index := 0#32
  ![v3774.toNat, 0, 0]

def k0_chk661 (v3773 : BitVec 32) : Prop :=
  (∀ a, (k0_off661 v3773) a + S1x1x256.size a ≤ S4001x1x256.size a)
theorem k0_off661_inb : ∀ (v3773 : BitVec 32) (k0_hw661 : k0_chk661 v3773), ∀ a, (k0_off661 v3773) a + S1x1x256.size a ≤ S4001x1x256.size a := fun v3773 k0_hw661 => k0_hw661

def k0_off662 (v3777 : BitVec 32) : Fin 3 → Nat :=
  let v3778 : Index := Scalar.indexCast v3777
  let c0_2778 : Index := 0#32
  let c0_2779 : Index := 0#32
  ![v3778.toNat, 0, 0]

def k0_chk662 (v3777 : BitVec 32) : Prop :=
  (∀ a, (k0_off662 v3777) a + S1x1x256.size a ≤ S4001x1x256.size a)
theorem k0_off662_inb : ∀ (v3777 : BitVec 32) (k0_hw662 : k0_chk662 v3777), ∀ a, (k0_off662 v3777) a + S1x1x256.size a ≤ S4001x1x256.size a := fun v3777 k0_hw662 => k0_hw662

def k0_off663 (v3781 : BitVec 32) : Fin 3 → Nat :=
  let v3782 : Index := Scalar.indexCast v3781
  let c0_2782 : Index := 0#32
  let c0_2783 : Index := 0#32
  ![v3782.toNat, 0, 0]

def k0_chk663 (v3781 : BitVec 32) : Prop :=
  (∀ a, (k0_off663 v3781) a + S1x1x256.size a ≤ S4001x1x256.size a)
theorem k0_off663_inb : ∀ (v3781 : BitVec 32) (k0_hw663 : k0_chk663 v3781), ∀ a, (k0_off663 v3781) a + S1x1x256.size a ≤ S4001x1x256.size a := fun v3781 k0_hw663 => k0_hw663

def k0_off664 (v3785 : BitVec 32) : Fin 3 → Nat :=
  let v3786 : Index := Scalar.indexCast v3785
  let c0_2786 : Index := 0#32
  let c0_2787 : Index := 0#32
  ![v3786.toNat, 0, 0]

def k0_chk664 (v3785 : BitVec 32) : Prop :=
  (∀ a, (k0_off664 v3785) a + S1x1x256.size a ≤ S4001x1x256.size a)
theorem k0_off664_inb : ∀ (v3785 : BitVec 32) (k0_hw664 : k0_chk664 v3785), ∀ a, (k0_off664 v3785) a + S1x1x256.size a ≤ S4001x1x256.size a := fun v3785 k0_hw664 => k0_hw664

def k0_off665 (v3789 : BitVec 32) : Fin 3 → Nat :=
  let v3790 : Index := Scalar.indexCast v3789
  let c0_2790 : Index := 0#32
  let c0_2791 : Index := 0#32
  ![v3790.toNat, 0, 0]

def k0_chk665 (v3789 : BitVec 32) : Prop :=
  (∀ a, (k0_off665 v3789) a + S1x1x256.size a ≤ S4001x1x256.size a)
theorem k0_off665_inb : ∀ (v3789 : BitVec 32) (k0_hw665 : k0_chk665 v3789), ∀ a, (k0_off665 v3789) a + S1x1x256.size a ≤ S4001x1x256.size a := fun v3789 k0_hw665 => k0_hw665

def k0_off666 (v3793 : BitVec 32) : Fin 3 → Nat :=
  let v3794 : Index := Scalar.indexCast v3793
  let c0_2794 : Index := 0#32
  let c0_2795 : Index := 0#32
  ![v3794.toNat, 0, 0]

def k0_chk666 (v3793 : BitVec 32) : Prop :=
  (∀ a, (k0_off666 v3793) a + S1x1x256.size a ≤ S4001x1x256.size a)
theorem k0_off666_inb : ∀ (v3793 : BitVec 32) (k0_hw666 : k0_chk666 v3793), ∀ a, (k0_off666 v3793) a + S1x1x256.size a ≤ S4001x1x256.size a := fun v3793 k0_hw666 => k0_hw666

def k0_off667 (v3797 : BitVec 32) : Fin 3 → Nat :=
  let v3798 : Index := Scalar.indexCast v3797
  let c0_2798 : Index := 0#32
  let c0_2799 : Index := 0#32
  ![v3798.toNat, 0, 0]

def k0_chk667 (v3797 : BitVec 32) : Prop :=
  (∀ a, (k0_off667 v3797) a + S1x1x256.size a ≤ S4001x1x256.size a)
theorem k0_off667_inb : ∀ (v3797 : BitVec 32) (k0_hw667 : k0_chk667 v3797), ∀ a, (k0_off667 v3797) a + S1x1x256.size a ≤ S4001x1x256.size a := fun v3797 k0_hw667 => k0_hw667

def k0_off668 (v3801 : BitVec 32) : Fin 3 → Nat :=
  let v3802 : Index := Scalar.indexCast v3801
  let c0_2802 : Index := 0#32
  let c0_2803 : Index := 0#32
  ![v3802.toNat, 0, 0]

def k0_chk668 (v3801 : BitVec 32) : Prop :=
  (∀ a, (k0_off668 v3801) a + S1x1x256.size a ≤ S4001x1x256.size a)
theorem k0_off668_inb : ∀ (v3801 : BitVec 32) (k0_hw668 : k0_chk668 v3801), ∀ a, (k0_off668 v3801) a + S1x1x256.size a ≤ S4001x1x256.size a := fun v3801 k0_hw668 => k0_hw668

def k0_off669 (v3805 : BitVec 32) : Fin 3 → Nat :=
  let v3806 : Index := Scalar.indexCast v3805
  let c0_2806 : Index := 0#32
  let c0_2807 : Index := 0#32
  ![v3806.toNat, 0, 0]

def k0_chk669 (v3805 : BitVec 32) : Prop :=
  (∀ a, (k0_off669 v3805) a + S1x1x256.size a ≤ S4001x1x256.size a)
theorem k0_off669_inb : ∀ (v3805 : BitVec 32) (k0_hw669 : k0_chk669 v3805), ∀ a, (k0_off669 v3805) a + S1x1x256.size a ≤ S4001x1x256.size a := fun v3805 k0_hw669 => k0_hw669

def k0_off670 (v3809 : BitVec 32) : Fin 3 → Nat :=
  let v3810 : Index := Scalar.indexCast v3809
  let c0_2810 : Index := 0#32
  let c0_2811 : Index := 0#32
  ![v3810.toNat, 0, 0]

def k0_chk670 (v3809 : BitVec 32) : Prop :=
  (∀ a, (k0_off670 v3809) a + S1x1x256.size a ≤ S4001x1x256.size a)
theorem k0_off670_inb : ∀ (v3809 : BitVec 32) (k0_hw670 : k0_chk670 v3809), ∀ a, (k0_off670 v3809) a + S1x1x256.size a ≤ S4001x1x256.size a := fun v3809 k0_hw670 => k0_hw670

def k0_off671 (v3813 : BitVec 32) : Fin 3 → Nat :=
  let v3814 : Index := Scalar.indexCast v3813
  let c0_2814 : Index := 0#32
  let c0_2815 : Index := 0#32
  ![v3814.toNat, 0, 0]

def k0_chk671 (v3813 : BitVec 32) : Prop :=
  (∀ a, (k0_off671 v3813) a + S1x1x256.size a ≤ S4001x1x256.size a)
theorem k0_off671_inb : ∀ (v3813 : BitVec 32) (k0_hw671 : k0_chk671 v3813), ∀ a, (k0_off671 v3813) a + S1x1x256.size a ≤ S4001x1x256.size a := fun v3813 k0_hw671 => k0_hw671

def k0_off672 (v3817 : BitVec 32) : Fin 3 → Nat :=
  let v3818 : Index := Scalar.indexCast v3817
  let c0_2818 : Index := 0#32
  let c0_2819 : Index := 0#32
  ![v3818.toNat, 0, 0]

def k0_chk672 (v3817 : BitVec 32) : Prop :=
  (∀ a, (k0_off672 v3817) a + S1x1x256.size a ≤ S4001x1x256.size a)
theorem k0_off672_inb : ∀ (v3817 : BitVec 32) (k0_hw672 : k0_chk672 v3817), ∀ a, (k0_off672 v3817) a + S1x1x256.size a ≤ S4001x1x256.size a := fun v3817 k0_hw672 => k0_hw672

def k0_off673 (v3821 : BitVec 32) : Fin 3 → Nat :=
  let v3822 : Index := Scalar.indexCast v3821
  let c0_2822 : Index := 0#32
  let c0_2823 : Index := 0#32
  ![v3822.toNat, 0, 0]

def k0_chk673 (v3821 : BitVec 32) : Prop :=
  (∀ a, (k0_off673 v3821) a + S1x1x256.size a ≤ S4001x1x256.size a)
theorem k0_off673_inb : ∀ (v3821 : BitVec 32) (k0_hw673 : k0_chk673 v3821), ∀ a, (k0_off673 v3821) a + S1x1x256.size a ≤ S4001x1x256.size a := fun v3821 k0_hw673 => k0_hw673

def k0_off674 (v3825 : BitVec 32) : Fin 3 → Nat :=
  let v3826 : Index := Scalar.indexCast v3825
  let c0_2826 : Index := 0#32
  let c0_2827 : Index := 0#32
  ![v3826.toNat, 0, 0]

def k0_chk674 (v3825 : BitVec 32) : Prop :=
  (∀ a, (k0_off674 v3825) a + S1x1x256.size a ≤ S4001x1x256.size a)
theorem k0_off674_inb : ∀ (v3825 : BitVec 32) (k0_hw674 : k0_chk674 v3825), ∀ a, (k0_off674 v3825) a + S1x1x256.size a ≤ S4001x1x256.size a := fun v3825 k0_hw674 => k0_hw674

def k0_off675 (v3829 : BitVec 32) : Fin 3 → Nat :=
  let v3830 : Index := Scalar.indexCast v3829
  let c0_2830 : Index := 0#32
  let c0_2831 : Index := 0#32
  ![v3830.toNat, 0, 0]

def k0_chk675 (v3829 : BitVec 32) : Prop :=
  (∀ a, (k0_off675 v3829) a + S1x1x256.size a ≤ S4001x1x256.size a)
theorem k0_off675_inb : ∀ (v3829 : BitVec 32) (k0_hw675 : k0_chk675 v3829), ∀ a, (k0_off675 v3829) a + S1x1x256.size a ≤ S4001x1x256.size a := fun v3829 k0_hw675 => k0_hw675

def k0_off676 (v3833 : BitVec 32) : Fin 3 → Nat :=
  let v3834 : Index := Scalar.indexCast v3833
  let c0_2834 : Index := 0#32
  let c0_2835 : Index := 0#32
  ![v3834.toNat, 0, 0]

def k0_chk676 (v3833 : BitVec 32) : Prop :=
  (∀ a, (k0_off676 v3833) a + S1x1x256.size a ≤ S4001x1x256.size a)
theorem k0_off676_inb : ∀ (v3833 : BitVec 32) (k0_hw676 : k0_chk676 v3833), ∀ a, (k0_off676 v3833) a + S1x1x256.size a ≤ S4001x1x256.size a := fun v3833 k0_hw676 => k0_hw676

def k0_off677 (v3837 : BitVec 32) : Fin 3 → Nat :=
  let v3838 : Index := Scalar.indexCast v3837
  let c0_2838 : Index := 0#32
  let c0_2839 : Index := 0#32
  ![v3838.toNat, 0, 0]

def k0_chk677 (v3837 : BitVec 32) : Prop :=
  (∀ a, (k0_off677 v3837) a + S1x1x256.size a ≤ S4001x1x256.size a)
theorem k0_off677_inb : ∀ (v3837 : BitVec 32) (k0_hw677 : k0_chk677 v3837), ∀ a, (k0_off677 v3837) a + S1x1x256.size a ≤ S4001x1x256.size a := fun v3837 k0_hw677 => k0_hw677

def k0_off678 (v3841 : BitVec 32) : Fin 3 → Nat :=
  let v3842 : Index := Scalar.indexCast v3841
  let c0_2842 : Index := 0#32
  let c0_2843 : Index := 0#32
  ![v3842.toNat, 0, 0]

def k0_chk678 (v3841 : BitVec 32) : Prop :=
  (∀ a, (k0_off678 v3841) a + S1x1x256.size a ≤ S4001x1x256.size a)
theorem k0_off678_inb : ∀ (v3841 : BitVec 32) (k0_hw678 : k0_chk678 v3841), ∀ a, (k0_off678 v3841) a + S1x1x256.size a ≤ S4001x1x256.size a := fun v3841 k0_hw678 => k0_hw678

def k0_off679 (v3845 : BitVec 32) : Fin 3 → Nat :=
  let v3846 : Index := Scalar.indexCast v3845
  let c0_2846 : Index := 0#32
  let c0_2847 : Index := 0#32
  ![v3846.toNat, 0, 0]

def k0_chk679 (v3845 : BitVec 32) : Prop :=
  (∀ a, (k0_off679 v3845) a + S1x1x256.size a ≤ S4001x1x256.size a)
theorem k0_off679_inb : ∀ (v3845 : BitVec 32) (k0_hw679 : k0_chk679 v3845), ∀ a, (k0_off679 v3845) a + S1x1x256.size a ≤ S4001x1x256.size a := fun v3845 k0_hw679 => k0_hw679

def k0_off680 (v3849 : BitVec 32) : Fin 3 → Nat :=
  let v3850 : Index := Scalar.indexCast v3849
  let c0_2850 : Index := 0#32
  let c0_2851 : Index := 0#32
  ![v3850.toNat, 0, 0]

def k0_chk680 (v3849 : BitVec 32) : Prop :=
  (∀ a, (k0_off680 v3849) a + S1x1x256.size a ≤ S4001x1x256.size a)
theorem k0_off680_inb : ∀ (v3849 : BitVec 32) (k0_hw680 : k0_chk680 v3849), ∀ a, (k0_off680 v3849) a + S1x1x256.size a ≤ S4001x1x256.size a := fun v3849 k0_hw680 => k0_hw680

def k0_off681 (v3853 : BitVec 32) : Fin 3 → Nat :=
  let v3854 : Index := Scalar.indexCast v3853
  let c0_2854 : Index := 0#32
  let c0_2855 : Index := 0#32
  ![v3854.toNat, 0, 0]

def k0_chk681 (v3853 : BitVec 32) : Prop :=
  (∀ a, (k0_off681 v3853) a + S1x1x256.size a ≤ S4001x1x256.size a)
theorem k0_off681_inb : ∀ (v3853 : BitVec 32) (k0_hw681 : k0_chk681 v3853), ∀ a, (k0_off681 v3853) a + S1x1x256.size a ≤ S4001x1x256.size a := fun v3853 k0_hw681 => k0_hw681

def k0_off682 (v3857 : BitVec 32) : Fin 3 → Nat :=
  let v3858 : Index := Scalar.indexCast v3857
  let c0_2858 : Index := 0#32
  let c0_2859 : Index := 0#32
  ![v3858.toNat, 0, 0]

def k0_chk682 (v3857 : BitVec 32) : Prop :=
  (∀ a, (k0_off682 v3857) a + S1x1x256.size a ≤ S4001x1x256.size a)
theorem k0_off682_inb : ∀ (v3857 : BitVec 32) (k0_hw682 : k0_chk682 v3857), ∀ a, (k0_off682 v3857) a + S1x1x256.size a ≤ S4001x1x256.size a := fun v3857 k0_hw682 => k0_hw682

def k0_off683 (v3861 : BitVec 32) : Fin 3 → Nat :=
  let v3862 : Index := Scalar.indexCast v3861
  let c0_2862 : Index := 0#32
  let c0_2863 : Index := 0#32
  ![v3862.toNat, 0, 0]

def k0_chk683 (v3861 : BitVec 32) : Prop :=
  (∀ a, (k0_off683 v3861) a + S1x1x256.size a ≤ S4001x1x256.size a)
theorem k0_off683_inb : ∀ (v3861 : BitVec 32) (k0_hw683 : k0_chk683 v3861), ∀ a, (k0_off683 v3861) a + S1x1x256.size a ≤ S4001x1x256.size a := fun v3861 k0_hw683 => k0_hw683

def k0_off684 (v3865 : BitVec 32) : Fin 3 → Nat :=
  let v3866 : Index := Scalar.indexCast v3865
  let c0_2866 : Index := 0#32
  let c0_2867 : Index := 0#32
  ![v3866.toNat, 0, 0]

def k0_chk684 (v3865 : BitVec 32) : Prop :=
  (∀ a, (k0_off684 v3865) a + S1x1x256.size a ≤ S4001x1x256.size a)
theorem k0_off684_inb : ∀ (v3865 : BitVec 32) (k0_hw684 : k0_chk684 v3865), ∀ a, (k0_off684 v3865) a + S1x1x256.size a ≤ S4001x1x256.size a := fun v3865 k0_hw684 => k0_hw684

def k0_off685 (v3869 : BitVec 32) : Fin 3 → Nat :=
  let v3870 : Index := Scalar.indexCast v3869
  let c0_2870 : Index := 0#32
  let c0_2871 : Index := 0#32
  ![v3870.toNat, 0, 0]

def k0_chk685 (v3869 : BitVec 32) : Prop :=
  (∀ a, (k0_off685 v3869) a + S1x1x256.size a ≤ S4001x1x256.size a)
theorem k0_off685_inb : ∀ (v3869 : BitVec 32) (k0_hw685 : k0_chk685 v3869), ∀ a, (k0_off685 v3869) a + S1x1x256.size a ≤ S4001x1x256.size a := fun v3869 k0_hw685 => k0_hw685

def k0_off686 (v3873 : BitVec 32) : Fin 3 → Nat :=
  let v3874 : Index := Scalar.indexCast v3873
  let c0_2874 : Index := 0#32
  let c0_2875 : Index := 0#32
  ![v3874.toNat, 0, 0]

def k0_chk686 (v3873 : BitVec 32) : Prop :=
  (∀ a, (k0_off686 v3873) a + S1x1x256.size a ≤ S4001x1x256.size a)
theorem k0_off686_inb : ∀ (v3873 : BitVec 32) (k0_hw686 : k0_chk686 v3873), ∀ a, (k0_off686 v3873) a + S1x1x256.size a ≤ S4001x1x256.size a := fun v3873 k0_hw686 => k0_hw686

def k0_off687 (v3877 : BitVec 32) : Fin 3 → Nat :=
  let v3878 : Index := Scalar.indexCast v3877
  let c0_2878 : Index := 0#32
  let c0_2879 : Index := 0#32
  ![v3878.toNat, 0, 0]

def k0_chk687 (v3877 : BitVec 32) : Prop :=
  (∀ a, (k0_off687 v3877) a + S1x1x256.size a ≤ S4001x1x256.size a)
theorem k0_off687_inb : ∀ (v3877 : BitVec 32) (k0_hw687 : k0_chk687 v3877), ∀ a, (k0_off687 v3877) a + S1x1x256.size a ≤ S4001x1x256.size a := fun v3877 k0_hw687 => k0_hw687

def k0_off688 (v3881 : BitVec 32) : Fin 3 → Nat :=
  let v3882 : Index := Scalar.indexCast v3881
  let c0_2882 : Index := 0#32
  let c0_2883 : Index := 0#32
  ![v3882.toNat, 0, 0]

def k0_chk688 (v3881 : BitVec 32) : Prop :=
  (∀ a, (k0_off688 v3881) a + S1x1x256.size a ≤ S4001x1x256.size a)
theorem k0_off688_inb : ∀ (v3881 : BitVec 32) (k0_hw688 : k0_chk688 v3881), ∀ a, (k0_off688 v3881) a + S1x1x256.size a ≤ S4001x1x256.size a := fun v3881 k0_hw688 => k0_hw688

def k0_off689 (v3885 : BitVec 32) : Fin 3 → Nat :=
  let v3886 : Index := Scalar.indexCast v3885
  let c0_2886 : Index := 0#32
  let c0_2887 : Index := 0#32
  ![v3886.toNat, 0, 0]

def k0_chk689 (v3885 : BitVec 32) : Prop :=
  (∀ a, (k0_off689 v3885) a + S1x1x256.size a ≤ S4001x1x256.size a)
theorem k0_off689_inb : ∀ (v3885 : BitVec 32) (k0_hw689 : k0_chk689 v3885), ∀ a, (k0_off689 v3885) a + S1x1x256.size a ≤ S4001x1x256.size a := fun v3885 k0_hw689 => k0_hw689

def k0_off690 (v3889 : BitVec 32) : Fin 3 → Nat :=
  let v3890 : Index := Scalar.indexCast v3889
  let c0_2890 : Index := 0#32
  let c0_2891 : Index := 0#32
  ![v3890.toNat, 0, 0]

def k0_chk690 (v3889 : BitVec 32) : Prop :=
  (∀ a, (k0_off690 v3889) a + S1x1x256.size a ≤ S4001x1x256.size a)
theorem k0_off690_inb : ∀ (v3889 : BitVec 32) (k0_hw690 : k0_chk690 v3889), ∀ a, (k0_off690 v3889) a + S1x1x256.size a ≤ S4001x1x256.size a := fun v3889 k0_hw690 => k0_hw690

def k0_off691 (v3893 : BitVec 32) : Fin 3 → Nat :=
  let v3894 : Index := Scalar.indexCast v3893
  let c0_2894 : Index := 0#32
  let c0_2895 : Index := 0#32
  ![v3894.toNat, 0, 0]

def k0_chk691 (v3893 : BitVec 32) : Prop :=
  (∀ a, (k0_off691 v3893) a + S1x1x256.size a ≤ S4001x1x256.size a)
theorem k0_off691_inb : ∀ (v3893 : BitVec 32) (k0_hw691 : k0_chk691 v3893), ∀ a, (k0_off691 v3893) a + S1x1x256.size a ≤ S4001x1x256.size a := fun v3893 k0_hw691 => k0_hw691

def k0_off692 (v3897 : BitVec 32) : Fin 3 → Nat :=
  let v3898 : Index := Scalar.indexCast v3897
  let c0_2898 : Index := 0#32
  let c0_2899 : Index := 0#32
  ![v3898.toNat, 0, 0]

def k0_chk692 (v3897 : BitVec 32) : Prop :=
  (∀ a, (k0_off692 v3897) a + S1x1x256.size a ≤ S4001x1x256.size a)
theorem k0_off692_inb : ∀ (v3897 : BitVec 32) (k0_hw692 : k0_chk692 v3897), ∀ a, (k0_off692 v3897) a + S1x1x256.size a ≤ S4001x1x256.size a := fun v3897 k0_hw692 => k0_hw692

def k0_off693 (v3901 : BitVec 32) : Fin 3 → Nat :=
  let v3902 : Index := Scalar.indexCast v3901
  let c0_2902 : Index := 0#32
  let c0_2903 : Index := 0#32
  ![v3902.toNat, 0, 0]

def k0_chk693 (v3901 : BitVec 32) : Prop :=
  (∀ a, (k0_off693 v3901) a + S1x1x256.size a ≤ S4001x1x256.size a)
theorem k0_off693_inb : ∀ (v3901 : BitVec 32) (k0_hw693 : k0_chk693 v3901), ∀ a, (k0_off693 v3901) a + S1x1x256.size a ≤ S4001x1x256.size a := fun v3901 k0_hw693 => k0_hw693

def k0_off694 (v3905 : BitVec 32) : Fin 3 → Nat :=
  let v3906 : Index := Scalar.indexCast v3905
  let c0_2906 : Index := 0#32
  let c0_2907 : Index := 0#32
  ![v3906.toNat, 0, 0]

def k0_chk694 (v3905 : BitVec 32) : Prop :=
  (∀ a, (k0_off694 v3905) a + S1x1x256.size a ≤ S4001x1x256.size a)
theorem k0_off694_inb : ∀ (v3905 : BitVec 32) (k0_hw694 : k0_chk694 v3905), ∀ a, (k0_off694 v3905) a + S1x1x256.size a ≤ S4001x1x256.size a := fun v3905 k0_hw694 => k0_hw694

def k0_off695 (v3909 : BitVec 32) : Fin 3 → Nat :=
  let v3910 : Index := Scalar.indexCast v3909
  let c0_2910 : Index := 0#32
  let c0_2911 : Index := 0#32
  ![v3910.toNat, 0, 0]

def k0_chk695 (v3909 : BitVec 32) : Prop :=
  (∀ a, (k0_off695 v3909) a + S1x1x256.size a ≤ S4001x1x256.size a)
theorem k0_off695_inb : ∀ (v3909 : BitVec 32) (k0_hw695 : k0_chk695 v3909), ∀ a, (k0_off695 v3909) a + S1x1x256.size a ≤ S4001x1x256.size a := fun v3909 k0_hw695 => k0_hw695

def k0_off696 (v3913 : BitVec 32) : Fin 3 → Nat :=
  let v3914 : Index := Scalar.indexCast v3913
  let c0_2914 : Index := 0#32
  let c0_2915 : Index := 0#32
  ![v3914.toNat, 0, 0]

def k0_chk696 (v3913 : BitVec 32) : Prop :=
  (∀ a, (k0_off696 v3913) a + S1x1x256.size a ≤ S4001x1x256.size a)
theorem k0_off696_inb : ∀ (v3913 : BitVec 32) (k0_hw696 : k0_chk696 v3913), ∀ a, (k0_off696 v3913) a + S1x1x256.size a ≤ S4001x1x256.size a := fun v3913 k0_hw696 => k0_hw696

def k0_off697 (v3917 : BitVec 32) : Fin 3 → Nat :=
  let v3918 : Index := Scalar.indexCast v3917
  let c0_2918 : Index := 0#32
  let c0_2919 : Index := 0#32
  ![v3918.toNat, 0, 0]

def k0_chk697 (v3917 : BitVec 32) : Prop :=
  (∀ a, (k0_off697 v3917) a + S1x1x256.size a ≤ S4001x1x256.size a)
theorem k0_off697_inb : ∀ (v3917 : BitVec 32) (k0_hw697 : k0_chk697 v3917), ∀ a, (k0_off697 v3917) a + S1x1x256.size a ≤ S4001x1x256.size a := fun v3917 k0_hw697 => k0_hw697

def k0_off698 (v3921 : BitVec 32) : Fin 3 → Nat :=
  let v3922 : Index := Scalar.indexCast v3921
  let c0_2922 : Index := 0#32
  let c0_2923 : Index := 0#32
  ![v3922.toNat, 0, 0]

def k0_chk698 (v3921 : BitVec 32) : Prop :=
  (∀ a, (k0_off698 v3921) a + S1x1x256.size a ≤ S4001x1x256.size a)
theorem k0_off698_inb : ∀ (v3921 : BitVec 32) (k0_hw698 : k0_chk698 v3921), ∀ a, (k0_off698 v3921) a + S1x1x256.size a ≤ S4001x1x256.size a := fun v3921 k0_hw698 => k0_hw698

def k0_off699 (v3925 : BitVec 32) : Fin 3 → Nat :=
  let v3926 : Index := Scalar.indexCast v3925
  let c0_2926 : Index := 0#32
  let c0_2927 : Index := 0#32
  ![v3926.toNat, 0, 0]

def k0_chk699 (v3925 : BitVec 32) : Prop :=
  (∀ a, (k0_off699 v3925) a + S1x1x256.size a ≤ S4001x1x256.size a)
theorem k0_off699_inb : ∀ (v3925 : BitVec 32) (k0_hw699 : k0_chk699 v3925), ∀ a, (k0_off699 v3925) a + S1x1x256.size a ≤ S4001x1x256.size a := fun v3925 k0_hw699 => k0_hw699

def k0_off700 (v3929 : BitVec 32) : Fin 3 → Nat :=
  let v3930 : Index := Scalar.indexCast v3929
  let c0_2930 : Index := 0#32
  let c0_2931 : Index := 0#32
  ![v3930.toNat, 0, 0]

def k0_chk700 (v3929 : BitVec 32) : Prop :=
  (∀ a, (k0_off700 v3929) a + S1x1x256.size a ≤ S4001x1x256.size a)
theorem k0_off700_inb : ∀ (v3929 : BitVec 32) (k0_hw700 : k0_chk700 v3929), ∀ a, (k0_off700 v3929) a + S1x1x256.size a ≤ S4001x1x256.size a := fun v3929 k0_hw700 => k0_hw700

def k0_off701 (v3972 : BitVec 32) : Fin 3 → Nat :=
  let v3973 : Index := Scalar.indexCast v3972
  let c0_2934 : Index := 0#32
  let c0_2935 : Index := 0#32
  ![v3973.toNat, 0, 0]

def k0_chk701 (v3972 : BitVec 32) : Prop :=
  (∀ a, (k0_off701 v3972) a + S1x1x256.size a ≤ S4001x1x256.size a)
theorem k0_off701_inb : ∀ (v3972 : BitVec 32) (k0_hw701 : k0_chk701 v3972), ∀ a, (k0_off701 v3972) a + S1x1x256.size a ≤ S4001x1x256.size a := fun v3972 k0_hw701 => k0_hw701

def k0_off702 (v3976 : BitVec 32) : Fin 3 → Nat :=
  let v3977 : Index := Scalar.indexCast v3976
  let c0_2938 : Index := 0#32
  let c0_2939 : Index := 0#32
  ![v3977.toNat, 0, 0]

def k0_chk702 (v3976 : BitVec 32) : Prop :=
  (∀ a, (k0_off702 v3976) a + S1x1x256.size a ≤ S4001x1x256.size a)
theorem k0_off702_inb : ∀ (v3976 : BitVec 32) (k0_hw702 : k0_chk702 v3976), ∀ a, (k0_off702 v3976) a + S1x1x256.size a ≤ S4001x1x256.size a := fun v3976 k0_hw702 => k0_hw702

def k0_off703 (v3980 : BitVec 32) : Fin 3 → Nat :=
  let v3981 : Index := Scalar.indexCast v3980
  let c0_2942 : Index := 0#32
  let c0_2943 : Index := 0#32
  ![v3981.toNat, 0, 0]

def k0_chk703 (v3980 : BitVec 32) : Prop :=
  (∀ a, (k0_off703 v3980) a + S1x1x256.size a ≤ S4001x1x256.size a)
theorem k0_off703_inb : ∀ (v3980 : BitVec 32) (k0_hw703 : k0_chk703 v3980), ∀ a, (k0_off703 v3980) a + S1x1x256.size a ≤ S4001x1x256.size a := fun v3980 k0_hw703 => k0_hw703

def k0_off704 (v3984 : BitVec 32) : Fin 3 → Nat :=
  let v3985 : Index := Scalar.indexCast v3984
  let c0_2946 : Index := 0#32
  let c0_2947 : Index := 0#32
  ![v3985.toNat, 0, 0]

def k0_chk704 (v3984 : BitVec 32) : Prop :=
  (∀ a, (k0_off704 v3984) a + S1x1x256.size a ≤ S4001x1x256.size a)
theorem k0_off704_inb : ∀ (v3984 : BitVec 32) (k0_hw704 : k0_chk704 v3984), ∀ a, (k0_off704 v3984) a + S1x1x256.size a ≤ S4001x1x256.size a := fun v3984 k0_hw704 => k0_hw704

def k0_off705 (v3988 : BitVec 32) : Fin 3 → Nat :=
  let v3989 : Index := Scalar.indexCast v3988
  let c0_2950 : Index := 0#32
  let c0_2951 : Index := 0#32
  ![v3989.toNat, 0, 0]

def k0_chk705 (v3988 : BitVec 32) : Prop :=
  (∀ a, (k0_off705 v3988) a + S1x1x256.size a ≤ S4001x1x256.size a)
theorem k0_off705_inb : ∀ (v3988 : BitVec 32) (k0_hw705 : k0_chk705 v3988), ∀ a, (k0_off705 v3988) a + S1x1x256.size a ≤ S4001x1x256.size a := fun v3988 k0_hw705 => k0_hw705

def k0_off706 (v3992 : BitVec 32) : Fin 3 → Nat :=
  let v3993 : Index := Scalar.indexCast v3992
  let c0_2954 : Index := 0#32
  let c0_2955 : Index := 0#32
  ![v3993.toNat, 0, 0]

def k0_chk706 (v3992 : BitVec 32) : Prop :=
  (∀ a, (k0_off706 v3992) a + S1x1x256.size a ≤ S4001x1x256.size a)
theorem k0_off706_inb : ∀ (v3992 : BitVec 32) (k0_hw706 : k0_chk706 v3992), ∀ a, (k0_off706 v3992) a + S1x1x256.size a ≤ S4001x1x256.size a := fun v3992 k0_hw706 => k0_hw706

def k0_off707 (v3996 : BitVec 32) : Fin 3 → Nat :=
  let v3997 : Index := Scalar.indexCast v3996
  let c0_2958 : Index := 0#32
  let c0_2959 : Index := 0#32
  ![v3997.toNat, 0, 0]

def k0_chk707 (v3996 : BitVec 32) : Prop :=
  (∀ a, (k0_off707 v3996) a + S1x1x256.size a ≤ S4001x1x256.size a)
theorem k0_off707_inb : ∀ (v3996 : BitVec 32) (k0_hw707 : k0_chk707 v3996), ∀ a, (k0_off707 v3996) a + S1x1x256.size a ≤ S4001x1x256.size a := fun v3996 k0_hw707 => k0_hw707

def k0_off708 (v4000 : BitVec 32) : Fin 3 → Nat :=
  let v4001 : Index := Scalar.indexCast v4000
  let c0_2962 : Index := 0#32
  let c0_2963 : Index := 0#32
  ![v4001.toNat, 0, 0]

def k0_chk708 (v4000 : BitVec 32) : Prop :=
  (∀ a, (k0_off708 v4000) a + S1x1x256.size a ≤ S4001x1x256.size a)
theorem k0_off708_inb : ∀ (v4000 : BitVec 32) (k0_hw708 : k0_chk708 v4000), ∀ a, (k0_off708 v4000) a + S1x1x256.size a ≤ S4001x1x256.size a := fun v4000 k0_hw708 => k0_hw708

def k0_off709 (v4004 : BitVec 32) : Fin 3 → Nat :=
  let v4005 : Index := Scalar.indexCast v4004
  let c0_2966 : Index := 0#32
  let c0_2967 : Index := 0#32
  ![v4005.toNat, 0, 0]

def k0_chk709 (v4004 : BitVec 32) : Prop :=
  (∀ a, (k0_off709 v4004) a + S1x1x256.size a ≤ S4001x1x256.size a)
theorem k0_off709_inb : ∀ (v4004 : BitVec 32) (k0_hw709 : k0_chk709 v4004), ∀ a, (k0_off709 v4004) a + S1x1x256.size a ≤ S4001x1x256.size a := fun v4004 k0_hw709 => k0_hw709

def k0_off710 (v4008 : BitVec 32) : Fin 3 → Nat :=
  let v4009 : Index := Scalar.indexCast v4008
  let c0_2970 : Index := 0#32
  let c0_2971 : Index := 0#32
  ![v4009.toNat, 0, 0]

def k0_chk710 (v4008 : BitVec 32) : Prop :=
  (∀ a, (k0_off710 v4008) a + S1x1x256.size a ≤ S4001x1x256.size a)
theorem k0_off710_inb : ∀ (v4008 : BitVec 32) (k0_hw710 : k0_chk710 v4008), ∀ a, (k0_off710 v4008) a + S1x1x256.size a ≤ S4001x1x256.size a := fun v4008 k0_hw710 => k0_hw710

def k0_off711 (v4012 : BitVec 32) : Fin 3 → Nat :=
  let v4013 : Index := Scalar.indexCast v4012
  let c0_2974 : Index := 0#32
  let c0_2975 : Index := 0#32
  ![v4013.toNat, 0, 0]

def k0_chk711 (v4012 : BitVec 32) : Prop :=
  (∀ a, (k0_off711 v4012) a + S1x1x256.size a ≤ S4001x1x256.size a)
theorem k0_off711_inb : ∀ (v4012 : BitVec 32) (k0_hw711 : k0_chk711 v4012), ∀ a, (k0_off711 v4012) a + S1x1x256.size a ≤ S4001x1x256.size a := fun v4012 k0_hw711 => k0_hw711

def k0_off712 (v4016 : BitVec 32) : Fin 3 → Nat :=
  let v4017 : Index := Scalar.indexCast v4016
  let c0_2978 : Index := 0#32
  let c0_2979 : Index := 0#32
  ![v4017.toNat, 0, 0]

def k0_chk712 (v4016 : BitVec 32) : Prop :=
  (∀ a, (k0_off712 v4016) a + S1x1x256.size a ≤ S4001x1x256.size a)
theorem k0_off712_inb : ∀ (v4016 : BitVec 32) (k0_hw712 : k0_chk712 v4016), ∀ a, (k0_off712 v4016) a + S1x1x256.size a ≤ S4001x1x256.size a := fun v4016 k0_hw712 => k0_hw712

def k0_off713 (v4020 : BitVec 32) : Fin 3 → Nat :=
  let v4021 : Index := Scalar.indexCast v4020
  let c0_2982 : Index := 0#32
  let c0_2983 : Index := 0#32
  ![v4021.toNat, 0, 0]

def k0_chk713 (v4020 : BitVec 32) : Prop :=
  (∀ a, (k0_off713 v4020) a + S1x1x256.size a ≤ S4001x1x256.size a)
theorem k0_off713_inb : ∀ (v4020 : BitVec 32) (k0_hw713 : k0_chk713 v4020), ∀ a, (k0_off713 v4020) a + S1x1x256.size a ≤ S4001x1x256.size a := fun v4020 k0_hw713 => k0_hw713

def k0_off714 (v4024 : BitVec 32) : Fin 3 → Nat :=
  let v4025 : Index := Scalar.indexCast v4024
  let c0_2986 : Index := 0#32
  let c0_2987 : Index := 0#32
  ![v4025.toNat, 0, 0]

def k0_chk714 (v4024 : BitVec 32) : Prop :=
  (∀ a, (k0_off714 v4024) a + S1x1x256.size a ≤ S4001x1x256.size a)
theorem k0_off714_inb : ∀ (v4024 : BitVec 32) (k0_hw714 : k0_chk714 v4024), ∀ a, (k0_off714 v4024) a + S1x1x256.size a ≤ S4001x1x256.size a := fun v4024 k0_hw714 => k0_hw714

def k0_off715 (v4028 : BitVec 32) : Fin 3 → Nat :=
  let v4029 : Index := Scalar.indexCast v4028
  let c0_2990 : Index := 0#32
  let c0_2991 : Index := 0#32
  ![v4029.toNat, 0, 0]

def k0_chk715 (v4028 : BitVec 32) : Prop :=
  (∀ a, (k0_off715 v4028) a + S1x1x256.size a ≤ S4001x1x256.size a)
theorem k0_off715_inb : ∀ (v4028 : BitVec 32) (k0_hw715 : k0_chk715 v4028), ∀ a, (k0_off715 v4028) a + S1x1x256.size a ≤ S4001x1x256.size a := fun v4028 k0_hw715 => k0_hw715

def k0_off716 (v4032 : BitVec 32) : Fin 3 → Nat :=
  let v4033 : Index := Scalar.indexCast v4032
  let c0_2994 : Index := 0#32
  let c0_2995 : Index := 0#32
  ![v4033.toNat, 0, 0]

def k0_chk716 (v4032 : BitVec 32) : Prop :=
  (∀ a, (k0_off716 v4032) a + S1x1x256.size a ≤ S4001x1x256.size a)
theorem k0_off716_inb : ∀ (v4032 : BitVec 32) (k0_hw716 : k0_chk716 v4032), ∀ a, (k0_off716 v4032) a + S1x1x256.size a ≤ S4001x1x256.size a := fun v4032 k0_hw716 => k0_hw716

def k0_off717 (v4036 : BitVec 32) : Fin 3 → Nat :=
  let v4037 : Index := Scalar.indexCast v4036
  let c0_2998 : Index := 0#32
  let c0_2999 : Index := 0#32
  ![v4037.toNat, 0, 0]

def k0_chk717 (v4036 : BitVec 32) : Prop :=
  (∀ a, (k0_off717 v4036) a + S1x1x256.size a ≤ S4001x1x256.size a)
theorem k0_off717_inb : ∀ (v4036 : BitVec 32) (k0_hw717 : k0_chk717 v4036), ∀ a, (k0_off717 v4036) a + S1x1x256.size a ≤ S4001x1x256.size a := fun v4036 k0_hw717 => k0_hw717

def k0_off718 (v4040 : BitVec 32) : Fin 3 → Nat :=
  let v4041 : Index := Scalar.indexCast v4040
  let c0_3002 : Index := 0#32
  let c0_3003 : Index := 0#32
  ![v4041.toNat, 0, 0]

def k0_chk718 (v4040 : BitVec 32) : Prop :=
  (∀ a, (k0_off718 v4040) a + S1x1x256.size a ≤ S4001x1x256.size a)
theorem k0_off718_inb : ∀ (v4040 : BitVec 32) (k0_hw718 : k0_chk718 v4040), ∀ a, (k0_off718 v4040) a + S1x1x256.size a ≤ S4001x1x256.size a := fun v4040 k0_hw718 => k0_hw718

def k0_off719 (v4044 : BitVec 32) : Fin 3 → Nat :=
  let v4045 : Index := Scalar.indexCast v4044
  let c0_3006 : Index := 0#32
  let c0_3007 : Index := 0#32
  ![v4045.toNat, 0, 0]

def k0_chk719 (v4044 : BitVec 32) : Prop :=
  (∀ a, (k0_off719 v4044) a + S1x1x256.size a ≤ S4001x1x256.size a)
theorem k0_off719_inb : ∀ (v4044 : BitVec 32) (k0_hw719 : k0_chk719 v4044), ∀ a, (k0_off719 v4044) a + S1x1x256.size a ≤ S4001x1x256.size a := fun v4044 k0_hw719 => k0_hw719

def k0_off720 (v4048 : BitVec 32) : Fin 3 → Nat :=
  let v4049 : Index := Scalar.indexCast v4048
  let c0_3010 : Index := 0#32
  let c0_3011 : Index := 0#32
  ![v4049.toNat, 0, 0]

def k0_chk720 (v4048 : BitVec 32) : Prop :=
  (∀ a, (k0_off720 v4048) a + S1x1x256.size a ≤ S4001x1x256.size a)
theorem k0_off720_inb : ∀ (v4048 : BitVec 32) (k0_hw720 : k0_chk720 v4048), ∀ a, (k0_off720 v4048) a + S1x1x256.size a ≤ S4001x1x256.size a := fun v4048 k0_hw720 => k0_hw720

def k0_off721 (v4112 : BitVec 32) : Fin 3 → Nat :=
  let v4113 : Index := Scalar.indexCast v4112
  let c0_3031 : Index := 0#32
  let c0_3032 : Index := 0#32
  ![v4113.toNat, 0, 0]

def k0_chk721 (v4112 : BitVec 32) : Prop :=
  (∀ a, (k0_off721 v4112) a + S1x1x256.size a ≤ S4001x1x256.size a)
theorem k0_off721_inb : ∀ (v4112 : BitVec 32) (k0_hw721 : k0_chk721 v4112), ∀ a, (k0_off721 v4112) a + S1x1x256.size a ≤ S4001x1x256.size a := fun v4112 k0_hw721 => k0_hw721

def k0_off722 (v4116 : BitVec 32) : Fin 3 → Nat :=
  let v4117 : Index := Scalar.indexCast v4116
  let c0_3035 : Index := 0#32
  let c0_3036 : Index := 0#32
  ![v4117.toNat, 0, 0]

def k0_chk722 (v4116 : BitVec 32) : Prop :=
  (∀ a, (k0_off722 v4116) a + S1x1x256.size a ≤ S4001x1x256.size a)
theorem k0_off722_inb : ∀ (v4116 : BitVec 32) (k0_hw722 : k0_chk722 v4116), ∀ a, (k0_off722 v4116) a + S1x1x256.size a ≤ S4001x1x256.size a := fun v4116 k0_hw722 => k0_hw722

def k0_off723 (v4120 : BitVec 32) : Fin 3 → Nat :=
  let v4121 : Index := Scalar.indexCast v4120
  let c0_3039 : Index := 0#32
  let c0_3040 : Index := 0#32
  ![v4121.toNat, 0, 0]

def k0_chk723 (v4120 : BitVec 32) : Prop :=
  (∀ a, (k0_off723 v4120) a + S1x1x256.size a ≤ S4001x1x256.size a)
theorem k0_off723_inb : ∀ (v4120 : BitVec 32) (k0_hw723 : k0_chk723 v4120), ∀ a, (k0_off723 v4120) a + S1x1x256.size a ≤ S4001x1x256.size a := fun v4120 k0_hw723 => k0_hw723

def k0_off724 (v4124 : BitVec 32) : Fin 3 → Nat :=
  let v4125 : Index := Scalar.indexCast v4124
  let c0_3043 : Index := 0#32
  let c0_3044 : Index := 0#32
  ![v4125.toNat, 0, 0]

def k0_chk724 (v4124 : BitVec 32) : Prop :=
  (∀ a, (k0_off724 v4124) a + S1x1x256.size a ≤ S4001x1x256.size a)
theorem k0_off724_inb : ∀ (v4124 : BitVec 32) (k0_hw724 : k0_chk724 v4124), ∀ a, (k0_off724 v4124) a + S1x1x256.size a ≤ S4001x1x256.size a := fun v4124 k0_hw724 => k0_hw724

def k0_off725 (v4128 : BitVec 32) : Fin 3 → Nat :=
  let v4129 : Index := Scalar.indexCast v4128
  let c0_3047 : Index := 0#32
  let c0_3048 : Index := 0#32
  ![v4129.toNat, 0, 0]

def k0_chk725 (v4128 : BitVec 32) : Prop :=
  (∀ a, (k0_off725 v4128) a + S1x1x256.size a ≤ S4001x1x256.size a)
theorem k0_off725_inb : ∀ (v4128 : BitVec 32) (k0_hw725 : k0_chk725 v4128), ∀ a, (k0_off725 v4128) a + S1x1x256.size a ≤ S4001x1x256.size a := fun v4128 k0_hw725 => k0_hw725

def k0_off726 (v4132 : BitVec 32) : Fin 3 → Nat :=
  let v4133 : Index := Scalar.indexCast v4132
  let c0_3051 : Index := 0#32
  let c0_3052 : Index := 0#32
  ![v4133.toNat, 0, 0]

def k0_chk726 (v4132 : BitVec 32) : Prop :=
  (∀ a, (k0_off726 v4132) a + S1x1x256.size a ≤ S4001x1x256.size a)
theorem k0_off726_inb : ∀ (v4132 : BitVec 32) (k0_hw726 : k0_chk726 v4132), ∀ a, (k0_off726 v4132) a + S1x1x256.size a ≤ S4001x1x256.size a := fun v4132 k0_hw726 => k0_hw726

def k0_off727 (v4136 : BitVec 32) : Fin 3 → Nat :=
  let v4137 : Index := Scalar.indexCast v4136
  let c0_3055 : Index := 0#32
  let c0_3056 : Index := 0#32
  ![v4137.toNat, 0, 0]

def k0_chk727 (v4136 : BitVec 32) : Prop :=
  (∀ a, (k0_off727 v4136) a + S1x1x256.size a ≤ S4001x1x256.size a)
theorem k0_off727_inb : ∀ (v4136 : BitVec 32) (k0_hw727 : k0_chk727 v4136), ∀ a, (k0_off727 v4136) a + S1x1x256.size a ≤ S4001x1x256.size a := fun v4136 k0_hw727 => k0_hw727

def k0_off728 (v4140 : BitVec 32) : Fin 3 → Nat :=
  let v4141 : Index := Scalar.indexCast v4140
  let c0_3059 : Index := 0#32
  let c0_3060 : Index := 0#32
  ![v4141.toNat, 0, 0]

def k0_chk728 (v4140 : BitVec 32) : Prop :=
  (∀ a, (k0_off728 v4140) a + S1x1x256.size a ≤ S4001x1x256.size a)
theorem k0_off728_inb : ∀ (v4140 : BitVec 32) (k0_hw728 : k0_chk728 v4140), ∀ a, (k0_off728 v4140) a + S1x1x256.size a ≤ S4001x1x256.size a := fun v4140 k0_hw728 => k0_hw728

def k0_off729 (v4144 : BitVec 32) : Fin 3 → Nat :=
  let v4145 : Index := Scalar.indexCast v4144
  let c0_3063 : Index := 0#32
  let c0_3064 : Index := 0#32
  ![v4145.toNat, 0, 0]

def k0_chk729 (v4144 : BitVec 32) : Prop :=
  (∀ a, (k0_off729 v4144) a + S1x1x256.size a ≤ S4001x1x256.size a)
theorem k0_off729_inb : ∀ (v4144 : BitVec 32) (k0_hw729 : k0_chk729 v4144), ∀ a, (k0_off729 v4144) a + S1x1x256.size a ≤ S4001x1x256.size a := fun v4144 k0_hw729 => k0_hw729

def k0_off730 (v4148 : BitVec 32) : Fin 3 → Nat :=
  let v4149 : Index := Scalar.indexCast v4148
  let c0_3067 : Index := 0#32
  let c0_3068 : Index := 0#32
  ![v4149.toNat, 0, 0]

def k0_chk730 (v4148 : BitVec 32) : Prop :=
  (∀ a, (k0_off730 v4148) a + S1x1x256.size a ≤ S4001x1x256.size a)
theorem k0_off730_inb : ∀ (v4148 : BitVec 32) (k0_hw730 : k0_chk730 v4148), ∀ a, (k0_off730 v4148) a + S1x1x256.size a ≤ S4001x1x256.size a := fun v4148 k0_hw730 => k0_hw730

def k0_off731 (v4152 : BitVec 32) : Fin 3 → Nat :=
  let v4153 : Index := Scalar.indexCast v4152
  let c0_3071 : Index := 0#32
  let c0_3072 : Index := 0#32
  ![v4153.toNat, 0, 0]

def k0_chk731 (v4152 : BitVec 32) : Prop :=
  (∀ a, (k0_off731 v4152) a + S1x1x256.size a ≤ S4001x1x256.size a)
theorem k0_off731_inb : ∀ (v4152 : BitVec 32) (k0_hw731 : k0_chk731 v4152), ∀ a, (k0_off731 v4152) a + S1x1x256.size a ≤ S4001x1x256.size a := fun v4152 k0_hw731 => k0_hw731

def k0_off732 (v4156 : BitVec 32) : Fin 3 → Nat :=
  let v4157 : Index := Scalar.indexCast v4156
  let c0_3075 : Index := 0#32
  let c0_3076 : Index := 0#32
  ![v4157.toNat, 0, 0]

def k0_chk732 (v4156 : BitVec 32) : Prop :=
  (∀ a, (k0_off732 v4156) a + S1x1x256.size a ≤ S4001x1x256.size a)
theorem k0_off732_inb : ∀ (v4156 : BitVec 32) (k0_hw732 : k0_chk732 v4156), ∀ a, (k0_off732 v4156) a + S1x1x256.size a ≤ S4001x1x256.size a := fun v4156 k0_hw732 => k0_hw732

def k0_off733 (v4160 : BitVec 32) : Fin 3 → Nat :=
  let v4161 : Index := Scalar.indexCast v4160
  let c0_3079 : Index := 0#32
  let c0_3080 : Index := 0#32
  ![v4161.toNat, 0, 0]

def k0_chk733 (v4160 : BitVec 32) : Prop :=
  (∀ a, (k0_off733 v4160) a + S1x1x256.size a ≤ S4001x1x256.size a)
theorem k0_off733_inb : ∀ (v4160 : BitVec 32) (k0_hw733 : k0_chk733 v4160), ∀ a, (k0_off733 v4160) a + S1x1x256.size a ≤ S4001x1x256.size a := fun v4160 k0_hw733 => k0_hw733

def k0_off734 (v4164 : BitVec 32) : Fin 3 → Nat :=
  let v4165 : Index := Scalar.indexCast v4164
  let c0_3083 : Index := 0#32
  let c0_3084 : Index := 0#32
  ![v4165.toNat, 0, 0]

def k0_chk734 (v4164 : BitVec 32) : Prop :=
  (∀ a, (k0_off734 v4164) a + S1x1x256.size a ≤ S4001x1x256.size a)
theorem k0_off734_inb : ∀ (v4164 : BitVec 32) (k0_hw734 : k0_chk734 v4164), ∀ a, (k0_off734 v4164) a + S1x1x256.size a ≤ S4001x1x256.size a := fun v4164 k0_hw734 => k0_hw734

def k0_off735 (v4168 : BitVec 32) : Fin 3 → Nat :=
  let v4169 : Index := Scalar.indexCast v4168
  let c0_3087 : Index := 0#32
  let c0_3088 : Index := 0#32
  ![v4169.toNat, 0, 0]

def k0_chk735 (v4168 : BitVec 32) : Prop :=
  (∀ a, (k0_off735 v4168) a + S1x1x256.size a ≤ S4001x1x256.size a)
theorem k0_off735_inb : ∀ (v4168 : BitVec 32) (k0_hw735 : k0_chk735 v4168), ∀ a, (k0_off735 v4168) a + S1x1x256.size a ≤ S4001x1x256.size a := fun v4168 k0_hw735 => k0_hw735

def k0_off736 (v4172 : BitVec 32) : Fin 3 → Nat :=
  let v4173 : Index := Scalar.indexCast v4172
  let c0_3091 : Index := 0#32
  let c0_3092 : Index := 0#32
  ![v4173.toNat, 0, 0]

def k0_chk736 (v4172 : BitVec 32) : Prop :=
  (∀ a, (k0_off736 v4172) a + S1x1x256.size a ≤ S4001x1x256.size a)
theorem k0_off736_inb : ∀ (v4172 : BitVec 32) (k0_hw736 : k0_chk736 v4172), ∀ a, (k0_off736 v4172) a + S1x1x256.size a ≤ S4001x1x256.size a := fun v4172 k0_hw736 => k0_hw736

def k0_off737 (v4176 : BitVec 32) : Fin 3 → Nat :=
  let v4177 : Index := Scalar.indexCast v4176
  let c0_3095 : Index := 0#32
  let c0_3096 : Index := 0#32
  ![v4177.toNat, 0, 0]

def k0_chk737 (v4176 : BitVec 32) : Prop :=
  (∀ a, (k0_off737 v4176) a + S1x1x256.size a ≤ S4001x1x256.size a)
theorem k0_off737_inb : ∀ (v4176 : BitVec 32) (k0_hw737 : k0_chk737 v4176), ∀ a, (k0_off737 v4176) a + S1x1x256.size a ≤ S4001x1x256.size a := fun v4176 k0_hw737 => k0_hw737

def k0_off738 (v4180 : BitVec 32) : Fin 3 → Nat :=
  let v4181 : Index := Scalar.indexCast v4180
  let c0_3099 : Index := 0#32
  let c0_3100 : Index := 0#32
  ![v4181.toNat, 0, 0]

def k0_chk738 (v4180 : BitVec 32) : Prop :=
  (∀ a, (k0_off738 v4180) a + S1x1x256.size a ≤ S4001x1x256.size a)
theorem k0_off738_inb : ∀ (v4180 : BitVec 32) (k0_hw738 : k0_chk738 v4180), ∀ a, (k0_off738 v4180) a + S1x1x256.size a ≤ S4001x1x256.size a := fun v4180 k0_hw738 => k0_hw738

def k0_off739 (v4184 : BitVec 32) : Fin 3 → Nat :=
  let v4185 : Index := Scalar.indexCast v4184
  let c0_3103 : Index := 0#32
  let c0_3104 : Index := 0#32
  ![v4185.toNat, 0, 0]

def k0_chk739 (v4184 : BitVec 32) : Prop :=
  (∀ a, (k0_off739 v4184) a + S1x1x256.size a ≤ S4001x1x256.size a)
theorem k0_off739_inb : ∀ (v4184 : BitVec 32) (k0_hw739 : k0_chk739 v4184), ∀ a, (k0_off739 v4184) a + S1x1x256.size a ≤ S4001x1x256.size a := fun v4184 k0_hw739 => k0_hw739

def k0_off740 (v4188 : BitVec 32) : Fin 3 → Nat :=
  let v4189 : Index := Scalar.indexCast v4188
  let c0_3107 : Index := 0#32
  let c0_3108 : Index := 0#32
  ![v4189.toNat, 0, 0]

def k0_chk740 (v4188 : BitVec 32) : Prop :=
  (∀ a, (k0_off740 v4188) a + S1x1x256.size a ≤ S4001x1x256.size a)
theorem k0_off740_inb : ∀ (v4188 : BitVec 32) (k0_hw740 : k0_chk740 v4188), ∀ a, (k0_off740 v4188) a + S1x1x256.size a ≤ S4001x1x256.size a := fun v4188 k0_hw740 => k0_hw740

def k0_off741 (v4192 : BitVec 32) : Fin 3 → Nat :=
  let v4193 : Index := Scalar.indexCast v4192
  let c0_3111 : Index := 0#32
  let c0_3112 : Index := 0#32
  ![v4193.toNat, 0, 0]

def k0_chk741 (v4192 : BitVec 32) : Prop :=
  (∀ a, (k0_off741 v4192) a + S1x1x256.size a ≤ S4001x1x256.size a)
theorem k0_off741_inb : ∀ (v4192 : BitVec 32) (k0_hw741 : k0_chk741 v4192), ∀ a, (k0_off741 v4192) a + S1x1x256.size a ≤ S4001x1x256.size a := fun v4192 k0_hw741 => k0_hw741

def k0_off742 (v4196 : BitVec 32) : Fin 3 → Nat :=
  let v4197 : Index := Scalar.indexCast v4196
  let c0_3115 : Index := 0#32
  let c0_3116 : Index := 0#32
  ![v4197.toNat, 0, 0]

def k0_chk742 (v4196 : BitVec 32) : Prop :=
  (∀ a, (k0_off742 v4196) a + S1x1x256.size a ≤ S4001x1x256.size a)
theorem k0_off742_inb : ∀ (v4196 : BitVec 32) (k0_hw742 : k0_chk742 v4196), ∀ a, (k0_off742 v4196) a + S1x1x256.size a ≤ S4001x1x256.size a := fun v4196 k0_hw742 => k0_hw742

def k0_off743 (v4200 : BitVec 32) : Fin 3 → Nat :=
  let v4201 : Index := Scalar.indexCast v4200
  let c0_3119 : Index := 0#32
  let c0_3120 : Index := 0#32
  ![v4201.toNat, 0, 0]

def k0_chk743 (v4200 : BitVec 32) : Prop :=
  (∀ a, (k0_off743 v4200) a + S1x1x256.size a ≤ S4001x1x256.size a)
theorem k0_off743_inb : ∀ (v4200 : BitVec 32) (k0_hw743 : k0_chk743 v4200), ∀ a, (k0_off743 v4200) a + S1x1x256.size a ≤ S4001x1x256.size a := fun v4200 k0_hw743 => k0_hw743

def k0_off744 (v4204 : BitVec 32) : Fin 3 → Nat :=
  let v4205 : Index := Scalar.indexCast v4204
  let c0_3123 : Index := 0#32
  let c0_3124 : Index := 0#32
  ![v4205.toNat, 0, 0]

def k0_chk744 (v4204 : BitVec 32) : Prop :=
  (∀ a, (k0_off744 v4204) a + S1x1x256.size a ≤ S4001x1x256.size a)
theorem k0_off744_inb : ∀ (v4204 : BitVec 32) (k0_hw744 : k0_chk744 v4204), ∀ a, (k0_off744 v4204) a + S1x1x256.size a ≤ S4001x1x256.size a := fun v4204 k0_hw744 => k0_hw744

def k0_off745 (v4208 : BitVec 32) : Fin 3 → Nat :=
  let v4209 : Index := Scalar.indexCast v4208
  let c0_3127 : Index := 0#32
  let c0_3128 : Index := 0#32
  ![v4209.toNat, 0, 0]

def k0_chk745 (v4208 : BitVec 32) : Prop :=
  (∀ a, (k0_off745 v4208) a + S1x1x256.size a ≤ S4001x1x256.size a)
theorem k0_off745_inb : ∀ (v4208 : BitVec 32) (k0_hw745 : k0_chk745 v4208), ∀ a, (k0_off745 v4208) a + S1x1x256.size a ≤ S4001x1x256.size a := fun v4208 k0_hw745 => k0_hw745

def k0_off746 (v4212 : BitVec 32) : Fin 3 → Nat :=
  let v4213 : Index := Scalar.indexCast v4212
  let c0_3131 : Index := 0#32
  let c0_3132 : Index := 0#32
  ![v4213.toNat, 0, 0]

def k0_chk746 (v4212 : BitVec 32) : Prop :=
  (∀ a, (k0_off746 v4212) a + S1x1x256.size a ≤ S4001x1x256.size a)
theorem k0_off746_inb : ∀ (v4212 : BitVec 32) (k0_hw746 : k0_chk746 v4212), ∀ a, (k0_off746 v4212) a + S1x1x256.size a ≤ S4001x1x256.size a := fun v4212 k0_hw746 => k0_hw746

def k0_off747 (v4216 : BitVec 32) : Fin 3 → Nat :=
  let v4217 : Index := Scalar.indexCast v4216
  let c0_3135 : Index := 0#32
  let c0_3136 : Index := 0#32
  ![v4217.toNat, 0, 0]

def k0_chk747 (v4216 : BitVec 32) : Prop :=
  (∀ a, (k0_off747 v4216) a + S1x1x256.size a ≤ S4001x1x256.size a)
theorem k0_off747_inb : ∀ (v4216 : BitVec 32) (k0_hw747 : k0_chk747 v4216), ∀ a, (k0_off747 v4216) a + S1x1x256.size a ≤ S4001x1x256.size a := fun v4216 k0_hw747 => k0_hw747

def k0_off748 (v4220 : BitVec 32) : Fin 3 → Nat :=
  let v4221 : Index := Scalar.indexCast v4220
  let c0_3139 : Index := 0#32
  let c0_3140 : Index := 0#32
  ![v4221.toNat, 0, 0]

def k0_chk748 (v4220 : BitVec 32) : Prop :=
  (∀ a, (k0_off748 v4220) a + S1x1x256.size a ≤ S4001x1x256.size a)
theorem k0_off748_inb : ∀ (v4220 : BitVec 32) (k0_hw748 : k0_chk748 v4220), ∀ a, (k0_off748 v4220) a + S1x1x256.size a ≤ S4001x1x256.size a := fun v4220 k0_hw748 => k0_hw748

def k0_off749 (v4224 : BitVec 32) : Fin 3 → Nat :=
  let v4225 : Index := Scalar.indexCast v4224
  let c0_3143 : Index := 0#32
  let c0_3144 : Index := 0#32
  ![v4225.toNat, 0, 0]

def k0_chk749 (v4224 : BitVec 32) : Prop :=
  (∀ a, (k0_off749 v4224) a + S1x1x256.size a ≤ S4001x1x256.size a)
theorem k0_off749_inb : ∀ (v4224 : BitVec 32) (k0_hw749 : k0_chk749 v4224), ∀ a, (k0_off749 v4224) a + S1x1x256.size a ≤ S4001x1x256.size a := fun v4224 k0_hw749 => k0_hw749

def k0_off750 (v4228 : BitVec 32) : Fin 3 → Nat :=
  let v4229 : Index := Scalar.indexCast v4228
  let c0_3147 : Index := 0#32
  let c0_3148 : Index := 0#32
  ![v4229.toNat, 0, 0]

def k0_chk750 (v4228 : BitVec 32) : Prop :=
  (∀ a, (k0_off750 v4228) a + S1x1x256.size a ≤ S4001x1x256.size a)
theorem k0_off750_inb : ∀ (v4228 : BitVec 32) (k0_hw750 : k0_chk750 v4228), ∀ a, (k0_off750 v4228) a + S1x1x256.size a ≤ S4001x1x256.size a := fun v4228 k0_hw750 => k0_hw750

def k0_off751 (v4232 : BitVec 32) : Fin 3 → Nat :=
  let v4233 : Index := Scalar.indexCast v4232
  let c0_3151 : Index := 0#32
  let c0_3152 : Index := 0#32
  ![v4233.toNat, 0, 0]

def k0_chk751 (v4232 : BitVec 32) : Prop :=
  (∀ a, (k0_off751 v4232) a + S1x1x256.size a ≤ S4001x1x256.size a)
theorem k0_off751_inb : ∀ (v4232 : BitVec 32) (k0_hw751 : k0_chk751 v4232), ∀ a, (k0_off751 v4232) a + S1x1x256.size a ≤ S4001x1x256.size a := fun v4232 k0_hw751 => k0_hw751

def k0_off752 (v4236 : BitVec 32) : Fin 3 → Nat :=
  let v4237 : Index := Scalar.indexCast v4236
  let c0_3155 : Index := 0#32
  let c0_3156 : Index := 0#32
  ![v4237.toNat, 0, 0]

def k0_chk752 (v4236 : BitVec 32) : Prop :=
  (∀ a, (k0_off752 v4236) a + S1x1x256.size a ≤ S4001x1x256.size a)
theorem k0_off752_inb : ∀ (v4236 : BitVec 32) (k0_hw752 : k0_chk752 v4236), ∀ a, (k0_off752 v4236) a + S1x1x256.size a ≤ S4001x1x256.size a := fun v4236 k0_hw752 => k0_hw752

def k0_off753 (v4240 : BitVec 32) : Fin 3 → Nat :=
  let v4241 : Index := Scalar.indexCast v4240
  let c0_3159 : Index := 0#32
  let c0_3160 : Index := 0#32
  ![v4241.toNat, 0, 0]

def k0_chk753 (v4240 : BitVec 32) : Prop :=
  (∀ a, (k0_off753 v4240) a + S1x1x256.size a ≤ S4001x1x256.size a)
theorem k0_off753_inb : ∀ (v4240 : BitVec 32) (k0_hw753 : k0_chk753 v4240), ∀ a, (k0_off753 v4240) a + S1x1x256.size a ≤ S4001x1x256.size a := fun v4240 k0_hw753 => k0_hw753

def k0_off754 (v4244 : BitVec 32) : Fin 3 → Nat :=
  let v4245 : Index := Scalar.indexCast v4244
  let c0_3163 : Index := 0#32
  let c0_3164 : Index := 0#32
  ![v4245.toNat, 0, 0]

def k0_chk754 (v4244 : BitVec 32) : Prop :=
  (∀ a, (k0_off754 v4244) a + S1x1x256.size a ≤ S4001x1x256.size a)
theorem k0_off754_inb : ∀ (v4244 : BitVec 32) (k0_hw754 : k0_chk754 v4244), ∀ a, (k0_off754 v4244) a + S1x1x256.size a ≤ S4001x1x256.size a := fun v4244 k0_hw754 => k0_hw754

def k0_off755 (v4248 : BitVec 32) : Fin 3 → Nat :=
  let v4249 : Index := Scalar.indexCast v4248
  let c0_3167 : Index := 0#32
  let c0_3168 : Index := 0#32
  ![v4249.toNat, 0, 0]

def k0_chk755 (v4248 : BitVec 32) : Prop :=
  (∀ a, (k0_off755 v4248) a + S1x1x256.size a ≤ S4001x1x256.size a)
theorem k0_off755_inb : ∀ (v4248 : BitVec 32) (k0_hw755 : k0_chk755 v4248), ∀ a, (k0_off755 v4248) a + S1x1x256.size a ≤ S4001x1x256.size a := fun v4248 k0_hw755 => k0_hw755

def k0_off756 (v4252 : BitVec 32) : Fin 3 → Nat :=
  let v4253 : Index := Scalar.indexCast v4252
  let c0_3171 : Index := 0#32
  let c0_3172 : Index := 0#32
  ![v4253.toNat, 0, 0]

def k0_chk756 (v4252 : BitVec 32) : Prop :=
  (∀ a, (k0_off756 v4252) a + S1x1x256.size a ≤ S4001x1x256.size a)
theorem k0_off756_inb : ∀ (v4252 : BitVec 32) (k0_hw756 : k0_chk756 v4252), ∀ a, (k0_off756 v4252) a + S1x1x256.size a ≤ S4001x1x256.size a := fun v4252 k0_hw756 => k0_hw756

def k0_off757 (v4256 : BitVec 32) : Fin 3 → Nat :=
  let v4257 : Index := Scalar.indexCast v4256
  let c0_3175 : Index := 0#32
  let c0_3176 : Index := 0#32
  ![v4257.toNat, 0, 0]

def k0_chk757 (v4256 : BitVec 32) : Prop :=
  (∀ a, (k0_off757 v4256) a + S1x1x256.size a ≤ S4001x1x256.size a)
theorem k0_off757_inb : ∀ (v4256 : BitVec 32) (k0_hw757 : k0_chk757 v4256), ∀ a, (k0_off757 v4256) a + S1x1x256.size a ≤ S4001x1x256.size a := fun v4256 k0_hw757 => k0_hw757

def k0_off758 (v4260 : BitVec 32) : Fin 3 → Nat :=
  let v4261 : Index := Scalar.indexCast v4260
  let c0_3179 : Index := 0#32
  let c0_3180 : Index := 0#32
  ![v4261.toNat, 0, 0]

def k0_chk758 (v4260 : BitVec 32) : Prop :=
  (∀ a, (k0_off758 v4260) a + S1x1x256.size a ≤ S4001x1x256.size a)
theorem k0_off758_inb : ∀ (v4260 : BitVec 32) (k0_hw758 : k0_chk758 v4260), ∀ a, (k0_off758 v4260) a + S1x1x256.size a ≤ S4001x1x256.size a := fun v4260 k0_hw758 => k0_hw758

def k0_off759 (v4264 : BitVec 32) : Fin 3 → Nat :=
  let v4265 : Index := Scalar.indexCast v4264
  let c0_3183 : Index := 0#32
  let c0_3184 : Index := 0#32
  ![v4265.toNat, 0, 0]

def k0_chk759 (v4264 : BitVec 32) : Prop :=
  (∀ a, (k0_off759 v4264) a + S1x1x256.size a ≤ S4001x1x256.size a)
theorem k0_off759_inb : ∀ (v4264 : BitVec 32) (k0_hw759 : k0_chk759 v4264), ∀ a, (k0_off759 v4264) a + S1x1x256.size a ≤ S4001x1x256.size a := fun v4264 k0_hw759 => k0_hw759

def k0_off760 (v4268 : BitVec 32) : Fin 3 → Nat :=
  let v4269 : Index := Scalar.indexCast v4268
  let c0_3187 : Index := 0#32
  let c0_3188 : Index := 0#32
  ![v4269.toNat, 0, 0]

def k0_chk760 (v4268 : BitVec 32) : Prop :=
  (∀ a, (k0_off760 v4268) a + S1x1x256.size a ≤ S4001x1x256.size a)
theorem k0_off760_inb : ∀ (v4268 : BitVec 32) (k0_hw760 : k0_chk760 v4268), ∀ a, (k0_off760 v4268) a + S1x1x256.size a ≤ S4001x1x256.size a := fun v4268 k0_hw760 => k0_hw760

def k0_off761 (v4311 : BitVec 32) : Fin 3 → Nat :=
  let v4312 : Index := Scalar.indexCast v4311
  let c0_3191 : Index := 0#32
  let c0_3192 : Index := 0#32
  ![v4312.toNat, 0, 0]

def k0_chk761 (v4311 : BitVec 32) : Prop :=
  (∀ a, (k0_off761 v4311) a + S1x1x256.size a ≤ S4001x1x256.size a)
theorem k0_off761_inb : ∀ (v4311 : BitVec 32) (k0_hw761 : k0_chk761 v4311), ∀ a, (k0_off761 v4311) a + S1x1x256.size a ≤ S4001x1x256.size a := fun v4311 k0_hw761 => k0_hw761

def k0_off762 (v4315 : BitVec 32) : Fin 3 → Nat :=
  let v4316 : Index := Scalar.indexCast v4315
  let c0_3195 : Index := 0#32
  let c0_3196 : Index := 0#32
  ![v4316.toNat, 0, 0]

def k0_chk762 (v4315 : BitVec 32) : Prop :=
  (∀ a, (k0_off762 v4315) a + S1x1x256.size a ≤ S4001x1x256.size a)
theorem k0_off762_inb : ∀ (v4315 : BitVec 32) (k0_hw762 : k0_chk762 v4315), ∀ a, (k0_off762 v4315) a + S1x1x256.size a ≤ S4001x1x256.size a := fun v4315 k0_hw762 => k0_hw762

def k0_off763 (v4319 : BitVec 32) : Fin 3 → Nat :=
  let v4320 : Index := Scalar.indexCast v4319
  let c0_3199 : Index := 0#32
  let c0_3200 : Index := 0#32
  ![v4320.toNat, 0, 0]

def k0_chk763 (v4319 : BitVec 32) : Prop :=
  (∀ a, (k0_off763 v4319) a + S1x1x256.size a ≤ S4001x1x256.size a)
theorem k0_off763_inb : ∀ (v4319 : BitVec 32) (k0_hw763 : k0_chk763 v4319), ∀ a, (k0_off763 v4319) a + S1x1x256.size a ≤ S4001x1x256.size a := fun v4319 k0_hw763 => k0_hw763

def k0_off764 (v4323 : BitVec 32) : Fin 3 → Nat :=
  let v4324 : Index := Scalar.indexCast v4323
  let c0_3203 : Index := 0#32
  let c0_3204 : Index := 0#32
  ![v4324.toNat, 0, 0]

def k0_chk764 (v4323 : BitVec 32) : Prop :=
  (∀ a, (k0_off764 v4323) a + S1x1x256.size a ≤ S4001x1x256.size a)
theorem k0_off764_inb : ∀ (v4323 : BitVec 32) (k0_hw764 : k0_chk764 v4323), ∀ a, (k0_off764 v4323) a + S1x1x256.size a ≤ S4001x1x256.size a := fun v4323 k0_hw764 => k0_hw764

def k0_off765 (v4327 : BitVec 32) : Fin 3 → Nat :=
  let v4328 : Index := Scalar.indexCast v4327
  let c0_3207 : Index := 0#32
  let c0_3208 : Index := 0#32
  ![v4328.toNat, 0, 0]

def k0_chk765 (v4327 : BitVec 32) : Prop :=
  (∀ a, (k0_off765 v4327) a + S1x1x256.size a ≤ S4001x1x256.size a)
theorem k0_off765_inb : ∀ (v4327 : BitVec 32) (k0_hw765 : k0_chk765 v4327), ∀ a, (k0_off765 v4327) a + S1x1x256.size a ≤ S4001x1x256.size a := fun v4327 k0_hw765 => k0_hw765

def k0_off766 (v4331 : BitVec 32) : Fin 3 → Nat :=
  let v4332 : Index := Scalar.indexCast v4331
  let c0_3211 : Index := 0#32
  let c0_3212 : Index := 0#32
  ![v4332.toNat, 0, 0]

def k0_chk766 (v4331 : BitVec 32) : Prop :=
  (∀ a, (k0_off766 v4331) a + S1x1x256.size a ≤ S4001x1x256.size a)
theorem k0_off766_inb : ∀ (v4331 : BitVec 32) (k0_hw766 : k0_chk766 v4331), ∀ a, (k0_off766 v4331) a + S1x1x256.size a ≤ S4001x1x256.size a := fun v4331 k0_hw766 => k0_hw766

def k0_off767 (v4335 : BitVec 32) : Fin 3 → Nat :=
  let v4336 : Index := Scalar.indexCast v4335
  let c0_3215 : Index := 0#32
  let c0_3216 : Index := 0#32
  ![v4336.toNat, 0, 0]

def k0_chk767 (v4335 : BitVec 32) : Prop :=
  (∀ a, (k0_off767 v4335) a + S1x1x256.size a ≤ S4001x1x256.size a)
theorem k0_off767_inb : ∀ (v4335 : BitVec 32) (k0_hw767 : k0_chk767 v4335), ∀ a, (k0_off767 v4335) a + S1x1x256.size a ≤ S4001x1x256.size a := fun v4335 k0_hw767 => k0_hw767

def k0_off768 (v4339 : BitVec 32) : Fin 3 → Nat :=
  let v4340 : Index := Scalar.indexCast v4339
  let c0_3219 : Index := 0#32
  let c0_3220 : Index := 0#32
  ![v4340.toNat, 0, 0]

def k0_chk768 (v4339 : BitVec 32) : Prop :=
  (∀ a, (k0_off768 v4339) a + S1x1x256.size a ≤ S4001x1x256.size a)
theorem k0_off768_inb : ∀ (v4339 : BitVec 32) (k0_hw768 : k0_chk768 v4339), ∀ a, (k0_off768 v4339) a + S1x1x256.size a ≤ S4001x1x256.size a := fun v4339 k0_hw768 => k0_hw768

def k0_off769 (v4343 : BitVec 32) : Fin 3 → Nat :=
  let v4344 : Index := Scalar.indexCast v4343
  let c0_3223 : Index := 0#32
  let c0_3224 : Index := 0#32
  ![v4344.toNat, 0, 0]

def k0_chk769 (v4343 : BitVec 32) : Prop :=
  (∀ a, (k0_off769 v4343) a + S1x1x256.size a ≤ S4001x1x256.size a)
theorem k0_off769_inb : ∀ (v4343 : BitVec 32) (k0_hw769 : k0_chk769 v4343), ∀ a, (k0_off769 v4343) a + S1x1x256.size a ≤ S4001x1x256.size a := fun v4343 k0_hw769 => k0_hw769

def k0_off770 (v4347 : BitVec 32) : Fin 3 → Nat :=
  let v4348 : Index := Scalar.indexCast v4347
  let c0_3227 : Index := 0#32
  let c0_3228 : Index := 0#32
  ![v4348.toNat, 0, 0]

def k0_chk770 (v4347 : BitVec 32) : Prop :=
  (∀ a, (k0_off770 v4347) a + S1x1x256.size a ≤ S4001x1x256.size a)
theorem k0_off770_inb : ∀ (v4347 : BitVec 32) (k0_hw770 : k0_chk770 v4347), ∀ a, (k0_off770 v4347) a + S1x1x256.size a ≤ S4001x1x256.size a := fun v4347 k0_hw770 => k0_hw770

def k0_off771 (v4351 : BitVec 32) : Fin 3 → Nat :=
  let v4352 : Index := Scalar.indexCast v4351
  let c0_3231 : Index := 0#32
  let c0_3232 : Index := 0#32
  ![v4352.toNat, 0, 0]

def k0_chk771 (v4351 : BitVec 32) : Prop :=
  (∀ a, (k0_off771 v4351) a + S1x1x256.size a ≤ S4001x1x256.size a)
theorem k0_off771_inb : ∀ (v4351 : BitVec 32) (k0_hw771 : k0_chk771 v4351), ∀ a, (k0_off771 v4351) a + S1x1x256.size a ≤ S4001x1x256.size a := fun v4351 k0_hw771 => k0_hw771

def k0_off772 (v4355 : BitVec 32) : Fin 3 → Nat :=
  let v4356 : Index := Scalar.indexCast v4355
  let c0_3235 : Index := 0#32
  let c0_3236 : Index := 0#32
  ![v4356.toNat, 0, 0]

def k0_chk772 (v4355 : BitVec 32) : Prop :=
  (∀ a, (k0_off772 v4355) a + S1x1x256.size a ≤ S4001x1x256.size a)
theorem k0_off772_inb : ∀ (v4355 : BitVec 32) (k0_hw772 : k0_chk772 v4355), ∀ a, (k0_off772 v4355) a + S1x1x256.size a ≤ S4001x1x256.size a := fun v4355 k0_hw772 => k0_hw772

def k0_off773 (v4359 : BitVec 32) : Fin 3 → Nat :=
  let v4360 : Index := Scalar.indexCast v4359
  let c0_3239 : Index := 0#32
  let c0_3240 : Index := 0#32
  ![v4360.toNat, 0, 0]

def k0_chk773 (v4359 : BitVec 32) : Prop :=
  (∀ a, (k0_off773 v4359) a + S1x1x256.size a ≤ S4001x1x256.size a)
theorem k0_off773_inb : ∀ (v4359 : BitVec 32) (k0_hw773 : k0_chk773 v4359), ∀ a, (k0_off773 v4359) a + S1x1x256.size a ≤ S4001x1x256.size a := fun v4359 k0_hw773 => k0_hw773

def k0_off774 (v4363 : BitVec 32) : Fin 3 → Nat :=
  let v4364 : Index := Scalar.indexCast v4363
  let c0_3243 : Index := 0#32
  let c0_3244 : Index := 0#32
  ![v4364.toNat, 0, 0]

def k0_chk774 (v4363 : BitVec 32) : Prop :=
  (∀ a, (k0_off774 v4363) a + S1x1x256.size a ≤ S4001x1x256.size a)
theorem k0_off774_inb : ∀ (v4363 : BitVec 32) (k0_hw774 : k0_chk774 v4363), ∀ a, (k0_off774 v4363) a + S1x1x256.size a ≤ S4001x1x256.size a := fun v4363 k0_hw774 => k0_hw774

def k0_off775 (v4367 : BitVec 32) : Fin 3 → Nat :=
  let v4368 : Index := Scalar.indexCast v4367
  let c0_3247 : Index := 0#32
  let c0_3248 : Index := 0#32
  ![v4368.toNat, 0, 0]

def k0_chk775 (v4367 : BitVec 32) : Prop :=
  (∀ a, (k0_off775 v4367) a + S1x1x256.size a ≤ S4001x1x256.size a)
theorem k0_off775_inb : ∀ (v4367 : BitVec 32) (k0_hw775 : k0_chk775 v4367), ∀ a, (k0_off775 v4367) a + S1x1x256.size a ≤ S4001x1x256.size a := fun v4367 k0_hw775 => k0_hw775

def k0_off776 (v4371 : BitVec 32) : Fin 3 → Nat :=
  let v4372 : Index := Scalar.indexCast v4371
  let c0_3251 : Index := 0#32
  let c0_3252 : Index := 0#32
  ![v4372.toNat, 0, 0]

def k0_chk776 (v4371 : BitVec 32) : Prop :=
  (∀ a, (k0_off776 v4371) a + S1x1x256.size a ≤ S4001x1x256.size a)
theorem k0_off776_inb : ∀ (v4371 : BitVec 32) (k0_hw776 : k0_chk776 v4371), ∀ a, (k0_off776 v4371) a + S1x1x256.size a ≤ S4001x1x256.size a := fun v4371 k0_hw776 => k0_hw776

def k0_off777 (v4375 : BitVec 32) : Fin 3 → Nat :=
  let v4376 : Index := Scalar.indexCast v4375
  let c0_3255 : Index := 0#32
  let c0_3256 : Index := 0#32
  ![v4376.toNat, 0, 0]

def k0_chk777 (v4375 : BitVec 32) : Prop :=
  (∀ a, (k0_off777 v4375) a + S1x1x256.size a ≤ S4001x1x256.size a)
theorem k0_off777_inb : ∀ (v4375 : BitVec 32) (k0_hw777 : k0_chk777 v4375), ∀ a, (k0_off777 v4375) a + S1x1x256.size a ≤ S4001x1x256.size a := fun v4375 k0_hw777 => k0_hw777

def k0_off778 (v4379 : BitVec 32) : Fin 3 → Nat :=
  let v4380 : Index := Scalar.indexCast v4379
  let c0_3259 : Index := 0#32
  let c0_3260 : Index := 0#32
  ![v4380.toNat, 0, 0]

def k0_chk778 (v4379 : BitVec 32) : Prop :=
  (∀ a, (k0_off778 v4379) a + S1x1x256.size a ≤ S4001x1x256.size a)
theorem k0_off778_inb : ∀ (v4379 : BitVec 32) (k0_hw778 : k0_chk778 v4379), ∀ a, (k0_off778 v4379) a + S1x1x256.size a ≤ S4001x1x256.size a := fun v4379 k0_hw778 => k0_hw778

def k0_off779 (v4383 : BitVec 32) : Fin 3 → Nat :=
  let v4384 : Index := Scalar.indexCast v4383
  let c0_3263 : Index := 0#32
  let c0_3264 : Index := 0#32
  ![v4384.toNat, 0, 0]

def k0_chk779 (v4383 : BitVec 32) : Prop :=
  (∀ a, (k0_off779 v4383) a + S1x1x256.size a ≤ S4001x1x256.size a)
theorem k0_off779_inb : ∀ (v4383 : BitVec 32) (k0_hw779 : k0_chk779 v4383), ∀ a, (k0_off779 v4383) a + S1x1x256.size a ≤ S4001x1x256.size a := fun v4383 k0_hw779 => k0_hw779

def k0_off780 (v4387 : BitVec 32) : Fin 3 → Nat :=
  let v4388 : Index := Scalar.indexCast v4387
  let c0_3267 : Index := 0#32
  let c0_3268 : Index := 0#32
  ![v4388.toNat, 0, 0]

def k0_chk780 (v4387 : BitVec 32) : Prop :=
  (∀ a, (k0_off780 v4387) a + S1x1x256.size a ≤ S4001x1x256.size a)
theorem k0_off780_inb : ∀ (v4387 : BitVec 32) (k0_hw780 : k0_chk780 v4387), ∀ a, (k0_off780 v4387) a + S1x1x256.size a ≤ S4001x1x256.size a := fun v4387 k0_hw780 => k0_hw780

def k0_off781 (v4443 : BitVec 32) : Fin 3 → Nat :=
  let v4444 : Index := Scalar.indexCast v4443
  let c0_3281 : Index := 0#32
  let c0_3282 : Index := 0#32
  ![v4444.toNat, 0, 0]

def k0_chk781 (v4443 : BitVec 32) : Prop :=
  (∀ a, (k0_off781 v4443) a + S1x1x256.size a ≤ S4001x1x256.size a)
theorem k0_off781_inb : ∀ (v4443 : BitVec 32) (k0_hw781 : k0_chk781 v4443), ∀ a, (k0_off781 v4443) a + S1x1x256.size a ≤ S4001x1x256.size a := fun v4443 k0_hw781 => k0_hw781

def k0_off782 (v4447 : BitVec 32) : Fin 3 → Nat :=
  let v4448 : Index := Scalar.indexCast v4447
  let c0_3285 : Index := 0#32
  let c0_3286 : Index := 0#32
  ![v4448.toNat, 0, 0]

def k0_chk782 (v4447 : BitVec 32) : Prop :=
  (∀ a, (k0_off782 v4447) a + S1x1x256.size a ≤ S4001x1x256.size a)
theorem k0_off782_inb : ∀ (v4447 : BitVec 32) (k0_hw782 : k0_chk782 v4447), ∀ a, (k0_off782 v4447) a + S1x1x256.size a ≤ S4001x1x256.size a := fun v4447 k0_hw782 => k0_hw782

def k0_off783 (v4451 : BitVec 32) : Fin 3 → Nat :=
  let v4452 : Index := Scalar.indexCast v4451
  let c0_3289 : Index := 0#32
  let c0_3290 : Index := 0#32
  ![v4452.toNat, 0, 0]

def k0_chk783 (v4451 : BitVec 32) : Prop :=
  (∀ a, (k0_off783 v4451) a + S1x1x256.size a ≤ S4001x1x256.size a)
theorem k0_off783_inb : ∀ (v4451 : BitVec 32) (k0_hw783 : k0_chk783 v4451), ∀ a, (k0_off783 v4451) a + S1x1x256.size a ≤ S4001x1x256.size a := fun v4451 k0_hw783 => k0_hw783

def k0_off784 (v4455 : BitVec 32) : Fin 3 → Nat :=
  let v4456 : Index := Scalar.indexCast v4455
  let c0_3293 : Index := 0#32
  let c0_3294 : Index := 0#32
  ![v4456.toNat, 0, 0]

def k0_chk784 (v4455 : BitVec 32) : Prop :=
  (∀ a, (k0_off784 v4455) a + S1x1x256.size a ≤ S4001x1x256.size a)
theorem k0_off784_inb : ∀ (v4455 : BitVec 32) (k0_hw784 : k0_chk784 v4455), ∀ a, (k0_off784 v4455) a + S1x1x256.size a ≤ S4001x1x256.size a := fun v4455 k0_hw784 => k0_hw784

def k0_off785 (v4459 : BitVec 32) : Fin 3 → Nat :=
  let v4460 : Index := Scalar.indexCast v4459
  let c0_3297 : Index := 0#32
  let c0_3298 : Index := 0#32
  ![v4460.toNat, 0, 0]

def k0_chk785 (v4459 : BitVec 32) : Prop :=
  (∀ a, (k0_off785 v4459) a + S1x1x256.size a ≤ S4001x1x256.size a)
theorem k0_off785_inb : ∀ (v4459 : BitVec 32) (k0_hw785 : k0_chk785 v4459), ∀ a, (k0_off785 v4459) a + S1x1x256.size a ≤ S4001x1x256.size a := fun v4459 k0_hw785 => k0_hw785

def k0_off786 (v4463 : BitVec 32) : Fin 3 → Nat :=
  let v4464 : Index := Scalar.indexCast v4463
  let c0_3301 : Index := 0#32
  let c0_3302 : Index := 0#32
  ![v4464.toNat, 0, 0]

def k0_chk786 (v4463 : BitVec 32) : Prop :=
  (∀ a, (k0_off786 v4463) a + S1x1x256.size a ≤ S4001x1x256.size a)
theorem k0_off786_inb : ∀ (v4463 : BitVec 32) (k0_hw786 : k0_chk786 v4463), ∀ a, (k0_off786 v4463) a + S1x1x256.size a ≤ S4001x1x256.size a := fun v4463 k0_hw786 => k0_hw786

def k0_off787 (v4467 : BitVec 32) : Fin 3 → Nat :=
  let v4468 : Index := Scalar.indexCast v4467
  let c0_3305 : Index := 0#32
  let c0_3306 : Index := 0#32
  ![v4468.toNat, 0, 0]

def k0_chk787 (v4467 : BitVec 32) : Prop :=
  (∀ a, (k0_off787 v4467) a + S1x1x256.size a ≤ S4001x1x256.size a)
theorem k0_off787_inb : ∀ (v4467 : BitVec 32) (k0_hw787 : k0_chk787 v4467), ∀ a, (k0_off787 v4467) a + S1x1x256.size a ≤ S4001x1x256.size a := fun v4467 k0_hw787 => k0_hw787

def k0_off788 (v4471 : BitVec 32) : Fin 3 → Nat :=
  let v4472 : Index := Scalar.indexCast v4471
  let c0_3309 : Index := 0#32
  let c0_3310 : Index := 0#32
  ![v4472.toNat, 0, 0]

def k0_chk788 (v4471 : BitVec 32) : Prop :=
  (∀ a, (k0_off788 v4471) a + S1x1x256.size a ≤ S4001x1x256.size a)
theorem k0_off788_inb : ∀ (v4471 : BitVec 32) (k0_hw788 : k0_chk788 v4471), ∀ a, (k0_off788 v4471) a + S1x1x256.size a ≤ S4001x1x256.size a := fun v4471 k0_hw788 => k0_hw788

def k0_off789 (v4475 : BitVec 32) : Fin 3 → Nat :=
  let v4476 : Index := Scalar.indexCast v4475
  let c0_3313 : Index := 0#32
  let c0_3314 : Index := 0#32
  ![v4476.toNat, 0, 0]

def k0_chk789 (v4475 : BitVec 32) : Prop :=
  (∀ a, (k0_off789 v4475) a + S1x1x256.size a ≤ S4001x1x256.size a)
theorem k0_off789_inb : ∀ (v4475 : BitVec 32) (k0_hw789 : k0_chk789 v4475), ∀ a, (k0_off789 v4475) a + S1x1x256.size a ≤ S4001x1x256.size a := fun v4475 k0_hw789 => k0_hw789

def k0_off790 (v4479 : BitVec 32) : Fin 3 → Nat :=
  let v4480 : Index := Scalar.indexCast v4479
  let c0_3317 : Index := 0#32
  let c0_3318 : Index := 0#32
  ![v4480.toNat, 0, 0]

def k0_chk790 (v4479 : BitVec 32) : Prop :=
  (∀ a, (k0_off790 v4479) a + S1x1x256.size a ≤ S4001x1x256.size a)
theorem k0_off790_inb : ∀ (v4479 : BitVec 32) (k0_hw790 : k0_chk790 v4479), ∀ a, (k0_off790 v4479) a + S1x1x256.size a ≤ S4001x1x256.size a := fun v4479 k0_hw790 => k0_hw790

def k0_off791 (v4483 : BitVec 32) : Fin 3 → Nat :=
  let v4484 : Index := Scalar.indexCast v4483
  let c0_3321 : Index := 0#32
  let c0_3322 : Index := 0#32
  ![v4484.toNat, 0, 0]

def k0_chk791 (v4483 : BitVec 32) : Prop :=
  (∀ a, (k0_off791 v4483) a + S1x1x256.size a ≤ S4001x1x256.size a)
theorem k0_off791_inb : ∀ (v4483 : BitVec 32) (k0_hw791 : k0_chk791 v4483), ∀ a, (k0_off791 v4483) a + S1x1x256.size a ≤ S4001x1x256.size a := fun v4483 k0_hw791 => k0_hw791

def k0_off792 (v4487 : BitVec 32) : Fin 3 → Nat :=
  let v4488 : Index := Scalar.indexCast v4487
  let c0_3325 : Index := 0#32
  let c0_3326 : Index := 0#32
  ![v4488.toNat, 0, 0]

def k0_chk792 (v4487 : BitVec 32) : Prop :=
  (∀ a, (k0_off792 v4487) a + S1x1x256.size a ≤ S4001x1x256.size a)
theorem k0_off792_inb : ∀ (v4487 : BitVec 32) (k0_hw792 : k0_chk792 v4487), ∀ a, (k0_off792 v4487) a + S1x1x256.size a ≤ S4001x1x256.size a := fun v4487 k0_hw792 => k0_hw792

def k0_off793 (v4491 : BitVec 32) : Fin 3 → Nat :=
  let v4492 : Index := Scalar.indexCast v4491
  let c0_3329 : Index := 0#32
  let c0_3330 : Index := 0#32
  ![v4492.toNat, 0, 0]

def k0_chk793 (v4491 : BitVec 32) : Prop :=
  (∀ a, (k0_off793 v4491) a + S1x1x256.size a ≤ S4001x1x256.size a)
theorem k0_off793_inb : ∀ (v4491 : BitVec 32) (k0_hw793 : k0_chk793 v4491), ∀ a, (k0_off793 v4491) a + S1x1x256.size a ≤ S4001x1x256.size a := fun v4491 k0_hw793 => k0_hw793

def k0_off794 (v4495 : BitVec 32) : Fin 3 → Nat :=
  let v4496 : Index := Scalar.indexCast v4495
  let c0_3333 : Index := 0#32
  let c0_3334 : Index := 0#32
  ![v4496.toNat, 0, 0]

def k0_chk794 (v4495 : BitVec 32) : Prop :=
  (∀ a, (k0_off794 v4495) a + S1x1x256.size a ≤ S4001x1x256.size a)
theorem k0_off794_inb : ∀ (v4495 : BitVec 32) (k0_hw794 : k0_chk794 v4495), ∀ a, (k0_off794 v4495) a + S1x1x256.size a ≤ S4001x1x256.size a := fun v4495 k0_hw794 => k0_hw794

def k0_off795 (v4499 : BitVec 32) : Fin 3 → Nat :=
  let v4500 : Index := Scalar.indexCast v4499
  let c0_3337 : Index := 0#32
  let c0_3338 : Index := 0#32
  ![v4500.toNat, 0, 0]

def k0_chk795 (v4499 : BitVec 32) : Prop :=
  (∀ a, (k0_off795 v4499) a + S1x1x256.size a ≤ S4001x1x256.size a)
theorem k0_off795_inb : ∀ (v4499 : BitVec 32) (k0_hw795 : k0_chk795 v4499), ∀ a, (k0_off795 v4499) a + S1x1x256.size a ≤ S4001x1x256.size a := fun v4499 k0_hw795 => k0_hw795

def k0_off796 (v4503 : BitVec 32) : Fin 3 → Nat :=
  let v4504 : Index := Scalar.indexCast v4503
  let c0_3341 : Index := 0#32
  let c0_3342 : Index := 0#32
  ![v4504.toNat, 0, 0]

def k0_chk796 (v4503 : BitVec 32) : Prop :=
  (∀ a, (k0_off796 v4503) a + S1x1x256.size a ≤ S4001x1x256.size a)
theorem k0_off796_inb : ∀ (v4503 : BitVec 32) (k0_hw796 : k0_chk796 v4503), ∀ a, (k0_off796 v4503) a + S1x1x256.size a ≤ S4001x1x256.size a := fun v4503 k0_hw796 => k0_hw796

def k0_off797 (v4507 : BitVec 32) : Fin 3 → Nat :=
  let v4508 : Index := Scalar.indexCast v4507
  let c0_3345 : Index := 0#32
  let c0_3346 : Index := 0#32
  ![v4508.toNat, 0, 0]

def k0_chk797 (v4507 : BitVec 32) : Prop :=
  (∀ a, (k0_off797 v4507) a + S1x1x256.size a ≤ S4001x1x256.size a)
theorem k0_off797_inb : ∀ (v4507 : BitVec 32) (k0_hw797 : k0_chk797 v4507), ∀ a, (k0_off797 v4507) a + S1x1x256.size a ≤ S4001x1x256.size a := fun v4507 k0_hw797 => k0_hw797

def k0_off798 (v4511 : BitVec 32) : Fin 3 → Nat :=
  let v4512 : Index := Scalar.indexCast v4511
  let c0_3349 : Index := 0#32
  let c0_3350 : Index := 0#32
  ![v4512.toNat, 0, 0]

def k0_chk798 (v4511 : BitVec 32) : Prop :=
  (∀ a, (k0_off798 v4511) a + S1x1x256.size a ≤ S4001x1x256.size a)
theorem k0_off798_inb : ∀ (v4511 : BitVec 32) (k0_hw798 : k0_chk798 v4511), ∀ a, (k0_off798 v4511) a + S1x1x256.size a ≤ S4001x1x256.size a := fun v4511 k0_hw798 => k0_hw798

def k0_off799 (v4515 : BitVec 32) : Fin 3 → Nat :=
  let v4516 : Index := Scalar.indexCast v4515
  let c0_3353 : Index := 0#32
  let c0_3354 : Index := 0#32
  ![v4516.toNat, 0, 0]

def k0_chk799 (v4515 : BitVec 32) : Prop :=
  (∀ a, (k0_off799 v4515) a + S1x1x256.size a ≤ S4001x1x256.size a)
theorem k0_off799_inb : ∀ (v4515 : BitVec 32) (k0_hw799 : k0_chk799 v4515), ∀ a, (k0_off799 v4515) a + S1x1x256.size a ≤ S4001x1x256.size a := fun v4515 k0_hw799 => k0_hw799

def k0_off800 (v4519 : BitVec 32) : Fin 3 → Nat :=
  let v4520 : Index := Scalar.indexCast v4519
  let c0_3357 : Index := 0#32
  let c0_3358 : Index := 0#32
  ![v4520.toNat, 0, 0]

def k0_chk800 (v4519 : BitVec 32) : Prop :=
  (∀ a, (k0_off800 v4519) a + S1x1x256.size a ≤ S4001x1x256.size a)
theorem k0_off800_inb : ∀ (v4519 : BitVec 32) (k0_hw800 : k0_chk800 v4519), ∀ a, (k0_off800 v4519) a + S1x1x256.size a ≤ S4001x1x256.size a := fun v4519 k0_hw800 => k0_hw800

def k0_off801 (v4523 : BitVec 32) : Fin 3 → Nat :=
  let v4524 : Index := Scalar.indexCast v4523
  let c0_3361 : Index := 0#32
  let c0_3362 : Index := 0#32
  ![v4524.toNat, 0, 0]

def k0_chk801 (v4523 : BitVec 32) : Prop :=
  (∀ a, (k0_off801 v4523) a + S1x1x256.size a ≤ S4001x1x256.size a)
theorem k0_off801_inb : ∀ (v4523 : BitVec 32) (k0_hw801 : k0_chk801 v4523), ∀ a, (k0_off801 v4523) a + S1x1x256.size a ≤ S4001x1x256.size a := fun v4523 k0_hw801 => k0_hw801

def k0_off802 (v4527 : BitVec 32) : Fin 3 → Nat :=
  let v4528 : Index := Scalar.indexCast v4527
  let c0_3365 : Index := 0#32
  let c0_3366 : Index := 0#32
  ![v4528.toNat, 0, 0]

def k0_chk802 (v4527 : BitVec 32) : Prop :=
  (∀ a, (k0_off802 v4527) a + S1x1x256.size a ≤ S4001x1x256.size a)
theorem k0_off802_inb : ∀ (v4527 : BitVec 32) (k0_hw802 : k0_chk802 v4527), ∀ a, (k0_off802 v4527) a + S1x1x256.size a ≤ S4001x1x256.size a := fun v4527 k0_hw802 => k0_hw802

def k0_off803 (v4531 : BitVec 32) : Fin 3 → Nat :=
  let v4532 : Index := Scalar.indexCast v4531
  let c0_3369 : Index := 0#32
  let c0_3370 : Index := 0#32
  ![v4532.toNat, 0, 0]

def k0_chk803 (v4531 : BitVec 32) : Prop :=
  (∀ a, (k0_off803 v4531) a + S1x1x256.size a ≤ S4001x1x256.size a)
theorem k0_off803_inb : ∀ (v4531 : BitVec 32) (k0_hw803 : k0_chk803 v4531), ∀ a, (k0_off803 v4531) a + S1x1x256.size a ≤ S4001x1x256.size a := fun v4531 k0_hw803 => k0_hw803

def k0_off804 (v4535 : BitVec 32) : Fin 3 → Nat :=
  let v4536 : Index := Scalar.indexCast v4535
  let c0_3373 : Index := 0#32
  let c0_3374 : Index := 0#32
  ![v4536.toNat, 0, 0]

def k0_chk804 (v4535 : BitVec 32) : Prop :=
  (∀ a, (k0_off804 v4535) a + S1x1x256.size a ≤ S4001x1x256.size a)
theorem k0_off804_inb : ∀ (v4535 : BitVec 32) (k0_hw804 : k0_chk804 v4535), ∀ a, (k0_off804 v4535) a + S1x1x256.size a ≤ S4001x1x256.size a := fun v4535 k0_hw804 => k0_hw804

def k0_off805 (v4539 : BitVec 32) : Fin 3 → Nat :=
  let v4540 : Index := Scalar.indexCast v4539
  let c0_3377 : Index := 0#32
  let c0_3378 : Index := 0#32
  ![v4540.toNat, 0, 0]

def k0_chk805 (v4539 : BitVec 32) : Prop :=
  (∀ a, (k0_off805 v4539) a + S1x1x256.size a ≤ S4001x1x256.size a)
theorem k0_off805_inb : ∀ (v4539 : BitVec 32) (k0_hw805 : k0_chk805 v4539), ∀ a, (k0_off805 v4539) a + S1x1x256.size a ≤ S4001x1x256.size a := fun v4539 k0_hw805 => k0_hw805

def k0_off806 (v4543 : BitVec 32) : Fin 3 → Nat :=
  let v4544 : Index := Scalar.indexCast v4543
  let c0_3381 : Index := 0#32
  let c0_3382 : Index := 0#32
  ![v4544.toNat, 0, 0]

def k0_chk806 (v4543 : BitVec 32) : Prop :=
  (∀ a, (k0_off806 v4543) a + S1x1x256.size a ≤ S4001x1x256.size a)
theorem k0_off806_inb : ∀ (v4543 : BitVec 32) (k0_hw806 : k0_chk806 v4543), ∀ a, (k0_off806 v4543) a + S1x1x256.size a ≤ S4001x1x256.size a := fun v4543 k0_hw806 => k0_hw806

def k0_off807 (v4547 : BitVec 32) : Fin 3 → Nat :=
  let v4548 : Index := Scalar.indexCast v4547
  let c0_3385 : Index := 0#32
  let c0_3386 : Index := 0#32
  ![v4548.toNat, 0, 0]

def k0_chk807 (v4547 : BitVec 32) : Prop :=
  (∀ a, (k0_off807 v4547) a + S1x1x256.size a ≤ S4001x1x256.size a)
theorem k0_off807_inb : ∀ (v4547 : BitVec 32) (k0_hw807 : k0_chk807 v4547), ∀ a, (k0_off807 v4547) a + S1x1x256.size a ≤ S4001x1x256.size a := fun v4547 k0_hw807 => k0_hw807

def k0_off808 (v4551 : BitVec 32) : Fin 3 → Nat :=
  let v4552 : Index := Scalar.indexCast v4551
  let c0_3389 : Index := 0#32
  let c0_3390 : Index := 0#32
  ![v4552.toNat, 0, 0]

def k0_chk808 (v4551 : BitVec 32) : Prop :=
  (∀ a, (k0_off808 v4551) a + S1x1x256.size a ≤ S4001x1x256.size a)
theorem k0_off808_inb : ∀ (v4551 : BitVec 32) (k0_hw808 : k0_chk808 v4551), ∀ a, (k0_off808 v4551) a + S1x1x256.size a ≤ S4001x1x256.size a := fun v4551 k0_hw808 => k0_hw808

def k0_off809 (v4555 : BitVec 32) : Fin 3 → Nat :=
  let v4556 : Index := Scalar.indexCast v4555
  let c0_3393 : Index := 0#32
  let c0_3394 : Index := 0#32
  ![v4556.toNat, 0, 0]

def k0_chk809 (v4555 : BitVec 32) : Prop :=
  (∀ a, (k0_off809 v4555) a + S1x1x256.size a ≤ S4001x1x256.size a)
theorem k0_off809_inb : ∀ (v4555 : BitVec 32) (k0_hw809 : k0_chk809 v4555), ∀ a, (k0_off809 v4555) a + S1x1x256.size a ≤ S4001x1x256.size a := fun v4555 k0_hw809 => k0_hw809

def k0_off810 (v4559 : BitVec 32) : Fin 3 → Nat :=
  let v4560 : Index := Scalar.indexCast v4559
  let c0_3397 : Index := 0#32
  let c0_3398 : Index := 0#32
  ![v4560.toNat, 0, 0]

def k0_chk810 (v4559 : BitVec 32) : Prop :=
  (∀ a, (k0_off810 v4559) a + S1x1x256.size a ≤ S4001x1x256.size a)
theorem k0_off810_inb : ∀ (v4559 : BitVec 32) (k0_hw810 : k0_chk810 v4559), ∀ a, (k0_off810 v4559) a + S1x1x256.size a ≤ S4001x1x256.size a := fun v4559 k0_hw810 => k0_hw810

def k0_off811 (v4563 : BitVec 32) : Fin 3 → Nat :=
  let v4564 : Index := Scalar.indexCast v4563
  let c0_3401 : Index := 0#32
  let c0_3402 : Index := 0#32
  ![v4564.toNat, 0, 0]

def k0_chk811 (v4563 : BitVec 32) : Prop :=
  (∀ a, (k0_off811 v4563) a + S1x1x256.size a ≤ S4001x1x256.size a)
theorem k0_off811_inb : ∀ (v4563 : BitVec 32) (k0_hw811 : k0_chk811 v4563), ∀ a, (k0_off811 v4563) a + S1x1x256.size a ≤ S4001x1x256.size a := fun v4563 k0_hw811 => k0_hw811

def k0_off812 (v4567 : BitVec 32) : Fin 3 → Nat :=
  let v4568 : Index := Scalar.indexCast v4567
  let c0_3405 : Index := 0#32
  let c0_3406 : Index := 0#32
  ![v4568.toNat, 0, 0]

def k0_chk812 (v4567 : BitVec 32) : Prop :=
  (∀ a, (k0_off812 v4567) a + S1x1x256.size a ≤ S4001x1x256.size a)
theorem k0_off812_inb : ∀ (v4567 : BitVec 32) (k0_hw812 : k0_chk812 v4567), ∀ a, (k0_off812 v4567) a + S1x1x256.size a ≤ S4001x1x256.size a := fun v4567 k0_hw812 => k0_hw812

def k0_off813 (v4571 : BitVec 32) : Fin 3 → Nat :=
  let v4572 : Index := Scalar.indexCast v4571
  let c0_3409 : Index := 0#32
  let c0_3410 : Index := 0#32
  ![v4572.toNat, 0, 0]

def k0_chk813 (v4571 : BitVec 32) : Prop :=
  (∀ a, (k0_off813 v4571) a + S1x1x256.size a ≤ S4001x1x256.size a)
theorem k0_off813_inb : ∀ (v4571 : BitVec 32) (k0_hw813 : k0_chk813 v4571), ∀ a, (k0_off813 v4571) a + S1x1x256.size a ≤ S4001x1x256.size a := fun v4571 k0_hw813 => k0_hw813

def k0_off814 (v4575 : BitVec 32) : Fin 3 → Nat :=
  let v4576 : Index := Scalar.indexCast v4575
  let c0_3413 : Index := 0#32
  let c0_3414 : Index := 0#32
  ![v4576.toNat, 0, 0]

def k0_chk814 (v4575 : BitVec 32) : Prop :=
  (∀ a, (k0_off814 v4575) a + S1x1x256.size a ≤ S4001x1x256.size a)
theorem k0_off814_inb : ∀ (v4575 : BitVec 32) (k0_hw814 : k0_chk814 v4575), ∀ a, (k0_off814 v4575) a + S1x1x256.size a ≤ S4001x1x256.size a := fun v4575 k0_hw814 => k0_hw814

def k0_off815 (v4579 : BitVec 32) : Fin 3 → Nat :=
  let v4580 : Index := Scalar.indexCast v4579
  let c0_3417 : Index := 0#32
  let c0_3418 : Index := 0#32
  ![v4580.toNat, 0, 0]

def k0_chk815 (v4579 : BitVec 32) : Prop :=
  (∀ a, (k0_off815 v4579) a + S1x1x256.size a ≤ S4001x1x256.size a)
theorem k0_off815_inb : ∀ (v4579 : BitVec 32) (k0_hw815 : k0_chk815 v4579), ∀ a, (k0_off815 v4579) a + S1x1x256.size a ≤ S4001x1x256.size a := fun v4579 k0_hw815 => k0_hw815

def k0_off816 (v4583 : BitVec 32) : Fin 3 → Nat :=
  let v4584 : Index := Scalar.indexCast v4583
  let c0_3421 : Index := 0#32
  let c0_3422 : Index := 0#32
  ![v4584.toNat, 0, 0]

def k0_chk816 (v4583 : BitVec 32) : Prop :=
  (∀ a, (k0_off816 v4583) a + S1x1x256.size a ≤ S4001x1x256.size a)
theorem k0_off816_inb : ∀ (v4583 : BitVec 32) (k0_hw816 : k0_chk816 v4583), ∀ a, (k0_off816 v4583) a + S1x1x256.size a ≤ S4001x1x256.size a := fun v4583 k0_hw816 => k0_hw816

def k0_off817 (v4587 : BitVec 32) : Fin 3 → Nat :=
  let v4588 : Index := Scalar.indexCast v4587
  let c0_3425 : Index := 0#32
  let c0_3426 : Index := 0#32
  ![v4588.toNat, 0, 0]

def k0_chk817 (v4587 : BitVec 32) : Prop :=
  (∀ a, (k0_off817 v4587) a + S1x1x256.size a ≤ S4001x1x256.size a)
theorem k0_off817_inb : ∀ (v4587 : BitVec 32) (k0_hw817 : k0_chk817 v4587), ∀ a, (k0_off817 v4587) a + S1x1x256.size a ≤ S4001x1x256.size a := fun v4587 k0_hw817 => k0_hw817

def k0_off818 (v4591 : BitVec 32) : Fin 3 → Nat :=
  let v4592 : Index := Scalar.indexCast v4591
  let c0_3429 : Index := 0#32
  let c0_3430 : Index := 0#32
  ![v4592.toNat, 0, 0]

def k0_chk818 (v4591 : BitVec 32) : Prop :=
  (∀ a, (k0_off818 v4591) a + S1x1x256.size a ≤ S4001x1x256.size a)
theorem k0_off818_inb : ∀ (v4591 : BitVec 32) (k0_hw818 : k0_chk818 v4591), ∀ a, (k0_off818 v4591) a + S1x1x256.size a ≤ S4001x1x256.size a := fun v4591 k0_hw818 => k0_hw818

def k0_off819 (v4595 : BitVec 32) : Fin 3 → Nat :=
  let v4596 : Index := Scalar.indexCast v4595
  let c0_3433 : Index := 0#32
  let c0_3434 : Index := 0#32
  ![v4596.toNat, 0, 0]

def k0_chk819 (v4595 : BitVec 32) : Prop :=
  (∀ a, (k0_off819 v4595) a + S1x1x256.size a ≤ S4001x1x256.size a)
theorem k0_off819_inb : ∀ (v4595 : BitVec 32) (k0_hw819 : k0_chk819 v4595), ∀ a, (k0_off819 v4595) a + S1x1x256.size a ≤ S4001x1x256.size a := fun v4595 k0_hw819 => k0_hw819

def k0_off820 (v4599 : BitVec 32) : Fin 3 → Nat :=
  let v4600 : Index := Scalar.indexCast v4599
  let c0_3437 : Index := 0#32
  let c0_3438 : Index := 0#32
  ![v4600.toNat, 0, 0]

def k0_chk820 (v4599 : BitVec 32) : Prop :=
  (∀ a, (k0_off820 v4599) a + S1x1x256.size a ≤ S4001x1x256.size a)
theorem k0_off820_inb : ∀ (v4599 : BitVec 32) (k0_hw820 : k0_chk820 v4599), ∀ a, (k0_off820 v4599) a + S1x1x256.size a ≤ S4001x1x256.size a := fun v4599 k0_hw820 => k0_hw820

def k0_off821 (v4642 : BitVec 32) : Fin 3 → Nat :=
  let v4643 : Index := Scalar.indexCast v4642
  let c0_3441 : Index := 0#32
  let c0_3442 : Index := 0#32
  ![v4643.toNat, 0, 0]

def k0_chk821 (v4642 : BitVec 32) : Prop :=
  (∀ a, (k0_off821 v4642) a + S1x1x256.size a ≤ S4001x1x256.size a)
theorem k0_off821_inb : ∀ (v4642 : BitVec 32) (k0_hw821 : k0_chk821 v4642), ∀ a, (k0_off821 v4642) a + S1x1x256.size a ≤ S4001x1x256.size a := fun v4642 k0_hw821 => k0_hw821

def k0_off822 (v4646 : BitVec 32) : Fin 3 → Nat :=
  let v4647 : Index := Scalar.indexCast v4646
  let c0_3445 : Index := 0#32
  let c0_3446 : Index := 0#32
  ![v4647.toNat, 0, 0]

def k0_chk822 (v4646 : BitVec 32) : Prop :=
  (∀ a, (k0_off822 v4646) a + S1x1x256.size a ≤ S4001x1x256.size a)
theorem k0_off822_inb : ∀ (v4646 : BitVec 32) (k0_hw822 : k0_chk822 v4646), ∀ a, (k0_off822 v4646) a + S1x1x256.size a ≤ S4001x1x256.size a := fun v4646 k0_hw822 => k0_hw822

def k0_off823 (v4650 : BitVec 32) : Fin 3 → Nat :=
  let v4651 : Index := Scalar.indexCast v4650
  let c0_3449 : Index := 0#32
  let c0_3450 : Index := 0#32
  ![v4651.toNat, 0, 0]

def k0_chk823 (v4650 : BitVec 32) : Prop :=
  (∀ a, (k0_off823 v4650) a + S1x1x256.size a ≤ S4001x1x256.size a)
theorem k0_off823_inb : ∀ (v4650 : BitVec 32) (k0_hw823 : k0_chk823 v4650), ∀ a, (k0_off823 v4650) a + S1x1x256.size a ≤ S4001x1x256.size a := fun v4650 k0_hw823 => k0_hw823

def k0_off824 (v4654 : BitVec 32) : Fin 3 → Nat :=
  let v4655 : Index := Scalar.indexCast v4654
  let c0_3453 : Index := 0#32
  let c0_3454 : Index := 0#32
  ![v4655.toNat, 0, 0]

def k0_chk824 (v4654 : BitVec 32) : Prop :=
  (∀ a, (k0_off824 v4654) a + S1x1x256.size a ≤ S4001x1x256.size a)
theorem k0_off824_inb : ∀ (v4654 : BitVec 32) (k0_hw824 : k0_chk824 v4654), ∀ a, (k0_off824 v4654) a + S1x1x256.size a ≤ S4001x1x256.size a := fun v4654 k0_hw824 => k0_hw824

def k0_off825 (v4658 : BitVec 32) : Fin 3 → Nat :=
  let v4659 : Index := Scalar.indexCast v4658
  let c0_3457 : Index := 0#32
  let c0_3458 : Index := 0#32
  ![v4659.toNat, 0, 0]

def k0_chk825 (v4658 : BitVec 32) : Prop :=
  (∀ a, (k0_off825 v4658) a + S1x1x256.size a ≤ S4001x1x256.size a)
theorem k0_off825_inb : ∀ (v4658 : BitVec 32) (k0_hw825 : k0_chk825 v4658), ∀ a, (k0_off825 v4658) a + S1x1x256.size a ≤ S4001x1x256.size a := fun v4658 k0_hw825 => k0_hw825

def k0_off826 (v4662 : BitVec 32) : Fin 3 → Nat :=
  let v4663 : Index := Scalar.indexCast v4662
  let c0_3461 : Index := 0#32
  let c0_3462 : Index := 0#32
  ![v4663.toNat, 0, 0]

def k0_chk826 (v4662 : BitVec 32) : Prop :=
  (∀ a, (k0_off826 v4662) a + S1x1x256.size a ≤ S4001x1x256.size a)
theorem k0_off826_inb : ∀ (v4662 : BitVec 32) (k0_hw826 : k0_chk826 v4662), ∀ a, (k0_off826 v4662) a + S1x1x256.size a ≤ S4001x1x256.size a := fun v4662 k0_hw826 => k0_hw826

def k0_off827 (v4666 : BitVec 32) : Fin 3 → Nat :=
  let v4667 : Index := Scalar.indexCast v4666
  let c0_3465 : Index := 0#32
  let c0_3466 : Index := 0#32
  ![v4667.toNat, 0, 0]

def k0_chk827 (v4666 : BitVec 32) : Prop :=
  (∀ a, (k0_off827 v4666) a + S1x1x256.size a ≤ S4001x1x256.size a)
theorem k0_off827_inb : ∀ (v4666 : BitVec 32) (k0_hw827 : k0_chk827 v4666), ∀ a, (k0_off827 v4666) a + S1x1x256.size a ≤ S4001x1x256.size a := fun v4666 k0_hw827 => k0_hw827

def k0_off828 (v4670 : BitVec 32) : Fin 3 → Nat :=
  let v4671 : Index := Scalar.indexCast v4670
  let c0_3469 : Index := 0#32
  let c0_3470 : Index := 0#32
  ![v4671.toNat, 0, 0]

def k0_chk828 (v4670 : BitVec 32) : Prop :=
  (∀ a, (k0_off828 v4670) a + S1x1x256.size a ≤ S4001x1x256.size a)
theorem k0_off828_inb : ∀ (v4670 : BitVec 32) (k0_hw828 : k0_chk828 v4670), ∀ a, (k0_off828 v4670) a + S1x1x256.size a ≤ S4001x1x256.size a := fun v4670 k0_hw828 => k0_hw828

def k0_off829 (v4674 : BitVec 32) : Fin 3 → Nat :=
  let v4675 : Index := Scalar.indexCast v4674
  let c0_3473 : Index := 0#32
  let c0_3474 : Index := 0#32
  ![v4675.toNat, 0, 0]

def k0_chk829 (v4674 : BitVec 32) : Prop :=
  (∀ a, (k0_off829 v4674) a + S1x1x256.size a ≤ S4001x1x256.size a)
theorem k0_off829_inb : ∀ (v4674 : BitVec 32) (k0_hw829 : k0_chk829 v4674), ∀ a, (k0_off829 v4674) a + S1x1x256.size a ≤ S4001x1x256.size a := fun v4674 k0_hw829 => k0_hw829

def k0_off830 (v4678 : BitVec 32) : Fin 3 → Nat :=
  let v4679 : Index := Scalar.indexCast v4678
  let c0_3477 : Index := 0#32
  let c0_3478 : Index := 0#32
  ![v4679.toNat, 0, 0]

def k0_chk830 (v4678 : BitVec 32) : Prop :=
  (∀ a, (k0_off830 v4678) a + S1x1x256.size a ≤ S4001x1x256.size a)
theorem k0_off830_inb : ∀ (v4678 : BitVec 32) (k0_hw830 : k0_chk830 v4678), ∀ a, (k0_off830 v4678) a + S1x1x256.size a ≤ S4001x1x256.size a := fun v4678 k0_hw830 => k0_hw830

def k0_off831 (v4682 : BitVec 32) : Fin 3 → Nat :=
  let v4683 : Index := Scalar.indexCast v4682
  let c0_3481 : Index := 0#32
  let c0_3482 : Index := 0#32
  ![v4683.toNat, 0, 0]

def k0_chk831 (v4682 : BitVec 32) : Prop :=
  (∀ a, (k0_off831 v4682) a + S1x1x256.size a ≤ S4001x1x256.size a)
theorem k0_off831_inb : ∀ (v4682 : BitVec 32) (k0_hw831 : k0_chk831 v4682), ∀ a, (k0_off831 v4682) a + S1x1x256.size a ≤ S4001x1x256.size a := fun v4682 k0_hw831 => k0_hw831

def k0_off832 (v4686 : BitVec 32) : Fin 3 → Nat :=
  let v4687 : Index := Scalar.indexCast v4686
  let c0_3485 : Index := 0#32
  let c0_3486 : Index := 0#32
  ![v4687.toNat, 0, 0]

def k0_chk832 (v4686 : BitVec 32) : Prop :=
  (∀ a, (k0_off832 v4686) a + S1x1x256.size a ≤ S4001x1x256.size a)
theorem k0_off832_inb : ∀ (v4686 : BitVec 32) (k0_hw832 : k0_chk832 v4686), ∀ a, (k0_off832 v4686) a + S1x1x256.size a ≤ S4001x1x256.size a := fun v4686 k0_hw832 => k0_hw832

def k0_off833 (v4690 : BitVec 32) : Fin 3 → Nat :=
  let v4691 : Index := Scalar.indexCast v4690
  let c0_3489 : Index := 0#32
  let c0_3490 : Index := 0#32
  ![v4691.toNat, 0, 0]

def k0_chk833 (v4690 : BitVec 32) : Prop :=
  (∀ a, (k0_off833 v4690) a + S1x1x256.size a ≤ S4001x1x256.size a)
theorem k0_off833_inb : ∀ (v4690 : BitVec 32) (k0_hw833 : k0_chk833 v4690), ∀ a, (k0_off833 v4690) a + S1x1x256.size a ≤ S4001x1x256.size a := fun v4690 k0_hw833 => k0_hw833

def k0_off834 (v4694 : BitVec 32) : Fin 3 → Nat :=
  let v4695 : Index := Scalar.indexCast v4694
  let c0_3493 : Index := 0#32
  let c0_3494 : Index := 0#32
  ![v4695.toNat, 0, 0]

def k0_chk834 (v4694 : BitVec 32) : Prop :=
  (∀ a, (k0_off834 v4694) a + S1x1x256.size a ≤ S4001x1x256.size a)
theorem k0_off834_inb : ∀ (v4694 : BitVec 32) (k0_hw834 : k0_chk834 v4694), ∀ a, (k0_off834 v4694) a + S1x1x256.size a ≤ S4001x1x256.size a := fun v4694 k0_hw834 => k0_hw834

def k0_off835 (v4698 : BitVec 32) : Fin 3 → Nat :=
  let v4699 : Index := Scalar.indexCast v4698
  let c0_3497 : Index := 0#32
  let c0_3498 : Index := 0#32
  ![v4699.toNat, 0, 0]

def k0_chk835 (v4698 : BitVec 32) : Prop :=
  (∀ a, (k0_off835 v4698) a + S1x1x256.size a ≤ S4001x1x256.size a)
theorem k0_off835_inb : ∀ (v4698 : BitVec 32) (k0_hw835 : k0_chk835 v4698), ∀ a, (k0_off835 v4698) a + S1x1x256.size a ≤ S4001x1x256.size a := fun v4698 k0_hw835 => k0_hw835

def k0_off836 (v4702 : BitVec 32) : Fin 3 → Nat :=
  let v4703 : Index := Scalar.indexCast v4702
  let c0_3501 : Index := 0#32
  let c0_3502 : Index := 0#32
  ![v4703.toNat, 0, 0]

def k0_chk836 (v4702 : BitVec 32) : Prop :=
  (∀ a, (k0_off836 v4702) a + S1x1x256.size a ≤ S4001x1x256.size a)
theorem k0_off836_inb : ∀ (v4702 : BitVec 32) (k0_hw836 : k0_chk836 v4702), ∀ a, (k0_off836 v4702) a + S1x1x256.size a ≤ S4001x1x256.size a := fun v4702 k0_hw836 => k0_hw836

def k0_off837 (v4706 : BitVec 32) : Fin 3 → Nat :=
  let v4707 : Index := Scalar.indexCast v4706
  let c0_3505 : Index := 0#32
  let c0_3506 : Index := 0#32
  ![v4707.toNat, 0, 0]

def k0_chk837 (v4706 : BitVec 32) : Prop :=
  (∀ a, (k0_off837 v4706) a + S1x1x256.size a ≤ S4001x1x256.size a)
theorem k0_off837_inb : ∀ (v4706 : BitVec 32) (k0_hw837 : k0_chk837 v4706), ∀ a, (k0_off837 v4706) a + S1x1x256.size a ≤ S4001x1x256.size a := fun v4706 k0_hw837 => k0_hw837

def k0_off838 (v4710 : BitVec 32) : Fin 3 → Nat :=
  let v4711 : Index := Scalar.indexCast v4710
  let c0_3509 : Index := 0#32
  let c0_3510 : Index := 0#32
  ![v4711.toNat, 0, 0]

def k0_chk838 (v4710 : BitVec 32) : Prop :=
  (∀ a, (k0_off838 v4710) a + S1x1x256.size a ≤ S4001x1x256.size a)
theorem k0_off838_inb : ∀ (v4710 : BitVec 32) (k0_hw838 : k0_chk838 v4710), ∀ a, (k0_off838 v4710) a + S1x1x256.size a ≤ S4001x1x256.size a := fun v4710 k0_hw838 => k0_hw838

def k0_off839 (v4714 : BitVec 32) : Fin 3 → Nat :=
  let v4715 : Index := Scalar.indexCast v4714
  let c0_3513 : Index := 0#32
  let c0_3514 : Index := 0#32
  ![v4715.toNat, 0, 0]

def k0_chk839 (v4714 : BitVec 32) : Prop :=
  (∀ a, (k0_off839 v4714) a + S1x1x256.size a ≤ S4001x1x256.size a)
theorem k0_off839_inb : ∀ (v4714 : BitVec 32) (k0_hw839 : k0_chk839 v4714), ∀ a, (k0_off839 v4714) a + S1x1x256.size a ≤ S4001x1x256.size a := fun v4714 k0_hw839 => k0_hw839

def k0_off840 (v4718 : BitVec 32) : Fin 3 → Nat :=
  let v4719 : Index := Scalar.indexCast v4718
  let c0_3517 : Index := 0#32
  let c0_3518 : Index := 0#32
  ![v4719.toNat, 0, 0]

def k0_chk840 (v4718 : BitVec 32) : Prop :=
  (∀ a, (k0_off840 v4718) a + S1x1x256.size a ≤ S4001x1x256.size a)
theorem k0_off840_inb : ∀ (v4718 : BitVec 32) (k0_hw840 : k0_chk840 v4718), ∀ a, (k0_off840 v4718) a + S1x1x256.size a ≤ S4001x1x256.size a := fun v4718 k0_hw840 => k0_hw840

def k0_off841 (v4774 : BitVec 32) : Fin 3 → Nat :=
  let v4775 : Index := Scalar.indexCast v4774
  let c0_3531 : Index := 0#32
  let c0_3532 : Index := 0#32
  ![v4775.toNat, 0, 0]

def k0_chk841 (v4774 : BitVec 32) : Prop :=
  (∀ a, (k0_off841 v4774) a + S1x1x256.size a ≤ S4001x1x256.size a)
theorem k0_off841_inb : ∀ (v4774 : BitVec 32) (k0_hw841 : k0_chk841 v4774), ∀ a, (k0_off841 v4774) a + S1x1x256.size a ≤ S4001x1x256.size a := fun v4774 k0_hw841 => k0_hw841

def k0_off842 (v4778 : BitVec 32) : Fin 3 → Nat :=
  let v4779 : Index := Scalar.indexCast v4778
  let c0_3535 : Index := 0#32
  let c0_3536 : Index := 0#32
  ![v4779.toNat, 0, 0]

def k0_chk842 (v4778 : BitVec 32) : Prop :=
  (∀ a, (k0_off842 v4778) a + S1x1x256.size a ≤ S4001x1x256.size a)
theorem k0_off842_inb : ∀ (v4778 : BitVec 32) (k0_hw842 : k0_chk842 v4778), ∀ a, (k0_off842 v4778) a + S1x1x256.size a ≤ S4001x1x256.size a := fun v4778 k0_hw842 => k0_hw842

def k0_off843 (v4782 : BitVec 32) : Fin 3 → Nat :=
  let v4783 : Index := Scalar.indexCast v4782
  let c0_3539 : Index := 0#32
  let c0_3540 : Index := 0#32
  ![v4783.toNat, 0, 0]

def k0_chk843 (v4782 : BitVec 32) : Prop :=
  (∀ a, (k0_off843 v4782) a + S1x1x256.size a ≤ S4001x1x256.size a)
theorem k0_off843_inb : ∀ (v4782 : BitVec 32) (k0_hw843 : k0_chk843 v4782), ∀ a, (k0_off843 v4782) a + S1x1x256.size a ≤ S4001x1x256.size a := fun v4782 k0_hw843 => k0_hw843

def k0_off844 (v4786 : BitVec 32) : Fin 3 → Nat :=
  let v4787 : Index := Scalar.indexCast v4786
  let c0_3543 : Index := 0#32
  let c0_3544 : Index := 0#32
  ![v4787.toNat, 0, 0]

def k0_chk844 (v4786 : BitVec 32) : Prop :=
  (∀ a, (k0_off844 v4786) a + S1x1x256.size a ≤ S4001x1x256.size a)
theorem k0_off844_inb : ∀ (v4786 : BitVec 32) (k0_hw844 : k0_chk844 v4786), ∀ a, (k0_off844 v4786) a + S1x1x256.size a ≤ S4001x1x256.size a := fun v4786 k0_hw844 => k0_hw844

def k0_off845 (v4790 : BitVec 32) : Fin 3 → Nat :=
  let v4791 : Index := Scalar.indexCast v4790
  let c0_3547 : Index := 0#32
  let c0_3548 : Index := 0#32
  ![v4791.toNat, 0, 0]

def k0_chk845 (v4790 : BitVec 32) : Prop :=
  (∀ a, (k0_off845 v4790) a + S1x1x256.size a ≤ S4001x1x256.size a)
theorem k0_off845_inb : ∀ (v4790 : BitVec 32) (k0_hw845 : k0_chk845 v4790), ∀ a, (k0_off845 v4790) a + S1x1x256.size a ≤ S4001x1x256.size a := fun v4790 k0_hw845 => k0_hw845

def k0_off846 (v4794 : BitVec 32) : Fin 3 → Nat :=
  let v4795 : Index := Scalar.indexCast v4794
  let c0_3551 : Index := 0#32
  let c0_3552 : Index := 0#32
  ![v4795.toNat, 0, 0]

def k0_chk846 (v4794 : BitVec 32) : Prop :=
  (∀ a, (k0_off846 v4794) a + S1x1x256.size a ≤ S4001x1x256.size a)
theorem k0_off846_inb : ∀ (v4794 : BitVec 32) (k0_hw846 : k0_chk846 v4794), ∀ a, (k0_off846 v4794) a + S1x1x256.size a ≤ S4001x1x256.size a := fun v4794 k0_hw846 => k0_hw846

def k0_off847 (v4798 : BitVec 32) : Fin 3 → Nat :=
  let v4799 : Index := Scalar.indexCast v4798
  let c0_3555 : Index := 0#32
  let c0_3556 : Index := 0#32
  ![v4799.toNat, 0, 0]

def k0_chk847 (v4798 : BitVec 32) : Prop :=
  (∀ a, (k0_off847 v4798) a + S1x1x256.size a ≤ S4001x1x256.size a)
theorem k0_off847_inb : ∀ (v4798 : BitVec 32) (k0_hw847 : k0_chk847 v4798), ∀ a, (k0_off847 v4798) a + S1x1x256.size a ≤ S4001x1x256.size a := fun v4798 k0_hw847 => k0_hw847

def k0_off848 (v4802 : BitVec 32) : Fin 3 → Nat :=
  let v4803 : Index := Scalar.indexCast v4802
  let c0_3559 : Index := 0#32
  let c0_3560 : Index := 0#32
  ![v4803.toNat, 0, 0]

def k0_chk848 (v4802 : BitVec 32) : Prop :=
  (∀ a, (k0_off848 v4802) a + S1x1x256.size a ≤ S4001x1x256.size a)
theorem k0_off848_inb : ∀ (v4802 : BitVec 32) (k0_hw848 : k0_chk848 v4802), ∀ a, (k0_off848 v4802) a + S1x1x256.size a ≤ S4001x1x256.size a := fun v4802 k0_hw848 => k0_hw848

def k0_off849 (v4806 : BitVec 32) : Fin 3 → Nat :=
  let v4807 : Index := Scalar.indexCast v4806
  let c0_3563 : Index := 0#32
  let c0_3564 : Index := 0#32
  ![v4807.toNat, 0, 0]

def k0_chk849 (v4806 : BitVec 32) : Prop :=
  (∀ a, (k0_off849 v4806) a + S1x1x256.size a ≤ S4001x1x256.size a)
theorem k0_off849_inb : ∀ (v4806 : BitVec 32) (k0_hw849 : k0_chk849 v4806), ∀ a, (k0_off849 v4806) a + S1x1x256.size a ≤ S4001x1x256.size a := fun v4806 k0_hw849 => k0_hw849

def k0_off850 (v4810 : BitVec 32) : Fin 3 → Nat :=
  let v4811 : Index := Scalar.indexCast v4810
  let c0_3567 : Index := 0#32
  let c0_3568 : Index := 0#32
  ![v4811.toNat, 0, 0]

def k0_chk850 (v4810 : BitVec 32) : Prop :=
  (∀ a, (k0_off850 v4810) a + S1x1x256.size a ≤ S4001x1x256.size a)
theorem k0_off850_inb : ∀ (v4810 : BitVec 32) (k0_hw850 : k0_chk850 v4810), ∀ a, (k0_off850 v4810) a + S1x1x256.size a ≤ S4001x1x256.size a := fun v4810 k0_hw850 => k0_hw850

def k0_off851 (v4814 : BitVec 32) : Fin 3 → Nat :=
  let v4815 : Index := Scalar.indexCast v4814
  let c0_3571 : Index := 0#32
  let c0_3572 : Index := 0#32
  ![v4815.toNat, 0, 0]

def k0_chk851 (v4814 : BitVec 32) : Prop :=
  (∀ a, (k0_off851 v4814) a + S1x1x256.size a ≤ S4001x1x256.size a)
theorem k0_off851_inb : ∀ (v4814 : BitVec 32) (k0_hw851 : k0_chk851 v4814), ∀ a, (k0_off851 v4814) a + S1x1x256.size a ≤ S4001x1x256.size a := fun v4814 k0_hw851 => k0_hw851

def k0_off852 (v4818 : BitVec 32) : Fin 3 → Nat :=
  let v4819 : Index := Scalar.indexCast v4818
  let c0_3575 : Index := 0#32
  let c0_3576 : Index := 0#32
  ![v4819.toNat, 0, 0]

def k0_chk852 (v4818 : BitVec 32) : Prop :=
  (∀ a, (k0_off852 v4818) a + S1x1x256.size a ≤ S4001x1x256.size a)
theorem k0_off852_inb : ∀ (v4818 : BitVec 32) (k0_hw852 : k0_chk852 v4818), ∀ a, (k0_off852 v4818) a + S1x1x256.size a ≤ S4001x1x256.size a := fun v4818 k0_hw852 => k0_hw852

def k0_off853 (v4822 : BitVec 32) : Fin 3 → Nat :=
  let v4823 : Index := Scalar.indexCast v4822
  let c0_3579 : Index := 0#32
  let c0_3580 : Index := 0#32
  ![v4823.toNat, 0, 0]

def k0_chk853 (v4822 : BitVec 32) : Prop :=
  (∀ a, (k0_off853 v4822) a + S1x1x256.size a ≤ S4001x1x256.size a)
theorem k0_off853_inb : ∀ (v4822 : BitVec 32) (k0_hw853 : k0_chk853 v4822), ∀ a, (k0_off853 v4822) a + S1x1x256.size a ≤ S4001x1x256.size a := fun v4822 k0_hw853 => k0_hw853

def k0_off854 (v4826 : BitVec 32) : Fin 3 → Nat :=
  let v4827 : Index := Scalar.indexCast v4826
  let c0_3583 : Index := 0#32
  let c0_3584 : Index := 0#32
  ![v4827.toNat, 0, 0]

def k0_chk854 (v4826 : BitVec 32) : Prop :=
  (∀ a, (k0_off854 v4826) a + S1x1x256.size a ≤ S4001x1x256.size a)
theorem k0_off854_inb : ∀ (v4826 : BitVec 32) (k0_hw854 : k0_chk854 v4826), ∀ a, (k0_off854 v4826) a + S1x1x256.size a ≤ S4001x1x256.size a := fun v4826 k0_hw854 => k0_hw854

def k0_off855 (v4830 : BitVec 32) : Fin 3 → Nat :=
  let v4831 : Index := Scalar.indexCast v4830
  let c0_3587 : Index := 0#32
  let c0_3588 : Index := 0#32
  ![v4831.toNat, 0, 0]

def k0_chk855 (v4830 : BitVec 32) : Prop :=
  (∀ a, (k0_off855 v4830) a + S1x1x256.size a ≤ S4001x1x256.size a)
theorem k0_off855_inb : ∀ (v4830 : BitVec 32) (k0_hw855 : k0_chk855 v4830), ∀ a, (k0_off855 v4830) a + S1x1x256.size a ≤ S4001x1x256.size a := fun v4830 k0_hw855 => k0_hw855

def k0_off856 (v4834 : BitVec 32) : Fin 3 → Nat :=
  let v4835 : Index := Scalar.indexCast v4834
  let c0_3591 : Index := 0#32
  let c0_3592 : Index := 0#32
  ![v4835.toNat, 0, 0]

def k0_chk856 (v4834 : BitVec 32) : Prop :=
  (∀ a, (k0_off856 v4834) a + S1x1x256.size a ≤ S4001x1x256.size a)
theorem k0_off856_inb : ∀ (v4834 : BitVec 32) (k0_hw856 : k0_chk856 v4834), ∀ a, (k0_off856 v4834) a + S1x1x256.size a ≤ S4001x1x256.size a := fun v4834 k0_hw856 => k0_hw856

def k0_off857 (v4838 : BitVec 32) : Fin 3 → Nat :=
  let v4839 : Index := Scalar.indexCast v4838
  let c0_3595 : Index := 0#32
  let c0_3596 : Index := 0#32
  ![v4839.toNat, 0, 0]

def k0_chk857 (v4838 : BitVec 32) : Prop :=
  (∀ a, (k0_off857 v4838) a + S1x1x256.size a ≤ S4001x1x256.size a)
theorem k0_off857_inb : ∀ (v4838 : BitVec 32) (k0_hw857 : k0_chk857 v4838), ∀ a, (k0_off857 v4838) a + S1x1x256.size a ≤ S4001x1x256.size a := fun v4838 k0_hw857 => k0_hw857

def k0_off858 (v4842 : BitVec 32) : Fin 3 → Nat :=
  let v4843 : Index := Scalar.indexCast v4842
  let c0_3599 : Index := 0#32
  let c0_3600 : Index := 0#32
  ![v4843.toNat, 0, 0]

def k0_chk858 (v4842 : BitVec 32) : Prop :=
  (∀ a, (k0_off858 v4842) a + S1x1x256.size a ≤ S4001x1x256.size a)
theorem k0_off858_inb : ∀ (v4842 : BitVec 32) (k0_hw858 : k0_chk858 v4842), ∀ a, (k0_off858 v4842) a + S1x1x256.size a ≤ S4001x1x256.size a := fun v4842 k0_hw858 => k0_hw858

def k0_off859 (v4846 : BitVec 32) : Fin 3 → Nat :=
  let v4847 : Index := Scalar.indexCast v4846
  let c0_3603 : Index := 0#32
  let c0_3604 : Index := 0#32
  ![v4847.toNat, 0, 0]

def k0_chk859 (v4846 : BitVec 32) : Prop :=
  (∀ a, (k0_off859 v4846) a + S1x1x256.size a ≤ S4001x1x256.size a)
theorem k0_off859_inb : ∀ (v4846 : BitVec 32) (k0_hw859 : k0_chk859 v4846), ∀ a, (k0_off859 v4846) a + S1x1x256.size a ≤ S4001x1x256.size a := fun v4846 k0_hw859 => k0_hw859

def k0_off860 (v4850 : BitVec 32) : Fin 3 → Nat :=
  let v4851 : Index := Scalar.indexCast v4850
  let c0_3607 : Index := 0#32
  let c0_3608 : Index := 0#32
  ![v4851.toNat, 0, 0]

def k0_chk860 (v4850 : BitVec 32) : Prop :=
  (∀ a, (k0_off860 v4850) a + S1x1x256.size a ≤ S4001x1x256.size a)
theorem k0_off860_inb : ∀ (v4850 : BitVec 32) (k0_hw860 : k0_chk860 v4850), ∀ a, (k0_off860 v4850) a + S1x1x256.size a ≤ S4001x1x256.size a := fun v4850 k0_hw860 => k0_hw860

def k0_off861 (v4854 : BitVec 32) : Fin 3 → Nat :=
  let v4855 : Index := Scalar.indexCast v4854
  let c0_3611 : Index := 0#32
  let c0_3612 : Index := 0#32
  ![v4855.toNat, 0, 0]

def k0_chk861 (v4854 : BitVec 32) : Prop :=
  (∀ a, (k0_off861 v4854) a + S1x1x256.size a ≤ S4001x1x256.size a)
theorem k0_off861_inb : ∀ (v4854 : BitVec 32) (k0_hw861 : k0_chk861 v4854), ∀ a, (k0_off861 v4854) a + S1x1x256.size a ≤ S4001x1x256.size a := fun v4854 k0_hw861 => k0_hw861

def k0_off862 (v4858 : BitVec 32) : Fin 3 → Nat :=
  let v4859 : Index := Scalar.indexCast v4858
  let c0_3615 : Index := 0#32
  let c0_3616 : Index := 0#32
  ![v4859.toNat, 0, 0]

def k0_chk862 (v4858 : BitVec 32) : Prop :=
  (∀ a, (k0_off862 v4858) a + S1x1x256.size a ≤ S4001x1x256.size a)
theorem k0_off862_inb : ∀ (v4858 : BitVec 32) (k0_hw862 : k0_chk862 v4858), ∀ a, (k0_off862 v4858) a + S1x1x256.size a ≤ S4001x1x256.size a := fun v4858 k0_hw862 => k0_hw862

def k0_off863 (v4862 : BitVec 32) : Fin 3 → Nat :=
  let v4863 : Index := Scalar.indexCast v4862
  let c0_3619 : Index := 0#32
  let c0_3620 : Index := 0#32
  ![v4863.toNat, 0, 0]

def k0_chk863 (v4862 : BitVec 32) : Prop :=
  (∀ a, (k0_off863 v4862) a + S1x1x256.size a ≤ S4001x1x256.size a)
theorem k0_off863_inb : ∀ (v4862 : BitVec 32) (k0_hw863 : k0_chk863 v4862), ∀ a, (k0_off863 v4862) a + S1x1x256.size a ≤ S4001x1x256.size a := fun v4862 k0_hw863 => k0_hw863

def k0_off864 (v4866 : BitVec 32) : Fin 3 → Nat :=
  let v4867 : Index := Scalar.indexCast v4866
  let c0_3623 : Index := 0#32
  let c0_3624 : Index := 0#32
  ![v4867.toNat, 0, 0]

def k0_chk864 (v4866 : BitVec 32) : Prop :=
  (∀ a, (k0_off864 v4866) a + S1x1x256.size a ≤ S4001x1x256.size a)
theorem k0_off864_inb : ∀ (v4866 : BitVec 32) (k0_hw864 : k0_chk864 v4866), ∀ a, (k0_off864 v4866) a + S1x1x256.size a ≤ S4001x1x256.size a := fun v4866 k0_hw864 => k0_hw864

def k0_off865 (v4870 : BitVec 32) : Fin 3 → Nat :=
  let v4871 : Index := Scalar.indexCast v4870
  let c0_3627 : Index := 0#32
  let c0_3628 : Index := 0#32
  ![v4871.toNat, 0, 0]

def k0_chk865 (v4870 : BitVec 32) : Prop :=
  (∀ a, (k0_off865 v4870) a + S1x1x256.size a ≤ S4001x1x256.size a)
theorem k0_off865_inb : ∀ (v4870 : BitVec 32) (k0_hw865 : k0_chk865 v4870), ∀ a, (k0_off865 v4870) a + S1x1x256.size a ≤ S4001x1x256.size a := fun v4870 k0_hw865 => k0_hw865

def k0_off866 (v4874 : BitVec 32) : Fin 3 → Nat :=
  let v4875 : Index := Scalar.indexCast v4874
  let c0_3631 : Index := 0#32
  let c0_3632 : Index := 0#32
  ![v4875.toNat, 0, 0]

def k0_chk866 (v4874 : BitVec 32) : Prop :=
  (∀ a, (k0_off866 v4874) a + S1x1x256.size a ≤ S4001x1x256.size a)
theorem k0_off866_inb : ∀ (v4874 : BitVec 32) (k0_hw866 : k0_chk866 v4874), ∀ a, (k0_off866 v4874) a + S1x1x256.size a ≤ S4001x1x256.size a := fun v4874 k0_hw866 => k0_hw866

def k0_off867 (v4878 : BitVec 32) : Fin 3 → Nat :=
  let v4879 : Index := Scalar.indexCast v4878
  let c0_3635 : Index := 0#32
  let c0_3636 : Index := 0#32
  ![v4879.toNat, 0, 0]

def k0_chk867 (v4878 : BitVec 32) : Prop :=
  (∀ a, (k0_off867 v4878) a + S1x1x256.size a ≤ S4001x1x256.size a)
theorem k0_off867_inb : ∀ (v4878 : BitVec 32) (k0_hw867 : k0_chk867 v4878), ∀ a, (k0_off867 v4878) a + S1x1x256.size a ≤ S4001x1x256.size a := fun v4878 k0_hw867 => k0_hw867

def k0_off868 (v4882 : BitVec 32) : Fin 3 → Nat :=
  let v4883 : Index := Scalar.indexCast v4882
  let c0_3639 : Index := 0#32
  let c0_3640 : Index := 0#32
  ![v4883.toNat, 0, 0]

def k0_chk868 (v4882 : BitVec 32) : Prop :=
  (∀ a, (k0_off868 v4882) a + S1x1x256.size a ≤ S4001x1x256.size a)
theorem k0_off868_inb : ∀ (v4882 : BitVec 32) (k0_hw868 : k0_chk868 v4882), ∀ a, (k0_off868 v4882) a + S1x1x256.size a ≤ S4001x1x256.size a := fun v4882 k0_hw868 => k0_hw868

def k0_off869 (v4886 : BitVec 32) : Fin 3 → Nat :=
  let v4887 : Index := Scalar.indexCast v4886
  let c0_3643 : Index := 0#32
  let c0_3644 : Index := 0#32
  ![v4887.toNat, 0, 0]

def k0_chk869 (v4886 : BitVec 32) : Prop :=
  (∀ a, (k0_off869 v4886) a + S1x1x256.size a ≤ S4001x1x256.size a)
theorem k0_off869_inb : ∀ (v4886 : BitVec 32) (k0_hw869 : k0_chk869 v4886), ∀ a, (k0_off869 v4886) a + S1x1x256.size a ≤ S4001x1x256.size a := fun v4886 k0_hw869 => k0_hw869

def k0_off870 (v4890 : BitVec 32) : Fin 3 → Nat :=
  let v4891 : Index := Scalar.indexCast v4890
  let c0_3647 : Index := 0#32
  let c0_3648 : Index := 0#32
  ![v4891.toNat, 0, 0]

def k0_chk870 (v4890 : BitVec 32) : Prop :=
  (∀ a, (k0_off870 v4890) a + S1x1x256.size a ≤ S4001x1x256.size a)
theorem k0_off870_inb : ∀ (v4890 : BitVec 32) (k0_hw870 : k0_chk870 v4890), ∀ a, (k0_off870 v4890) a + S1x1x256.size a ≤ S4001x1x256.size a := fun v4890 k0_hw870 => k0_hw870

def k0_off871 (v4894 : BitVec 32) : Fin 3 → Nat :=
  let v4895 : Index := Scalar.indexCast v4894
  let c0_3651 : Index := 0#32
  let c0_3652 : Index := 0#32
  ![v4895.toNat, 0, 0]

def k0_chk871 (v4894 : BitVec 32) : Prop :=
  (∀ a, (k0_off871 v4894) a + S1x1x256.size a ≤ S4001x1x256.size a)
theorem k0_off871_inb : ∀ (v4894 : BitVec 32) (k0_hw871 : k0_chk871 v4894), ∀ a, (k0_off871 v4894) a + S1x1x256.size a ≤ S4001x1x256.size a := fun v4894 k0_hw871 => k0_hw871

def k0_off872 (v4898 : BitVec 32) : Fin 3 → Nat :=
  let v4899 : Index := Scalar.indexCast v4898
  let c0_3655 : Index := 0#32
  let c0_3656 : Index := 0#32
  ![v4899.toNat, 0, 0]

def k0_chk872 (v4898 : BitVec 32) : Prop :=
  (∀ a, (k0_off872 v4898) a + S1x1x256.size a ≤ S4001x1x256.size a)
theorem k0_off872_inb : ∀ (v4898 : BitVec 32) (k0_hw872 : k0_chk872 v4898), ∀ a, (k0_off872 v4898) a + S1x1x256.size a ≤ S4001x1x256.size a := fun v4898 k0_hw872 => k0_hw872

def k0_off873 (v4902 : BitVec 32) : Fin 3 → Nat :=
  let v4903 : Index := Scalar.indexCast v4902
  let c0_3659 : Index := 0#32
  let c0_3660 : Index := 0#32
  ![v4903.toNat, 0, 0]

def k0_chk873 (v4902 : BitVec 32) : Prop :=
  (∀ a, (k0_off873 v4902) a + S1x1x256.size a ≤ S4001x1x256.size a)
theorem k0_off873_inb : ∀ (v4902 : BitVec 32) (k0_hw873 : k0_chk873 v4902), ∀ a, (k0_off873 v4902) a + S1x1x256.size a ≤ S4001x1x256.size a := fun v4902 k0_hw873 => k0_hw873

def k0_off874 (v4906 : BitVec 32) : Fin 3 → Nat :=
  let v4907 : Index := Scalar.indexCast v4906
  let c0_3663 : Index := 0#32
  let c0_3664 : Index := 0#32
  ![v4907.toNat, 0, 0]

def k0_chk874 (v4906 : BitVec 32) : Prop :=
  (∀ a, (k0_off874 v4906) a + S1x1x256.size a ≤ S4001x1x256.size a)
theorem k0_off874_inb : ∀ (v4906 : BitVec 32) (k0_hw874 : k0_chk874 v4906), ∀ a, (k0_off874 v4906) a + S1x1x256.size a ≤ S4001x1x256.size a := fun v4906 k0_hw874 => k0_hw874

def k0_off875 (v4910 : BitVec 32) : Fin 3 → Nat :=
  let v4911 : Index := Scalar.indexCast v4910
  let c0_3667 : Index := 0#32
  let c0_3668 : Index := 0#32
  ![v4911.toNat, 0, 0]

def k0_chk875 (v4910 : BitVec 32) : Prop :=
  (∀ a, (k0_off875 v4910) a + S1x1x256.size a ≤ S4001x1x256.size a)
theorem k0_off875_inb : ∀ (v4910 : BitVec 32) (k0_hw875 : k0_chk875 v4910), ∀ a, (k0_off875 v4910) a + S1x1x256.size a ≤ S4001x1x256.size a := fun v4910 k0_hw875 => k0_hw875

def k0_off876 (v4914 : BitVec 32) : Fin 3 → Nat :=
  let v4915 : Index := Scalar.indexCast v4914
  let c0_3671 : Index := 0#32
  let c0_3672 : Index := 0#32
  ![v4915.toNat, 0, 0]

def k0_chk876 (v4914 : BitVec 32) : Prop :=
  (∀ a, (k0_off876 v4914) a + S1x1x256.size a ≤ S4001x1x256.size a)
theorem k0_off876_inb : ∀ (v4914 : BitVec 32) (k0_hw876 : k0_chk876 v4914), ∀ a, (k0_off876 v4914) a + S1x1x256.size a ≤ S4001x1x256.size a := fun v4914 k0_hw876 => k0_hw876

def k0_off877 (v4918 : BitVec 32) : Fin 3 → Nat :=
  let v4919 : Index := Scalar.indexCast v4918
  let c0_3675 : Index := 0#32
  let c0_3676 : Index := 0#32
  ![v4919.toNat, 0, 0]

def k0_chk877 (v4918 : BitVec 32) : Prop :=
  (∀ a, (k0_off877 v4918) a + S1x1x256.size a ≤ S4001x1x256.size a)
theorem k0_off877_inb : ∀ (v4918 : BitVec 32) (k0_hw877 : k0_chk877 v4918), ∀ a, (k0_off877 v4918) a + S1x1x256.size a ≤ S4001x1x256.size a := fun v4918 k0_hw877 => k0_hw877

def k0_off878 (v4922 : BitVec 32) : Fin 3 → Nat :=
  let v4923 : Index := Scalar.indexCast v4922
  let c0_3679 : Index := 0#32
  let c0_3680 : Index := 0#32
  ![v4923.toNat, 0, 0]

def k0_chk878 (v4922 : BitVec 32) : Prop :=
  (∀ a, (k0_off878 v4922) a + S1x1x256.size a ≤ S4001x1x256.size a)
theorem k0_off878_inb : ∀ (v4922 : BitVec 32) (k0_hw878 : k0_chk878 v4922), ∀ a, (k0_off878 v4922) a + S1x1x256.size a ≤ S4001x1x256.size a := fun v4922 k0_hw878 => k0_hw878

def k0_off879 (v4926 : BitVec 32) : Fin 3 → Nat :=
  let v4927 : Index := Scalar.indexCast v4926
  let c0_3683 : Index := 0#32
  let c0_3684 : Index := 0#32
  ![v4927.toNat, 0, 0]

def k0_chk879 (v4926 : BitVec 32) : Prop :=
  (∀ a, (k0_off879 v4926) a + S1x1x256.size a ≤ S4001x1x256.size a)
theorem k0_off879_inb : ∀ (v4926 : BitVec 32) (k0_hw879 : k0_chk879 v4926), ∀ a, (k0_off879 v4926) a + S1x1x256.size a ≤ S4001x1x256.size a := fun v4926 k0_hw879 => k0_hw879

def k0_off880 (v4930 : BitVec 32) : Fin 3 → Nat :=
  let v4931 : Index := Scalar.indexCast v4930
  let c0_3687 : Index := 0#32
  let c0_3688 : Index := 0#32
  ![v4931.toNat, 0, 0]

def k0_chk880 (v4930 : BitVec 32) : Prop :=
  (∀ a, (k0_off880 v4930) a + S1x1x256.size a ≤ S4001x1x256.size a)
theorem k0_off880_inb : ∀ (v4930 : BitVec 32) (k0_hw880 : k0_chk880 v4930), ∀ a, (k0_off880 v4930) a + S1x1x256.size a ≤ S4001x1x256.size a := fun v4930 k0_hw880 => k0_hw880

def k0_off881 (v4973 : BitVec 32) : Fin 3 → Nat :=
  let v4974 : Index := Scalar.indexCast v4973
  let c0_3691 : Index := 0#32
  let c0_3692 : Index := 0#32
  ![v4974.toNat, 0, 0]

def k0_chk881 (v4973 : BitVec 32) : Prop :=
  (∀ a, (k0_off881 v4973) a + S1x1x256.size a ≤ S4001x1x256.size a)
theorem k0_off881_inb : ∀ (v4973 : BitVec 32) (k0_hw881 : k0_chk881 v4973), ∀ a, (k0_off881 v4973) a + S1x1x256.size a ≤ S4001x1x256.size a := fun v4973 k0_hw881 => k0_hw881

def k0_off882 (v4977 : BitVec 32) : Fin 3 → Nat :=
  let v4978 : Index := Scalar.indexCast v4977
  let c0_3695 : Index := 0#32
  let c0_3696 : Index := 0#32
  ![v4978.toNat, 0, 0]

def k0_chk882 (v4977 : BitVec 32) : Prop :=
  (∀ a, (k0_off882 v4977) a + S1x1x256.size a ≤ S4001x1x256.size a)
theorem k0_off882_inb : ∀ (v4977 : BitVec 32) (k0_hw882 : k0_chk882 v4977), ∀ a, (k0_off882 v4977) a + S1x1x256.size a ≤ S4001x1x256.size a := fun v4977 k0_hw882 => k0_hw882

def k0_off883 (v4981 : BitVec 32) : Fin 3 → Nat :=
  let v4982 : Index := Scalar.indexCast v4981
  let c0_3699 : Index := 0#32
  let c0_3700 : Index := 0#32
  ![v4982.toNat, 0, 0]

def k0_chk883 (v4981 : BitVec 32) : Prop :=
  (∀ a, (k0_off883 v4981) a + S1x1x256.size a ≤ S4001x1x256.size a)
theorem k0_off883_inb : ∀ (v4981 : BitVec 32) (k0_hw883 : k0_chk883 v4981), ∀ a, (k0_off883 v4981) a + S1x1x256.size a ≤ S4001x1x256.size a := fun v4981 k0_hw883 => k0_hw883

def k0_off884 (v4985 : BitVec 32) : Fin 3 → Nat :=
  let v4986 : Index := Scalar.indexCast v4985
  let c0_3703 : Index := 0#32
  let c0_3704 : Index := 0#32
  ![v4986.toNat, 0, 0]

def k0_chk884 (v4985 : BitVec 32) : Prop :=
  (∀ a, (k0_off884 v4985) a + S1x1x256.size a ≤ S4001x1x256.size a)
theorem k0_off884_inb : ∀ (v4985 : BitVec 32) (k0_hw884 : k0_chk884 v4985), ∀ a, (k0_off884 v4985) a + S1x1x256.size a ≤ S4001x1x256.size a := fun v4985 k0_hw884 => k0_hw884

def k0_off885 (v4989 : BitVec 32) : Fin 3 → Nat :=
  let v4990 : Index := Scalar.indexCast v4989
  let c0_3707 : Index := 0#32
  let c0_3708 : Index := 0#32
  ![v4990.toNat, 0, 0]

def k0_chk885 (v4989 : BitVec 32) : Prop :=
  (∀ a, (k0_off885 v4989) a + S1x1x256.size a ≤ S4001x1x256.size a)
theorem k0_off885_inb : ∀ (v4989 : BitVec 32) (k0_hw885 : k0_chk885 v4989), ∀ a, (k0_off885 v4989) a + S1x1x256.size a ≤ S4001x1x256.size a := fun v4989 k0_hw885 => k0_hw885

def k0_off886 (v4993 : BitVec 32) : Fin 3 → Nat :=
  let v4994 : Index := Scalar.indexCast v4993
  let c0_3711 : Index := 0#32
  let c0_3712 : Index := 0#32
  ![v4994.toNat, 0, 0]

def k0_chk886 (v4993 : BitVec 32) : Prop :=
  (∀ a, (k0_off886 v4993) a + S1x1x256.size a ≤ S4001x1x256.size a)
theorem k0_off886_inb : ∀ (v4993 : BitVec 32) (k0_hw886 : k0_chk886 v4993), ∀ a, (k0_off886 v4993) a + S1x1x256.size a ≤ S4001x1x256.size a := fun v4993 k0_hw886 => k0_hw886

def k0_off887 (v4997 : BitVec 32) : Fin 3 → Nat :=
  let v4998 : Index := Scalar.indexCast v4997
  let c0_3715 : Index := 0#32
  let c0_3716 : Index := 0#32
  ![v4998.toNat, 0, 0]

def k0_chk887 (v4997 : BitVec 32) : Prop :=
  (∀ a, (k0_off887 v4997) a + S1x1x256.size a ≤ S4001x1x256.size a)
theorem k0_off887_inb : ∀ (v4997 : BitVec 32) (k0_hw887 : k0_chk887 v4997), ∀ a, (k0_off887 v4997) a + S1x1x256.size a ≤ S4001x1x256.size a := fun v4997 k0_hw887 => k0_hw887

def k0_off888 (v5001 : BitVec 32) : Fin 3 → Nat :=
  let v5002 : Index := Scalar.indexCast v5001
  let c0_3719 : Index := 0#32
  let c0_3720 : Index := 0#32
  ![v5002.toNat, 0, 0]

def k0_chk888 (v5001 : BitVec 32) : Prop :=
  (∀ a, (k0_off888 v5001) a + S1x1x256.size a ≤ S4001x1x256.size a)
theorem k0_off888_inb : ∀ (v5001 : BitVec 32) (k0_hw888 : k0_chk888 v5001), ∀ a, (k0_off888 v5001) a + S1x1x256.size a ≤ S4001x1x256.size a := fun v5001 k0_hw888 => k0_hw888

def k0_off889 (v5005 : BitVec 32) : Fin 3 → Nat :=
  let v5006 : Index := Scalar.indexCast v5005
  let c0_3723 : Index := 0#32
  let c0_3724 : Index := 0#32
  ![v5006.toNat, 0, 0]

def k0_chk889 (v5005 : BitVec 32) : Prop :=
  (∀ a, (k0_off889 v5005) a + S1x1x256.size a ≤ S4001x1x256.size a)
theorem k0_off889_inb : ∀ (v5005 : BitVec 32) (k0_hw889 : k0_chk889 v5005), ∀ a, (k0_off889 v5005) a + S1x1x256.size a ≤ S4001x1x256.size a := fun v5005 k0_hw889 => k0_hw889

def k0_off890 (v5009 : BitVec 32) : Fin 3 → Nat :=
  let v5010 : Index := Scalar.indexCast v5009
  let c0_3727 : Index := 0#32
  let c0_3728 : Index := 0#32
  ![v5010.toNat, 0, 0]

def k0_chk890 (v5009 : BitVec 32) : Prop :=
  (∀ a, (k0_off890 v5009) a + S1x1x256.size a ≤ S4001x1x256.size a)
theorem k0_off890_inb : ∀ (v5009 : BitVec 32) (k0_hw890 : k0_chk890 v5009), ∀ a, (k0_off890 v5009) a + S1x1x256.size a ≤ S4001x1x256.size a := fun v5009 k0_hw890 => k0_hw890

def k0_off891 (v5013 : BitVec 32) : Fin 3 → Nat :=
  let v5014 : Index := Scalar.indexCast v5013
  let c0_3731 : Index := 0#32
  let c0_3732 : Index := 0#32
  ![v5014.toNat, 0, 0]

def k0_chk891 (v5013 : BitVec 32) : Prop :=
  (∀ a, (k0_off891 v5013) a + S1x1x256.size a ≤ S4001x1x256.size a)
theorem k0_off891_inb : ∀ (v5013 : BitVec 32) (k0_hw891 : k0_chk891 v5013), ∀ a, (k0_off891 v5013) a + S1x1x256.size a ≤ S4001x1x256.size a := fun v5013 k0_hw891 => k0_hw891

def k0_off892 (v5017 : BitVec 32) : Fin 3 → Nat :=
  let v5018 : Index := Scalar.indexCast v5017
  let c0_3735 : Index := 0#32
  let c0_3736 : Index := 0#32
  ![v5018.toNat, 0, 0]

def k0_chk892 (v5017 : BitVec 32) : Prop :=
  (∀ a, (k0_off892 v5017) a + S1x1x256.size a ≤ S4001x1x256.size a)
theorem k0_off892_inb : ∀ (v5017 : BitVec 32) (k0_hw892 : k0_chk892 v5017), ∀ a, (k0_off892 v5017) a + S1x1x256.size a ≤ S4001x1x256.size a := fun v5017 k0_hw892 => k0_hw892

def k0_off893 (v5021 : BitVec 32) : Fin 3 → Nat :=
  let v5022 : Index := Scalar.indexCast v5021
  let c0_3739 : Index := 0#32
  let c0_3740 : Index := 0#32
  ![v5022.toNat, 0, 0]

def k0_chk893 (v5021 : BitVec 32) : Prop :=
  (∀ a, (k0_off893 v5021) a + S1x1x256.size a ≤ S4001x1x256.size a)
theorem k0_off893_inb : ∀ (v5021 : BitVec 32) (k0_hw893 : k0_chk893 v5021), ∀ a, (k0_off893 v5021) a + S1x1x256.size a ≤ S4001x1x256.size a := fun v5021 k0_hw893 => k0_hw893

def k0_off894 (v5025 : BitVec 32) : Fin 3 → Nat :=
  let v5026 : Index := Scalar.indexCast v5025
  let c0_3743 : Index := 0#32
  let c0_3744 : Index := 0#32
  ![v5026.toNat, 0, 0]

def k0_chk894 (v5025 : BitVec 32) : Prop :=
  (∀ a, (k0_off894 v5025) a + S1x1x256.size a ≤ S4001x1x256.size a)
theorem k0_off894_inb : ∀ (v5025 : BitVec 32) (k0_hw894 : k0_chk894 v5025), ∀ a, (k0_off894 v5025) a + S1x1x256.size a ≤ S4001x1x256.size a := fun v5025 k0_hw894 => k0_hw894

def k0_off895 (v5029 : BitVec 32) : Fin 3 → Nat :=
  let v5030 : Index := Scalar.indexCast v5029
  let c0_3747 : Index := 0#32
  let c0_3748 : Index := 0#32
  ![v5030.toNat, 0, 0]

def k0_chk895 (v5029 : BitVec 32) : Prop :=
  (∀ a, (k0_off895 v5029) a + S1x1x256.size a ≤ S4001x1x256.size a)
theorem k0_off895_inb : ∀ (v5029 : BitVec 32) (k0_hw895 : k0_chk895 v5029), ∀ a, (k0_off895 v5029) a + S1x1x256.size a ≤ S4001x1x256.size a := fun v5029 k0_hw895 => k0_hw895

def k0_off896 (v5033 : BitVec 32) : Fin 3 → Nat :=
  let v5034 : Index := Scalar.indexCast v5033
  let c0_3751 : Index := 0#32
  let c0_3752 : Index := 0#32
  ![v5034.toNat, 0, 0]

def k0_chk896 (v5033 : BitVec 32) : Prop :=
  (∀ a, (k0_off896 v5033) a + S1x1x256.size a ≤ S4001x1x256.size a)
theorem k0_off896_inb : ∀ (v5033 : BitVec 32) (k0_hw896 : k0_chk896 v5033), ∀ a, (k0_off896 v5033) a + S1x1x256.size a ≤ S4001x1x256.size a := fun v5033 k0_hw896 => k0_hw896

def k0_off897 (v5037 : BitVec 32) : Fin 3 → Nat :=
  let v5038 : Index := Scalar.indexCast v5037
  let c0_3755 : Index := 0#32
  let c0_3756 : Index := 0#32
  ![v5038.toNat, 0, 0]

def k0_chk897 (v5037 : BitVec 32) : Prop :=
  (∀ a, (k0_off897 v5037) a + S1x1x256.size a ≤ S4001x1x256.size a)
theorem k0_off897_inb : ∀ (v5037 : BitVec 32) (k0_hw897 : k0_chk897 v5037), ∀ a, (k0_off897 v5037) a + S1x1x256.size a ≤ S4001x1x256.size a := fun v5037 k0_hw897 => k0_hw897

def k0_off898 (v5041 : BitVec 32) : Fin 3 → Nat :=
  let v5042 : Index := Scalar.indexCast v5041
  let c0_3759 : Index := 0#32
  let c0_3760 : Index := 0#32
  ![v5042.toNat, 0, 0]

def k0_chk898 (v5041 : BitVec 32) : Prop :=
  (∀ a, (k0_off898 v5041) a + S1x1x256.size a ≤ S4001x1x256.size a)
theorem k0_off898_inb : ∀ (v5041 : BitVec 32) (k0_hw898 : k0_chk898 v5041), ∀ a, (k0_off898 v5041) a + S1x1x256.size a ≤ S4001x1x256.size a := fun v5041 k0_hw898 => k0_hw898

def k0_off899 (v5045 : BitVec 32) : Fin 3 → Nat :=
  let v5046 : Index := Scalar.indexCast v5045
  let c0_3763 : Index := 0#32
  let c0_3764 : Index := 0#32
  ![v5046.toNat, 0, 0]

def k0_chk899 (v5045 : BitVec 32) : Prop :=
  (∀ a, (k0_off899 v5045) a + S1x1x256.size a ≤ S4001x1x256.size a)
theorem k0_off899_inb : ∀ (v5045 : BitVec 32) (k0_hw899 : k0_chk899 v5045), ∀ a, (k0_off899 v5045) a + S1x1x256.size a ≤ S4001x1x256.size a := fun v5045 k0_hw899 => k0_hw899

def k0_off900 (v5049 : BitVec 32) : Fin 3 → Nat :=
  let v5050 : Index := Scalar.indexCast v5049
  let c0_3767 : Index := 0#32
  let c0_3768 : Index := 0#32
  ![v5050.toNat, 0, 0]

def k0_chk900 (v5049 : BitVec 32) : Prop :=
  (∀ a, (k0_off900 v5049) a + S1x1x256.size a ≤ S4001x1x256.size a)
theorem k0_off900_inb : ∀ (v5049 : BitVec 32) (k0_hw900 : k0_chk900 v5049), ∀ a, (k0_off900 v5049) a + S1x1x256.size a ≤ S4001x1x256.size a := fun v5049 k0_hw900 => k0_hw900

def k0_off901 (v5105 : BitVec 32) : Fin 3 → Nat :=
  let v5106 : Index := Scalar.indexCast v5105
  let c0_3781 : Index := 0#32
  let c0_3782 : Index := 0#32
  ![v5106.toNat, 0, 0]

def k0_chk901 (v5105 : BitVec 32) : Prop :=
  (∀ a, (k0_off901 v5105) a + S1x1x256.size a ≤ S4001x1x256.size a)
theorem k0_off901_inb : ∀ (v5105 : BitVec 32) (k0_hw901 : k0_chk901 v5105), ∀ a, (k0_off901 v5105) a + S1x1x256.size a ≤ S4001x1x256.size a := fun v5105 k0_hw901 => k0_hw901

def k0_off902 (v5109 : BitVec 32) : Fin 3 → Nat :=
  let v5110 : Index := Scalar.indexCast v5109
  let c0_3785 : Index := 0#32
  let c0_3786 : Index := 0#32
  ![v5110.toNat, 0, 0]

def k0_chk902 (v5109 : BitVec 32) : Prop :=
  (∀ a, (k0_off902 v5109) a + S1x1x256.size a ≤ S4001x1x256.size a)
theorem k0_off902_inb : ∀ (v5109 : BitVec 32) (k0_hw902 : k0_chk902 v5109), ∀ a, (k0_off902 v5109) a + S1x1x256.size a ≤ S4001x1x256.size a := fun v5109 k0_hw902 => k0_hw902

def k0_off903 (v5113 : BitVec 32) : Fin 3 → Nat :=
  let v5114 : Index := Scalar.indexCast v5113
  let c0_3789 : Index := 0#32
  let c0_3790 : Index := 0#32
  ![v5114.toNat, 0, 0]

def k0_chk903 (v5113 : BitVec 32) : Prop :=
  (∀ a, (k0_off903 v5113) a + S1x1x256.size a ≤ S4001x1x256.size a)
theorem k0_off903_inb : ∀ (v5113 : BitVec 32) (k0_hw903 : k0_chk903 v5113), ∀ a, (k0_off903 v5113) a + S1x1x256.size a ≤ S4001x1x256.size a := fun v5113 k0_hw903 => k0_hw903

def k0_off904 (v5117 : BitVec 32) : Fin 3 → Nat :=
  let v5118 : Index := Scalar.indexCast v5117
  let c0_3793 : Index := 0#32
  let c0_3794 : Index := 0#32
  ![v5118.toNat, 0, 0]

def k0_chk904 (v5117 : BitVec 32) : Prop :=
  (∀ a, (k0_off904 v5117) a + S1x1x256.size a ≤ S4001x1x256.size a)
theorem k0_off904_inb : ∀ (v5117 : BitVec 32) (k0_hw904 : k0_chk904 v5117), ∀ a, (k0_off904 v5117) a + S1x1x256.size a ≤ S4001x1x256.size a := fun v5117 k0_hw904 => k0_hw904

def k0_off905 (v5121 : BitVec 32) : Fin 3 → Nat :=
  let v5122 : Index := Scalar.indexCast v5121
  let c0_3797 : Index := 0#32
  let c0_3798 : Index := 0#32
  ![v5122.toNat, 0, 0]

def k0_chk905 (v5121 : BitVec 32) : Prop :=
  (∀ a, (k0_off905 v5121) a + S1x1x256.size a ≤ S4001x1x256.size a)
theorem k0_off905_inb : ∀ (v5121 : BitVec 32) (k0_hw905 : k0_chk905 v5121), ∀ a, (k0_off905 v5121) a + S1x1x256.size a ≤ S4001x1x256.size a := fun v5121 k0_hw905 => k0_hw905

def k0_off906 (v5125 : BitVec 32) : Fin 3 → Nat :=
  let v5126 : Index := Scalar.indexCast v5125
  let c0_3801 : Index := 0#32
  let c0_3802 : Index := 0#32
  ![v5126.toNat, 0, 0]

def k0_chk906 (v5125 : BitVec 32) : Prop :=
  (∀ a, (k0_off906 v5125) a + S1x1x256.size a ≤ S4001x1x256.size a)
theorem k0_off906_inb : ∀ (v5125 : BitVec 32) (k0_hw906 : k0_chk906 v5125), ∀ a, (k0_off906 v5125) a + S1x1x256.size a ≤ S4001x1x256.size a := fun v5125 k0_hw906 => k0_hw906

def k0_off907 (v5129 : BitVec 32) : Fin 3 → Nat :=
  let v5130 : Index := Scalar.indexCast v5129
  let c0_3805 : Index := 0#32
  let c0_3806 : Index := 0#32
  ![v5130.toNat, 0, 0]

def k0_chk907 (v5129 : BitVec 32) : Prop :=
  (∀ a, (k0_off907 v5129) a + S1x1x256.size a ≤ S4001x1x256.size a)
theorem k0_off907_inb : ∀ (v5129 : BitVec 32) (k0_hw907 : k0_chk907 v5129), ∀ a, (k0_off907 v5129) a + S1x1x256.size a ≤ S4001x1x256.size a := fun v5129 k0_hw907 => k0_hw907

def k0_off908 (v5133 : BitVec 32) : Fin 3 → Nat :=
  let v5134 : Index := Scalar.indexCast v5133
  let c0_3809 : Index := 0#32
  let c0_3810 : Index := 0#32
  ![v5134.toNat, 0, 0]

def k0_chk908 (v5133 : BitVec 32) : Prop :=
  (∀ a, (k0_off908 v5133) a + S1x1x256.size a ≤ S4001x1x256.size a)
theorem k0_off908_inb : ∀ (v5133 : BitVec 32) (k0_hw908 : k0_chk908 v5133), ∀ a, (k0_off908 v5133) a + S1x1x256.size a ≤ S4001x1x256.size a := fun v5133 k0_hw908 => k0_hw908

def k0_off909 (v5137 : BitVec 32) : Fin 3 → Nat :=
  let v5138 : Index := Scalar.indexCast v5137
  let c0_3813 : Index := 0#32
  let c0_3814 : Index := 0#32
  ![v5138.toNat, 0, 0]

def k0_chk909 (v5137 : BitVec 32) : Prop :=
  (∀ a, (k0_off909 v5137) a + S1x1x256.size a ≤ S4001x1x256.size a)
theorem k0_off909_inb : ∀ (v5137 : BitVec 32) (k0_hw909 : k0_chk909 v5137), ∀ a, (k0_off909 v5137) a + S1x1x256.size a ≤ S4001x1x256.size a := fun v5137 k0_hw909 => k0_hw909

def k0_off910 (v5141 : BitVec 32) : Fin 3 → Nat :=
  let v5142 : Index := Scalar.indexCast v5141
  let c0_3817 : Index := 0#32
  let c0_3818 : Index := 0#32
  ![v5142.toNat, 0, 0]

def k0_chk910 (v5141 : BitVec 32) : Prop :=
  (∀ a, (k0_off910 v5141) a + S1x1x256.size a ≤ S4001x1x256.size a)
theorem k0_off910_inb : ∀ (v5141 : BitVec 32) (k0_hw910 : k0_chk910 v5141), ∀ a, (k0_off910 v5141) a + S1x1x256.size a ≤ S4001x1x256.size a := fun v5141 k0_hw910 => k0_hw910

def k0_off911 (v5145 : BitVec 32) : Fin 3 → Nat :=
  let v5146 : Index := Scalar.indexCast v5145
  let c0_3821 : Index := 0#32
  let c0_3822 : Index := 0#32
  ![v5146.toNat, 0, 0]

def k0_chk911 (v5145 : BitVec 32) : Prop :=
  (∀ a, (k0_off911 v5145) a + S1x1x256.size a ≤ S4001x1x256.size a)
theorem k0_off911_inb : ∀ (v5145 : BitVec 32) (k0_hw911 : k0_chk911 v5145), ∀ a, (k0_off911 v5145) a + S1x1x256.size a ≤ S4001x1x256.size a := fun v5145 k0_hw911 => k0_hw911

def k0_off912 (v5149 : BitVec 32) : Fin 3 → Nat :=
  let v5150 : Index := Scalar.indexCast v5149
  let c0_3825 : Index := 0#32
  let c0_3826 : Index := 0#32
  ![v5150.toNat, 0, 0]

def k0_chk912 (v5149 : BitVec 32) : Prop :=
  (∀ a, (k0_off912 v5149) a + S1x1x256.size a ≤ S4001x1x256.size a)
theorem k0_off912_inb : ∀ (v5149 : BitVec 32) (k0_hw912 : k0_chk912 v5149), ∀ a, (k0_off912 v5149) a + S1x1x256.size a ≤ S4001x1x256.size a := fun v5149 k0_hw912 => k0_hw912

def k0_off913 (v5153 : BitVec 32) : Fin 3 → Nat :=
  let v5154 : Index := Scalar.indexCast v5153
  let c0_3829 : Index := 0#32
  let c0_3830 : Index := 0#32
  ![v5154.toNat, 0, 0]

def k0_chk913 (v5153 : BitVec 32) : Prop :=
  (∀ a, (k0_off913 v5153) a + S1x1x256.size a ≤ S4001x1x256.size a)
theorem k0_off913_inb : ∀ (v5153 : BitVec 32) (k0_hw913 : k0_chk913 v5153), ∀ a, (k0_off913 v5153) a + S1x1x256.size a ≤ S4001x1x256.size a := fun v5153 k0_hw913 => k0_hw913

def k0_off914 (v5157 : BitVec 32) : Fin 3 → Nat :=
  let v5158 : Index := Scalar.indexCast v5157
  let c0_3833 : Index := 0#32
  let c0_3834 : Index := 0#32
  ![v5158.toNat, 0, 0]

def k0_chk914 (v5157 : BitVec 32) : Prop :=
  (∀ a, (k0_off914 v5157) a + S1x1x256.size a ≤ S4001x1x256.size a)
theorem k0_off914_inb : ∀ (v5157 : BitVec 32) (k0_hw914 : k0_chk914 v5157), ∀ a, (k0_off914 v5157) a + S1x1x256.size a ≤ S4001x1x256.size a := fun v5157 k0_hw914 => k0_hw914

def k0_off915 (v5161 : BitVec 32) : Fin 3 → Nat :=
  let v5162 : Index := Scalar.indexCast v5161
  let c0_3837 : Index := 0#32
  let c0_3838 : Index := 0#32
  ![v5162.toNat, 0, 0]

def k0_chk915 (v5161 : BitVec 32) : Prop :=
  (∀ a, (k0_off915 v5161) a + S1x1x256.size a ≤ S4001x1x256.size a)
theorem k0_off915_inb : ∀ (v5161 : BitVec 32) (k0_hw915 : k0_chk915 v5161), ∀ a, (k0_off915 v5161) a + S1x1x256.size a ≤ S4001x1x256.size a := fun v5161 k0_hw915 => k0_hw915

def k0_off916 (v5165 : BitVec 32) : Fin 3 → Nat :=
  let v5166 : Index := Scalar.indexCast v5165
  let c0_3841 : Index := 0#32
  let c0_3842 : Index := 0#32
  ![v5166.toNat, 0, 0]

def k0_chk916 (v5165 : BitVec 32) : Prop :=
  (∀ a, (k0_off916 v5165) a + S1x1x256.size a ≤ S4001x1x256.size a)
theorem k0_off916_inb : ∀ (v5165 : BitVec 32) (k0_hw916 : k0_chk916 v5165), ∀ a, (k0_off916 v5165) a + S1x1x256.size a ≤ S4001x1x256.size a := fun v5165 k0_hw916 => k0_hw916

def k0_off917 (v5169 : BitVec 32) : Fin 3 → Nat :=
  let v5170 : Index := Scalar.indexCast v5169
  let c0_3845 : Index := 0#32
  let c0_3846 : Index := 0#32
  ![v5170.toNat, 0, 0]

def k0_chk917 (v5169 : BitVec 32) : Prop :=
  (∀ a, (k0_off917 v5169) a + S1x1x256.size a ≤ S4001x1x256.size a)
theorem k0_off917_inb : ∀ (v5169 : BitVec 32) (k0_hw917 : k0_chk917 v5169), ∀ a, (k0_off917 v5169) a + S1x1x256.size a ≤ S4001x1x256.size a := fun v5169 k0_hw917 => k0_hw917

def k0_off918 (v5173 : BitVec 32) : Fin 3 → Nat :=
  let v5174 : Index := Scalar.indexCast v5173
  let c0_3849 : Index := 0#32
  let c0_3850 : Index := 0#32
  ![v5174.toNat, 0, 0]

def k0_chk918 (v5173 : BitVec 32) : Prop :=
  (∀ a, (k0_off918 v5173) a + S1x1x256.size a ≤ S4001x1x256.size a)
theorem k0_off918_inb : ∀ (v5173 : BitVec 32) (k0_hw918 : k0_chk918 v5173), ∀ a, (k0_off918 v5173) a + S1x1x256.size a ≤ S4001x1x256.size a := fun v5173 k0_hw918 => k0_hw918

def k0_off919 (v5177 : BitVec 32) : Fin 3 → Nat :=
  let v5178 : Index := Scalar.indexCast v5177
  let c0_3853 : Index := 0#32
  let c0_3854 : Index := 0#32
  ![v5178.toNat, 0, 0]

def k0_chk919 (v5177 : BitVec 32) : Prop :=
  (∀ a, (k0_off919 v5177) a + S1x1x256.size a ≤ S4001x1x256.size a)
theorem k0_off919_inb : ∀ (v5177 : BitVec 32) (k0_hw919 : k0_chk919 v5177), ∀ a, (k0_off919 v5177) a + S1x1x256.size a ≤ S4001x1x256.size a := fun v5177 k0_hw919 => k0_hw919

def k0_off920 (v5181 : BitVec 32) : Fin 3 → Nat :=
  let v5182 : Index := Scalar.indexCast v5181
  let c0_3857 : Index := 0#32
  let c0_3858 : Index := 0#32
  ![v5182.toNat, 0, 0]

def k0_chk920 (v5181 : BitVec 32) : Prop :=
  (∀ a, (k0_off920 v5181) a + S1x1x256.size a ≤ S4001x1x256.size a)
theorem k0_off920_inb : ∀ (v5181 : BitVec 32) (k0_hw920 : k0_chk920 v5181), ∀ a, (k0_off920 v5181) a + S1x1x256.size a ≤ S4001x1x256.size a := fun v5181 k0_hw920 => k0_hw920

def k0_off921 (v5185 : BitVec 32) : Fin 3 → Nat :=
  let v5186 : Index := Scalar.indexCast v5185
  let c0_3861 : Index := 0#32
  let c0_3862 : Index := 0#32
  ![v5186.toNat, 0, 0]

def k0_chk921 (v5185 : BitVec 32) : Prop :=
  (∀ a, (k0_off921 v5185) a + S1x1x256.size a ≤ S4001x1x256.size a)
theorem k0_off921_inb : ∀ (v5185 : BitVec 32) (k0_hw921 : k0_chk921 v5185), ∀ a, (k0_off921 v5185) a + S1x1x256.size a ≤ S4001x1x256.size a := fun v5185 k0_hw921 => k0_hw921

def k0_off922 (v5189 : BitVec 32) : Fin 3 → Nat :=
  let v5190 : Index := Scalar.indexCast v5189
  let c0_3865 : Index := 0#32
  let c0_3866 : Index := 0#32
  ![v5190.toNat, 0, 0]

def k0_chk922 (v5189 : BitVec 32) : Prop :=
  (∀ a, (k0_off922 v5189) a + S1x1x256.size a ≤ S4001x1x256.size a)
theorem k0_off922_inb : ∀ (v5189 : BitVec 32) (k0_hw922 : k0_chk922 v5189), ∀ a, (k0_off922 v5189) a + S1x1x256.size a ≤ S4001x1x256.size a := fun v5189 k0_hw922 => k0_hw922

def k0_off923 (v5193 : BitVec 32) : Fin 3 → Nat :=
  let v5194 : Index := Scalar.indexCast v5193
  let c0_3869 : Index := 0#32
  let c0_3870 : Index := 0#32
  ![v5194.toNat, 0, 0]

def k0_chk923 (v5193 : BitVec 32) : Prop :=
  (∀ a, (k0_off923 v5193) a + S1x1x256.size a ≤ S4001x1x256.size a)
theorem k0_off923_inb : ∀ (v5193 : BitVec 32) (k0_hw923 : k0_chk923 v5193), ∀ a, (k0_off923 v5193) a + S1x1x256.size a ≤ S4001x1x256.size a := fun v5193 k0_hw923 => k0_hw923

def k0_off924 (v5197 : BitVec 32) : Fin 3 → Nat :=
  let v5198 : Index := Scalar.indexCast v5197
  let c0_3873 : Index := 0#32
  let c0_3874 : Index := 0#32
  ![v5198.toNat, 0, 0]

def k0_chk924 (v5197 : BitVec 32) : Prop :=
  (∀ a, (k0_off924 v5197) a + S1x1x256.size a ≤ S4001x1x256.size a)
theorem k0_off924_inb : ∀ (v5197 : BitVec 32) (k0_hw924 : k0_chk924 v5197), ∀ a, (k0_off924 v5197) a + S1x1x256.size a ≤ S4001x1x256.size a := fun v5197 k0_hw924 => k0_hw924

def k0_off925 (v5201 : BitVec 32) : Fin 3 → Nat :=
  let v5202 : Index := Scalar.indexCast v5201
  let c0_3877 : Index := 0#32
  let c0_3878 : Index := 0#32
  ![v5202.toNat, 0, 0]

def k0_chk925 (v5201 : BitVec 32) : Prop :=
  (∀ a, (k0_off925 v5201) a + S1x1x256.size a ≤ S4001x1x256.size a)
theorem k0_off925_inb : ∀ (v5201 : BitVec 32) (k0_hw925 : k0_chk925 v5201), ∀ a, (k0_off925 v5201) a + S1x1x256.size a ≤ S4001x1x256.size a := fun v5201 k0_hw925 => k0_hw925

def k0_off926 (v5205 : BitVec 32) : Fin 3 → Nat :=
  let v5206 : Index := Scalar.indexCast v5205
  let c0_3881 : Index := 0#32
  let c0_3882 : Index := 0#32
  ![v5206.toNat, 0, 0]

def k0_chk926 (v5205 : BitVec 32) : Prop :=
  (∀ a, (k0_off926 v5205) a + S1x1x256.size a ≤ S4001x1x256.size a)
theorem k0_off926_inb : ∀ (v5205 : BitVec 32) (k0_hw926 : k0_chk926 v5205), ∀ a, (k0_off926 v5205) a + S1x1x256.size a ≤ S4001x1x256.size a := fun v5205 k0_hw926 => k0_hw926

def k0_off927 (v5209 : BitVec 32) : Fin 3 → Nat :=
  let v5210 : Index := Scalar.indexCast v5209
  let c0_3885 : Index := 0#32
  let c0_3886 : Index := 0#32
  ![v5210.toNat, 0, 0]

def k0_chk927 (v5209 : BitVec 32) : Prop :=
  (∀ a, (k0_off927 v5209) a + S1x1x256.size a ≤ S4001x1x256.size a)
theorem k0_off927_inb : ∀ (v5209 : BitVec 32) (k0_hw927 : k0_chk927 v5209), ∀ a, (k0_off927 v5209) a + S1x1x256.size a ≤ S4001x1x256.size a := fun v5209 k0_hw927 => k0_hw927

def k0_off928 (v5213 : BitVec 32) : Fin 3 → Nat :=
  let v5214 : Index := Scalar.indexCast v5213
  let c0_3889 : Index := 0#32
  let c0_3890 : Index := 0#32
  ![v5214.toNat, 0, 0]

def k0_chk928 (v5213 : BitVec 32) : Prop :=
  (∀ a, (k0_off928 v5213) a + S1x1x256.size a ≤ S4001x1x256.size a)
theorem k0_off928_inb : ∀ (v5213 : BitVec 32) (k0_hw928 : k0_chk928 v5213), ∀ a, (k0_off928 v5213) a + S1x1x256.size a ≤ S4001x1x256.size a := fun v5213 k0_hw928 => k0_hw928

def k0_off929 (v5217 : BitVec 32) : Fin 3 → Nat :=
  let v5218 : Index := Scalar.indexCast v5217
  let c0_3893 : Index := 0#32
  let c0_3894 : Index := 0#32
  ![v5218.toNat, 0, 0]

def k0_chk929 (v5217 : BitVec 32) : Prop :=
  (∀ a, (k0_off929 v5217) a + S1x1x256.size a ≤ S4001x1x256.size a)
theorem k0_off929_inb : ∀ (v5217 : BitVec 32) (k0_hw929 : k0_chk929 v5217), ∀ a, (k0_off929 v5217) a + S1x1x256.size a ≤ S4001x1x256.size a := fun v5217 k0_hw929 => k0_hw929

def k0_off930 (v5221 : BitVec 32) : Fin 3 → Nat :=
  let v5222 : Index := Scalar.indexCast v5221
  let c0_3897 : Index := 0#32
  let c0_3898 : Index := 0#32
  ![v5222.toNat, 0, 0]

def k0_chk930 (v5221 : BitVec 32) : Prop :=
  (∀ a, (k0_off930 v5221) a + S1x1x256.size a ≤ S4001x1x256.size a)
theorem k0_off930_inb : ∀ (v5221 : BitVec 32) (k0_hw930 : k0_chk930 v5221), ∀ a, (k0_off930 v5221) a + S1x1x256.size a ≤ S4001x1x256.size a := fun v5221 k0_hw930 => k0_hw930

def k0_off931 (v5225 : BitVec 32) : Fin 3 → Nat :=
  let v5226 : Index := Scalar.indexCast v5225
  let c0_3901 : Index := 0#32
  let c0_3902 : Index := 0#32
  ![v5226.toNat, 0, 0]

def k0_chk931 (v5225 : BitVec 32) : Prop :=
  (∀ a, (k0_off931 v5225) a + S1x1x256.size a ≤ S4001x1x256.size a)
theorem k0_off931_inb : ∀ (v5225 : BitVec 32) (k0_hw931 : k0_chk931 v5225), ∀ a, (k0_off931 v5225) a + S1x1x256.size a ≤ S4001x1x256.size a := fun v5225 k0_hw931 => k0_hw931

def k0_off932 (v5229 : BitVec 32) : Fin 3 → Nat :=
  let v5230 : Index := Scalar.indexCast v5229
  let c0_3905 : Index := 0#32
  let c0_3906 : Index := 0#32
  ![v5230.toNat, 0, 0]

def k0_chk932 (v5229 : BitVec 32) : Prop :=
  (∀ a, (k0_off932 v5229) a + S1x1x256.size a ≤ S4001x1x256.size a)
theorem k0_off932_inb : ∀ (v5229 : BitVec 32) (k0_hw932 : k0_chk932 v5229), ∀ a, (k0_off932 v5229) a + S1x1x256.size a ≤ S4001x1x256.size a := fun v5229 k0_hw932 => k0_hw932

def k0_off933 (v5233 : BitVec 32) : Fin 3 → Nat :=
  let v5234 : Index := Scalar.indexCast v5233
  let c0_3909 : Index := 0#32
  let c0_3910 : Index := 0#32
  ![v5234.toNat, 0, 0]

def k0_chk933 (v5233 : BitVec 32) : Prop :=
  (∀ a, (k0_off933 v5233) a + S1x1x256.size a ≤ S4001x1x256.size a)
theorem k0_off933_inb : ∀ (v5233 : BitVec 32) (k0_hw933 : k0_chk933 v5233), ∀ a, (k0_off933 v5233) a + S1x1x256.size a ≤ S4001x1x256.size a := fun v5233 k0_hw933 => k0_hw933

def k0_off934 (v5237 : BitVec 32) : Fin 3 → Nat :=
  let v5238 : Index := Scalar.indexCast v5237
  let c0_3913 : Index := 0#32
  let c0_3914 : Index := 0#32
  ![v5238.toNat, 0, 0]

def k0_chk934 (v5237 : BitVec 32) : Prop :=
  (∀ a, (k0_off934 v5237) a + S1x1x256.size a ≤ S4001x1x256.size a)
theorem k0_off934_inb : ∀ (v5237 : BitVec 32) (k0_hw934 : k0_chk934 v5237), ∀ a, (k0_off934 v5237) a + S1x1x256.size a ≤ S4001x1x256.size a := fun v5237 k0_hw934 => k0_hw934

def k0_off935 (v5241 : BitVec 32) : Fin 3 → Nat :=
  let v5242 : Index := Scalar.indexCast v5241
  let c0_3917 : Index := 0#32
  let c0_3918 : Index := 0#32
  ![v5242.toNat, 0, 0]

def k0_chk935 (v5241 : BitVec 32) : Prop :=
  (∀ a, (k0_off935 v5241) a + S1x1x256.size a ≤ S4001x1x256.size a)
theorem k0_off935_inb : ∀ (v5241 : BitVec 32) (k0_hw935 : k0_chk935 v5241), ∀ a, (k0_off935 v5241) a + S1x1x256.size a ≤ S4001x1x256.size a := fun v5241 k0_hw935 => k0_hw935

def k0_off936 (v5245 : BitVec 32) : Fin 3 → Nat :=
  let v5246 : Index := Scalar.indexCast v5245
  let c0_3921 : Index := 0#32
  let c0_3922 : Index := 0#32
  ![v5246.toNat, 0, 0]

def k0_chk936 (v5245 : BitVec 32) : Prop :=
  (∀ a, (k0_off936 v5245) a + S1x1x256.size a ≤ S4001x1x256.size a)
theorem k0_off936_inb : ∀ (v5245 : BitVec 32) (k0_hw936 : k0_chk936 v5245), ∀ a, (k0_off936 v5245) a + S1x1x256.size a ≤ S4001x1x256.size a := fun v5245 k0_hw936 => k0_hw936

def k0_off937 (v5249 : BitVec 32) : Fin 3 → Nat :=
  let v5250 : Index := Scalar.indexCast v5249
  let c0_3925 : Index := 0#32
  let c0_3926 : Index := 0#32
  ![v5250.toNat, 0, 0]

def k0_chk937 (v5249 : BitVec 32) : Prop :=
  (∀ a, (k0_off937 v5249) a + S1x1x256.size a ≤ S4001x1x256.size a)
theorem k0_off937_inb : ∀ (v5249 : BitVec 32) (k0_hw937 : k0_chk937 v5249), ∀ a, (k0_off937 v5249) a + S1x1x256.size a ≤ S4001x1x256.size a := fun v5249 k0_hw937 => k0_hw937

def k0_off938 (v5253 : BitVec 32) : Fin 3 → Nat :=
  let v5254 : Index := Scalar.indexCast v5253
  let c0_3929 : Index := 0#32
  let c0_3930 : Index := 0#32
  ![v5254.toNat, 0, 0]

def k0_chk938 (v5253 : BitVec 32) : Prop :=
  (∀ a, (k0_off938 v5253) a + S1x1x256.size a ≤ S4001x1x256.size a)
theorem k0_off938_inb : ∀ (v5253 : BitVec 32) (k0_hw938 : k0_chk938 v5253), ∀ a, (k0_off938 v5253) a + S1x1x256.size a ≤ S4001x1x256.size a := fun v5253 k0_hw938 => k0_hw938

def k0_off939 (v5257 : BitVec 32) : Fin 3 → Nat :=
  let v5258 : Index := Scalar.indexCast v5257
  let c0_3933 : Index := 0#32
  let c0_3934 : Index := 0#32
  ![v5258.toNat, 0, 0]

def k0_chk939 (v5257 : BitVec 32) : Prop :=
  (∀ a, (k0_off939 v5257) a + S1x1x256.size a ≤ S4001x1x256.size a)
theorem k0_off939_inb : ∀ (v5257 : BitVec 32) (k0_hw939 : k0_chk939 v5257), ∀ a, (k0_off939 v5257) a + S1x1x256.size a ≤ S4001x1x256.size a := fun v5257 k0_hw939 => k0_hw939

def k0_off940 (v5261 : BitVec 32) : Fin 3 → Nat :=
  let v5262 : Index := Scalar.indexCast v5261
  let c0_3937 : Index := 0#32
  let c0_3938 : Index := 0#32
  ![v5262.toNat, 0, 0]

def k0_chk940 (v5261 : BitVec 32) : Prop :=
  (∀ a, (k0_off940 v5261) a + S1x1x256.size a ≤ S4001x1x256.size a)
theorem k0_off940_inb : ∀ (v5261 : BitVec 32) (k0_hw940 : k0_chk940 v5261), ∀ a, (k0_off940 v5261) a + S1x1x256.size a ≤ S4001x1x256.size a := fun v5261 k0_hw940 => k0_hw940

def k0_off941 (v5304 : BitVec 32) : Fin 3 → Nat :=
  let v5305 : Index := Scalar.indexCast v5304
  let c0_3941 : Index := 0#32
  let c0_3942 : Index := 0#32
  ![v5305.toNat, 0, 0]

def k0_chk941 (v5304 : BitVec 32) : Prop :=
  (∀ a, (k0_off941 v5304) a + S1x1x256.size a ≤ S4001x1x256.size a)
theorem k0_off941_inb : ∀ (v5304 : BitVec 32) (k0_hw941 : k0_chk941 v5304), ∀ a, (k0_off941 v5304) a + S1x1x256.size a ≤ S4001x1x256.size a := fun v5304 k0_hw941 => k0_hw941

def k0_off942 (v5308 : BitVec 32) : Fin 3 → Nat :=
  let v5309 : Index := Scalar.indexCast v5308
  let c0_3945 : Index := 0#32
  let c0_3946 : Index := 0#32
  ![v5309.toNat, 0, 0]

def k0_chk942 (v5308 : BitVec 32) : Prop :=
  (∀ a, (k0_off942 v5308) a + S1x1x256.size a ≤ S4001x1x256.size a)
theorem k0_off942_inb : ∀ (v5308 : BitVec 32) (k0_hw942 : k0_chk942 v5308), ∀ a, (k0_off942 v5308) a + S1x1x256.size a ≤ S4001x1x256.size a := fun v5308 k0_hw942 => k0_hw942

def k0_off943 (v5312 : BitVec 32) : Fin 3 → Nat :=
  let v5313 : Index := Scalar.indexCast v5312
  let c0_3949 : Index := 0#32
  let c0_3950 : Index := 0#32
  ![v5313.toNat, 0, 0]

def k0_chk943 (v5312 : BitVec 32) : Prop :=
  (∀ a, (k0_off943 v5312) a + S1x1x256.size a ≤ S4001x1x256.size a)
theorem k0_off943_inb : ∀ (v5312 : BitVec 32) (k0_hw943 : k0_chk943 v5312), ∀ a, (k0_off943 v5312) a + S1x1x256.size a ≤ S4001x1x256.size a := fun v5312 k0_hw943 => k0_hw943

def k0_off944 (v5316 : BitVec 32) : Fin 3 → Nat :=
  let v5317 : Index := Scalar.indexCast v5316
  let c0_3953 : Index := 0#32
  let c0_3954 : Index := 0#32
  ![v5317.toNat, 0, 0]

def k0_chk944 (v5316 : BitVec 32) : Prop :=
  (∀ a, (k0_off944 v5316) a + S1x1x256.size a ≤ S4001x1x256.size a)
theorem k0_off944_inb : ∀ (v5316 : BitVec 32) (k0_hw944 : k0_chk944 v5316), ∀ a, (k0_off944 v5316) a + S1x1x256.size a ≤ S4001x1x256.size a := fun v5316 k0_hw944 => k0_hw944

def k0_off945 (v5320 : BitVec 32) : Fin 3 → Nat :=
  let v5321 : Index := Scalar.indexCast v5320
  let c0_3957 : Index := 0#32
  let c0_3958 : Index := 0#32
  ![v5321.toNat, 0, 0]

def k0_chk945 (v5320 : BitVec 32) : Prop :=
  (∀ a, (k0_off945 v5320) a + S1x1x256.size a ≤ S4001x1x256.size a)
theorem k0_off945_inb : ∀ (v5320 : BitVec 32) (k0_hw945 : k0_chk945 v5320), ∀ a, (k0_off945 v5320) a + S1x1x256.size a ≤ S4001x1x256.size a := fun v5320 k0_hw945 => k0_hw945

def k0_off946 (v5324 : BitVec 32) : Fin 3 → Nat :=
  let v5325 : Index := Scalar.indexCast v5324
  let c0_3961 : Index := 0#32
  let c0_3962 : Index := 0#32
  ![v5325.toNat, 0, 0]

def k0_chk946 (v5324 : BitVec 32) : Prop :=
  (∀ a, (k0_off946 v5324) a + S1x1x256.size a ≤ S4001x1x256.size a)
theorem k0_off946_inb : ∀ (v5324 : BitVec 32) (k0_hw946 : k0_chk946 v5324), ∀ a, (k0_off946 v5324) a + S1x1x256.size a ≤ S4001x1x256.size a := fun v5324 k0_hw946 => k0_hw946

def k0_off947 (v5328 : BitVec 32) : Fin 3 → Nat :=
  let v5329 : Index := Scalar.indexCast v5328
  let c0_3965 : Index := 0#32
  let c0_3966 : Index := 0#32
  ![v5329.toNat, 0, 0]

def k0_chk947 (v5328 : BitVec 32) : Prop :=
  (∀ a, (k0_off947 v5328) a + S1x1x256.size a ≤ S4001x1x256.size a)
theorem k0_off947_inb : ∀ (v5328 : BitVec 32) (k0_hw947 : k0_chk947 v5328), ∀ a, (k0_off947 v5328) a + S1x1x256.size a ≤ S4001x1x256.size a := fun v5328 k0_hw947 => k0_hw947

def k0_off948 (v5332 : BitVec 32) : Fin 3 → Nat :=
  let v5333 : Index := Scalar.indexCast v5332
  let c0_3969 : Index := 0#32
  let c0_3970 : Index := 0#32
  ![v5333.toNat, 0, 0]

def k0_chk948 (v5332 : BitVec 32) : Prop :=
  (∀ a, (k0_off948 v5332) a + S1x1x256.size a ≤ S4001x1x256.size a)
theorem k0_off948_inb : ∀ (v5332 : BitVec 32) (k0_hw948 : k0_chk948 v5332), ∀ a, (k0_off948 v5332) a + S1x1x256.size a ≤ S4001x1x256.size a := fun v5332 k0_hw948 => k0_hw948

def k0_off949 (v5336 : BitVec 32) : Fin 3 → Nat :=
  let v5337 : Index := Scalar.indexCast v5336
  let c0_3973 : Index := 0#32
  let c0_3974 : Index := 0#32
  ![v5337.toNat, 0, 0]

def k0_chk949 (v5336 : BitVec 32) : Prop :=
  (∀ a, (k0_off949 v5336) a + S1x1x256.size a ≤ S4001x1x256.size a)
theorem k0_off949_inb : ∀ (v5336 : BitVec 32) (k0_hw949 : k0_chk949 v5336), ∀ a, (k0_off949 v5336) a + S1x1x256.size a ≤ S4001x1x256.size a := fun v5336 k0_hw949 => k0_hw949

def k0_off950 (v5340 : BitVec 32) : Fin 3 → Nat :=
  let v5341 : Index := Scalar.indexCast v5340
  let c0_3977 : Index := 0#32
  let c0_3978 : Index := 0#32
  ![v5341.toNat, 0, 0]

def k0_chk950 (v5340 : BitVec 32) : Prop :=
  (∀ a, (k0_off950 v5340) a + S1x1x256.size a ≤ S4001x1x256.size a)
theorem k0_off950_inb : ∀ (v5340 : BitVec 32) (k0_hw950 : k0_chk950 v5340), ∀ a, (k0_off950 v5340) a + S1x1x256.size a ≤ S4001x1x256.size a := fun v5340 k0_hw950 => k0_hw950

def k0_off951 (v5344 : BitVec 32) : Fin 3 → Nat :=
  let v5345 : Index := Scalar.indexCast v5344
  let c0_3981 : Index := 0#32
  let c0_3982 : Index := 0#32
  ![v5345.toNat, 0, 0]

def k0_chk951 (v5344 : BitVec 32) : Prop :=
  (∀ a, (k0_off951 v5344) a + S1x1x256.size a ≤ S4001x1x256.size a)
theorem k0_off951_inb : ∀ (v5344 : BitVec 32) (k0_hw951 : k0_chk951 v5344), ∀ a, (k0_off951 v5344) a + S1x1x256.size a ≤ S4001x1x256.size a := fun v5344 k0_hw951 => k0_hw951

def k0_off952 (v5348 : BitVec 32) : Fin 3 → Nat :=
  let v5349 : Index := Scalar.indexCast v5348
  let c0_3985 : Index := 0#32
  let c0_3986 : Index := 0#32
  ![v5349.toNat, 0, 0]

def k0_chk952 (v5348 : BitVec 32) : Prop :=
  (∀ a, (k0_off952 v5348) a + S1x1x256.size a ≤ S4001x1x256.size a)
theorem k0_off952_inb : ∀ (v5348 : BitVec 32) (k0_hw952 : k0_chk952 v5348), ∀ a, (k0_off952 v5348) a + S1x1x256.size a ≤ S4001x1x256.size a := fun v5348 k0_hw952 => k0_hw952

def k0_off953 (v5352 : BitVec 32) : Fin 3 → Nat :=
  let v5353 : Index := Scalar.indexCast v5352
  let c0_3989 : Index := 0#32
  let c0_3990 : Index := 0#32
  ![v5353.toNat, 0, 0]

def k0_chk953 (v5352 : BitVec 32) : Prop :=
  (∀ a, (k0_off953 v5352) a + S1x1x256.size a ≤ S4001x1x256.size a)
theorem k0_off953_inb : ∀ (v5352 : BitVec 32) (k0_hw953 : k0_chk953 v5352), ∀ a, (k0_off953 v5352) a + S1x1x256.size a ≤ S4001x1x256.size a := fun v5352 k0_hw953 => k0_hw953

def k0_off954 (v5356 : BitVec 32) : Fin 3 → Nat :=
  let v5357 : Index := Scalar.indexCast v5356
  let c0_3993 : Index := 0#32
  let c0_3994 : Index := 0#32
  ![v5357.toNat, 0, 0]

def k0_chk954 (v5356 : BitVec 32) : Prop :=
  (∀ a, (k0_off954 v5356) a + S1x1x256.size a ≤ S4001x1x256.size a)
theorem k0_off954_inb : ∀ (v5356 : BitVec 32) (k0_hw954 : k0_chk954 v5356), ∀ a, (k0_off954 v5356) a + S1x1x256.size a ≤ S4001x1x256.size a := fun v5356 k0_hw954 => k0_hw954

def k0_off955 (v5360 : BitVec 32) : Fin 3 → Nat :=
  let v5361 : Index := Scalar.indexCast v5360
  let c0_3997 : Index := 0#32
  let c0_3998 : Index := 0#32
  ![v5361.toNat, 0, 0]

def k0_chk955 (v5360 : BitVec 32) : Prop :=
  (∀ a, (k0_off955 v5360) a + S1x1x256.size a ≤ S4001x1x256.size a)
theorem k0_off955_inb : ∀ (v5360 : BitVec 32) (k0_hw955 : k0_chk955 v5360), ∀ a, (k0_off955 v5360) a + S1x1x256.size a ≤ S4001x1x256.size a := fun v5360 k0_hw955 => k0_hw955

def k0_off956 (v5364 : BitVec 32) : Fin 3 → Nat :=
  let v5365 : Index := Scalar.indexCast v5364
  let c0_4001 : Index := 0#32
  let c0_4002 : Index := 0#32
  ![v5365.toNat, 0, 0]

def k0_chk956 (v5364 : BitVec 32) : Prop :=
  (∀ a, (k0_off956 v5364) a + S1x1x256.size a ≤ S4001x1x256.size a)
theorem k0_off956_inb : ∀ (v5364 : BitVec 32) (k0_hw956 : k0_chk956 v5364), ∀ a, (k0_off956 v5364) a + S1x1x256.size a ≤ S4001x1x256.size a := fun v5364 k0_hw956 => k0_hw956

def k0_off957 (v5368 : BitVec 32) : Fin 3 → Nat :=
  let v5369 : Index := Scalar.indexCast v5368
  let c0_4005 : Index := 0#32
  let c0_4006 : Index := 0#32
  ![v5369.toNat, 0, 0]

def k0_chk957 (v5368 : BitVec 32) : Prop :=
  (∀ a, (k0_off957 v5368) a + S1x1x256.size a ≤ S4001x1x256.size a)
theorem k0_off957_inb : ∀ (v5368 : BitVec 32) (k0_hw957 : k0_chk957 v5368), ∀ a, (k0_off957 v5368) a + S1x1x256.size a ≤ S4001x1x256.size a := fun v5368 k0_hw957 => k0_hw957

def k0_off958 (v5372 : BitVec 32) : Fin 3 → Nat :=
  let v5373 : Index := Scalar.indexCast v5372
  let c0_4009 : Index := 0#32
  let c0_4010 : Index := 0#32
  ![v5373.toNat, 0, 0]

def k0_chk958 (v5372 : BitVec 32) : Prop :=
  (∀ a, (k0_off958 v5372) a + S1x1x256.size a ≤ S4001x1x256.size a)
theorem k0_off958_inb : ∀ (v5372 : BitVec 32) (k0_hw958 : k0_chk958 v5372), ∀ a, (k0_off958 v5372) a + S1x1x256.size a ≤ S4001x1x256.size a := fun v5372 k0_hw958 => k0_hw958

def k0_off959 (v5376 : BitVec 32) : Fin 3 → Nat :=
  let v5377 : Index := Scalar.indexCast v5376
  let c0_4013 : Index := 0#32
  let c0_4014 : Index := 0#32
  ![v5377.toNat, 0, 0]

def k0_chk959 (v5376 : BitVec 32) : Prop :=
  (∀ a, (k0_off959 v5376) a + S1x1x256.size a ≤ S4001x1x256.size a)
theorem k0_off959_inb : ∀ (v5376 : BitVec 32) (k0_hw959 : k0_chk959 v5376), ∀ a, (k0_off959 v5376) a + S1x1x256.size a ≤ S4001x1x256.size a := fun v5376 k0_hw959 => k0_hw959

def k0_off960 (v5380 : BitVec 32) : Fin 3 → Nat :=
  let v5381 : Index := Scalar.indexCast v5380
  let c0_4017 : Index := 0#32
  let c0_4018 : Index := 0#32
  ![v5381.toNat, 0, 0]

def k0_chk960 (v5380 : BitVec 32) : Prop :=
  (∀ a, (k0_off960 v5380) a + S1x1x256.size a ≤ S4001x1x256.size a)
theorem k0_off960_inb : ∀ (v5380 : BitVec 32) (k0_hw960 : k0_chk960 v5380), ∀ a, (k0_off960 v5380) a + S1x1x256.size a ≤ S4001x1x256.size a := fun v5380 k0_hw960 => k0_hw960

def k0_off961 (v5444 : BitVec 32) : Fin 3 → Nat :=
  let v5445 : Index := Scalar.indexCast v5444
  let c0_4038 : Index := 0#32
  let c0_4039 : Index := 0#32
  ![v5445.toNat, 0, 0]

def k0_chk961 (v5444 : BitVec 32) : Prop :=
  (∀ a, (k0_off961 v5444) a + S1x1x256.size a ≤ S4001x1x256.size a)
theorem k0_off961_inb : ∀ (v5444 : BitVec 32) (k0_hw961 : k0_chk961 v5444), ∀ a, (k0_off961 v5444) a + S1x1x256.size a ≤ S4001x1x256.size a := fun v5444 k0_hw961 => k0_hw961

def k0_off962 (v5448 : BitVec 32) : Fin 3 → Nat :=
  let v5449 : Index := Scalar.indexCast v5448
  let c0_4042 : Index := 0#32
  let c0_4043 : Index := 0#32
  ![v5449.toNat, 0, 0]

def k0_chk962 (v5448 : BitVec 32) : Prop :=
  (∀ a, (k0_off962 v5448) a + S1x1x256.size a ≤ S4001x1x256.size a)
theorem k0_off962_inb : ∀ (v5448 : BitVec 32) (k0_hw962 : k0_chk962 v5448), ∀ a, (k0_off962 v5448) a + S1x1x256.size a ≤ S4001x1x256.size a := fun v5448 k0_hw962 => k0_hw962

def k0_off963 (v5452 : BitVec 32) : Fin 3 → Nat :=
  let v5453 : Index := Scalar.indexCast v5452
  let c0_4046 : Index := 0#32
  let c0_4047 : Index := 0#32
  ![v5453.toNat, 0, 0]

def k0_chk963 (v5452 : BitVec 32) : Prop :=
  (∀ a, (k0_off963 v5452) a + S1x1x256.size a ≤ S4001x1x256.size a)
theorem k0_off963_inb : ∀ (v5452 : BitVec 32) (k0_hw963 : k0_chk963 v5452), ∀ a, (k0_off963 v5452) a + S1x1x256.size a ≤ S4001x1x256.size a := fun v5452 k0_hw963 => k0_hw963

def k0_off964 (v5456 : BitVec 32) : Fin 3 → Nat :=
  let v5457 : Index := Scalar.indexCast v5456
  let c0_4050 : Index := 0#32
  let c0_4051 : Index := 0#32
  ![v5457.toNat, 0, 0]

def k0_chk964 (v5456 : BitVec 32) : Prop :=
  (∀ a, (k0_off964 v5456) a + S1x1x256.size a ≤ S4001x1x256.size a)
theorem k0_off964_inb : ∀ (v5456 : BitVec 32) (k0_hw964 : k0_chk964 v5456), ∀ a, (k0_off964 v5456) a + S1x1x256.size a ≤ S4001x1x256.size a := fun v5456 k0_hw964 => k0_hw964

def k0_off965 (v5460 : BitVec 32) : Fin 3 → Nat :=
  let v5461 : Index := Scalar.indexCast v5460
  let c0_4054 : Index := 0#32
  let c0_4055 : Index := 0#32
  ![v5461.toNat, 0, 0]

def k0_chk965 (v5460 : BitVec 32) : Prop :=
  (∀ a, (k0_off965 v5460) a + S1x1x256.size a ≤ S4001x1x256.size a)
theorem k0_off965_inb : ∀ (v5460 : BitVec 32) (k0_hw965 : k0_chk965 v5460), ∀ a, (k0_off965 v5460) a + S1x1x256.size a ≤ S4001x1x256.size a := fun v5460 k0_hw965 => k0_hw965

def k0_off966 (v5464 : BitVec 32) : Fin 3 → Nat :=
  let v5465 : Index := Scalar.indexCast v5464
  let c0_4058 : Index := 0#32
  let c0_4059 : Index := 0#32
  ![v5465.toNat, 0, 0]

def k0_chk966 (v5464 : BitVec 32) : Prop :=
  (∀ a, (k0_off966 v5464) a + S1x1x256.size a ≤ S4001x1x256.size a)
theorem k0_off966_inb : ∀ (v5464 : BitVec 32) (k0_hw966 : k0_chk966 v5464), ∀ a, (k0_off966 v5464) a + S1x1x256.size a ≤ S4001x1x256.size a := fun v5464 k0_hw966 => k0_hw966

def k0_off967 (v5468 : BitVec 32) : Fin 3 → Nat :=
  let v5469 : Index := Scalar.indexCast v5468
  let c0_4062 : Index := 0#32
  let c0_4063 : Index := 0#32
  ![v5469.toNat, 0, 0]

def k0_chk967 (v5468 : BitVec 32) : Prop :=
  (∀ a, (k0_off967 v5468) a + S1x1x256.size a ≤ S4001x1x256.size a)
theorem k0_off967_inb : ∀ (v5468 : BitVec 32) (k0_hw967 : k0_chk967 v5468), ∀ a, (k0_off967 v5468) a + S1x1x256.size a ≤ S4001x1x256.size a := fun v5468 k0_hw967 => k0_hw967

def k0_off968 (v5472 : BitVec 32) : Fin 3 → Nat :=
  let v5473 : Index := Scalar.indexCast v5472
  let c0_4066 : Index := 0#32
  let c0_4067 : Index := 0#32
  ![v5473.toNat, 0, 0]

def k0_chk968 (v5472 : BitVec 32) : Prop :=
  (∀ a, (k0_off968 v5472) a + S1x1x256.size a ≤ S4001x1x256.size a)
theorem k0_off968_inb : ∀ (v5472 : BitVec 32) (k0_hw968 : k0_chk968 v5472), ∀ a, (k0_off968 v5472) a + S1x1x256.size a ≤ S4001x1x256.size a := fun v5472 k0_hw968 => k0_hw968

def k0_off969 (v5476 : BitVec 32) : Fin 3 → Nat :=
  let v5477 : Index := Scalar.indexCast v5476
  let c0_4070 : Index := 0#32
  let c0_4071 : Index := 0#32
  ![v5477.toNat, 0, 0]

def k0_chk969 (v5476 : BitVec 32) : Prop :=
  (∀ a, (k0_off969 v5476) a + S1x1x256.size a ≤ S4001x1x256.size a)
theorem k0_off969_inb : ∀ (v5476 : BitVec 32) (k0_hw969 : k0_chk969 v5476), ∀ a, (k0_off969 v5476) a + S1x1x256.size a ≤ S4001x1x256.size a := fun v5476 k0_hw969 => k0_hw969

def k0_off970 (v5480 : BitVec 32) : Fin 3 → Nat :=
  let v5481 : Index := Scalar.indexCast v5480
  let c0_4074 : Index := 0#32
  let c0_4075 : Index := 0#32
  ![v5481.toNat, 0, 0]

def k0_chk970 (v5480 : BitVec 32) : Prop :=
  (∀ a, (k0_off970 v5480) a + S1x1x256.size a ≤ S4001x1x256.size a)
theorem k0_off970_inb : ∀ (v5480 : BitVec 32) (k0_hw970 : k0_chk970 v5480), ∀ a, (k0_off970 v5480) a + S1x1x256.size a ≤ S4001x1x256.size a := fun v5480 k0_hw970 => k0_hw970

def k0_off971 (v5484 : BitVec 32) : Fin 3 → Nat :=
  let v5485 : Index := Scalar.indexCast v5484
  let c0_4078 : Index := 0#32
  let c0_4079 : Index := 0#32
  ![v5485.toNat, 0, 0]

def k0_chk971 (v5484 : BitVec 32) : Prop :=
  (∀ a, (k0_off971 v5484) a + S1x1x256.size a ≤ S4001x1x256.size a)
theorem k0_off971_inb : ∀ (v5484 : BitVec 32) (k0_hw971 : k0_chk971 v5484), ∀ a, (k0_off971 v5484) a + S1x1x256.size a ≤ S4001x1x256.size a := fun v5484 k0_hw971 => k0_hw971

def k0_off972 (v5488 : BitVec 32) : Fin 3 → Nat :=
  let v5489 : Index := Scalar.indexCast v5488
  let c0_4082 : Index := 0#32
  let c0_4083 : Index := 0#32
  ![v5489.toNat, 0, 0]

def k0_chk972 (v5488 : BitVec 32) : Prop :=
  (∀ a, (k0_off972 v5488) a + S1x1x256.size a ≤ S4001x1x256.size a)
theorem k0_off972_inb : ∀ (v5488 : BitVec 32) (k0_hw972 : k0_chk972 v5488), ∀ a, (k0_off972 v5488) a + S1x1x256.size a ≤ S4001x1x256.size a := fun v5488 k0_hw972 => k0_hw972

def k0_off973 (v5492 : BitVec 32) : Fin 3 → Nat :=
  let v5493 : Index := Scalar.indexCast v5492
  let c0_4086 : Index := 0#32
  let c0_4087 : Index := 0#32
  ![v5493.toNat, 0, 0]

def k0_chk973 (v5492 : BitVec 32) : Prop :=
  (∀ a, (k0_off973 v5492) a + S1x1x256.size a ≤ S4001x1x256.size a)
theorem k0_off973_inb : ∀ (v5492 : BitVec 32) (k0_hw973 : k0_chk973 v5492), ∀ a, (k0_off973 v5492) a + S1x1x256.size a ≤ S4001x1x256.size a := fun v5492 k0_hw973 => k0_hw973

def k0_off974 (v5496 : BitVec 32) : Fin 3 → Nat :=
  let v5497 : Index := Scalar.indexCast v5496
  let c0_4090 : Index := 0#32
  let c0_4091 : Index := 0#32
  ![v5497.toNat, 0, 0]

def k0_chk974 (v5496 : BitVec 32) : Prop :=
  (∀ a, (k0_off974 v5496) a + S1x1x256.size a ≤ S4001x1x256.size a)
theorem k0_off974_inb : ∀ (v5496 : BitVec 32) (k0_hw974 : k0_chk974 v5496), ∀ a, (k0_off974 v5496) a + S1x1x256.size a ≤ S4001x1x256.size a := fun v5496 k0_hw974 => k0_hw974

def k0_off975 (v5500 : BitVec 32) : Fin 3 → Nat :=
  let v5501 : Index := Scalar.indexCast v5500
  let c0_4094 : Index := 0#32
  let c0_4095 : Index := 0#32
  ![v5501.toNat, 0, 0]

def k0_chk975 (v5500 : BitVec 32) : Prop :=
  (∀ a, (k0_off975 v5500) a + S1x1x256.size a ≤ S4001x1x256.size a)
theorem k0_off975_inb : ∀ (v5500 : BitVec 32) (k0_hw975 : k0_chk975 v5500), ∀ a, (k0_off975 v5500) a + S1x1x256.size a ≤ S4001x1x256.size a := fun v5500 k0_hw975 => k0_hw975

def k0_off976 (v5504 : BitVec 32) : Fin 3 → Nat :=
  let v5505 : Index := Scalar.indexCast v5504
  let c0_4098 : Index := 0#32
  let c0_4099 : Index := 0#32
  ![v5505.toNat, 0, 0]

def k0_chk976 (v5504 : BitVec 32) : Prop :=
  (∀ a, (k0_off976 v5504) a + S1x1x256.size a ≤ S4001x1x256.size a)
theorem k0_off976_inb : ∀ (v5504 : BitVec 32) (k0_hw976 : k0_chk976 v5504), ∀ a, (k0_off976 v5504) a + S1x1x256.size a ≤ S4001x1x256.size a := fun v5504 k0_hw976 => k0_hw976

def k0_off977 (v5508 : BitVec 32) : Fin 3 → Nat :=
  let v5509 : Index := Scalar.indexCast v5508
  let c0_4102 : Index := 0#32
  let c0_4103 : Index := 0#32
  ![v5509.toNat, 0, 0]

def k0_chk977 (v5508 : BitVec 32) : Prop :=
  (∀ a, (k0_off977 v5508) a + S1x1x256.size a ≤ S4001x1x256.size a)
theorem k0_off977_inb : ∀ (v5508 : BitVec 32) (k0_hw977 : k0_chk977 v5508), ∀ a, (k0_off977 v5508) a + S1x1x256.size a ≤ S4001x1x256.size a := fun v5508 k0_hw977 => k0_hw977

def k0_off978 (v5512 : BitVec 32) : Fin 3 → Nat :=
  let v5513 : Index := Scalar.indexCast v5512
  let c0_4106 : Index := 0#32
  let c0_4107 : Index := 0#32
  ![v5513.toNat, 0, 0]

def k0_chk978 (v5512 : BitVec 32) : Prop :=
  (∀ a, (k0_off978 v5512) a + S1x1x256.size a ≤ S4001x1x256.size a)
theorem k0_off978_inb : ∀ (v5512 : BitVec 32) (k0_hw978 : k0_chk978 v5512), ∀ a, (k0_off978 v5512) a + S1x1x256.size a ≤ S4001x1x256.size a := fun v5512 k0_hw978 => k0_hw978

def k0_off979 (v5516 : BitVec 32) : Fin 3 → Nat :=
  let v5517 : Index := Scalar.indexCast v5516
  let c0_4110 : Index := 0#32
  let c0_4111 : Index := 0#32
  ![v5517.toNat, 0, 0]

def k0_chk979 (v5516 : BitVec 32) : Prop :=
  (∀ a, (k0_off979 v5516) a + S1x1x256.size a ≤ S4001x1x256.size a)
theorem k0_off979_inb : ∀ (v5516 : BitVec 32) (k0_hw979 : k0_chk979 v5516), ∀ a, (k0_off979 v5516) a + S1x1x256.size a ≤ S4001x1x256.size a := fun v5516 k0_hw979 => k0_hw979

def k0_off980 (v5520 : BitVec 32) : Fin 3 → Nat :=
  let v5521 : Index := Scalar.indexCast v5520
  let c0_4114 : Index := 0#32
  let c0_4115 : Index := 0#32
  ![v5521.toNat, 0, 0]

def k0_chk980 (v5520 : BitVec 32) : Prop :=
  (∀ a, (k0_off980 v5520) a + S1x1x256.size a ≤ S4001x1x256.size a)
theorem k0_off980_inb : ∀ (v5520 : BitVec 32) (k0_hw980 : k0_chk980 v5520), ∀ a, (k0_off980 v5520) a + S1x1x256.size a ≤ S4001x1x256.size a := fun v5520 k0_hw980 => k0_hw980

def k0_off981 (v5524 : BitVec 32) : Fin 3 → Nat :=
  let v5525 : Index := Scalar.indexCast v5524
  let c0_4118 : Index := 0#32
  let c0_4119 : Index := 0#32
  ![v5525.toNat, 0, 0]

def k0_chk981 (v5524 : BitVec 32) : Prop :=
  (∀ a, (k0_off981 v5524) a + S1x1x256.size a ≤ S4001x1x256.size a)
theorem k0_off981_inb : ∀ (v5524 : BitVec 32) (k0_hw981 : k0_chk981 v5524), ∀ a, (k0_off981 v5524) a + S1x1x256.size a ≤ S4001x1x256.size a := fun v5524 k0_hw981 => k0_hw981

def k0_off982 (v5528 : BitVec 32) : Fin 3 → Nat :=
  let v5529 : Index := Scalar.indexCast v5528
  let c0_4122 : Index := 0#32
  let c0_4123 : Index := 0#32
  ![v5529.toNat, 0, 0]

def k0_chk982 (v5528 : BitVec 32) : Prop :=
  (∀ a, (k0_off982 v5528) a + S1x1x256.size a ≤ S4001x1x256.size a)
theorem k0_off982_inb : ∀ (v5528 : BitVec 32) (k0_hw982 : k0_chk982 v5528), ∀ a, (k0_off982 v5528) a + S1x1x256.size a ≤ S4001x1x256.size a := fun v5528 k0_hw982 => k0_hw982

def k0_off983 (v5532 : BitVec 32) : Fin 3 → Nat :=
  let v5533 : Index := Scalar.indexCast v5532
  let c0_4126 : Index := 0#32
  let c0_4127 : Index := 0#32
  ![v5533.toNat, 0, 0]

def k0_chk983 (v5532 : BitVec 32) : Prop :=
  (∀ a, (k0_off983 v5532) a + S1x1x256.size a ≤ S4001x1x256.size a)
theorem k0_off983_inb : ∀ (v5532 : BitVec 32) (k0_hw983 : k0_chk983 v5532), ∀ a, (k0_off983 v5532) a + S1x1x256.size a ≤ S4001x1x256.size a := fun v5532 k0_hw983 => k0_hw983

def k0_off984 (v5536 : BitVec 32) : Fin 3 → Nat :=
  let v5537 : Index := Scalar.indexCast v5536
  let c0_4130 : Index := 0#32
  let c0_4131 : Index := 0#32
  ![v5537.toNat, 0, 0]

def k0_chk984 (v5536 : BitVec 32) : Prop :=
  (∀ a, (k0_off984 v5536) a + S1x1x256.size a ≤ S4001x1x256.size a)
theorem k0_off984_inb : ∀ (v5536 : BitVec 32) (k0_hw984 : k0_chk984 v5536), ∀ a, (k0_off984 v5536) a + S1x1x256.size a ≤ S4001x1x256.size a := fun v5536 k0_hw984 => k0_hw984

def k0_off985 (v5540 : BitVec 32) : Fin 3 → Nat :=
  let v5541 : Index := Scalar.indexCast v5540
  let c0_4134 : Index := 0#32
  let c0_4135 : Index := 0#32
  ![v5541.toNat, 0, 0]

def k0_chk985 (v5540 : BitVec 32) : Prop :=
  (∀ a, (k0_off985 v5540) a + S1x1x256.size a ≤ S4001x1x256.size a)
theorem k0_off985_inb : ∀ (v5540 : BitVec 32) (k0_hw985 : k0_chk985 v5540), ∀ a, (k0_off985 v5540) a + S1x1x256.size a ≤ S4001x1x256.size a := fun v5540 k0_hw985 => k0_hw985

def k0_off986 (v5544 : BitVec 32) : Fin 3 → Nat :=
  let v5545 : Index := Scalar.indexCast v5544
  let c0_4138 : Index := 0#32
  let c0_4139 : Index := 0#32
  ![v5545.toNat, 0, 0]

def k0_chk986 (v5544 : BitVec 32) : Prop :=
  (∀ a, (k0_off986 v5544) a + S1x1x256.size a ≤ S4001x1x256.size a)
theorem k0_off986_inb : ∀ (v5544 : BitVec 32) (k0_hw986 : k0_chk986 v5544), ∀ a, (k0_off986 v5544) a + S1x1x256.size a ≤ S4001x1x256.size a := fun v5544 k0_hw986 => k0_hw986

def k0_off987 (v5548 : BitVec 32) : Fin 3 → Nat :=
  let v5549 : Index := Scalar.indexCast v5548
  let c0_4142 : Index := 0#32
  let c0_4143 : Index := 0#32
  ![v5549.toNat, 0, 0]

def k0_chk987 (v5548 : BitVec 32) : Prop :=
  (∀ a, (k0_off987 v5548) a + S1x1x256.size a ≤ S4001x1x256.size a)
theorem k0_off987_inb : ∀ (v5548 : BitVec 32) (k0_hw987 : k0_chk987 v5548), ∀ a, (k0_off987 v5548) a + S1x1x256.size a ≤ S4001x1x256.size a := fun v5548 k0_hw987 => k0_hw987

def k0_off988 (v5552 : BitVec 32) : Fin 3 → Nat :=
  let v5553 : Index := Scalar.indexCast v5552
  let c0_4146 : Index := 0#32
  let c0_4147 : Index := 0#32
  ![v5553.toNat, 0, 0]

def k0_chk988 (v5552 : BitVec 32) : Prop :=
  (∀ a, (k0_off988 v5552) a + S1x1x256.size a ≤ S4001x1x256.size a)
theorem k0_off988_inb : ∀ (v5552 : BitVec 32) (k0_hw988 : k0_chk988 v5552), ∀ a, (k0_off988 v5552) a + S1x1x256.size a ≤ S4001x1x256.size a := fun v5552 k0_hw988 => k0_hw988

def k0_off989 (v5556 : BitVec 32) : Fin 3 → Nat :=
  let v5557 : Index := Scalar.indexCast v5556
  let c0_4150 : Index := 0#32
  let c0_4151 : Index := 0#32
  ![v5557.toNat, 0, 0]

def k0_chk989 (v5556 : BitVec 32) : Prop :=
  (∀ a, (k0_off989 v5556) a + S1x1x256.size a ≤ S4001x1x256.size a)
theorem k0_off989_inb : ∀ (v5556 : BitVec 32) (k0_hw989 : k0_chk989 v5556), ∀ a, (k0_off989 v5556) a + S1x1x256.size a ≤ S4001x1x256.size a := fun v5556 k0_hw989 => k0_hw989

def k0_off990 (v5560 : BitVec 32) : Fin 3 → Nat :=
  let v5561 : Index := Scalar.indexCast v5560
  let c0_4154 : Index := 0#32
  let c0_4155 : Index := 0#32
  ![v5561.toNat, 0, 0]

def k0_chk990 (v5560 : BitVec 32) : Prop :=
  (∀ a, (k0_off990 v5560) a + S1x1x256.size a ≤ S4001x1x256.size a)
theorem k0_off990_inb : ∀ (v5560 : BitVec 32) (k0_hw990 : k0_chk990 v5560), ∀ a, (k0_off990 v5560) a + S1x1x256.size a ≤ S4001x1x256.size a := fun v5560 k0_hw990 => k0_hw990

def k0_off991 (v5564 : BitVec 32) : Fin 3 → Nat :=
  let v5565 : Index := Scalar.indexCast v5564
  let c0_4158 : Index := 0#32
  let c0_4159 : Index := 0#32
  ![v5565.toNat, 0, 0]

def k0_chk991 (v5564 : BitVec 32) : Prop :=
  (∀ a, (k0_off991 v5564) a + S1x1x256.size a ≤ S4001x1x256.size a)
theorem k0_off991_inb : ∀ (v5564 : BitVec 32) (k0_hw991 : k0_chk991 v5564), ∀ a, (k0_off991 v5564) a + S1x1x256.size a ≤ S4001x1x256.size a := fun v5564 k0_hw991 => k0_hw991

def k0_off992 (v5568 : BitVec 32) : Fin 3 → Nat :=
  let v5569 : Index := Scalar.indexCast v5568
  let c0_4162 : Index := 0#32
  let c0_4163 : Index := 0#32
  ![v5569.toNat, 0, 0]

def k0_chk992 (v5568 : BitVec 32) : Prop :=
  (∀ a, (k0_off992 v5568) a + S1x1x256.size a ≤ S4001x1x256.size a)
theorem k0_off992_inb : ∀ (v5568 : BitVec 32) (k0_hw992 : k0_chk992 v5568), ∀ a, (k0_off992 v5568) a + S1x1x256.size a ≤ S4001x1x256.size a := fun v5568 k0_hw992 => k0_hw992

def k0_off993 (v5572 : BitVec 32) : Fin 3 → Nat :=
  let v5573 : Index := Scalar.indexCast v5572
  let c0_4166 : Index := 0#32
  let c0_4167 : Index := 0#32
  ![v5573.toNat, 0, 0]

def k0_chk993 (v5572 : BitVec 32) : Prop :=
  (∀ a, (k0_off993 v5572) a + S1x1x256.size a ≤ S4001x1x256.size a)
theorem k0_off993_inb : ∀ (v5572 : BitVec 32) (k0_hw993 : k0_chk993 v5572), ∀ a, (k0_off993 v5572) a + S1x1x256.size a ≤ S4001x1x256.size a := fun v5572 k0_hw993 => k0_hw993

def k0_off994 (v5576 : BitVec 32) : Fin 3 → Nat :=
  let v5577 : Index := Scalar.indexCast v5576
  let c0_4170 : Index := 0#32
  let c0_4171 : Index := 0#32
  ![v5577.toNat, 0, 0]

def k0_chk994 (v5576 : BitVec 32) : Prop :=
  (∀ a, (k0_off994 v5576) a + S1x1x256.size a ≤ S4001x1x256.size a)
theorem k0_off994_inb : ∀ (v5576 : BitVec 32) (k0_hw994 : k0_chk994 v5576), ∀ a, (k0_off994 v5576) a + S1x1x256.size a ≤ S4001x1x256.size a := fun v5576 k0_hw994 => k0_hw994

def k0_off995 (v5580 : BitVec 32) : Fin 3 → Nat :=
  let v5581 : Index := Scalar.indexCast v5580
  let c0_4174 : Index := 0#32
  let c0_4175 : Index := 0#32
  ![v5581.toNat, 0, 0]

def k0_chk995 (v5580 : BitVec 32) : Prop :=
  (∀ a, (k0_off995 v5580) a + S1x1x256.size a ≤ S4001x1x256.size a)
theorem k0_off995_inb : ∀ (v5580 : BitVec 32) (k0_hw995 : k0_chk995 v5580), ∀ a, (k0_off995 v5580) a + S1x1x256.size a ≤ S4001x1x256.size a := fun v5580 k0_hw995 => k0_hw995

def k0_off996 (v5584 : BitVec 32) : Fin 3 → Nat :=
  let v5585 : Index := Scalar.indexCast v5584
  let c0_4178 : Index := 0#32
  let c0_4179 : Index := 0#32
  ![v5585.toNat, 0, 0]

def k0_chk996 (v5584 : BitVec 32) : Prop :=
  (∀ a, (k0_off996 v5584) a + S1x1x256.size a ≤ S4001x1x256.size a)
theorem k0_off996_inb : ∀ (v5584 : BitVec 32) (k0_hw996 : k0_chk996 v5584), ∀ a, (k0_off996 v5584) a + S1x1x256.size a ≤ S4001x1x256.size a := fun v5584 k0_hw996 => k0_hw996

def k0_off997 (v5588 : BitVec 32) : Fin 3 → Nat :=
  let v5589 : Index := Scalar.indexCast v5588
  let c0_4182 : Index := 0#32
  let c0_4183 : Index := 0#32
  ![v5589.toNat, 0, 0]

def k0_chk997 (v5588 : BitVec 32) : Prop :=
  (∀ a, (k0_off997 v5588) a + S1x1x256.size a ≤ S4001x1x256.size a)
theorem k0_off997_inb : ∀ (v5588 : BitVec 32) (k0_hw997 : k0_chk997 v5588), ∀ a, (k0_off997 v5588) a + S1x1x256.size a ≤ S4001x1x256.size a := fun v5588 k0_hw997 => k0_hw997

def k0_off998 (v5592 : BitVec 32) : Fin 3 → Nat :=
  let v5593 : Index := Scalar.indexCast v5592
  let c0_4186 : Index := 0#32
  let c0_4187 : Index := 0#32
  ![v5593.toNat, 0, 0]

def k0_chk998 (v5592 : BitVec 32) : Prop :=
  (∀ a, (k0_off998 v5592) a + S1x1x256.size a ≤ S4001x1x256.size a)
theorem k0_off998_inb : ∀ (v5592 : BitVec 32) (k0_hw998 : k0_chk998 v5592), ∀ a, (k0_off998 v5592) a + S1x1x256.size a ≤ S4001x1x256.size a := fun v5592 k0_hw998 => k0_hw998

def k0_off999 (v5596 : BitVec 32) : Fin 3 → Nat :=
  let v5597 : Index := Scalar.indexCast v5596
  let c0_4190 : Index := 0#32
  let c0_4191 : Index := 0#32
  ![v5597.toNat, 0, 0]

def k0_chk999 (v5596 : BitVec 32) : Prop :=
  (∀ a, (k0_off999 v5596) a + S1x1x256.size a ≤ S4001x1x256.size a)
theorem k0_off999_inb : ∀ (v5596 : BitVec 32) (k0_hw999 : k0_chk999 v5596), ∀ a, (k0_off999 v5596) a + S1x1x256.size a ≤ S4001x1x256.size a := fun v5596 k0_hw999 => k0_hw999

def k0_off1000 (v5600 : BitVec 32) : Fin 3 → Nat :=
  let v5601 : Index := Scalar.indexCast v5600
  let c0_4194 : Index := 0#32
  let c0_4195 : Index := 0#32
  ![v5601.toNat, 0, 0]

def k0_chk1000 (v5600 : BitVec 32) : Prop :=
  (∀ a, (k0_off1000 v5600) a + S1x1x256.size a ≤ S4001x1x256.size a)
theorem k0_off1000_inb : ∀ (v5600 : BitVec 32) (k0_hw1000 : k0_chk1000 v5600), ∀ a, (k0_off1000 v5600) a + S1x1x256.size a ≤ S4001x1x256.size a := fun v5600 k0_hw1000 => k0_hw1000

def k0_off1001 (v5643 : BitVec 32) : Fin 3 → Nat :=
  let v5644 : Index := Scalar.indexCast v5643
  let c0_4198 : Index := 0#32
  let c0_4199 : Index := 0#32
  ![v5644.toNat, 0, 0]

def k0_chk1001 (v5643 : BitVec 32) : Prop :=
  (∀ a, (k0_off1001 v5643) a + S1x1x256.size a ≤ S4001x1x256.size a)
theorem k0_off1001_inb : ∀ (v5643 : BitVec 32) (k0_hw1001 : k0_chk1001 v5643), ∀ a, (k0_off1001 v5643) a + S1x1x256.size a ≤ S4001x1x256.size a := fun v5643 k0_hw1001 => k0_hw1001

def k0_off1002 (v5647 : BitVec 32) : Fin 3 → Nat :=
  let v5648 : Index := Scalar.indexCast v5647
  let c0_4202 : Index := 0#32
  let c0_4203 : Index := 0#32
  ![v5648.toNat, 0, 0]

def k0_chk1002 (v5647 : BitVec 32) : Prop :=
  (∀ a, (k0_off1002 v5647) a + S1x1x256.size a ≤ S4001x1x256.size a)
theorem k0_off1002_inb : ∀ (v5647 : BitVec 32) (k0_hw1002 : k0_chk1002 v5647), ∀ a, (k0_off1002 v5647) a + S1x1x256.size a ≤ S4001x1x256.size a := fun v5647 k0_hw1002 => k0_hw1002

def k0_off1003 (v5651 : BitVec 32) : Fin 3 → Nat :=
  let v5652 : Index := Scalar.indexCast v5651
  let c0_4206 : Index := 0#32
  let c0_4207 : Index := 0#32
  ![v5652.toNat, 0, 0]

def k0_chk1003 (v5651 : BitVec 32) : Prop :=
  (∀ a, (k0_off1003 v5651) a + S1x1x256.size a ≤ S4001x1x256.size a)
theorem k0_off1003_inb : ∀ (v5651 : BitVec 32) (k0_hw1003 : k0_chk1003 v5651), ∀ a, (k0_off1003 v5651) a + S1x1x256.size a ≤ S4001x1x256.size a := fun v5651 k0_hw1003 => k0_hw1003

def k0_off1004 (v5655 : BitVec 32) : Fin 3 → Nat :=
  let v5656 : Index := Scalar.indexCast v5655
  let c0_4210 : Index := 0#32
  let c0_4211 : Index := 0#32
  ![v5656.toNat, 0, 0]

def k0_chk1004 (v5655 : BitVec 32) : Prop :=
  (∀ a, (k0_off1004 v5655) a + S1x1x256.size a ≤ S4001x1x256.size a)
theorem k0_off1004_inb : ∀ (v5655 : BitVec 32) (k0_hw1004 : k0_chk1004 v5655), ∀ a, (k0_off1004 v5655) a + S1x1x256.size a ≤ S4001x1x256.size a := fun v5655 k0_hw1004 => k0_hw1004

def k0_off1005 (v5659 : BitVec 32) : Fin 3 → Nat :=
  let v5660 : Index := Scalar.indexCast v5659
  let c0_4214 : Index := 0#32
  let c0_4215 : Index := 0#32
  ![v5660.toNat, 0, 0]

def k0_chk1005 (v5659 : BitVec 32) : Prop :=
  (∀ a, (k0_off1005 v5659) a + S1x1x256.size a ≤ S4001x1x256.size a)
theorem k0_off1005_inb : ∀ (v5659 : BitVec 32) (k0_hw1005 : k0_chk1005 v5659), ∀ a, (k0_off1005 v5659) a + S1x1x256.size a ≤ S4001x1x256.size a := fun v5659 k0_hw1005 => k0_hw1005

def k0_off1006 (v5663 : BitVec 32) : Fin 3 → Nat :=
  let v5664 : Index := Scalar.indexCast v5663
  let c0_4218 : Index := 0#32
  let c0_4219 : Index := 0#32
  ![v5664.toNat, 0, 0]

def k0_chk1006 (v5663 : BitVec 32) : Prop :=
  (∀ a, (k0_off1006 v5663) a + S1x1x256.size a ≤ S4001x1x256.size a)
theorem k0_off1006_inb : ∀ (v5663 : BitVec 32) (k0_hw1006 : k0_chk1006 v5663), ∀ a, (k0_off1006 v5663) a + S1x1x256.size a ≤ S4001x1x256.size a := fun v5663 k0_hw1006 => k0_hw1006

def k0_off1007 (v5667 : BitVec 32) : Fin 3 → Nat :=
  let v5668 : Index := Scalar.indexCast v5667
  let c0_4222 : Index := 0#32
  let c0_4223 : Index := 0#32
  ![v5668.toNat, 0, 0]

def k0_chk1007 (v5667 : BitVec 32) : Prop :=
  (∀ a, (k0_off1007 v5667) a + S1x1x256.size a ≤ S4001x1x256.size a)
theorem k0_off1007_inb : ∀ (v5667 : BitVec 32) (k0_hw1007 : k0_chk1007 v5667), ∀ a, (k0_off1007 v5667) a + S1x1x256.size a ≤ S4001x1x256.size a := fun v5667 k0_hw1007 => k0_hw1007

def k0_off1008 (v5671 : BitVec 32) : Fin 3 → Nat :=
  let v5672 : Index := Scalar.indexCast v5671
  let c0_4226 : Index := 0#32
  let c0_4227 : Index := 0#32
  ![v5672.toNat, 0, 0]

def k0_chk1008 (v5671 : BitVec 32) : Prop :=
  (∀ a, (k0_off1008 v5671) a + S1x1x256.size a ≤ S4001x1x256.size a)
theorem k0_off1008_inb : ∀ (v5671 : BitVec 32) (k0_hw1008 : k0_chk1008 v5671), ∀ a, (k0_off1008 v5671) a + S1x1x256.size a ≤ S4001x1x256.size a := fun v5671 k0_hw1008 => k0_hw1008

def k0_off1009 (v5675 : BitVec 32) : Fin 3 → Nat :=
  let v5676 : Index := Scalar.indexCast v5675
  let c0_4230 : Index := 0#32
  let c0_4231 : Index := 0#32
  ![v5676.toNat, 0, 0]

def k0_chk1009 (v5675 : BitVec 32) : Prop :=
  (∀ a, (k0_off1009 v5675) a + S1x1x256.size a ≤ S4001x1x256.size a)
theorem k0_off1009_inb : ∀ (v5675 : BitVec 32) (k0_hw1009 : k0_chk1009 v5675), ∀ a, (k0_off1009 v5675) a + S1x1x256.size a ≤ S4001x1x256.size a := fun v5675 k0_hw1009 => k0_hw1009

def k0_off1010 (v5679 : BitVec 32) : Fin 3 → Nat :=
  let v5680 : Index := Scalar.indexCast v5679
  let c0_4234 : Index := 0#32
  let c0_4235 : Index := 0#32
  ![v5680.toNat, 0, 0]

def k0_chk1010 (v5679 : BitVec 32) : Prop :=
  (∀ a, (k0_off1010 v5679) a + S1x1x256.size a ≤ S4001x1x256.size a)
theorem k0_off1010_inb : ∀ (v5679 : BitVec 32) (k0_hw1010 : k0_chk1010 v5679), ∀ a, (k0_off1010 v5679) a + S1x1x256.size a ≤ S4001x1x256.size a := fun v5679 k0_hw1010 => k0_hw1010

def k0_off1011 (v5683 : BitVec 32) : Fin 3 → Nat :=
  let v5684 : Index := Scalar.indexCast v5683
  let c0_4238 : Index := 0#32
  let c0_4239 : Index := 0#32
  ![v5684.toNat, 0, 0]

def k0_chk1011 (v5683 : BitVec 32) : Prop :=
  (∀ a, (k0_off1011 v5683) a + S1x1x256.size a ≤ S4001x1x256.size a)
theorem k0_off1011_inb : ∀ (v5683 : BitVec 32) (k0_hw1011 : k0_chk1011 v5683), ∀ a, (k0_off1011 v5683) a + S1x1x256.size a ≤ S4001x1x256.size a := fun v5683 k0_hw1011 => k0_hw1011

def k0_off1012 (v5687 : BitVec 32) : Fin 3 → Nat :=
  let v5688 : Index := Scalar.indexCast v5687
  let c0_4242 : Index := 0#32
  let c0_4243 : Index := 0#32
  ![v5688.toNat, 0, 0]

def k0_chk1012 (v5687 : BitVec 32) : Prop :=
  (∀ a, (k0_off1012 v5687) a + S1x1x256.size a ≤ S4001x1x256.size a)
theorem k0_off1012_inb : ∀ (v5687 : BitVec 32) (k0_hw1012 : k0_chk1012 v5687), ∀ a, (k0_off1012 v5687) a + S1x1x256.size a ≤ S4001x1x256.size a := fun v5687 k0_hw1012 => k0_hw1012

def k0_off1013 (v5691 : BitVec 32) : Fin 3 → Nat :=
  let v5692 : Index := Scalar.indexCast v5691
  let c0_4246 : Index := 0#32
  let c0_4247 : Index := 0#32
  ![v5692.toNat, 0, 0]

def k0_chk1013 (v5691 : BitVec 32) : Prop :=
  (∀ a, (k0_off1013 v5691) a + S1x1x256.size a ≤ S4001x1x256.size a)
theorem k0_off1013_inb : ∀ (v5691 : BitVec 32) (k0_hw1013 : k0_chk1013 v5691), ∀ a, (k0_off1013 v5691) a + S1x1x256.size a ≤ S4001x1x256.size a := fun v5691 k0_hw1013 => k0_hw1013

def k0_off1014 (v5695 : BitVec 32) : Fin 3 → Nat :=
  let v5696 : Index := Scalar.indexCast v5695
  let c0_4250 : Index := 0#32
  let c0_4251 : Index := 0#32
  ![v5696.toNat, 0, 0]

def k0_chk1014 (v5695 : BitVec 32) : Prop :=
  (∀ a, (k0_off1014 v5695) a + S1x1x256.size a ≤ S4001x1x256.size a)
theorem k0_off1014_inb : ∀ (v5695 : BitVec 32) (k0_hw1014 : k0_chk1014 v5695), ∀ a, (k0_off1014 v5695) a + S1x1x256.size a ≤ S4001x1x256.size a := fun v5695 k0_hw1014 => k0_hw1014

def k0_off1015 (v5699 : BitVec 32) : Fin 3 → Nat :=
  let v5700 : Index := Scalar.indexCast v5699
  let c0_4254 : Index := 0#32
  let c0_4255 : Index := 0#32
  ![v5700.toNat, 0, 0]

def k0_chk1015 (v5699 : BitVec 32) : Prop :=
  (∀ a, (k0_off1015 v5699) a + S1x1x256.size a ≤ S4001x1x256.size a)
theorem k0_off1015_inb : ∀ (v5699 : BitVec 32) (k0_hw1015 : k0_chk1015 v5699), ∀ a, (k0_off1015 v5699) a + S1x1x256.size a ≤ S4001x1x256.size a := fun v5699 k0_hw1015 => k0_hw1015

def k0_off1016 (v5703 : BitVec 32) : Fin 3 → Nat :=
  let v5704 : Index := Scalar.indexCast v5703
  let c0_4258 : Index := 0#32
  let c0_4259 : Index := 0#32
  ![v5704.toNat, 0, 0]

def k0_chk1016 (v5703 : BitVec 32) : Prop :=
  (∀ a, (k0_off1016 v5703) a + S1x1x256.size a ≤ S4001x1x256.size a)
theorem k0_off1016_inb : ∀ (v5703 : BitVec 32) (k0_hw1016 : k0_chk1016 v5703), ∀ a, (k0_off1016 v5703) a + S1x1x256.size a ≤ S4001x1x256.size a := fun v5703 k0_hw1016 => k0_hw1016

def k0_off1017 (v5707 : BitVec 32) : Fin 3 → Nat :=
  let v5708 : Index := Scalar.indexCast v5707
  let c0_4262 : Index := 0#32
  let c0_4263 : Index := 0#32
  ![v5708.toNat, 0, 0]

def k0_chk1017 (v5707 : BitVec 32) : Prop :=
  (∀ a, (k0_off1017 v5707) a + S1x1x256.size a ≤ S4001x1x256.size a)
theorem k0_off1017_inb : ∀ (v5707 : BitVec 32) (k0_hw1017 : k0_chk1017 v5707), ∀ a, (k0_off1017 v5707) a + S1x1x256.size a ≤ S4001x1x256.size a := fun v5707 k0_hw1017 => k0_hw1017

def k0_off1018 (v5711 : BitVec 32) : Fin 3 → Nat :=
  let v5712 : Index := Scalar.indexCast v5711
  let c0_4266 : Index := 0#32
  let c0_4267 : Index := 0#32
  ![v5712.toNat, 0, 0]

def k0_chk1018 (v5711 : BitVec 32) : Prop :=
  (∀ a, (k0_off1018 v5711) a + S1x1x256.size a ≤ S4001x1x256.size a)
theorem k0_off1018_inb : ∀ (v5711 : BitVec 32) (k0_hw1018 : k0_chk1018 v5711), ∀ a, (k0_off1018 v5711) a + S1x1x256.size a ≤ S4001x1x256.size a := fun v5711 k0_hw1018 => k0_hw1018

def k0_off1019 (v5715 : BitVec 32) : Fin 3 → Nat :=
  let v5716 : Index := Scalar.indexCast v5715
  let c0_4270 : Index := 0#32
  let c0_4271 : Index := 0#32
  ![v5716.toNat, 0, 0]

def k0_chk1019 (v5715 : BitVec 32) : Prop :=
  (∀ a, (k0_off1019 v5715) a + S1x1x256.size a ≤ S4001x1x256.size a)
theorem k0_off1019_inb : ∀ (v5715 : BitVec 32) (k0_hw1019 : k0_chk1019 v5715), ∀ a, (k0_off1019 v5715) a + S1x1x256.size a ≤ S4001x1x256.size a := fun v5715 k0_hw1019 => k0_hw1019

def k0_off1020 (v5719 : BitVec 32) : Fin 3 → Nat :=
  let v5720 : Index := Scalar.indexCast v5719
  let c0_4274 : Index := 0#32
  let c0_4275 : Index := 0#32
  ![v5720.toNat, 0, 0]

def k0_chk1020 (v5719 : BitVec 32) : Prop :=
  (∀ a, (k0_off1020 v5719) a + S1x1x256.size a ≤ S4001x1x256.size a)
theorem k0_off1020_inb : ∀ (v5719 : BitVec 32) (k0_hw1020 : k0_chk1020 v5719), ∀ a, (k0_off1020 v5719) a + S1x1x256.size a ≤ S4001x1x256.size a := fun v5719 k0_hw1020 => k0_hw1020

def k0_off1021 (v5775 : BitVec 32) : Fin 3 → Nat :=
  let v5776 : Index := Scalar.indexCast v5775
  let c0_4288 : Index := 0#32
  let c0_4289 : Index := 0#32
  ![v5776.toNat, 0, 0]

def k0_chk1021 (v5775 : BitVec 32) : Prop :=
  (∀ a, (k0_off1021 v5775) a + S1x1x256.size a ≤ S4001x1x256.size a)
theorem k0_off1021_inb : ∀ (v5775 : BitVec 32) (k0_hw1021 : k0_chk1021 v5775), ∀ a, (k0_off1021 v5775) a + S1x1x256.size a ≤ S4001x1x256.size a := fun v5775 k0_hw1021 => k0_hw1021

def k0_off1022 (v5779 : BitVec 32) : Fin 3 → Nat :=
  let v5780 : Index := Scalar.indexCast v5779
  let c0_4292 : Index := 0#32
  let c0_4293 : Index := 0#32
  ![v5780.toNat, 0, 0]

def k0_chk1022 (v5779 : BitVec 32) : Prop :=
  (∀ a, (k0_off1022 v5779) a + S1x1x256.size a ≤ S4001x1x256.size a)
theorem k0_off1022_inb : ∀ (v5779 : BitVec 32) (k0_hw1022 : k0_chk1022 v5779), ∀ a, (k0_off1022 v5779) a + S1x1x256.size a ≤ S4001x1x256.size a := fun v5779 k0_hw1022 => k0_hw1022

def k0_off1023 (v5783 : BitVec 32) : Fin 3 → Nat :=
  let v5784 : Index := Scalar.indexCast v5783
  let c0_4296 : Index := 0#32
  let c0_4297 : Index := 0#32
  ![v5784.toNat, 0, 0]

def k0_chk1023 (v5783 : BitVec 32) : Prop :=
  (∀ a, (k0_off1023 v5783) a + S1x1x256.size a ≤ S4001x1x256.size a)
theorem k0_off1023_inb : ∀ (v5783 : BitVec 32) (k0_hw1023 : k0_chk1023 v5783), ∀ a, (k0_off1023 v5783) a + S1x1x256.size a ≤ S4001x1x256.size a := fun v5783 k0_hw1023 => k0_hw1023

def k0_off1024 (v5787 : BitVec 32) : Fin 3 → Nat :=
  let v5788 : Index := Scalar.indexCast v5787
  let c0_4300 : Index := 0#32
  let c0_4301 : Index := 0#32
  ![v5788.toNat, 0, 0]

def k0_chk1024 (v5787 : BitVec 32) : Prop :=
  (∀ a, (k0_off1024 v5787) a + S1x1x256.size a ≤ S4001x1x256.size a)
theorem k0_off1024_inb : ∀ (v5787 : BitVec 32) (k0_hw1024 : k0_chk1024 v5787), ∀ a, (k0_off1024 v5787) a + S1x1x256.size a ≤ S4001x1x256.size a := fun v5787 k0_hw1024 => k0_hw1024

def k0_off1025 (v5791 : BitVec 32) : Fin 3 → Nat :=
  let v5792 : Index := Scalar.indexCast v5791
  let c0_4304 : Index := 0#32
  let c0_4305 : Index := 0#32
  ![v5792.toNat, 0, 0]

def k0_chk1025 (v5791 : BitVec 32) : Prop :=
  (∀ a, (k0_off1025 v5791) a + S1x1x256.size a ≤ S4001x1x256.size a)
theorem k0_off1025_inb : ∀ (v5791 : BitVec 32) (k0_hw1025 : k0_chk1025 v5791), ∀ a, (k0_off1025 v5791) a + S1x1x256.size a ≤ S4001x1x256.size a := fun v5791 k0_hw1025 => k0_hw1025

def k0_off1026 (v5795 : BitVec 32) : Fin 3 → Nat :=
  let v5796 : Index := Scalar.indexCast v5795
  let c0_4308 : Index := 0#32
  let c0_4309 : Index := 0#32
  ![v5796.toNat, 0, 0]

def k0_chk1026 (v5795 : BitVec 32) : Prop :=
  (∀ a, (k0_off1026 v5795) a + S1x1x256.size a ≤ S4001x1x256.size a)
theorem k0_off1026_inb : ∀ (v5795 : BitVec 32) (k0_hw1026 : k0_chk1026 v5795), ∀ a, (k0_off1026 v5795) a + S1x1x256.size a ≤ S4001x1x256.size a := fun v5795 k0_hw1026 => k0_hw1026

def k0_off1027 (v5799 : BitVec 32) : Fin 3 → Nat :=
  let v5800 : Index := Scalar.indexCast v5799
  let c0_4312 : Index := 0#32
  let c0_4313 : Index := 0#32
  ![v5800.toNat, 0, 0]

def k0_chk1027 (v5799 : BitVec 32) : Prop :=
  (∀ a, (k0_off1027 v5799) a + S1x1x256.size a ≤ S4001x1x256.size a)
theorem k0_off1027_inb : ∀ (v5799 : BitVec 32) (k0_hw1027 : k0_chk1027 v5799), ∀ a, (k0_off1027 v5799) a + S1x1x256.size a ≤ S4001x1x256.size a := fun v5799 k0_hw1027 => k0_hw1027

def k0_off1028 (v5803 : BitVec 32) : Fin 3 → Nat :=
  let v5804 : Index := Scalar.indexCast v5803
  let c0_4316 : Index := 0#32
  let c0_4317 : Index := 0#32
  ![v5804.toNat, 0, 0]

def k0_chk1028 (v5803 : BitVec 32) : Prop :=
  (∀ a, (k0_off1028 v5803) a + S1x1x256.size a ≤ S4001x1x256.size a)
theorem k0_off1028_inb : ∀ (v5803 : BitVec 32) (k0_hw1028 : k0_chk1028 v5803), ∀ a, (k0_off1028 v5803) a + S1x1x256.size a ≤ S4001x1x256.size a := fun v5803 k0_hw1028 => k0_hw1028

def k0_off1029 (v5807 : BitVec 32) : Fin 3 → Nat :=
  let v5808 : Index := Scalar.indexCast v5807
  let c0_4320 : Index := 0#32
  let c0_4321 : Index := 0#32
  ![v5808.toNat, 0, 0]

def k0_chk1029 (v5807 : BitVec 32) : Prop :=
  (∀ a, (k0_off1029 v5807) a + S1x1x256.size a ≤ S4001x1x256.size a)
theorem k0_off1029_inb : ∀ (v5807 : BitVec 32) (k0_hw1029 : k0_chk1029 v5807), ∀ a, (k0_off1029 v5807) a + S1x1x256.size a ≤ S4001x1x256.size a := fun v5807 k0_hw1029 => k0_hw1029

def k0_off1030 (v5811 : BitVec 32) : Fin 3 → Nat :=
  let v5812 : Index := Scalar.indexCast v5811
  let c0_4324 : Index := 0#32
  let c0_4325 : Index := 0#32
  ![v5812.toNat, 0, 0]

def k0_chk1030 (v5811 : BitVec 32) : Prop :=
  (∀ a, (k0_off1030 v5811) a + S1x1x256.size a ≤ S4001x1x256.size a)
theorem k0_off1030_inb : ∀ (v5811 : BitVec 32) (k0_hw1030 : k0_chk1030 v5811), ∀ a, (k0_off1030 v5811) a + S1x1x256.size a ≤ S4001x1x256.size a := fun v5811 k0_hw1030 => k0_hw1030

def k0_off1031 (v5815 : BitVec 32) : Fin 3 → Nat :=
  let v5816 : Index := Scalar.indexCast v5815
  let c0_4328 : Index := 0#32
  let c0_4329 : Index := 0#32
  ![v5816.toNat, 0, 0]

def k0_chk1031 (v5815 : BitVec 32) : Prop :=
  (∀ a, (k0_off1031 v5815) a + S1x1x256.size a ≤ S4001x1x256.size a)
theorem k0_off1031_inb : ∀ (v5815 : BitVec 32) (k0_hw1031 : k0_chk1031 v5815), ∀ a, (k0_off1031 v5815) a + S1x1x256.size a ≤ S4001x1x256.size a := fun v5815 k0_hw1031 => k0_hw1031

def k0_off1032 (v5819 : BitVec 32) : Fin 3 → Nat :=
  let v5820 : Index := Scalar.indexCast v5819
  let c0_4332 : Index := 0#32
  let c0_4333 : Index := 0#32
  ![v5820.toNat, 0, 0]

def k0_chk1032 (v5819 : BitVec 32) : Prop :=
  (∀ a, (k0_off1032 v5819) a + S1x1x256.size a ≤ S4001x1x256.size a)
theorem k0_off1032_inb : ∀ (v5819 : BitVec 32) (k0_hw1032 : k0_chk1032 v5819), ∀ a, (k0_off1032 v5819) a + S1x1x256.size a ≤ S4001x1x256.size a := fun v5819 k0_hw1032 => k0_hw1032

def k0_off1033 (v5823 : BitVec 32) : Fin 3 → Nat :=
  let v5824 : Index := Scalar.indexCast v5823
  let c0_4336 : Index := 0#32
  let c0_4337 : Index := 0#32
  ![v5824.toNat, 0, 0]

def k0_chk1033 (v5823 : BitVec 32) : Prop :=
  (∀ a, (k0_off1033 v5823) a + S1x1x256.size a ≤ S4001x1x256.size a)
theorem k0_off1033_inb : ∀ (v5823 : BitVec 32) (k0_hw1033 : k0_chk1033 v5823), ∀ a, (k0_off1033 v5823) a + S1x1x256.size a ≤ S4001x1x256.size a := fun v5823 k0_hw1033 => k0_hw1033

def k0_off1034 (v5827 : BitVec 32) : Fin 3 → Nat :=
  let v5828 : Index := Scalar.indexCast v5827
  let c0_4340 : Index := 0#32
  let c0_4341 : Index := 0#32
  ![v5828.toNat, 0, 0]

def k0_chk1034 (v5827 : BitVec 32) : Prop :=
  (∀ a, (k0_off1034 v5827) a + S1x1x256.size a ≤ S4001x1x256.size a)
theorem k0_off1034_inb : ∀ (v5827 : BitVec 32) (k0_hw1034 : k0_chk1034 v5827), ∀ a, (k0_off1034 v5827) a + S1x1x256.size a ≤ S4001x1x256.size a := fun v5827 k0_hw1034 => k0_hw1034

def k0_off1035 (v5831 : BitVec 32) : Fin 3 → Nat :=
  let v5832 : Index := Scalar.indexCast v5831
  let c0_4344 : Index := 0#32
  let c0_4345 : Index := 0#32
  ![v5832.toNat, 0, 0]

def k0_chk1035 (v5831 : BitVec 32) : Prop :=
  (∀ a, (k0_off1035 v5831) a + S1x1x256.size a ≤ S4001x1x256.size a)
theorem k0_off1035_inb : ∀ (v5831 : BitVec 32) (k0_hw1035 : k0_chk1035 v5831), ∀ a, (k0_off1035 v5831) a + S1x1x256.size a ≤ S4001x1x256.size a := fun v5831 k0_hw1035 => k0_hw1035

def k0_off1036 (v5835 : BitVec 32) : Fin 3 → Nat :=
  let v5836 : Index := Scalar.indexCast v5835
  let c0_4348 : Index := 0#32
  let c0_4349 : Index := 0#32
  ![v5836.toNat, 0, 0]

def k0_chk1036 (v5835 : BitVec 32) : Prop :=
  (∀ a, (k0_off1036 v5835) a + S1x1x256.size a ≤ S4001x1x256.size a)
theorem k0_off1036_inb : ∀ (v5835 : BitVec 32) (k0_hw1036 : k0_chk1036 v5835), ∀ a, (k0_off1036 v5835) a + S1x1x256.size a ≤ S4001x1x256.size a := fun v5835 k0_hw1036 => k0_hw1036

def k0_off1037 (v5839 : BitVec 32) : Fin 3 → Nat :=
  let v5840 : Index := Scalar.indexCast v5839
  let c0_4352 : Index := 0#32
  let c0_4353 : Index := 0#32
  ![v5840.toNat, 0, 0]

def k0_chk1037 (v5839 : BitVec 32) : Prop :=
  (∀ a, (k0_off1037 v5839) a + S1x1x256.size a ≤ S4001x1x256.size a)
theorem k0_off1037_inb : ∀ (v5839 : BitVec 32) (k0_hw1037 : k0_chk1037 v5839), ∀ a, (k0_off1037 v5839) a + S1x1x256.size a ≤ S4001x1x256.size a := fun v5839 k0_hw1037 => k0_hw1037

def k0_off1038 (v5843 : BitVec 32) : Fin 3 → Nat :=
  let v5844 : Index := Scalar.indexCast v5843
  let c0_4356 : Index := 0#32
  let c0_4357 : Index := 0#32
  ![v5844.toNat, 0, 0]

def k0_chk1038 (v5843 : BitVec 32) : Prop :=
  (∀ a, (k0_off1038 v5843) a + S1x1x256.size a ≤ S4001x1x256.size a)
theorem k0_off1038_inb : ∀ (v5843 : BitVec 32) (k0_hw1038 : k0_chk1038 v5843), ∀ a, (k0_off1038 v5843) a + S1x1x256.size a ≤ S4001x1x256.size a := fun v5843 k0_hw1038 => k0_hw1038

def k0_off1039 (v5847 : BitVec 32) : Fin 3 → Nat :=
  let v5848 : Index := Scalar.indexCast v5847
  let c0_4360 : Index := 0#32
  let c0_4361 : Index := 0#32
  ![v5848.toNat, 0, 0]

def k0_chk1039 (v5847 : BitVec 32) : Prop :=
  (∀ a, (k0_off1039 v5847) a + S1x1x256.size a ≤ S4001x1x256.size a)
theorem k0_off1039_inb : ∀ (v5847 : BitVec 32) (k0_hw1039 : k0_chk1039 v5847), ∀ a, (k0_off1039 v5847) a + S1x1x256.size a ≤ S4001x1x256.size a := fun v5847 k0_hw1039 => k0_hw1039

def k0_off1040 (v5851 : BitVec 32) : Fin 3 → Nat :=
  let v5852 : Index := Scalar.indexCast v5851
  let c0_4364 : Index := 0#32
  let c0_4365 : Index := 0#32
  ![v5852.toNat, 0, 0]

def k0_chk1040 (v5851 : BitVec 32) : Prop :=
  (∀ a, (k0_off1040 v5851) a + S1x1x256.size a ≤ S4001x1x256.size a)
theorem k0_off1040_inb : ∀ (v5851 : BitVec 32) (k0_hw1040 : k0_chk1040 v5851), ∀ a, (k0_off1040 v5851) a + S1x1x256.size a ≤ S4001x1x256.size a := fun v5851 k0_hw1040 => k0_hw1040

def k0_off1041 (v5855 : BitVec 32) : Fin 3 → Nat :=
  let v5856 : Index := Scalar.indexCast v5855
  let c0_4368 : Index := 0#32
  let c0_4369 : Index := 0#32
  ![v5856.toNat, 0, 0]

def k0_chk1041 (v5855 : BitVec 32) : Prop :=
  (∀ a, (k0_off1041 v5855) a + S1x1x256.size a ≤ S4001x1x256.size a)
theorem k0_off1041_inb : ∀ (v5855 : BitVec 32) (k0_hw1041 : k0_chk1041 v5855), ∀ a, (k0_off1041 v5855) a + S1x1x256.size a ≤ S4001x1x256.size a := fun v5855 k0_hw1041 => k0_hw1041

def k0_off1042 (v5859 : BitVec 32) : Fin 3 → Nat :=
  let v5860 : Index := Scalar.indexCast v5859
  let c0_4372 : Index := 0#32
  let c0_4373 : Index := 0#32
  ![v5860.toNat, 0, 0]

def k0_chk1042 (v5859 : BitVec 32) : Prop :=
  (∀ a, (k0_off1042 v5859) a + S1x1x256.size a ≤ S4001x1x256.size a)
theorem k0_off1042_inb : ∀ (v5859 : BitVec 32) (k0_hw1042 : k0_chk1042 v5859), ∀ a, (k0_off1042 v5859) a + S1x1x256.size a ≤ S4001x1x256.size a := fun v5859 k0_hw1042 => k0_hw1042

def k0_off1043 (v5863 : BitVec 32) : Fin 3 → Nat :=
  let v5864 : Index := Scalar.indexCast v5863
  let c0_4376 : Index := 0#32
  let c0_4377 : Index := 0#32
  ![v5864.toNat, 0, 0]

def k0_chk1043 (v5863 : BitVec 32) : Prop :=
  (∀ a, (k0_off1043 v5863) a + S1x1x256.size a ≤ S4001x1x256.size a)
theorem k0_off1043_inb : ∀ (v5863 : BitVec 32) (k0_hw1043 : k0_chk1043 v5863), ∀ a, (k0_off1043 v5863) a + S1x1x256.size a ≤ S4001x1x256.size a := fun v5863 k0_hw1043 => k0_hw1043

def k0_off1044 (v5867 : BitVec 32) : Fin 3 → Nat :=
  let v5868 : Index := Scalar.indexCast v5867
  let c0_4380 : Index := 0#32
  let c0_4381 : Index := 0#32
  ![v5868.toNat, 0, 0]

def k0_chk1044 (v5867 : BitVec 32) : Prop :=
  (∀ a, (k0_off1044 v5867) a + S1x1x256.size a ≤ S4001x1x256.size a)
theorem k0_off1044_inb : ∀ (v5867 : BitVec 32) (k0_hw1044 : k0_chk1044 v5867), ∀ a, (k0_off1044 v5867) a + S1x1x256.size a ≤ S4001x1x256.size a := fun v5867 k0_hw1044 => k0_hw1044

def k0_off1045 (v5871 : BitVec 32) : Fin 3 → Nat :=
  let v5872 : Index := Scalar.indexCast v5871
  let c0_4384 : Index := 0#32
  let c0_4385 : Index := 0#32
  ![v5872.toNat, 0, 0]

def k0_chk1045 (v5871 : BitVec 32) : Prop :=
  (∀ a, (k0_off1045 v5871) a + S1x1x256.size a ≤ S4001x1x256.size a)
theorem k0_off1045_inb : ∀ (v5871 : BitVec 32) (k0_hw1045 : k0_chk1045 v5871), ∀ a, (k0_off1045 v5871) a + S1x1x256.size a ≤ S4001x1x256.size a := fun v5871 k0_hw1045 => k0_hw1045

def k0_off1046 (v5875 : BitVec 32) : Fin 3 → Nat :=
  let v5876 : Index := Scalar.indexCast v5875
  let c0_4388 : Index := 0#32
  let c0_4389 : Index := 0#32
  ![v5876.toNat, 0, 0]

def k0_chk1046 (v5875 : BitVec 32) : Prop :=
  (∀ a, (k0_off1046 v5875) a + S1x1x256.size a ≤ S4001x1x256.size a)
theorem k0_off1046_inb : ∀ (v5875 : BitVec 32) (k0_hw1046 : k0_chk1046 v5875), ∀ a, (k0_off1046 v5875) a + S1x1x256.size a ≤ S4001x1x256.size a := fun v5875 k0_hw1046 => k0_hw1046

def k0_off1047 (v5879 : BitVec 32) : Fin 3 → Nat :=
  let v5880 : Index := Scalar.indexCast v5879
  let c0_4392 : Index := 0#32
  let c0_4393 : Index := 0#32
  ![v5880.toNat, 0, 0]

def k0_chk1047 (v5879 : BitVec 32) : Prop :=
  (∀ a, (k0_off1047 v5879) a + S1x1x256.size a ≤ S4001x1x256.size a)
theorem k0_off1047_inb : ∀ (v5879 : BitVec 32) (k0_hw1047 : k0_chk1047 v5879), ∀ a, (k0_off1047 v5879) a + S1x1x256.size a ≤ S4001x1x256.size a := fun v5879 k0_hw1047 => k0_hw1047

def k0_off1048 (v5883 : BitVec 32) : Fin 3 → Nat :=
  let v5884 : Index := Scalar.indexCast v5883
  let c0_4396 : Index := 0#32
  let c0_4397 : Index := 0#32
  ![v5884.toNat, 0, 0]

def k0_chk1048 (v5883 : BitVec 32) : Prop :=
  (∀ a, (k0_off1048 v5883) a + S1x1x256.size a ≤ S4001x1x256.size a)
theorem k0_off1048_inb : ∀ (v5883 : BitVec 32) (k0_hw1048 : k0_chk1048 v5883), ∀ a, (k0_off1048 v5883) a + S1x1x256.size a ≤ S4001x1x256.size a := fun v5883 k0_hw1048 => k0_hw1048

def k0_off1049 (v5887 : BitVec 32) : Fin 3 → Nat :=
  let v5888 : Index := Scalar.indexCast v5887
  let c0_4400 : Index := 0#32
  let c0_4401 : Index := 0#32
  ![v5888.toNat, 0, 0]

def k0_chk1049 (v5887 : BitVec 32) : Prop :=
  (∀ a, (k0_off1049 v5887) a + S1x1x256.size a ≤ S4001x1x256.size a)
theorem k0_off1049_inb : ∀ (v5887 : BitVec 32) (k0_hw1049 : k0_chk1049 v5887), ∀ a, (k0_off1049 v5887) a + S1x1x256.size a ≤ S4001x1x256.size a := fun v5887 k0_hw1049 => k0_hw1049

def k0_off1050 (v5891 : BitVec 32) : Fin 3 → Nat :=
  let v5892 : Index := Scalar.indexCast v5891
  let c0_4404 : Index := 0#32
  let c0_4405 : Index := 0#32
  ![v5892.toNat, 0, 0]

def k0_chk1050 (v5891 : BitVec 32) : Prop :=
  (∀ a, (k0_off1050 v5891) a + S1x1x256.size a ≤ S4001x1x256.size a)
theorem k0_off1050_inb : ∀ (v5891 : BitVec 32) (k0_hw1050 : k0_chk1050 v5891), ∀ a, (k0_off1050 v5891) a + S1x1x256.size a ≤ S4001x1x256.size a := fun v5891 k0_hw1050 => k0_hw1050

def k0_off1051 (v5895 : BitVec 32) : Fin 3 → Nat :=
  let v5896 : Index := Scalar.indexCast v5895
  let c0_4408 : Index := 0#32
  let c0_4409 : Index := 0#32
  ![v5896.toNat, 0, 0]

def k0_chk1051 (v5895 : BitVec 32) : Prop :=
  (∀ a, (k0_off1051 v5895) a + S1x1x256.size a ≤ S4001x1x256.size a)
theorem k0_off1051_inb : ∀ (v5895 : BitVec 32) (k0_hw1051 : k0_chk1051 v5895), ∀ a, (k0_off1051 v5895) a + S1x1x256.size a ≤ S4001x1x256.size a := fun v5895 k0_hw1051 => k0_hw1051

def k0_off1052 (v5899 : BitVec 32) : Fin 3 → Nat :=
  let v5900 : Index := Scalar.indexCast v5899
  let c0_4412 : Index := 0#32
  let c0_4413 : Index := 0#32
  ![v5900.toNat, 0, 0]

def k0_chk1052 (v5899 : BitVec 32) : Prop :=
  (∀ a, (k0_off1052 v5899) a + S1x1x256.size a ≤ S4001x1x256.size a)
theorem k0_off1052_inb : ∀ (v5899 : BitVec 32) (k0_hw1052 : k0_chk1052 v5899), ∀ a, (k0_off1052 v5899) a + S1x1x256.size a ≤ S4001x1x256.size a := fun v5899 k0_hw1052 => k0_hw1052

def k0_off1053 (v5903 : BitVec 32) : Fin 3 → Nat :=
  let v5904 : Index := Scalar.indexCast v5903
  let c0_4416 : Index := 0#32
  let c0_4417 : Index := 0#32
  ![v5904.toNat, 0, 0]

def k0_chk1053 (v5903 : BitVec 32) : Prop :=
  (∀ a, (k0_off1053 v5903) a + S1x1x256.size a ≤ S4001x1x256.size a)
theorem k0_off1053_inb : ∀ (v5903 : BitVec 32) (k0_hw1053 : k0_chk1053 v5903), ∀ a, (k0_off1053 v5903) a + S1x1x256.size a ≤ S4001x1x256.size a := fun v5903 k0_hw1053 => k0_hw1053

def k0_off1054 (v5907 : BitVec 32) : Fin 3 → Nat :=
  let v5908 : Index := Scalar.indexCast v5907
  let c0_4420 : Index := 0#32
  let c0_4421 : Index := 0#32
  ![v5908.toNat, 0, 0]

def k0_chk1054 (v5907 : BitVec 32) : Prop :=
  (∀ a, (k0_off1054 v5907) a + S1x1x256.size a ≤ S4001x1x256.size a)
theorem k0_off1054_inb : ∀ (v5907 : BitVec 32) (k0_hw1054 : k0_chk1054 v5907), ∀ a, (k0_off1054 v5907) a + S1x1x256.size a ≤ S4001x1x256.size a := fun v5907 k0_hw1054 => k0_hw1054

def k0_off1055 (v5911 : BitVec 32) : Fin 3 → Nat :=
  let v5912 : Index := Scalar.indexCast v5911
  let c0_4424 : Index := 0#32
  let c0_4425 : Index := 0#32
  ![v5912.toNat, 0, 0]

def k0_chk1055 (v5911 : BitVec 32) : Prop :=
  (∀ a, (k0_off1055 v5911) a + S1x1x256.size a ≤ S4001x1x256.size a)
theorem k0_off1055_inb : ∀ (v5911 : BitVec 32) (k0_hw1055 : k0_chk1055 v5911), ∀ a, (k0_off1055 v5911) a + S1x1x256.size a ≤ S4001x1x256.size a := fun v5911 k0_hw1055 => k0_hw1055

def k0_off1056 (v5915 : BitVec 32) : Fin 3 → Nat :=
  let v5916 : Index := Scalar.indexCast v5915
  let c0_4428 : Index := 0#32
  let c0_4429 : Index := 0#32
  ![v5916.toNat, 0, 0]

def k0_chk1056 (v5915 : BitVec 32) : Prop :=
  (∀ a, (k0_off1056 v5915) a + S1x1x256.size a ≤ S4001x1x256.size a)
theorem k0_off1056_inb : ∀ (v5915 : BitVec 32) (k0_hw1056 : k0_chk1056 v5915), ∀ a, (k0_off1056 v5915) a + S1x1x256.size a ≤ S4001x1x256.size a := fun v5915 k0_hw1056 => k0_hw1056

def k0_off1057 (v5919 : BitVec 32) : Fin 3 → Nat :=
  let v5920 : Index := Scalar.indexCast v5919
  let c0_4432 : Index := 0#32
  let c0_4433 : Index := 0#32
  ![v5920.toNat, 0, 0]

def k0_chk1057 (v5919 : BitVec 32) : Prop :=
  (∀ a, (k0_off1057 v5919) a + S1x1x256.size a ≤ S4001x1x256.size a)
theorem k0_off1057_inb : ∀ (v5919 : BitVec 32) (k0_hw1057 : k0_chk1057 v5919), ∀ a, (k0_off1057 v5919) a + S1x1x256.size a ≤ S4001x1x256.size a := fun v5919 k0_hw1057 => k0_hw1057

def k0_off1058 (v5923 : BitVec 32) : Fin 3 → Nat :=
  let v5924 : Index := Scalar.indexCast v5923
  let c0_4436 : Index := 0#32
  let c0_4437 : Index := 0#32
  ![v5924.toNat, 0, 0]

def k0_chk1058 (v5923 : BitVec 32) : Prop :=
  (∀ a, (k0_off1058 v5923) a + S1x1x256.size a ≤ S4001x1x256.size a)
theorem k0_off1058_inb : ∀ (v5923 : BitVec 32) (k0_hw1058 : k0_chk1058 v5923), ∀ a, (k0_off1058 v5923) a + S1x1x256.size a ≤ S4001x1x256.size a := fun v5923 k0_hw1058 => k0_hw1058

def k0_off1059 (v5927 : BitVec 32) : Fin 3 → Nat :=
  let v5928 : Index := Scalar.indexCast v5927
  let c0_4440 : Index := 0#32
  let c0_4441 : Index := 0#32
  ![v5928.toNat, 0, 0]

def k0_chk1059 (v5927 : BitVec 32) : Prop :=
  (∀ a, (k0_off1059 v5927) a + S1x1x256.size a ≤ S4001x1x256.size a)
theorem k0_off1059_inb : ∀ (v5927 : BitVec 32) (k0_hw1059 : k0_chk1059 v5927), ∀ a, (k0_off1059 v5927) a + S1x1x256.size a ≤ S4001x1x256.size a := fun v5927 k0_hw1059 => k0_hw1059

def k0_off1060 (v5931 : BitVec 32) : Fin 3 → Nat :=
  let v5932 : Index := Scalar.indexCast v5931
  let c0_4444 : Index := 0#32
  let c0_4445 : Index := 0#32
  ![v5932.toNat, 0, 0]

def k0_chk1060 (v5931 : BitVec 32) : Prop :=
  (∀ a, (k0_off1060 v5931) a + S1x1x256.size a ≤ S4001x1x256.size a)
theorem k0_off1060_inb : ∀ (v5931 : BitVec 32) (k0_hw1060 : k0_chk1060 v5931), ∀ a, (k0_off1060 v5931) a + S1x1x256.size a ≤ S4001x1x256.size a := fun v5931 k0_hw1060 => k0_hw1060

def k0_off1061 (v5974 : BitVec 32) : Fin 3 → Nat :=
  let v5975 : Index := Scalar.indexCast v5974
  let c0_4448 : Index := 0#32
  let c0_4449 : Index := 0#32
  ![v5975.toNat, 0, 0]

def k0_chk1061 (v5974 : BitVec 32) : Prop :=
  (∀ a, (k0_off1061 v5974) a + S1x1x256.size a ≤ S4001x1x256.size a)
theorem k0_off1061_inb : ∀ (v5974 : BitVec 32) (k0_hw1061 : k0_chk1061 v5974), ∀ a, (k0_off1061 v5974) a + S1x1x256.size a ≤ S4001x1x256.size a := fun v5974 k0_hw1061 => k0_hw1061

def k0_off1062 (v5978 : BitVec 32) : Fin 3 → Nat :=
  let v5979 : Index := Scalar.indexCast v5978
  let c0_4452 : Index := 0#32
  let c0_4453 : Index := 0#32
  ![v5979.toNat, 0, 0]

def k0_chk1062 (v5978 : BitVec 32) : Prop :=
  (∀ a, (k0_off1062 v5978) a + S1x1x256.size a ≤ S4001x1x256.size a)
theorem k0_off1062_inb : ∀ (v5978 : BitVec 32) (k0_hw1062 : k0_chk1062 v5978), ∀ a, (k0_off1062 v5978) a + S1x1x256.size a ≤ S4001x1x256.size a := fun v5978 k0_hw1062 => k0_hw1062

def k0_off1063 (v5982 : BitVec 32) : Fin 3 → Nat :=
  let v5983 : Index := Scalar.indexCast v5982
  let c0_4456 : Index := 0#32
  let c0_4457 : Index := 0#32
  ![v5983.toNat, 0, 0]

def k0_chk1063 (v5982 : BitVec 32) : Prop :=
  (∀ a, (k0_off1063 v5982) a + S1x1x256.size a ≤ S4001x1x256.size a)
theorem k0_off1063_inb : ∀ (v5982 : BitVec 32) (k0_hw1063 : k0_chk1063 v5982), ∀ a, (k0_off1063 v5982) a + S1x1x256.size a ≤ S4001x1x256.size a := fun v5982 k0_hw1063 => k0_hw1063

def k0_off1064 (v5986 : BitVec 32) : Fin 3 → Nat :=
  let v5987 : Index := Scalar.indexCast v5986
  let c0_4460 : Index := 0#32
  let c0_4461 : Index := 0#32
  ![v5987.toNat, 0, 0]

def k0_chk1064 (v5986 : BitVec 32) : Prop :=
  (∀ a, (k0_off1064 v5986) a + S1x1x256.size a ≤ S4001x1x256.size a)
theorem k0_off1064_inb : ∀ (v5986 : BitVec 32) (k0_hw1064 : k0_chk1064 v5986), ∀ a, (k0_off1064 v5986) a + S1x1x256.size a ≤ S4001x1x256.size a := fun v5986 k0_hw1064 => k0_hw1064

def k0_off1065 (v5990 : BitVec 32) : Fin 3 → Nat :=
  let v5991 : Index := Scalar.indexCast v5990
  let c0_4464 : Index := 0#32
  let c0_4465 : Index := 0#32
  ![v5991.toNat, 0, 0]

def k0_chk1065 (v5990 : BitVec 32) : Prop :=
  (∀ a, (k0_off1065 v5990) a + S1x1x256.size a ≤ S4001x1x256.size a)
theorem k0_off1065_inb : ∀ (v5990 : BitVec 32) (k0_hw1065 : k0_chk1065 v5990), ∀ a, (k0_off1065 v5990) a + S1x1x256.size a ≤ S4001x1x256.size a := fun v5990 k0_hw1065 => k0_hw1065

def k0_off1066 (v5994 : BitVec 32) : Fin 3 → Nat :=
  let v5995 : Index := Scalar.indexCast v5994
  let c0_4468 : Index := 0#32
  let c0_4469 : Index := 0#32
  ![v5995.toNat, 0, 0]

def k0_chk1066 (v5994 : BitVec 32) : Prop :=
  (∀ a, (k0_off1066 v5994) a + S1x1x256.size a ≤ S4001x1x256.size a)
theorem k0_off1066_inb : ∀ (v5994 : BitVec 32) (k0_hw1066 : k0_chk1066 v5994), ∀ a, (k0_off1066 v5994) a + S1x1x256.size a ≤ S4001x1x256.size a := fun v5994 k0_hw1066 => k0_hw1066

def k0_off1067 (v5998 : BitVec 32) : Fin 3 → Nat :=
  let v5999 : Index := Scalar.indexCast v5998
  let c0_4472 : Index := 0#32
  let c0_4473 : Index := 0#32
  ![v5999.toNat, 0, 0]

def k0_chk1067 (v5998 : BitVec 32) : Prop :=
  (∀ a, (k0_off1067 v5998) a + S1x1x256.size a ≤ S4001x1x256.size a)
theorem k0_off1067_inb : ∀ (v5998 : BitVec 32) (k0_hw1067 : k0_chk1067 v5998), ∀ a, (k0_off1067 v5998) a + S1x1x256.size a ≤ S4001x1x256.size a := fun v5998 k0_hw1067 => k0_hw1067

def k0_off1068 (v6002 : BitVec 32) : Fin 3 → Nat :=
  let v6003 : Index := Scalar.indexCast v6002
  let c0_4476 : Index := 0#32
  let c0_4477 : Index := 0#32
  ![v6003.toNat, 0, 0]

def k0_chk1068 (v6002 : BitVec 32) : Prop :=
  (∀ a, (k0_off1068 v6002) a + S1x1x256.size a ≤ S4001x1x256.size a)
theorem k0_off1068_inb : ∀ (v6002 : BitVec 32) (k0_hw1068 : k0_chk1068 v6002), ∀ a, (k0_off1068 v6002) a + S1x1x256.size a ≤ S4001x1x256.size a := fun v6002 k0_hw1068 => k0_hw1068

def k0_off1069 (v6006 : BitVec 32) : Fin 3 → Nat :=
  let v6007 : Index := Scalar.indexCast v6006
  let c0_4480 : Index := 0#32
  let c0_4481 : Index := 0#32
  ![v6007.toNat, 0, 0]

def k0_chk1069 (v6006 : BitVec 32) : Prop :=
  (∀ a, (k0_off1069 v6006) a + S1x1x256.size a ≤ S4001x1x256.size a)
theorem k0_off1069_inb : ∀ (v6006 : BitVec 32) (k0_hw1069 : k0_chk1069 v6006), ∀ a, (k0_off1069 v6006) a + S1x1x256.size a ≤ S4001x1x256.size a := fun v6006 k0_hw1069 => k0_hw1069

def k0_off1070 (v6010 : BitVec 32) : Fin 3 → Nat :=
  let v6011 : Index := Scalar.indexCast v6010
  let c0_4484 : Index := 0#32
  let c0_4485 : Index := 0#32
  ![v6011.toNat, 0, 0]

def k0_chk1070 (v6010 : BitVec 32) : Prop :=
  (∀ a, (k0_off1070 v6010) a + S1x1x256.size a ≤ S4001x1x256.size a)
theorem k0_off1070_inb : ∀ (v6010 : BitVec 32) (k0_hw1070 : k0_chk1070 v6010), ∀ a, (k0_off1070 v6010) a + S1x1x256.size a ≤ S4001x1x256.size a := fun v6010 k0_hw1070 => k0_hw1070

def k0_off1071 (v6014 : BitVec 32) : Fin 3 → Nat :=
  let v6015 : Index := Scalar.indexCast v6014
  let c0_4488 : Index := 0#32
  let c0_4489 : Index := 0#32
  ![v6015.toNat, 0, 0]

def k0_chk1071 (v6014 : BitVec 32) : Prop :=
  (∀ a, (k0_off1071 v6014) a + S1x1x256.size a ≤ S4001x1x256.size a)
theorem k0_off1071_inb : ∀ (v6014 : BitVec 32) (k0_hw1071 : k0_chk1071 v6014), ∀ a, (k0_off1071 v6014) a + S1x1x256.size a ≤ S4001x1x256.size a := fun v6014 k0_hw1071 => k0_hw1071

def k0_off1072 (v6018 : BitVec 32) : Fin 3 → Nat :=
  let v6019 : Index := Scalar.indexCast v6018
  let c0_4492 : Index := 0#32
  let c0_4493 : Index := 0#32
  ![v6019.toNat, 0, 0]

def k0_chk1072 (v6018 : BitVec 32) : Prop :=
  (∀ a, (k0_off1072 v6018) a + S1x1x256.size a ≤ S4001x1x256.size a)
theorem k0_off1072_inb : ∀ (v6018 : BitVec 32) (k0_hw1072 : k0_chk1072 v6018), ∀ a, (k0_off1072 v6018) a + S1x1x256.size a ≤ S4001x1x256.size a := fun v6018 k0_hw1072 => k0_hw1072

def k0_off1073 (v6022 : BitVec 32) : Fin 3 → Nat :=
  let v6023 : Index := Scalar.indexCast v6022
  let c0_4496 : Index := 0#32
  let c0_4497 : Index := 0#32
  ![v6023.toNat, 0, 0]

def k0_chk1073 (v6022 : BitVec 32) : Prop :=
  (∀ a, (k0_off1073 v6022) a + S1x1x256.size a ≤ S4001x1x256.size a)
theorem k0_off1073_inb : ∀ (v6022 : BitVec 32) (k0_hw1073 : k0_chk1073 v6022), ∀ a, (k0_off1073 v6022) a + S1x1x256.size a ≤ S4001x1x256.size a := fun v6022 k0_hw1073 => k0_hw1073

def k0_off1074 (v6026 : BitVec 32) : Fin 3 → Nat :=
  let v6027 : Index := Scalar.indexCast v6026
  let c0_4500 : Index := 0#32
  let c0_4501 : Index := 0#32
  ![v6027.toNat, 0, 0]

def k0_chk1074 (v6026 : BitVec 32) : Prop :=
  (∀ a, (k0_off1074 v6026) a + S1x1x256.size a ≤ S4001x1x256.size a)
theorem k0_off1074_inb : ∀ (v6026 : BitVec 32) (k0_hw1074 : k0_chk1074 v6026), ∀ a, (k0_off1074 v6026) a + S1x1x256.size a ≤ S4001x1x256.size a := fun v6026 k0_hw1074 => k0_hw1074

def k0_off1075 (v6030 : BitVec 32) : Fin 3 → Nat :=
  let v6031 : Index := Scalar.indexCast v6030
  let c0_4504 : Index := 0#32
  let c0_4505 : Index := 0#32
  ![v6031.toNat, 0, 0]

def k0_chk1075 (v6030 : BitVec 32) : Prop :=
  (∀ a, (k0_off1075 v6030) a + S1x1x256.size a ≤ S4001x1x256.size a)
theorem k0_off1075_inb : ∀ (v6030 : BitVec 32) (k0_hw1075 : k0_chk1075 v6030), ∀ a, (k0_off1075 v6030) a + S1x1x256.size a ≤ S4001x1x256.size a := fun v6030 k0_hw1075 => k0_hw1075

def k0_off1076 (v6034 : BitVec 32) : Fin 3 → Nat :=
  let v6035 : Index := Scalar.indexCast v6034
  let c0_4508 : Index := 0#32
  let c0_4509 : Index := 0#32
  ![v6035.toNat, 0, 0]

def k0_chk1076 (v6034 : BitVec 32) : Prop :=
  (∀ a, (k0_off1076 v6034) a + S1x1x256.size a ≤ S4001x1x256.size a)
theorem k0_off1076_inb : ∀ (v6034 : BitVec 32) (k0_hw1076 : k0_chk1076 v6034), ∀ a, (k0_off1076 v6034) a + S1x1x256.size a ≤ S4001x1x256.size a := fun v6034 k0_hw1076 => k0_hw1076

def k0_off1077 (v6038 : BitVec 32) : Fin 3 → Nat :=
  let v6039 : Index := Scalar.indexCast v6038
  let c0_4512 : Index := 0#32
  let c0_4513 : Index := 0#32
  ![v6039.toNat, 0, 0]

def k0_chk1077 (v6038 : BitVec 32) : Prop :=
  (∀ a, (k0_off1077 v6038) a + S1x1x256.size a ≤ S4001x1x256.size a)
theorem k0_off1077_inb : ∀ (v6038 : BitVec 32) (k0_hw1077 : k0_chk1077 v6038), ∀ a, (k0_off1077 v6038) a + S1x1x256.size a ≤ S4001x1x256.size a := fun v6038 k0_hw1077 => k0_hw1077

def k0_off1078 (v6042 : BitVec 32) : Fin 3 → Nat :=
  let v6043 : Index := Scalar.indexCast v6042
  let c0_4516 : Index := 0#32
  let c0_4517 : Index := 0#32
  ![v6043.toNat, 0, 0]

def k0_chk1078 (v6042 : BitVec 32) : Prop :=
  (∀ a, (k0_off1078 v6042) a + S1x1x256.size a ≤ S4001x1x256.size a)
theorem k0_off1078_inb : ∀ (v6042 : BitVec 32) (k0_hw1078 : k0_chk1078 v6042), ∀ a, (k0_off1078 v6042) a + S1x1x256.size a ≤ S4001x1x256.size a := fun v6042 k0_hw1078 => k0_hw1078

def k0_off1079 (v6046 : BitVec 32) : Fin 3 → Nat :=
  let v6047 : Index := Scalar.indexCast v6046
  let c0_4520 : Index := 0#32
  let c0_4521 : Index := 0#32
  ![v6047.toNat, 0, 0]

def k0_chk1079 (v6046 : BitVec 32) : Prop :=
  (∀ a, (k0_off1079 v6046) a + S1x1x256.size a ≤ S4001x1x256.size a)
theorem k0_off1079_inb : ∀ (v6046 : BitVec 32) (k0_hw1079 : k0_chk1079 v6046), ∀ a, (k0_off1079 v6046) a + S1x1x256.size a ≤ S4001x1x256.size a := fun v6046 k0_hw1079 => k0_hw1079

def k0_off1080 (v6050 : BitVec 32) : Fin 3 → Nat :=
  let v6051 : Index := Scalar.indexCast v6050
  let c0_4524 : Index := 0#32
  let c0_4525 : Index := 0#32
  ![v6051.toNat, 0, 0]

def k0_chk1080 (v6050 : BitVec 32) : Prop :=
  (∀ a, (k0_off1080 v6050) a + S1x1x256.size a ≤ S4001x1x256.size a)
theorem k0_off1080_inb : ∀ (v6050 : BitVec 32) (k0_hw1080 : k0_chk1080 v6050), ∀ a, (k0_off1080 v6050) a + S1x1x256.size a ≤ S4001x1x256.size a := fun v6050 k0_hw1080 => k0_hw1080

def k0_off1081 (v6106 : BitVec 32) : Fin 3 → Nat :=
  let v6107 : Index := Scalar.indexCast v6106
  let c0_4538 : Index := 0#32
  let c0_4539 : Index := 0#32
  ![v6107.toNat, 0, 0]

def k0_chk1081 (v6106 : BitVec 32) : Prop :=
  (∀ a, (k0_off1081 v6106) a + S1x1x256.size a ≤ S4001x1x256.size a)
theorem k0_off1081_inb : ∀ (v6106 : BitVec 32) (k0_hw1081 : k0_chk1081 v6106), ∀ a, (k0_off1081 v6106) a + S1x1x256.size a ≤ S4001x1x256.size a := fun v6106 k0_hw1081 => k0_hw1081

def k0_off1082 (v6110 : BitVec 32) : Fin 3 → Nat :=
  let v6111 : Index := Scalar.indexCast v6110
  let c0_4542 : Index := 0#32
  let c0_4543 : Index := 0#32
  ![v6111.toNat, 0, 0]

def k0_chk1082 (v6110 : BitVec 32) : Prop :=
  (∀ a, (k0_off1082 v6110) a + S1x1x256.size a ≤ S4001x1x256.size a)
theorem k0_off1082_inb : ∀ (v6110 : BitVec 32) (k0_hw1082 : k0_chk1082 v6110), ∀ a, (k0_off1082 v6110) a + S1x1x256.size a ≤ S4001x1x256.size a := fun v6110 k0_hw1082 => k0_hw1082

def k0_off1083 (v6114 : BitVec 32) : Fin 3 → Nat :=
  let v6115 : Index := Scalar.indexCast v6114
  let c0_4546 : Index := 0#32
  let c0_4547 : Index := 0#32
  ![v6115.toNat, 0, 0]

def k0_chk1083 (v6114 : BitVec 32) : Prop :=
  (∀ a, (k0_off1083 v6114) a + S1x1x256.size a ≤ S4001x1x256.size a)
theorem k0_off1083_inb : ∀ (v6114 : BitVec 32) (k0_hw1083 : k0_chk1083 v6114), ∀ a, (k0_off1083 v6114) a + S1x1x256.size a ≤ S4001x1x256.size a := fun v6114 k0_hw1083 => k0_hw1083

def k0_off1084 (v6118 : BitVec 32) : Fin 3 → Nat :=
  let v6119 : Index := Scalar.indexCast v6118
  let c0_4550 : Index := 0#32
  let c0_4551 : Index := 0#32
  ![v6119.toNat, 0, 0]

def k0_chk1084 (v6118 : BitVec 32) : Prop :=
  (∀ a, (k0_off1084 v6118) a + S1x1x256.size a ≤ S4001x1x256.size a)
theorem k0_off1084_inb : ∀ (v6118 : BitVec 32) (k0_hw1084 : k0_chk1084 v6118), ∀ a, (k0_off1084 v6118) a + S1x1x256.size a ≤ S4001x1x256.size a := fun v6118 k0_hw1084 => k0_hw1084

def k0_off1085 (v6122 : BitVec 32) : Fin 3 → Nat :=
  let v6123 : Index := Scalar.indexCast v6122
  let c0_4554 : Index := 0#32
  let c0_4555 : Index := 0#32
  ![v6123.toNat, 0, 0]

def k0_chk1085 (v6122 : BitVec 32) : Prop :=
  (∀ a, (k0_off1085 v6122) a + S1x1x256.size a ≤ S4001x1x256.size a)
theorem k0_off1085_inb : ∀ (v6122 : BitVec 32) (k0_hw1085 : k0_chk1085 v6122), ∀ a, (k0_off1085 v6122) a + S1x1x256.size a ≤ S4001x1x256.size a := fun v6122 k0_hw1085 => k0_hw1085

def k0_off1086 (v6126 : BitVec 32) : Fin 3 → Nat :=
  let v6127 : Index := Scalar.indexCast v6126
  let c0_4558 : Index := 0#32
  let c0_4559 : Index := 0#32
  ![v6127.toNat, 0, 0]

def k0_chk1086 (v6126 : BitVec 32) : Prop :=
  (∀ a, (k0_off1086 v6126) a + S1x1x256.size a ≤ S4001x1x256.size a)
theorem k0_off1086_inb : ∀ (v6126 : BitVec 32) (k0_hw1086 : k0_chk1086 v6126), ∀ a, (k0_off1086 v6126) a + S1x1x256.size a ≤ S4001x1x256.size a := fun v6126 k0_hw1086 => k0_hw1086

def k0_off1087 (v6130 : BitVec 32) : Fin 3 → Nat :=
  let v6131 : Index := Scalar.indexCast v6130
  let c0_4562 : Index := 0#32
  let c0_4563 : Index := 0#32
  ![v6131.toNat, 0, 0]

def k0_chk1087 (v6130 : BitVec 32) : Prop :=
  (∀ a, (k0_off1087 v6130) a + S1x1x256.size a ≤ S4001x1x256.size a)
theorem k0_off1087_inb : ∀ (v6130 : BitVec 32) (k0_hw1087 : k0_chk1087 v6130), ∀ a, (k0_off1087 v6130) a + S1x1x256.size a ≤ S4001x1x256.size a := fun v6130 k0_hw1087 => k0_hw1087

def k0_off1088 (v6134 : BitVec 32) : Fin 3 → Nat :=
  let v6135 : Index := Scalar.indexCast v6134
  let c0_4566 : Index := 0#32
  let c0_4567 : Index := 0#32
  ![v6135.toNat, 0, 0]

def k0_chk1088 (v6134 : BitVec 32) : Prop :=
  (∀ a, (k0_off1088 v6134) a + S1x1x256.size a ≤ S4001x1x256.size a)
theorem k0_off1088_inb : ∀ (v6134 : BitVec 32) (k0_hw1088 : k0_chk1088 v6134), ∀ a, (k0_off1088 v6134) a + S1x1x256.size a ≤ S4001x1x256.size a := fun v6134 k0_hw1088 => k0_hw1088

def k0_off1089 (v6138 : BitVec 32) : Fin 3 → Nat :=
  let v6139 : Index := Scalar.indexCast v6138
  let c0_4570 : Index := 0#32
  let c0_4571 : Index := 0#32
  ![v6139.toNat, 0, 0]

def k0_chk1089 (v6138 : BitVec 32) : Prop :=
  (∀ a, (k0_off1089 v6138) a + S1x1x256.size a ≤ S4001x1x256.size a)
theorem k0_off1089_inb : ∀ (v6138 : BitVec 32) (k0_hw1089 : k0_chk1089 v6138), ∀ a, (k0_off1089 v6138) a + S1x1x256.size a ≤ S4001x1x256.size a := fun v6138 k0_hw1089 => k0_hw1089

def k0_off1090 (v6142 : BitVec 32) : Fin 3 → Nat :=
  let v6143 : Index := Scalar.indexCast v6142
  let c0_4574 : Index := 0#32
  let c0_4575 : Index := 0#32
  ![v6143.toNat, 0, 0]

def k0_chk1090 (v6142 : BitVec 32) : Prop :=
  (∀ a, (k0_off1090 v6142) a + S1x1x256.size a ≤ S4001x1x256.size a)
theorem k0_off1090_inb : ∀ (v6142 : BitVec 32) (k0_hw1090 : k0_chk1090 v6142), ∀ a, (k0_off1090 v6142) a + S1x1x256.size a ≤ S4001x1x256.size a := fun v6142 k0_hw1090 => k0_hw1090

def k0_off1091 (v6146 : BitVec 32) : Fin 3 → Nat :=
  let v6147 : Index := Scalar.indexCast v6146
  let c0_4578 : Index := 0#32
  let c0_4579 : Index := 0#32
  ![v6147.toNat, 0, 0]

def k0_chk1091 (v6146 : BitVec 32) : Prop :=
  (∀ a, (k0_off1091 v6146) a + S1x1x256.size a ≤ S4001x1x256.size a)
theorem k0_off1091_inb : ∀ (v6146 : BitVec 32) (k0_hw1091 : k0_chk1091 v6146), ∀ a, (k0_off1091 v6146) a + S1x1x256.size a ≤ S4001x1x256.size a := fun v6146 k0_hw1091 => k0_hw1091

def k0_off1092 (v6150 : BitVec 32) : Fin 3 → Nat :=
  let v6151 : Index := Scalar.indexCast v6150
  let c0_4582 : Index := 0#32
  let c0_4583 : Index := 0#32
  ![v6151.toNat, 0, 0]

def k0_chk1092 (v6150 : BitVec 32) : Prop :=
  (∀ a, (k0_off1092 v6150) a + S1x1x256.size a ≤ S4001x1x256.size a)
theorem k0_off1092_inb : ∀ (v6150 : BitVec 32) (k0_hw1092 : k0_chk1092 v6150), ∀ a, (k0_off1092 v6150) a + S1x1x256.size a ≤ S4001x1x256.size a := fun v6150 k0_hw1092 => k0_hw1092

def k0_off1093 (v6154 : BitVec 32) : Fin 3 → Nat :=
  let v6155 : Index := Scalar.indexCast v6154
  let c0_4586 : Index := 0#32
  let c0_4587 : Index := 0#32
  ![v6155.toNat, 0, 0]

def k0_chk1093 (v6154 : BitVec 32) : Prop :=
  (∀ a, (k0_off1093 v6154) a + S1x1x256.size a ≤ S4001x1x256.size a)
theorem k0_off1093_inb : ∀ (v6154 : BitVec 32) (k0_hw1093 : k0_chk1093 v6154), ∀ a, (k0_off1093 v6154) a + S1x1x256.size a ≤ S4001x1x256.size a := fun v6154 k0_hw1093 => k0_hw1093

def k0_off1094 (v6158 : BitVec 32) : Fin 3 → Nat :=
  let v6159 : Index := Scalar.indexCast v6158
  let c0_4590 : Index := 0#32
  let c0_4591 : Index := 0#32
  ![v6159.toNat, 0, 0]

def k0_chk1094 (v6158 : BitVec 32) : Prop :=
  (∀ a, (k0_off1094 v6158) a + S1x1x256.size a ≤ S4001x1x256.size a)
theorem k0_off1094_inb : ∀ (v6158 : BitVec 32) (k0_hw1094 : k0_chk1094 v6158), ∀ a, (k0_off1094 v6158) a + S1x1x256.size a ≤ S4001x1x256.size a := fun v6158 k0_hw1094 => k0_hw1094

def k0_off1095 (v6162 : BitVec 32) : Fin 3 → Nat :=
  let v6163 : Index := Scalar.indexCast v6162
  let c0_4594 : Index := 0#32
  let c0_4595 : Index := 0#32
  ![v6163.toNat, 0, 0]

def k0_chk1095 (v6162 : BitVec 32) : Prop :=
  (∀ a, (k0_off1095 v6162) a + S1x1x256.size a ≤ S4001x1x256.size a)
theorem k0_off1095_inb : ∀ (v6162 : BitVec 32) (k0_hw1095 : k0_chk1095 v6162), ∀ a, (k0_off1095 v6162) a + S1x1x256.size a ≤ S4001x1x256.size a := fun v6162 k0_hw1095 => k0_hw1095

def k0_off1096 (v6166 : BitVec 32) : Fin 3 → Nat :=
  let v6167 : Index := Scalar.indexCast v6166
  let c0_4598 : Index := 0#32
  let c0_4599 : Index := 0#32
  ![v6167.toNat, 0, 0]

def k0_chk1096 (v6166 : BitVec 32) : Prop :=
  (∀ a, (k0_off1096 v6166) a + S1x1x256.size a ≤ S4001x1x256.size a)
theorem k0_off1096_inb : ∀ (v6166 : BitVec 32) (k0_hw1096 : k0_chk1096 v6166), ∀ a, (k0_off1096 v6166) a + S1x1x256.size a ≤ S4001x1x256.size a := fun v6166 k0_hw1096 => k0_hw1096

def k0_off1097 (v6170 : BitVec 32) : Fin 3 → Nat :=
  let v6171 : Index := Scalar.indexCast v6170
  let c0_4602 : Index := 0#32
  let c0_4603 : Index := 0#32
  ![v6171.toNat, 0, 0]

def k0_chk1097 (v6170 : BitVec 32) : Prop :=
  (∀ a, (k0_off1097 v6170) a + S1x1x256.size a ≤ S4001x1x256.size a)
theorem k0_off1097_inb : ∀ (v6170 : BitVec 32) (k0_hw1097 : k0_chk1097 v6170), ∀ a, (k0_off1097 v6170) a + S1x1x256.size a ≤ S4001x1x256.size a := fun v6170 k0_hw1097 => k0_hw1097

def k0_off1098 (v6174 : BitVec 32) : Fin 3 → Nat :=
  let v6175 : Index := Scalar.indexCast v6174
  let c0_4606 : Index := 0#32
  let c0_4607 : Index := 0#32
  ![v6175.toNat, 0, 0]

def k0_chk1098 (v6174 : BitVec 32) : Prop :=
  (∀ a, (k0_off1098 v6174) a + S1x1x256.size a ≤ S4001x1x256.size a)
theorem k0_off1098_inb : ∀ (v6174 : BitVec 32) (k0_hw1098 : k0_chk1098 v6174), ∀ a, (k0_off1098 v6174) a + S1x1x256.size a ≤ S4001x1x256.size a := fun v6174 k0_hw1098 => k0_hw1098

def k0_off1099 (v6178 : BitVec 32) : Fin 3 → Nat :=
  let v6179 : Index := Scalar.indexCast v6178
  let c0_4610 : Index := 0#32
  let c0_4611 : Index := 0#32
  ![v6179.toNat, 0, 0]

def k0_chk1099 (v6178 : BitVec 32) : Prop :=
  (∀ a, (k0_off1099 v6178) a + S1x1x256.size a ≤ S4001x1x256.size a)
theorem k0_off1099_inb : ∀ (v6178 : BitVec 32) (k0_hw1099 : k0_chk1099 v6178), ∀ a, (k0_off1099 v6178) a + S1x1x256.size a ≤ S4001x1x256.size a := fun v6178 k0_hw1099 => k0_hw1099

def k0_off1100 (v6182 : BitVec 32) : Fin 3 → Nat :=
  let v6183 : Index := Scalar.indexCast v6182
  let c0_4614 : Index := 0#32
  let c0_4615 : Index := 0#32
  ![v6183.toNat, 0, 0]

def k0_chk1100 (v6182 : BitVec 32) : Prop :=
  (∀ a, (k0_off1100 v6182) a + S1x1x256.size a ≤ S4001x1x256.size a)
theorem k0_off1100_inb : ∀ (v6182 : BitVec 32) (k0_hw1100 : k0_chk1100 v6182), ∀ a, (k0_off1100 v6182) a + S1x1x256.size a ≤ S4001x1x256.size a := fun v6182 k0_hw1100 => k0_hw1100

def k0_off1101 (v6186 : BitVec 32) : Fin 3 → Nat :=
  let v6187 : Index := Scalar.indexCast v6186
  let c0_4618 : Index := 0#32
  let c0_4619 : Index := 0#32
  ![v6187.toNat, 0, 0]

def k0_chk1101 (v6186 : BitVec 32) : Prop :=
  (∀ a, (k0_off1101 v6186) a + S1x1x256.size a ≤ S4001x1x256.size a)
theorem k0_off1101_inb : ∀ (v6186 : BitVec 32) (k0_hw1101 : k0_chk1101 v6186), ∀ a, (k0_off1101 v6186) a + S1x1x256.size a ≤ S4001x1x256.size a := fun v6186 k0_hw1101 => k0_hw1101

def k0_off1102 (v6190 : BitVec 32) : Fin 3 → Nat :=
  let v6191 : Index := Scalar.indexCast v6190
  let c0_4622 : Index := 0#32
  let c0_4623 : Index := 0#32
  ![v6191.toNat, 0, 0]

def k0_chk1102 (v6190 : BitVec 32) : Prop :=
  (∀ a, (k0_off1102 v6190) a + S1x1x256.size a ≤ S4001x1x256.size a)
theorem k0_off1102_inb : ∀ (v6190 : BitVec 32) (k0_hw1102 : k0_chk1102 v6190), ∀ a, (k0_off1102 v6190) a + S1x1x256.size a ≤ S4001x1x256.size a := fun v6190 k0_hw1102 => k0_hw1102

def k0_off1103 (v6194 : BitVec 32) : Fin 3 → Nat :=
  let v6195 : Index := Scalar.indexCast v6194
  let c0_4626 : Index := 0#32
  let c0_4627 : Index := 0#32
  ![v6195.toNat, 0, 0]

def k0_chk1103 (v6194 : BitVec 32) : Prop :=
  (∀ a, (k0_off1103 v6194) a + S1x1x256.size a ≤ S4001x1x256.size a)
theorem k0_off1103_inb : ∀ (v6194 : BitVec 32) (k0_hw1103 : k0_chk1103 v6194), ∀ a, (k0_off1103 v6194) a + S1x1x256.size a ≤ S4001x1x256.size a := fun v6194 k0_hw1103 => k0_hw1103

def k0_off1104 (v6198 : BitVec 32) : Fin 3 → Nat :=
  let v6199 : Index := Scalar.indexCast v6198
  let c0_4630 : Index := 0#32
  let c0_4631 : Index := 0#32
  ![v6199.toNat, 0, 0]

def k0_chk1104 (v6198 : BitVec 32) : Prop :=
  (∀ a, (k0_off1104 v6198) a + S1x1x256.size a ≤ S4001x1x256.size a)
theorem k0_off1104_inb : ∀ (v6198 : BitVec 32) (k0_hw1104 : k0_chk1104 v6198), ∀ a, (k0_off1104 v6198) a + S1x1x256.size a ≤ S4001x1x256.size a := fun v6198 k0_hw1104 => k0_hw1104

def k0_off1105 (v6202 : BitVec 32) : Fin 3 → Nat :=
  let v6203 : Index := Scalar.indexCast v6202
  let c0_4634 : Index := 0#32
  let c0_4635 : Index := 0#32
  ![v6203.toNat, 0, 0]

def k0_chk1105 (v6202 : BitVec 32) : Prop :=
  (∀ a, (k0_off1105 v6202) a + S1x1x256.size a ≤ S4001x1x256.size a)
theorem k0_off1105_inb : ∀ (v6202 : BitVec 32) (k0_hw1105 : k0_chk1105 v6202), ∀ a, (k0_off1105 v6202) a + S1x1x256.size a ≤ S4001x1x256.size a := fun v6202 k0_hw1105 => k0_hw1105

def k0_off1106 (v6206 : BitVec 32) : Fin 3 → Nat :=
  let v6207 : Index := Scalar.indexCast v6206
  let c0_4638 : Index := 0#32
  let c0_4639 : Index := 0#32
  ![v6207.toNat, 0, 0]

def k0_chk1106 (v6206 : BitVec 32) : Prop :=
  (∀ a, (k0_off1106 v6206) a + S1x1x256.size a ≤ S4001x1x256.size a)
theorem k0_off1106_inb : ∀ (v6206 : BitVec 32) (k0_hw1106 : k0_chk1106 v6206), ∀ a, (k0_off1106 v6206) a + S1x1x256.size a ≤ S4001x1x256.size a := fun v6206 k0_hw1106 => k0_hw1106

def k0_off1107 (v6210 : BitVec 32) : Fin 3 → Nat :=
  let v6211 : Index := Scalar.indexCast v6210
  let c0_4642 : Index := 0#32
  let c0_4643 : Index := 0#32
  ![v6211.toNat, 0, 0]

def k0_chk1107 (v6210 : BitVec 32) : Prop :=
  (∀ a, (k0_off1107 v6210) a + S1x1x256.size a ≤ S4001x1x256.size a)
theorem k0_off1107_inb : ∀ (v6210 : BitVec 32) (k0_hw1107 : k0_chk1107 v6210), ∀ a, (k0_off1107 v6210) a + S1x1x256.size a ≤ S4001x1x256.size a := fun v6210 k0_hw1107 => k0_hw1107

def k0_off1108 (v6214 : BitVec 32) : Fin 3 → Nat :=
  let v6215 : Index := Scalar.indexCast v6214
  let c0_4646 : Index := 0#32
  let c0_4647 : Index := 0#32
  ![v6215.toNat, 0, 0]

def k0_chk1108 (v6214 : BitVec 32) : Prop :=
  (∀ a, (k0_off1108 v6214) a + S1x1x256.size a ≤ S4001x1x256.size a)
theorem k0_off1108_inb : ∀ (v6214 : BitVec 32) (k0_hw1108 : k0_chk1108 v6214), ∀ a, (k0_off1108 v6214) a + S1x1x256.size a ≤ S4001x1x256.size a := fun v6214 k0_hw1108 => k0_hw1108

def k0_off1109 (v6218 : BitVec 32) : Fin 3 → Nat :=
  let v6219 : Index := Scalar.indexCast v6218
  let c0_4650 : Index := 0#32
  let c0_4651 : Index := 0#32
  ![v6219.toNat, 0, 0]

def k0_chk1109 (v6218 : BitVec 32) : Prop :=
  (∀ a, (k0_off1109 v6218) a + S1x1x256.size a ≤ S4001x1x256.size a)
theorem k0_off1109_inb : ∀ (v6218 : BitVec 32) (k0_hw1109 : k0_chk1109 v6218), ∀ a, (k0_off1109 v6218) a + S1x1x256.size a ≤ S4001x1x256.size a := fun v6218 k0_hw1109 => k0_hw1109

def k0_off1110 (v6222 : BitVec 32) : Fin 3 → Nat :=
  let v6223 : Index := Scalar.indexCast v6222
  let c0_4654 : Index := 0#32
  let c0_4655 : Index := 0#32
  ![v6223.toNat, 0, 0]

def k0_chk1110 (v6222 : BitVec 32) : Prop :=
  (∀ a, (k0_off1110 v6222) a + S1x1x256.size a ≤ S4001x1x256.size a)
theorem k0_off1110_inb : ∀ (v6222 : BitVec 32) (k0_hw1110 : k0_chk1110 v6222), ∀ a, (k0_off1110 v6222) a + S1x1x256.size a ≤ S4001x1x256.size a := fun v6222 k0_hw1110 => k0_hw1110

def k0_off1111 (v6226 : BitVec 32) : Fin 3 → Nat :=
  let v6227 : Index := Scalar.indexCast v6226
  let c0_4658 : Index := 0#32
  let c0_4659 : Index := 0#32
  ![v6227.toNat, 0, 0]

def k0_chk1111 (v6226 : BitVec 32) : Prop :=
  (∀ a, (k0_off1111 v6226) a + S1x1x256.size a ≤ S4001x1x256.size a)
theorem k0_off1111_inb : ∀ (v6226 : BitVec 32) (k0_hw1111 : k0_chk1111 v6226), ∀ a, (k0_off1111 v6226) a + S1x1x256.size a ≤ S4001x1x256.size a := fun v6226 k0_hw1111 => k0_hw1111

def k0_off1112 (v6230 : BitVec 32) : Fin 3 → Nat :=
  let v6231 : Index := Scalar.indexCast v6230
  let c0_4662 : Index := 0#32
  let c0_4663 : Index := 0#32
  ![v6231.toNat, 0, 0]

def k0_chk1112 (v6230 : BitVec 32) : Prop :=
  (∀ a, (k0_off1112 v6230) a + S1x1x256.size a ≤ S4001x1x256.size a)
theorem k0_off1112_inb : ∀ (v6230 : BitVec 32) (k0_hw1112 : k0_chk1112 v6230), ∀ a, (k0_off1112 v6230) a + S1x1x256.size a ≤ S4001x1x256.size a := fun v6230 k0_hw1112 => k0_hw1112

def k0_off1113 (v6234 : BitVec 32) : Fin 3 → Nat :=
  let v6235 : Index := Scalar.indexCast v6234
  let c0_4666 : Index := 0#32
  let c0_4667 : Index := 0#32
  ![v6235.toNat, 0, 0]

def k0_chk1113 (v6234 : BitVec 32) : Prop :=
  (∀ a, (k0_off1113 v6234) a + S1x1x256.size a ≤ S4001x1x256.size a)
theorem k0_off1113_inb : ∀ (v6234 : BitVec 32) (k0_hw1113 : k0_chk1113 v6234), ∀ a, (k0_off1113 v6234) a + S1x1x256.size a ≤ S4001x1x256.size a := fun v6234 k0_hw1113 => k0_hw1113

def k0_off1114 (v6238 : BitVec 32) : Fin 3 → Nat :=
  let v6239 : Index := Scalar.indexCast v6238
  let c0_4670 : Index := 0#32
  let c0_4671 : Index := 0#32
  ![v6239.toNat, 0, 0]

def k0_chk1114 (v6238 : BitVec 32) : Prop :=
  (∀ a, (k0_off1114 v6238) a + S1x1x256.size a ≤ S4001x1x256.size a)
theorem k0_off1114_inb : ∀ (v6238 : BitVec 32) (k0_hw1114 : k0_chk1114 v6238), ∀ a, (k0_off1114 v6238) a + S1x1x256.size a ≤ S4001x1x256.size a := fun v6238 k0_hw1114 => k0_hw1114

def k0_off1115 (v6242 : BitVec 32) : Fin 3 → Nat :=
  let v6243 : Index := Scalar.indexCast v6242
  let c0_4674 : Index := 0#32
  let c0_4675 : Index := 0#32
  ![v6243.toNat, 0, 0]

def k0_chk1115 (v6242 : BitVec 32) : Prop :=
  (∀ a, (k0_off1115 v6242) a + S1x1x256.size a ≤ S4001x1x256.size a)
theorem k0_off1115_inb : ∀ (v6242 : BitVec 32) (k0_hw1115 : k0_chk1115 v6242), ∀ a, (k0_off1115 v6242) a + S1x1x256.size a ≤ S4001x1x256.size a := fun v6242 k0_hw1115 => k0_hw1115

def k0_off1116 (v6246 : BitVec 32) : Fin 3 → Nat :=
  let v6247 : Index := Scalar.indexCast v6246
  let c0_4678 : Index := 0#32
  let c0_4679 : Index := 0#32
  ![v6247.toNat, 0, 0]

def k0_chk1116 (v6246 : BitVec 32) : Prop :=
  (∀ a, (k0_off1116 v6246) a + S1x1x256.size a ≤ S4001x1x256.size a)
theorem k0_off1116_inb : ∀ (v6246 : BitVec 32) (k0_hw1116 : k0_chk1116 v6246), ∀ a, (k0_off1116 v6246) a + S1x1x256.size a ≤ S4001x1x256.size a := fun v6246 k0_hw1116 => k0_hw1116

def k0_off1117 (v6250 : BitVec 32) : Fin 3 → Nat :=
  let v6251 : Index := Scalar.indexCast v6250
  let c0_4682 : Index := 0#32
  let c0_4683 : Index := 0#32
  ![v6251.toNat, 0, 0]

def k0_chk1117 (v6250 : BitVec 32) : Prop :=
  (∀ a, (k0_off1117 v6250) a + S1x1x256.size a ≤ S4001x1x256.size a)
theorem k0_off1117_inb : ∀ (v6250 : BitVec 32) (k0_hw1117 : k0_chk1117 v6250), ∀ a, (k0_off1117 v6250) a + S1x1x256.size a ≤ S4001x1x256.size a := fun v6250 k0_hw1117 => k0_hw1117

def k0_off1118 (v6254 : BitVec 32) : Fin 3 → Nat :=
  let v6255 : Index := Scalar.indexCast v6254
  let c0_4686 : Index := 0#32
  let c0_4687 : Index := 0#32
  ![v6255.toNat, 0, 0]

def k0_chk1118 (v6254 : BitVec 32) : Prop :=
  (∀ a, (k0_off1118 v6254) a + S1x1x256.size a ≤ S4001x1x256.size a)
theorem k0_off1118_inb : ∀ (v6254 : BitVec 32) (k0_hw1118 : k0_chk1118 v6254), ∀ a, (k0_off1118 v6254) a + S1x1x256.size a ≤ S4001x1x256.size a := fun v6254 k0_hw1118 => k0_hw1118

def k0_off1119 (v6258 : BitVec 32) : Fin 3 → Nat :=
  let v6259 : Index := Scalar.indexCast v6258
  let c0_4690 : Index := 0#32
  let c0_4691 : Index := 0#32
  ![v6259.toNat, 0, 0]

def k0_chk1119 (v6258 : BitVec 32) : Prop :=
  (∀ a, (k0_off1119 v6258) a + S1x1x256.size a ≤ S4001x1x256.size a)
theorem k0_off1119_inb : ∀ (v6258 : BitVec 32) (k0_hw1119 : k0_chk1119 v6258), ∀ a, (k0_off1119 v6258) a + S1x1x256.size a ≤ S4001x1x256.size a := fun v6258 k0_hw1119 => k0_hw1119

def k0_off1120 (v6262 : BitVec 32) : Fin 3 → Nat :=
  let v6263 : Index := Scalar.indexCast v6262
  let c0_4694 : Index := 0#32
  let c0_4695 : Index := 0#32
  ![v6263.toNat, 0, 0]

def k0_chk1120 (v6262 : BitVec 32) : Prop :=
  (∀ a, (k0_off1120 v6262) a + S1x1x256.size a ≤ S4001x1x256.size a)
theorem k0_off1120_inb : ∀ (v6262 : BitVec 32) (k0_hw1120 : k0_chk1120 v6262), ∀ a, (k0_off1120 v6262) a + S1x1x256.size a ≤ S4001x1x256.size a := fun v6262 k0_hw1120 => k0_hw1120

def k0_off1121 (v6305 : BitVec 32) : Fin 3 → Nat :=
  let v6306 : Index := Scalar.indexCast v6305
  let c0_4698 : Index := 0#32
  let c0_4699 : Index := 0#32
  ![v6306.toNat, 0, 0]

def k0_chk1121 (v6305 : BitVec 32) : Prop :=
  (∀ a, (k0_off1121 v6305) a + S1x1x256.size a ≤ S4001x1x256.size a)
theorem k0_off1121_inb : ∀ (v6305 : BitVec 32) (k0_hw1121 : k0_chk1121 v6305), ∀ a, (k0_off1121 v6305) a + S1x1x256.size a ≤ S4001x1x256.size a := fun v6305 k0_hw1121 => k0_hw1121

def k0_off1122 (v6309 : BitVec 32) : Fin 3 → Nat :=
  let v6310 : Index := Scalar.indexCast v6309
  let c0_4702 : Index := 0#32
  let c0_4703 : Index := 0#32
  ![v6310.toNat, 0, 0]

def k0_chk1122 (v6309 : BitVec 32) : Prop :=
  (∀ a, (k0_off1122 v6309) a + S1x1x256.size a ≤ S4001x1x256.size a)
theorem k0_off1122_inb : ∀ (v6309 : BitVec 32) (k0_hw1122 : k0_chk1122 v6309), ∀ a, (k0_off1122 v6309) a + S1x1x256.size a ≤ S4001x1x256.size a := fun v6309 k0_hw1122 => k0_hw1122

def k0_off1123 (v6313 : BitVec 32) : Fin 3 → Nat :=
  let v6314 : Index := Scalar.indexCast v6313
  let c0_4706 : Index := 0#32
  let c0_4707 : Index := 0#32
  ![v6314.toNat, 0, 0]

def k0_chk1123 (v6313 : BitVec 32) : Prop :=
  (∀ a, (k0_off1123 v6313) a + S1x1x256.size a ≤ S4001x1x256.size a)
theorem k0_off1123_inb : ∀ (v6313 : BitVec 32) (k0_hw1123 : k0_chk1123 v6313), ∀ a, (k0_off1123 v6313) a + S1x1x256.size a ≤ S4001x1x256.size a := fun v6313 k0_hw1123 => k0_hw1123

def k0_off1124 (v6317 : BitVec 32) : Fin 3 → Nat :=
  let v6318 : Index := Scalar.indexCast v6317
  let c0_4710 : Index := 0#32
  let c0_4711 : Index := 0#32
  ![v6318.toNat, 0, 0]

def k0_chk1124 (v6317 : BitVec 32) : Prop :=
  (∀ a, (k0_off1124 v6317) a + S1x1x256.size a ≤ S4001x1x256.size a)
theorem k0_off1124_inb : ∀ (v6317 : BitVec 32) (k0_hw1124 : k0_chk1124 v6317), ∀ a, (k0_off1124 v6317) a + S1x1x256.size a ≤ S4001x1x256.size a := fun v6317 k0_hw1124 => k0_hw1124

def k0_off1125 (v6321 : BitVec 32) : Fin 3 → Nat :=
  let v6322 : Index := Scalar.indexCast v6321
  let c0_4714 : Index := 0#32
  let c0_4715 : Index := 0#32
  ![v6322.toNat, 0, 0]

def k0_chk1125 (v6321 : BitVec 32) : Prop :=
  (∀ a, (k0_off1125 v6321) a + S1x1x256.size a ≤ S4001x1x256.size a)
theorem k0_off1125_inb : ∀ (v6321 : BitVec 32) (k0_hw1125 : k0_chk1125 v6321), ∀ a, (k0_off1125 v6321) a + S1x1x256.size a ≤ S4001x1x256.size a := fun v6321 k0_hw1125 => k0_hw1125

def k0_off1126 (v6325 : BitVec 32) : Fin 3 → Nat :=
  let v6326 : Index := Scalar.indexCast v6325
  let c0_4718 : Index := 0#32
  let c0_4719 : Index := 0#32
  ![v6326.toNat, 0, 0]

def k0_chk1126 (v6325 : BitVec 32) : Prop :=
  (∀ a, (k0_off1126 v6325) a + S1x1x256.size a ≤ S4001x1x256.size a)
theorem k0_off1126_inb : ∀ (v6325 : BitVec 32) (k0_hw1126 : k0_chk1126 v6325), ∀ a, (k0_off1126 v6325) a + S1x1x256.size a ≤ S4001x1x256.size a := fun v6325 k0_hw1126 => k0_hw1126

def k0_off1127 (v6329 : BitVec 32) : Fin 3 → Nat :=
  let v6330 : Index := Scalar.indexCast v6329
  let c0_4722 : Index := 0#32
  let c0_4723 : Index := 0#32
  ![v6330.toNat, 0, 0]

def k0_chk1127 (v6329 : BitVec 32) : Prop :=
  (∀ a, (k0_off1127 v6329) a + S1x1x256.size a ≤ S4001x1x256.size a)
theorem k0_off1127_inb : ∀ (v6329 : BitVec 32) (k0_hw1127 : k0_chk1127 v6329), ∀ a, (k0_off1127 v6329) a + S1x1x256.size a ≤ S4001x1x256.size a := fun v6329 k0_hw1127 => k0_hw1127

def k0_off1128 (v6333 : BitVec 32) : Fin 3 → Nat :=
  let v6334 : Index := Scalar.indexCast v6333
  let c0_4726 : Index := 0#32
  let c0_4727 : Index := 0#32
  ![v6334.toNat, 0, 0]

def k0_chk1128 (v6333 : BitVec 32) : Prop :=
  (∀ a, (k0_off1128 v6333) a + S1x1x256.size a ≤ S4001x1x256.size a)
theorem k0_off1128_inb : ∀ (v6333 : BitVec 32) (k0_hw1128 : k0_chk1128 v6333), ∀ a, (k0_off1128 v6333) a + S1x1x256.size a ≤ S4001x1x256.size a := fun v6333 k0_hw1128 => k0_hw1128

def k0_off1129 (v6337 : BitVec 32) : Fin 3 → Nat :=
  let v6338 : Index := Scalar.indexCast v6337
  let c0_4730 : Index := 0#32
  let c0_4731 : Index := 0#32
  ![v6338.toNat, 0, 0]

def k0_chk1129 (v6337 : BitVec 32) : Prop :=
  (∀ a, (k0_off1129 v6337) a + S1x1x256.size a ≤ S4001x1x256.size a)
theorem k0_off1129_inb : ∀ (v6337 : BitVec 32) (k0_hw1129 : k0_chk1129 v6337), ∀ a, (k0_off1129 v6337) a + S1x1x256.size a ≤ S4001x1x256.size a := fun v6337 k0_hw1129 => k0_hw1129

def k0_off1130 (v6341 : BitVec 32) : Fin 3 → Nat :=
  let v6342 : Index := Scalar.indexCast v6341
  let c0_4734 : Index := 0#32
  let c0_4735 : Index := 0#32
  ![v6342.toNat, 0, 0]

def k0_chk1130 (v6341 : BitVec 32) : Prop :=
  (∀ a, (k0_off1130 v6341) a + S1x1x256.size a ≤ S4001x1x256.size a)
theorem k0_off1130_inb : ∀ (v6341 : BitVec 32) (k0_hw1130 : k0_chk1130 v6341), ∀ a, (k0_off1130 v6341) a + S1x1x256.size a ≤ S4001x1x256.size a := fun v6341 k0_hw1130 => k0_hw1130

def k0_off1131 (v6345 : BitVec 32) : Fin 3 → Nat :=
  let v6346 : Index := Scalar.indexCast v6345
  let c0_4738 : Index := 0#32
  let c0_4739 : Index := 0#32
  ![v6346.toNat, 0, 0]

def k0_chk1131 (v6345 : BitVec 32) : Prop :=
  (∀ a, (k0_off1131 v6345) a + S1x1x256.size a ≤ S4001x1x256.size a)
theorem k0_off1131_inb : ∀ (v6345 : BitVec 32) (k0_hw1131 : k0_chk1131 v6345), ∀ a, (k0_off1131 v6345) a + S1x1x256.size a ≤ S4001x1x256.size a := fun v6345 k0_hw1131 => k0_hw1131

def k0_off1132 (v6349 : BitVec 32) : Fin 3 → Nat :=
  let v6350 : Index := Scalar.indexCast v6349
  let c0_4742 : Index := 0#32
  let c0_4743 : Index := 0#32
  ![v6350.toNat, 0, 0]

def k0_chk1132 (v6349 : BitVec 32) : Prop :=
  (∀ a, (k0_off1132 v6349) a + S1x1x256.size a ≤ S4001x1x256.size a)
theorem k0_off1132_inb : ∀ (v6349 : BitVec 32) (k0_hw1132 : k0_chk1132 v6349), ∀ a, (k0_off1132 v6349) a + S1x1x256.size a ≤ S4001x1x256.size a := fun v6349 k0_hw1132 => k0_hw1132

def k0_off1133 (v6353 : BitVec 32) : Fin 3 → Nat :=
  let v6354 : Index := Scalar.indexCast v6353
  let c0_4746 : Index := 0#32
  let c0_4747 : Index := 0#32
  ![v6354.toNat, 0, 0]

def k0_chk1133 (v6353 : BitVec 32) : Prop :=
  (∀ a, (k0_off1133 v6353) a + S1x1x256.size a ≤ S4001x1x256.size a)
theorem k0_off1133_inb : ∀ (v6353 : BitVec 32) (k0_hw1133 : k0_chk1133 v6353), ∀ a, (k0_off1133 v6353) a + S1x1x256.size a ≤ S4001x1x256.size a := fun v6353 k0_hw1133 => k0_hw1133

def k0_off1134 (v6357 : BitVec 32) : Fin 3 → Nat :=
  let v6358 : Index := Scalar.indexCast v6357
  let c0_4750 : Index := 0#32
  let c0_4751 : Index := 0#32
  ![v6358.toNat, 0, 0]

def k0_chk1134 (v6357 : BitVec 32) : Prop :=
  (∀ a, (k0_off1134 v6357) a + S1x1x256.size a ≤ S4001x1x256.size a)
theorem k0_off1134_inb : ∀ (v6357 : BitVec 32) (k0_hw1134 : k0_chk1134 v6357), ∀ a, (k0_off1134 v6357) a + S1x1x256.size a ≤ S4001x1x256.size a := fun v6357 k0_hw1134 => k0_hw1134

def k0_off1135 (v6361 : BitVec 32) : Fin 3 → Nat :=
  let v6362 : Index := Scalar.indexCast v6361
  let c0_4754 : Index := 0#32
  let c0_4755 : Index := 0#32
  ![v6362.toNat, 0, 0]

def k0_chk1135 (v6361 : BitVec 32) : Prop :=
  (∀ a, (k0_off1135 v6361) a + S1x1x256.size a ≤ S4001x1x256.size a)
theorem k0_off1135_inb : ∀ (v6361 : BitVec 32) (k0_hw1135 : k0_chk1135 v6361), ∀ a, (k0_off1135 v6361) a + S1x1x256.size a ≤ S4001x1x256.size a := fun v6361 k0_hw1135 => k0_hw1135

def k0_off1136 (v6365 : BitVec 32) : Fin 3 → Nat :=
  let v6366 : Index := Scalar.indexCast v6365
  let c0_4758 : Index := 0#32
  let c0_4759 : Index := 0#32
  ![v6366.toNat, 0, 0]

def k0_chk1136 (v6365 : BitVec 32) : Prop :=
  (∀ a, (k0_off1136 v6365) a + S1x1x256.size a ≤ S4001x1x256.size a)
theorem k0_off1136_inb : ∀ (v6365 : BitVec 32) (k0_hw1136 : k0_chk1136 v6365), ∀ a, (k0_off1136 v6365) a + S1x1x256.size a ≤ S4001x1x256.size a := fun v6365 k0_hw1136 => k0_hw1136

def k0_off1137 (v6369 : BitVec 32) : Fin 3 → Nat :=
  let v6370 : Index := Scalar.indexCast v6369
  let c0_4762 : Index := 0#32
  let c0_4763 : Index := 0#32
  ![v6370.toNat, 0, 0]

def k0_chk1137 (v6369 : BitVec 32) : Prop :=
  (∀ a, (k0_off1137 v6369) a + S1x1x256.size a ≤ S4001x1x256.size a)
theorem k0_off1137_inb : ∀ (v6369 : BitVec 32) (k0_hw1137 : k0_chk1137 v6369), ∀ a, (k0_off1137 v6369) a + S1x1x256.size a ≤ S4001x1x256.size a := fun v6369 k0_hw1137 => k0_hw1137

def k0_off1138 (v6373 : BitVec 32) : Fin 3 → Nat :=
  let v6374 : Index := Scalar.indexCast v6373
  let c0_4766 : Index := 0#32
  let c0_4767 : Index := 0#32
  ![v6374.toNat, 0, 0]

def k0_chk1138 (v6373 : BitVec 32) : Prop :=
  (∀ a, (k0_off1138 v6373) a + S1x1x256.size a ≤ S4001x1x256.size a)
theorem k0_off1138_inb : ∀ (v6373 : BitVec 32) (k0_hw1138 : k0_chk1138 v6373), ∀ a, (k0_off1138 v6373) a + S1x1x256.size a ≤ S4001x1x256.size a := fun v6373 k0_hw1138 => k0_hw1138

def k0_off1139 (v6377 : BitVec 32) : Fin 3 → Nat :=
  let v6378 : Index := Scalar.indexCast v6377
  let c0_4770 : Index := 0#32
  let c0_4771 : Index := 0#32
  ![v6378.toNat, 0, 0]

def k0_chk1139 (v6377 : BitVec 32) : Prop :=
  (∀ a, (k0_off1139 v6377) a + S1x1x256.size a ≤ S4001x1x256.size a)
theorem k0_off1139_inb : ∀ (v6377 : BitVec 32) (k0_hw1139 : k0_chk1139 v6377), ∀ a, (k0_off1139 v6377) a + S1x1x256.size a ≤ S4001x1x256.size a := fun v6377 k0_hw1139 => k0_hw1139

def k0_off1140 (v6381 : BitVec 32) : Fin 3 → Nat :=
  let v6382 : Index := Scalar.indexCast v6381
  let c0_4774 : Index := 0#32
  let c0_4775 : Index := 0#32
  ![v6382.toNat, 0, 0]

def k0_chk1140 (v6381 : BitVec 32) : Prop :=
  (∀ a, (k0_off1140 v6381) a + S1x1x256.size a ≤ S4001x1x256.size a)
theorem k0_off1140_inb : ∀ (v6381 : BitVec 32) (k0_hw1140 : k0_chk1140 v6381), ∀ a, (k0_off1140 v6381) a + S1x1x256.size a ≤ S4001x1x256.size a := fun v6381 k0_hw1140 => k0_hw1140

def k0_off1141 (v6437 : BitVec 32) : Fin 3 → Nat :=
  let v6438 : Index := Scalar.indexCast v6437
  let c0_4788 : Index := 0#32
  let c0_4789 : Index := 0#32
  ![v6438.toNat, 0, 0]

def k0_chk1141 (v6437 : BitVec 32) : Prop :=
  (∀ a, (k0_off1141 v6437) a + S1x1x256.size a ≤ S4001x1x256.size a)
theorem k0_off1141_inb : ∀ (v6437 : BitVec 32) (k0_hw1141 : k0_chk1141 v6437), ∀ a, (k0_off1141 v6437) a + S1x1x256.size a ≤ S4001x1x256.size a := fun v6437 k0_hw1141 => k0_hw1141

def k0_off1142 (v6441 : BitVec 32) : Fin 3 → Nat :=
  let v6442 : Index := Scalar.indexCast v6441
  let c0_4792 : Index := 0#32
  let c0_4793 : Index := 0#32
  ![v6442.toNat, 0, 0]

def k0_chk1142 (v6441 : BitVec 32) : Prop :=
  (∀ a, (k0_off1142 v6441) a + S1x1x256.size a ≤ S4001x1x256.size a)
theorem k0_off1142_inb : ∀ (v6441 : BitVec 32) (k0_hw1142 : k0_chk1142 v6441), ∀ a, (k0_off1142 v6441) a + S1x1x256.size a ≤ S4001x1x256.size a := fun v6441 k0_hw1142 => k0_hw1142

def k0_off1143 (v6445 : BitVec 32) : Fin 3 → Nat :=
  let v6446 : Index := Scalar.indexCast v6445
  let c0_4796 : Index := 0#32
  let c0_4797 : Index := 0#32
  ![v6446.toNat, 0, 0]

def k0_chk1143 (v6445 : BitVec 32) : Prop :=
  (∀ a, (k0_off1143 v6445) a + S1x1x256.size a ≤ S4001x1x256.size a)
theorem k0_off1143_inb : ∀ (v6445 : BitVec 32) (k0_hw1143 : k0_chk1143 v6445), ∀ a, (k0_off1143 v6445) a + S1x1x256.size a ≤ S4001x1x256.size a := fun v6445 k0_hw1143 => k0_hw1143

def k0_off1144 (v6449 : BitVec 32) : Fin 3 → Nat :=
  let v6450 : Index := Scalar.indexCast v6449
  let c0_4800 : Index := 0#32
  let c0_4801 : Index := 0#32
  ![v6450.toNat, 0, 0]

def k0_chk1144 (v6449 : BitVec 32) : Prop :=
  (∀ a, (k0_off1144 v6449) a + S1x1x256.size a ≤ S4001x1x256.size a)
theorem k0_off1144_inb : ∀ (v6449 : BitVec 32) (k0_hw1144 : k0_chk1144 v6449), ∀ a, (k0_off1144 v6449) a + S1x1x256.size a ≤ S4001x1x256.size a := fun v6449 k0_hw1144 => k0_hw1144

def k0_off1145 (v6453 : BitVec 32) : Fin 3 → Nat :=
  let v6454 : Index := Scalar.indexCast v6453
  let c0_4804 : Index := 0#32
  let c0_4805 : Index := 0#32
  ![v6454.toNat, 0, 0]

def k0_chk1145 (v6453 : BitVec 32) : Prop :=
  (∀ a, (k0_off1145 v6453) a + S1x1x256.size a ≤ S4001x1x256.size a)
theorem k0_off1145_inb : ∀ (v6453 : BitVec 32) (k0_hw1145 : k0_chk1145 v6453), ∀ a, (k0_off1145 v6453) a + S1x1x256.size a ≤ S4001x1x256.size a := fun v6453 k0_hw1145 => k0_hw1145

def k0_off1146 (v6457 : BitVec 32) : Fin 3 → Nat :=
  let v6458 : Index := Scalar.indexCast v6457
  let c0_4808 : Index := 0#32
  let c0_4809 : Index := 0#32
  ![v6458.toNat, 0, 0]

def k0_chk1146 (v6457 : BitVec 32) : Prop :=
  (∀ a, (k0_off1146 v6457) a + S1x1x256.size a ≤ S4001x1x256.size a)
theorem k0_off1146_inb : ∀ (v6457 : BitVec 32) (k0_hw1146 : k0_chk1146 v6457), ∀ a, (k0_off1146 v6457) a + S1x1x256.size a ≤ S4001x1x256.size a := fun v6457 k0_hw1146 => k0_hw1146

def k0_off1147 (v6461 : BitVec 32) : Fin 3 → Nat :=
  let v6462 : Index := Scalar.indexCast v6461
  let c0_4812 : Index := 0#32
  let c0_4813 : Index := 0#32
  ![v6462.toNat, 0, 0]

def k0_chk1147 (v6461 : BitVec 32) : Prop :=
  (∀ a, (k0_off1147 v6461) a + S1x1x256.size a ≤ S4001x1x256.size a)
theorem k0_off1147_inb : ∀ (v6461 : BitVec 32) (k0_hw1147 : k0_chk1147 v6461), ∀ a, (k0_off1147 v6461) a + S1x1x256.size a ≤ S4001x1x256.size a := fun v6461 k0_hw1147 => k0_hw1147

def k0_off1148 (v6465 : BitVec 32) : Fin 3 → Nat :=
  let v6466 : Index := Scalar.indexCast v6465
  let c0_4816 : Index := 0#32
  let c0_4817 : Index := 0#32
  ![v6466.toNat, 0, 0]

def k0_chk1148 (v6465 : BitVec 32) : Prop :=
  (∀ a, (k0_off1148 v6465) a + S1x1x256.size a ≤ S4001x1x256.size a)
theorem k0_off1148_inb : ∀ (v6465 : BitVec 32) (k0_hw1148 : k0_chk1148 v6465), ∀ a, (k0_off1148 v6465) a + S1x1x256.size a ≤ S4001x1x256.size a := fun v6465 k0_hw1148 => k0_hw1148

def k0_off1149 (v6469 : BitVec 32) : Fin 3 → Nat :=
  let v6470 : Index := Scalar.indexCast v6469
  let c0_4820 : Index := 0#32
  let c0_4821 : Index := 0#32
  ![v6470.toNat, 0, 0]

def k0_chk1149 (v6469 : BitVec 32) : Prop :=
  (∀ a, (k0_off1149 v6469) a + S1x1x256.size a ≤ S4001x1x256.size a)
theorem k0_off1149_inb : ∀ (v6469 : BitVec 32) (k0_hw1149 : k0_chk1149 v6469), ∀ a, (k0_off1149 v6469) a + S1x1x256.size a ≤ S4001x1x256.size a := fun v6469 k0_hw1149 => k0_hw1149

def k0_off1150 (v6473 : BitVec 32) : Fin 3 → Nat :=
  let v6474 : Index := Scalar.indexCast v6473
  let c0_4824 : Index := 0#32
  let c0_4825 : Index := 0#32
  ![v6474.toNat, 0, 0]

def k0_chk1150 (v6473 : BitVec 32) : Prop :=
  (∀ a, (k0_off1150 v6473) a + S1x1x256.size a ≤ S4001x1x256.size a)
theorem k0_off1150_inb : ∀ (v6473 : BitVec 32) (k0_hw1150 : k0_chk1150 v6473), ∀ a, (k0_off1150 v6473) a + S1x1x256.size a ≤ S4001x1x256.size a := fun v6473 k0_hw1150 => k0_hw1150

def k0_off1151 (v6477 : BitVec 32) : Fin 3 → Nat :=
  let v6478 : Index := Scalar.indexCast v6477
  let c0_4828 : Index := 0#32
  let c0_4829 : Index := 0#32
  ![v6478.toNat, 0, 0]

def k0_chk1151 (v6477 : BitVec 32) : Prop :=
  (∀ a, (k0_off1151 v6477) a + S1x1x256.size a ≤ S4001x1x256.size a)
theorem k0_off1151_inb : ∀ (v6477 : BitVec 32) (k0_hw1151 : k0_chk1151 v6477), ∀ a, (k0_off1151 v6477) a + S1x1x256.size a ≤ S4001x1x256.size a := fun v6477 k0_hw1151 => k0_hw1151

def k0_off1152 (v6481 : BitVec 32) : Fin 3 → Nat :=
  let v6482 : Index := Scalar.indexCast v6481
  let c0_4832 : Index := 0#32
  let c0_4833 : Index := 0#32
  ![v6482.toNat, 0, 0]

def k0_chk1152 (v6481 : BitVec 32) : Prop :=
  (∀ a, (k0_off1152 v6481) a + S1x1x256.size a ≤ S4001x1x256.size a)
theorem k0_off1152_inb : ∀ (v6481 : BitVec 32) (k0_hw1152 : k0_chk1152 v6481), ∀ a, (k0_off1152 v6481) a + S1x1x256.size a ≤ S4001x1x256.size a := fun v6481 k0_hw1152 => k0_hw1152

def k0_off1153 (v6485 : BitVec 32) : Fin 3 → Nat :=
  let v6486 : Index := Scalar.indexCast v6485
  let c0_4836 : Index := 0#32
  let c0_4837 : Index := 0#32
  ![v6486.toNat, 0, 0]

def k0_chk1153 (v6485 : BitVec 32) : Prop :=
  (∀ a, (k0_off1153 v6485) a + S1x1x256.size a ≤ S4001x1x256.size a)
theorem k0_off1153_inb : ∀ (v6485 : BitVec 32) (k0_hw1153 : k0_chk1153 v6485), ∀ a, (k0_off1153 v6485) a + S1x1x256.size a ≤ S4001x1x256.size a := fun v6485 k0_hw1153 => k0_hw1153

def k0_off1154 (v6489 : BitVec 32) : Fin 3 → Nat :=
  let v6490 : Index := Scalar.indexCast v6489
  let c0_4840 : Index := 0#32
  let c0_4841 : Index := 0#32
  ![v6490.toNat, 0, 0]

def k0_chk1154 (v6489 : BitVec 32) : Prop :=
  (∀ a, (k0_off1154 v6489) a + S1x1x256.size a ≤ S4001x1x256.size a)
theorem k0_off1154_inb : ∀ (v6489 : BitVec 32) (k0_hw1154 : k0_chk1154 v6489), ∀ a, (k0_off1154 v6489) a + S1x1x256.size a ≤ S4001x1x256.size a := fun v6489 k0_hw1154 => k0_hw1154

def k0_off1155 (v6493 : BitVec 32) : Fin 3 → Nat :=
  let v6494 : Index := Scalar.indexCast v6493
  let c0_4844 : Index := 0#32
  let c0_4845 : Index := 0#32
  ![v6494.toNat, 0, 0]

def k0_chk1155 (v6493 : BitVec 32) : Prop :=
  (∀ a, (k0_off1155 v6493) a + S1x1x256.size a ≤ S4001x1x256.size a)
theorem k0_off1155_inb : ∀ (v6493 : BitVec 32) (k0_hw1155 : k0_chk1155 v6493), ∀ a, (k0_off1155 v6493) a + S1x1x256.size a ≤ S4001x1x256.size a := fun v6493 k0_hw1155 => k0_hw1155

def k0_off1156 (v6497 : BitVec 32) : Fin 3 → Nat :=
  let v6498 : Index := Scalar.indexCast v6497
  let c0_4848 : Index := 0#32
  let c0_4849 : Index := 0#32
  ![v6498.toNat, 0, 0]

def k0_chk1156 (v6497 : BitVec 32) : Prop :=
  (∀ a, (k0_off1156 v6497) a + S1x1x256.size a ≤ S4001x1x256.size a)
theorem k0_off1156_inb : ∀ (v6497 : BitVec 32) (k0_hw1156 : k0_chk1156 v6497), ∀ a, (k0_off1156 v6497) a + S1x1x256.size a ≤ S4001x1x256.size a := fun v6497 k0_hw1156 => k0_hw1156

def k0_off1157 (v6501 : BitVec 32) : Fin 3 → Nat :=
  let v6502 : Index := Scalar.indexCast v6501
  let c0_4852 : Index := 0#32
  let c0_4853 : Index := 0#32
  ![v6502.toNat, 0, 0]

def k0_chk1157 (v6501 : BitVec 32) : Prop :=
  (∀ a, (k0_off1157 v6501) a + S1x1x256.size a ≤ S4001x1x256.size a)
theorem k0_off1157_inb : ∀ (v6501 : BitVec 32) (k0_hw1157 : k0_chk1157 v6501), ∀ a, (k0_off1157 v6501) a + S1x1x256.size a ≤ S4001x1x256.size a := fun v6501 k0_hw1157 => k0_hw1157

def k0_off1158 (v6505 : BitVec 32) : Fin 3 → Nat :=
  let v6506 : Index := Scalar.indexCast v6505
  let c0_4856 : Index := 0#32
  let c0_4857 : Index := 0#32
  ![v6506.toNat, 0, 0]

def k0_chk1158 (v6505 : BitVec 32) : Prop :=
  (∀ a, (k0_off1158 v6505) a + S1x1x256.size a ≤ S4001x1x256.size a)
theorem k0_off1158_inb : ∀ (v6505 : BitVec 32) (k0_hw1158 : k0_chk1158 v6505), ∀ a, (k0_off1158 v6505) a + S1x1x256.size a ≤ S4001x1x256.size a := fun v6505 k0_hw1158 => k0_hw1158

def k0_off1159 (v6509 : BitVec 32) : Fin 3 → Nat :=
  let v6510 : Index := Scalar.indexCast v6509
  let c0_4860 : Index := 0#32
  let c0_4861 : Index := 0#32
  ![v6510.toNat, 0, 0]

def k0_chk1159 (v6509 : BitVec 32) : Prop :=
  (∀ a, (k0_off1159 v6509) a + S1x1x256.size a ≤ S4001x1x256.size a)
theorem k0_off1159_inb : ∀ (v6509 : BitVec 32) (k0_hw1159 : k0_chk1159 v6509), ∀ a, (k0_off1159 v6509) a + S1x1x256.size a ≤ S4001x1x256.size a := fun v6509 k0_hw1159 => k0_hw1159

def k0_off1160 (v6513 : BitVec 32) : Fin 3 → Nat :=
  let v6514 : Index := Scalar.indexCast v6513
  let c0_4864 : Index := 0#32
  let c0_4865 : Index := 0#32
  ![v6514.toNat, 0, 0]

def k0_chk1160 (v6513 : BitVec 32) : Prop :=
  (∀ a, (k0_off1160 v6513) a + S1x1x256.size a ≤ S4001x1x256.size a)
theorem k0_off1160_inb : ∀ (v6513 : BitVec 32) (k0_hw1160 : k0_chk1160 v6513), ∀ a, (k0_off1160 v6513) a + S1x1x256.size a ≤ S4001x1x256.size a := fun v6513 k0_hw1160 => k0_hw1160

def k0_off1161 (v6517 : BitVec 32) : Fin 3 → Nat :=
  let v6518 : Index := Scalar.indexCast v6517
  let c0_4868 : Index := 0#32
  let c0_4869 : Index := 0#32
  ![v6518.toNat, 0, 0]

def k0_chk1161 (v6517 : BitVec 32) : Prop :=
  (∀ a, (k0_off1161 v6517) a + S1x1x256.size a ≤ S4001x1x256.size a)
theorem k0_off1161_inb : ∀ (v6517 : BitVec 32) (k0_hw1161 : k0_chk1161 v6517), ∀ a, (k0_off1161 v6517) a + S1x1x256.size a ≤ S4001x1x256.size a := fun v6517 k0_hw1161 => k0_hw1161

def k0_off1162 (v6521 : BitVec 32) : Fin 3 → Nat :=
  let v6522 : Index := Scalar.indexCast v6521
  let c0_4872 : Index := 0#32
  let c0_4873 : Index := 0#32
  ![v6522.toNat, 0, 0]

def k0_chk1162 (v6521 : BitVec 32) : Prop :=
  (∀ a, (k0_off1162 v6521) a + S1x1x256.size a ≤ S4001x1x256.size a)
theorem k0_off1162_inb : ∀ (v6521 : BitVec 32) (k0_hw1162 : k0_chk1162 v6521), ∀ a, (k0_off1162 v6521) a + S1x1x256.size a ≤ S4001x1x256.size a := fun v6521 k0_hw1162 => k0_hw1162

def k0_off1163 (v6525 : BitVec 32) : Fin 3 → Nat :=
  let v6526 : Index := Scalar.indexCast v6525
  let c0_4876 : Index := 0#32
  let c0_4877 : Index := 0#32
  ![v6526.toNat, 0, 0]

def k0_chk1163 (v6525 : BitVec 32) : Prop :=
  (∀ a, (k0_off1163 v6525) a + S1x1x256.size a ≤ S4001x1x256.size a)
theorem k0_off1163_inb : ∀ (v6525 : BitVec 32) (k0_hw1163 : k0_chk1163 v6525), ∀ a, (k0_off1163 v6525) a + S1x1x256.size a ≤ S4001x1x256.size a := fun v6525 k0_hw1163 => k0_hw1163

def k0_off1164 (v6529 : BitVec 32) : Fin 3 → Nat :=
  let v6530 : Index := Scalar.indexCast v6529
  let c0_4880 : Index := 0#32
  let c0_4881 : Index := 0#32
  ![v6530.toNat, 0, 0]

def k0_chk1164 (v6529 : BitVec 32) : Prop :=
  (∀ a, (k0_off1164 v6529) a + S1x1x256.size a ≤ S4001x1x256.size a)
theorem k0_off1164_inb : ∀ (v6529 : BitVec 32) (k0_hw1164 : k0_chk1164 v6529), ∀ a, (k0_off1164 v6529) a + S1x1x256.size a ≤ S4001x1x256.size a := fun v6529 k0_hw1164 => k0_hw1164

def k0_off1165 (v6533 : BitVec 32) : Fin 3 → Nat :=
  let v6534 : Index := Scalar.indexCast v6533
  let c0_4884 : Index := 0#32
  let c0_4885 : Index := 0#32
  ![v6534.toNat, 0, 0]

def k0_chk1165 (v6533 : BitVec 32) : Prop :=
  (∀ a, (k0_off1165 v6533) a + S1x1x256.size a ≤ S4001x1x256.size a)
theorem k0_off1165_inb : ∀ (v6533 : BitVec 32) (k0_hw1165 : k0_chk1165 v6533), ∀ a, (k0_off1165 v6533) a + S1x1x256.size a ≤ S4001x1x256.size a := fun v6533 k0_hw1165 => k0_hw1165

def k0_off1166 (v6537 : BitVec 32) : Fin 3 → Nat :=
  let v6538 : Index := Scalar.indexCast v6537
  let c0_4888 : Index := 0#32
  let c0_4889 : Index := 0#32
  ![v6538.toNat, 0, 0]

def k0_chk1166 (v6537 : BitVec 32) : Prop :=
  (∀ a, (k0_off1166 v6537) a + S1x1x256.size a ≤ S4001x1x256.size a)
theorem k0_off1166_inb : ∀ (v6537 : BitVec 32) (k0_hw1166 : k0_chk1166 v6537), ∀ a, (k0_off1166 v6537) a + S1x1x256.size a ≤ S4001x1x256.size a := fun v6537 k0_hw1166 => k0_hw1166

def k0_off1167 (v6541 : BitVec 32) : Fin 3 → Nat :=
  let v6542 : Index := Scalar.indexCast v6541
  let c0_4892 : Index := 0#32
  let c0_4893 : Index := 0#32
  ![v6542.toNat, 0, 0]

def k0_chk1167 (v6541 : BitVec 32) : Prop :=
  (∀ a, (k0_off1167 v6541) a + S1x1x256.size a ≤ S4001x1x256.size a)
theorem k0_off1167_inb : ∀ (v6541 : BitVec 32) (k0_hw1167 : k0_chk1167 v6541), ∀ a, (k0_off1167 v6541) a + S1x1x256.size a ≤ S4001x1x256.size a := fun v6541 k0_hw1167 => k0_hw1167

def k0_off1168 (v6545 : BitVec 32) : Fin 3 → Nat :=
  let v6546 : Index := Scalar.indexCast v6545
  let c0_4896 : Index := 0#32
  let c0_4897 : Index := 0#32
  ![v6546.toNat, 0, 0]

def k0_chk1168 (v6545 : BitVec 32) : Prop :=
  (∀ a, (k0_off1168 v6545) a + S1x1x256.size a ≤ S4001x1x256.size a)
theorem k0_off1168_inb : ∀ (v6545 : BitVec 32) (k0_hw1168 : k0_chk1168 v6545), ∀ a, (k0_off1168 v6545) a + S1x1x256.size a ≤ S4001x1x256.size a := fun v6545 k0_hw1168 => k0_hw1168

def k0_off1169 (v6549 : BitVec 32) : Fin 3 → Nat :=
  let v6550 : Index := Scalar.indexCast v6549
  let c0_4900 : Index := 0#32
  let c0_4901 : Index := 0#32
  ![v6550.toNat, 0, 0]

def k0_chk1169 (v6549 : BitVec 32) : Prop :=
  (∀ a, (k0_off1169 v6549) a + S1x1x256.size a ≤ S4001x1x256.size a)
theorem k0_off1169_inb : ∀ (v6549 : BitVec 32) (k0_hw1169 : k0_chk1169 v6549), ∀ a, (k0_off1169 v6549) a + S1x1x256.size a ≤ S4001x1x256.size a := fun v6549 k0_hw1169 => k0_hw1169

def k0_off1170 (v6553 : BitVec 32) : Fin 3 → Nat :=
  let v6554 : Index := Scalar.indexCast v6553
  let c0_4904 : Index := 0#32
  let c0_4905 : Index := 0#32
  ![v6554.toNat, 0, 0]

def k0_chk1170 (v6553 : BitVec 32) : Prop :=
  (∀ a, (k0_off1170 v6553) a + S1x1x256.size a ≤ S4001x1x256.size a)
theorem k0_off1170_inb : ∀ (v6553 : BitVec 32) (k0_hw1170 : k0_chk1170 v6553), ∀ a, (k0_off1170 v6553) a + S1x1x256.size a ≤ S4001x1x256.size a := fun v6553 k0_hw1170 => k0_hw1170

def k0_off1171 (v6557 : BitVec 32) : Fin 3 → Nat :=
  let v6558 : Index := Scalar.indexCast v6557
  let c0_4908 : Index := 0#32
  let c0_4909 : Index := 0#32
  ![v6558.toNat, 0, 0]

def k0_chk1171 (v6557 : BitVec 32) : Prop :=
  (∀ a, (k0_off1171 v6557) a + S1x1x256.size a ≤ S4001x1x256.size a)
theorem k0_off1171_inb : ∀ (v6557 : BitVec 32) (k0_hw1171 : k0_chk1171 v6557), ∀ a, (k0_off1171 v6557) a + S1x1x256.size a ≤ S4001x1x256.size a := fun v6557 k0_hw1171 => k0_hw1171

def k0_off1172 (v6561 : BitVec 32) : Fin 3 → Nat :=
  let v6562 : Index := Scalar.indexCast v6561
  let c0_4912 : Index := 0#32
  let c0_4913 : Index := 0#32
  ![v6562.toNat, 0, 0]

def k0_chk1172 (v6561 : BitVec 32) : Prop :=
  (∀ a, (k0_off1172 v6561) a + S1x1x256.size a ≤ S4001x1x256.size a)
theorem k0_off1172_inb : ∀ (v6561 : BitVec 32) (k0_hw1172 : k0_chk1172 v6561), ∀ a, (k0_off1172 v6561) a + S1x1x256.size a ≤ S4001x1x256.size a := fun v6561 k0_hw1172 => k0_hw1172

def k0_off1173 (v6565 : BitVec 32) : Fin 3 → Nat :=
  let v6566 : Index := Scalar.indexCast v6565
  let c0_4916 : Index := 0#32
  let c0_4917 : Index := 0#32
  ![v6566.toNat, 0, 0]

def k0_chk1173 (v6565 : BitVec 32) : Prop :=
  (∀ a, (k0_off1173 v6565) a + S1x1x256.size a ≤ S4001x1x256.size a)
theorem k0_off1173_inb : ∀ (v6565 : BitVec 32) (k0_hw1173 : k0_chk1173 v6565), ∀ a, (k0_off1173 v6565) a + S1x1x256.size a ≤ S4001x1x256.size a := fun v6565 k0_hw1173 => k0_hw1173

def k0_off1174 (v6569 : BitVec 32) : Fin 3 → Nat :=
  let v6570 : Index := Scalar.indexCast v6569
  let c0_4920 : Index := 0#32
  let c0_4921 : Index := 0#32
  ![v6570.toNat, 0, 0]

def k0_chk1174 (v6569 : BitVec 32) : Prop :=
  (∀ a, (k0_off1174 v6569) a + S1x1x256.size a ≤ S4001x1x256.size a)
theorem k0_off1174_inb : ∀ (v6569 : BitVec 32) (k0_hw1174 : k0_chk1174 v6569), ∀ a, (k0_off1174 v6569) a + S1x1x256.size a ≤ S4001x1x256.size a := fun v6569 k0_hw1174 => k0_hw1174

def k0_off1175 (v6573 : BitVec 32) : Fin 3 → Nat :=
  let v6574 : Index := Scalar.indexCast v6573
  let c0_4924 : Index := 0#32
  let c0_4925 : Index := 0#32
  ![v6574.toNat, 0, 0]

def k0_chk1175 (v6573 : BitVec 32) : Prop :=
  (∀ a, (k0_off1175 v6573) a + S1x1x256.size a ≤ S4001x1x256.size a)
theorem k0_off1175_inb : ∀ (v6573 : BitVec 32) (k0_hw1175 : k0_chk1175 v6573), ∀ a, (k0_off1175 v6573) a + S1x1x256.size a ≤ S4001x1x256.size a := fun v6573 k0_hw1175 => k0_hw1175

def k0_off1176 (v6577 : BitVec 32) : Fin 3 → Nat :=
  let v6578 : Index := Scalar.indexCast v6577
  let c0_4928 : Index := 0#32
  let c0_4929 : Index := 0#32
  ![v6578.toNat, 0, 0]

def k0_chk1176 (v6577 : BitVec 32) : Prop :=
  (∀ a, (k0_off1176 v6577) a + S1x1x256.size a ≤ S4001x1x256.size a)
theorem k0_off1176_inb : ∀ (v6577 : BitVec 32) (k0_hw1176 : k0_chk1176 v6577), ∀ a, (k0_off1176 v6577) a + S1x1x256.size a ≤ S4001x1x256.size a := fun v6577 k0_hw1176 => k0_hw1176

def k0_off1177 (v6581 : BitVec 32) : Fin 3 → Nat :=
  let v6582 : Index := Scalar.indexCast v6581
  let c0_4932 : Index := 0#32
  let c0_4933 : Index := 0#32
  ![v6582.toNat, 0, 0]

def k0_chk1177 (v6581 : BitVec 32) : Prop :=
  (∀ a, (k0_off1177 v6581) a + S1x1x256.size a ≤ S4001x1x256.size a)
theorem k0_off1177_inb : ∀ (v6581 : BitVec 32) (k0_hw1177 : k0_chk1177 v6581), ∀ a, (k0_off1177 v6581) a + S1x1x256.size a ≤ S4001x1x256.size a := fun v6581 k0_hw1177 => k0_hw1177

def k0_off1178 (v6585 : BitVec 32) : Fin 3 → Nat :=
  let v6586 : Index := Scalar.indexCast v6585
  let c0_4936 : Index := 0#32
  let c0_4937 : Index := 0#32
  ![v6586.toNat, 0, 0]

def k0_chk1178 (v6585 : BitVec 32) : Prop :=
  (∀ a, (k0_off1178 v6585) a + S1x1x256.size a ≤ S4001x1x256.size a)
theorem k0_off1178_inb : ∀ (v6585 : BitVec 32) (k0_hw1178 : k0_chk1178 v6585), ∀ a, (k0_off1178 v6585) a + S1x1x256.size a ≤ S4001x1x256.size a := fun v6585 k0_hw1178 => k0_hw1178

def k0_off1179 (v6589 : BitVec 32) : Fin 3 → Nat :=
  let v6590 : Index := Scalar.indexCast v6589
  let c0_4940 : Index := 0#32
  let c0_4941 : Index := 0#32
  ![v6590.toNat, 0, 0]

def k0_chk1179 (v6589 : BitVec 32) : Prop :=
  (∀ a, (k0_off1179 v6589) a + S1x1x256.size a ≤ S4001x1x256.size a)
theorem k0_off1179_inb : ∀ (v6589 : BitVec 32) (k0_hw1179 : k0_chk1179 v6589), ∀ a, (k0_off1179 v6589) a + S1x1x256.size a ≤ S4001x1x256.size a := fun v6589 k0_hw1179 => k0_hw1179

def k0_off1180 (v6593 : BitVec 32) : Fin 3 → Nat :=
  let v6594 : Index := Scalar.indexCast v6593
  let c0_4944 : Index := 0#32
  let c0_4945 : Index := 0#32
  ![v6594.toNat, 0, 0]

def k0_chk1180 (v6593 : BitVec 32) : Prop :=
  (∀ a, (k0_off1180 v6593) a + S1x1x256.size a ≤ S4001x1x256.size a)
theorem k0_off1180_inb : ∀ (v6593 : BitVec 32) (k0_hw1180 : k0_chk1180 v6593), ∀ a, (k0_off1180 v6593) a + S1x1x256.size a ≤ S4001x1x256.size a := fun v6593 k0_hw1180 => k0_hw1180

def k0_off1181 (v6636 : BitVec 32) : Fin 3 → Nat :=
  let v6637 : Index := Scalar.indexCast v6636
  let c0_4948 : Index := 0#32
  let c0_4949 : Index := 0#32
  ![v6637.toNat, 0, 0]

def k0_chk1181 (v6636 : BitVec 32) : Prop :=
  (∀ a, (k0_off1181 v6636) a + S1x1x256.size a ≤ S4001x1x256.size a)
theorem k0_off1181_inb : ∀ (v6636 : BitVec 32) (k0_hw1181 : k0_chk1181 v6636), ∀ a, (k0_off1181 v6636) a + S1x1x256.size a ≤ S4001x1x256.size a := fun v6636 k0_hw1181 => k0_hw1181

def k0_off1182 (v6640 : BitVec 32) : Fin 3 → Nat :=
  let v6641 : Index := Scalar.indexCast v6640
  let c0_4952 : Index := 0#32
  let c0_4953 : Index := 0#32
  ![v6641.toNat, 0, 0]

def k0_chk1182 (v6640 : BitVec 32) : Prop :=
  (∀ a, (k0_off1182 v6640) a + S1x1x256.size a ≤ S4001x1x256.size a)
theorem k0_off1182_inb : ∀ (v6640 : BitVec 32) (k0_hw1182 : k0_chk1182 v6640), ∀ a, (k0_off1182 v6640) a + S1x1x256.size a ≤ S4001x1x256.size a := fun v6640 k0_hw1182 => k0_hw1182

def k0_off1183 (v6644 : BitVec 32) : Fin 3 → Nat :=
  let v6645 : Index := Scalar.indexCast v6644
  let c0_4956 : Index := 0#32
  let c0_4957 : Index := 0#32
  ![v6645.toNat, 0, 0]

def k0_chk1183 (v6644 : BitVec 32) : Prop :=
  (∀ a, (k0_off1183 v6644) a + S1x1x256.size a ≤ S4001x1x256.size a)
theorem k0_off1183_inb : ∀ (v6644 : BitVec 32) (k0_hw1183 : k0_chk1183 v6644), ∀ a, (k0_off1183 v6644) a + S1x1x256.size a ≤ S4001x1x256.size a := fun v6644 k0_hw1183 => k0_hw1183

def k0_off1184 (v6648 : BitVec 32) : Fin 3 → Nat :=
  let v6649 : Index := Scalar.indexCast v6648
  let c0_4960 : Index := 0#32
  let c0_4961 : Index := 0#32
  ![v6649.toNat, 0, 0]

def k0_chk1184 (v6648 : BitVec 32) : Prop :=
  (∀ a, (k0_off1184 v6648) a + S1x1x256.size a ≤ S4001x1x256.size a)
theorem k0_off1184_inb : ∀ (v6648 : BitVec 32) (k0_hw1184 : k0_chk1184 v6648), ∀ a, (k0_off1184 v6648) a + S1x1x256.size a ≤ S4001x1x256.size a := fun v6648 k0_hw1184 => k0_hw1184

def k0_off1185 (v6652 : BitVec 32) : Fin 3 → Nat :=
  let v6653 : Index := Scalar.indexCast v6652
  let c0_4964 : Index := 0#32
  let c0_4965 : Index := 0#32
  ![v6653.toNat, 0, 0]

def k0_chk1185 (v6652 : BitVec 32) : Prop :=
  (∀ a, (k0_off1185 v6652) a + S1x1x256.size a ≤ S4001x1x256.size a)
theorem k0_off1185_inb : ∀ (v6652 : BitVec 32) (k0_hw1185 : k0_chk1185 v6652), ∀ a, (k0_off1185 v6652) a + S1x1x256.size a ≤ S4001x1x256.size a := fun v6652 k0_hw1185 => k0_hw1185

def k0_off1186 (v6656 : BitVec 32) : Fin 3 → Nat :=
  let v6657 : Index := Scalar.indexCast v6656
  let c0_4968 : Index := 0#32
  let c0_4969 : Index := 0#32
  ![v6657.toNat, 0, 0]

def k0_chk1186 (v6656 : BitVec 32) : Prop :=
  (∀ a, (k0_off1186 v6656) a + S1x1x256.size a ≤ S4001x1x256.size a)
theorem k0_off1186_inb : ∀ (v6656 : BitVec 32) (k0_hw1186 : k0_chk1186 v6656), ∀ a, (k0_off1186 v6656) a + S1x1x256.size a ≤ S4001x1x256.size a := fun v6656 k0_hw1186 => k0_hw1186

def k0_off1187 (v6660 : BitVec 32) : Fin 3 → Nat :=
  let v6661 : Index := Scalar.indexCast v6660
  let c0_4972 : Index := 0#32
  let c0_4973 : Index := 0#32
  ![v6661.toNat, 0, 0]

def k0_chk1187 (v6660 : BitVec 32) : Prop :=
  (∀ a, (k0_off1187 v6660) a + S1x1x256.size a ≤ S4001x1x256.size a)
theorem k0_off1187_inb : ∀ (v6660 : BitVec 32) (k0_hw1187 : k0_chk1187 v6660), ∀ a, (k0_off1187 v6660) a + S1x1x256.size a ≤ S4001x1x256.size a := fun v6660 k0_hw1187 => k0_hw1187

def k0_off1188 (v6664 : BitVec 32) : Fin 3 → Nat :=
  let v6665 : Index := Scalar.indexCast v6664
  let c0_4976 : Index := 0#32
  let c0_4977 : Index := 0#32
  ![v6665.toNat, 0, 0]

def k0_chk1188 (v6664 : BitVec 32) : Prop :=
  (∀ a, (k0_off1188 v6664) a + S1x1x256.size a ≤ S4001x1x256.size a)
theorem k0_off1188_inb : ∀ (v6664 : BitVec 32) (k0_hw1188 : k0_chk1188 v6664), ∀ a, (k0_off1188 v6664) a + S1x1x256.size a ≤ S4001x1x256.size a := fun v6664 k0_hw1188 => k0_hw1188

def k0_off1189 (v6668 : BitVec 32) : Fin 3 → Nat :=
  let v6669 : Index := Scalar.indexCast v6668
  let c0_4980 : Index := 0#32
  let c0_4981 : Index := 0#32
  ![v6669.toNat, 0, 0]

def k0_chk1189 (v6668 : BitVec 32) : Prop :=
  (∀ a, (k0_off1189 v6668) a + S1x1x256.size a ≤ S4001x1x256.size a)
theorem k0_off1189_inb : ∀ (v6668 : BitVec 32) (k0_hw1189 : k0_chk1189 v6668), ∀ a, (k0_off1189 v6668) a + S1x1x256.size a ≤ S4001x1x256.size a := fun v6668 k0_hw1189 => k0_hw1189

def k0_off1190 (v6672 : BitVec 32) : Fin 3 → Nat :=
  let v6673 : Index := Scalar.indexCast v6672
  let c0_4984 : Index := 0#32
  let c0_4985 : Index := 0#32
  ![v6673.toNat, 0, 0]

def k0_chk1190 (v6672 : BitVec 32) : Prop :=
  (∀ a, (k0_off1190 v6672) a + S1x1x256.size a ≤ S4001x1x256.size a)
theorem k0_off1190_inb : ∀ (v6672 : BitVec 32) (k0_hw1190 : k0_chk1190 v6672), ∀ a, (k0_off1190 v6672) a + S1x1x256.size a ≤ S4001x1x256.size a := fun v6672 k0_hw1190 => k0_hw1190

def k0_off1191 (v6676 : BitVec 32) : Fin 3 → Nat :=
  let v6677 : Index := Scalar.indexCast v6676
  let c0_4988 : Index := 0#32
  let c0_4989 : Index := 0#32
  ![v6677.toNat, 0, 0]

def k0_chk1191 (v6676 : BitVec 32) : Prop :=
  (∀ a, (k0_off1191 v6676) a + S1x1x256.size a ≤ S4001x1x256.size a)
theorem k0_off1191_inb : ∀ (v6676 : BitVec 32) (k0_hw1191 : k0_chk1191 v6676), ∀ a, (k0_off1191 v6676) a + S1x1x256.size a ≤ S4001x1x256.size a := fun v6676 k0_hw1191 => k0_hw1191

def k0_off1192 (v6680 : BitVec 32) : Fin 3 → Nat :=
  let v6681 : Index := Scalar.indexCast v6680
  let c0_4992 : Index := 0#32
  let c0_4993 : Index := 0#32
  ![v6681.toNat, 0, 0]

def k0_chk1192 (v6680 : BitVec 32) : Prop :=
  (∀ a, (k0_off1192 v6680) a + S1x1x256.size a ≤ S4001x1x256.size a)
theorem k0_off1192_inb : ∀ (v6680 : BitVec 32) (k0_hw1192 : k0_chk1192 v6680), ∀ a, (k0_off1192 v6680) a + S1x1x256.size a ≤ S4001x1x256.size a := fun v6680 k0_hw1192 => k0_hw1192

def k0_off1193 (v6684 : BitVec 32) : Fin 3 → Nat :=
  let v6685 : Index := Scalar.indexCast v6684
  let c0_4996 : Index := 0#32
  let c0_4997 : Index := 0#32
  ![v6685.toNat, 0, 0]

def k0_chk1193 (v6684 : BitVec 32) : Prop :=
  (∀ a, (k0_off1193 v6684) a + S1x1x256.size a ≤ S4001x1x256.size a)
theorem k0_off1193_inb : ∀ (v6684 : BitVec 32) (k0_hw1193 : k0_chk1193 v6684), ∀ a, (k0_off1193 v6684) a + S1x1x256.size a ≤ S4001x1x256.size a := fun v6684 k0_hw1193 => k0_hw1193

def k0_off1194 (v6688 : BitVec 32) : Fin 3 → Nat :=
  let v6689 : Index := Scalar.indexCast v6688
  let c0_5000 : Index := 0#32
  let c0_5001 : Index := 0#32
  ![v6689.toNat, 0, 0]

def k0_chk1194 (v6688 : BitVec 32) : Prop :=
  (∀ a, (k0_off1194 v6688) a + S1x1x256.size a ≤ S4001x1x256.size a)
theorem k0_off1194_inb : ∀ (v6688 : BitVec 32) (k0_hw1194 : k0_chk1194 v6688), ∀ a, (k0_off1194 v6688) a + S1x1x256.size a ≤ S4001x1x256.size a := fun v6688 k0_hw1194 => k0_hw1194

def k0_off1195 (v6692 : BitVec 32) : Fin 3 → Nat :=
  let v6693 : Index := Scalar.indexCast v6692
  let c0_5004 : Index := 0#32
  let c0_5005 : Index := 0#32
  ![v6693.toNat, 0, 0]

def k0_chk1195 (v6692 : BitVec 32) : Prop :=
  (∀ a, (k0_off1195 v6692) a + S1x1x256.size a ≤ S4001x1x256.size a)
theorem k0_off1195_inb : ∀ (v6692 : BitVec 32) (k0_hw1195 : k0_chk1195 v6692), ∀ a, (k0_off1195 v6692) a + S1x1x256.size a ≤ S4001x1x256.size a := fun v6692 k0_hw1195 => k0_hw1195

def k0_off1196 (v6696 : BitVec 32) : Fin 3 → Nat :=
  let v6697 : Index := Scalar.indexCast v6696
  let c0_5008 : Index := 0#32
  let c0_5009 : Index := 0#32
  ![v6697.toNat, 0, 0]

def k0_chk1196 (v6696 : BitVec 32) : Prop :=
  (∀ a, (k0_off1196 v6696) a + S1x1x256.size a ≤ S4001x1x256.size a)
theorem k0_off1196_inb : ∀ (v6696 : BitVec 32) (k0_hw1196 : k0_chk1196 v6696), ∀ a, (k0_off1196 v6696) a + S1x1x256.size a ≤ S4001x1x256.size a := fun v6696 k0_hw1196 => k0_hw1196

def k0_off1197 (v6700 : BitVec 32) : Fin 3 → Nat :=
  let v6701 : Index := Scalar.indexCast v6700
  let c0_5012 : Index := 0#32
  let c0_5013 : Index := 0#32
  ![v6701.toNat, 0, 0]

def k0_chk1197 (v6700 : BitVec 32) : Prop :=
  (∀ a, (k0_off1197 v6700) a + S1x1x256.size a ≤ S4001x1x256.size a)
theorem k0_off1197_inb : ∀ (v6700 : BitVec 32) (k0_hw1197 : k0_chk1197 v6700), ∀ a, (k0_off1197 v6700) a + S1x1x256.size a ≤ S4001x1x256.size a := fun v6700 k0_hw1197 => k0_hw1197

def k0_off1198 (v6704 : BitVec 32) : Fin 3 → Nat :=
  let v6705 : Index := Scalar.indexCast v6704
  let c0_5016 : Index := 0#32
  let c0_5017 : Index := 0#32
  ![v6705.toNat, 0, 0]

def k0_chk1198 (v6704 : BitVec 32) : Prop :=
  (∀ a, (k0_off1198 v6704) a + S1x1x256.size a ≤ S4001x1x256.size a)
theorem k0_off1198_inb : ∀ (v6704 : BitVec 32) (k0_hw1198 : k0_chk1198 v6704), ∀ a, (k0_off1198 v6704) a + S1x1x256.size a ≤ S4001x1x256.size a := fun v6704 k0_hw1198 => k0_hw1198

def k0_off1199 (v6708 : BitVec 32) : Fin 3 → Nat :=
  let v6709 : Index := Scalar.indexCast v6708
  let c0_5020 : Index := 0#32
  let c0_5021 : Index := 0#32
  ![v6709.toNat, 0, 0]

def k0_chk1199 (v6708 : BitVec 32) : Prop :=
  (∀ a, (k0_off1199 v6708) a + S1x1x256.size a ≤ S4001x1x256.size a)
theorem k0_off1199_inb : ∀ (v6708 : BitVec 32) (k0_hw1199 : k0_chk1199 v6708), ∀ a, (k0_off1199 v6708) a + S1x1x256.size a ≤ S4001x1x256.size a := fun v6708 k0_hw1199 => k0_hw1199

def k0_off1200 (v6712 : BitVec 32) : Fin 3 → Nat :=
  let v6713 : Index := Scalar.indexCast v6712
  let c0_5024 : Index := 0#32
  let c0_5025 : Index := 0#32
  ![v6713.toNat, 0, 0]

def k0_chk1200 (v6712 : BitVec 32) : Prop :=
  (∀ a, (k0_off1200 v6712) a + S1x1x256.size a ≤ S4001x1x256.size a)
theorem k0_off1200_inb : ∀ (v6712 : BitVec 32) (k0_hw1200 : k0_chk1200 v6712), ∀ a, (k0_off1200 v6712) a + S1x1x256.size a ≤ S4001x1x256.size a := fun v6712 k0_hw1200 => k0_hw1200

def k0_off1201 (v6776 : BitVec 32) : Fin 3 → Nat :=
  let v6777 : Index := Scalar.indexCast v6776
  let c0_5045 : Index := 0#32
  let c0_5046 : Index := 0#32
  ![v6777.toNat, 0, 0]

def k0_chk1201 (v6776 : BitVec 32) : Prop :=
  (∀ a, (k0_off1201 v6776) a + S1x1x256.size a ≤ S4001x1x256.size a)
theorem k0_off1201_inb : ∀ (v6776 : BitVec 32) (k0_hw1201 : k0_chk1201 v6776), ∀ a, (k0_off1201 v6776) a + S1x1x256.size a ≤ S4001x1x256.size a := fun v6776 k0_hw1201 => k0_hw1201

def k0_off1202 (v6780 : BitVec 32) : Fin 3 → Nat :=
  let v6781 : Index := Scalar.indexCast v6780
  let c0_5049 : Index := 0#32
  let c0_5050 : Index := 0#32
  ![v6781.toNat, 0, 0]

def k0_chk1202 (v6780 : BitVec 32) : Prop :=
  (∀ a, (k0_off1202 v6780) a + S1x1x256.size a ≤ S4001x1x256.size a)
theorem k0_off1202_inb : ∀ (v6780 : BitVec 32) (k0_hw1202 : k0_chk1202 v6780), ∀ a, (k0_off1202 v6780) a + S1x1x256.size a ≤ S4001x1x256.size a := fun v6780 k0_hw1202 => k0_hw1202

def k0_off1203 (v6784 : BitVec 32) : Fin 3 → Nat :=
  let v6785 : Index := Scalar.indexCast v6784
  let c0_5053 : Index := 0#32
  let c0_5054 : Index := 0#32
  ![v6785.toNat, 0, 0]

def k0_chk1203 (v6784 : BitVec 32) : Prop :=
  (∀ a, (k0_off1203 v6784) a + S1x1x256.size a ≤ S4001x1x256.size a)
theorem k0_off1203_inb : ∀ (v6784 : BitVec 32) (k0_hw1203 : k0_chk1203 v6784), ∀ a, (k0_off1203 v6784) a + S1x1x256.size a ≤ S4001x1x256.size a := fun v6784 k0_hw1203 => k0_hw1203

def k0_off1204 (v6788 : BitVec 32) : Fin 3 → Nat :=
  let v6789 : Index := Scalar.indexCast v6788
  let c0_5057 : Index := 0#32
  let c0_5058 : Index := 0#32
  ![v6789.toNat, 0, 0]

def k0_chk1204 (v6788 : BitVec 32) : Prop :=
  (∀ a, (k0_off1204 v6788) a + S1x1x256.size a ≤ S4001x1x256.size a)
theorem k0_off1204_inb : ∀ (v6788 : BitVec 32) (k0_hw1204 : k0_chk1204 v6788), ∀ a, (k0_off1204 v6788) a + S1x1x256.size a ≤ S4001x1x256.size a := fun v6788 k0_hw1204 => k0_hw1204

def k0_off1205 (v6792 : BitVec 32) : Fin 3 → Nat :=
  let v6793 : Index := Scalar.indexCast v6792
  let c0_5061 : Index := 0#32
  let c0_5062 : Index := 0#32
  ![v6793.toNat, 0, 0]

def k0_chk1205 (v6792 : BitVec 32) : Prop :=
  (∀ a, (k0_off1205 v6792) a + S1x1x256.size a ≤ S4001x1x256.size a)
theorem k0_off1205_inb : ∀ (v6792 : BitVec 32) (k0_hw1205 : k0_chk1205 v6792), ∀ a, (k0_off1205 v6792) a + S1x1x256.size a ≤ S4001x1x256.size a := fun v6792 k0_hw1205 => k0_hw1205

def k0_off1206 (v6796 : BitVec 32) : Fin 3 → Nat :=
  let v6797 : Index := Scalar.indexCast v6796
  let c0_5065 : Index := 0#32
  let c0_5066 : Index := 0#32
  ![v6797.toNat, 0, 0]

def k0_chk1206 (v6796 : BitVec 32) : Prop :=
  (∀ a, (k0_off1206 v6796) a + S1x1x256.size a ≤ S4001x1x256.size a)
theorem k0_off1206_inb : ∀ (v6796 : BitVec 32) (k0_hw1206 : k0_chk1206 v6796), ∀ a, (k0_off1206 v6796) a + S1x1x256.size a ≤ S4001x1x256.size a := fun v6796 k0_hw1206 => k0_hw1206

def k0_off1207 (v6800 : BitVec 32) : Fin 3 → Nat :=
  let v6801 : Index := Scalar.indexCast v6800
  let c0_5069 : Index := 0#32
  let c0_5070 : Index := 0#32
  ![v6801.toNat, 0, 0]

def k0_chk1207 (v6800 : BitVec 32) : Prop :=
  (∀ a, (k0_off1207 v6800) a + S1x1x256.size a ≤ S4001x1x256.size a)
theorem k0_off1207_inb : ∀ (v6800 : BitVec 32) (k0_hw1207 : k0_chk1207 v6800), ∀ a, (k0_off1207 v6800) a + S1x1x256.size a ≤ S4001x1x256.size a := fun v6800 k0_hw1207 => k0_hw1207

def k0_off1208 (v6804 : BitVec 32) : Fin 3 → Nat :=
  let v6805 : Index := Scalar.indexCast v6804
  let c0_5073 : Index := 0#32
  let c0_5074 : Index := 0#32
  ![v6805.toNat, 0, 0]

def k0_chk1208 (v6804 : BitVec 32) : Prop :=
  (∀ a, (k0_off1208 v6804) a + S1x1x256.size a ≤ S4001x1x256.size a)
theorem k0_off1208_inb : ∀ (v6804 : BitVec 32) (k0_hw1208 : k0_chk1208 v6804), ∀ a, (k0_off1208 v6804) a + S1x1x256.size a ≤ S4001x1x256.size a := fun v6804 k0_hw1208 => k0_hw1208

def k0_off1209 (v6808 : BitVec 32) : Fin 3 → Nat :=
  let v6809 : Index := Scalar.indexCast v6808
  let c0_5077 : Index := 0#32
  let c0_5078 : Index := 0#32
  ![v6809.toNat, 0, 0]

def k0_chk1209 (v6808 : BitVec 32) : Prop :=
  (∀ a, (k0_off1209 v6808) a + S1x1x256.size a ≤ S4001x1x256.size a)
theorem k0_off1209_inb : ∀ (v6808 : BitVec 32) (k0_hw1209 : k0_chk1209 v6808), ∀ a, (k0_off1209 v6808) a + S1x1x256.size a ≤ S4001x1x256.size a := fun v6808 k0_hw1209 => k0_hw1209

def k0_off1210 (v6812 : BitVec 32) : Fin 3 → Nat :=
  let v6813 : Index := Scalar.indexCast v6812
  let c0_5081 : Index := 0#32
  let c0_5082 : Index := 0#32
  ![v6813.toNat, 0, 0]

def k0_chk1210 (v6812 : BitVec 32) : Prop :=
  (∀ a, (k0_off1210 v6812) a + S1x1x256.size a ≤ S4001x1x256.size a)
theorem k0_off1210_inb : ∀ (v6812 : BitVec 32) (k0_hw1210 : k0_chk1210 v6812), ∀ a, (k0_off1210 v6812) a + S1x1x256.size a ≤ S4001x1x256.size a := fun v6812 k0_hw1210 => k0_hw1210

def k0_off1211 (v6816 : BitVec 32) : Fin 3 → Nat :=
  let v6817 : Index := Scalar.indexCast v6816
  let c0_5085 : Index := 0#32
  let c0_5086 : Index := 0#32
  ![v6817.toNat, 0, 0]

def k0_chk1211 (v6816 : BitVec 32) : Prop :=
  (∀ a, (k0_off1211 v6816) a + S1x1x256.size a ≤ S4001x1x256.size a)
theorem k0_off1211_inb : ∀ (v6816 : BitVec 32) (k0_hw1211 : k0_chk1211 v6816), ∀ a, (k0_off1211 v6816) a + S1x1x256.size a ≤ S4001x1x256.size a := fun v6816 k0_hw1211 => k0_hw1211

def k0_off1212 (v6820 : BitVec 32) : Fin 3 → Nat :=
  let v6821 : Index := Scalar.indexCast v6820
  let c0_5089 : Index := 0#32
  let c0_5090 : Index := 0#32
  ![v6821.toNat, 0, 0]

def k0_chk1212 (v6820 : BitVec 32) : Prop :=
  (∀ a, (k0_off1212 v6820) a + S1x1x256.size a ≤ S4001x1x256.size a)
theorem k0_off1212_inb : ∀ (v6820 : BitVec 32) (k0_hw1212 : k0_chk1212 v6820), ∀ a, (k0_off1212 v6820) a + S1x1x256.size a ≤ S4001x1x256.size a := fun v6820 k0_hw1212 => k0_hw1212

def k0_off1213 (v6824 : BitVec 32) : Fin 3 → Nat :=
  let v6825 : Index := Scalar.indexCast v6824
  let c0_5093 : Index := 0#32
  let c0_5094 : Index := 0#32
  ![v6825.toNat, 0, 0]

def k0_chk1213 (v6824 : BitVec 32) : Prop :=
  (∀ a, (k0_off1213 v6824) a + S1x1x256.size a ≤ S4001x1x256.size a)
theorem k0_off1213_inb : ∀ (v6824 : BitVec 32) (k0_hw1213 : k0_chk1213 v6824), ∀ a, (k0_off1213 v6824) a + S1x1x256.size a ≤ S4001x1x256.size a := fun v6824 k0_hw1213 => k0_hw1213

def k0_off1214 (v6828 : BitVec 32) : Fin 3 → Nat :=
  let v6829 : Index := Scalar.indexCast v6828
  let c0_5097 : Index := 0#32
  let c0_5098 : Index := 0#32
  ![v6829.toNat, 0, 0]

def k0_chk1214 (v6828 : BitVec 32) : Prop :=
  (∀ a, (k0_off1214 v6828) a + S1x1x256.size a ≤ S4001x1x256.size a)
theorem k0_off1214_inb : ∀ (v6828 : BitVec 32) (k0_hw1214 : k0_chk1214 v6828), ∀ a, (k0_off1214 v6828) a + S1x1x256.size a ≤ S4001x1x256.size a := fun v6828 k0_hw1214 => k0_hw1214

def k0_off1215 (v6832 : BitVec 32) : Fin 3 → Nat :=
  let v6833 : Index := Scalar.indexCast v6832
  let c0_5101 : Index := 0#32
  let c0_5102 : Index := 0#32
  ![v6833.toNat, 0, 0]

def k0_chk1215 (v6832 : BitVec 32) : Prop :=
  (∀ a, (k0_off1215 v6832) a + S1x1x256.size a ≤ S4001x1x256.size a)
theorem k0_off1215_inb : ∀ (v6832 : BitVec 32) (k0_hw1215 : k0_chk1215 v6832), ∀ a, (k0_off1215 v6832) a + S1x1x256.size a ≤ S4001x1x256.size a := fun v6832 k0_hw1215 => k0_hw1215

def k0_off1216 (v6836 : BitVec 32) : Fin 3 → Nat :=
  let v6837 : Index := Scalar.indexCast v6836
  let c0_5105 : Index := 0#32
  let c0_5106 : Index := 0#32
  ![v6837.toNat, 0, 0]

def k0_chk1216 (v6836 : BitVec 32) : Prop :=
  (∀ a, (k0_off1216 v6836) a + S1x1x256.size a ≤ S4001x1x256.size a)
theorem k0_off1216_inb : ∀ (v6836 : BitVec 32) (k0_hw1216 : k0_chk1216 v6836), ∀ a, (k0_off1216 v6836) a + S1x1x256.size a ≤ S4001x1x256.size a := fun v6836 k0_hw1216 => k0_hw1216

def k0_off1217 (v6840 : BitVec 32) : Fin 3 → Nat :=
  let v6841 : Index := Scalar.indexCast v6840
  let c0_5109 : Index := 0#32
  let c0_5110 : Index := 0#32
  ![v6841.toNat, 0, 0]

def k0_chk1217 (v6840 : BitVec 32) : Prop :=
  (∀ a, (k0_off1217 v6840) a + S1x1x256.size a ≤ S4001x1x256.size a)
theorem k0_off1217_inb : ∀ (v6840 : BitVec 32) (k0_hw1217 : k0_chk1217 v6840), ∀ a, (k0_off1217 v6840) a + S1x1x256.size a ≤ S4001x1x256.size a := fun v6840 k0_hw1217 => k0_hw1217

def k0_off1218 (v6844 : BitVec 32) : Fin 3 → Nat :=
  let v6845 : Index := Scalar.indexCast v6844
  let c0_5113 : Index := 0#32
  let c0_5114 : Index := 0#32
  ![v6845.toNat, 0, 0]

def k0_chk1218 (v6844 : BitVec 32) : Prop :=
  (∀ a, (k0_off1218 v6844) a + S1x1x256.size a ≤ S4001x1x256.size a)
theorem k0_off1218_inb : ∀ (v6844 : BitVec 32) (k0_hw1218 : k0_chk1218 v6844), ∀ a, (k0_off1218 v6844) a + S1x1x256.size a ≤ S4001x1x256.size a := fun v6844 k0_hw1218 => k0_hw1218

def k0_off1219 (v6848 : BitVec 32) : Fin 3 → Nat :=
  let v6849 : Index := Scalar.indexCast v6848
  let c0_5117 : Index := 0#32
  let c0_5118 : Index := 0#32
  ![v6849.toNat, 0, 0]

def k0_chk1219 (v6848 : BitVec 32) : Prop :=
  (∀ a, (k0_off1219 v6848) a + S1x1x256.size a ≤ S4001x1x256.size a)
theorem k0_off1219_inb : ∀ (v6848 : BitVec 32) (k0_hw1219 : k0_chk1219 v6848), ∀ a, (k0_off1219 v6848) a + S1x1x256.size a ≤ S4001x1x256.size a := fun v6848 k0_hw1219 => k0_hw1219

def k0_off1220 (v6852 : BitVec 32) : Fin 3 → Nat :=
  let v6853 : Index := Scalar.indexCast v6852
  let c0_5121 : Index := 0#32
  let c0_5122 : Index := 0#32
  ![v6853.toNat, 0, 0]

def k0_chk1220 (v6852 : BitVec 32) : Prop :=
  (∀ a, (k0_off1220 v6852) a + S1x1x256.size a ≤ S4001x1x256.size a)
theorem k0_off1220_inb : ∀ (v6852 : BitVec 32) (k0_hw1220 : k0_chk1220 v6852), ∀ a, (k0_off1220 v6852) a + S1x1x256.size a ≤ S4001x1x256.size a := fun v6852 k0_hw1220 => k0_hw1220

def k0_off1221 (v6856 : BitVec 32) : Fin 3 → Nat :=
  let v6857 : Index := Scalar.indexCast v6856
  let c0_5125 : Index := 0#32
  let c0_5126 : Index := 0#32
  ![v6857.toNat, 0, 0]

def k0_chk1221 (v6856 : BitVec 32) : Prop :=
  (∀ a, (k0_off1221 v6856) a + S1x1x256.size a ≤ S4001x1x256.size a)
theorem k0_off1221_inb : ∀ (v6856 : BitVec 32) (k0_hw1221 : k0_chk1221 v6856), ∀ a, (k0_off1221 v6856) a + S1x1x256.size a ≤ S4001x1x256.size a := fun v6856 k0_hw1221 => k0_hw1221

def k0_off1222 (v6860 : BitVec 32) : Fin 3 → Nat :=
  let v6861 : Index := Scalar.indexCast v6860
  let c0_5129 : Index := 0#32
  let c0_5130 : Index := 0#32
  ![v6861.toNat, 0, 0]

def k0_chk1222 (v6860 : BitVec 32) : Prop :=
  (∀ a, (k0_off1222 v6860) a + S1x1x256.size a ≤ S4001x1x256.size a)
theorem k0_off1222_inb : ∀ (v6860 : BitVec 32) (k0_hw1222 : k0_chk1222 v6860), ∀ a, (k0_off1222 v6860) a + S1x1x256.size a ≤ S4001x1x256.size a := fun v6860 k0_hw1222 => k0_hw1222

def k0_off1223 (v6864 : BitVec 32) : Fin 3 → Nat :=
  let v6865 : Index := Scalar.indexCast v6864
  let c0_5133 : Index := 0#32
  let c0_5134 : Index := 0#32
  ![v6865.toNat, 0, 0]

def k0_chk1223 (v6864 : BitVec 32) : Prop :=
  (∀ a, (k0_off1223 v6864) a + S1x1x256.size a ≤ S4001x1x256.size a)
theorem k0_off1223_inb : ∀ (v6864 : BitVec 32) (k0_hw1223 : k0_chk1223 v6864), ∀ a, (k0_off1223 v6864) a + S1x1x256.size a ≤ S4001x1x256.size a := fun v6864 k0_hw1223 => k0_hw1223

def k0_off1224 (v6868 : BitVec 32) : Fin 3 → Nat :=
  let v6869 : Index := Scalar.indexCast v6868
  let c0_5137 : Index := 0#32
  let c0_5138 : Index := 0#32
  ![v6869.toNat, 0, 0]

def k0_chk1224 (v6868 : BitVec 32) : Prop :=
  (∀ a, (k0_off1224 v6868) a + S1x1x256.size a ≤ S4001x1x256.size a)
theorem k0_off1224_inb : ∀ (v6868 : BitVec 32) (k0_hw1224 : k0_chk1224 v6868), ∀ a, (k0_off1224 v6868) a + S1x1x256.size a ≤ S4001x1x256.size a := fun v6868 k0_hw1224 => k0_hw1224

def k0_off1225 (v6872 : BitVec 32) : Fin 3 → Nat :=
  let v6873 : Index := Scalar.indexCast v6872
  let c0_5141 : Index := 0#32
  let c0_5142 : Index := 0#32
  ![v6873.toNat, 0, 0]

def k0_chk1225 (v6872 : BitVec 32) : Prop :=
  (∀ a, (k0_off1225 v6872) a + S1x1x256.size a ≤ S4001x1x256.size a)
theorem k0_off1225_inb : ∀ (v6872 : BitVec 32) (k0_hw1225 : k0_chk1225 v6872), ∀ a, (k0_off1225 v6872) a + S1x1x256.size a ≤ S4001x1x256.size a := fun v6872 k0_hw1225 => k0_hw1225

def k0_off1226 (v6876 : BitVec 32) : Fin 3 → Nat :=
  let v6877 : Index := Scalar.indexCast v6876
  let c0_5145 : Index := 0#32
  let c0_5146 : Index := 0#32
  ![v6877.toNat, 0, 0]

def k0_chk1226 (v6876 : BitVec 32) : Prop :=
  (∀ a, (k0_off1226 v6876) a + S1x1x256.size a ≤ S4001x1x256.size a)
theorem k0_off1226_inb : ∀ (v6876 : BitVec 32) (k0_hw1226 : k0_chk1226 v6876), ∀ a, (k0_off1226 v6876) a + S1x1x256.size a ≤ S4001x1x256.size a := fun v6876 k0_hw1226 => k0_hw1226

def k0_off1227 (v6880 : BitVec 32) : Fin 3 → Nat :=
  let v6881 : Index := Scalar.indexCast v6880
  let c0_5149 : Index := 0#32
  let c0_5150 : Index := 0#32
  ![v6881.toNat, 0, 0]

def k0_chk1227 (v6880 : BitVec 32) : Prop :=
  (∀ a, (k0_off1227 v6880) a + S1x1x256.size a ≤ S4001x1x256.size a)
theorem k0_off1227_inb : ∀ (v6880 : BitVec 32) (k0_hw1227 : k0_chk1227 v6880), ∀ a, (k0_off1227 v6880) a + S1x1x256.size a ≤ S4001x1x256.size a := fun v6880 k0_hw1227 => k0_hw1227

def k0_off1228 (v6884 : BitVec 32) : Fin 3 → Nat :=
  let v6885 : Index := Scalar.indexCast v6884
  let c0_5153 : Index := 0#32
  let c0_5154 : Index := 0#32
  ![v6885.toNat, 0, 0]

def k0_chk1228 (v6884 : BitVec 32) : Prop :=
  (∀ a, (k0_off1228 v6884) a + S1x1x256.size a ≤ S4001x1x256.size a)
theorem k0_off1228_inb : ∀ (v6884 : BitVec 32) (k0_hw1228 : k0_chk1228 v6884), ∀ a, (k0_off1228 v6884) a + S1x1x256.size a ≤ S4001x1x256.size a := fun v6884 k0_hw1228 => k0_hw1228

def k0_off1229 (v6888 : BitVec 32) : Fin 3 → Nat :=
  let v6889 : Index := Scalar.indexCast v6888
  let c0_5157 : Index := 0#32
  let c0_5158 : Index := 0#32
  ![v6889.toNat, 0, 0]

def k0_chk1229 (v6888 : BitVec 32) : Prop :=
  (∀ a, (k0_off1229 v6888) a + S1x1x256.size a ≤ S4001x1x256.size a)
theorem k0_off1229_inb : ∀ (v6888 : BitVec 32) (k0_hw1229 : k0_chk1229 v6888), ∀ a, (k0_off1229 v6888) a + S1x1x256.size a ≤ S4001x1x256.size a := fun v6888 k0_hw1229 => k0_hw1229

def k0_off1230 (v6892 : BitVec 32) : Fin 3 → Nat :=
  let v6893 : Index := Scalar.indexCast v6892
  let c0_5161 : Index := 0#32
  let c0_5162 : Index := 0#32
  ![v6893.toNat, 0, 0]

def k0_chk1230 (v6892 : BitVec 32) : Prop :=
  (∀ a, (k0_off1230 v6892) a + S1x1x256.size a ≤ S4001x1x256.size a)
theorem k0_off1230_inb : ∀ (v6892 : BitVec 32) (k0_hw1230 : k0_chk1230 v6892), ∀ a, (k0_off1230 v6892) a + S1x1x256.size a ≤ S4001x1x256.size a := fun v6892 k0_hw1230 => k0_hw1230

def k0_off1231 (v6896 : BitVec 32) : Fin 3 → Nat :=
  let v6897 : Index := Scalar.indexCast v6896
  let c0_5165 : Index := 0#32
  let c0_5166 : Index := 0#32
  ![v6897.toNat, 0, 0]

def k0_chk1231 (v6896 : BitVec 32) : Prop :=
  (∀ a, (k0_off1231 v6896) a + S1x1x256.size a ≤ S4001x1x256.size a)
theorem k0_off1231_inb : ∀ (v6896 : BitVec 32) (k0_hw1231 : k0_chk1231 v6896), ∀ a, (k0_off1231 v6896) a + S1x1x256.size a ≤ S4001x1x256.size a := fun v6896 k0_hw1231 => k0_hw1231

def k0_off1232 (v6900 : BitVec 32) : Fin 3 → Nat :=
  let v6901 : Index := Scalar.indexCast v6900
  let c0_5169 : Index := 0#32
  let c0_5170 : Index := 0#32
  ![v6901.toNat, 0, 0]

def k0_chk1232 (v6900 : BitVec 32) : Prop :=
  (∀ a, (k0_off1232 v6900) a + S1x1x256.size a ≤ S4001x1x256.size a)
theorem k0_off1232_inb : ∀ (v6900 : BitVec 32) (k0_hw1232 : k0_chk1232 v6900), ∀ a, (k0_off1232 v6900) a + S1x1x256.size a ≤ S4001x1x256.size a := fun v6900 k0_hw1232 => k0_hw1232

def k0_off1233 (v6904 : BitVec 32) : Fin 3 → Nat :=
  let v6905 : Index := Scalar.indexCast v6904
  let c0_5173 : Index := 0#32
  let c0_5174 : Index := 0#32
  ![v6905.toNat, 0, 0]

def k0_chk1233 (v6904 : BitVec 32) : Prop :=
  (∀ a, (k0_off1233 v6904) a + S1x1x256.size a ≤ S4001x1x256.size a)
theorem k0_off1233_inb : ∀ (v6904 : BitVec 32) (k0_hw1233 : k0_chk1233 v6904), ∀ a, (k0_off1233 v6904) a + S1x1x256.size a ≤ S4001x1x256.size a := fun v6904 k0_hw1233 => k0_hw1233

def k0_off1234 (v6908 : BitVec 32) : Fin 3 → Nat :=
  let v6909 : Index := Scalar.indexCast v6908
  let c0_5177 : Index := 0#32
  let c0_5178 : Index := 0#32
  ![v6909.toNat, 0, 0]

def k0_chk1234 (v6908 : BitVec 32) : Prop :=
  (∀ a, (k0_off1234 v6908) a + S1x1x256.size a ≤ S4001x1x256.size a)
theorem k0_off1234_inb : ∀ (v6908 : BitVec 32) (k0_hw1234 : k0_chk1234 v6908), ∀ a, (k0_off1234 v6908) a + S1x1x256.size a ≤ S4001x1x256.size a := fun v6908 k0_hw1234 => k0_hw1234

def k0_off1235 (v6912 : BitVec 32) : Fin 3 → Nat :=
  let v6913 : Index := Scalar.indexCast v6912
  let c0_5181 : Index := 0#32
  let c0_5182 : Index := 0#32
  ![v6913.toNat, 0, 0]

def k0_chk1235 (v6912 : BitVec 32) : Prop :=
  (∀ a, (k0_off1235 v6912) a + S1x1x256.size a ≤ S4001x1x256.size a)
theorem k0_off1235_inb : ∀ (v6912 : BitVec 32) (k0_hw1235 : k0_chk1235 v6912), ∀ a, (k0_off1235 v6912) a + S1x1x256.size a ≤ S4001x1x256.size a := fun v6912 k0_hw1235 => k0_hw1235

def k0_off1236 (v6916 : BitVec 32) : Fin 3 → Nat :=
  let v6917 : Index := Scalar.indexCast v6916
  let c0_5185 : Index := 0#32
  let c0_5186 : Index := 0#32
  ![v6917.toNat, 0, 0]

def k0_chk1236 (v6916 : BitVec 32) : Prop :=
  (∀ a, (k0_off1236 v6916) a + S1x1x256.size a ≤ S4001x1x256.size a)
theorem k0_off1236_inb : ∀ (v6916 : BitVec 32) (k0_hw1236 : k0_chk1236 v6916), ∀ a, (k0_off1236 v6916) a + S1x1x256.size a ≤ S4001x1x256.size a := fun v6916 k0_hw1236 => k0_hw1236

def k0_off1237 (v6920 : BitVec 32) : Fin 3 → Nat :=
  let v6921 : Index := Scalar.indexCast v6920
  let c0_5189 : Index := 0#32
  let c0_5190 : Index := 0#32
  ![v6921.toNat, 0, 0]

def k0_chk1237 (v6920 : BitVec 32) : Prop :=
  (∀ a, (k0_off1237 v6920) a + S1x1x256.size a ≤ S4001x1x256.size a)
theorem k0_off1237_inb : ∀ (v6920 : BitVec 32) (k0_hw1237 : k0_chk1237 v6920), ∀ a, (k0_off1237 v6920) a + S1x1x256.size a ≤ S4001x1x256.size a := fun v6920 k0_hw1237 => k0_hw1237

def k0_off1238 (v6924 : BitVec 32) : Fin 3 → Nat :=
  let v6925 : Index := Scalar.indexCast v6924
  let c0_5193 : Index := 0#32
  let c0_5194 : Index := 0#32
  ![v6925.toNat, 0, 0]

def k0_chk1238 (v6924 : BitVec 32) : Prop :=
  (∀ a, (k0_off1238 v6924) a + S1x1x256.size a ≤ S4001x1x256.size a)
theorem k0_off1238_inb : ∀ (v6924 : BitVec 32) (k0_hw1238 : k0_chk1238 v6924), ∀ a, (k0_off1238 v6924) a + S1x1x256.size a ≤ S4001x1x256.size a := fun v6924 k0_hw1238 => k0_hw1238

def k0_off1239 (v6928 : BitVec 32) : Fin 3 → Nat :=
  let v6929 : Index := Scalar.indexCast v6928
  let c0_5197 : Index := 0#32
  let c0_5198 : Index := 0#32
  ![v6929.toNat, 0, 0]

def k0_chk1239 (v6928 : BitVec 32) : Prop :=
  (∀ a, (k0_off1239 v6928) a + S1x1x256.size a ≤ S4001x1x256.size a)
theorem k0_off1239_inb : ∀ (v6928 : BitVec 32) (k0_hw1239 : k0_chk1239 v6928), ∀ a, (k0_off1239 v6928) a + S1x1x256.size a ≤ S4001x1x256.size a := fun v6928 k0_hw1239 => k0_hw1239

def k0_off1240 (v6932 : BitVec 32) : Fin 3 → Nat :=
  let v6933 : Index := Scalar.indexCast v6932
  let c0_5201 : Index := 0#32
  let c0_5202 : Index := 0#32
  ![v6933.toNat, 0, 0]

def k0_chk1240 (v6932 : BitVec 32) : Prop :=
  (∀ a, (k0_off1240 v6932) a + S1x1x256.size a ≤ S4001x1x256.size a)
theorem k0_off1240_inb : ∀ (v6932 : BitVec 32) (k0_hw1240 : k0_chk1240 v6932), ∀ a, (k0_off1240 v6932) a + S1x1x256.size a ≤ S4001x1x256.size a := fun v6932 k0_hw1240 => k0_hw1240

def k0_off1241 (v6975 : BitVec 32) : Fin 3 → Nat :=
  let v6976 : Index := Scalar.indexCast v6975
  let c0_5205 : Index := 0#32
  let c0_5206 : Index := 0#32
  ![v6976.toNat, 0, 0]

def k0_chk1241 (v6975 : BitVec 32) : Prop :=
  (∀ a, (k0_off1241 v6975) a + S1x1x256.size a ≤ S4001x1x256.size a)
theorem k0_off1241_inb : ∀ (v6975 : BitVec 32) (k0_hw1241 : k0_chk1241 v6975), ∀ a, (k0_off1241 v6975) a + S1x1x256.size a ≤ S4001x1x256.size a := fun v6975 k0_hw1241 => k0_hw1241

def k0_off1242 (v6979 : BitVec 32) : Fin 3 → Nat :=
  let v6980 : Index := Scalar.indexCast v6979
  let c0_5209 : Index := 0#32
  let c0_5210 : Index := 0#32
  ![v6980.toNat, 0, 0]

def k0_chk1242 (v6979 : BitVec 32) : Prop :=
  (∀ a, (k0_off1242 v6979) a + S1x1x256.size a ≤ S4001x1x256.size a)
theorem k0_off1242_inb : ∀ (v6979 : BitVec 32) (k0_hw1242 : k0_chk1242 v6979), ∀ a, (k0_off1242 v6979) a + S1x1x256.size a ≤ S4001x1x256.size a := fun v6979 k0_hw1242 => k0_hw1242

def k0_off1243 (v6983 : BitVec 32) : Fin 3 → Nat :=
  let v6984 : Index := Scalar.indexCast v6983
  let c0_5213 : Index := 0#32
  let c0_5214 : Index := 0#32
  ![v6984.toNat, 0, 0]

def k0_chk1243 (v6983 : BitVec 32) : Prop :=
  (∀ a, (k0_off1243 v6983) a + S1x1x256.size a ≤ S4001x1x256.size a)
theorem k0_off1243_inb : ∀ (v6983 : BitVec 32) (k0_hw1243 : k0_chk1243 v6983), ∀ a, (k0_off1243 v6983) a + S1x1x256.size a ≤ S4001x1x256.size a := fun v6983 k0_hw1243 => k0_hw1243

def k0_off1244 (v6987 : BitVec 32) : Fin 3 → Nat :=
  let v6988 : Index := Scalar.indexCast v6987
  let c0_5217 : Index := 0#32
  let c0_5218 : Index := 0#32
  ![v6988.toNat, 0, 0]

def k0_chk1244 (v6987 : BitVec 32) : Prop :=
  (∀ a, (k0_off1244 v6987) a + S1x1x256.size a ≤ S4001x1x256.size a)
theorem k0_off1244_inb : ∀ (v6987 : BitVec 32) (k0_hw1244 : k0_chk1244 v6987), ∀ a, (k0_off1244 v6987) a + S1x1x256.size a ≤ S4001x1x256.size a := fun v6987 k0_hw1244 => k0_hw1244

def k0_off1245 (v6991 : BitVec 32) : Fin 3 → Nat :=
  let v6992 : Index := Scalar.indexCast v6991
  let c0_5221 : Index := 0#32
  let c0_5222 : Index := 0#32
  ![v6992.toNat, 0, 0]

def k0_chk1245 (v6991 : BitVec 32) : Prop :=
  (∀ a, (k0_off1245 v6991) a + S1x1x256.size a ≤ S4001x1x256.size a)
theorem k0_off1245_inb : ∀ (v6991 : BitVec 32) (k0_hw1245 : k0_chk1245 v6991), ∀ a, (k0_off1245 v6991) a + S1x1x256.size a ≤ S4001x1x256.size a := fun v6991 k0_hw1245 => k0_hw1245

def k0_off1246 (v6995 : BitVec 32) : Fin 3 → Nat :=
  let v6996 : Index := Scalar.indexCast v6995
  let c0_5225 : Index := 0#32
  let c0_5226 : Index := 0#32
  ![v6996.toNat, 0, 0]

def k0_chk1246 (v6995 : BitVec 32) : Prop :=
  (∀ a, (k0_off1246 v6995) a + S1x1x256.size a ≤ S4001x1x256.size a)
theorem k0_off1246_inb : ∀ (v6995 : BitVec 32) (k0_hw1246 : k0_chk1246 v6995), ∀ a, (k0_off1246 v6995) a + S1x1x256.size a ≤ S4001x1x256.size a := fun v6995 k0_hw1246 => k0_hw1246

def k0_off1247 (v6999 : BitVec 32) : Fin 3 → Nat :=
  let v7000 : Index := Scalar.indexCast v6999
  let c0_5229 : Index := 0#32
  let c0_5230 : Index := 0#32
  ![v7000.toNat, 0, 0]

def k0_chk1247 (v6999 : BitVec 32) : Prop :=
  (∀ a, (k0_off1247 v6999) a + S1x1x256.size a ≤ S4001x1x256.size a)
theorem k0_off1247_inb : ∀ (v6999 : BitVec 32) (k0_hw1247 : k0_chk1247 v6999), ∀ a, (k0_off1247 v6999) a + S1x1x256.size a ≤ S4001x1x256.size a := fun v6999 k0_hw1247 => k0_hw1247

def k0_off1248 (v7003 : BitVec 32) : Fin 3 → Nat :=
  let v7004 : Index := Scalar.indexCast v7003
  let c0_5233 : Index := 0#32
  let c0_5234 : Index := 0#32
  ![v7004.toNat, 0, 0]

def k0_chk1248 (v7003 : BitVec 32) : Prop :=
  (∀ a, (k0_off1248 v7003) a + S1x1x256.size a ≤ S4001x1x256.size a)
theorem k0_off1248_inb : ∀ (v7003 : BitVec 32) (k0_hw1248 : k0_chk1248 v7003), ∀ a, (k0_off1248 v7003) a + S1x1x256.size a ≤ S4001x1x256.size a := fun v7003 k0_hw1248 => k0_hw1248

def k0_off1249 (v7007 : BitVec 32) : Fin 3 → Nat :=
  let v7008 : Index := Scalar.indexCast v7007
  let c0_5237 : Index := 0#32
  let c0_5238 : Index := 0#32
  ![v7008.toNat, 0, 0]

def k0_chk1249 (v7007 : BitVec 32) : Prop :=
  (∀ a, (k0_off1249 v7007) a + S1x1x256.size a ≤ S4001x1x256.size a)
theorem k0_off1249_inb : ∀ (v7007 : BitVec 32) (k0_hw1249 : k0_chk1249 v7007), ∀ a, (k0_off1249 v7007) a + S1x1x256.size a ≤ S4001x1x256.size a := fun v7007 k0_hw1249 => k0_hw1249

def k0_off1250 (v7011 : BitVec 32) : Fin 3 → Nat :=
  let v7012 : Index := Scalar.indexCast v7011
  let c0_5241 : Index := 0#32
  let c0_5242 : Index := 0#32
  ![v7012.toNat, 0, 0]

def k0_chk1250 (v7011 : BitVec 32) : Prop :=
  (∀ a, (k0_off1250 v7011) a + S1x1x256.size a ≤ S4001x1x256.size a)
theorem k0_off1250_inb : ∀ (v7011 : BitVec 32) (k0_hw1250 : k0_chk1250 v7011), ∀ a, (k0_off1250 v7011) a + S1x1x256.size a ≤ S4001x1x256.size a := fun v7011 k0_hw1250 => k0_hw1250

def k0_off1251 (v7015 : BitVec 32) : Fin 3 → Nat :=
  let v7016 : Index := Scalar.indexCast v7015
  let c0_5245 : Index := 0#32
  let c0_5246 : Index := 0#32
  ![v7016.toNat, 0, 0]

def k0_chk1251 (v7015 : BitVec 32) : Prop :=
  (∀ a, (k0_off1251 v7015) a + S1x1x256.size a ≤ S4001x1x256.size a)
theorem k0_off1251_inb : ∀ (v7015 : BitVec 32) (k0_hw1251 : k0_chk1251 v7015), ∀ a, (k0_off1251 v7015) a + S1x1x256.size a ≤ S4001x1x256.size a := fun v7015 k0_hw1251 => k0_hw1251

def k0_off1252 (v7019 : BitVec 32) : Fin 3 → Nat :=
  let v7020 : Index := Scalar.indexCast v7019
  let c0_5249 : Index := 0#32
  let c0_5250 : Index := 0#32
  ![v7020.toNat, 0, 0]

def k0_chk1252 (v7019 : BitVec 32) : Prop :=
  (∀ a, (k0_off1252 v7019) a + S1x1x256.size a ≤ S4001x1x256.size a)
theorem k0_off1252_inb : ∀ (v7019 : BitVec 32) (k0_hw1252 : k0_chk1252 v7019), ∀ a, (k0_off1252 v7019) a + S1x1x256.size a ≤ S4001x1x256.size a := fun v7019 k0_hw1252 => k0_hw1252

def k0_off1253 (v7023 : BitVec 32) : Fin 3 → Nat :=
  let v7024 : Index := Scalar.indexCast v7023
  let c0_5253 : Index := 0#32
  let c0_5254 : Index := 0#32
  ![v7024.toNat, 0, 0]

def k0_chk1253 (v7023 : BitVec 32) : Prop :=
  (∀ a, (k0_off1253 v7023) a + S1x1x256.size a ≤ S4001x1x256.size a)
theorem k0_off1253_inb : ∀ (v7023 : BitVec 32) (k0_hw1253 : k0_chk1253 v7023), ∀ a, (k0_off1253 v7023) a + S1x1x256.size a ≤ S4001x1x256.size a := fun v7023 k0_hw1253 => k0_hw1253

def k0_off1254 (v7027 : BitVec 32) : Fin 3 → Nat :=
  let v7028 : Index := Scalar.indexCast v7027
  let c0_5257 : Index := 0#32
  let c0_5258 : Index := 0#32
  ![v7028.toNat, 0, 0]

def k0_chk1254 (v7027 : BitVec 32) : Prop :=
  (∀ a, (k0_off1254 v7027) a + S1x1x256.size a ≤ S4001x1x256.size a)
theorem k0_off1254_inb : ∀ (v7027 : BitVec 32) (k0_hw1254 : k0_chk1254 v7027), ∀ a, (k0_off1254 v7027) a + S1x1x256.size a ≤ S4001x1x256.size a := fun v7027 k0_hw1254 => k0_hw1254

def k0_off1255 (v7031 : BitVec 32) : Fin 3 → Nat :=
  let v7032 : Index := Scalar.indexCast v7031
  let c0_5261 : Index := 0#32
  let c0_5262 : Index := 0#32
  ![v7032.toNat, 0, 0]

def k0_chk1255 (v7031 : BitVec 32) : Prop :=
  (∀ a, (k0_off1255 v7031) a + S1x1x256.size a ≤ S4001x1x256.size a)
theorem k0_off1255_inb : ∀ (v7031 : BitVec 32) (k0_hw1255 : k0_chk1255 v7031), ∀ a, (k0_off1255 v7031) a + S1x1x256.size a ≤ S4001x1x256.size a := fun v7031 k0_hw1255 => k0_hw1255

def k0_off1256 (v7035 : BitVec 32) : Fin 3 → Nat :=
  let v7036 : Index := Scalar.indexCast v7035
  let c0_5265 : Index := 0#32
  let c0_5266 : Index := 0#32
  ![v7036.toNat, 0, 0]

def k0_chk1256 (v7035 : BitVec 32) : Prop :=
  (∀ a, (k0_off1256 v7035) a + S1x1x256.size a ≤ S4001x1x256.size a)
theorem k0_off1256_inb : ∀ (v7035 : BitVec 32) (k0_hw1256 : k0_chk1256 v7035), ∀ a, (k0_off1256 v7035) a + S1x1x256.size a ≤ S4001x1x256.size a := fun v7035 k0_hw1256 => k0_hw1256

def k0_off1257 (v7039 : BitVec 32) : Fin 3 → Nat :=
  let v7040 : Index := Scalar.indexCast v7039
  let c0_5269 : Index := 0#32
  let c0_5270 : Index := 0#32
  ![v7040.toNat, 0, 0]

def k0_chk1257 (v7039 : BitVec 32) : Prop :=
  (∀ a, (k0_off1257 v7039) a + S1x1x256.size a ≤ S4001x1x256.size a)
theorem k0_off1257_inb : ∀ (v7039 : BitVec 32) (k0_hw1257 : k0_chk1257 v7039), ∀ a, (k0_off1257 v7039) a + S1x1x256.size a ≤ S4001x1x256.size a := fun v7039 k0_hw1257 => k0_hw1257

def k0_off1258 (v7043 : BitVec 32) : Fin 3 → Nat :=
  let v7044 : Index := Scalar.indexCast v7043
  let c0_5273 : Index := 0#32
  let c0_5274 : Index := 0#32
  ![v7044.toNat, 0, 0]

def k0_chk1258 (v7043 : BitVec 32) : Prop :=
  (∀ a, (k0_off1258 v7043) a + S1x1x256.size a ≤ S4001x1x256.size a)
theorem k0_off1258_inb : ∀ (v7043 : BitVec 32) (k0_hw1258 : k0_chk1258 v7043), ∀ a, (k0_off1258 v7043) a + S1x1x256.size a ≤ S4001x1x256.size a := fun v7043 k0_hw1258 => k0_hw1258

def k0_off1259 (v7047 : BitVec 32) : Fin 3 → Nat :=
  let v7048 : Index := Scalar.indexCast v7047
  let c0_5277 : Index := 0#32
  let c0_5278 : Index := 0#32
  ![v7048.toNat, 0, 0]

def k0_chk1259 (v7047 : BitVec 32) : Prop :=
  (∀ a, (k0_off1259 v7047) a + S1x1x256.size a ≤ S4001x1x256.size a)
theorem k0_off1259_inb : ∀ (v7047 : BitVec 32) (k0_hw1259 : k0_chk1259 v7047), ∀ a, (k0_off1259 v7047) a + S1x1x256.size a ≤ S4001x1x256.size a := fun v7047 k0_hw1259 => k0_hw1259

def k0_off1260 (v7051 : BitVec 32) : Fin 3 → Nat :=
  let v7052 : Index := Scalar.indexCast v7051
  let c0_5281 : Index := 0#32
  let c0_5282 : Index := 0#32
  ![v7052.toNat, 0, 0]

def k0_chk1260 (v7051 : BitVec 32) : Prop :=
  (∀ a, (k0_off1260 v7051) a + S1x1x256.size a ≤ S4001x1x256.size a)
theorem k0_off1260_inb : ∀ (v7051 : BitVec 32) (k0_hw1260 : k0_chk1260 v7051), ∀ a, (k0_off1260 v7051) a + S1x1x256.size a ≤ S4001x1x256.size a := fun v7051 k0_hw1260 => k0_hw1260

def k0_off1261 (v7107 : BitVec 32) : Fin 3 → Nat :=
  let v7108 : Index := Scalar.indexCast v7107
  let c0_5295 : Index := 0#32
  let c0_5296 : Index := 0#32
  ![v7108.toNat, 0, 0]

def k0_chk1261 (v7107 : BitVec 32) : Prop :=
  (∀ a, (k0_off1261 v7107) a + S1x1x256.size a ≤ S4001x1x256.size a)
theorem k0_off1261_inb : ∀ (v7107 : BitVec 32) (k0_hw1261 : k0_chk1261 v7107), ∀ a, (k0_off1261 v7107) a + S1x1x256.size a ≤ S4001x1x256.size a := fun v7107 k0_hw1261 => k0_hw1261

def k0_off1262 (v7111 : BitVec 32) : Fin 3 → Nat :=
  let v7112 : Index := Scalar.indexCast v7111
  let c0_5299 : Index := 0#32
  let c0_5300 : Index := 0#32
  ![v7112.toNat, 0, 0]

def k0_chk1262 (v7111 : BitVec 32) : Prop :=
  (∀ a, (k0_off1262 v7111) a + S1x1x256.size a ≤ S4001x1x256.size a)
theorem k0_off1262_inb : ∀ (v7111 : BitVec 32) (k0_hw1262 : k0_chk1262 v7111), ∀ a, (k0_off1262 v7111) a + S1x1x256.size a ≤ S4001x1x256.size a := fun v7111 k0_hw1262 => k0_hw1262

def k0_off1263 (v7115 : BitVec 32) : Fin 3 → Nat :=
  let v7116 : Index := Scalar.indexCast v7115
  let c0_5303 : Index := 0#32
  let c0_5304 : Index := 0#32
  ![v7116.toNat, 0, 0]

def k0_chk1263 (v7115 : BitVec 32) : Prop :=
  (∀ a, (k0_off1263 v7115) a + S1x1x256.size a ≤ S4001x1x256.size a)
theorem k0_off1263_inb : ∀ (v7115 : BitVec 32) (k0_hw1263 : k0_chk1263 v7115), ∀ a, (k0_off1263 v7115) a + S1x1x256.size a ≤ S4001x1x256.size a := fun v7115 k0_hw1263 => k0_hw1263

def k0_off1264 (v7119 : BitVec 32) : Fin 3 → Nat :=
  let v7120 : Index := Scalar.indexCast v7119
  let c0_5307 : Index := 0#32
  let c0_5308 : Index := 0#32
  ![v7120.toNat, 0, 0]

def k0_chk1264 (v7119 : BitVec 32) : Prop :=
  (∀ a, (k0_off1264 v7119) a + S1x1x256.size a ≤ S4001x1x256.size a)
theorem k0_off1264_inb : ∀ (v7119 : BitVec 32) (k0_hw1264 : k0_chk1264 v7119), ∀ a, (k0_off1264 v7119) a + S1x1x256.size a ≤ S4001x1x256.size a := fun v7119 k0_hw1264 => k0_hw1264

def k0_off1265 (v7123 : BitVec 32) : Fin 3 → Nat :=
  let v7124 : Index := Scalar.indexCast v7123
  let c0_5311 : Index := 0#32
  let c0_5312 : Index := 0#32
  ![v7124.toNat, 0, 0]

def k0_chk1265 (v7123 : BitVec 32) : Prop :=
  (∀ a, (k0_off1265 v7123) a + S1x1x256.size a ≤ S4001x1x256.size a)
theorem k0_off1265_inb : ∀ (v7123 : BitVec 32) (k0_hw1265 : k0_chk1265 v7123), ∀ a, (k0_off1265 v7123) a + S1x1x256.size a ≤ S4001x1x256.size a := fun v7123 k0_hw1265 => k0_hw1265

def k0_off1266 (v7127 : BitVec 32) : Fin 3 → Nat :=
  let v7128 : Index := Scalar.indexCast v7127
  let c0_5315 : Index := 0#32
  let c0_5316 : Index := 0#32
  ![v7128.toNat, 0, 0]

def k0_chk1266 (v7127 : BitVec 32) : Prop :=
  (∀ a, (k0_off1266 v7127) a + S1x1x256.size a ≤ S4001x1x256.size a)
theorem k0_off1266_inb : ∀ (v7127 : BitVec 32) (k0_hw1266 : k0_chk1266 v7127), ∀ a, (k0_off1266 v7127) a + S1x1x256.size a ≤ S4001x1x256.size a := fun v7127 k0_hw1266 => k0_hw1266

def k0_off1267 (v7131 : BitVec 32) : Fin 3 → Nat :=
  let v7132 : Index := Scalar.indexCast v7131
  let c0_5319 : Index := 0#32
  let c0_5320 : Index := 0#32
  ![v7132.toNat, 0, 0]

def k0_chk1267 (v7131 : BitVec 32) : Prop :=
  (∀ a, (k0_off1267 v7131) a + S1x1x256.size a ≤ S4001x1x256.size a)
theorem k0_off1267_inb : ∀ (v7131 : BitVec 32) (k0_hw1267 : k0_chk1267 v7131), ∀ a, (k0_off1267 v7131) a + S1x1x256.size a ≤ S4001x1x256.size a := fun v7131 k0_hw1267 => k0_hw1267

def k0_off1268 (v7135 : BitVec 32) : Fin 3 → Nat :=
  let v7136 : Index := Scalar.indexCast v7135
  let c0_5323 : Index := 0#32
  let c0_5324 : Index := 0#32
  ![v7136.toNat, 0, 0]

def k0_chk1268 (v7135 : BitVec 32) : Prop :=
  (∀ a, (k0_off1268 v7135) a + S1x1x256.size a ≤ S4001x1x256.size a)
theorem k0_off1268_inb : ∀ (v7135 : BitVec 32) (k0_hw1268 : k0_chk1268 v7135), ∀ a, (k0_off1268 v7135) a + S1x1x256.size a ≤ S4001x1x256.size a := fun v7135 k0_hw1268 => k0_hw1268

def k0_off1269 (v7139 : BitVec 32) : Fin 3 → Nat :=
  let v7140 : Index := Scalar.indexCast v7139
  let c0_5327 : Index := 0#32
  let c0_5328 : Index := 0#32
  ![v7140.toNat, 0, 0]

def k0_chk1269 (v7139 : BitVec 32) : Prop :=
  (∀ a, (k0_off1269 v7139) a + S1x1x256.size a ≤ S4001x1x256.size a)
theorem k0_off1269_inb : ∀ (v7139 : BitVec 32) (k0_hw1269 : k0_chk1269 v7139), ∀ a, (k0_off1269 v7139) a + S1x1x256.size a ≤ S4001x1x256.size a := fun v7139 k0_hw1269 => k0_hw1269

def k0_off1270 (v7143 : BitVec 32) : Fin 3 → Nat :=
  let v7144 : Index := Scalar.indexCast v7143
  let c0_5331 : Index := 0#32
  let c0_5332 : Index := 0#32
  ![v7144.toNat, 0, 0]

def k0_chk1270 (v7143 : BitVec 32) : Prop :=
  (∀ a, (k0_off1270 v7143) a + S1x1x256.size a ≤ S4001x1x256.size a)
theorem k0_off1270_inb : ∀ (v7143 : BitVec 32) (k0_hw1270 : k0_chk1270 v7143), ∀ a, (k0_off1270 v7143) a + S1x1x256.size a ≤ S4001x1x256.size a := fun v7143 k0_hw1270 => k0_hw1270

def k0_off1271 (v7147 : BitVec 32) : Fin 3 → Nat :=
  let v7148 : Index := Scalar.indexCast v7147
  let c0_5335 : Index := 0#32
  let c0_5336 : Index := 0#32
  ![v7148.toNat, 0, 0]

def k0_chk1271 (v7147 : BitVec 32) : Prop :=
  (∀ a, (k0_off1271 v7147) a + S1x1x256.size a ≤ S4001x1x256.size a)
theorem k0_off1271_inb : ∀ (v7147 : BitVec 32) (k0_hw1271 : k0_chk1271 v7147), ∀ a, (k0_off1271 v7147) a + S1x1x256.size a ≤ S4001x1x256.size a := fun v7147 k0_hw1271 => k0_hw1271

def k0_off1272 (v7151 : BitVec 32) : Fin 3 → Nat :=
  let v7152 : Index := Scalar.indexCast v7151
  let c0_5339 : Index := 0#32
  let c0_5340 : Index := 0#32
  ![v7152.toNat, 0, 0]

def k0_chk1272 (v7151 : BitVec 32) : Prop :=
  (∀ a, (k0_off1272 v7151) a + S1x1x256.size a ≤ S4001x1x256.size a)
theorem k0_off1272_inb : ∀ (v7151 : BitVec 32) (k0_hw1272 : k0_chk1272 v7151), ∀ a, (k0_off1272 v7151) a + S1x1x256.size a ≤ S4001x1x256.size a := fun v7151 k0_hw1272 => k0_hw1272

def k0_off1273 (v7155 : BitVec 32) : Fin 3 → Nat :=
  let v7156 : Index := Scalar.indexCast v7155
  let c0_5343 : Index := 0#32
  let c0_5344 : Index := 0#32
  ![v7156.toNat, 0, 0]

def k0_chk1273 (v7155 : BitVec 32) : Prop :=
  (∀ a, (k0_off1273 v7155) a + S1x1x256.size a ≤ S4001x1x256.size a)
theorem k0_off1273_inb : ∀ (v7155 : BitVec 32) (k0_hw1273 : k0_chk1273 v7155), ∀ a, (k0_off1273 v7155) a + S1x1x256.size a ≤ S4001x1x256.size a := fun v7155 k0_hw1273 => k0_hw1273

def k0_off1274 (v7159 : BitVec 32) : Fin 3 → Nat :=
  let v7160 : Index := Scalar.indexCast v7159
  let c0_5347 : Index := 0#32
  let c0_5348 : Index := 0#32
  ![v7160.toNat, 0, 0]

def k0_chk1274 (v7159 : BitVec 32) : Prop :=
  (∀ a, (k0_off1274 v7159) a + S1x1x256.size a ≤ S4001x1x256.size a)
theorem k0_off1274_inb : ∀ (v7159 : BitVec 32) (k0_hw1274 : k0_chk1274 v7159), ∀ a, (k0_off1274 v7159) a + S1x1x256.size a ≤ S4001x1x256.size a := fun v7159 k0_hw1274 => k0_hw1274

def k0_off1275 (v7163 : BitVec 32) : Fin 3 → Nat :=
  let v7164 : Index := Scalar.indexCast v7163
  let c0_5351 : Index := 0#32
  let c0_5352 : Index := 0#32
  ![v7164.toNat, 0, 0]

def k0_chk1275 (v7163 : BitVec 32) : Prop :=
  (∀ a, (k0_off1275 v7163) a + S1x1x256.size a ≤ S4001x1x256.size a)
theorem k0_off1275_inb : ∀ (v7163 : BitVec 32) (k0_hw1275 : k0_chk1275 v7163), ∀ a, (k0_off1275 v7163) a + S1x1x256.size a ≤ S4001x1x256.size a := fun v7163 k0_hw1275 => k0_hw1275

def k0_off1276 (v7167 : BitVec 32) : Fin 3 → Nat :=
  let v7168 : Index := Scalar.indexCast v7167
  let c0_5355 : Index := 0#32
  let c0_5356 : Index := 0#32
  ![v7168.toNat, 0, 0]

def k0_chk1276 (v7167 : BitVec 32) : Prop :=
  (∀ a, (k0_off1276 v7167) a + S1x1x256.size a ≤ S4001x1x256.size a)
theorem k0_off1276_inb : ∀ (v7167 : BitVec 32) (k0_hw1276 : k0_chk1276 v7167), ∀ a, (k0_off1276 v7167) a + S1x1x256.size a ≤ S4001x1x256.size a := fun v7167 k0_hw1276 => k0_hw1276

def k0_off1277 (v7171 : BitVec 32) : Fin 3 → Nat :=
  let v7172 : Index := Scalar.indexCast v7171
  let c0_5359 : Index := 0#32
  let c0_5360 : Index := 0#32
  ![v7172.toNat, 0, 0]

def k0_chk1277 (v7171 : BitVec 32) : Prop :=
  (∀ a, (k0_off1277 v7171) a + S1x1x256.size a ≤ S4001x1x256.size a)
theorem k0_off1277_inb : ∀ (v7171 : BitVec 32) (k0_hw1277 : k0_chk1277 v7171), ∀ a, (k0_off1277 v7171) a + S1x1x256.size a ≤ S4001x1x256.size a := fun v7171 k0_hw1277 => k0_hw1277

def k0_off1278 (v7175 : BitVec 32) : Fin 3 → Nat :=
  let v7176 : Index := Scalar.indexCast v7175
  let c0_5363 : Index := 0#32
  let c0_5364 : Index := 0#32
  ![v7176.toNat, 0, 0]

def k0_chk1278 (v7175 : BitVec 32) : Prop :=
  (∀ a, (k0_off1278 v7175) a + S1x1x256.size a ≤ S4001x1x256.size a)
theorem k0_off1278_inb : ∀ (v7175 : BitVec 32) (k0_hw1278 : k0_chk1278 v7175), ∀ a, (k0_off1278 v7175) a + S1x1x256.size a ≤ S4001x1x256.size a := fun v7175 k0_hw1278 => k0_hw1278

def k0_off1279 (v7179 : BitVec 32) : Fin 3 → Nat :=
  let v7180 : Index := Scalar.indexCast v7179
  let c0_5367 : Index := 0#32
  let c0_5368 : Index := 0#32
  ![v7180.toNat, 0, 0]

def k0_chk1279 (v7179 : BitVec 32) : Prop :=
  (∀ a, (k0_off1279 v7179) a + S1x1x256.size a ≤ S4001x1x256.size a)
theorem k0_off1279_inb : ∀ (v7179 : BitVec 32) (k0_hw1279 : k0_chk1279 v7179), ∀ a, (k0_off1279 v7179) a + S1x1x256.size a ≤ S4001x1x256.size a := fun v7179 k0_hw1279 => k0_hw1279

def k0_off1280 (v7183 : BitVec 32) : Fin 3 → Nat :=
  let v7184 : Index := Scalar.indexCast v7183
  let c0_5371 : Index := 0#32
  let c0_5372 : Index := 0#32
  ![v7184.toNat, 0, 0]

def k0_chk1280 (v7183 : BitVec 32) : Prop :=
  (∀ a, (k0_off1280 v7183) a + S1x1x256.size a ≤ S4001x1x256.size a)
theorem k0_off1280_inb : ∀ (v7183 : BitVec 32) (k0_hw1280 : k0_chk1280 v7183), ∀ a, (k0_off1280 v7183) a + S1x1x256.size a ≤ S4001x1x256.size a := fun v7183 k0_hw1280 => k0_hw1280

def k0_off1281 (v7187 : BitVec 32) : Fin 3 → Nat :=
  let v7188 : Index := Scalar.indexCast v7187
  let c0_5375 : Index := 0#32
  let c0_5376 : Index := 0#32
  ![v7188.toNat, 0, 0]

def k0_chk1281 (v7187 : BitVec 32) : Prop :=
  (∀ a, (k0_off1281 v7187) a + S1x1x256.size a ≤ S4001x1x256.size a)
theorem k0_off1281_inb : ∀ (v7187 : BitVec 32) (k0_hw1281 : k0_chk1281 v7187), ∀ a, (k0_off1281 v7187) a + S1x1x256.size a ≤ S4001x1x256.size a := fun v7187 k0_hw1281 => k0_hw1281

def k0_off1282 (v7191 : BitVec 32) : Fin 3 → Nat :=
  let v7192 : Index := Scalar.indexCast v7191
  let c0_5379 : Index := 0#32
  let c0_5380 : Index := 0#32
  ![v7192.toNat, 0, 0]

def k0_chk1282 (v7191 : BitVec 32) : Prop :=
  (∀ a, (k0_off1282 v7191) a + S1x1x256.size a ≤ S4001x1x256.size a)
theorem k0_off1282_inb : ∀ (v7191 : BitVec 32) (k0_hw1282 : k0_chk1282 v7191), ∀ a, (k0_off1282 v7191) a + S1x1x256.size a ≤ S4001x1x256.size a := fun v7191 k0_hw1282 => k0_hw1282

def k0_off1283 (v7195 : BitVec 32) : Fin 3 → Nat :=
  let v7196 : Index := Scalar.indexCast v7195
  let c0_5383 : Index := 0#32
  let c0_5384 : Index := 0#32
  ![v7196.toNat, 0, 0]

def k0_chk1283 (v7195 : BitVec 32) : Prop :=
  (∀ a, (k0_off1283 v7195) a + S1x1x256.size a ≤ S4001x1x256.size a)
theorem k0_off1283_inb : ∀ (v7195 : BitVec 32) (k0_hw1283 : k0_chk1283 v7195), ∀ a, (k0_off1283 v7195) a + S1x1x256.size a ≤ S4001x1x256.size a := fun v7195 k0_hw1283 => k0_hw1283

def k0_off1284 (v7199 : BitVec 32) : Fin 3 → Nat :=
  let v7200 : Index := Scalar.indexCast v7199
  let c0_5387 : Index := 0#32
  let c0_5388 : Index := 0#32
  ![v7200.toNat, 0, 0]

def k0_chk1284 (v7199 : BitVec 32) : Prop :=
  (∀ a, (k0_off1284 v7199) a + S1x1x256.size a ≤ S4001x1x256.size a)
theorem k0_off1284_inb : ∀ (v7199 : BitVec 32) (k0_hw1284 : k0_chk1284 v7199), ∀ a, (k0_off1284 v7199) a + S1x1x256.size a ≤ S4001x1x256.size a := fun v7199 k0_hw1284 => k0_hw1284

def k0_off1285 (v7203 : BitVec 32) : Fin 3 → Nat :=
  let v7204 : Index := Scalar.indexCast v7203
  let c0_5391 : Index := 0#32
  let c0_5392 : Index := 0#32
  ![v7204.toNat, 0, 0]

def k0_chk1285 (v7203 : BitVec 32) : Prop :=
  (∀ a, (k0_off1285 v7203) a + S1x1x256.size a ≤ S4001x1x256.size a)
theorem k0_off1285_inb : ∀ (v7203 : BitVec 32) (k0_hw1285 : k0_chk1285 v7203), ∀ a, (k0_off1285 v7203) a + S1x1x256.size a ≤ S4001x1x256.size a := fun v7203 k0_hw1285 => k0_hw1285

def k0_off1286 (v7207 : BitVec 32) : Fin 3 → Nat :=
  let v7208 : Index := Scalar.indexCast v7207
  let c0_5395 : Index := 0#32
  let c0_5396 : Index := 0#32
  ![v7208.toNat, 0, 0]

def k0_chk1286 (v7207 : BitVec 32) : Prop :=
  (∀ a, (k0_off1286 v7207) a + S1x1x256.size a ≤ S4001x1x256.size a)
theorem k0_off1286_inb : ∀ (v7207 : BitVec 32) (k0_hw1286 : k0_chk1286 v7207), ∀ a, (k0_off1286 v7207) a + S1x1x256.size a ≤ S4001x1x256.size a := fun v7207 k0_hw1286 => k0_hw1286

def k0_off1287 (v7211 : BitVec 32) : Fin 3 → Nat :=
  let v7212 : Index := Scalar.indexCast v7211
  let c0_5399 : Index := 0#32
  let c0_5400 : Index := 0#32
  ![v7212.toNat, 0, 0]

def k0_chk1287 (v7211 : BitVec 32) : Prop :=
  (∀ a, (k0_off1287 v7211) a + S1x1x256.size a ≤ S4001x1x256.size a)
theorem k0_off1287_inb : ∀ (v7211 : BitVec 32) (k0_hw1287 : k0_chk1287 v7211), ∀ a, (k0_off1287 v7211) a + S1x1x256.size a ≤ S4001x1x256.size a := fun v7211 k0_hw1287 => k0_hw1287

def k0_off1288 (v7215 : BitVec 32) : Fin 3 → Nat :=
  let v7216 : Index := Scalar.indexCast v7215
  let c0_5403 : Index := 0#32
  let c0_5404 : Index := 0#32
  ![v7216.toNat, 0, 0]

def k0_chk1288 (v7215 : BitVec 32) : Prop :=
  (∀ a, (k0_off1288 v7215) a + S1x1x256.size a ≤ S4001x1x256.size a)
theorem k0_off1288_inb : ∀ (v7215 : BitVec 32) (k0_hw1288 : k0_chk1288 v7215), ∀ a, (k0_off1288 v7215) a + S1x1x256.size a ≤ S4001x1x256.size a := fun v7215 k0_hw1288 => k0_hw1288

def k0_off1289 (v7219 : BitVec 32) : Fin 3 → Nat :=
  let v7220 : Index := Scalar.indexCast v7219
  let c0_5407 : Index := 0#32
  let c0_5408 : Index := 0#32
  ![v7220.toNat, 0, 0]

def k0_chk1289 (v7219 : BitVec 32) : Prop :=
  (∀ a, (k0_off1289 v7219) a + S1x1x256.size a ≤ S4001x1x256.size a)
theorem k0_off1289_inb : ∀ (v7219 : BitVec 32) (k0_hw1289 : k0_chk1289 v7219), ∀ a, (k0_off1289 v7219) a + S1x1x256.size a ≤ S4001x1x256.size a := fun v7219 k0_hw1289 => k0_hw1289

def k0_off1290 (v7223 : BitVec 32) : Fin 3 → Nat :=
  let v7224 : Index := Scalar.indexCast v7223
  let c0_5411 : Index := 0#32
  let c0_5412 : Index := 0#32
  ![v7224.toNat, 0, 0]

def k0_chk1290 (v7223 : BitVec 32) : Prop :=
  (∀ a, (k0_off1290 v7223) a + S1x1x256.size a ≤ S4001x1x256.size a)
theorem k0_off1290_inb : ∀ (v7223 : BitVec 32) (k0_hw1290 : k0_chk1290 v7223), ∀ a, (k0_off1290 v7223) a + S1x1x256.size a ≤ S4001x1x256.size a := fun v7223 k0_hw1290 => k0_hw1290

def k0_off1291 (v7227 : BitVec 32) : Fin 3 → Nat :=
  let v7228 : Index := Scalar.indexCast v7227
  let c0_5415 : Index := 0#32
  let c0_5416 : Index := 0#32
  ![v7228.toNat, 0, 0]

def k0_chk1291 (v7227 : BitVec 32) : Prop :=
  (∀ a, (k0_off1291 v7227) a + S1x1x256.size a ≤ S4001x1x256.size a)
theorem k0_off1291_inb : ∀ (v7227 : BitVec 32) (k0_hw1291 : k0_chk1291 v7227), ∀ a, (k0_off1291 v7227) a + S1x1x256.size a ≤ S4001x1x256.size a := fun v7227 k0_hw1291 => k0_hw1291

def k0_off1292 (v7231 : BitVec 32) : Fin 3 → Nat :=
  let v7232 : Index := Scalar.indexCast v7231
  let c0_5419 : Index := 0#32
  let c0_5420 : Index := 0#32
  ![v7232.toNat, 0, 0]

def k0_chk1292 (v7231 : BitVec 32) : Prop :=
  (∀ a, (k0_off1292 v7231) a + S1x1x256.size a ≤ S4001x1x256.size a)
theorem k0_off1292_inb : ∀ (v7231 : BitVec 32) (k0_hw1292 : k0_chk1292 v7231), ∀ a, (k0_off1292 v7231) a + S1x1x256.size a ≤ S4001x1x256.size a := fun v7231 k0_hw1292 => k0_hw1292

def k0_off1293 (v7235 : BitVec 32) : Fin 3 → Nat :=
  let v7236 : Index := Scalar.indexCast v7235
  let c0_5423 : Index := 0#32
  let c0_5424 : Index := 0#32
  ![v7236.toNat, 0, 0]

def k0_chk1293 (v7235 : BitVec 32) : Prop :=
  (∀ a, (k0_off1293 v7235) a + S1x1x256.size a ≤ S4001x1x256.size a)
theorem k0_off1293_inb : ∀ (v7235 : BitVec 32) (k0_hw1293 : k0_chk1293 v7235), ∀ a, (k0_off1293 v7235) a + S1x1x256.size a ≤ S4001x1x256.size a := fun v7235 k0_hw1293 => k0_hw1293

def k0_off1294 (v7239 : BitVec 32) : Fin 3 → Nat :=
  let v7240 : Index := Scalar.indexCast v7239
  let c0_5427 : Index := 0#32
  let c0_5428 : Index := 0#32
  ![v7240.toNat, 0, 0]

def k0_chk1294 (v7239 : BitVec 32) : Prop :=
  (∀ a, (k0_off1294 v7239) a + S1x1x256.size a ≤ S4001x1x256.size a)
theorem k0_off1294_inb : ∀ (v7239 : BitVec 32) (k0_hw1294 : k0_chk1294 v7239), ∀ a, (k0_off1294 v7239) a + S1x1x256.size a ≤ S4001x1x256.size a := fun v7239 k0_hw1294 => k0_hw1294

def k0_off1295 (v7243 : BitVec 32) : Fin 3 → Nat :=
  let v7244 : Index := Scalar.indexCast v7243
  let c0_5431 : Index := 0#32
  let c0_5432 : Index := 0#32
  ![v7244.toNat, 0, 0]

def k0_chk1295 (v7243 : BitVec 32) : Prop :=
  (∀ a, (k0_off1295 v7243) a + S1x1x256.size a ≤ S4001x1x256.size a)
theorem k0_off1295_inb : ∀ (v7243 : BitVec 32) (k0_hw1295 : k0_chk1295 v7243), ∀ a, (k0_off1295 v7243) a + S1x1x256.size a ≤ S4001x1x256.size a := fun v7243 k0_hw1295 => k0_hw1295

def k0_off1296 (v7247 : BitVec 32) : Fin 3 → Nat :=
  let v7248 : Index := Scalar.indexCast v7247
  let c0_5435 : Index := 0#32
  let c0_5436 : Index := 0#32
  ![v7248.toNat, 0, 0]

def k0_chk1296 (v7247 : BitVec 32) : Prop :=
  (∀ a, (k0_off1296 v7247) a + S1x1x256.size a ≤ S4001x1x256.size a)
theorem k0_off1296_inb : ∀ (v7247 : BitVec 32) (k0_hw1296 : k0_chk1296 v7247), ∀ a, (k0_off1296 v7247) a + S1x1x256.size a ≤ S4001x1x256.size a := fun v7247 k0_hw1296 => k0_hw1296

def k0_off1297 (v7251 : BitVec 32) : Fin 3 → Nat :=
  let v7252 : Index := Scalar.indexCast v7251
  let c0_5439 : Index := 0#32
  let c0_5440 : Index := 0#32
  ![v7252.toNat, 0, 0]

def k0_chk1297 (v7251 : BitVec 32) : Prop :=
  (∀ a, (k0_off1297 v7251) a + S1x1x256.size a ≤ S4001x1x256.size a)
theorem k0_off1297_inb : ∀ (v7251 : BitVec 32) (k0_hw1297 : k0_chk1297 v7251), ∀ a, (k0_off1297 v7251) a + S1x1x256.size a ≤ S4001x1x256.size a := fun v7251 k0_hw1297 => k0_hw1297

def k0_off1298 (v7255 : BitVec 32) : Fin 3 → Nat :=
  let v7256 : Index := Scalar.indexCast v7255
  let c0_5443 : Index := 0#32
  let c0_5444 : Index := 0#32
  ![v7256.toNat, 0, 0]

def k0_chk1298 (v7255 : BitVec 32) : Prop :=
  (∀ a, (k0_off1298 v7255) a + S1x1x256.size a ≤ S4001x1x256.size a)
theorem k0_off1298_inb : ∀ (v7255 : BitVec 32) (k0_hw1298 : k0_chk1298 v7255), ∀ a, (k0_off1298 v7255) a + S1x1x256.size a ≤ S4001x1x256.size a := fun v7255 k0_hw1298 => k0_hw1298

def k0_off1299 (v7259 : BitVec 32) : Fin 3 → Nat :=
  let v7260 : Index := Scalar.indexCast v7259
  let c0_5447 : Index := 0#32
  let c0_5448 : Index := 0#32
  ![v7260.toNat, 0, 0]

def k0_chk1299 (v7259 : BitVec 32) : Prop :=
  (∀ a, (k0_off1299 v7259) a + S1x1x256.size a ≤ S4001x1x256.size a)
theorem k0_off1299_inb : ∀ (v7259 : BitVec 32) (k0_hw1299 : k0_chk1299 v7259), ∀ a, (k0_off1299 v7259) a + S1x1x256.size a ≤ S4001x1x256.size a := fun v7259 k0_hw1299 => k0_hw1299

def k0_off1300 (v7263 : BitVec 32) : Fin 3 → Nat :=
  let v7264 : Index := Scalar.indexCast v7263
  let c0_5451 : Index := 0#32
  let c0_5452 : Index := 0#32
  ![v7264.toNat, 0, 0]

def k0_chk1300 (v7263 : BitVec 32) : Prop :=
  (∀ a, (k0_off1300 v7263) a + S1x1x256.size a ≤ S4001x1x256.size a)
theorem k0_off1300_inb : ∀ (v7263 : BitVec 32) (k0_hw1300 : k0_chk1300 v7263), ∀ a, (k0_off1300 v7263) a + S1x1x256.size a ≤ S4001x1x256.size a := fun v7263 k0_hw1300 => k0_hw1300

def k0_off1301 (v7306 : BitVec 32) : Fin 3 → Nat :=
  let v7307 : Index := Scalar.indexCast v7306
  let c0_5455 : Index := 0#32
  let c0_5456 : Index := 0#32
  ![v7307.toNat, 0, 0]

def k0_chk1301 (v7306 : BitVec 32) : Prop :=
  (∀ a, (k0_off1301 v7306) a + S1x1x256.size a ≤ S4001x1x256.size a)
theorem k0_off1301_inb : ∀ (v7306 : BitVec 32) (k0_hw1301 : k0_chk1301 v7306), ∀ a, (k0_off1301 v7306) a + S1x1x256.size a ≤ S4001x1x256.size a := fun v7306 k0_hw1301 => k0_hw1301

def k0_off1302 (v7310 : BitVec 32) : Fin 3 → Nat :=
  let v7311 : Index := Scalar.indexCast v7310
  let c0_5459 : Index := 0#32
  let c0_5460 : Index := 0#32
  ![v7311.toNat, 0, 0]

def k0_chk1302 (v7310 : BitVec 32) : Prop :=
  (∀ a, (k0_off1302 v7310) a + S1x1x256.size a ≤ S4001x1x256.size a)
theorem k0_off1302_inb : ∀ (v7310 : BitVec 32) (k0_hw1302 : k0_chk1302 v7310), ∀ a, (k0_off1302 v7310) a + S1x1x256.size a ≤ S4001x1x256.size a := fun v7310 k0_hw1302 => k0_hw1302

def k0_off1303 (v7314 : BitVec 32) : Fin 3 → Nat :=
  let v7315 : Index := Scalar.indexCast v7314
  let c0_5463 : Index := 0#32
  let c0_5464 : Index := 0#32
  ![v7315.toNat, 0, 0]

def k0_chk1303 (v7314 : BitVec 32) : Prop :=
  (∀ a, (k0_off1303 v7314) a + S1x1x256.size a ≤ S4001x1x256.size a)
theorem k0_off1303_inb : ∀ (v7314 : BitVec 32) (k0_hw1303 : k0_chk1303 v7314), ∀ a, (k0_off1303 v7314) a + S1x1x256.size a ≤ S4001x1x256.size a := fun v7314 k0_hw1303 => k0_hw1303

def k0_off1304 (v7318 : BitVec 32) : Fin 3 → Nat :=
  let v7319 : Index := Scalar.indexCast v7318
  let c0_5467 : Index := 0#32
  let c0_5468 : Index := 0#32
  ![v7319.toNat, 0, 0]

def k0_chk1304 (v7318 : BitVec 32) : Prop :=
  (∀ a, (k0_off1304 v7318) a + S1x1x256.size a ≤ S4001x1x256.size a)
theorem k0_off1304_inb : ∀ (v7318 : BitVec 32) (k0_hw1304 : k0_chk1304 v7318), ∀ a, (k0_off1304 v7318) a + S1x1x256.size a ≤ S4001x1x256.size a := fun v7318 k0_hw1304 => k0_hw1304

def k0_off1305 (v7322 : BitVec 32) : Fin 3 → Nat :=
  let v7323 : Index := Scalar.indexCast v7322
  let c0_5471 : Index := 0#32
  let c0_5472 : Index := 0#32
  ![v7323.toNat, 0, 0]

def k0_chk1305 (v7322 : BitVec 32) : Prop :=
  (∀ a, (k0_off1305 v7322) a + S1x1x256.size a ≤ S4001x1x256.size a)
theorem k0_off1305_inb : ∀ (v7322 : BitVec 32) (k0_hw1305 : k0_chk1305 v7322), ∀ a, (k0_off1305 v7322) a + S1x1x256.size a ≤ S4001x1x256.size a := fun v7322 k0_hw1305 => k0_hw1305

def k0_off1306 (v7326 : BitVec 32) : Fin 3 → Nat :=
  let v7327 : Index := Scalar.indexCast v7326
  let c0_5475 : Index := 0#32
  let c0_5476 : Index := 0#32
  ![v7327.toNat, 0, 0]

def k0_chk1306 (v7326 : BitVec 32) : Prop :=
  (∀ a, (k0_off1306 v7326) a + S1x1x256.size a ≤ S4001x1x256.size a)
theorem k0_off1306_inb : ∀ (v7326 : BitVec 32) (k0_hw1306 : k0_chk1306 v7326), ∀ a, (k0_off1306 v7326) a + S1x1x256.size a ≤ S4001x1x256.size a := fun v7326 k0_hw1306 => k0_hw1306

def k0_off1307 (v7330 : BitVec 32) : Fin 3 → Nat :=
  let v7331 : Index := Scalar.indexCast v7330
  let c0_5479 : Index := 0#32
  let c0_5480 : Index := 0#32
  ![v7331.toNat, 0, 0]

def k0_chk1307 (v7330 : BitVec 32) : Prop :=
  (∀ a, (k0_off1307 v7330) a + S1x1x256.size a ≤ S4001x1x256.size a)
theorem k0_off1307_inb : ∀ (v7330 : BitVec 32) (k0_hw1307 : k0_chk1307 v7330), ∀ a, (k0_off1307 v7330) a + S1x1x256.size a ≤ S4001x1x256.size a := fun v7330 k0_hw1307 => k0_hw1307

def k0_off1308 (v7334 : BitVec 32) : Fin 3 → Nat :=
  let v7335 : Index := Scalar.indexCast v7334
  let c0_5483 : Index := 0#32
  let c0_5484 : Index := 0#32
  ![v7335.toNat, 0, 0]

def k0_chk1308 (v7334 : BitVec 32) : Prop :=
  (∀ a, (k0_off1308 v7334) a + S1x1x256.size a ≤ S4001x1x256.size a)
theorem k0_off1308_inb : ∀ (v7334 : BitVec 32) (k0_hw1308 : k0_chk1308 v7334), ∀ a, (k0_off1308 v7334) a + S1x1x256.size a ≤ S4001x1x256.size a := fun v7334 k0_hw1308 => k0_hw1308

def k0_off1309 (v7338 : BitVec 32) : Fin 3 → Nat :=
  let v7339 : Index := Scalar.indexCast v7338
  let c0_5487 : Index := 0#32
  let c0_5488 : Index := 0#32
  ![v7339.toNat, 0, 0]

def k0_chk1309 (v7338 : BitVec 32) : Prop :=
  (∀ a, (k0_off1309 v7338) a + S1x1x256.size a ≤ S4001x1x256.size a)
theorem k0_off1309_inb : ∀ (v7338 : BitVec 32) (k0_hw1309 : k0_chk1309 v7338), ∀ a, (k0_off1309 v7338) a + S1x1x256.size a ≤ S4001x1x256.size a := fun v7338 k0_hw1309 => k0_hw1309

def k0_off1310 (v7342 : BitVec 32) : Fin 3 → Nat :=
  let v7343 : Index := Scalar.indexCast v7342
  let c0_5491 : Index := 0#32
  let c0_5492 : Index := 0#32
  ![v7343.toNat, 0, 0]

def k0_chk1310 (v7342 : BitVec 32) : Prop :=
  (∀ a, (k0_off1310 v7342) a + S1x1x256.size a ≤ S4001x1x256.size a)
theorem k0_off1310_inb : ∀ (v7342 : BitVec 32) (k0_hw1310 : k0_chk1310 v7342), ∀ a, (k0_off1310 v7342) a + S1x1x256.size a ≤ S4001x1x256.size a := fun v7342 k0_hw1310 => k0_hw1310

def k0_off1311 (v7346 : BitVec 32) : Fin 3 → Nat :=
  let v7347 : Index := Scalar.indexCast v7346
  let c0_5495 : Index := 0#32
  let c0_5496 : Index := 0#32
  ![v7347.toNat, 0, 0]

def k0_chk1311 (v7346 : BitVec 32) : Prop :=
  (∀ a, (k0_off1311 v7346) a + S1x1x256.size a ≤ S4001x1x256.size a)
theorem k0_off1311_inb : ∀ (v7346 : BitVec 32) (k0_hw1311 : k0_chk1311 v7346), ∀ a, (k0_off1311 v7346) a + S1x1x256.size a ≤ S4001x1x256.size a := fun v7346 k0_hw1311 => k0_hw1311

def k0_off1312 (v7350 : BitVec 32) : Fin 3 → Nat :=
  let v7351 : Index := Scalar.indexCast v7350
  let c0_5499 : Index := 0#32
  let c0_5500 : Index := 0#32
  ![v7351.toNat, 0, 0]

def k0_chk1312 (v7350 : BitVec 32) : Prop :=
  (∀ a, (k0_off1312 v7350) a + S1x1x256.size a ≤ S4001x1x256.size a)
theorem k0_off1312_inb : ∀ (v7350 : BitVec 32) (k0_hw1312 : k0_chk1312 v7350), ∀ a, (k0_off1312 v7350) a + S1x1x256.size a ≤ S4001x1x256.size a := fun v7350 k0_hw1312 => k0_hw1312

def k0_off1313 (v7354 : BitVec 32) : Fin 3 → Nat :=
  let v7355 : Index := Scalar.indexCast v7354
  let c0_5503 : Index := 0#32
  let c0_5504 : Index := 0#32
  ![v7355.toNat, 0, 0]

def k0_chk1313 (v7354 : BitVec 32) : Prop :=
  (∀ a, (k0_off1313 v7354) a + S1x1x256.size a ≤ S4001x1x256.size a)
theorem k0_off1313_inb : ∀ (v7354 : BitVec 32) (k0_hw1313 : k0_chk1313 v7354), ∀ a, (k0_off1313 v7354) a + S1x1x256.size a ≤ S4001x1x256.size a := fun v7354 k0_hw1313 => k0_hw1313

def k0_off1314 (v7358 : BitVec 32) : Fin 3 → Nat :=
  let v7359 : Index := Scalar.indexCast v7358
  let c0_5507 : Index := 0#32
  let c0_5508 : Index := 0#32
  ![v7359.toNat, 0, 0]

def k0_chk1314 (v7358 : BitVec 32) : Prop :=
  (∀ a, (k0_off1314 v7358) a + S1x1x256.size a ≤ S4001x1x256.size a)
theorem k0_off1314_inb : ∀ (v7358 : BitVec 32) (k0_hw1314 : k0_chk1314 v7358), ∀ a, (k0_off1314 v7358) a + S1x1x256.size a ≤ S4001x1x256.size a := fun v7358 k0_hw1314 => k0_hw1314

def k0_off1315 (v7362 : BitVec 32) : Fin 3 → Nat :=
  let v7363 : Index := Scalar.indexCast v7362
  let c0_5511 : Index := 0#32
  let c0_5512 : Index := 0#32
  ![v7363.toNat, 0, 0]

def k0_chk1315 (v7362 : BitVec 32) : Prop :=
  (∀ a, (k0_off1315 v7362) a + S1x1x256.size a ≤ S4001x1x256.size a)
theorem k0_off1315_inb : ∀ (v7362 : BitVec 32) (k0_hw1315 : k0_chk1315 v7362), ∀ a, (k0_off1315 v7362) a + S1x1x256.size a ≤ S4001x1x256.size a := fun v7362 k0_hw1315 => k0_hw1315

def k0_off1316 (v7366 : BitVec 32) : Fin 3 → Nat :=
  let v7367 : Index := Scalar.indexCast v7366
  let c0_5515 : Index := 0#32
  let c0_5516 : Index := 0#32
  ![v7367.toNat, 0, 0]

def k0_chk1316 (v7366 : BitVec 32) : Prop :=
  (∀ a, (k0_off1316 v7366) a + S1x1x256.size a ≤ S4001x1x256.size a)
theorem k0_off1316_inb : ∀ (v7366 : BitVec 32) (k0_hw1316 : k0_chk1316 v7366), ∀ a, (k0_off1316 v7366) a + S1x1x256.size a ≤ S4001x1x256.size a := fun v7366 k0_hw1316 => k0_hw1316

def k0_off1317 (v7370 : BitVec 32) : Fin 3 → Nat :=
  let v7371 : Index := Scalar.indexCast v7370
  let c0_5519 : Index := 0#32
  let c0_5520 : Index := 0#32
  ![v7371.toNat, 0, 0]

def k0_chk1317 (v7370 : BitVec 32) : Prop :=
  (∀ a, (k0_off1317 v7370) a + S1x1x256.size a ≤ S4001x1x256.size a)
theorem k0_off1317_inb : ∀ (v7370 : BitVec 32) (k0_hw1317 : k0_chk1317 v7370), ∀ a, (k0_off1317 v7370) a + S1x1x256.size a ≤ S4001x1x256.size a := fun v7370 k0_hw1317 => k0_hw1317

def k0_off1318 (v7374 : BitVec 32) : Fin 3 → Nat :=
  let v7375 : Index := Scalar.indexCast v7374
  let c0_5523 : Index := 0#32
  let c0_5524 : Index := 0#32
  ![v7375.toNat, 0, 0]

def k0_chk1318 (v7374 : BitVec 32) : Prop :=
  (∀ a, (k0_off1318 v7374) a + S1x1x256.size a ≤ S4001x1x256.size a)
theorem k0_off1318_inb : ∀ (v7374 : BitVec 32) (k0_hw1318 : k0_chk1318 v7374), ∀ a, (k0_off1318 v7374) a + S1x1x256.size a ≤ S4001x1x256.size a := fun v7374 k0_hw1318 => k0_hw1318

def k0_off1319 (v7378 : BitVec 32) : Fin 3 → Nat :=
  let v7379 : Index := Scalar.indexCast v7378
  let c0_5527 : Index := 0#32
  let c0_5528 : Index := 0#32
  ![v7379.toNat, 0, 0]

def k0_chk1319 (v7378 : BitVec 32) : Prop :=
  (∀ a, (k0_off1319 v7378) a + S1x1x256.size a ≤ S4001x1x256.size a)
theorem k0_off1319_inb : ∀ (v7378 : BitVec 32) (k0_hw1319 : k0_chk1319 v7378), ∀ a, (k0_off1319 v7378) a + S1x1x256.size a ≤ S4001x1x256.size a := fun v7378 k0_hw1319 => k0_hw1319

def k0_off1320 (v7382 : BitVec 32) : Fin 3 → Nat :=
  let v7383 : Index := Scalar.indexCast v7382
  let c0_5531 : Index := 0#32
  let c0_5532 : Index := 0#32
  ![v7383.toNat, 0, 0]

def k0_chk1320 (v7382 : BitVec 32) : Prop :=
  (∀ a, (k0_off1320 v7382) a + S1x1x256.size a ≤ S4001x1x256.size a)
theorem k0_off1320_inb : ∀ (v7382 : BitVec 32) (k0_hw1320 : k0_chk1320 v7382), ∀ a, (k0_off1320 v7382) a + S1x1x256.size a ≤ S4001x1x256.size a := fun v7382 k0_hw1320 => k0_hw1320

def k0_off1321 (v7438 : BitVec 32) : Fin 3 → Nat :=
  let v7439 : Index := Scalar.indexCast v7438
  let c0_5545 : Index := 0#32
  let c0_5546 : Index := 0#32
  ![v7439.toNat, 0, 0]

def k0_chk1321 (v7438 : BitVec 32) : Prop :=
  (∀ a, (k0_off1321 v7438) a + S1x1x256.size a ≤ S4001x1x256.size a)
theorem k0_off1321_inb : ∀ (v7438 : BitVec 32) (k0_hw1321 : k0_chk1321 v7438), ∀ a, (k0_off1321 v7438) a + S1x1x256.size a ≤ S4001x1x256.size a := fun v7438 k0_hw1321 => k0_hw1321

def k0_off1322 (v7442 : BitVec 32) : Fin 3 → Nat :=
  let v7443 : Index := Scalar.indexCast v7442
  let c0_5549 : Index := 0#32
  let c0_5550 : Index := 0#32
  ![v7443.toNat, 0, 0]

def k0_chk1322 (v7442 : BitVec 32) : Prop :=
  (∀ a, (k0_off1322 v7442) a + S1x1x256.size a ≤ S4001x1x256.size a)
theorem k0_off1322_inb : ∀ (v7442 : BitVec 32) (k0_hw1322 : k0_chk1322 v7442), ∀ a, (k0_off1322 v7442) a + S1x1x256.size a ≤ S4001x1x256.size a := fun v7442 k0_hw1322 => k0_hw1322

def k0_off1323 (v7446 : BitVec 32) : Fin 3 → Nat :=
  let v7447 : Index := Scalar.indexCast v7446
  let c0_5553 : Index := 0#32
  let c0_5554 : Index := 0#32
  ![v7447.toNat, 0, 0]

def k0_chk1323 (v7446 : BitVec 32) : Prop :=
  (∀ a, (k0_off1323 v7446) a + S1x1x256.size a ≤ S4001x1x256.size a)
theorem k0_off1323_inb : ∀ (v7446 : BitVec 32) (k0_hw1323 : k0_chk1323 v7446), ∀ a, (k0_off1323 v7446) a + S1x1x256.size a ≤ S4001x1x256.size a := fun v7446 k0_hw1323 => k0_hw1323

def k0_off1324 (v7450 : BitVec 32) : Fin 3 → Nat :=
  let v7451 : Index := Scalar.indexCast v7450
  let c0_5557 : Index := 0#32
  let c0_5558 : Index := 0#32
  ![v7451.toNat, 0, 0]

def k0_chk1324 (v7450 : BitVec 32) : Prop :=
  (∀ a, (k0_off1324 v7450) a + S1x1x256.size a ≤ S4001x1x256.size a)
theorem k0_off1324_inb : ∀ (v7450 : BitVec 32) (k0_hw1324 : k0_chk1324 v7450), ∀ a, (k0_off1324 v7450) a + S1x1x256.size a ≤ S4001x1x256.size a := fun v7450 k0_hw1324 => k0_hw1324

def k0_off1325 (v7454 : BitVec 32) : Fin 3 → Nat :=
  let v7455 : Index := Scalar.indexCast v7454
  let c0_5561 : Index := 0#32
  let c0_5562 : Index := 0#32
  ![v7455.toNat, 0, 0]

def k0_chk1325 (v7454 : BitVec 32) : Prop :=
  (∀ a, (k0_off1325 v7454) a + S1x1x256.size a ≤ S4001x1x256.size a)
theorem k0_off1325_inb : ∀ (v7454 : BitVec 32) (k0_hw1325 : k0_chk1325 v7454), ∀ a, (k0_off1325 v7454) a + S1x1x256.size a ≤ S4001x1x256.size a := fun v7454 k0_hw1325 => k0_hw1325

def k0_off1326 (v7458 : BitVec 32) : Fin 3 → Nat :=
  let v7459 : Index := Scalar.indexCast v7458
  let c0_5565 : Index := 0#32
  let c0_5566 : Index := 0#32
  ![v7459.toNat, 0, 0]

def k0_chk1326 (v7458 : BitVec 32) : Prop :=
  (∀ a, (k0_off1326 v7458) a + S1x1x256.size a ≤ S4001x1x256.size a)
theorem k0_off1326_inb : ∀ (v7458 : BitVec 32) (k0_hw1326 : k0_chk1326 v7458), ∀ a, (k0_off1326 v7458) a + S1x1x256.size a ≤ S4001x1x256.size a := fun v7458 k0_hw1326 => k0_hw1326

def k0_off1327 (v7462 : BitVec 32) : Fin 3 → Nat :=
  let v7463 : Index := Scalar.indexCast v7462
  let c0_5569 : Index := 0#32
  let c0_5570 : Index := 0#32
  ![v7463.toNat, 0, 0]

def k0_chk1327 (v7462 : BitVec 32) : Prop :=
  (∀ a, (k0_off1327 v7462) a + S1x1x256.size a ≤ S4001x1x256.size a)
theorem k0_off1327_inb : ∀ (v7462 : BitVec 32) (k0_hw1327 : k0_chk1327 v7462), ∀ a, (k0_off1327 v7462) a + S1x1x256.size a ≤ S4001x1x256.size a := fun v7462 k0_hw1327 => k0_hw1327

def k0_off1328 (v7466 : BitVec 32) : Fin 3 → Nat :=
  let v7467 : Index := Scalar.indexCast v7466
  let c0_5573 : Index := 0#32
  let c0_5574 : Index := 0#32
  ![v7467.toNat, 0, 0]

def k0_chk1328 (v7466 : BitVec 32) : Prop :=
  (∀ a, (k0_off1328 v7466) a + S1x1x256.size a ≤ S4001x1x256.size a)
theorem k0_off1328_inb : ∀ (v7466 : BitVec 32) (k0_hw1328 : k0_chk1328 v7466), ∀ a, (k0_off1328 v7466) a + S1x1x256.size a ≤ S4001x1x256.size a := fun v7466 k0_hw1328 => k0_hw1328

def k0_off1329 (v7470 : BitVec 32) : Fin 3 → Nat :=
  let v7471 : Index := Scalar.indexCast v7470
  let c0_5577 : Index := 0#32
  let c0_5578 : Index := 0#32
  ![v7471.toNat, 0, 0]

def k0_chk1329 (v7470 : BitVec 32) : Prop :=
  (∀ a, (k0_off1329 v7470) a + S1x1x256.size a ≤ S4001x1x256.size a)
theorem k0_off1329_inb : ∀ (v7470 : BitVec 32) (k0_hw1329 : k0_chk1329 v7470), ∀ a, (k0_off1329 v7470) a + S1x1x256.size a ≤ S4001x1x256.size a := fun v7470 k0_hw1329 => k0_hw1329

def k0_off1330 (v7474 : BitVec 32) : Fin 3 → Nat :=
  let v7475 : Index := Scalar.indexCast v7474
  let c0_5581 : Index := 0#32
  let c0_5582 : Index := 0#32
  ![v7475.toNat, 0, 0]

def k0_chk1330 (v7474 : BitVec 32) : Prop :=
  (∀ a, (k0_off1330 v7474) a + S1x1x256.size a ≤ S4001x1x256.size a)
theorem k0_off1330_inb : ∀ (v7474 : BitVec 32) (k0_hw1330 : k0_chk1330 v7474), ∀ a, (k0_off1330 v7474) a + S1x1x256.size a ≤ S4001x1x256.size a := fun v7474 k0_hw1330 => k0_hw1330

def k0_off1331 (v7478 : BitVec 32) : Fin 3 → Nat :=
  let v7479 : Index := Scalar.indexCast v7478
  let c0_5585 : Index := 0#32
  let c0_5586 : Index := 0#32
  ![v7479.toNat, 0, 0]

def k0_chk1331 (v7478 : BitVec 32) : Prop :=
  (∀ a, (k0_off1331 v7478) a + S1x1x256.size a ≤ S4001x1x256.size a)
theorem k0_off1331_inb : ∀ (v7478 : BitVec 32) (k0_hw1331 : k0_chk1331 v7478), ∀ a, (k0_off1331 v7478) a + S1x1x256.size a ≤ S4001x1x256.size a := fun v7478 k0_hw1331 => k0_hw1331

def k0_off1332 (v7482 : BitVec 32) : Fin 3 → Nat :=
  let v7483 : Index := Scalar.indexCast v7482
  let c0_5589 : Index := 0#32
  let c0_5590 : Index := 0#32
  ![v7483.toNat, 0, 0]

def k0_chk1332 (v7482 : BitVec 32) : Prop :=
  (∀ a, (k0_off1332 v7482) a + S1x1x256.size a ≤ S4001x1x256.size a)
theorem k0_off1332_inb : ∀ (v7482 : BitVec 32) (k0_hw1332 : k0_chk1332 v7482), ∀ a, (k0_off1332 v7482) a + S1x1x256.size a ≤ S4001x1x256.size a := fun v7482 k0_hw1332 => k0_hw1332

def k0_off1333 (v7486 : BitVec 32) : Fin 3 → Nat :=
  let v7487 : Index := Scalar.indexCast v7486
  let c0_5593 : Index := 0#32
  let c0_5594 : Index := 0#32
  ![v7487.toNat, 0, 0]

def k0_chk1333 (v7486 : BitVec 32) : Prop :=
  (∀ a, (k0_off1333 v7486) a + S1x1x256.size a ≤ S4001x1x256.size a)
theorem k0_off1333_inb : ∀ (v7486 : BitVec 32) (k0_hw1333 : k0_chk1333 v7486), ∀ a, (k0_off1333 v7486) a + S1x1x256.size a ≤ S4001x1x256.size a := fun v7486 k0_hw1333 => k0_hw1333

def k0_off1334 (v7490 : BitVec 32) : Fin 3 → Nat :=
  let v7491 : Index := Scalar.indexCast v7490
  let c0_5597 : Index := 0#32
  let c0_5598 : Index := 0#32
  ![v7491.toNat, 0, 0]

def k0_chk1334 (v7490 : BitVec 32) : Prop :=
  (∀ a, (k0_off1334 v7490) a + S1x1x256.size a ≤ S4001x1x256.size a)
theorem k0_off1334_inb : ∀ (v7490 : BitVec 32) (k0_hw1334 : k0_chk1334 v7490), ∀ a, (k0_off1334 v7490) a + S1x1x256.size a ≤ S4001x1x256.size a := fun v7490 k0_hw1334 => k0_hw1334

def k0_off1335 (v7494 : BitVec 32) : Fin 3 → Nat :=
  let v7495 : Index := Scalar.indexCast v7494
  let c0_5601 : Index := 0#32
  let c0_5602 : Index := 0#32
  ![v7495.toNat, 0, 0]

def k0_chk1335 (v7494 : BitVec 32) : Prop :=
  (∀ a, (k0_off1335 v7494) a + S1x1x256.size a ≤ S4001x1x256.size a)
theorem k0_off1335_inb : ∀ (v7494 : BitVec 32) (k0_hw1335 : k0_chk1335 v7494), ∀ a, (k0_off1335 v7494) a + S1x1x256.size a ≤ S4001x1x256.size a := fun v7494 k0_hw1335 => k0_hw1335

def k0_off1336 (v7498 : BitVec 32) : Fin 3 → Nat :=
  let v7499 : Index := Scalar.indexCast v7498
  let c0_5605 : Index := 0#32
  let c0_5606 : Index := 0#32
  ![v7499.toNat, 0, 0]

def k0_chk1336 (v7498 : BitVec 32) : Prop :=
  (∀ a, (k0_off1336 v7498) a + S1x1x256.size a ≤ S4001x1x256.size a)
theorem k0_off1336_inb : ∀ (v7498 : BitVec 32) (k0_hw1336 : k0_chk1336 v7498), ∀ a, (k0_off1336 v7498) a + S1x1x256.size a ≤ S4001x1x256.size a := fun v7498 k0_hw1336 => k0_hw1336

def k0_off1337 (v7502 : BitVec 32) : Fin 3 → Nat :=
  let v7503 : Index := Scalar.indexCast v7502
  let c0_5609 : Index := 0#32
  let c0_5610 : Index := 0#32
  ![v7503.toNat, 0, 0]

def k0_chk1337 (v7502 : BitVec 32) : Prop :=
  (∀ a, (k0_off1337 v7502) a + S1x1x256.size a ≤ S4001x1x256.size a)
theorem k0_off1337_inb : ∀ (v7502 : BitVec 32) (k0_hw1337 : k0_chk1337 v7502), ∀ a, (k0_off1337 v7502) a + S1x1x256.size a ≤ S4001x1x256.size a := fun v7502 k0_hw1337 => k0_hw1337

def k0_off1338 (v7506 : BitVec 32) : Fin 3 → Nat :=
  let v7507 : Index := Scalar.indexCast v7506
  let c0_5613 : Index := 0#32
  let c0_5614 : Index := 0#32
  ![v7507.toNat, 0, 0]

def k0_chk1338 (v7506 : BitVec 32) : Prop :=
  (∀ a, (k0_off1338 v7506) a + S1x1x256.size a ≤ S4001x1x256.size a)
theorem k0_off1338_inb : ∀ (v7506 : BitVec 32) (k0_hw1338 : k0_chk1338 v7506), ∀ a, (k0_off1338 v7506) a + S1x1x256.size a ≤ S4001x1x256.size a := fun v7506 k0_hw1338 => k0_hw1338

def k0_off1339 (v7510 : BitVec 32) : Fin 3 → Nat :=
  let v7511 : Index := Scalar.indexCast v7510
  let c0_5617 : Index := 0#32
  let c0_5618 : Index := 0#32
  ![v7511.toNat, 0, 0]

def k0_chk1339 (v7510 : BitVec 32) : Prop :=
  (∀ a, (k0_off1339 v7510) a + S1x1x256.size a ≤ S4001x1x256.size a)
theorem k0_off1339_inb : ∀ (v7510 : BitVec 32) (k0_hw1339 : k0_chk1339 v7510), ∀ a, (k0_off1339 v7510) a + S1x1x256.size a ≤ S4001x1x256.size a := fun v7510 k0_hw1339 => k0_hw1339

def k0_off1340 (v7514 : BitVec 32) : Fin 3 → Nat :=
  let v7515 : Index := Scalar.indexCast v7514
  let c0_5621 : Index := 0#32
  let c0_5622 : Index := 0#32
  ![v7515.toNat, 0, 0]

def k0_chk1340 (v7514 : BitVec 32) : Prop :=
  (∀ a, (k0_off1340 v7514) a + S1x1x256.size a ≤ S4001x1x256.size a)
theorem k0_off1340_inb : ∀ (v7514 : BitVec 32) (k0_hw1340 : k0_chk1340 v7514), ∀ a, (k0_off1340 v7514) a + S1x1x256.size a ≤ S4001x1x256.size a := fun v7514 k0_hw1340 => k0_hw1340

def k0_off1341 (v7518 : BitVec 32) : Fin 3 → Nat :=
  let v7519 : Index := Scalar.indexCast v7518
  let c0_5625 : Index := 0#32
  let c0_5626 : Index := 0#32
  ![v7519.toNat, 0, 0]

def k0_chk1341 (v7518 : BitVec 32) : Prop :=
  (∀ a, (k0_off1341 v7518) a + S1x1x256.size a ≤ S4001x1x256.size a)
theorem k0_off1341_inb : ∀ (v7518 : BitVec 32) (k0_hw1341 : k0_chk1341 v7518), ∀ a, (k0_off1341 v7518) a + S1x1x256.size a ≤ S4001x1x256.size a := fun v7518 k0_hw1341 => k0_hw1341

def k0_off1342 (v7522 : BitVec 32) : Fin 3 → Nat :=
  let v7523 : Index := Scalar.indexCast v7522
  let c0_5629 : Index := 0#32
  let c0_5630 : Index := 0#32
  ![v7523.toNat, 0, 0]

def k0_chk1342 (v7522 : BitVec 32) : Prop :=
  (∀ a, (k0_off1342 v7522) a + S1x1x256.size a ≤ S4001x1x256.size a)
theorem k0_off1342_inb : ∀ (v7522 : BitVec 32) (k0_hw1342 : k0_chk1342 v7522), ∀ a, (k0_off1342 v7522) a + S1x1x256.size a ≤ S4001x1x256.size a := fun v7522 k0_hw1342 => k0_hw1342

def k0_off1343 (v7526 : BitVec 32) : Fin 3 → Nat :=
  let v7527 : Index := Scalar.indexCast v7526
  let c0_5633 : Index := 0#32
  let c0_5634 : Index := 0#32
  ![v7527.toNat, 0, 0]

def k0_chk1343 (v7526 : BitVec 32) : Prop :=
  (∀ a, (k0_off1343 v7526) a + S1x1x256.size a ≤ S4001x1x256.size a)
theorem k0_off1343_inb : ∀ (v7526 : BitVec 32) (k0_hw1343 : k0_chk1343 v7526), ∀ a, (k0_off1343 v7526) a + S1x1x256.size a ≤ S4001x1x256.size a := fun v7526 k0_hw1343 => k0_hw1343

def k0_off1344 (v7530 : BitVec 32) : Fin 3 → Nat :=
  let v7531 : Index := Scalar.indexCast v7530
  let c0_5637 : Index := 0#32
  let c0_5638 : Index := 0#32
  ![v7531.toNat, 0, 0]

def k0_chk1344 (v7530 : BitVec 32) : Prop :=
  (∀ a, (k0_off1344 v7530) a + S1x1x256.size a ≤ S4001x1x256.size a)
theorem k0_off1344_inb : ∀ (v7530 : BitVec 32) (k0_hw1344 : k0_chk1344 v7530), ∀ a, (k0_off1344 v7530) a + S1x1x256.size a ≤ S4001x1x256.size a := fun v7530 k0_hw1344 => k0_hw1344

def k0_off1345 (v7534 : BitVec 32) : Fin 3 → Nat :=
  let v7535 : Index := Scalar.indexCast v7534
  let c0_5641 : Index := 0#32
  let c0_5642 : Index := 0#32
  ![v7535.toNat, 0, 0]

def k0_chk1345 (v7534 : BitVec 32) : Prop :=
  (∀ a, (k0_off1345 v7534) a + S1x1x256.size a ≤ S4001x1x256.size a)
theorem k0_off1345_inb : ∀ (v7534 : BitVec 32) (k0_hw1345 : k0_chk1345 v7534), ∀ a, (k0_off1345 v7534) a + S1x1x256.size a ≤ S4001x1x256.size a := fun v7534 k0_hw1345 => k0_hw1345

def k0_off1346 (v7538 : BitVec 32) : Fin 3 → Nat :=
  let v7539 : Index := Scalar.indexCast v7538
  let c0_5645 : Index := 0#32
  let c0_5646 : Index := 0#32
  ![v7539.toNat, 0, 0]

def k0_chk1346 (v7538 : BitVec 32) : Prop :=
  (∀ a, (k0_off1346 v7538) a + S1x1x256.size a ≤ S4001x1x256.size a)
theorem k0_off1346_inb : ∀ (v7538 : BitVec 32) (k0_hw1346 : k0_chk1346 v7538), ∀ a, (k0_off1346 v7538) a + S1x1x256.size a ≤ S4001x1x256.size a := fun v7538 k0_hw1346 => k0_hw1346

def k0_off1347 (v7542 : BitVec 32) : Fin 3 → Nat :=
  let v7543 : Index := Scalar.indexCast v7542
  let c0_5649 : Index := 0#32
  let c0_5650 : Index := 0#32
  ![v7543.toNat, 0, 0]

def k0_chk1347 (v7542 : BitVec 32) : Prop :=
  (∀ a, (k0_off1347 v7542) a + S1x1x256.size a ≤ S4001x1x256.size a)
theorem k0_off1347_inb : ∀ (v7542 : BitVec 32) (k0_hw1347 : k0_chk1347 v7542), ∀ a, (k0_off1347 v7542) a + S1x1x256.size a ≤ S4001x1x256.size a := fun v7542 k0_hw1347 => k0_hw1347

def k0_off1348 (v7546 : BitVec 32) : Fin 3 → Nat :=
  let v7547 : Index := Scalar.indexCast v7546
  let c0_5653 : Index := 0#32
  let c0_5654 : Index := 0#32
  ![v7547.toNat, 0, 0]

def k0_chk1348 (v7546 : BitVec 32) : Prop :=
  (∀ a, (k0_off1348 v7546) a + S1x1x256.size a ≤ S4001x1x256.size a)
theorem k0_off1348_inb : ∀ (v7546 : BitVec 32) (k0_hw1348 : k0_chk1348 v7546), ∀ a, (k0_off1348 v7546) a + S1x1x256.size a ≤ S4001x1x256.size a := fun v7546 k0_hw1348 => k0_hw1348

def k0_off1349 (v7550 : BitVec 32) : Fin 3 → Nat :=
  let v7551 : Index := Scalar.indexCast v7550
  let c0_5657 : Index := 0#32
  let c0_5658 : Index := 0#32
  ![v7551.toNat, 0, 0]

def k0_chk1349 (v7550 : BitVec 32) : Prop :=
  (∀ a, (k0_off1349 v7550) a + S1x1x256.size a ≤ S4001x1x256.size a)
theorem k0_off1349_inb : ∀ (v7550 : BitVec 32) (k0_hw1349 : k0_chk1349 v7550), ∀ a, (k0_off1349 v7550) a + S1x1x256.size a ≤ S4001x1x256.size a := fun v7550 k0_hw1349 => k0_hw1349

def k0_off1350 (v7554 : BitVec 32) : Fin 3 → Nat :=
  let v7555 : Index := Scalar.indexCast v7554
  let c0_5661 : Index := 0#32
  let c0_5662 : Index := 0#32
  ![v7555.toNat, 0, 0]

def k0_chk1350 (v7554 : BitVec 32) : Prop :=
  (∀ a, (k0_off1350 v7554) a + S1x1x256.size a ≤ S4001x1x256.size a)
theorem k0_off1350_inb : ∀ (v7554 : BitVec 32) (k0_hw1350 : k0_chk1350 v7554), ∀ a, (k0_off1350 v7554) a + S1x1x256.size a ≤ S4001x1x256.size a := fun v7554 k0_hw1350 => k0_hw1350

def k0_off1351 (v7558 : BitVec 32) : Fin 3 → Nat :=
  let v7559 : Index := Scalar.indexCast v7558
  let c0_5665 : Index := 0#32
  let c0_5666 : Index := 0#32
  ![v7559.toNat, 0, 0]

def k0_chk1351 (v7558 : BitVec 32) : Prop :=
  (∀ a, (k0_off1351 v7558) a + S1x1x256.size a ≤ S4001x1x256.size a)
theorem k0_off1351_inb : ∀ (v7558 : BitVec 32) (k0_hw1351 : k0_chk1351 v7558), ∀ a, (k0_off1351 v7558) a + S1x1x256.size a ≤ S4001x1x256.size a := fun v7558 k0_hw1351 => k0_hw1351

def k0_off1352 (v7562 : BitVec 32) : Fin 3 → Nat :=
  let v7563 : Index := Scalar.indexCast v7562
  let c0_5669 : Index := 0#32
  let c0_5670 : Index := 0#32
  ![v7563.toNat, 0, 0]

def k0_chk1352 (v7562 : BitVec 32) : Prop :=
  (∀ a, (k0_off1352 v7562) a + S1x1x256.size a ≤ S4001x1x256.size a)
theorem k0_off1352_inb : ∀ (v7562 : BitVec 32) (k0_hw1352 : k0_chk1352 v7562), ∀ a, (k0_off1352 v7562) a + S1x1x256.size a ≤ S4001x1x256.size a := fun v7562 k0_hw1352 => k0_hw1352

def k0_off1353 (v7566 : BitVec 32) : Fin 3 → Nat :=
  let v7567 : Index := Scalar.indexCast v7566
  let c0_5673 : Index := 0#32
  let c0_5674 : Index := 0#32
  ![v7567.toNat, 0, 0]

def k0_chk1353 (v7566 : BitVec 32) : Prop :=
  (∀ a, (k0_off1353 v7566) a + S1x1x256.size a ≤ S4001x1x256.size a)
theorem k0_off1353_inb : ∀ (v7566 : BitVec 32) (k0_hw1353 : k0_chk1353 v7566), ∀ a, (k0_off1353 v7566) a + S1x1x256.size a ≤ S4001x1x256.size a := fun v7566 k0_hw1353 => k0_hw1353

def k0_off1354 (v7570 : BitVec 32) : Fin 3 → Nat :=
  let v7571 : Index := Scalar.indexCast v7570
  let c0_5677 : Index := 0#32
  let c0_5678 : Index := 0#32
  ![v7571.toNat, 0, 0]

def k0_chk1354 (v7570 : BitVec 32) : Prop :=
  (∀ a, (k0_off1354 v7570) a + S1x1x256.size a ≤ S4001x1x256.size a)
theorem k0_off1354_inb : ∀ (v7570 : BitVec 32) (k0_hw1354 : k0_chk1354 v7570), ∀ a, (k0_off1354 v7570) a + S1x1x256.size a ≤ S4001x1x256.size a := fun v7570 k0_hw1354 => k0_hw1354

def k0_off1355 (v7574 : BitVec 32) : Fin 3 → Nat :=
  let v7575 : Index := Scalar.indexCast v7574
  let c0_5681 : Index := 0#32
  let c0_5682 : Index := 0#32
  ![v7575.toNat, 0, 0]

def k0_chk1355 (v7574 : BitVec 32) : Prop :=
  (∀ a, (k0_off1355 v7574) a + S1x1x256.size a ≤ S4001x1x256.size a)
theorem k0_off1355_inb : ∀ (v7574 : BitVec 32) (k0_hw1355 : k0_chk1355 v7574), ∀ a, (k0_off1355 v7574) a + S1x1x256.size a ≤ S4001x1x256.size a := fun v7574 k0_hw1355 => k0_hw1355

def k0_off1356 (v7578 : BitVec 32) : Fin 3 → Nat :=
  let v7579 : Index := Scalar.indexCast v7578
  let c0_5685 : Index := 0#32
  let c0_5686 : Index := 0#32
  ![v7579.toNat, 0, 0]

def k0_chk1356 (v7578 : BitVec 32) : Prop :=
  (∀ a, (k0_off1356 v7578) a + S1x1x256.size a ≤ S4001x1x256.size a)
theorem k0_off1356_inb : ∀ (v7578 : BitVec 32) (k0_hw1356 : k0_chk1356 v7578), ∀ a, (k0_off1356 v7578) a + S1x1x256.size a ≤ S4001x1x256.size a := fun v7578 k0_hw1356 => k0_hw1356

def k0_off1357 (v7582 : BitVec 32) : Fin 3 → Nat :=
  let v7583 : Index := Scalar.indexCast v7582
  let c0_5689 : Index := 0#32
  let c0_5690 : Index := 0#32
  ![v7583.toNat, 0, 0]

def k0_chk1357 (v7582 : BitVec 32) : Prop :=
  (∀ a, (k0_off1357 v7582) a + S1x1x256.size a ≤ S4001x1x256.size a)
theorem k0_off1357_inb : ∀ (v7582 : BitVec 32) (k0_hw1357 : k0_chk1357 v7582), ∀ a, (k0_off1357 v7582) a + S1x1x256.size a ≤ S4001x1x256.size a := fun v7582 k0_hw1357 => k0_hw1357

def k0_off1358 (v7586 : BitVec 32) : Fin 3 → Nat :=
  let v7587 : Index := Scalar.indexCast v7586
  let c0_5693 : Index := 0#32
  let c0_5694 : Index := 0#32
  ![v7587.toNat, 0, 0]

def k0_chk1358 (v7586 : BitVec 32) : Prop :=
  (∀ a, (k0_off1358 v7586) a + S1x1x256.size a ≤ S4001x1x256.size a)
theorem k0_off1358_inb : ∀ (v7586 : BitVec 32) (k0_hw1358 : k0_chk1358 v7586), ∀ a, (k0_off1358 v7586) a + S1x1x256.size a ≤ S4001x1x256.size a := fun v7586 k0_hw1358 => k0_hw1358

def k0_off1359 (v7590 : BitVec 32) : Fin 3 → Nat :=
  let v7591 : Index := Scalar.indexCast v7590
  let c0_5697 : Index := 0#32
  let c0_5698 : Index := 0#32
  ![v7591.toNat, 0, 0]

def k0_chk1359 (v7590 : BitVec 32) : Prop :=
  (∀ a, (k0_off1359 v7590) a + S1x1x256.size a ≤ S4001x1x256.size a)
theorem k0_off1359_inb : ∀ (v7590 : BitVec 32) (k0_hw1359 : k0_chk1359 v7590), ∀ a, (k0_off1359 v7590) a + S1x1x256.size a ≤ S4001x1x256.size a := fun v7590 k0_hw1359 => k0_hw1359

def k0_off1360 (v7594 : BitVec 32) : Fin 3 → Nat :=
  let v7595 : Index := Scalar.indexCast v7594
  let c0_5701 : Index := 0#32
  let c0_5702 : Index := 0#32
  ![v7595.toNat, 0, 0]

def k0_chk1360 (v7594 : BitVec 32) : Prop :=
  (∀ a, (k0_off1360 v7594) a + S1x1x256.size a ≤ S4001x1x256.size a)
theorem k0_off1360_inb : ∀ (v7594 : BitVec 32) (k0_hw1360 : k0_chk1360 v7594), ∀ a, (k0_off1360 v7594) a + S1x1x256.size a ≤ S4001x1x256.size a := fun v7594 k0_hw1360 => k0_hw1360

def k0_off1361 (v7637 : BitVec 32) : Fin 3 → Nat :=
  let v7638 : Index := Scalar.indexCast v7637
  let c0_5705 : Index := 0#32
  let c0_5706 : Index := 0#32
  ![v7638.toNat, 0, 0]

def k0_chk1361 (v7637 : BitVec 32) : Prop :=
  (∀ a, (k0_off1361 v7637) a + S1x1x256.size a ≤ S4001x1x256.size a)
theorem k0_off1361_inb : ∀ (v7637 : BitVec 32) (k0_hw1361 : k0_chk1361 v7637), ∀ a, (k0_off1361 v7637) a + S1x1x256.size a ≤ S4001x1x256.size a := fun v7637 k0_hw1361 => k0_hw1361

def k0_off1362 (v7641 : BitVec 32) : Fin 3 → Nat :=
  let v7642 : Index := Scalar.indexCast v7641
  let c0_5709 : Index := 0#32
  let c0_5710 : Index := 0#32
  ![v7642.toNat, 0, 0]

def k0_chk1362 (v7641 : BitVec 32) : Prop :=
  (∀ a, (k0_off1362 v7641) a + S1x1x256.size a ≤ S4001x1x256.size a)
theorem k0_off1362_inb : ∀ (v7641 : BitVec 32) (k0_hw1362 : k0_chk1362 v7641), ∀ a, (k0_off1362 v7641) a + S1x1x256.size a ≤ S4001x1x256.size a := fun v7641 k0_hw1362 => k0_hw1362

def k0_off1363 (v7645 : BitVec 32) : Fin 3 → Nat :=
  let v7646 : Index := Scalar.indexCast v7645
  let c0_5713 : Index := 0#32
  let c0_5714 : Index := 0#32
  ![v7646.toNat, 0, 0]

def k0_chk1363 (v7645 : BitVec 32) : Prop :=
  (∀ a, (k0_off1363 v7645) a + S1x1x256.size a ≤ S4001x1x256.size a)
theorem k0_off1363_inb : ∀ (v7645 : BitVec 32) (k0_hw1363 : k0_chk1363 v7645), ∀ a, (k0_off1363 v7645) a + S1x1x256.size a ≤ S4001x1x256.size a := fun v7645 k0_hw1363 => k0_hw1363

def k0_off1364 (v7649 : BitVec 32) : Fin 3 → Nat :=
  let v7650 : Index := Scalar.indexCast v7649
  let c0_5717 : Index := 0#32
  let c0_5718 : Index := 0#32
  ![v7650.toNat, 0, 0]

def k0_chk1364 (v7649 : BitVec 32) : Prop :=
  (∀ a, (k0_off1364 v7649) a + S1x1x256.size a ≤ S4001x1x256.size a)
theorem k0_off1364_inb : ∀ (v7649 : BitVec 32) (k0_hw1364 : k0_chk1364 v7649), ∀ a, (k0_off1364 v7649) a + S1x1x256.size a ≤ S4001x1x256.size a := fun v7649 k0_hw1364 => k0_hw1364

def k0_off1365 (v7653 : BitVec 32) : Fin 3 → Nat :=
  let v7654 : Index := Scalar.indexCast v7653
  let c0_5721 : Index := 0#32
  let c0_5722 : Index := 0#32
  ![v7654.toNat, 0, 0]

def k0_chk1365 (v7653 : BitVec 32) : Prop :=
  (∀ a, (k0_off1365 v7653) a + S1x1x256.size a ≤ S4001x1x256.size a)
theorem k0_off1365_inb : ∀ (v7653 : BitVec 32) (k0_hw1365 : k0_chk1365 v7653), ∀ a, (k0_off1365 v7653) a + S1x1x256.size a ≤ S4001x1x256.size a := fun v7653 k0_hw1365 => k0_hw1365

def k0_off1366 (v7657 : BitVec 32) : Fin 3 → Nat :=
  let v7658 : Index := Scalar.indexCast v7657
  let c0_5725 : Index := 0#32
  let c0_5726 : Index := 0#32
  ![v7658.toNat, 0, 0]

def k0_chk1366 (v7657 : BitVec 32) : Prop :=
  (∀ a, (k0_off1366 v7657) a + S1x1x256.size a ≤ S4001x1x256.size a)
theorem k0_off1366_inb : ∀ (v7657 : BitVec 32) (k0_hw1366 : k0_chk1366 v7657), ∀ a, (k0_off1366 v7657) a + S1x1x256.size a ≤ S4001x1x256.size a := fun v7657 k0_hw1366 => k0_hw1366

def k0_off1367 (v7661 : BitVec 32) : Fin 3 → Nat :=
  let v7662 : Index := Scalar.indexCast v7661
  let c0_5729 : Index := 0#32
  let c0_5730 : Index := 0#32
  ![v7662.toNat, 0, 0]

def k0_chk1367 (v7661 : BitVec 32) : Prop :=
  (∀ a, (k0_off1367 v7661) a + S1x1x256.size a ≤ S4001x1x256.size a)
theorem k0_off1367_inb : ∀ (v7661 : BitVec 32) (k0_hw1367 : k0_chk1367 v7661), ∀ a, (k0_off1367 v7661) a + S1x1x256.size a ≤ S4001x1x256.size a := fun v7661 k0_hw1367 => k0_hw1367

def k0_off1368 (v7665 : BitVec 32) : Fin 3 → Nat :=
  let v7666 : Index := Scalar.indexCast v7665
  let c0_5733 : Index := 0#32
  let c0_5734 : Index := 0#32
  ![v7666.toNat, 0, 0]

def k0_chk1368 (v7665 : BitVec 32) : Prop :=
  (∀ a, (k0_off1368 v7665) a + S1x1x256.size a ≤ S4001x1x256.size a)
theorem k0_off1368_inb : ∀ (v7665 : BitVec 32) (k0_hw1368 : k0_chk1368 v7665), ∀ a, (k0_off1368 v7665) a + S1x1x256.size a ≤ S4001x1x256.size a := fun v7665 k0_hw1368 => k0_hw1368

def k0_off1369 (v7669 : BitVec 32) : Fin 3 → Nat :=
  let v7670 : Index := Scalar.indexCast v7669
  let c0_5737 : Index := 0#32
  let c0_5738 : Index := 0#32
  ![v7670.toNat, 0, 0]

def k0_chk1369 (v7669 : BitVec 32) : Prop :=
  (∀ a, (k0_off1369 v7669) a + S1x1x256.size a ≤ S4001x1x256.size a)
theorem k0_off1369_inb : ∀ (v7669 : BitVec 32) (k0_hw1369 : k0_chk1369 v7669), ∀ a, (k0_off1369 v7669) a + S1x1x256.size a ≤ S4001x1x256.size a := fun v7669 k0_hw1369 => k0_hw1369

def k0_off1370 (v7673 : BitVec 32) : Fin 3 → Nat :=
  let v7674 : Index := Scalar.indexCast v7673
  let c0_5741 : Index := 0#32
  let c0_5742 : Index := 0#32
  ![v7674.toNat, 0, 0]

def k0_chk1370 (v7673 : BitVec 32) : Prop :=
  (∀ a, (k0_off1370 v7673) a + S1x1x256.size a ≤ S4001x1x256.size a)
theorem k0_off1370_inb : ∀ (v7673 : BitVec 32) (k0_hw1370 : k0_chk1370 v7673), ∀ a, (k0_off1370 v7673) a + S1x1x256.size a ≤ S4001x1x256.size a := fun v7673 k0_hw1370 => k0_hw1370

def k0_off1371 (v7677 : BitVec 32) : Fin 3 → Nat :=
  let v7678 : Index := Scalar.indexCast v7677
  let c0_5745 : Index := 0#32
  let c0_5746 : Index := 0#32
  ![v7678.toNat, 0, 0]

def k0_chk1371 (v7677 : BitVec 32) : Prop :=
  (∀ a, (k0_off1371 v7677) a + S1x1x256.size a ≤ S4001x1x256.size a)
theorem k0_off1371_inb : ∀ (v7677 : BitVec 32) (k0_hw1371 : k0_chk1371 v7677), ∀ a, (k0_off1371 v7677) a + S1x1x256.size a ≤ S4001x1x256.size a := fun v7677 k0_hw1371 => k0_hw1371

def k0_off1372 (v7681 : BitVec 32) : Fin 3 → Nat :=
  let v7682 : Index := Scalar.indexCast v7681
  let c0_5749 : Index := 0#32
  let c0_5750 : Index := 0#32
  ![v7682.toNat, 0, 0]

def k0_chk1372 (v7681 : BitVec 32) : Prop :=
  (∀ a, (k0_off1372 v7681) a + S1x1x256.size a ≤ S4001x1x256.size a)
theorem k0_off1372_inb : ∀ (v7681 : BitVec 32) (k0_hw1372 : k0_chk1372 v7681), ∀ a, (k0_off1372 v7681) a + S1x1x256.size a ≤ S4001x1x256.size a := fun v7681 k0_hw1372 => k0_hw1372

def k0_off1373 (v7685 : BitVec 32) : Fin 3 → Nat :=
  let v7686 : Index := Scalar.indexCast v7685
  let c0_5753 : Index := 0#32
  let c0_5754 : Index := 0#32
  ![v7686.toNat, 0, 0]

def k0_chk1373 (v7685 : BitVec 32) : Prop :=
  (∀ a, (k0_off1373 v7685) a + S1x1x256.size a ≤ S4001x1x256.size a)
theorem k0_off1373_inb : ∀ (v7685 : BitVec 32) (k0_hw1373 : k0_chk1373 v7685), ∀ a, (k0_off1373 v7685) a + S1x1x256.size a ≤ S4001x1x256.size a := fun v7685 k0_hw1373 => k0_hw1373

def k0_off1374 (v7689 : BitVec 32) : Fin 3 → Nat :=
  let v7690 : Index := Scalar.indexCast v7689
  let c0_5757 : Index := 0#32
  let c0_5758 : Index := 0#32
  ![v7690.toNat, 0, 0]

def k0_chk1374 (v7689 : BitVec 32) : Prop :=
  (∀ a, (k0_off1374 v7689) a + S1x1x256.size a ≤ S4001x1x256.size a)
theorem k0_off1374_inb : ∀ (v7689 : BitVec 32) (k0_hw1374 : k0_chk1374 v7689), ∀ a, (k0_off1374 v7689) a + S1x1x256.size a ≤ S4001x1x256.size a := fun v7689 k0_hw1374 => k0_hw1374

def k0_off1375 (v7693 : BitVec 32) : Fin 3 → Nat :=
  let v7694 : Index := Scalar.indexCast v7693
  let c0_5761 : Index := 0#32
  let c0_5762 : Index := 0#32
  ![v7694.toNat, 0, 0]

def k0_chk1375 (v7693 : BitVec 32) : Prop :=
  (∀ a, (k0_off1375 v7693) a + S1x1x256.size a ≤ S4001x1x256.size a)
theorem k0_off1375_inb : ∀ (v7693 : BitVec 32) (k0_hw1375 : k0_chk1375 v7693), ∀ a, (k0_off1375 v7693) a + S1x1x256.size a ≤ S4001x1x256.size a := fun v7693 k0_hw1375 => k0_hw1375

def k0_off1376 (v7697 : BitVec 32) : Fin 3 → Nat :=
  let v7698 : Index := Scalar.indexCast v7697
  let c0_5765 : Index := 0#32
  let c0_5766 : Index := 0#32
  ![v7698.toNat, 0, 0]

def k0_chk1376 (v7697 : BitVec 32) : Prop :=
  (∀ a, (k0_off1376 v7697) a + S1x1x256.size a ≤ S4001x1x256.size a)
theorem k0_off1376_inb : ∀ (v7697 : BitVec 32) (k0_hw1376 : k0_chk1376 v7697), ∀ a, (k0_off1376 v7697) a + S1x1x256.size a ≤ S4001x1x256.size a := fun v7697 k0_hw1376 => k0_hw1376

def k0_off1377 (v7701 : BitVec 32) : Fin 3 → Nat :=
  let v7702 : Index := Scalar.indexCast v7701
  let c0_5769 : Index := 0#32
  let c0_5770 : Index := 0#32
  ![v7702.toNat, 0, 0]

def k0_chk1377 (v7701 : BitVec 32) : Prop :=
  (∀ a, (k0_off1377 v7701) a + S1x1x256.size a ≤ S4001x1x256.size a)
theorem k0_off1377_inb : ∀ (v7701 : BitVec 32) (k0_hw1377 : k0_chk1377 v7701), ∀ a, (k0_off1377 v7701) a + S1x1x256.size a ≤ S4001x1x256.size a := fun v7701 k0_hw1377 => k0_hw1377

def k0_off1378 (v7705 : BitVec 32) : Fin 3 → Nat :=
  let v7706 : Index := Scalar.indexCast v7705
  let c0_5773 : Index := 0#32
  let c0_5774 : Index := 0#32
  ![v7706.toNat, 0, 0]

def k0_chk1378 (v7705 : BitVec 32) : Prop :=
  (∀ a, (k0_off1378 v7705) a + S1x1x256.size a ≤ S4001x1x256.size a)
theorem k0_off1378_inb : ∀ (v7705 : BitVec 32) (k0_hw1378 : k0_chk1378 v7705), ∀ a, (k0_off1378 v7705) a + S1x1x256.size a ≤ S4001x1x256.size a := fun v7705 k0_hw1378 => k0_hw1378

def k0_off1379 (v7709 : BitVec 32) : Fin 3 → Nat :=
  let v7710 : Index := Scalar.indexCast v7709
  let c0_5777 : Index := 0#32
  let c0_5778 : Index := 0#32
  ![v7710.toNat, 0, 0]

def k0_chk1379 (v7709 : BitVec 32) : Prop :=
  (∀ a, (k0_off1379 v7709) a + S1x1x256.size a ≤ S4001x1x256.size a)
theorem k0_off1379_inb : ∀ (v7709 : BitVec 32) (k0_hw1379 : k0_chk1379 v7709), ∀ a, (k0_off1379 v7709) a + S1x1x256.size a ≤ S4001x1x256.size a := fun v7709 k0_hw1379 => k0_hw1379

def k0_off1380 (v7713 : BitVec 32) : Fin 3 → Nat :=
  let v7714 : Index := Scalar.indexCast v7713
  let c0_5781 : Index := 0#32
  let c0_5782 : Index := 0#32
  ![v7714.toNat, 0, 0]

def k0_chk1380 (v7713 : BitVec 32) : Prop :=
  (∀ a, (k0_off1380 v7713) a + S1x1x256.size a ≤ S4001x1x256.size a)
theorem k0_off1380_inb : ∀ (v7713 : BitVec 32) (k0_hw1380 : k0_chk1380 v7713), ∀ a, (k0_off1380 v7713) a + S1x1x256.size a ≤ S4001x1x256.size a := fun v7713 k0_hw1380 => k0_hw1380

def k0_off1381 (v7769 : BitVec 32) : Fin 3 → Nat :=
  let v7770 : Index := Scalar.indexCast v7769
  let c0_5795 : Index := 0#32
  let c0_5796 : Index := 0#32
  ![v7770.toNat, 0, 0]

def k0_chk1381 (v7769 : BitVec 32) : Prop :=
  (∀ a, (k0_off1381 v7769) a + S1x1x256.size a ≤ S4001x1x256.size a)
theorem k0_off1381_inb : ∀ (v7769 : BitVec 32) (k0_hw1381 : k0_chk1381 v7769), ∀ a, (k0_off1381 v7769) a + S1x1x256.size a ≤ S4001x1x256.size a := fun v7769 k0_hw1381 => k0_hw1381

def k0_off1382 (v7773 : BitVec 32) : Fin 3 → Nat :=
  let v7774 : Index := Scalar.indexCast v7773
  let c0_5799 : Index := 0#32
  let c0_5800 : Index := 0#32
  ![v7774.toNat, 0, 0]

def k0_chk1382 (v7773 : BitVec 32) : Prop :=
  (∀ a, (k0_off1382 v7773) a + S1x1x256.size a ≤ S4001x1x256.size a)
theorem k0_off1382_inb : ∀ (v7773 : BitVec 32) (k0_hw1382 : k0_chk1382 v7773), ∀ a, (k0_off1382 v7773) a + S1x1x256.size a ≤ S4001x1x256.size a := fun v7773 k0_hw1382 => k0_hw1382

def k0_off1383 (v7777 : BitVec 32) : Fin 3 → Nat :=
  let v7778 : Index := Scalar.indexCast v7777
  let c0_5803 : Index := 0#32
  let c0_5804 : Index := 0#32
  ![v7778.toNat, 0, 0]

def k0_chk1383 (v7777 : BitVec 32) : Prop :=
  (∀ a, (k0_off1383 v7777) a + S1x1x256.size a ≤ S4001x1x256.size a)
theorem k0_off1383_inb : ∀ (v7777 : BitVec 32) (k0_hw1383 : k0_chk1383 v7777), ∀ a, (k0_off1383 v7777) a + S1x1x256.size a ≤ S4001x1x256.size a := fun v7777 k0_hw1383 => k0_hw1383

def k0_off1384 (v7781 : BitVec 32) : Fin 3 → Nat :=
  let v7782 : Index := Scalar.indexCast v7781
  let c0_5807 : Index := 0#32
  let c0_5808 : Index := 0#32
  ![v7782.toNat, 0, 0]

def k0_chk1384 (v7781 : BitVec 32) : Prop :=
  (∀ a, (k0_off1384 v7781) a + S1x1x256.size a ≤ S4001x1x256.size a)
theorem k0_off1384_inb : ∀ (v7781 : BitVec 32) (k0_hw1384 : k0_chk1384 v7781), ∀ a, (k0_off1384 v7781) a + S1x1x256.size a ≤ S4001x1x256.size a := fun v7781 k0_hw1384 => k0_hw1384

def k0_off1385 (v7785 : BitVec 32) : Fin 3 → Nat :=
  let v7786 : Index := Scalar.indexCast v7785
  let c0_5811 : Index := 0#32
  let c0_5812 : Index := 0#32
  ![v7786.toNat, 0, 0]

def k0_chk1385 (v7785 : BitVec 32) : Prop :=
  (∀ a, (k0_off1385 v7785) a + S1x1x256.size a ≤ S4001x1x256.size a)
theorem k0_off1385_inb : ∀ (v7785 : BitVec 32) (k0_hw1385 : k0_chk1385 v7785), ∀ a, (k0_off1385 v7785) a + S1x1x256.size a ≤ S4001x1x256.size a := fun v7785 k0_hw1385 => k0_hw1385

def k0_off1386 (v7789 : BitVec 32) : Fin 3 → Nat :=
  let v7790 : Index := Scalar.indexCast v7789
  let c0_5815 : Index := 0#32
  let c0_5816 : Index := 0#32
  ![v7790.toNat, 0, 0]

def k0_chk1386 (v7789 : BitVec 32) : Prop :=
  (∀ a, (k0_off1386 v7789) a + S1x1x256.size a ≤ S4001x1x256.size a)
theorem k0_off1386_inb : ∀ (v7789 : BitVec 32) (k0_hw1386 : k0_chk1386 v7789), ∀ a, (k0_off1386 v7789) a + S1x1x256.size a ≤ S4001x1x256.size a := fun v7789 k0_hw1386 => k0_hw1386

def k0_off1387 (v7793 : BitVec 32) : Fin 3 → Nat :=
  let v7794 : Index := Scalar.indexCast v7793
  let c0_5819 : Index := 0#32
  let c0_5820 : Index := 0#32
  ![v7794.toNat, 0, 0]

def k0_chk1387 (v7793 : BitVec 32) : Prop :=
  (∀ a, (k0_off1387 v7793) a + S1x1x256.size a ≤ S4001x1x256.size a)
theorem k0_off1387_inb : ∀ (v7793 : BitVec 32) (k0_hw1387 : k0_chk1387 v7793), ∀ a, (k0_off1387 v7793) a + S1x1x256.size a ≤ S4001x1x256.size a := fun v7793 k0_hw1387 => k0_hw1387

def k0_off1388 (v7797 : BitVec 32) : Fin 3 → Nat :=
  let v7798 : Index := Scalar.indexCast v7797
  let c0_5823 : Index := 0#32
  let c0_5824 : Index := 0#32
  ![v7798.toNat, 0, 0]

def k0_chk1388 (v7797 : BitVec 32) : Prop :=
  (∀ a, (k0_off1388 v7797) a + S1x1x256.size a ≤ S4001x1x256.size a)
theorem k0_off1388_inb : ∀ (v7797 : BitVec 32) (k0_hw1388 : k0_chk1388 v7797), ∀ a, (k0_off1388 v7797) a + S1x1x256.size a ≤ S4001x1x256.size a := fun v7797 k0_hw1388 => k0_hw1388

def k0_off1389 (v7801 : BitVec 32) : Fin 3 → Nat :=
  let v7802 : Index := Scalar.indexCast v7801
  let c0_5827 : Index := 0#32
  let c0_5828 : Index := 0#32
  ![v7802.toNat, 0, 0]

def k0_chk1389 (v7801 : BitVec 32) : Prop :=
  (∀ a, (k0_off1389 v7801) a + S1x1x256.size a ≤ S4001x1x256.size a)
theorem k0_off1389_inb : ∀ (v7801 : BitVec 32) (k0_hw1389 : k0_chk1389 v7801), ∀ a, (k0_off1389 v7801) a + S1x1x256.size a ≤ S4001x1x256.size a := fun v7801 k0_hw1389 => k0_hw1389

def k0_off1390 (v7805 : BitVec 32) : Fin 3 → Nat :=
  let v7806 : Index := Scalar.indexCast v7805
  let c0_5831 : Index := 0#32
  let c0_5832 : Index := 0#32
  ![v7806.toNat, 0, 0]

def k0_chk1390 (v7805 : BitVec 32) : Prop :=
  (∀ a, (k0_off1390 v7805) a + S1x1x256.size a ≤ S4001x1x256.size a)
theorem k0_off1390_inb : ∀ (v7805 : BitVec 32) (k0_hw1390 : k0_chk1390 v7805), ∀ a, (k0_off1390 v7805) a + S1x1x256.size a ≤ S4001x1x256.size a := fun v7805 k0_hw1390 => k0_hw1390

def k0_off1391 (v7809 : BitVec 32) : Fin 3 → Nat :=
  let v7810 : Index := Scalar.indexCast v7809
  let c0_5835 : Index := 0#32
  let c0_5836 : Index := 0#32
  ![v7810.toNat, 0, 0]

def k0_chk1391 (v7809 : BitVec 32) : Prop :=
  (∀ a, (k0_off1391 v7809) a + S1x1x256.size a ≤ S4001x1x256.size a)
theorem k0_off1391_inb : ∀ (v7809 : BitVec 32) (k0_hw1391 : k0_chk1391 v7809), ∀ a, (k0_off1391 v7809) a + S1x1x256.size a ≤ S4001x1x256.size a := fun v7809 k0_hw1391 => k0_hw1391

def k0_off1392 (v7813 : BitVec 32) : Fin 3 → Nat :=
  let v7814 : Index := Scalar.indexCast v7813
  let c0_5839 : Index := 0#32
  let c0_5840 : Index := 0#32
  ![v7814.toNat, 0, 0]

def k0_chk1392 (v7813 : BitVec 32) : Prop :=
  (∀ a, (k0_off1392 v7813) a + S1x1x256.size a ≤ S4001x1x256.size a)
theorem k0_off1392_inb : ∀ (v7813 : BitVec 32) (k0_hw1392 : k0_chk1392 v7813), ∀ a, (k0_off1392 v7813) a + S1x1x256.size a ≤ S4001x1x256.size a := fun v7813 k0_hw1392 => k0_hw1392

def k0_off1393 (v7817 : BitVec 32) : Fin 3 → Nat :=
  let v7818 : Index := Scalar.indexCast v7817
  let c0_5843 : Index := 0#32
  let c0_5844 : Index := 0#32
  ![v7818.toNat, 0, 0]

def k0_chk1393 (v7817 : BitVec 32) : Prop :=
  (∀ a, (k0_off1393 v7817) a + S1x1x256.size a ≤ S4001x1x256.size a)
theorem k0_off1393_inb : ∀ (v7817 : BitVec 32) (k0_hw1393 : k0_chk1393 v7817), ∀ a, (k0_off1393 v7817) a + S1x1x256.size a ≤ S4001x1x256.size a := fun v7817 k0_hw1393 => k0_hw1393

def k0_off1394 (v7821 : BitVec 32) : Fin 3 → Nat :=
  let v7822 : Index := Scalar.indexCast v7821
  let c0_5847 : Index := 0#32
  let c0_5848 : Index := 0#32
  ![v7822.toNat, 0, 0]

def k0_chk1394 (v7821 : BitVec 32) : Prop :=
  (∀ a, (k0_off1394 v7821) a + S1x1x256.size a ≤ S4001x1x256.size a)
theorem k0_off1394_inb : ∀ (v7821 : BitVec 32) (k0_hw1394 : k0_chk1394 v7821), ∀ a, (k0_off1394 v7821) a + S1x1x256.size a ≤ S4001x1x256.size a := fun v7821 k0_hw1394 => k0_hw1394

def k0_off1395 (v7825 : BitVec 32) : Fin 3 → Nat :=
  let v7826 : Index := Scalar.indexCast v7825
  let c0_5851 : Index := 0#32
  let c0_5852 : Index := 0#32
  ![v7826.toNat, 0, 0]

def k0_chk1395 (v7825 : BitVec 32) : Prop :=
  (∀ a, (k0_off1395 v7825) a + S1x1x256.size a ≤ S4001x1x256.size a)
theorem k0_off1395_inb : ∀ (v7825 : BitVec 32) (k0_hw1395 : k0_chk1395 v7825), ∀ a, (k0_off1395 v7825) a + S1x1x256.size a ≤ S4001x1x256.size a := fun v7825 k0_hw1395 => k0_hw1395

def k0_off1396 (v7829 : BitVec 32) : Fin 3 → Nat :=
  let v7830 : Index := Scalar.indexCast v7829
  let c0_5855 : Index := 0#32
  let c0_5856 : Index := 0#32
  ![v7830.toNat, 0, 0]

def k0_chk1396 (v7829 : BitVec 32) : Prop :=
  (∀ a, (k0_off1396 v7829) a + S1x1x256.size a ≤ S4001x1x256.size a)
theorem k0_off1396_inb : ∀ (v7829 : BitVec 32) (k0_hw1396 : k0_chk1396 v7829), ∀ a, (k0_off1396 v7829) a + S1x1x256.size a ≤ S4001x1x256.size a := fun v7829 k0_hw1396 => k0_hw1396

def k0_off1397 (v7833 : BitVec 32) : Fin 3 → Nat :=
  let v7834 : Index := Scalar.indexCast v7833
  let c0_5859 : Index := 0#32
  let c0_5860 : Index := 0#32
  ![v7834.toNat, 0, 0]

def k0_chk1397 (v7833 : BitVec 32) : Prop :=
  (∀ a, (k0_off1397 v7833) a + S1x1x256.size a ≤ S4001x1x256.size a)
theorem k0_off1397_inb : ∀ (v7833 : BitVec 32) (k0_hw1397 : k0_chk1397 v7833), ∀ a, (k0_off1397 v7833) a + S1x1x256.size a ≤ S4001x1x256.size a := fun v7833 k0_hw1397 => k0_hw1397

def k0_off1398 (v7837 : BitVec 32) : Fin 3 → Nat :=
  let v7838 : Index := Scalar.indexCast v7837
  let c0_5863 : Index := 0#32
  let c0_5864 : Index := 0#32
  ![v7838.toNat, 0, 0]

def k0_chk1398 (v7837 : BitVec 32) : Prop :=
  (∀ a, (k0_off1398 v7837) a + S1x1x256.size a ≤ S4001x1x256.size a)
theorem k0_off1398_inb : ∀ (v7837 : BitVec 32) (k0_hw1398 : k0_chk1398 v7837), ∀ a, (k0_off1398 v7837) a + S1x1x256.size a ≤ S4001x1x256.size a := fun v7837 k0_hw1398 => k0_hw1398

def k0_off1399 (v7841 : BitVec 32) : Fin 3 → Nat :=
  let v7842 : Index := Scalar.indexCast v7841
  let c0_5867 : Index := 0#32
  let c0_5868 : Index := 0#32
  ![v7842.toNat, 0, 0]

def k0_chk1399 (v7841 : BitVec 32) : Prop :=
  (∀ a, (k0_off1399 v7841) a + S1x1x256.size a ≤ S4001x1x256.size a)
theorem k0_off1399_inb : ∀ (v7841 : BitVec 32) (k0_hw1399 : k0_chk1399 v7841), ∀ a, (k0_off1399 v7841) a + S1x1x256.size a ≤ S4001x1x256.size a := fun v7841 k0_hw1399 => k0_hw1399

def k0_off1400 (v7845 : BitVec 32) : Fin 3 → Nat :=
  let v7846 : Index := Scalar.indexCast v7845
  let c0_5871 : Index := 0#32
  let c0_5872 : Index := 0#32
  ![v7846.toNat, 0, 0]

def k0_chk1400 (v7845 : BitVec 32) : Prop :=
  (∀ a, (k0_off1400 v7845) a + S1x1x256.size a ≤ S4001x1x256.size a)
theorem k0_off1400_inb : ∀ (v7845 : BitVec 32) (k0_hw1400 : k0_chk1400 v7845), ∀ a, (k0_off1400 v7845) a + S1x1x256.size a ≤ S4001x1x256.size a := fun v7845 k0_hw1400 => k0_hw1400

def k0_off1401 (v7849 : BitVec 32) : Fin 3 → Nat :=
  let v7850 : Index := Scalar.indexCast v7849
  let c0_5875 : Index := 0#32
  let c0_5876 : Index := 0#32
  ![v7850.toNat, 0, 0]

def k0_chk1401 (v7849 : BitVec 32) : Prop :=
  (∀ a, (k0_off1401 v7849) a + S1x1x256.size a ≤ S4001x1x256.size a)
theorem k0_off1401_inb : ∀ (v7849 : BitVec 32) (k0_hw1401 : k0_chk1401 v7849), ∀ a, (k0_off1401 v7849) a + S1x1x256.size a ≤ S4001x1x256.size a := fun v7849 k0_hw1401 => k0_hw1401

def k0_off1402 (v7853 : BitVec 32) : Fin 3 → Nat :=
  let v7854 : Index := Scalar.indexCast v7853
  let c0_5879 : Index := 0#32
  let c0_5880 : Index := 0#32
  ![v7854.toNat, 0, 0]

def k0_chk1402 (v7853 : BitVec 32) : Prop :=
  (∀ a, (k0_off1402 v7853) a + S1x1x256.size a ≤ S4001x1x256.size a)
theorem k0_off1402_inb : ∀ (v7853 : BitVec 32) (k0_hw1402 : k0_chk1402 v7853), ∀ a, (k0_off1402 v7853) a + S1x1x256.size a ≤ S4001x1x256.size a := fun v7853 k0_hw1402 => k0_hw1402

def k0_off1403 (v7857 : BitVec 32) : Fin 3 → Nat :=
  let v7858 : Index := Scalar.indexCast v7857
  let c0_5883 : Index := 0#32
  let c0_5884 : Index := 0#32
  ![v7858.toNat, 0, 0]

def k0_chk1403 (v7857 : BitVec 32) : Prop :=
  (∀ a, (k0_off1403 v7857) a + S1x1x256.size a ≤ S4001x1x256.size a)
theorem k0_off1403_inb : ∀ (v7857 : BitVec 32) (k0_hw1403 : k0_chk1403 v7857), ∀ a, (k0_off1403 v7857) a + S1x1x256.size a ≤ S4001x1x256.size a := fun v7857 k0_hw1403 => k0_hw1403

def k0_off1404 (v7861 : BitVec 32) : Fin 3 → Nat :=
  let v7862 : Index := Scalar.indexCast v7861
  let c0_5887 : Index := 0#32
  let c0_5888 : Index := 0#32
  ![v7862.toNat, 0, 0]

def k0_chk1404 (v7861 : BitVec 32) : Prop :=
  (∀ a, (k0_off1404 v7861) a + S1x1x256.size a ≤ S4001x1x256.size a)
theorem k0_off1404_inb : ∀ (v7861 : BitVec 32) (k0_hw1404 : k0_chk1404 v7861), ∀ a, (k0_off1404 v7861) a + S1x1x256.size a ≤ S4001x1x256.size a := fun v7861 k0_hw1404 => k0_hw1404

def k0_off1405 (v7865 : BitVec 32) : Fin 3 → Nat :=
  let v7866 : Index := Scalar.indexCast v7865
  let c0_5891 : Index := 0#32
  let c0_5892 : Index := 0#32
  ![v7866.toNat, 0, 0]

def k0_chk1405 (v7865 : BitVec 32) : Prop :=
  (∀ a, (k0_off1405 v7865) a + S1x1x256.size a ≤ S4001x1x256.size a)
theorem k0_off1405_inb : ∀ (v7865 : BitVec 32) (k0_hw1405 : k0_chk1405 v7865), ∀ a, (k0_off1405 v7865) a + S1x1x256.size a ≤ S4001x1x256.size a := fun v7865 k0_hw1405 => k0_hw1405

def k0_off1406 (v7869 : BitVec 32) : Fin 3 → Nat :=
  let v7870 : Index := Scalar.indexCast v7869
  let c0_5895 : Index := 0#32
  let c0_5896 : Index := 0#32
  ![v7870.toNat, 0, 0]

def k0_chk1406 (v7869 : BitVec 32) : Prop :=
  (∀ a, (k0_off1406 v7869) a + S1x1x256.size a ≤ S4001x1x256.size a)
theorem k0_off1406_inb : ∀ (v7869 : BitVec 32) (k0_hw1406 : k0_chk1406 v7869), ∀ a, (k0_off1406 v7869) a + S1x1x256.size a ≤ S4001x1x256.size a := fun v7869 k0_hw1406 => k0_hw1406

def k0_off1407 (v7873 : BitVec 32) : Fin 3 → Nat :=
  let v7874 : Index := Scalar.indexCast v7873
  let c0_5899 : Index := 0#32
  let c0_5900 : Index := 0#32
  ![v7874.toNat, 0, 0]

def k0_chk1407 (v7873 : BitVec 32) : Prop :=
  (∀ a, (k0_off1407 v7873) a + S1x1x256.size a ≤ S4001x1x256.size a)
theorem k0_off1407_inb : ∀ (v7873 : BitVec 32) (k0_hw1407 : k0_chk1407 v7873), ∀ a, (k0_off1407 v7873) a + S1x1x256.size a ≤ S4001x1x256.size a := fun v7873 k0_hw1407 => k0_hw1407

def k0_off1408 (v7877 : BitVec 32) : Fin 3 → Nat :=
  let v7878 : Index := Scalar.indexCast v7877
  let c0_5903 : Index := 0#32
  let c0_5904 : Index := 0#32
  ![v7878.toNat, 0, 0]

def k0_chk1408 (v7877 : BitVec 32) : Prop :=
  (∀ a, (k0_off1408 v7877) a + S1x1x256.size a ≤ S4001x1x256.size a)
theorem k0_off1408_inb : ∀ (v7877 : BitVec 32) (k0_hw1408 : k0_chk1408 v7877), ∀ a, (k0_off1408 v7877) a + S1x1x256.size a ≤ S4001x1x256.size a := fun v7877 k0_hw1408 => k0_hw1408

def k0_off1409 (v7881 : BitVec 32) : Fin 3 → Nat :=
  let v7882 : Index := Scalar.indexCast v7881
  let c0_5907 : Index := 0#32
  let c0_5908 : Index := 0#32
  ![v7882.toNat, 0, 0]

def k0_chk1409 (v7881 : BitVec 32) : Prop :=
  (∀ a, (k0_off1409 v7881) a + S1x1x256.size a ≤ S4001x1x256.size a)
theorem k0_off1409_inb : ∀ (v7881 : BitVec 32) (k0_hw1409 : k0_chk1409 v7881), ∀ a, (k0_off1409 v7881) a + S1x1x256.size a ≤ S4001x1x256.size a := fun v7881 k0_hw1409 => k0_hw1409

def k0_off1410 (v7885 : BitVec 32) : Fin 3 → Nat :=
  let v7886 : Index := Scalar.indexCast v7885
  let c0_5911 : Index := 0#32
  let c0_5912 : Index := 0#32
  ![v7886.toNat, 0, 0]

def k0_chk1410 (v7885 : BitVec 32) : Prop :=
  (∀ a, (k0_off1410 v7885) a + S1x1x256.size a ≤ S4001x1x256.size a)
theorem k0_off1410_inb : ∀ (v7885 : BitVec 32) (k0_hw1410 : k0_chk1410 v7885), ∀ a, (k0_off1410 v7885) a + S1x1x256.size a ≤ S4001x1x256.size a := fun v7885 k0_hw1410 => k0_hw1410

def k0_off1411 (v7889 : BitVec 32) : Fin 3 → Nat :=
  let v7890 : Index := Scalar.indexCast v7889
  let c0_5915 : Index := 0#32
  let c0_5916 : Index := 0#32
  ![v7890.toNat, 0, 0]

def k0_chk1411 (v7889 : BitVec 32) : Prop :=
  (∀ a, (k0_off1411 v7889) a + S1x1x256.size a ≤ S4001x1x256.size a)
theorem k0_off1411_inb : ∀ (v7889 : BitVec 32) (k0_hw1411 : k0_chk1411 v7889), ∀ a, (k0_off1411 v7889) a + S1x1x256.size a ≤ S4001x1x256.size a := fun v7889 k0_hw1411 => k0_hw1411

def k0_off1412 (v7893 : BitVec 32) : Fin 3 → Nat :=
  let v7894 : Index := Scalar.indexCast v7893
  let c0_5919 : Index := 0#32
  let c0_5920 : Index := 0#32
  ![v7894.toNat, 0, 0]

def k0_chk1412 (v7893 : BitVec 32) : Prop :=
  (∀ a, (k0_off1412 v7893) a + S1x1x256.size a ≤ S4001x1x256.size a)
theorem k0_off1412_inb : ∀ (v7893 : BitVec 32) (k0_hw1412 : k0_chk1412 v7893), ∀ a, (k0_off1412 v7893) a + S1x1x256.size a ≤ S4001x1x256.size a := fun v7893 k0_hw1412 => k0_hw1412

def k0_off1413 (v7897 : BitVec 32) : Fin 3 → Nat :=
  let v7898 : Index := Scalar.indexCast v7897
  let c0_5923 : Index := 0#32
  let c0_5924 : Index := 0#32
  ![v7898.toNat, 0, 0]

def k0_chk1413 (v7897 : BitVec 32) : Prop :=
  (∀ a, (k0_off1413 v7897) a + S1x1x256.size a ≤ S4001x1x256.size a)
theorem k0_off1413_inb : ∀ (v7897 : BitVec 32) (k0_hw1413 : k0_chk1413 v7897), ∀ a, (k0_off1413 v7897) a + S1x1x256.size a ≤ S4001x1x256.size a := fun v7897 k0_hw1413 => k0_hw1413

def k0_off1414 (v7901 : BitVec 32) : Fin 3 → Nat :=
  let v7902 : Index := Scalar.indexCast v7901
  let c0_5927 : Index := 0#32
  let c0_5928 : Index := 0#32
  ![v7902.toNat, 0, 0]

def k0_chk1414 (v7901 : BitVec 32) : Prop :=
  (∀ a, (k0_off1414 v7901) a + S1x1x256.size a ≤ S4001x1x256.size a)
theorem k0_off1414_inb : ∀ (v7901 : BitVec 32) (k0_hw1414 : k0_chk1414 v7901), ∀ a, (k0_off1414 v7901) a + S1x1x256.size a ≤ S4001x1x256.size a := fun v7901 k0_hw1414 => k0_hw1414

def k0_off1415 (v7905 : BitVec 32) : Fin 3 → Nat :=
  let v7906 : Index := Scalar.indexCast v7905
  let c0_5931 : Index := 0#32
  let c0_5932 : Index := 0#32
  ![v7906.toNat, 0, 0]

def k0_chk1415 (v7905 : BitVec 32) : Prop :=
  (∀ a, (k0_off1415 v7905) a + S1x1x256.size a ≤ S4001x1x256.size a)
theorem k0_off1415_inb : ∀ (v7905 : BitVec 32) (k0_hw1415 : k0_chk1415 v7905), ∀ a, (k0_off1415 v7905) a + S1x1x256.size a ≤ S4001x1x256.size a := fun v7905 k0_hw1415 => k0_hw1415

def k0_off1416 (v7909 : BitVec 32) : Fin 3 → Nat :=
  let v7910 : Index := Scalar.indexCast v7909
  let c0_5935 : Index := 0#32
  let c0_5936 : Index := 0#32
  ![v7910.toNat, 0, 0]

def k0_chk1416 (v7909 : BitVec 32) : Prop :=
  (∀ a, (k0_off1416 v7909) a + S1x1x256.size a ≤ S4001x1x256.size a)
theorem k0_off1416_inb : ∀ (v7909 : BitVec 32) (k0_hw1416 : k0_chk1416 v7909), ∀ a, (k0_off1416 v7909) a + S1x1x256.size a ≤ S4001x1x256.size a := fun v7909 k0_hw1416 => k0_hw1416

def k0_off1417 (v7913 : BitVec 32) : Fin 3 → Nat :=
  let v7914 : Index := Scalar.indexCast v7913
  let c0_5939 : Index := 0#32
  let c0_5940 : Index := 0#32
  ![v7914.toNat, 0, 0]

def k0_chk1417 (v7913 : BitVec 32) : Prop :=
  (∀ a, (k0_off1417 v7913) a + S1x1x256.size a ≤ S4001x1x256.size a)
theorem k0_off1417_inb : ∀ (v7913 : BitVec 32) (k0_hw1417 : k0_chk1417 v7913), ∀ a, (k0_off1417 v7913) a + S1x1x256.size a ≤ S4001x1x256.size a := fun v7913 k0_hw1417 => k0_hw1417

def k0_off1418 (v7917 : BitVec 32) : Fin 3 → Nat :=
  let v7918 : Index := Scalar.indexCast v7917
  let c0_5943 : Index := 0#32
  let c0_5944 : Index := 0#32
  ![v7918.toNat, 0, 0]

def k0_chk1418 (v7917 : BitVec 32) : Prop :=
  (∀ a, (k0_off1418 v7917) a + S1x1x256.size a ≤ S4001x1x256.size a)
theorem k0_off1418_inb : ∀ (v7917 : BitVec 32) (k0_hw1418 : k0_chk1418 v7917), ∀ a, (k0_off1418 v7917) a + S1x1x256.size a ≤ S4001x1x256.size a := fun v7917 k0_hw1418 => k0_hw1418

def k0_off1419 (v7921 : BitVec 32) : Fin 3 → Nat :=
  let v7922 : Index := Scalar.indexCast v7921
  let c0_5947 : Index := 0#32
  let c0_5948 : Index := 0#32
  ![v7922.toNat, 0, 0]

def k0_chk1419 (v7921 : BitVec 32) : Prop :=
  (∀ a, (k0_off1419 v7921) a + S1x1x256.size a ≤ S4001x1x256.size a)
theorem k0_off1419_inb : ∀ (v7921 : BitVec 32) (k0_hw1419 : k0_chk1419 v7921), ∀ a, (k0_off1419 v7921) a + S1x1x256.size a ≤ S4001x1x256.size a := fun v7921 k0_hw1419 => k0_hw1419

def k0_off1420 (v7925 : BitVec 32) : Fin 3 → Nat :=
  let v7926 : Index := Scalar.indexCast v7925
  let c0_5951 : Index := 0#32
  let c0_5952 : Index := 0#32
  ![v7926.toNat, 0, 0]

def k0_chk1420 (v7925 : BitVec 32) : Prop :=
  (∀ a, (k0_off1420 v7925) a + S1x1x256.size a ≤ S4001x1x256.size a)
theorem k0_off1420_inb : ∀ (v7925 : BitVec 32) (k0_hw1420 : k0_chk1420 v7925), ∀ a, (k0_off1420 v7925) a + S1x1x256.size a ≤ S4001x1x256.size a := fun v7925 k0_hw1420 => k0_hw1420

def k0_off1421 (v7968 : BitVec 32) : Fin 3 → Nat :=
  let v7969 : Index := Scalar.indexCast v7968
  let c0_5955 : Index := 0#32
  let c0_5956 : Index := 0#32
  ![v7969.toNat, 0, 0]

def k0_chk1421 (v7968 : BitVec 32) : Prop :=
  (∀ a, (k0_off1421 v7968) a + S1x1x256.size a ≤ S4001x1x256.size a)
theorem k0_off1421_inb : ∀ (v7968 : BitVec 32) (k0_hw1421 : k0_chk1421 v7968), ∀ a, (k0_off1421 v7968) a + S1x1x256.size a ≤ S4001x1x256.size a := fun v7968 k0_hw1421 => k0_hw1421

def k0_off1422 (v7972 : BitVec 32) : Fin 3 → Nat :=
  let v7973 : Index := Scalar.indexCast v7972
  let c0_5959 : Index := 0#32
  let c0_5960 : Index := 0#32
  ![v7973.toNat, 0, 0]

def k0_chk1422 (v7972 : BitVec 32) : Prop :=
  (∀ a, (k0_off1422 v7972) a + S1x1x256.size a ≤ S4001x1x256.size a)
theorem k0_off1422_inb : ∀ (v7972 : BitVec 32) (k0_hw1422 : k0_chk1422 v7972), ∀ a, (k0_off1422 v7972) a + S1x1x256.size a ≤ S4001x1x256.size a := fun v7972 k0_hw1422 => k0_hw1422

def k0_off1423 (v7976 : BitVec 32) : Fin 3 → Nat :=
  let v7977 : Index := Scalar.indexCast v7976
  let c0_5963 : Index := 0#32
  let c0_5964 : Index := 0#32
  ![v7977.toNat, 0, 0]

def k0_chk1423 (v7976 : BitVec 32) : Prop :=
  (∀ a, (k0_off1423 v7976) a + S1x1x256.size a ≤ S4001x1x256.size a)
theorem k0_off1423_inb : ∀ (v7976 : BitVec 32) (k0_hw1423 : k0_chk1423 v7976), ∀ a, (k0_off1423 v7976) a + S1x1x256.size a ≤ S4001x1x256.size a := fun v7976 k0_hw1423 => k0_hw1423

def k0_off1424 (v7980 : BitVec 32) : Fin 3 → Nat :=
  let v7981 : Index := Scalar.indexCast v7980
  let c0_5967 : Index := 0#32
  let c0_5968 : Index := 0#32
  ![v7981.toNat, 0, 0]

def k0_chk1424 (v7980 : BitVec 32) : Prop :=
  (∀ a, (k0_off1424 v7980) a + S1x1x256.size a ≤ S4001x1x256.size a)
theorem k0_off1424_inb : ∀ (v7980 : BitVec 32) (k0_hw1424 : k0_chk1424 v7980), ∀ a, (k0_off1424 v7980) a + S1x1x256.size a ≤ S4001x1x256.size a := fun v7980 k0_hw1424 => k0_hw1424

def k0_off1425 (v7984 : BitVec 32) : Fin 3 → Nat :=
  let v7985 : Index := Scalar.indexCast v7984
  let c0_5971 : Index := 0#32
  let c0_5972 : Index := 0#32
  ![v7985.toNat, 0, 0]

def k0_chk1425 (v7984 : BitVec 32) : Prop :=
  (∀ a, (k0_off1425 v7984) a + S1x1x256.size a ≤ S4001x1x256.size a)
theorem k0_off1425_inb : ∀ (v7984 : BitVec 32) (k0_hw1425 : k0_chk1425 v7984), ∀ a, (k0_off1425 v7984) a + S1x1x256.size a ≤ S4001x1x256.size a := fun v7984 k0_hw1425 => k0_hw1425

def k0_off1426 (v7988 : BitVec 32) : Fin 3 → Nat :=
  let v7989 : Index := Scalar.indexCast v7988
  let c0_5975 : Index := 0#32
  let c0_5976 : Index := 0#32
  ![v7989.toNat, 0, 0]

def k0_chk1426 (v7988 : BitVec 32) : Prop :=
  (∀ a, (k0_off1426 v7988) a + S1x1x256.size a ≤ S4001x1x256.size a)
theorem k0_off1426_inb : ∀ (v7988 : BitVec 32) (k0_hw1426 : k0_chk1426 v7988), ∀ a, (k0_off1426 v7988) a + S1x1x256.size a ≤ S4001x1x256.size a := fun v7988 k0_hw1426 => k0_hw1426

def k0_off1427 (v7992 : BitVec 32) : Fin 3 → Nat :=
  let v7993 : Index := Scalar.indexCast v7992
  let c0_5979 : Index := 0#32
  let c0_5980 : Index := 0#32
  ![v7993.toNat, 0, 0]

def k0_chk1427 (v7992 : BitVec 32) : Prop :=
  (∀ a, (k0_off1427 v7992) a + S1x1x256.size a ≤ S4001x1x256.size a)
theorem k0_off1427_inb : ∀ (v7992 : BitVec 32) (k0_hw1427 : k0_chk1427 v7992), ∀ a, (k0_off1427 v7992) a + S1x1x256.size a ≤ S4001x1x256.size a := fun v7992 k0_hw1427 => k0_hw1427

def k0_off1428 (v7996 : BitVec 32) : Fin 3 → Nat :=
  let v7997 : Index := Scalar.indexCast v7996
  let c0_5983 : Index := 0#32
  let c0_5984 : Index := 0#32
  ![v7997.toNat, 0, 0]

def k0_chk1428 (v7996 : BitVec 32) : Prop :=
  (∀ a, (k0_off1428 v7996) a + S1x1x256.size a ≤ S4001x1x256.size a)
theorem k0_off1428_inb : ∀ (v7996 : BitVec 32) (k0_hw1428 : k0_chk1428 v7996), ∀ a, (k0_off1428 v7996) a + S1x1x256.size a ≤ S4001x1x256.size a := fun v7996 k0_hw1428 => k0_hw1428

def k0_off1429 (v8000 : BitVec 32) : Fin 3 → Nat :=
  let v8001 : Index := Scalar.indexCast v8000
  let c0_5987 : Index := 0#32
  let c0_5988 : Index := 0#32
  ![v8001.toNat, 0, 0]

def k0_chk1429 (v8000 : BitVec 32) : Prop :=
  (∀ a, (k0_off1429 v8000) a + S1x1x256.size a ≤ S4001x1x256.size a)
theorem k0_off1429_inb : ∀ (v8000 : BitVec 32) (k0_hw1429 : k0_chk1429 v8000), ∀ a, (k0_off1429 v8000) a + S1x1x256.size a ≤ S4001x1x256.size a := fun v8000 k0_hw1429 => k0_hw1429

def k0_off1430 (v8004 : BitVec 32) : Fin 3 → Nat :=
  let v8005 : Index := Scalar.indexCast v8004
  let c0_5991 : Index := 0#32
  let c0_5992 : Index := 0#32
  ![v8005.toNat, 0, 0]

def k0_chk1430 (v8004 : BitVec 32) : Prop :=
  (∀ a, (k0_off1430 v8004) a + S1x1x256.size a ≤ S4001x1x256.size a)
theorem k0_off1430_inb : ∀ (v8004 : BitVec 32) (k0_hw1430 : k0_chk1430 v8004), ∀ a, (k0_off1430 v8004) a + S1x1x256.size a ≤ S4001x1x256.size a := fun v8004 k0_hw1430 => k0_hw1430

def k0_off1431 (v8008 : BitVec 32) : Fin 3 → Nat :=
  let v8009 : Index := Scalar.indexCast v8008
  let c0_5995 : Index := 0#32
  let c0_5996 : Index := 0#32
  ![v8009.toNat, 0, 0]

def k0_chk1431 (v8008 : BitVec 32) : Prop :=
  (∀ a, (k0_off1431 v8008) a + S1x1x256.size a ≤ S4001x1x256.size a)
theorem k0_off1431_inb : ∀ (v8008 : BitVec 32) (k0_hw1431 : k0_chk1431 v8008), ∀ a, (k0_off1431 v8008) a + S1x1x256.size a ≤ S4001x1x256.size a := fun v8008 k0_hw1431 => k0_hw1431

def k0_off1432 (v8012 : BitVec 32) : Fin 3 → Nat :=
  let v8013 : Index := Scalar.indexCast v8012
  let c0_5999 : Index := 0#32
  let c0_6000 : Index := 0#32
  ![v8013.toNat, 0, 0]

def k0_chk1432 (v8012 : BitVec 32) : Prop :=
  (∀ a, (k0_off1432 v8012) a + S1x1x256.size a ≤ S4001x1x256.size a)
theorem k0_off1432_inb : ∀ (v8012 : BitVec 32) (k0_hw1432 : k0_chk1432 v8012), ∀ a, (k0_off1432 v8012) a + S1x1x256.size a ≤ S4001x1x256.size a := fun v8012 k0_hw1432 => k0_hw1432

def k0_off1433 (v8016 : BitVec 32) : Fin 3 → Nat :=
  let v8017 : Index := Scalar.indexCast v8016
  let c0_6003 : Index := 0#32
  let c0_6004 : Index := 0#32
  ![v8017.toNat, 0, 0]

def k0_chk1433 (v8016 : BitVec 32) : Prop :=
  (∀ a, (k0_off1433 v8016) a + S1x1x256.size a ≤ S4001x1x256.size a)
theorem k0_off1433_inb : ∀ (v8016 : BitVec 32) (k0_hw1433 : k0_chk1433 v8016), ∀ a, (k0_off1433 v8016) a + S1x1x256.size a ≤ S4001x1x256.size a := fun v8016 k0_hw1433 => k0_hw1433

def k0_off1434 (v8020 : BitVec 32) : Fin 3 → Nat :=
  let v8021 : Index := Scalar.indexCast v8020
  let c0_6007 : Index := 0#32
  let c0_6008 : Index := 0#32
  ![v8021.toNat, 0, 0]

def k0_chk1434 (v8020 : BitVec 32) : Prop :=
  (∀ a, (k0_off1434 v8020) a + S1x1x256.size a ≤ S4001x1x256.size a)
theorem k0_off1434_inb : ∀ (v8020 : BitVec 32) (k0_hw1434 : k0_chk1434 v8020), ∀ a, (k0_off1434 v8020) a + S1x1x256.size a ≤ S4001x1x256.size a := fun v8020 k0_hw1434 => k0_hw1434

def k0_off1435 (v8024 : BitVec 32) : Fin 3 → Nat :=
  let v8025 : Index := Scalar.indexCast v8024
  let c0_6011 : Index := 0#32
  let c0_6012 : Index := 0#32
  ![v8025.toNat, 0, 0]

def k0_chk1435 (v8024 : BitVec 32) : Prop :=
  (∀ a, (k0_off1435 v8024) a + S1x1x256.size a ≤ S4001x1x256.size a)
theorem k0_off1435_inb : ∀ (v8024 : BitVec 32) (k0_hw1435 : k0_chk1435 v8024), ∀ a, (k0_off1435 v8024) a + S1x1x256.size a ≤ S4001x1x256.size a := fun v8024 k0_hw1435 => k0_hw1435

def k0_off1436 (v8028 : BitVec 32) : Fin 3 → Nat :=
  let v8029 : Index := Scalar.indexCast v8028
  let c0_6015 : Index := 0#32
  let c0_6016 : Index := 0#32
  ![v8029.toNat, 0, 0]

def k0_chk1436 (v8028 : BitVec 32) : Prop :=
  (∀ a, (k0_off1436 v8028) a + S1x1x256.size a ≤ S4001x1x256.size a)
theorem k0_off1436_inb : ∀ (v8028 : BitVec 32) (k0_hw1436 : k0_chk1436 v8028), ∀ a, (k0_off1436 v8028) a + S1x1x256.size a ≤ S4001x1x256.size a := fun v8028 k0_hw1436 => k0_hw1436

def k0_off1437 (v8032 : BitVec 32) : Fin 3 → Nat :=
  let v8033 : Index := Scalar.indexCast v8032
  let c0_6019 : Index := 0#32
  let c0_6020 : Index := 0#32
  ![v8033.toNat, 0, 0]

def k0_chk1437 (v8032 : BitVec 32) : Prop :=
  (∀ a, (k0_off1437 v8032) a + S1x1x256.size a ≤ S4001x1x256.size a)
theorem k0_off1437_inb : ∀ (v8032 : BitVec 32) (k0_hw1437 : k0_chk1437 v8032), ∀ a, (k0_off1437 v8032) a + S1x1x256.size a ≤ S4001x1x256.size a := fun v8032 k0_hw1437 => k0_hw1437

def k0_off1438 (v8036 : BitVec 32) : Fin 3 → Nat :=
  let v8037 : Index := Scalar.indexCast v8036
  let c0_6023 : Index := 0#32
  let c0_6024 : Index := 0#32
  ![v8037.toNat, 0, 0]

def k0_chk1438 (v8036 : BitVec 32) : Prop :=
  (∀ a, (k0_off1438 v8036) a + S1x1x256.size a ≤ S4001x1x256.size a)
theorem k0_off1438_inb : ∀ (v8036 : BitVec 32) (k0_hw1438 : k0_chk1438 v8036), ∀ a, (k0_off1438 v8036) a + S1x1x256.size a ≤ S4001x1x256.size a := fun v8036 k0_hw1438 => k0_hw1438

def k0_off1439 (v8040 : BitVec 32) : Fin 3 → Nat :=
  let v8041 : Index := Scalar.indexCast v8040
  let c0_6027 : Index := 0#32
  let c0_6028 : Index := 0#32
  ![v8041.toNat, 0, 0]

def k0_chk1439 (v8040 : BitVec 32) : Prop :=
  (∀ a, (k0_off1439 v8040) a + S1x1x256.size a ≤ S4001x1x256.size a)
theorem k0_off1439_inb : ∀ (v8040 : BitVec 32) (k0_hw1439 : k0_chk1439 v8040), ∀ a, (k0_off1439 v8040) a + S1x1x256.size a ≤ S4001x1x256.size a := fun v8040 k0_hw1439 => k0_hw1439

def k0_off1440 (v8044 : BitVec 32) : Fin 3 → Nat :=
  let v8045 : Index := Scalar.indexCast v8044
  let c0_6031 : Index := 0#32
  let c0_6032 : Index := 0#32
  ![v8045.toNat, 0, 0]

def k0_chk1440 (v8044 : BitVec 32) : Prop :=
  (∀ a, (k0_off1440 v8044) a + S1x1x256.size a ≤ S4001x1x256.size a)
theorem k0_off1440_inb : ∀ (v8044 : BitVec 32) (k0_hw1440 : k0_chk1440 v8044), ∀ a, (k0_off1440 v8044) a + S1x1x256.size a ≤ S4001x1x256.size a := fun v8044 k0_hw1440 => k0_hw1440

abbrev stage0_0 : Fin 1 → Memref sig .tc .vmem S24x25 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S500x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S500 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S23x500 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S23x500 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S23x500 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .smem S_ .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== KernelIdeal.lean ====
variable {F : FTy → Type} [FloatOps F] [Named F]
def κ : String → Option EReal := fun
  | "inv_v2" => some ((500⁻¹ : ℝ) : EReal)
  | _ => none
-- ==== ReferenceIdeal.lean ====
abbrev S24x4000 : Shape := ⟨2, ![24, 4000]⟩
abbrev S24x25 : Shape := ⟨2, ![24, 25]⟩
abbrev S4001x256 : Shape := ⟨2, ![4001, 256]⟩
abbrev S768x256 : Shape := ⟨2, ![768, 256]⟩
abbrev S768 : Shape := ⟨1, ![768]⟩
abbrev S1x256 : Shape := ⟨2, ![1, 256]⟩
abbrev S1 : Shape := ⟨1, ![1]⟩
abbrev S256x256 : Shape := ⟨2, ![256, 256]⟩
abbrev S256 : Shape := ⟨1, ![256]⟩
abbrev S500x256 : Shape := ⟨2, ![500, 256]⟩
abbrev S500 : Shape := ⟨1, ![500]⟩
abbrev S23x4000 : Shape := ⟨2, ![23, 4000]⟩
abbrev S_ : Shape := ⟨0, ![]⟩
abbrev S23x4000x1 : Shape := ⟨3, ![23, 4000, 1]⟩
abbrev S23x4000x256 : Shape := ⟨3, ![23, 4000, 256]⟩
abbrev S23x256 : Shape := ⟨2, ![23, 256]⟩
abbrev S256x768 : Shape := ⟨2, ![256, 768]⟩
abbrev S23x768 : Shape := ⟨2, ![23, 768]⟩
abbrev S1x768 : Shape := ⟨2, ![1, 768]⟩
abbrev S256x1 : Shape := ⟨2, ![256, 1]⟩
abbrev S23x1 : Shape := ⟨2, ![23, 1]⟩
abbrev S1x1 : Shape := ⟨2, ![1, 1]⟩
abbrev S23 : Shape := ⟨1, ![23]⟩
abbrev S256x500 : Shape := ⟨2, ![256, 500]⟩
abbrev S23x500 : Shape := ⟨2, ![23, 500]⟩
abbrev S1x500 : Shape := ⟨2, ![1, 500]⟩
abbrev S23x25 : Shape := ⟨2, ![23, 25]⟩
abbrev S23x25x1 : Shape := ⟨3, ![23, 25, 1]⟩
abbrev S23x25x2 : Shape := ⟨3, ![23, 25, 2]⟩

abbrev nBuf : Space → Nat
  | .hbm => 250
  | .vmem => 0
  | .smem => 0
  | _ => 0

abbrev hbmTy0_0 (i : Nat) : BufTy := match i % 128 with
  | 0 => ⟨S24x4000, .i32⟩
  | 1 => ⟨S24x4000, .i32⟩
  | 2 => ⟨S24x25, .i32⟩
  | 3 => ⟨S4001x256, .f32⟩
  | 4 => ⟨S768x256, .f32⟩
  | 5 => ⟨S768x256, .f32⟩
  | 6 => ⟨S768, .f32⟩
  | 7 => ⟨S768, .f32⟩
  | 8 => ⟨S768x256, .f32⟩
  | 9 => ⟨S768x256, .f32⟩
  | 10 => ⟨S768, .f32⟩
  | 11 => ⟨S768, .f32⟩
  | 12 => ⟨S1x256, .f32⟩
  | 13 => ⟨S1, .f32⟩
  | 14 => ⟨S256x256, .f32⟩
  | 15 => ⟨S256, .f32⟩
  | 16 => ⟨S500x256, .f32⟩
  | 17 => ⟨S500, .f32⟩
  | 18 => ⟨S23x4000, .i32⟩
  | 19 => ⟨S_, .i32⟩
  | 20 => ⟨S23x4000, .i32⟩
  | 21 => ⟨S23x4000, .i1⟩
  | 22 => ⟨S_, .i32⟩
  | 23 => ⟨S23x4000, .i32⟩
  | 24 => ⟨S23x4000, .i32⟩
  | 25 => ⟨S23x4000, .i32⟩
  | 26 => ⟨S23x4000x1, .i32⟩
  | 27 => ⟨S23x4000x256, .f32⟩
  | 28 => ⟨S_, .f32⟩
  | 29 => ⟨S23x256, .f32⟩
  | 30 => ⟨S256x768, .f32⟩
  | 31 => ⟨S23x768, .f32⟩
  | 32 => ⟨S1x768, .f32⟩
  | 33 => ⟨S23x768, .f32⟩
  | 34 => ⟨S23x768, .f32⟩
  | 35 => ⟨S256x768, .f32⟩
  | 36 => ⟨S23x768, .f32⟩
  | 37 => ⟨S1x768, .f32⟩
  | 38 => ⟨S23x768, .f32⟩
  | 39 => ⟨S23x768, .f32⟩
  | 40 => ⟨S_, .f32⟩
  | 41 => ⟨S256, .f32⟩
  | 42 => ⟨S_, .f32⟩
  | 43 => ⟨S23x256, .f32⟩
  | 44 => ⟨S_, .f32⟩
  | 45 => ⟨S23x256, .f32⟩
  | 46 => ⟨S_, .i32⟩
  | 47 => ⟨S23x768, .f32⟩
  | 48 => ⟨S23x768, .f32⟩
  | 49 => ⟨S768x256, .f32⟩
  | 50 => ⟨S768, .f32⟩
  | 51 => ⟨S768x256, .f32⟩
  | 52 => ⟨S768, .f32⟩
  | 53 => ⟨S_, .i32⟩
  | 54 => ⟨S256, .f32⟩
  | 55 => ⟨S256, .f32⟩
  | 56 => ⟨S23x256, .f32⟩
  | 57 => ⟨S23x256, .f32⟩
  | 58 => ⟨S_, .i32⟩
  | 59 => ⟨S_, .i1⟩
  | 60 => ⟨S_, .i32⟩
  | 61 => ⟨S1x768, .f32⟩
  | 62 => ⟨S768, .f32⟩
  | 63 => ⟨S_, .i32⟩
  | 64 => ⟨S1x768, .f32⟩
  | 65 => ⟨S768, .f32⟩
  | 66 => ⟨S256x768, .f32⟩
  | 67 => ⟨S768, .f32⟩
  | 68 => ⟨S768, .f32⟩
  | 69 => ⟨S256, .f32⟩
  | 70 => ⟨S256, .f32⟩
  | 71 => ⟨S256, .f32⟩
  | 72 => ⟨S256, .f32⟩
  | 73 => ⟨S256, .f32⟩
  | 74 => ⟨S256, .f32⟩
  | 75 => ⟨S256, .f32⟩
  | 76 => ⟨S256, .f32⟩
  | 77 => ⟨S256, .f32⟩
  | 78 => ⟨S_, .f32⟩
  | 79 => ⟨S256, .f32⟩
  | 80 => ⟨S256, .f32⟩
  | 81 => ⟨S_, .f32⟩
  | 82 => ⟨S256, .f32⟩
  | 83 => ⟨S256, .f32⟩
  | 84 => ⟨S256, .f32⟩
  | 85 => ⟨S256, .f32⟩
  | 86 => ⟨S256, .f32⟩
  | 87 => ⟨S_, .f32⟩
  | 88 => ⟨S256, .f32⟩
  | 89 => ⟨S256, .f32⟩
  | 90 => ⟨S_, .f32⟩
  | 91 => ⟨S256, .f32⟩
  | 92 => ⟨S256, .f32⟩
  | 93 => ⟨S256, .f32⟩
  | 94 => ⟨S256, .f32⟩
  | 95 => ⟨S256, .f32⟩
  | 96 => ⟨S_, .f32⟩
  | 97 => ⟨S256, .f32⟩
  | 98 => ⟨S256, .f32⟩
  | 99 => ⟨S256, .f32⟩
  | 100 => ⟨S256, .f32⟩
  | 101 => ⟨S256, .f32⟩
  | 102 => ⟨S256x768, .f32⟩
  | 103 => ⟨S768, .f32⟩
  | 104 => ⟨S768, .f32⟩
  | 105 => ⟨S256, .f32⟩
  | 106 => ⟨S256, .f32⟩
  | 107 => ⟨S256, .f32⟩
  | 108 => ⟨S256, .f32⟩
  | 109 => ⟨S256, .f32⟩
  | 110 => ⟨S256, .f32⟩
  | 111 => ⟨S256, .f32⟩
  | 112 => ⟨S256, .f32⟩
  | 113 => ⟨S256, .f32⟩
  | 114 => ⟨S_, .f32⟩
  | 115 => ⟨S256, .f32⟩
  | 116 => ⟨S256, .f32⟩
  | 117 => ⟨S_, .f32⟩
  | 118 => ⟨S256, .f32⟩
  | 119 => ⟨S256, .f32⟩
  | 120 => ⟨S256, .f32⟩
  | 121 => ⟨S256, .f32⟩
  | 122 => ⟨S256, .f32⟩
  | 123 => ⟨S_, .f32⟩
  | 124 => ⟨S256, .f32⟩
  | 125 => ⟨S256, .f32⟩
  | 126 => ⟨S_, .f32⟩
  | 127 => ⟨S256, .f32⟩
  | _ => ⟨S24x4000, .i32⟩

abbrev hbmTy0_1 (i : Nat) : BufTy := match i % 128 with
  | 0 => ⟨S256, .f32⟩
  | 1 => ⟨S256, .f32⟩
  | 2 => ⟨S256, .f32⟩
  | 3 => ⟨S256, .f32⟩
  | 4 => ⟨S_, .f32⟩
  | 5 => ⟨S256, .f32⟩
  | 6 => ⟨S256, .f32⟩
  | 7 => ⟨S256, .f32⟩
  | 8 => ⟨S256, .f32⟩
  | 9 => ⟨S256, .f32⟩
  | 10 => ⟨S1x256, .f32⟩
  | 11 => ⟨S_, .i32⟩
  | 12 => ⟨S23x256, .f32⟩
  | 13 => ⟨S1x256, .f32⟩
  | 14 => ⟨S_, .i32⟩
  | 15 => ⟨S23x256, .f32⟩
  | 16 => ⟨S_, .i32⟩
  | 17 => ⟨S_, .i32⟩
  | 18 => ⟨S256x1, .f32⟩
  | 19 => ⟨S23x1, .f32⟩
  | 20 => ⟨S1x1, .f32⟩
  | 21 => ⟨S23x1, .f32⟩
  | 22 => ⟨S23x1, .f32⟩
  | 23 => ⟨S_, .f32⟩
  | 24 => ⟨S23, .f32⟩
  | 25 => ⟨S_, .f32⟩
  | 26 => ⟨S23, .f32⟩
  | 27 => ⟨S23, .f32⟩
  | 28 => ⟨S23x1, .f32⟩
  | 29 => ⟨S23x1, .f32⟩
  | 30 => ⟨S23x1, .f32⟩
  | 31 => ⟨S_, .f32⟩
  | 32 => ⟨S23, .f32⟩
  | 33 => ⟨S23x1, .f32⟩
  | 34 => ⟨S23x1, .f32⟩
  | 35 => ⟨S256x256, .f32⟩
  | 36 => ⟨S23x256, .f32⟩
  | 37 => ⟨S1x256, .f32⟩
  | 38 => ⟨S23x256, .f32⟩
  | 39 => ⟨S23x256, .f32⟩
  | 40 => ⟨S23x256, .f32⟩
  | 41 => ⟨S23x256, .f32⟩
  | 42 => ⟨S23x256, .f32⟩
  | 43 => ⟨S23x256, .f32⟩
  | 44 => ⟨S_, .f32⟩
  | 45 => ⟨S_, .f32⟩
  | 46 => ⟨S23x256, .f32⟩
  | 47 => ⟨S23x4000, .i32⟩
  | 48 => ⟨S_, .i32⟩
  | 49 => ⟨S23x4000, .i32⟩
  | 50 => ⟨S23x4000, .i1⟩
  | 51 => ⟨S_, .i32⟩
  | 52 => ⟨S23x4000, .i32⟩
  | 53 => ⟨S23x4000, .i32⟩
  | 54 => ⟨S23x4000, .i32⟩
  | 55 => ⟨S23x4000x1, .i32⟩
  | 56 => ⟨S23x4000x256, .f32⟩
  | 57 => ⟨S_, .f32⟩
  | 58 => ⟨S23x256, .f32⟩
  | 59 => ⟨S23x256, .f32⟩
  | 60 => ⟨S256x500, .f32⟩
  | 61 => ⟨S23x500, .f32⟩
  | 62 => ⟨S1x500, .f32⟩
  | 63 => ⟨S23x500, .f32⟩
  | 64 => ⟨S23x500, .f32⟩
  | 65 => ⟨S23x500, .f32⟩
  | 66 => ⟨S23x500, .f32⟩
  | 67 => ⟨S_, .f32⟩
  | 68 => ⟨S23x500, .f32⟩
  | 69 => ⟨S23x500, .f32⟩
  | 70 => ⟨S_, .f32⟩
  | 71 => ⟨S23x500, .f32⟩
  | 72 => ⟨S23x500, .f32⟩
  | 73 => ⟨S23, .i32⟩
  | 74 => ⟨S_, .f32⟩
  | 75 => ⟨S23x500, .f32⟩
  | 76 => ⟨S23x1, .i32⟩
  | 77 => ⟨S23x25, .i32⟩
  | 78 => ⟨S_, .i32⟩
  | 79 => ⟨S23x1, .i32⟩
  | 80 => ⟨S23x1, .i1⟩
  | 81 => ⟨S_, .i32⟩
  | 82 => ⟨S23x1, .i32⟩
  | 83 => ⟨S23x1, .i32⟩
  | 84 => ⟨S23x1, .i32⟩
  | 85 => ⟨S_, .i32⟩
  | 86 => ⟨S23x25, .i32⟩
  | 87 => ⟨S23x25, .i1⟩
  | 88 => ⟨S_, .i32⟩
  | 89 => ⟨S23x25, .i32⟩
  | 90 => ⟨S23x25, .i32⟩
  | 91 => ⟨S23x25, .i32⟩
  | 92 => ⟨S23x25, .i32⟩
  | 93 => ⟨S23x25x1, .i32⟩
  | 94 => ⟨S23x25x1, .i32⟩
  | 95 => ⟨S23x25x2, .i32⟩
  | 96 => ⟨S_, .f32⟩
  | 97 => ⟨S23x25, .f32⟩
  | 98 => ⟨S23x500, .f32⟩
  | 99 => ⟨S_, .i32⟩
  | 100 => ⟨S23x500, .i32⟩
  | 101 => ⟨S23x25, .i32⟩
  | 102 => ⟨S_, .i32⟩
  | 103 => ⟨S1, .i32⟩
  | 104 => ⟨S23x500, .i32⟩
  | 105 => ⟨S23x500, .f32⟩
  | 106 => ⟨S23x500, .f32⟩
  | 107 => ⟨S_, .f32⟩
  | 108 => ⟨S23x500, .f32⟩
  | 109 => ⟨S23x500, .f32⟩
  | 110 => ⟨S23x500, .f32⟩
  | 111 => ⟨S23x500, .f32⟩
  | 112 => ⟨S23x500, .f32⟩
  | 113 => ⟨S23x500, .f32⟩
  | 114 => ⟨S23x500, .f32⟩
  | 115 => ⟨S_, .f32⟩
  | 116 => ⟨S23, .f32⟩
  | 117 => ⟨S_, .f32⟩
  | 118 => ⟨S23, .f32⟩
  | 119 => ⟨S23, .f32⟩
  | 120 => ⟨S_, .f32⟩
  | 121 => ⟨S_, .f32⟩
  | _ => ⟨S24x4000, .i32⟩

abbrev hbmTy (i : Nat) : BufTy := match i / 128 with
  | 0 => hbmTy0_0 i
  | 1 => hbmTy0_1 i
  | _ => ⟨S24x4000, .i32⟩

abbrev bufTy : (tb : Table) → Fin (tcTables nBuf tb) → BufTy
  | .hbm, ⟨i, _⟩ => hbmTy i
  | _, _ => ⟨S24x4000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_c_4 : Ref sig .tc := ⟨.hbm, 46, rfl⟩
abbrev main_v22_0 : Ref sig .tc := ⟨.hbm, 47, rfl⟩
abbrev main_v22_1 : Ref sig .tc := ⟨.hbm, 48, rfl⟩
abbrev main_v22_2 : Ref sig .tc := ⟨.hbm, 49, rfl⟩
abbrev main_v22_3 : Ref sig .tc := ⟨.hbm, 50, rfl⟩
abbrev main_v22_4 : Ref sig .tc := ⟨.hbm, 51, rfl⟩
abbrev main_v22_5 : Ref sig .tc := ⟨.hbm, 52, rfl⟩
abbrev main_v22_6 : Ref sig .tc := ⟨.hbm, 53, rfl⟩
abbrev main_v22_7 : Ref sig .tc := ⟨.hbm, 54, rfl⟩
abbrev main_v22_8 : Ref sig .tc := ⟨.hbm, 55, rfl⟩
abbrev main_v22_9 : Ref sig .tc := ⟨.hbm, 56, rfl⟩
abbrev main_v22_10 : Ref sig .tc := ⟨.hbm, 57, rfl⟩
abbrev main_while0c_c_35 : Ref sig .tc := ⟨.hbm, 58, rfl⟩
abbrev main_while0c_v105 : Ref sig .tc := ⟨.hbm, 59, rfl⟩
abbrev main_while0b_call0_c : Ref sig .tc := ⟨.hbm, 60, rfl⟩
abbrev main_while0b_call0_v0 : Ref sig .tc := ⟨.hbm, 61, rfl⟩
abbrev main_while0b_v105 : Ref sig .tc := ⟨.hbm, 62, rfl⟩
abbrev main_while0b_call1_c : Ref sig .tc := ⟨.hbm, 63, rfl⟩
abbrev main_while0b_call1_v0 : Ref sig .tc := ⟨.hbm, 64, rfl⟩
abbrev main_while0b_v106 : Ref sig .tc := ⟨.hbm, 65, rfl⟩
abbrev main_while0b_v107 : Ref sig .tc := ⟨.hbm, 66, rfl⟩
abbrev main_while0b_v108 : Ref sig .tc := ⟨.hbm, 67, rfl⟩
abbrev main_while0b_v109 : Ref sig .tc := ⟨.hbm, 68, rfl⟩
abbrev main_while0b_v110 : Ref sig .tc := ⟨.hbm, 69, rfl⟩
abbrev main_while0b_v111 : Ref sig .tc := ⟨.hbm, 70, rfl⟩
abbrev main_while0b_v112 : Ref sig .tc := ⟨.hbm, 71, rfl⟩
abbrev main_while0b_v113 : Ref sig .tc := ⟨.hbm, 72, rfl⟩
abbrev main_while0b_v114 : Ref sig .tc := ⟨.hbm, 73, rfl⟩
abbrev main_while0b_v115 : Ref sig .tc := ⟨.hbm, 74, rfl⟩
abbrev main_while0b_v116 : Ref sig .tc := ⟨.hbm, 75, rfl⟩
abbrev main_while0b_v117 : Ref sig .tc := ⟨.hbm, 76, rfl⟩
abbrev main_while0b_v118 : Ref sig .tc := ⟨.hbm, 77, rfl⟩
abbrev main_while0b_cst_35 : Ref sig .tc := ⟨.hbm, 78, rfl⟩
abbrev main_while0b_v119 : Ref sig .tc := ⟨.hbm, 79, rfl⟩
abbrev main_while0b_v120 : Ref sig .tc := ⟨.hbm, 80, rfl⟩
abbrev main_while0b_cst_36 : Ref sig .tc := ⟨.hbm, 81, rfl⟩
abbrev main_while0b_v121 : Ref sig .tc := ⟨.hbm, 82, rfl⟩
abbrev main_while0b_v122 : Ref sig .tc := ⟨.hbm, 83, rfl⟩
abbrev main_while0b_v123 : Ref sig .tc := ⟨.hbm, 84, rfl⟩
abbrev main_while0b_v124 : Ref sig .tc := ⟨.hbm, 85, rfl⟩
abbrev main_while0b_v125 : Ref sig .tc := ⟨.hbm, 86, rfl⟩
abbrev main_while0b_cst_37 : Ref sig .tc := ⟨.hbm, 87, rfl⟩
abbrev main_while0b_v126 : Ref sig .tc := ⟨.hbm, 88, rfl⟩
abbrev main_while0b_v127 : Ref sig .tc := ⟨.hbm, 89, rfl⟩
abbrev main_while0b_cst_38 : Ref sig .tc := ⟨.hbm, 90, rfl⟩
abbrev main_while0b_v128 : Ref sig .tc := ⟨.hbm, 91, rfl⟩
abbrev main_while0b_v129 : Ref sig .tc := ⟨.hbm, 92, rfl⟩
abbrev main_while0b_v130 : Ref sig .tc := ⟨.hbm, 93, rfl⟩
abbrev main_while0b_v131 : Ref sig .tc := ⟨.hbm, 94, rfl⟩
abbrev main_while0b_v132 : Ref sig .tc := ⟨.hbm, 95, rfl⟩
abbrev main_while0b_cst_39 : Ref sig .tc := ⟨.hbm, 96, rfl⟩
abbrev main_while0b_v133 : Ref sig .tc := ⟨.hbm, 97, rfl⟩
abbrev main_while0b_v134 : Ref sig .tc := ⟨.hbm, 98, rfl⟩
abbrev main_while0b_v135 : Ref sig .tc := ⟨.hbm, 99, rfl⟩
abbrev main_while0b_v136 : Ref sig .tc := ⟨.hbm, 100, rfl⟩
abbrev main_while0b_v137 : Ref sig .tc := ⟨.hbm, 101, rfl⟩
abbrev main_while0b_v138 : Ref sig .tc := ⟨.hbm, 102, rfl⟩
abbrev main_while0b_v139 : Ref sig .tc := ⟨.hbm, 103, rfl⟩
abbrev main_while0b_v140 : Ref sig .tc := ⟨.hbm, 104, rfl⟩
abbrev main_while0b_v141 : Ref sig .tc := ⟨.hbm, 105, rfl⟩
abbrev main_while0b_v142 : Ref sig .tc := ⟨.hbm, 106, rfl⟩
abbrev main_while0b_v143 : Ref sig .tc := ⟨.hbm, 107, rfl⟩
abbrev main_while0b_v144 : Ref sig .tc := ⟨.hbm, 108, rfl⟩
abbrev main_while0b_v145 : Ref sig .tc := ⟨.hbm, 109, rfl⟩
abbrev main_while0b_v146 : Ref sig .tc := ⟨.hbm, 110, rfl⟩
abbrev main_while0b_v147 : Ref sig .tc := ⟨.hbm, 111, rfl⟩
abbrev main_while0b_v148 : Ref sig .tc := ⟨.hbm, 112, rfl⟩
abbrev main_while0b_v149 : Ref sig .tc := ⟨.hbm, 113, rfl⟩
abbrev main_while0b_cst_40 : Ref sig .tc := ⟨.hbm, 114, rfl⟩
abbrev main_while0b_v150 : Ref sig .tc := ⟨.hbm, 115, rfl⟩
abbrev main_while0b_v151 : Ref sig .tc := ⟨.hbm, 116, rfl⟩
abbrev main_while0b_cst_41 : Ref sig .tc := ⟨.hbm, 117, rfl⟩
abbrev main_while0b_v152 : Ref sig .tc := ⟨.hbm, 118, rfl⟩
abbrev main_while0b_v153 : Ref sig .tc := ⟨.hbm, 119, rfl⟩
abbrev main_while0b_v154 : Ref sig .tc := ⟨.hbm, 120, rfl⟩
abbrev main_while0b_v155 : Ref sig .tc := ⟨.hbm, 121, rfl⟩
abbrev main_while0b_v156 : Ref sig .tc := ⟨.hbm, 122, rfl⟩
abbrev main_while0b_cst_42 : Ref sig .tc := ⟨.hbm, 123, rfl⟩
abbrev main_while0b_v157 : Ref sig .tc := ⟨.hbm, 124, rfl⟩
abbrev main_while0b_v158 : Ref sig .tc := ⟨.hbm, 125, rfl⟩
abbrev main_while0b_cst_43 : Ref sig .tc := ⟨.hbm, 126, rfl⟩
abbrev main_while0b_v159 : Ref sig .tc := ⟨.hbm, 127, rfl⟩
abbrev main_while0b_v160 : Ref sig .tc := ⟨.hbm, 128, rfl⟩
abbrev main_while0b_v161 : Ref sig .tc := ⟨.hbm, 129, rfl⟩
abbrev main_while0b_v162 : Ref sig .tc := ⟨.hbm, 130, rfl⟩
abbrev main_while0b_v163 : Ref sig .tc := ⟨.hbm, 131, rfl⟩
abbrev main_while0b_cst_44 : Ref sig .tc := ⟨.hbm, 132, rfl⟩
abbrev main_while0b_v164 : Ref sig .tc := ⟨.hbm, 133, rfl⟩
abbrev main_while0b_v165 : Ref sig .tc := ⟨.hbm, 134, rfl⟩
abbrev main_while0b_v166 : Ref sig .tc := ⟨.hbm, 135, rfl⟩
abbrev main_while0b_v167 : Ref sig .tc := ⟨.hbm, 136, rfl⟩
abbrev main_while0b_v168 : Ref sig .tc := ⟨.hbm, 137, rfl⟩
abbrev main_while0b_call2_v0 : Ref sig .tc := ⟨.hbm, 138, rfl⟩
abbrev main_while0b_call2_c : Ref sig .tc := ⟨.hbm, 139, rfl⟩
abbrev main_while0b_v169 : Ref sig .tc := ⟨.hbm, 140, rfl⟩
abbrev main_while0b_call3_v0 : Ref sig .tc := ⟨.hbm, 141, rfl⟩
abbrev main_while0b_call3_c : Ref sig .tc := ⟨.hbm, 142, rfl⟩
abbrev main_while0b_v170 : Ref sig .tc := ⟨.hbm, 143, rfl⟩
abbrev main_while0b_c_45 : Ref sig .tc := ⟨.hbm, 144, rfl⟩
abbrev main_while0b_v171 : Ref sig .tc := ⟨.hbm, 145, rfl⟩
abbrev main_v23 : Ref sig .tc := ⟨.hbm, 146, rfl⟩
abbrev main_v24 : Ref sig .tc := ⟨.hbm, 147, rfl⟩
abbrev main_v25 : Ref sig .tc := ⟨.hbm, 148, rfl⟩
abbrev main_v26 : Ref sig .tc := ⟨.hbm, 149, rfl⟩
abbrev main_v27 : Ref sig .tc := ⟨.hbm, 150, rfl⟩
abbrev main_cst_5 : Ref sig .tc := ⟨.hbm, 151, rfl⟩
abbrev main_v28 : Ref sig .tc := ⟨.hbm, 152, rfl⟩
abbrev main_cst_6 : Ref sig .tc := ⟨.hbm, 153, rfl⟩
abbrev main_v29 : Ref sig .tc := ⟨.hbm, 154, rfl⟩
abbrev main_v30 : Ref sig .tc := ⟨.hbm, 155, rfl⟩
abbrev main_v31 : Ref sig .tc := ⟨.hbm, 156, rfl⟩
abbrev main_v32 : Ref sig .tc := ⟨.hbm, 157, rfl⟩
abbrev main_v33 : Ref sig .tc := ⟨.hbm, 158, rfl⟩
abbrev main_cst_7 : Ref sig .tc := ⟨.hbm, 159, rfl⟩
abbrev main_v34 : Ref sig .tc := ⟨.hbm, 160, rfl⟩
abbrev main_v35 : Ref sig .tc := ⟨.hbm, 161, rfl⟩
abbrev main_v36 : Ref sig .tc := ⟨.hbm, 162, rfl⟩
abbrev main_v37 : Ref sig .tc := ⟨.hbm, 163, rfl⟩
abbrev main_v38 : Ref sig .tc := ⟨.hbm, 164, rfl⟩
abbrev main_v39 : Ref sig .tc := ⟨.hbm, 165, rfl⟩
abbrev main_v40 : Ref sig .tc := ⟨.hbm, 166, rfl⟩
abbrev main_v41 : Ref sig .tc := ⟨.hbm, 167, rfl⟩
abbrev main_v42 : Ref sig .tc := ⟨.hbm, 168, rfl⟩
abbrev main_v43 : Ref sig .tc := ⟨.hbm, 169, rfl⟩
abbrev main_v44 : Ref sig .tc := ⟨.hbm, 170, rfl⟩
abbrev main_v45 : Ref sig .tc := ⟨.hbm, 171, rfl⟩
abbrev main_call4_call0_cst : Ref sig .tc := ⟨.hbm, 172, rfl⟩
abbrev main_call4_call0_v0 : Ref sig .tc := ⟨.hbm, 173, rfl⟩
abbrev main_v46 : Ref sig .tc := ⟨.hbm, 174, rfl⟩
abbrev main_v47 : Ref sig .tc := ⟨.hbm, 175, rfl⟩
abbrev main_c_8 : Ref sig .tc := ⟨.hbm, 176, rfl⟩
abbrev main_v48 : Ref sig .tc := ⟨.hbm, 177, rfl⟩
abbrev main_v49 : Ref sig .tc := ⟨.hbm, 178, rfl⟩
abbrev main_c_9 : Ref sig .tc := ⟨.hbm, 179, rfl⟩
abbrev main_v50 : Ref sig .tc := ⟨.hbm, 180, rfl⟩
abbrev main_v51 : Ref sig .tc := ⟨.hbm, 181, rfl⟩
abbrev main_v52 : Ref sig .tc := ⟨.hbm, 182, rfl⟩
abbrev main_v53 : Ref sig .tc := ⟨.hbm, 183, rfl⟩
abbrev main_v54 : Ref sig .tc := ⟨.hbm, 184, rfl⟩
abbrev main_cst_10 : Ref sig .tc := ⟨.hbm, 185, rfl⟩
abbrev main_v55 : Ref sig .tc := ⟨.hbm, 186, rfl⟩
abbrev main_v56 : Ref sig .tc := ⟨.hbm, 187, rfl⟩
abbrev main_v57 : Ref sig .tc := ⟨.hbm, 188, rfl⟩
abbrev main_v58 : Ref sig .tc := ⟨.hbm, 189, rfl⟩
abbrev main_v59 : Ref sig .tc := ⟨.hbm, 190, rfl⟩
abbrev main_v60 : Ref sig .tc := ⟨.hbm, 191, rfl⟩
abbrev main_v61 : Ref sig .tc := ⟨.hbm, 192, rfl⟩
abbrev main_v62 : Ref sig .tc := ⟨.hbm, 193, rfl⟩
abbrev main_v63 : Ref sig .tc := ⟨.hbm, 194, rfl⟩
abbrev main_cst_11 : Ref sig .tc := ⟨.hbm, 195, rfl⟩
abbrev main_v64 : Ref sig .tc := ⟨.hbm, 196, rfl⟩
abbrev main_v65 : Ref sig .tc := ⟨.hbm, 197, rfl⟩
abbrev main_cst_12 : Ref sig .tc := ⟨.hbm, 198, rfl⟩
abbrev main_v66 : Ref sig .tc := ⟨.hbm, 199, rfl⟩
abbrev main_v67 : Ref sig .tc := ⟨.hbm, 200, rfl⟩
abbrev main_v68 : Ref sig .tc := ⟨.hbm, 201, rfl⟩
abbrev main_cst_13 : Ref sig .tc := ⟨.hbm, 202, rfl⟩
abbrev main_v69 : Ref sig .tc := ⟨.hbm, 203, rfl⟩
abbrev main_v70 : Ref sig .tc := ⟨.hbm, 204, rfl⟩
abbrev main_v71 : Ref sig .tc := ⟨.hbm, 205, rfl⟩
abbrev main_c_14 : Ref sig .tc := ⟨.hbm, 206, rfl⟩
abbrev main_v72 : Ref sig .tc := ⟨.hbm, 207, rfl⟩
abbrev main_v73 : Ref sig .tc := ⟨.hbm, 208, rfl⟩
abbrev main_c_15 : Ref sig .tc := ⟨.hbm, 209, rfl⟩
abbrev main_v74 : Ref sig .tc := ⟨.hbm, 210, rfl⟩
abbrev main_v75 : Ref sig .tc := ⟨.hbm, 211, rfl⟩
abbrev main_v76 : Ref sig .tc := ⟨.hbm, 212, rfl⟩
abbrev main_c_16 : Ref sig .tc := ⟨.hbm, 213, rfl⟩
abbrev main_v77 : Ref sig .tc := ⟨.hbm, 214, rfl⟩
abbrev main_v78 : Ref sig .tc := ⟨.hbm, 215, rfl⟩
abbrev main_c_17 : Ref sig .tc := ⟨.hbm, 216, rfl⟩
abbrev main_v79 : Ref sig .tc := ⟨.hbm, 217, rfl⟩
abbrev main_v80 : Ref sig .tc := ⟨.hbm, 218, rfl⟩
abbrev main_v81 : Ref sig .tc := ⟨.hbm, 219, rfl⟩
abbrev main_v82 : Ref sig .tc := ⟨.hbm, 220, rfl⟩
abbrev main_v83 : Ref sig .tc := ⟨.hbm, 221, rfl⟩
abbrev main_v84 : Ref sig .tc := ⟨.hbm, 222, rfl⟩
abbrev main_v85 : Ref sig .tc := ⟨.hbm, 223, rfl⟩
abbrev main_cst_18 : Ref sig .tc := ⟨.hbm, 224, rfl⟩
abbrev main_v86 : Ref sig .tc := ⟨.hbm, 225, rfl⟩
abbrev main_v87 : Ref sig .tc := ⟨.hbm, 226, rfl⟩
abbrev main_c_19 : Ref sig .tc := ⟨.hbm, 227, rfl⟩
abbrev main_v88 : Ref sig .tc := ⟨.hbm, 228, rfl⟩
abbrev main_v89 : Ref sig .tc := ⟨.hbm, 229, rfl⟩
abbrev main_c_20 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_cst_21 : Ref sig .tc := ⟨.hbm, 235, rfl⟩
abbrev main_v94 : Ref sig .tc := ⟨.hbm, 236, rfl⟩
abbrev main_v95 : Ref sig .tc := ⟨.hbm, 237, rfl⟩
abbrev main_v96 : Ref sig .tc := ⟨.hbm, 238, rfl⟩
abbrev main_v97 : Ref sig .tc := ⟨.hbm, 239, rfl⟩
abbrev main_v98 : Ref sig .tc := ⟨.hbm, 240, rfl⟩
abbrev main_v99 : Ref sig .tc := ⟨.hbm, 241, rfl⟩
abbrev main_v100 : Ref sig .tc := ⟨.hbm, 242, rfl⟩
abbrev main_cst_22 : Ref sig .tc := ⟨.hbm, 243, rfl⟩
abbrev main_v101 : Ref sig .tc := ⟨.hbm, 244, rfl⟩
abbrev main_cst_23 : Ref sig .tc := ⟨.hbm, 245, rfl⟩
abbrev main_v102 : Ref sig .tc := ⟨.hbm, 246, rfl⟩
abbrev main_v103 : Ref sig .tc := ⟨.hbm, 247, rfl⟩
abbrev main_cst_24 : Ref sig .tc := ⟨.hbm, 248, rfl⟩
abbrev main_v104 : Ref sig .tc := ⟨.hbm, 249, rfl⟩

abbrev nD : Nat := 1
abbrev τ : Topo := Topo.v7x

variable {F : FTy → Type} [FloatOps F]

abbrev main_while0_count : Scf.Loop 32 := ⟨0#32, 23#32, 1#32⟩
-- ==== Proof.Ref.Pre.lean ====
/- What the precondition says of single entries: the printed predicate's ten components decoded at an index. -/
module

public import proofs.«01_k».proof.Proof.Gen.Pre_visits_as_drawn
public import Idealize.ShloMosaic.Lib.ValueIdx
public import Idealize.ShloMosaic.PureOps.Ideal

@[expose] public section

namespace Cert.Visits

open Cert.Pre_visits_as_drawn Cert.Pre_visits_as_drawn.Gen
open Idealize.ShloMosaic Idealize.ShloMosaic.ValueIdx

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

variable {F : FTy → Type} [FloatOps F]

/-- The ten components, each true everywhere. -/
def Holds (a0 : IVec S24x4000 32) (a1 : IVec S24x4000 32) (a2 : IVec S24x25 32) (a3 : FVec F S4001x256 .f32)
    (a4 a5 : FVec F S768x256 .f32) (a6 a7 : FVec F S768 .f32) (a8 a9 : FVec F S768x256 .f32) (a10 a11 : FVec F S768 .f32)
    (a12 : FVec F S1x256 .f32) (a13 : FVec F S1 .f32) (a14 : FVec F S256x256 .f32) (a15 : FVec F S256 .f32)
    (a16 : FVec F S500x256 .f32) (a17 : FVec F S500 .f32) : Prop :=
  let p := Cert.Pre_visits_as_drawn.fn (F := F) a0 a1 a2 a3 a4 a5 a6 a7 a8 a9 a10 a11 a12 a13 a14 a15 a16 a17
  p.1 = (fun _ => 1#1) ∧ p.2.1 = (fun _ => 1#1) ∧ p.2.2.1 = (fun _ => 1#1) ∧ p.2.2.2.1 = (fun _ => 1#1)
    ∧ p.2.2.2.2.1 = (fun _ => 1#1) ∧ p.2.2.2.2.2.1 = (fun _ => 1#1) ∧ p.2.2.2.2.2.2.1 = (fun _ => 1#1)
    ∧ p.2.2.2.2.2.2.2.1 = (fun _ => 1#1) ∧ p.2.2.2.2.2.2.2.2.1 = (fun _ => 1#1) ∧ p.2.2.2.2.2.2.2.2.2 = (fun _ => 1#1)

section Decode

variable {a0 : IVec S24x4000 32} {a1 : IVec S24x4000 32} {a2 : IVec S24x25 32} {a3 : FVec F S4001x256 .f32}
    {a4 a5 : FVec F S768x256 .f32} {a6 a7 : FVec F S768 .f32} {a8 a9 : FVec F S768x256 .f32} {a10 a11 : FVec F S768 .f32}
    {a12 : FVec F S1x256 .f32} {a13 : FVec F S1 .f32} {a14 : FVec F S256x256 .f32} {a15 : FVec F S256 .f32}
    {a16 : FVec F S500x256 .f32} {a17 : FVec F S500 .f32}
  (h : Holds a0 a1 a2 a3 a4 a5 a6 a7 a8 a9 a10 a11 a12 a13 a14 a15 a16 a17)
include h

theorem diag_lt (t : Fin 24) (j : Fin 40) : (a0 (ix2 t (⟨j.val, by omega⟩ : Fin 4000))).toNat < 2000 := by
  have e := congrFun h.1 (ix2 t j)
  simp only [fn, fn_part1, fn_part2, andi, cmpi, broadcastInDim, constantI, IntOp.cmpi, andi_ofBool, ofBool_eq_one, Bool.and_eq_true] at e
  obtain ⟨hge, hlt⟩ := e
  have hx : extractStridedSlice S24x40 ![0, 0] a0 slices_S24x4000_S24x40_0_0 (ix2 t j) = a0 (ix2 t (⟨j.val, by omega⟩ : Fin 4000)) :=
    congrArg a0 (by ext a; fin_cases a <;> simp [ix2])
  rw [hx] at hge hlt
  simp only [BitVec.sle, BitVec.slt, decide_eq_true_eq, BitVec.toInt, BitVec.toNat_ofNat] at hge hlt
  omega

theorem proc_lt (t : Fin 24) (j : Fin 20) : 2000 ≤ (a0 (ix2 t (⟨40 + j.val, by omega⟩ : Fin 4000))).toNat ∧ (a0 (ix2 t (⟨40 + j.val, by omega⟩ : Fin 4000))).toNat < 3500 := by
  have e := congrFun h.2.1 (ix2 t j)
  simp only [fn, fn_part1, fn_part2, andi, cmpi, broadcastInDim, constantI, IntOp.cmpi, andi_ofBool, ofBool_eq_one, Bool.and_eq_true] at e
  obtain ⟨hge, hlt⟩ := e
  have hx : extractStridedSlice S24x20 ![0, 40] a0 slices_S24x4000_S24x20_0_40 (ix2 t j) = a0 (ix2 t (⟨40 + j.val, by omega⟩ : Fin 4000)) :=
    congrArg a0 (by ext a; fin_cases a <;> simp [ix2])
  rw [hx] at hge hlt
  simp only [BitVec.sle, BitVec.slt, decide_eq_true_eq, BitVec.toInt, BitVec.toNat_ofNat] at hge hlt
  omega

theorem med_lt (t : Fin 24) (j : Fin 25) : (a2 (ix2 t j)).toNat < 500 := by
  have e := congrFun h.2.2.2.2.2.2.1 (ix2 t j)
  simp only [fn, fn_part1, fn_part2, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

theorem medcode_eq (t : Fin 23) (j : Fin 25) :
    (a0 (ix2 (⟨t.val, by omega⟩ : Fin 24) (⟨60 + j.val, by omega⟩ : Fin 4000))).toNat = 3500 + (a2 (ix2 (⟨t.val, by omega⟩ : Fin 24) j)).toNat := by
  have hm := med_lt h (⟨t.val, by omega⟩ : Fin 24) j
  have e := congrFun h.2.2.1 (ix2 t j)
  simp only [fn, fn_part1, fn_part2, andi, addi, cmpi, broadcastInDim, constantI, IntOp.cmpi, IntOp.addi, ofBool_eq_one, decide_eq_true_eq, beq_iff_eq] at e
  have hx : extractStridedSlice S23x25 ![0, 60] a0 slices_S24x4000_S23x25_0_60 (ix2 t j) = a0 (ix2 (⟨t.val, by omega⟩ : Fin 24) (⟨60 + j.val, by omega⟩ : Fin 4000)) :=
    congrArg a0 (by ext a; fin_cases a <;> simp [ix2])
  have hy : extractStridedSlice S23x25 ![0, 0] a2 slices_S24x25_S23x25_0_0 (ix2 t j) = a2 (ix2 (⟨t.val, by omega⟩ : Fin 24) j) :=
    congrArg a2 (by ext a; fin_cases a <;> simp [ix2])
  rw [hx, hy] at e
  rw [e, BitVec.toNat_add]
  simp only [BitVec.toNat_ofNat]
  omega

theorem pad_eq (t : Fin 23) (j : Fin 3915) : a0 (ix2 (⟨t.val, by omega⟩ : Fin 24) (⟨85 + j.val, by omega⟩ : Fin 4000)) = 4000#32 := by
  have e := congrFun h.2.2.2.1 (ix2 t j)
  simp only [fn, fn_part1, fn_part2, andi, addi, cmpi, broadcastInDim, constantI, IntOp.cmpi, IntOp.addi, ofBool_eq_one, decide_eq_true_eq, beq_iff_eq] at e
  have hx : extractStridedSlice S23x3915 ![0, 85] a0 slices_S24x4000_S23x3915_0_85 (ix2 t j) = a0 (ix2 (⟨t.val, by omega⟩ : Fin 24) (⟨85 + j.val, by omega⟩ : Fin 4000)) :=
    congrArg a0 (by ext a; fin_cases a <;> simp [ix2])
  rw [hx] at e
  exact e

theorem cur_eq (t : Fin 23) (j : Fin 60) : a1 (ix2 (⟨1 + t.val, by omega⟩ : Fin 24) (⟨j.val, by omega⟩ : Fin 4000)) = a0 (ix2 (⟨1 + t.val, by omega⟩ : Fin 24) (⟨j.val, by omega⟩ : Fin 4000)) := by
  have e := congrFun h.2.2.2.2.1 (ix2 t j)
  simp only [fn, fn_part1, fn_part2, andi, addi, cmpi, broadcastInDim, constantI, IntOp.cmpi, IntOp.addi, ofBool_eq_one, decide_eq_true_eq, beq_iff_eq] at e
  have hx : ∀ a : IVec S24x4000 32, extractStridedSlice S23x60 ![1, 0] a slices_S24x4000_S23x60_1_0 (ix2 t j) = a (ix2 (⟨1 + t.val, by omega⟩ : Fin 24) (⟨j.val, by omega⟩ : Fin 4000)) :=
    fun a => congrArg a (by ext a; fin_cases a <;> simp [ix2])
  rw [hx, hx] at e
  exact e

theorem curpad_eq (t : Fin 23) (j : Fin 3940) : a1 (ix2 (⟨1 + t.val, by omega⟩ : Fin 24) (⟨60 + j.val, by omega⟩ : Fin 4000)) = 4000#32 := by
  have e := congrFun h.2.2.2.2.2.1 (ix2 t j)
  simp only [fn, fn_part1, fn_part2, andi, addi, cmpi, broadcastInDim, constantI, IntOp.cmpi, IntOp.addi, ofBool_eq_one, decide_eq_true_eq, beq_iff_eq] at e
  have hx : extractStridedSlice S23x3940 ![1, 60] a1 slices_S24x4000_S23x3940_1_60 (ix2 t j) = a1 (ix2 (⟨1 + t.val, by omega⟩ : Fin 24) (⟨60 + j.val, by omega⟩ : Fin 4000)) :=
    congrArg a1 (by ext a; fin_cases a <;> simp [ix2])
  rw [hx] at e
  exact e

end Decode

end Cert.Visits
-- ==== Proof.Hand.FrameClaim.lean ====
/- The frame of `Kernel`: the precondition bounds the codes the gathers read, so the run is fault-free. -/
module

public import proofs.«01_k».proof.Defs
public import proofs.«01_k».proof.Proof.Hand.Run
public import proofs.«01_k».proof.Proof.Ref.Pre

@[expose] public section

namespace Cert.Kernel.Hand

open Cert.Kernel Cert.Kernel.Gen
open Idealize.ShloMosaic Idealize.ShloMosaic.TcCoe Idealize.ShloMosaic.ValueIdx Idealize.SL.Sem

/-- The precondition bounds the codes. -/
theorem bounds_of_pre (m : (ℓ : Loc nD τ sig) → Buf (Elt Bits) ℓ) (h : Cert.Pre_Kernel m) : Bounds m := by
  intro c
  have hd := fun t j hj => Visits.diag_lt (F := Bits) (h c) t (⟨j, hj⟩ : Fin 40)
  have hq := fun t j hj => Visits.proc_lt (F := Bits) (h c) t (⟨j, hj⟩ : Fin 20)
  have h40 : ∀ t j, j < 40 → (wdOf c (V m c main_arg0) t j).toNat < 2000 := by
    intro t j hj
    unfold wdOf
    split
    · next ht => exact hd ⟨t, ht.1⟩ j hj
    · decide
  refine ⟨h40, fun t j hj => ?_⟩
  by_cases h4 : j < 40
  · exact lt_trans (h40 t j h4) (by decide)
  · unfold wdOf
    split
    · next ht =>
      have := (hq ⟨t, ht.1⟩ (j - 40) (by omega)).2
      simp only [show 40 + (j - 40) = j by omega] at this
      exact lt_trans this (by decide)
    · decide

/-- The kernel's frame. -/
theorem frame_claim : Cert.quiescent_Kernel := fun m ρ h =>
  (θ_run Cert.Kernel.defs _ _).mono (fun _ hr => ⟨fun c => (hr.1 c).1, hr.2⟩) (run_all m ρ (bounds_of_pre m h))

end Cert.Kernel.Hand
-- ==== Proof.HandIdeal.Words.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev seqM : Memref sig .tc .hbm S24x4000 .i32 := Memref.whole main_arg0
abbrev embM : Memref sig .tc .hbm S4001x256 .f32 := Memref.whole main_arg3
abbrev vembM : Memref sig .tc .vmem S24x256 .f32 := Memref.whole cc0_scratch0
abbrev curM : Memref sig .tc .vmem S24x256 .f32 := Memref.whole cc0_scratch1
abbrev giM : Memref sig .tc .vmem S24x768 .f32 := Memref.whole cc0_scratch2
abbrev hsM : Memref sig .tc .vmem S24x256 .f32 := Memref.whole cc0_scratch3
abbrev emb3M : Memref sig .tc .vmem S4001x1x256 .f32 := Memref.whole cc0_scratch4
abbrev fsM : Memref sig .tc .smem S24x128 .i32 := Memref.whole cc0_scratch7
abbrev embmM : Memref sig .tc .vmem S504x256 .f32 := Memref.whole cc0_scratch9

/-- The staged code table: the first 128 columns of the sequence array, as the copy leaves them. -/
noncomputable abbrev fsW (c : Dev nD) (f0 : Bf (F := F) c seqM) (g22 : Bf (F := F) c fsM) : Bf (F := F) c fsM :=
  View.write (Elt F) fsM.view g22
    (ReadAs.same.apply (View.read (Elt F) (seqM.slice (Rect.unit ![0, 0] S24x128.size inb_S24x4000_S24x128_0_0) (by exact k0_part1_skel._proof_6)).view f0))
    Finset.univ

/-- The code read at row `t`, column `j` of the staged table. -/
abbrev fsAt (c : Dev nD) (f0 : Bf (F := F) c seqM) (g22 : Bf (F := F) c fsM) (t j : ℕ) (inb : ∀ a, (![t, j] : Fin 2 → ℕ) a + S1x1.size a ≤ S24x128.size a)
    (x : (Rect.unit (s := S24x128) ![t, j] S1x1.size inb).shape.Idx) : BitVec 32 :=
  View.readAt (Elt F) fsM.view (Rect.unit (s := S24x128) ![t, j] S1x1.size inb).toLoadRect (fsW c f0 g22) x

theorem chk_of_lt (v : BitVec 32) (h : v.toNat < 4000) :
    ∀ a, (![(Scalar.indexCast v).toNat, 0, 0] : Fin 3 → ℕ) a + S1x1x256.size a ≤ S4001x1x256.size a := by
  intro a
  have e : (Scalar.indexCast v).toNat = v.toNat := by unfold Scalar.indexCast; omega
  match a with
  | ⟨0, _⟩ => show (Scalar.indexCast v).toNat + 1 ≤ 4001; omega
  | ⟨1, _⟩ => show 0 + 1 ≤ 1; omega
  | ⟨2, _⟩ => show 0 + 256 ≤ 256; omega

/-- A row of the resident table below row 2048 lies outside the window the second table copy fills. -/
theorem disj_row (c : Dev nD) (v : BitVec 32) (h : v.toNat < 2000)
    (inb : ∀ a, (![(Scalar.indexCast v).toNat, 0, 0] : Fin 3 → ℕ) a + S1x1x256.size a ≤ S4001x1x256.size a)
    (h2 : ∀ a, (Rect.unit (s := S4001x1x256) ![2048, 0, 0] S1952x1x256.size inb_S4001x1x256_S1952x1x256_2048_0_0).stride a = 1) :
    Disjoint (emb3M.view.setOn (Rect.unit (s := S4001x1x256) ![(Scalar.indexCast v).toNat, 0, 0] S1x1x256.size inb).set)
      ((emb3M.slice (Rect.unit (s := S4001x1x256) ![2048, 0, 0] S1952x1x256.size inb_S4001x1x256_S1952x1x256_2048_0_0) h2).squeeze
        S1952x256 squeezes_S1952x1x256_S1952x256).view.set := by
  have e1 : ((emb3M.slice (Rect.unit (s := S4001x1x256) ![2048, 0, 0] S1952x1x256.size inb_S4001x1x256_S1952x1x256_2048_0_0) h2).squeeze
        S1952x256 squeezes_S1952x1x256_S1952x256).view.set
      = (emb3M.view.slice (Rect.unit (s := S4001x1x256) ![2048, 0, 0] S1952x1x256.size inb_S4001x1x256_S1952x1x256_2048_0_0)).set :=
    View.set_reshape _ _
  rw [e1]
  refine Disjoint.mono_left (b := (emb3M.view.slice (Rect.unit (s := S4001x1x256) ![(Scalar.indexCast v).toNat, 0, 0] S1x1x256.size inb)).set) ?_
    (View.disjoint_slice_of_sep _ _ _ ⟨0, by decide⟩ rfl rfl (Or.inl ?_))
  · rw [View.set_slice]; exact Finset.Subset.refl _
  have e : (Scalar.indexCast v).toNat = v.toNat := by unfold Scalar.indexCast; omega
  show (Scalar.indexCast v).toNat + 1 ≤ 2048
  omega

end Cert.KernelIdeal.Hand

end
-- ==== Proof.HandIdeal.Facts.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdx
public import proofs.«01_k».proof.Proof.HandIdeal.Words

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

abbrev loM : Memref sig .tc .vmem S2048x256 .f32 :=
  (emb3M.slice (Rect.unit (s := S4001x1x256) ![0, 0, 0] S2048x1x256.size inb_S4001x1x256_S2048x1x256_0_0_0) (by exact k0_part1_skel._proof_1)).squeeze
    S2048x256 squeezes_S2048x1x256_S2048x256
abbrev hiM : Memref sig .tc .vmem S1952x256 .f32 :=
  (emb3M.slice (Rect.unit (s := S4001x1x256) ![2048, 0, 0] S1952x1x256.size inb_S4001x1x256_S1952x1x256_2048_0_0) (by exact k0_part1_skel._proof_12)).squeeze
    S1952x256 squeezes_S1952x1x256_S1952x256
abbrev loE : Memref sig .tc .hbm S2048x256 .f32 :=
  embM.slice (Rect.unit (s := S4001x256) ![0, 0] S2048x256.size inb_S4001x256_S2048x256_0_0) (by exact k0_part1_skel._proof_2)
abbrev hiE : Memref sig .tc .hbm S1952x256 .f32 :=
  embM.slice (Rect.unit (s := S4001x256) ![2048, 0] S1952x256.size inb_S4001x256_S1952x256_2048_0) (by exact k0_part1_skel._proof_13)

/-- The resident table after both copies: rows 0 to 2047 and rows 2048 to 3999 of the embedding array. -/
noncomputable abbrev emb3W (c : Dev nD) (f2 : Bf (F := F) c embM) (g19 : Bf (F := F) c emb3M) : Bf (F := F) c emb3M :=
  View.write (Elt F) hiM.view
    (View.write (Elt F) loM.view g19 (ReadAs.same.apply (View.read (Elt F) loE.view f2)) Finset.univ : BufTy.Contents (Elt F) loM.view.ty)
    (ReadAs.same.apply (View.read (Elt F) hiE.view f2)) Finset.univ

/-- The staged last rows of the embedding array: rows 3496 to 3999. -/
noncomputable abbrev embmW (c : Dev nD) (f2 : Bf (F := F) c embM) (g24 : Bf (F := F) c embmM) : Bf (F := F) c embmM :=
  View.write (Elt F) embmM.view g24
    (ReadAs.same.apply (View.read (Elt F) (embM.slice (Rect.unit (s := S4001x256) ![3496, 0] S504x256.size inb_S4001x256_S504x256_3496_0) (by exact k0_part1_skel._proof_9)).view f2)) Finset.univ

/-- The code at row `t`, column `j` of the sequence array. -/
noncomputable def wdOf (c : Dev nD) (f0 : Bf (F := F) c seqM) (t j : ℕ) : BitVec 32 :=
  if h : t < 24 ∧ j < 4000 then f0 (ix2 (⟨t, h.1⟩ : Fin 24) (⟨j, h.2⟩ : Fin 4000)) else 0

/-- Row `w` of the embedding array, as the one-row block the body loads. -/
noncomputable def rowOf (c : Dev nD) (f2 : Bf (F := F) c embM) (w : BitVec 32) : Vec F S1x1x256 .f32 := fun y =>
  f2 (ix2 (⟨w.toNat % 4001, Nat.mod_lt _ (by decide)⟩ : Fin 4001) (⟨(y 2).val, (y 2).isLt⟩ : Fin 256))

/-- Rows 3496 to 3999 of the embedding array. -/
noncomputable def tailOf (c : Dev nD) (f2 : Bf (F := F) c embM) : Vec F S504x256 .f32 := fun y =>
  f2 (ix2 (⟨3496 + (y 0).val, by have : (y 0).val < 504 := (y 0).isLt; omega⟩ : Fin 4001) (⟨(y 1).val, (y 1).isLt⟩ : Fin 256))

theorem fs_read (c : Dev nD) (f0 : Bf (F := F) c seqM) (g22 : Bf (F := F) c fsM) (t j : ℕ)
    (inb : ∀ a, (![t, j] : Fin 2 → ℕ) a + S1x1.size a ≤ S24x128.size a) :
    View.readAt (Elt F) fsM.view (Rect.unit (s := S24x128) ![t, j] S1x1.size inb).toLoadRect (fsW c f0 g22) = fun _ => wdOf c f0 t j := by
  funext x
  have h0 : t + 1 ≤ 24 := inb 0
  have h1 : j + 1 ≤ 128 := inb 1
  have hx0 : (x 0).val < 1 := (x 0).isLt
  have hx1 : (x 1).val < 1 := (x 1).isLt
  have e : View.readAt (Elt F) fsM.view (Rect.unit (s := S24x128) ![t, j] S1x1.size inb).toLoadRect (fsW c f0 g22) x
      = View.read (Elt F) fsM.view (fsW c f0 g22) ((Rect.unit (s := S24x128) ![t, j] S1x1.size inb).emb x) := rfl
  rw [e]
  unfold fsW
  rw [View.read_write_univ]
  unfold wdOf
  rw [dif_pos ⟨by omega, by omega⟩]
  refine congrArg f0 (funext fun a => ?_)
  match a with
  | ⟨0, _⟩ => exact Fin.ext (by show 0 + 1 * (t + 1 * (x 0).val) = t; omega)
  | ⟨1, _⟩ => exact Fin.ext (by show 0 + 1 * (j + 1 * (x 1).val) = j; omega)

theorem tail_read (c : Dev nD) (f2 : Bf (F := F) c embM) (g24 : Bf (F := F) c embmM)
    (inb : ∀ a, (![0, 0] : Fin 2 → ℕ) a + S504x256.size a ≤ S504x256.size a) :
    View.readAt (Elt F) embmM.view (Rect.unit (s := S504x256) ![0, 0] S504x256.size inb).toLoadRect (embmW c f2 g24) = tailOf c f2 := by
  funext x
  have e : View.readAt (Elt F) embmM.view (Rect.unit (s := S504x256) ![0, 0] S504x256.size inb).toLoadRect (embmW c f2 g24) x
      = View.read (Elt F) embmM.view (embmW c f2 g24) ((Rect.unit (s := S504x256) ![0, 0] S504x256.size inb).emb x) := rfl
  rw [e]
  unfold embmW
  rw [View.read_write_univ]
  unfold tailOf
  refine congrArg f2 (funext fun a => ?_)
  match a with
  | ⟨0, _⟩ => exact Fin.ext (by show 3496 + 1 * (0 + 1 * (x 0).val) = 3496 + (x 0).val; omega)
  | ⟨1, _⟩ => exact Fin.ext (by show 0 + 1 * (0 + 1 * (x 1).val) = (x 1).val; omega)

/-- Where an element of the lower window lies in the resident table. -/
theorem lo_emb (r : Fin 2048) (k : Fin 256) :
    loM.view.emb (ix2 r k) = (ix3 (⟨r.val, by omega⟩ : Fin 4001) (0 : Fin 1) k : S4001x1x256.Idx) := by
  have e : Shape.reshapeEquiv (squeezes_S2048x1x256_S2048x256).numel_eq (ix2 r k) = (ix3 r (0 : Fin 1) k : S2048x1x256.Idx) := by
    refine Shape.reshapeEquiv_eq_of_rowMajor _ ?_
    rw [Shape.rowMajor_val_three, Shape.rowMajor_val_two]
    show (r.val * 1 + 0) * 256 + k.val = r.val * 256 + k.val
    omega
  show (Rect.unit (s := S4001x1x256) ![0, 0, 0] S2048x1x256.size inb_S4001x1x256_S2048x1x256_0_0_0).emb (Shape.reshapeEquiv _ (ix2 r k)) = _
  rw [e]
  funext a
  match a with
  | ⟨0, _⟩ => exact Fin.ext (by show 0 + 1 * r.val = r.val; omega)
  | ⟨1, _⟩ => exact Fin.ext (by show 0 + 1 * 0 = 0; omega)
  | ⟨2, _⟩ => exact Fin.ext (by show 0 + 1 * k.val = k.val; omega)

/-- Where an element of the upper window lies in the resident table. -/
theorem hi_emb (r : Fin 1952) (k : Fin 256) :
    hiM.view.emb (ix2 r k) = (ix3 (⟨2048 + r.val, by omega⟩ : Fin 4001) (0 : Fin 1) k : S4001x1x256.Idx) := by
  have e : Shape.reshapeEquiv (squeezes_S1952x1x256_S1952x256).numel_eq (ix2 r k) = (ix3 r (0 : Fin 1) k : S1952x1x256.Idx) := by
    refine Shape.reshapeEquiv_eq_of_rowMajor _ ?_
    rw [Shape.rowMajor_val_three, Shape.rowMajor_val_two]
    show (r.val * 1 + 0) * 256 + k.val = r.val * 256 + k.val
    omega
  show (Rect.unit (s := S4001x1x256) ![2048, 0, 0] S1952x1x256.size inb_S4001x1x256_S1952x1x256_2048_0_0).emb (Shape.reshapeEquiv _ (ix2 r k)) = _
  rw [e]
  funext a
  match a with
  | ⟨0, _⟩ => exact Fin.ext (by show 2048 + 1 * r.val = 2048 + r.val; omega)
  | ⟨1, _⟩ => exact Fin.ext (by show 0 + 1 * 0 = 0; omega)
  | ⟨2, _⟩ => exact Fin.ext (by show 0 + 1 * k.val = k.val; omega)

/-- The resident table at a row below 4000 is the embedding array's. -/
theorem emb3W_apply (c : Dev nD) (f2 : Bf (F := F) c embM) (g19 : Bf (F := F) c emb3M) (r : Fin 4001) (hr : r.val < 4000) (k : Fin 256) :
    emb3W c f2 g19 (ix3 r (0 : Fin 1) k : S4001x1x256.Idx) = f2 (ix2 r k) := by
  by_cases h : r.val < 2048
  · have hn : (ix3 r (0 : Fin 1) k : S4001x1x256.Idx) ∉ hiM.view.setOn Finset.univ := by
      intro hm
      obtain ⟨y, -, hy⟩ := Finset.mem_map.mp hm
      obtain ⟨a, b, rfl⟩ : ∃ a b, y = ix2 a b := ⟨y 0, y 1, eq_ix2 y⟩
      have e0 := congrArg Fin.val (congrFun (hy.symm.trans (hi_emb a b)) 0)
      have e1 : r.val = 2048 + a.val := e0
      omega
    unfold emb3W
    rw [View.write_of_not_mem _ _ _ hn]
    have e := lo_emb ⟨r.val, h⟩ k
    have e' : (ix3 r (0 : Fin 1) k : S4001x1x256.Idx) = loM.view.emb (ix2 (⟨r.val, h⟩ : Fin 2048) k) := e.symm
    rw [e', View.write_emb_of_mem _ _ (Finset.mem_univ _)]
    have e2 : loE.view.emb (ix2 (⟨r.val, h⟩ : Fin 2048) k) = (ix2 r k : S4001x256.Idx) := by
      funext a
      match a with
      | ⟨0, _⟩ => exact Fin.ext (by show 0 + 1 * r.val = r.val; omega)
      | ⟨1, _⟩ => exact Fin.ext (by show 0 + 1 * k.val = k.val; omega)
    exact congrArg f2 e2
  · obtain ⟨q, hq, hq', rfl⟩ : ∃ (q : ℕ) (_ : q < 1952) (hq' : 2048 + q < 4001), r = (⟨2048 + q, hq'⟩ : Fin 4001) :=
      ⟨r.val - 2048, by omega, by omega, Fin.ext (by show r.val = 2048 + (r.val - 2048); omega)⟩
    have e' : (ix3 (⟨2048 + q, by omega⟩ : Fin 4001) (0 : Fin 1) k : S4001x1x256.Idx) = hiM.view.emb (ix2 (⟨q, hq⟩ : Fin 1952) k) :=
      (hi_emb ⟨q, hq⟩ k).symm
    unfold emb3W
    rw [e', View.write_emb_of_mem _ _ (Finset.mem_univ _)]
    have e2 : hiE.view.emb (ix2 (⟨q, hq⟩ : Fin 1952) k) = (ix2 (⟨2048 + q, by omega⟩ : Fin 4001) k : S4001x256.Idx) := by
      funext a
      match a with
      | ⟨0, _⟩ => exact Fin.ext (by show 2048 + 1 * q = 2048 + q; omega)
      | ⟨1, _⟩ => exact Fin.ext (by show 0 + 1 * k.val = k.val; omega)
    exact congrArg f2 e2

theorem row_read (c : Dev nD) (f2 : Bf (F := F) c embM) (g19 : Bf (F := F) c emb3M) (w : BitVec 32) (hw : w.toNat < 4000)
    (inb : ∀ a, (![(Scalar.indexCast w).toNat, 0, 0] : Fin 3 → ℕ) a + S1x1x256.size a ≤ S4001x1x256.size a) :
    View.readAt (Elt F) emb3M.view (Rect.unit (s := S4001x1x256) ![(Scalar.indexCast w).toNat, 0, 0] S1x1x256.size inb).toLoadRect (emb3W c f2 g19)
      = rowOf c f2 w := by
  funext x
  have ew : (Scalar.indexCast w).toNat = w.toNat := by unfold Scalar.indexCast; omega
  have hx0 : (x 0).val < 1 := (x 0).isLt
  have hx1 : (x 1).val < 1 := (x 1).isLt
  have hx2 : (x 2).val < 256 := (x 2).isLt
  have e : (Rect.unit (s := S4001x1x256) ![(Scalar.indexCast w).toNat, 0, 0] S1x1x256.size inb).emb x
      = (ix3 (⟨w.toNat % 4001, Nat.mod_lt _ (by decide)⟩ : Fin 4001) (0 : Fin 1) (⟨(x 2).val, hx2⟩ : Fin 256) : S4001x1x256.Idx) := by
    funext a
    match a with
    | ⟨0, _⟩ => exact Fin.ext (by show (Scalar.indexCast w).toNat + 1 * (x 0).val = w.toNat % 4001; omega)
    | ⟨1, _⟩ => exact Fin.ext (by show 0 + 1 * (x 1).val = 0; omega)
    | ⟨2, _⟩ => exact Fin.ext (by show 0 + 1 * (x 2).val = (x 2).val; omega)
  have e2 : View.readAt (Elt F) emb3M.view (Rect.unit (s := S4001x1x256) ![(Scalar.indexCast w).toNat, 0, 0] S1x1x256.size inb).toLoadRect (emb3W c f2 g19) x
      = emb3W c f2 g19 ((Rect.unit (s := S4001x1x256) ![(Scalar.indexCast w).toNat, 0, 0] S1x1x256.size inb).emb x) := rfl
  rw [e2, e, emb3W_apply c f2 g19 _ (by show w.toNat % 4001 < 4000; omega)]
  rfl

end Cert.KernelIdeal.Hand

end
-- ==== Proof.HandIdeal.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.HandIdeal.Facts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option sl_exec.dmaWindow true in
set_option sl_exec.lendShare "H2" in
set_option maxHeartbeats 0 in
/-- The body's run: from the inputs' blocks, the code table and the embedding rows, named by what a load of each reads,
    to the pieces it leaves in the four result blocks. -/
noncomputable def kernelRun (c : Dev nD)
    (x1 : Vec F S24x25 .i32)
    (x3 : Vec F S768x256 .f32)
    (x4 : Vec F S768x256 .f32)
    (x5 : Vec F S768 .f32)
    (x6 : Vec F S768 .f32)
    (x7 : Vec F S256x256 .f32)
    (x8 : Vec F S256 .f32)
    (x9 : Vec F S500x256 .f32)
    (x10 : Vec F S500 .f32)
    (wd : ℕ → ℕ → BitVec 32) (row : BitVec 32 → Vec F S1x1x256 .f32) (tail : Vec F S504x256 .f32)
    (hb40 : ∀ t j, j < 40 → (wd t j).toNat < 2000) (hb60 : ∀ t j, j < 60 → (wd t j).toNat < 4000) :
    { L : List (View.Piece (Elt F) S23x500 .f32) × List (View.Piece (Elt F) S23x500 .i32) × List (View.Piece (Elt F) S23x500 .f32) × List (View.Piece (Elt F) S_ .f32) //
      ∀ (M1 : Memref sig .tc .vmem S24x25 .i32) (h1 : M1.IsWhole) (M3 : Memref sig .tc .vmem S768x256 .f32) (h3 : M3.IsWhole) (M4 : Memref sig .tc .vmem S768x256 .f32) (h4 : M4.IsWhole) (M5 : Memref sig .tc .vmem S768 .f32) (h5 : M5.IsWhole) (M6 : Memref sig .tc .vmem S768 .f32) (h6 : M6.IsWhole) (M7 : Memref sig .tc .vmem S256x256 .f32) (h7 : M7.IsWhole) (M8 : Memref sig .tc .vmem S256 .f32) (h8 : M8.IsWhole) (M9 : Memref sig .tc .vmem S500x256 .f32) (h9 : M9.IsWhole) (M10 : Memref sig .tc .vmem S500 .f32) (h10 : M10.IsWhole)
        (M11 : Memref sig .tc .vmem S23x500 .f32) (h11 : M11.IsWhole) (M12 : Memref sig .tc .vmem S23x500 .i32) (h12 : M12.IsWhole) (M13 : Memref sig .tc .vmem S23x500 .f32) (h13 : M13.IsWhole) (M14 : Memref sig .tc .smem S_ .f32) (h14 : M14.IsWhole)
        (f0 : Bf (F := F) c seqM) (f2 : Bf (F := F) c embM) (f1 : Bf (F := F) c M1) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10)
        (g15 : Bf (F := F) c vembM) (g16 : Bf (F := F) c curM) (g17 : Bf (F := F) c giM) (g18 : Bf (F := F) c hsM)
        (g19 : Bf (F := F) c emb3M) (g22 : Bf (F := F) c fsM) (g24 : Bf (F := F) c embmM)
        (g11 : Bf (F := F) c M11) (g12 : Bf (F := F) c M12) (g13 : Bf (F := F) c M13) (g14 : Bf (F := F) c M14)
        (hrow : ∀ t j inb, j < 60 → View.readAt (Elt F) emb3M.view (Rect.unit (s := S4001x1x256) ![(Scalar.indexCast (wd t j)).toNat, 0, 0] S1x1x256.size inb).toLoadRect (emb3W c f2 g19) = row (wd t j))
        (hwd : ∀ t j inb, View.readAt (Elt F) fsM.view (Rect.unit (s := S24x128) ![t, j] S1x1.size inb).toLoadRect (fsW c f0 g22) = fun _ => wd t j)
        (hx1 : ∀ inb, View.readAt (Elt F) M1.view (Rect.unit (s := S24x25) ![0, 0] S24x25.size inb).toLoadRect f1 = x1)
        (hx3 : ∀ inb, View.readAt (Elt F) M3.view (Rect.unit (s := S768x256) ![0, 0] S768x256.size inb).toLoadRect f3 = x3)
        (hx4 : ∀ inb, View.readAt (Elt F) M4.view (Rect.unit (s := S768x256) ![0, 0] S768x256.size inb).toLoadRect f4 = x4)
        (hx5 : ∀ inb, View.readAt (Elt F) M5.view (Rect.unit (s := S768) ![0] S768.size inb).toLoadRect f5 = x5)
        (hx6 : ∀ inb, View.readAt (Elt F) M6.view (Rect.unit (s := S768) ![0] S768.size inb).toLoadRect f6 = x6)
        (hx7 : ∀ inb, View.readAt (Elt F) M7.view (Rect.unit (s := S256x256) ![0, 0] S256x256.size inb).toLoadRect f7 = x7)
        (hx8 : ∀ inb, View.readAt (Elt F) M8.view (Rect.unit (s := S256) ![0] S256.size inb).toLoadRect f8 = x8)
        (hx9 : ∀ inb, View.readAt (Elt F) M9.view (Rect.unit (s := S500x256) ![0, 0] S500x256.size inb).toLoadRect f9 = x9)
        (hx10 : ∀ inb, View.readAt (Elt F) M10.view (Rect.unit (s := S500) ![0] S500.size inb).toLoadRect f10 = x10)
        (htail : ∀ inb, View.readAt (Elt F) embmM.view (Rect.unit (s := S504x256) ![0, 0] S504x256.size inb).toLoadRect (embmW c f2 g24) = tail)
        (W : Waits sig Unit) (K : PUnit → sProp 𝕄),
        iprop(pt c seqM f0 ∗ pt c M1 f1 ∗ pt c embM f2 ∗ pt c M3 f3 ∗ pt c M4 f4 ∗ pt c M5 f5 ∗ pt c M6 f6 ∗ pt c M7 f7 ∗ pt c M8 f8 ∗ pt c M9 f9 ∗ pt c M10 f10
            ∗ pt c M11 g11 ∗ pt c M12 g12 ∗ pt c M13 g13 ∗ pt c M14 g14
            ∗ pt c vembM g15 ∗ pt c curM g16 ∗ pt c giM g17 ∗ pt c hsM g18 ∗ pt c emb3M g19 ∗ pt c fsM g22 ∗ pt c embmM g24
            ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0
            ∗ owes (c : Thread nD τ) 0 W
            ∗ (iprop(pt c seqM f0 ∗ pt c M1 f1 ∗ pt c embM f2 ∗ pt c M3 f3 ∗ pt c M4 f4 ∗ pt c M5 f5 ∗ pt c M6 f6 ∗ pt c M7 f7 ∗ pt c M8 f8 ∗ pt c M9 f9 ∗ pt c M10 f10
                ∗ pt c M11 (M11.view.writes (Elt F) M11.view.junk L.1) ∗ pt c M12 (M12.view.writes (Elt F) M12.view.junk L.2.1)
                ∗ pt c M13 (M13.view.writes (Elt F) M13.view.junk L.2.2.1) ∗ pt c M14 (M14.view.writes (Elt F) M14.view.junk L.2.2.2)
                ∗ (∃ f, pt c vembM f) ∗ (∃ f, pt c curM f) ∗ (∃ f, pt c giM f) ∗ (∃ f, pt c hsM f) ∗ (∃ f, pt c emb3M f)
                ∗ (∃ f, pt c fsM f) ∗ (∃ f, pt c embmM f)
                ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0
                ∗ (∃ W', owes (c : Thread nD τ) 0 W')) -∗ K ⟨⟩))
          ⊢ wp frame (wpE (defs₀ (F := F)) Variants.none c none) Set.univ
              (cc0__fused_kernel seqM (Memref.isWhole_whole _) M1 h1 embM (Memref.isWhole_whole _) M3 h3 M4 h4 M5 h5 M6 h6 M7 h7 M8 h8
                M9 h9 M10 h10 M11 h11 M12 h12 M13 h13 M14 h14 vembM (Memref.isWhole_whole _) curM (Memref.isWhole_whole _)
                giM (Memref.isWhole_whole _) hsM (Memref.isWhole_whole _) emb3M (Memref.isWhole_whole _) cc0_scratch5 cc0_scratch6
                fsM (Memref.isWhole_whole _) cc0_scratch8 embmM (Memref.isWhole_whole _) cc0_scratch10) K } := by
  refine ⟨⟨?_, ?_, ?_, ?_⟩, ?run⟩
  case run =>
    intro M1 h1 M3 h3 M4 h4 M5 h5 M6 h6 M7 h7 M8 h8 M9 h9 M10 h10 M11 h11 M12 h12 M13 h13 M14 h14
      f0 f2 f1 f3 f4 f5 f6 f7 f8 f9 f10 g15 g16 g17 g18 g19 g22 g24 g11 g12 g13 g14
      hrow hwd hx1 hx3 hx4 hx5 hx6 hx7 hx8 hx9 hx10 htail W K
    iintro ⟨H0, H1, H2, H3, H4, H5, H6, H7, H8, H9, H10, H11, H12, H13, H14, H15, H16, H17, H18, H19, H22, H24, Hq0, Hq1, Hq2, Hq3, HW, Hk⟩
    sl_exec_parts! (disch := first | exact chk_of_lt _ (hb60 _ _ (by decide)) | exact disj_row c _ (hb40 _ _ (by decide)) _ _)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H22]; · iexists _; iexact H22
    isplitl [H24]; · iexists _; iexact H24
    isplitl [Hq0]; · iexact Hq0
    isplitl [Hq1]; · iexact Hq1
    isplitl [Hq2]; · iexact Hq2
    isplitl [Hq3]; · iexact Hq3
    iexists _; iexact HW

end Cert.KernelIdeal.Hand

end
-- ==== Proof.HandIdeal.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.HandIdeal.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The launch's set-up, at the proof's user algebra -/

abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the gathers need of the code table: the first forty codes of a visit lie below 2000, the first sixty below 4000. -/
def Bounds : Prop := ∀ c : Dev nD, (∀ t j, j < 40 → (wdOf c (V m c main_arg0) t j).toNat < 2000) ∧ (∀ t j, j < 60 → (wdOf c (V m c main_arg0) t j).toNat < 4000)

abbrev osem0 : Fin 4 → SemLoc sig := fun j => (![SemLoc.dma 13, SemLoc.dma 14, SemLoc.dma 15, SemLoc.dma 16] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0
          ∗ semVal ((c : Thread nD τ), SemLoc.dma 15) 0 ∗ semVal ((c : Thread nD τ), SemLoc.dma 16) 0) := by
  rw [Pipeline.ownSems0_eq_of_list c osem0 [0, 1, 2, 3] (by decide) (by decide)]; rfl

/-- The arrays the body's own copies read: the sequence array and the embedding array. -/
def H0 : Finset (Ref sig .tc) := {main_arg0, main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c seqM (V m c main_arg0) ∗ pt c embM (V m c main_arg3)) := by
  rw [BI.bigSep_eq_bigSepL_of_eq [main_arg0, main_arg3] (by decide) (by decide)]; rfl

theorem PhiD0_eq (c : Dev nD) :
    (Pipeline.ΦD osem0 spec0 H0 (V m) c : sProp 𝕄)
      = iprop(iprop((∃ f, pt c vembM f) ∗ (∃ f, pt c curM f) ∗ (∃ f, pt c giM f) ∗ (∃ f, pt c hsM f) ∗ (∃ f, pt c emb3M f)
                ∗ (∃ f, pt c embmM f) ∗ (∃ f, pt c fsM f))
          ∗ (∃ r, prngReg c r)
          ∗ iprop(semVal ((c : Thread nD τ), SemLoc.dma 13) 0 ∗ semVal ((c : Thread nD τ), SemLoc.dma 14) 0
              ∗ semVal ((c : Thread nD τ), SemLoc.dma 15) 0 ∗ semVal ((c : Thread nD τ), SemLoc.dma 16) 0)
          ∗ iprop(pt c seqM (V m c main_arg0) ∗ pt c embM (V m c main_arg3))) := by
  rw [Pipeline.ΦD_eq, scopedRest0_eq, ownSems00_eq, hbmPts0_eq]

/-- A whole buffer owned by what its memref reads, as the buffer held at some contents. -/
theorem owns_pt (c : Dev nD) {sp : Space} {S : Shape} {e : EltTy} (M : Memref sig .tc sp S e) (h : M.IsWhole) (d : S.Idx → Elt F e) :
    (owns (c : Thread nD τ) M fullShare d : sProp 𝕄) = iprop(∃ f : Bf (F := F) c M, ⌜M.view.read (Elt F) f = d⌝ ∗ pt c M f) := by
  unfold owns
  rw [h.set_eq_univ]

theorem owns_open (c : Dev nD) {sp : Space} {S : Shape} {e : EltTy} (M : Memref sig .tc sp S e) (h : M.IsWhole) (d : S.Idx → Elt F e) :
    (owns (c : Thread nD τ) M fullShare d : sProp 𝕄) ⊢ iprop(∃ f : Bf (F := F) c M, ⌜M.view.read (Elt F) f = d⌝ ∗ pt c M f) := by
  rw [owns_pt c M h]

theorem owns_close (c : Dev nD) {sp : Space} {S : Shape} {e : EltTy} (M : Memref sig .tc sp S e) (h : M.IsWhole) (d : S.Idx → Elt F e)
    (f : Bf (F := F) c M) (r : M.view.read (Elt F) f = d) : pt c M f ⊢ (owns (c : Thread nD τ) M fullShare d : sProp 𝕄) := by
  rw [owns_pt c M h]
  iintro H
  iexists f
  isplitr
  · ipureintro; exact r
  iexact H

/-- A block held at covering writes over anything is owned at what the writes spell. -/
theorem owns_of_writes (c : Dev nD) {sp : Space} {S : Shape} {e : EltTy} (M : Memref sig .tc sp S e) (h : M.IsWhole) (L : List (View.Piece (Elt F) S e))
    {sp' : Space} (V' : View sig .tc sp' S e) (hL : ∀ y : S.Idx, ∃ p ∈ L, y ∈ p.1.set) :
    pt c M (M.view.writes (Elt F) M.view.junk L) ⊢ (owns (c : Thread nD τ) M fullShare (V'.read (Elt F) (V'.writes (Elt F) V'.junk L)) : sProp 𝕄) := by
  rw [owns_pt c M h]
  iintro H
  iexists _
  isplitr
  swap; · iexact H
  ipureintro; exact View.read_writes_of_cover _ _ _ _ _ hL

/-! ## The body's results -/

/-- The pieces the body leaves in the four result blocks. -/
noncomputable def pieces (hp : Bounds m) (c : Dev nD) (t : Fin cfg0.N) :
    List (View.Piece (Elt F) S23x500 .f32) × List (View.Piece (Elt F) S23x500 .i32) × List (View.Piece (Elt F) S23x500 .f32) × List (View.Piece (Elt F) S_ .f32) :=
  (kernelRun c (iblk m c 0 t) (iblk m c 1 t) (iblk m c 2 t) (iblk m c 3 t) (iblk m c 4 t) (iblk m c 5 t) (iblk m c 6 t) (iblk m c 7 t) (iblk m c 8 t) (wdOf c (V m c main_arg0)) (rowOf c (V m c main_arg3)) (tailOf c (V m c main_arg3)) (hp c).1 (hp c).2).1

abbrev VO9 : View sig .tc .vmem S23x500 .f32 := (Memref.whole cc0_stg9_0 : Memref sig .tc .vmem S23x500 .f32).view
abbrev VO10 : View sig .tc .vmem S23x500 .i32 := (Memref.whole cc0_stg10_0 : Memref sig .tc .vmem S23x500 .i32).view
abbrev VO11 : View sig .tc .vmem S23x500 .f32 := (Memref.whole cc0_stg11_0 : Memref sig .tc .vmem S23x500 .f32).view
abbrev VO12 : View sig .tc .smem S_ .f32 := (Memref.whole cc0_stg12_0 : Memref sig .tc .smem S_ .f32).view
theorem cover9 (hp : Bounds m) (c : Dev nD) (t : Fin cfg0.N) (y : S23x500.Idx) : ∃ p ∈ (pieces m hp c t).1, y ∈ p.1.set :=
  View.cover_of_tiledL (pieces m hp c t).1 S23x500.size (by sl_kernel_rfl) y
theorem cover10 (hp : Bounds m) (c : Dev nD) (t : Fin cfg0.N) (y : S23x500.Idx) : ∃ p ∈ (pieces m hp c t).2.1, y ∈ p.1.set :=
  View.cover_of_tiledL (pieces m hp c t).2.1 S23x500.size (by sl_kernel_rfl) y
theorem cover11 (hp : Bounds m) (c : Dev nD) (t : Fin cfg0.N) (y : S23x500.Idx) : ∃ p ∈ (pieces m hp c t).2.2.1, y ∈ p.1.set :=
  View.cover_of_tiledL (pieces m hp c t).2.2.1 S23x500.size (by sl_kernel_rfl) y
theorem cover12 (hp : Bounds m) (c : Dev nD) (t : Fin cfg0.N) (y : S_.Idx) : ∃ p ∈ (pieces m hp c t).2.2.2, y ∈ p.1.set :=
  View.cover_of_tiledL (pieces m hp c t).2.2.2 S_.size (by sl_kernel_rfl) y
/-- The contents of result block 0 after the body. -/
noncomputable def out9 (hp : Bounds m) (c : Dev nD) (t : Fin cfg0.N) : Vec F S23x500 .f32 := VO9.read (Elt F) (VO9.writes (Elt F) VO9.junk (pieces m hp c t).1)
/-- The contents of result block 1 after the body. -/
noncomputable def out10 (hp : Bounds m) (c : Dev nD) (t : Fin cfg0.N) : Vec F S23x500 .i32 := VO10.read (Elt F) (VO10.writes (Elt F) VO10.junk (pieces m hp c t).2.1)
/-- The contents of result block 2 after the body. -/
noncomputable def out11 (hp : Bounds m) (c : Dev nD) (t : Fin cfg0.N) : Vec F S23x500 .f32 := VO11.read (Elt F) (VO11.writes (Elt F) VO11.junk (pieces m hp c t).2.2.1)
/-- The contents of result block 3 after the body. -/
noncomputable def out12 (hp : Bounds m) (c : Dev nD) (t : Fin cfg0.N) : Vec F S_ .f32 := VO12.read (Elt F) (VO12.writes (Elt F) VO12.junk (pieces m hp c t).2.2.2)

noncomputable def dats (hp : Bounds m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m hp c t
    | ⟨10, _⟩ => out10 m hp c t
    | ⟨11, _⟩ => out11 m hp c t
    | ⟨12, _⟩ => out12 m hp c t
  Φ _ := Pipeline.ΦD osem0 spec0 H0 (V m) c
  q _ := fullShare
  owed _ := 0

variable (hp : Bounds m)

theorem A_eq (c : Dev nD) (w : Fin cfg0.W) : (dats m hp 0 c).A w = V m c (Pipeline.arrRef spec0 w) := by
  dsimp only [dats]
theorem after0 (c : Dev nD) (t : Fin cfg0.N) : (dats m hp 0 c).after 0 t = iblk m c 0 t := by dsimp only [dats]
theorem after1 (c : Dev nD) (t : Fin cfg0.N) : (dats m hp 0 c).after 1 t = iblk m c 1 t := by dsimp only [dats]
theorem after2 (c : Dev nD) (t : Fin cfg0.N) : (dats m hp 0 c).after 2 t = iblk m c 2 t := by dsimp only [dats]
theorem after3 (c : Dev nD) (t : Fin cfg0.N) : (dats m hp 0 c).after 3 t = iblk m c 3 t := by dsimp only [dats]
theorem after4 (c : Dev nD) (t : Fin cfg0.N) : (dats m hp 0 c).after 4 t = iblk m c 4 t := by dsimp only [dats]
theorem after5 (c : Dev nD) (t : Fin cfg0.N) : (dats m hp 0 c).after 5 t = iblk m c 5 t := by dsimp only [dats]
theorem after6 (c : Dev nD) (t : Fin cfg0.N) : (dats m hp 0 c).after 6 t = iblk m c 6 t := by dsimp only [dats]
theorem after7 (c : Dev nD) (t : Fin cfg0.N) : (dats m hp 0 c).after 7 t = iblk m c 7 t := by dsimp only [dats]
theorem after8 (c : Dev nD) (t : Fin cfg0.N) : (dats m hp 0 c).after 8 t = iblk m c 8 t := by dsimp only [dats]
theorem after9 (c : Dev nD) (t : Fin cfg0.N) : (dats m hp 0 c).after 9 t = out9 m hp c t := by dsimp only [dats]
theorem after10 (c : Dev nD) (t : Fin cfg0.N) : (dats m hp 0 c).after 10 t = out10 m hp c t := by dsimp only [dats]
theorem after11 (c : Dev nD) (t : Fin cfg0.N) : (dats m hp 0 c).after 11 t = out11 m hp c t := by dsimp only [dats]
theorem after12 (c : Dev nD) (t : Fin cfg0.N) : (dats m hp 0 c).after 12 t = out12 m hp c t := by dsimp only [dats]
theorem before0 (c : Dev nD) (t : Fin cfg0.N) (d) : (dats m hp 0 c).before 0 t d = iblk m c 0 t :=
  ((dats m hp 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m hp 0 c).before 1 t d = iblk m c 1 t :=
  ((dats m hp 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m hp 0 c).before 2 t d = iblk m c 2 t :=
  ((dats m hp 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m hp 0 c).before 3 t d = iblk m c 3 t :=
  ((dats m hp 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m hp 0 c).before 4 t d = iblk m c 4 t :=
  ((dats m hp 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m hp 0 c).before 5 t d = iblk m c 5 t :=
  ((dats m hp 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m hp 0 c).before 6 t d = iblk m c 6 t :=
  ((dats m hp 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m hp 0 c).before 7 t d = iblk m c 7 t :=
  ((dats m hp 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m hp 0 c).before 8 t d = iblk m c 8 t :=
  ((dats m hp 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m hp 0 c).Φ t.castSucc ∗ (dats m hp 0 c).owesAt () t.castSucc
    ∗ (∃ d, owns (c : Thread nD τ) (win0_0.stage (cfg0.slots t 0)) fullShare ((dats m hp 0 c).before 0 t d))
    ∗ (∃ d, owns (c : Thread nD τ) (win0_1.stage (cfg0.slots t 1)) fullShare ((dats m hp 0 c).before 1 t d))
    ∗ (∃ d, owns (c : Thread nD τ) (win0_2.stage (cfg0.slots t 2)) fullShare ((dats m hp 0 c).before 2 t d))
    ∗ (∃ d, owns (c : Thread nD τ) (win0_3.stage (cfg0.slots t 3)) fullShare ((dats m hp 0 c).before 3 t d))
    ∗ (∃ d, owns (c : Thread nD τ) (win0_4.stage (cfg0.slots t 4)) fullShare ((dats m hp 0 c).before 4 t d))
    ∗ (∃ d, owns (c : Thread nD τ) (win0_5.stage (cfg0.slots t 5)) fullShare ((dats m hp 0 c).before 5 t d))
    ∗ (∃ d, owns (c : Thread nD τ) (win0_6.stage (cfg0.slots t 6)) fullShare ((dats m hp 0 c).before 6 t d))
    ∗ (∃ d, owns (c : Thread nD τ) (win0_7.stage (cfg0.slots t 7)) fullShare ((dats m hp 0 c).before 7 t d))
    ∗ (∃ d, owns (c : Thread nD τ) (win0_8.stage (cfg0.slots t 8)) fullShare ((dats m hp 0 c).before 8 t d))
    ∗ (∃ d, owns (c : Thread nD τ) (win0_9.stage (cfg0.slots t 9)) fullShare ((dats m hp 0 c).before 9 t d))
    ∗ (∃ d, owns (c : Thread nD τ) (win0_10.stage (cfg0.slots t 10)) fullShare ((dats m hp 0 c).before 10 t d))
    ∗ (∃ d, owns (c : Thread nD τ) (win0_11.stage (cfg0.slots t 11)) fullShare ((dats m hp 0 c).before 11 t d))
    ∗ (∃ d, owns (c : Thread nD τ) (win0_12.stage (cfg0.slots t 12)) fullShare ((dats m hp 0 c).before 12 t d)))
def bodyPost (c : Dev nD) (t : Fin cfg0.N) : sProp 𝕄 :=
  iprop((dats m hp 0 c).Φ t.succ ∗ (dats m hp 0 c).owesAt () t.succ
    ∗ owns (c : Thread nD τ) (win0_0.stage (cfg0.slots t 0)) fullShare ((dats m hp 0 c).after 0 t)
    ∗ owns (c : Thread nD τ) (win0_1.stage (cfg0.slots t 1)) fullShare ((dats m hp 0 c).after 1 t)
    ∗ owns (c : Thread nD τ) (win0_2.stage (cfg0.slots t 2)) fullShare ((dats m hp 0 c).after 2 t)
    ∗ owns (c : Thread nD τ) (win0_3.stage (cfg0.slots t 3)) fullShare ((dats m hp 0 c).after 3 t)
    ∗ owns (c : Thread nD τ) (win0_4.stage (cfg0.slots t 4)) fullShare ((dats m hp 0 c).after 4 t)
    ∗ owns (c : Thread nD τ) (win0_5.stage (cfg0.slots t 5)) fullShare ((dats m hp 0 c).after 5 t)
    ∗ owns (c : Thread nD τ) (win0_6.stage (cfg0.slots t 6)) fullShare ((dats m hp 0 c).after 6 t)
    ∗ owns (c : Thread nD τ) (win0_7.stage (cfg0.slots t 7)) fullShare ((dats m hp 0 c).after 7 t)
    ∗ owns (c : Thread nD τ) (win0_8.stage (cfg0.slots t 8)) fullShare ((dats m hp 0 c).after 8 t)
    ∗ owns (c : Thread nD τ) (win0_9.stage (cfg0.slots t 9)) fullShare ((dats m hp 0 c).after 9 t)
    ∗ owns (c : Thread nD τ) (win0_10.stage (cfg0.slots t 10)) fullShare ((dats m hp 0 c).after 10 t)
    ∗ owns (c : Thread nD τ) (win0_11.stage (cfg0.slots t 11)) fullShare ((dats m hp 0 c).after 11 t)
    ∗ owns (c : Thread nD τ) (win0_12.stage (cfg0.slots t 12)) fullShare ((dats m hp 0 c).after 12 t))

set_option maxHeartbeats 4000000 in
theorem sound_body (c : Dev nD) (t : Fin cfg0.N) :
    bodyPre m hp c t ⊢ wp frame (wpE (defs₀ (F := F)) Variants.none c none) Set.univ (bodyAt0 t) (fun _ => bodyPost m hp c t) := by
  unfold bodyPre bodyPost bodyAt0
  rw [show (dats m hp 0 c).Φ t.succ = (dats m hp 0 c).Φ t.castSucc from rfl, after0, after1, after2, after3, after4, after5, after6, after7, after8, after9, after10, after11, after12]
  simp only [before0, before1, before2, before3, before4, before5, before6, before7, before8]
  rw [show (dats m hp 0 c).Φ t.castSucc = Pipeline.ΦD osem0 spec0 H0 (V m) c from rfl, PhiD0_eq]
  unfold Dat.owesAt Pipeline.owesWithin
  rw [show (dats m hp 0 c).owed t.castSucc = 0 from rfl, show (dats m hp 0 c).owed t.succ = 0 from rfl]
  iintro ⟨⟨⟨⟨%g15, H15⟩, ⟨%g16, H16⟩, ⟨%g17, H17⟩, ⟨%g18, H18⟩, ⟨%g19, H19⟩, ⟨%g24, H24⟩, ⟨%g22, H22⟩⟩, Hg, ⟨Hq0, Hq1, Hq2, Hq3⟩, ⟨H0, H2⟩⟩, ⟨%W, -, HW⟩, ⟨%e0, O0⟩, ⟨%e1, O1⟩, ⟨%e2, O2⟩, ⟨%e3, O3⟩, ⟨%e4, O4⟩, ⟨%e5, O5⟩, ⟨%e6, O6⟩, ⟨%e7, O7⟩, ⟨%e8, O8⟩, ⟨%e9, O9⟩, ⟨%e10, O10⟩, ⟨%e11, O11⟩, ⟨%e12, O12⟩⟩
  ihave P0 := (owns_open c (win0_0.stage (cfg0.slots t 0)) (hstage0_0 0) _) $$ O0
  icases P0 with ⟨%f0, %r0, O0⟩
  ihave P1 := (owns_open c (win0_1.stage (cfg0.slots t 1)) (hstage0_1 0) _) $$ O1
  icases P1 with ⟨%f1, %r1, O1⟩
  ihave P2 := (owns_open c (win0_2.stage (cfg0.slots t 2)) (hstage0_2 0) _) $$ O2
  icases P2 with ⟨%f2, %r2, O2⟩
  ihave P3 := (owns_open c (win0_3.stage (cfg0.slots t 3)) (hstage0_3 0) _) $$ O3
  icases P3 with ⟨%f3, %r3, O3⟩
  ihave P4 := (owns_open c (win0_4.stage (cfg0.slots t 4)) (hstage0_4 0) _) $$ O4
  icases P4 with ⟨%f4, %r4, O4⟩
  ihave P5 := (owns_open c (win0_5.stage (cfg0.slots t 5)) (hstage0_5 0) _) $$ O5
  icases P5 with ⟨%f5, %r5, O5⟩
  ihave P6 := (owns_open c (win0_6.stage (cfg0.slots t 6)) (hstage0_6 0) _) $$ O6
  icases P6 with ⟨%f6, %r6, O6⟩
  ihave P7 := (owns_open c (win0_7.stage (cfg0.slots t 7)) (hstage0_7 0) _) $$ O7
  icases P7 with ⟨%f7, %r7, O7⟩
  ihave P8 := (owns_open c (win0_8.stage (cfg0.slots t 8)) (hstage0_8 0) _) $$ O8
  icases P8 with ⟨%f8, %r8, O8⟩
  ihave P9 := (owns_open c (win0_9.stage (cfg0.slots t 9)) (hstage0_9 0) _) $$ O9
  icases P9 with ⟨%f9, %r9, O9⟩
  ihave P10 := (owns_open c (win0_10.stage (cfg0.slots t 10)) (hstage0_10 0) _) $$ O10
  icases P10 with ⟨%f10, %r10, O10⟩
  ihave P11 := (owns_open c (win0_11.stage (cfg0.slots t 11)) (hstage0_11 0) _) $$ O11
  icases P11 with ⟨%f11, %r11, O11⟩
  ihave P12 := (owns_open c (win0_12.stage (cfg0.slots t 12)) (hstage0_12 0) _) $$ O12
  icases P12 with ⟨%f12, %r12, O12⟩
  iapply ((kernelRun c (iblk m c 0 t) (iblk m c 1 t) (iblk m c 2 t) (iblk m c 3 t) (iblk m c 4 t) (iblk m c 5 t) (iblk m c 6 t) (iblk m c 7 t) (iblk m c 8 t) (wdOf c (V m c main_arg0)) (rowOf c (V m c main_arg3)) (tailOf c (V m c main_arg3)) (hp c).1 (hp c).2).2
    (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (win0_11.stage (cfg0.slots t 11)) (hstage0_11 0) (win0_12.stage (cfg0.slots t 12)) (hstage0_12 0) (V m c main_arg0) (V m c main_arg3) f0 f1 f2 f3 f4 f5 f6 f7 f8 g15 g16 g17 g18 g19 g22 g24 f9 f10 f11 f12
    (fun t j inb hj => row_read c _ _ _ ((hp c).2 t j hj) inb) (fun t j inb => fs_read c _ _ t j inb)
    (fun inb => (View.readAt_full _ _ inb).trans r0) (fun inb => (View.readAt_full _ _ inb).trans r1) (fun inb => (View.readAt_full _ _ inb).trans r2) (fun inb => (View.readAt_full _ _ inb).trans r3) (fun inb => (View.readAt_full _ _ inb).trans r4) (fun inb => (View.readAt_full _ _ inb).trans r5) (fun inb => (View.readAt_full _ _ inb).trans r6) (fun inb => (View.readAt_full _ _ inb).trans r7) (fun inb => (View.readAt_full _ _ inb).trans r8)
    (fun inb => tail_read c _ _ inb) W _)
  isplitl [H0]; · iexact H0
  isplitl [O0]; · iexact O0
  isplitl [H2]; · iexact H2
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [H15]; · iexact H15
  isplitl [H16]; · iexact H16
  isplitl [H17]; · iexact H17
  isplitl [H18]; · iexact H18
  isplitl [H19]; · iexact H19
  isplitl [H22]; · iexact H22
  isplitl [H24]; · iexact H24
  isplitl [Hq0]; · iexact Hq0
  isplitl [Hq1]; · iexact Hq1
  isplitl [Hq2]; · iexact Hq2
  isplitl [Hq3]; · iexact Hq3
  isplitl [HW]; · iexact HW
  iintro ⟨H0, O0, H2, O1, O2, O3, O4, O5, O6, O7, O8, O9, O10, O11, O12, H15, H16, H17, H18, H19, H22, H24, Hq0, Hq1, Hq2, Hq3, ⟨%W', HW'⟩⟩
  isplitl [H15 H16 H17 H18 H19 H24 H22 Hg Hq0 Hq1 Hq2 Hq3 H0 H2]
  · isplitl [H15 H16 H17 H18 H19 H24 H22]
    · isplitl [H15]; · iexact H15
      isplitl [H16]; · iexact H16
      isplitl [H17]; · iexact H17
      isplitl [H18]; · iexact H18
      isplitl [H19]; · iexact H19
      isplitl [H24]; · iexact H24
      iexact H22
    isplitl [Hg]; · iexact Hg
    isplitl [Hq0 Hq1 Hq2 Hq3]
    · isplitl [Hq0]; · iexact Hq0
      isplitl [Hq1]; · iexact Hq1
      isplitl [Hq2]; · iexact Hq2
      iexact Hq3
    isplitl [H0]; · iexact H0
    iexact H2
  isplitl [HW']
  · iexists W'; isplitr; · ipureintro; exact fun _ _ => Or.inl trivial
    iexact HW'
  isplitl [O0]
  · iapply (owns_close c (win0_0.stage (cfg0.slots t 0)) (hstage0_0 0) _ f0 r0); iexact O0
  isplitl [O1]
  · iapply (owns_close c (win0_1.stage (cfg0.slots t 1)) (hstage0_1 0) _ f1 r1); iexact O1
  isplitl [O2]
  · iapply (owns_close c (win0_2.stage (cfg0.slots t 2)) (hstage0_2 0) _ f2 r2); iexact O2
  isplitl [O3]
  · iapply (owns_close c (win0_3.stage (cfg0.slots t 3)) (hstage0_3 0) _ f3 r3); iexact O3
  isplitl [O4]
  · iapply (owns_close c (win0_4.stage (cfg0.slots t 4)) (hstage0_4 0) _ f4 r4); iexact O4
  isplitl [O5]
  · iapply (owns_close c (win0_5.stage (cfg0.slots t 5)) (hstage0_5 0) _ f5 r5); iexact O5
  isplitl [O6]
  · iapply (owns_close c (win0_6.stage (cfg0.slots t 6)) (hstage0_6 0) _ f6 r6); iexact O6
  isplitl [O7]
  · iapply (owns_close c (win0_7.stage (cfg0.slots t 7)) (hstage0_7 0) _ f7 r7); iexact O7
  isplitl [O8]
  · iapply (owns_close c (win0_8.stage (cfg0.slots t 8)) (hstage0_8 0) _ f8 r8); iexact O8
  isplitl [O9]
  · iapply (owns_of_writes c (win0_9.stage (cfg0.slots t 9)) (hstage0_9 0) (pieces m hp c t).1 VO9 (cover9 m hp c t)); iexact O9
  isplitl [O10]
  · iapply (owns_of_writes c (win0_10.stage (cfg0.slots t 10)) (hstage0_10 0) (pieces m hp c t).2.1 VO10 (cover10 m hp c t)); iexact O10
  isplitl [O11]
  · iapply (owns_of_writes c (win0_11.stage (cfg0.slots t 11)) (hstage0_11 0) (pieces m hp c t).2.2.1 VO11 (cover11 m hp c t)); iexact O11
  iapply (owns_of_writes c (win0_12.stage (cfg0.slots t 12)) (hstage0_12 0) (pieces m hp c t).2.2.2 VO12 (cover12 m hp c t)); iexact O12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hp 0 c) (defs₀ (F := F)) Variants.none () Set.univ := fun t => by
  rw [bigSep_W0, bigSep_W0, defs₀_row]
  exact triple_restated (sound_body m hp c t) rfl .rfl fun _ => .rfl

/-! ## The run and the frame -/

set_option backward.isDefEq.respectTransparency.types false in
theorem run_main : θ_run defs (onTc (τ := τ) (main (F := F))) (s₀ m ρ) (fun r => Pipeline.FramePost cfgs (dats m hp) 0 (V m) r ∧ r.2.sem = fun _ => 0) :=
  Pipeline.θ_run_frame_dma (Q' := _) cfgs (dats m hp) (0 : Fin 1) launch0 osem0 defs₀ Variants.none ownSemFacts0 H0 H0_sub m ρ main
    (hbody := fun c => (body_obligation m hp c).loose) (hshare := fun c => (dats m hp 0 c).share_full fun _ => rfl)
    (howed := fun _ _ => rfl) (V := V m) (hmain := hmain m Variants.none) (hA := A_eq m hp)
    (hin := fun _ => .rfl) (hout := fun _ => .rfl)

/-- The run with every array named: the arguments as launched, the results as the body left them, every counter at zero. -/
theorem run_all : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.mem ((c.tc : Thread nD τ).loc main_v0_0) = (dats m hp 0 c).arrAt 9 cfg0.N
      ∧ r.2.mem ((c.tc : Thread nD τ).loc main_v0_1) = (dats m hp 0 c).arrAt 10 cfg0.N
      ∧ r.2.mem ((c.tc : Thread nD τ).loc main_v0_2) = (dats m hp 0 c).arrAt 11 cfg0.N
      ∧ r.2.mem ((c.tc : Thread nD τ).loc main_v0_3) = (dats m hp 0 c).arrAt 12 cfg0.N)
      ∧ r.2.sem = fun _ => 0) :=
  (θ_run defs _ _).mono (fun r h => ⟨fun c => ⟨⟨(h.1 c).2 main_arg0 (Pipeline.mem_restRefs_of main_arg0 (by decide) (by decide)),
      (h.1 c).2 main_arg1 (Pipeline.mem_restRefs_of main_arg1 (by decide) (by decide)),
      ((h.1 c).1 0).trans (((dats m hp 0 c).arrAt_in 0 rfl _).trans (A_eq m hp c 0)),
      (h.1 c).2 main_arg3 (Pipeline.mem_restRefs_of main_arg3 (by decide) (by decide)),
      (h.1 c).2 main_arg4 (Pipeline.mem_restRefs_of main_arg4 (by decide) (by decide)),
      (h.1 c).2 main_arg5 (Pipeline.mem_restRefs_of main_arg5 (by decide) (by decide)),
      (h.1 c).2 main_arg6 (Pipeline.mem_restRefs_of main_arg6 (by decide) (by decide)),
      (h.1 c).2 main_arg7 (Pipeline.mem_restRefs_of main_arg7 (by decide) (by decide)),
      ((h.1 c).1 1).trans (((dats m hp 0 c).arrAt_in 1 rfl _).trans (A_eq m hp c 1)),
      ((h.1 c).1 2).trans (((dats m hp 0 c).arrAt_in 2 rfl _).trans (A_eq m hp c 2)),
      ((h.1 c).1 3).trans (((dats m hp 0 c).arrAt_in 3 rfl _).trans (A_eq m hp c 3)),
      ((h.1 c).1 4).trans (((dats m hp 0 c).arrAt_in 4 rfl _).trans (A_eq m hp c 4)),
      (h.1 c).2 main_arg12 (Pipeline.mem_restRefs_of main_arg12 (by decide) (by decide)),
      (h.1 c).2 main_arg13 (Pipeline.mem_restRefs_of main_arg13 (by decide) (by decide)),
      ((h.1 c).1 5).trans (((dats m hp 0 c).arrAt_in 5 rfl _).trans (A_eq m hp c 5)),
      ((h.1 c).1 6).trans (((dats m hp 0 c).arrAt_in 6 rfl _).trans (A_eq m hp c 6)),
      ((h.1 c).1 7).trans (((dats m hp 0 c).arrAt_in 7 rfl _).trans (A_eq m hp c 7)),
      ((h.1 c).1 8).trans (((dats m hp 0 c).arrAt_in 8 rfl _).trans (A_eq m hp c 8))⟩,
      (h.1 c).1 9, (h.1 c).1 10, (h.1 c).1 11, (h.1 c).1 12⟩, h.2⟩) (run_main m ρ hp)

end Cert.KernelIdeal.Hand

end
-- ==== Proof.HandIdeal.FrameClaim.lean ====
/- The frame of `KernelIdeal`: the precondition bounds the codes the gathers read, so the run is fault-free. -/
module

public import proofs.«01_k».proof.Defs
public import proofs.«01_k».proof.Proof.HandIdeal.Run
public import proofs.«01_k».proof.Proof.Ref.Pre

@[expose] public section

namespace Cert.KernelIdeal.Hand

open Cert.KernelIdeal Cert.KernelIdeal.Gen
open Idealize.ShloMosaic Idealize.ShloMosaic.TcCoe Idealize.ShloMosaic.ValueIdx Idealize.SL.Sem

/-- The precondition bounds the codes. -/
theorem bounds_of_pre (m : (ℓ : Loc nD τ sig) → Buf (Elt Ideal) ℓ) (h : Cert.Pre_KernelIdeal m) : Bounds m := by
  intro c
  have hd := fun t j hj => Visits.diag_lt (F := Ideal) (h c) t (⟨j, hj⟩ : Fin 40)
  have hq := fun t j hj => Visits.proc_lt (F := Ideal) (h c) t (⟨j, hj⟩ : Fin 20)
  have h40 : ∀ t j, j < 40 → (wdOf c (V m c main_arg0) t j).toNat < 2000 := by
    intro t j hj
    unfold wdOf
    split
    · next ht => exact hd ⟨t, ht.1⟩ j hj
    · decide
  refine ⟨h40, fun t j hj => ?_⟩
  by_cases h4 : j < 40
  · exact lt_trans (h40 t j h4) (by decide)
  · unfold wdOf
    split
    · next ht =>
      have := (hq ⟨t, ht.1⟩ (j - 40) (by omega)).2
      simp only [show 40 + (j - 40) = j by omega] at this
      exact lt_trans this (by decide)
    · decide

/-- The kernel's frame. -/
theorem frame_claim : Cert.quiescent_KernelIdeal := fun m ρ h =>
  (θ_run Cert.KernelIdeal.defs _ _).mono (fun _ hr => ⟨fun c => (hr.1 c).1, hr.2⟩) (run_all m ρ (bounds_of_pre m h))

end Cert.KernelIdeal.Hand
-- ==== Proof.Ref.Frame.lean ====
/- The reference's run read at single buffers: an argument ends as it was launched (no operation writes it), so the
   reference's frame holds; the machine has no semaphore. -/
module

public import proofs.«01_k».proof.Defs
public import proofs.«01_k».proof.Proof.Gen.ReferenceIdeal.Run
public import proofs.«01_k».proof.Proof.Gen.Pre_visits_as_drawn
public import Idealize.ShloMosaic.Adequacy
public import Idealize.ShloMosaic.Init

@[expose] public section

set_option maxRecDepth 4000

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F] (m : (ℓ : Loc nD τ sig) → Buf (Elt F) ℓ) (ρ : Dev nD → PrngReg)

/-- The reference each operation of `hostOps0_1` writes, in order. -/
abbrev hostOps0_1_W : List (Ref sig .tc) := [main_v23, main_v24, main_v25, main_v26, main_v27, main_cst_5, main_v28, main_cst_6, main_v29, main_v30, main_v31, main_v32, main_v33, main_cst_7, main_v34, main_v35, main_v36, main_v37, main_v38, main_v39, main_v40, main_v41, main_v42, main_v43, main_v44, main_v45]
theorem hostOps0_1_writes : (hostOps0_1 : List (HloOp τ sig (Elt F))).Forall fun op => op.writes ⊆ (hostOps0_1_W.map (Proc.devRef (τ := τ) .tc)).toFinset :=
  StableHlo.forall_writes_sub_of_map rfl

/-- The reference each operation of `hostOps0_2` writes, in order. -/
abbrev hostOps0_2_W : List (Ref sig .tc) := [main_call4_call0_cst, main_call4_call0_v0, main_v46]
theorem hostOps0_2_writes : (hostOps0_2 : List (HloOp τ sig (Elt F))).Forall fun op => op.writes ⊆ (hostOps0_2_W.map (Proc.devRef (τ := τ) .tc)).toFinset :=
  StableHlo.forall_writes_sub_of_map rfl

/-- The reference each operation of `hostOps0_3` writes, in order. -/
abbrev hostOps0_3_W : List (Ref sig .tc) := [main_v47, main_c_8, main_v48, main_v49, main_c_9, main_v50, main_v51, main_v52, main_v53, main_v54, main_cst_10, main_v55, main_v56, main_v57, main_v58, main_v59, main_v60, main_v61, main_v62, main_v63, main_cst_11, main_v64, main_v65, main_cst_12, main_v66, main_v67, main_v68, main_cst_13, main_v69, main_v70, main_v71, main_c_14, main_v72, main_v73, main_c_15, main_v74, main_v75, main_v76, main_c_16, main_v77, main_v78, main_c_17, main_v79, main_v80, main_v81, main_v82, main_v83, main_v84, main_v85, main_cst_18, main_v86, main_v87, main_c_19, main_v88, main_v89, main_c_20, main_v90, main_v91, main_v92, main_v93, main_cst_21, main_v94, main_v95, main_v96, main_v97, main_v98, main_v99, main_v100, main_cst_22, main_v101, main_cst_23, main_v102, main_v103, main_cst_24, main_v104]
theorem hostOps0_3_writes : (hostOps0_3 : List (HloOp τ sig (Elt F))).Forall fun op => op.writes ⊆ (hostOps0_3_W.map (Proc.devRef (τ := τ) .tc)).toFinset :=
  StableHlo.forall_writes_sub_of_map rfl

/-- Every reference one trip writes. -/
abbrev tripW : List (Ref sig .tc) := condOps_W ++ while0Ops0_W ++ while0Ops0_1_W ++ while0Ops0_2_W ++ while0Ops0_3_W ++ while0Ops0_4_W ++ while0Ops0_5_W
/-- Every reference the stretches after the loop write. -/
abbrev postW : List (Ref sig .tc) := condOps_W ++ hostOps0_1_W ++ hostOps0_2_W ++ hostOps0_3_W

/-- A buffer no trip writes keeps its contents through the loop. -/
theorem atK_of_not_mem (c : Dev nD) {r : Ref sig .tc} (hr : r ∉ tripW) :
    ∀ k, atK m k c (Proc.devRef .tc r) = entryContents preI m c (Proc.devRef .tc r)
  | 0 => rfl
  | k + 1 => by
    simp only [tripW, List.mem_append, not_or] at hr
    obtain ⟨⟨⟨⟨⟨⟨h0, h1⟩, h2⟩, h3⟩, h4⟩, h5⟩, h6⟩ := hr
    rw [← atK_of_not_mem c (r := r) (by simp only [tripW, List.mem_append, not_or]; exact ⟨⟨⟨⟨⟨⟨h0, h1⟩, h2⟩, h3⟩, h4⟩, h5⟩, h6⟩) k]
    show after while0Ops0_5 (after while0Ops0_4 (after while0Ops0_3 (after while0Ops0_2 (after while0Ops0_1 (after while0Ops0 (after condOps (atK m k c))))))) (Proc.devRef .tc r) = _
    rw [after_of_writes_sub while0Ops0_5 _ while0Ops0_5_writes h6]
    rw [after_of_writes_sub while0Ops0_4 _ while0Ops0_4_writes h5]
    rw [after_of_writes_sub while0Ops0_3 _ while0Ops0_3_writes h4]
    rw [after_of_writes_sub while0Ops0_2 _ while0Ops0_2_writes h3]
    rw [after_of_writes_sub while0Ops0_1 _ while0Ops0_1_writes h2]
    rw [after_of_writes_sub while0Ops0 _ while0Ops0_writes h1]
    rw [after_of_writes_sub condOps _ condOps_writes h0]

/-- A buffer no operation writes ends as it was launched. -/
theorem final_of_not_mem (c : Dev nD) {r : Ref sig .tc} (h0 : r ∉ hostOps0_W) (h1 : r ∉ tripW) (h2 : r ∉ postW) (n : ℕ) :
    finalContents condOps preI bodyI postI n m c (Proc.devRef .tc r) = m ((c.tc : Thread nD τ).loc r) := by
  simp only [postW, List.mem_append, not_or] at h2
  obtain ⟨⟨⟨g0, g1⟩, g2⟩, g3⟩ := h2
  show after hostOps0_3 (after hostOps0_2 (after hostOps0_1 (after condOps (atK m n c)))) (Proc.devRef .tc r) = _
  rw [after_of_writes_sub hostOps0_3 _ hostOps0_3_writes g3, after_of_writes_sub hostOps0_2 _ hostOps0_2_writes g2,
    after_of_writes_sub hostOps0_1 _ hostOps0_1_writes g1, after_of_writes_sub condOps _ condOps_writes g0, atK_of_not_mem m c h1]
  show after hostOps0 (launchContents m c) (Proc.devRef .tc r) = _
  rw [after_of_writes_sub hostOps0 _ hostOps0_writes h0]

/-- What the reference's run leaves: every result at the fold, every argument as launched. -/
theorem run_args : θ_run (defs (F := F)) (onTc (τ := τ) (main (F := F))) ⟨m, fun _ => 0, ρ⟩ (fun r => ∀ c : Dev nD,
      (∀ b : Ref sig .tc, (Proc.devRef .tc b : DevRef τ sig).isScoped = false →
        r.2.mem ((c.tc : Thread nD τ).loc b) = finalContents condOps preI bodyI postI 23 m c (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨fun b hb => h c b hb,
    (h c main_arg0 (by decide)).trans (final_of_not_mem m c (by decide) (by decide) (by decide) 23),
    (h c main_arg1 (by decide)).trans (final_of_not_mem m c (by decide) (by decide) (by decide) 23),
    (h c main_arg2 (by decide)).trans (final_of_not_mem m c (by decide) (by decide) (by decide) 23),
    (h c main_arg3 (by decide)).trans (final_of_not_mem m c (by decide) (by decide) (by decide) 23),
    (h c main_arg4 (by decide)).trans (final_of_not_mem m c (by decide) (by decide) (by decide) 23),
    (h c main_arg5 (by decide)).trans (final_of_not_mem m c (by decide) (by decide) (by decide) 23),
    (h c main_arg6 (by decide)).trans (final_of_not_mem m c (by decide) (by decide) (by decide) 23),
    (h c main_arg7 (by decide)).trans (final_of_not_mem m c (by decide) (by decide) (by decide) 23),
    (h c main_arg8 (by decide)).trans (final_of_not_mem m c (by decide) (by decide) (by decide) 23),
    (h c main_arg9 (by decide)).trans (final_of_not_mem m c (by decide) (by decide) (by decide) 23),
    (h c main_arg10 (by decide)).trans (final_of_not_mem m c (by decide) (by decide) (by decide) 23),
    (h c main_arg11 (by decide)).trans (final_of_not_mem m c (by decide) (by decide) (by decide) 23),
    (h c main_arg12 (by decide)).trans (final_of_not_mem m c (by decide) (by decide) (by decide) 23),
    (h c main_arg13 (by decide)).trans (final_of_not_mem m c (by decide) (by decide) (by decide) 23),
    (h c main_arg14 (by decide)).trans (final_of_not_mem m c (by decide) (by decide) (by decide) 23),
    (h c main_arg15 (by decide)).trans (final_of_not_mem m c (by decide) (by decide) (by decide) 23),
    (h c main_arg16 (by decide)).trans (final_of_not_mem m c (by decide) (by decide) (by decide) 23),
    (h c main_arg17 (by decide)).trans (final_of_not_mem m c (by decide) (by decide) (by decide) 23)⟩) (run_fold m ρ)

/-- The reference's frame, from any memory. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (run_args (F := Ideal) m ρ)

end Cert.ReferenceIdeal.Hand

end
-- ==== Proof.Value.Spec.lean ====
/- The mathematics both programs compute, over the extended reals: the gated recurrence, the attention, the prefix sums, the output unit, the loss. -/
module

public import Idealize.ShloMosaic.Lib.ValueIdx
public import Idealize.ShloMosaic.PureOps.Ideal.Laws

@[expose] public section

noncomputable section

namespace Cert.Spec

open Idealize.ShloMosaic Idealize.ShloMosaic.ValueIdx

/-- One coordinate of a gated cell's next state, from the input's gates, the state's gates and the old coordinate. -/
def gate (ir iz i_n hr hz hn h : EReal) : EReal :=
  (1 - Ideal.logistic (iz + hz)) * Ideal.tanh (i_n + Ideal.logistic (ir + hr) * hn) + Ideal.logistic (iz + hz) * h

/-- The gate at one offset of the three gates laid out in 768 lanes. -/
def at3 (o : ℕ) (ho : o + 256 ≤ 768) (j : Fin 256) : Fin 768 := ⟨o + j.val, by have := j.isLt; omega⟩

/-- The state's gates: the state times the transposed weights plus the bias. -/
def gh (w : (⟨2, ![768, 256]⟩ : Shape).Idx → EReal) (b : (⟨1, ![768]⟩ : Shape).Idx → EReal) (h : Fin 256 → EReal) (n : Fin 768) : EReal :=
  (∑ k : Fin 256, h k * w (ix2 n k)) + b (ix1 n)

/-- One step of the recurrence. -/
def cell (w : (⟨2, ![768, 256]⟩ : Shape).Idx → EReal) (b : (⟨1, ![768]⟩ : Shape).Idx → EReal) (gi : Fin 768 → EReal)
    (h : Fin 256 → EReal) (j : Fin 256) : EReal :=
  gate (gi (at3 0 (by omega) j)) (gi (at3 256 (by omega) j)) (gi (at3 512 (by omega) j))
    (gh w b h (at3 0 (by omega) j)) (gh w b h (at3 256 (by omega) j)) (gh w b h (at3 512 (by omega) j)) (h j)

/-- The input's gates of one visit. -/
def gi (w : (⟨2, ![768, 256]⟩ : Shape).Idx → EReal) (b : (⟨1, ![768]⟩ : Shape).Idx → EReal) (V : ℕ → Fin 256 → EReal) (t : ℕ) (n : Fin 768) : EReal :=
  (∑ k : Fin 256, V t k * w (ix2 n k)) + b (ix1 n)

/-- The state before visit `t`. -/
def hs (w : (⟨2, ![768, 256]⟩ : Shape).Idx → EReal) (b : (⟨1, ![768]⟩ : Shape).Idx → EReal) (g : ℕ → Fin 768 → EReal) : ℕ → Fin 256 → EReal
  | 0 => fun _ => 0
  | t + 1 => cell w b (g t) (hs w b g t)

/-- The attention coordinate of a visit's state. -/
def attn (w : (⟨2, ![256, 256]⟩ : Shape).Idx → EReal) (b : (⟨1, ![256]⟩ : Shape).Idx → EReal) (h : Fin 256 → EReal) (j : Fin 256) : EReal :=
  Ideal.tanh ((∑ k : Fin 256, h k * w (ix2 j k)) + b (ix1 j))

/-- The prefix sum up to and with visit `t`. -/
def pre (P : ℕ → Fin 256 → EReal) (t : ℕ) (j : Fin 256) : EReal := ∑ s ∈ Finset.range (t + 1), P s j

/-- The output unit of one visit. -/
def out (w : (⟨2, ![500, 256]⟩ : Shape).Idx → EReal) (b : (⟨1, ![500]⟩ : Shape).Idx → EReal) (x : Fin 256 → EReal) (n : Fin 500) : EReal :=
  Ideal.logistic ((∑ k : Fin 256, x k * w (ix2 n k)) + b (ix1 n))

/-- One term of the loss. -/
def term (y p : EReal) : EReal := -(y * Ideal.log p + (1 - y) * Ideal.log1p (-p))

end Cert.Spec

end
-- ==== Proof.Value.KernelGather.lean ====
/- What the kernel's gathers leave: each visit's sum of sixty embedding rows, and the visit's row of the counted codes. -/
module

public import proofs.«01_k».proof.Proof.HandIdeal.Body
public import proofs.«01_k».proof.Proof.Value.Spec
public import Idealize.ShloMosaic.Lib.ValueIdx
public import Idealize.ShloMosaic.Lib.MatmulPlain
public import Idealize.ShloMosaic.Lib.Pipeline.Value

@[expose] public section

noncomputable section

namespace Cert.KernelIdeal.Val

open Cert.KernelIdeal Cert.KernelIdeal.Gen Cert.KernelIdeal.Hand
open Idealize.ShloMosaic Idealize.ShloMosaic.ValueIdx

/-- A list of written rows of a 24-row array holds, in its first `n` rows, the values `f`. -/
def Rows (L : List (View.Piece (Elt Ideal) S24x256 .f32)) (n : ℕ) (f : ℕ → Fin 256 → EReal) : Prop :=
  ∀ (t : Fin 24) (j : Fin 256), t.val < n → View.canon L (ix2 t j) = f t.val j

theorem Rows.nil (f : ℕ → Fin 256 → EReal) : Rows [] 0 f := fun _ _ h => absurd h (Nat.not_lt_zero _)

/-- One more row written under the first `n`. -/
theorem Rows.cons {L : List (View.Piece (Elt Ideal) S24x256 .f32)} {n : ℕ} {f : ℕ → Fin 256 → EReal}
    (inb : ∀ a, (![n, 0] : Fin 2 → ℕ) a + S1x256.size a ≤ S24x256.size a) (v : FVec Ideal S1x256 .f32)
    (hv : ∀ j, v (ix2 0 j) = f n j) (hL : Rows L n f) :
    Rows (⟨Rect.unit (s := S24x256) ![n, 0] S1x256.size inb, v⟩ :: L) (n + 1) f := by
  intro t j ht
  by_cases h : t.val = n
  · have hi : (ix2 t j : S24x256.Idx) = (Rect.unit (s := S24x256) ![n, 0] S1x256.size inb).emb (ix2 0 j : S1x256.Idx) := by
      funext a
      refine Fin.ext ?_
      match a with
      | ⟨0, _⟩ => show t.val = n + 1 * 0; omega
      | ⟨1, _⟩ => show j.val = 0 + 1 * j.val; omega
    rw [hi, View.canon_cons_emb, hv, h]
  · rw [View.canon_cons_of_not_mem]
    · exact hL t j (by omega)
    · intro hm
      obtain ⟨x, hx⟩ := LoadRect.exists_idx_of_mem (Rect.toLoadRect _) hm
      have h0 := congrArg (fun i : S24x256.Idx => (i 0).val) hx
      have hx0 : (x 0).val = 0 := Nat.lt_one_iff.mp (x 0).isLt
      have : n + 1 * (x 0).val = t.val := h0
      omega

/-- Four neighbouring rows added in pairs. -/
def t4 (f : ℕ → FVec Ideal S1x256 .f32) (k : ℕ) : FVec Ideal S1x256 .f32 := addf (addf (f k) (f (k + 1))) (addf (f (k + 2)) (f (k + 3)))
/-- Eight neighbouring rows added in pairs. -/
def t8 (f : ℕ → FVec Ideal S1x256 .f32) (k : ℕ) : FVec Ideal S1x256 .f32 := addf (t4 f k) (t4 f (k + 4))
/-- The forty diagnosis rows, as the kernel pairs them. -/
def t40 (f : ℕ → FVec Ideal S1x256 .f32) : FVec Ideal S1x256 .f32 := addf (addf (addf (t8 f 0) (t8 f 8)) (addf (t8 f 16) (t8 f 24))) (t8 f 32)
/-- The twenty procedure rows, as the kernel pairs them. -/
def t20 (f : ℕ → FVec Ideal S1x256 .f32) : FVec Ideal S1x256 .f32 := addf (addf (addf (t4 f 40) (t4 f 44)) (addf (t4 f 48) (t4 f 52))) (t4 f 56)
/-- The sixty rows. -/
def dp (f : ℕ → FVec Ideal S1x256 .f32) : FVec Ideal S1x256 .f32 := addf (t40 f) (t20 f)

/-- A paired sum is the sum. -/
theorem dp_apply (f : ℕ → FVec Ideal S1x256 .f32) (i : S1x256.Idx) : dp f i = ∑ k ∈ Finset.range 60, (f k i : EReal) := by
  simp only [dp, t40, t20, t8, t4, addf_apply, Finset.sum_range_succ, Finset.sum_range_zero, zero_add, Nat.reduceAdd]
  ac_rfl

variable (x1 : Vec Ideal S24x25 .i32) (wd : ℕ → ℕ → BitVec 32) (row : BitVec 32 → Vec Ideal S1x1x256 .f32) (tail : Vec Ideal S504x256 .f32)

/-- The row that code `j` of visit `t` names. -/
def rowAt (t j : ℕ) : FVec Ideal S1x256 .f32 := shapeCast S1x256 (row (wd t j)) shapeCasts_S1x1x256_S1x256

theorem rowAt_apply (t k : ℕ) (j : Fin 256) : rowAt wd row t k (ix2 0 j) = row (wd t k) (ix3 0 0 j) :=
  shapeCast_apply _ _ _ _ (by simp [Shape.rowMajor_val_two, Shape.rowMajor_val_three])

/-- The sum of a visit's sixty rows. -/
def dps (t : ℕ) (j : Fin 256) : EReal := ∑ k ∈ Finset.range 60, row (wd t k) (ix3 0 0 j)

/-- A visit's row of the counted codes times the tail of the table. -/
def md (t : ℕ) (j : Fin 256) : EReal := if h : t < 24 then kernelRun.sl.v205 x1 tail (ix2 ⟨t, h⟩ j) else 0

/-- The visit embeddings the kernel stores. -/
def kv (t : ℕ) (j : Fin 256) : EReal := if t < 23 then dps wd row t j + md x1 tail t j else 0
/-- The current codes' sums the kernel stores. -/
def kc (t : ℕ) (j : Fin 256) : EReal := if t < 23 then dps wd row (t + 1) j else 0

theorem dp_rowAt (t : ℕ) (j : Fin 256) : dp (rowAt wd row t) (ix2 0 j) = dps wd row t j := by
  rw [dp_apply]; exact Finset.sum_congr rfl fun k _ => rowAt_apply wd row t k j

theorem vrow_eq (t : ℕ) (ht : t < 23) (v : FVec Ideal S1x256 .f32) (hs : S24x256.Slices ![t, 0] S1x256) (hc : S1x256.ShapeCasts S1x256)
    (h : v = shapeCast S1x256 (addf (dp (rowAt wd row t)) (extractStridedSlice S1x256 ![t, 0] (kernelRun.sl.v205 x1 tail) hs)) hc) (j : Fin 256) :
    v (ix2 0 j) = kv x1 wd row tail t j := by
  subst h
  rw [shapeCast_self, addf_apply, dp_rowAt, kv, if_pos ht, md, dif_pos (by omega)]
  refine congrArg (dps wd row t j + ·) (congrArg (kernelRun.sl.v205 x1 tail) ?_)
  funext a
  refine Fin.ext ?_
  match a with
  | ⟨0, _⟩ => rfl
  | ⟨1, _⟩ => exact Nat.zero_add _

theorem crow_eq (t : ℕ) (ht : t < 23) (v : FVec Ideal S1x256 .f32) (hc : S1x256.ShapeCasts S1x256)
    (h : v = shapeCast S1x256 (dp (rowAt wd row (t + 1))) hc) (j : Fin 256) : v (ix2 0 j) = kc wd row t j := by
  subst h
  rw [shapeCast_self, dp_rowAt, kc, if_pos ht]

theorem zrow_eq (f : ℕ → Fin 256 → EReal) (t : ℕ) (hf : ∀ j, f t j = 0) (v : FVec Ideal S1x256 .f32) (hc : S1x256.ShapeCasts S1x256)
    (h : v = shapeCast S1x256 (broadcast S1x256 (FloatOps.ofBits .f32 0x00000000#32)) hc) (j : Fin 256) : v (ix2 0 j) = f t j := by
  subst h
  rw [shapeCast_self, hf]
  exact Ideal.ofBits_zero_f32

/-- The rows of visit embeddings, as the writes fill them four by four. -/
theorem rows_v4 : Rows (kernelRun.sl.H15_4 x1 wd row tail) 4 (kv x1 wd row tail) := by
  iterate 4
    refine Rows.cons _ _ (vrow_eq x1 wd row tail _ (by decide) _ (by decide) (by decide) rfl) ?_
  exact Rows.nil _
theorem rows_v8 : Rows (kernelRun.sl.H15_8 x1 wd row tail) 8 (kv x1 wd row tail) := by
  iterate 4
    refine Rows.cons _ _ (vrow_eq x1 wd row tail _ (by decide) _ (by decide) (by decide) rfl) ?_
  exact rows_v4 x1 wd row tail
theorem rows_v12 : Rows (kernelRun.sl.H15_12 x1 wd row tail) 12 (kv x1 wd row tail) := by
  iterate 4
    refine Rows.cons _ _ (vrow_eq x1 wd row tail _ (by decide) _ (by decide) (by decide) rfl) ?_
  exact rows_v8 x1 wd row tail
theorem rows_v16 : Rows (kernelRun.sl.H15_16 x1 wd row tail) 16 (kv x1 wd row tail) := by
  iterate 4
    refine Rows.cons _ _ (vrow_eq x1 wd row tail _ (by decide) _ (by decide) (by decide) rfl) ?_
  exact rows_v12 x1 wd row tail
theorem rows_v20 : Rows (kernelRun.sl.H15_20 x1 wd row tail) 20 (kv x1 wd row tail) := by
  iterate 4
    refine Rows.cons _ _ (vrow_eq x1 wd row tail _ (by decide) _ (by decide) (by decide) rfl) ?_
  exact rows_v16 x1 wd row tail
theorem rows_v : Rows (kernelRun.sl.H15_24 x1 wd row tail) 24 (kv x1 wd row tail) := by
  refine Rows.cons (n := 23) _ _ (zrow_eq _ 23 (fun j => if_neg (by omega)) _ _ rfl) ?_
  iterate 3
    refine Rows.cons _ _ (vrow_eq x1 wd row tail _ (by decide) _ (by decide) (by decide) rfl) ?_
  exact rows_v20 x1 wd row tail

/-- The rows of the current codes. -/
theorem rows_c : Rows (kernelRun.sl.H16_24 wd row) 24 (kc wd row) := by
  refine Rows.cons (n := 23) _ _ (zrow_eq _ 23 (fun j => if_neg (by omega)) _ _ rfl) ?_
  iterate 23
    refine Rows.cons _ _ (crow_eq wd row _ (by decide) _ (by decide) rfl) ?_
  exact Rows.nil _

end Cert.KernelIdeal.Val

end
-- ==== Proof.Value.KernelGru.lean ====
/- What the kernel's recurrence leaves: the rows of gates of the visit embeddings, and the rows of states. -/
module

public import proofs.«01_k».proof.Proof.Value.KernelGather
public import Idealize.ShloMosaic.Lib.IdealHost

@[expose] public section

noncomputable section

namespace Cert.KernelIdeal.Val

open Cert.KernelIdeal Cert.KernelIdeal.Gen Cert.KernelIdeal.Hand
open Idealize.ShloMosaic Idealize.ShloMosaic.ValueIdx

/-- A list of written blocks of a 24-row array of gates holds, in its first `n` rows, the values `f`. -/
def Gates (L : List (View.Piece (Elt Ideal) S24x768 .f32)) (n : ℕ) (f : ℕ → Fin 768 → EReal) : Prop :=
  ∀ (t : Fin 24) (j : Fin 768), t.val < n → View.canon L (ix2 t j) = f t.val j

theorem Gates.nil (f : ℕ → Fin 768 → EReal) : Gates [] 0 f := fun _ _ h => absurd h (Nat.not_lt_zero _)

/-- Four more rows written under the first `n`. -/
theorem Gates.cons {L : List (View.Piece (Elt Ideal) S24x768 .f32)} {n : ℕ} {f : ℕ → Fin 768 → EReal}
    (inb : ∀ a, (![n, 0] : Fin 2 → ℕ) a + S4x768.size a ≤ S24x768.size a) (v : FVec Ideal S4x768 .f32)
    (hv : ∀ (i : Fin 4) j, v (ix2 i j) = f (n + i.val) j) (hL : Gates L n f) :
    Gates (⟨Rect.unit (s := S24x768) ![n, 0] S4x768.size inb, v⟩ :: L) (n + 4) f := by
  intro t j ht
  by_cases h : n ≤ t.val
  · have hi : (ix2 t j : S24x768.Idx)
        = (Rect.unit (s := S24x768) ![n, 0] S4x768.size inb).emb (ix2 ⟨t.val - n, by omega⟩ j : S4x768.Idx) := by
      funext a
      refine Fin.ext ?_
      match a with
      | ⟨0, _⟩ => show t.val = n + 1 * (t.val - n); omega
      | ⟨1, _⟩ => show j.val = 0 + 1 * j.val; omega
    rw [hi, View.canon_cons_emb, hv]
    exact congrArg (f · j) (show n + (t.val - n) = t.val by omega)
  · rw [View.canon_cons_of_not_mem]
    · exact hL t j (by omega)
    · intro hm
      obtain ⟨x, hx⟩ := LoadRect.exists_idx_of_mem (Rect.toLoadRect _) hm
      have h0 := congrArg (fun i : S24x768.Idx => (i 0).val) hx
      have : n + 1 * (x 0).val = t.val := h0
      omega

variable (x1 : Vec Ideal S24x25 .i32) (x3 x4 : FVec Ideal S768x256 .f32) (x5 x6 : FVec Ideal S768 .f32)
  (wd : ℕ → ℕ → BitVec 32) (row : BitVec 32 → Vec Ideal S1x1x256 .f32) (tail : Vec Ideal S504x256 .f32)

theorem bias_apply {n : ℕ} (x : (⟨1, ![n]⟩ : Shape).Idx → EReal) (h : (⟨1, ![n]⟩ : Shape).ShapeCasts ⟨2, ![1, n]⟩) (j : Fin n) :
    shapeCast ⟨2, ![1, n]⟩ x h (ix2 0 j) = x (ix1 j) :=
  shapeCast_apply _ _ _ _ (by
    rw [Shape.rowMajor_val_one, Shape.rowMajor_val_two]; exact (by omega : j.val = 0 * n + j.val))

/-- The gates of four visits' embeddings. -/
theorem gblk (n : ℕ) (L : List (View.Piece (Elt Ideal) S24x256 .f32)) (V : ℕ → Fin 256 → EReal) (hL : Rows L (n + 4) V)
    (v : FVec Ideal S4x768 .f32) (inb : ∀ a, (![n, 0] : Fin 2 → ℕ) a + S4x256.size a ≤ S24x256.size a)
    (hb : S1x768.Broadcasts S4x768) (hc : S4x768.ShapeCasts S4x768)
    (h : v = shapeCast S4x768 (addf (matmul (φ₁ := .f32) (φ₂ := .f32) dot_S4x256_S768x256_S4x768_1_1_0_0_n_n none
      (vembM.view.readCov L (Rect.unit (s := S24x256) ![n, 0] S4x256.size inb).toLoadRect) x3 (constant S4x768 FTy.f32 0#32))
      (broadcastTo S4x768 (kernelRun.sl.v1802 (F := Ideal) x5) hb)) hc) (i : Fin 4) (j : Fin 768) :
    v (ix2 i j) = Spec.gi x3 x5 V (n + i.val) j := by
  subst h
  rw [shapeCast_self, addf_apply]
  refine congrArg₂ (· + ·) ?_ ?_
  · refine (Ideal.matmul_transposedRhs_apply (M := 4) (K := 256) (N := 768) none _ _ _ i j).trans ?_
    rw [show (constant S4x768 FTy.f32 0#32 : FVec Ideal S4x768 .f32) (ix2 i j) = 0 from Ideal.ofBits_zero_f32, zero_add]
    refine Finset.sum_congr rfl fun k _ => congrArg (· * x3 (ix2 j k)) ?_
    rw [View.readCov_eq_canon']
    have hn : n + 4 ≤ 24 := inb 0
    have := hL ⟨n + i.val, by omega⟩ k (by show n + i.val < n + 4; omega)
    refine Eq.trans (congrArg _ ?_) this
    funext a
    refine Fin.ext ?_
    match a with
    | ⟨0, _⟩ => show n + 1 * i.val = n + i.val; omega
    | ⟨1, _⟩ => show 0 + 1 * k.val = k.val; omega
  · refine Eq.trans (congrArg (kernelRun.sl.v1802 (F := Ideal) x5) (?_ : _ = ix2 0 j)) (bias_apply x5 _ j)
    funext a
    refine Fin.ext ?_
    match a with
    | ⟨0, _⟩ => rfl
    | ⟨1, _⟩ => rfl

/-- The gates of the visits' embeddings. -/
def kg : ℕ → Fin 768 → EReal := Spec.gi x3 x5 (kv x1 wd row tail)

theorem gates_4 : Gates (kernelRun.sl.H17_1 x1 x3 x5 wd row tail) 4 (kg x1 x3 x5 wd row tail) :=
  Gates.cons (n := 0) _ _ (gblk x3 x5 0 _ _ (rows_v4 x1 wd row tail) _ (by decide) (by decide) (by decide) rfl) (Gates.nil _)
theorem gates_8 : Gates (kernelRun.sl.H17_2 x1 x3 x5 wd row tail) 8 (kg x1 x3 x5 wd row tail) :=
  Gates.cons (n := 4) _ _ (gblk x3 x5 4 _ _ (rows_v8 x1 wd row tail) _ (by decide) (by decide) (by decide) rfl) (gates_4 x1 x3 x5 wd row tail)
theorem gates_12 : Gates (kernelRun.sl.H17_3 x1 x3 x5 wd row tail) 12 (kg x1 x3 x5 wd row tail) :=
  Gates.cons (n := 8) _ _ (gblk x3 x5 8 _ _ (rows_v12 x1 wd row tail) _ (by decide) (by decide) (by decide) rfl) (gates_8 x1 x3 x5 wd row tail)
theorem gates_16 : Gates (kernelRun.sl.H17_4 x1 x3 x5 wd row tail) 16 (kg x1 x3 x5 wd row tail) :=
  Gates.cons (n := 12) _ _ (gblk x3 x5 12 _ _ (rows_v16 x1 wd row tail) _ (by decide) (by decide) (by decide) rfl) (gates_12 x1 x3 x5 wd row tail)
theorem gates_20 : Gates (kernelRun.sl.H17_5 x1 x3 x5 wd row tail) 20 (kg x1 x3 x5 wd row tail) :=
  Gates.cons (n := 16) _ _ (gblk x3 x5 16 _ _ (rows_v20 x1 wd row tail) _ (by decide) (by decide) (by decide) rfl) (gates_16 x1 x3 x5 wd row tail)
theorem gates_24 : Gates (kernelRun.sl.H17_6 x1 x3 x5 wd row tail) 24 (kg x1 x3 x5 wd row tail) :=
  Gates.cons (n := 20) _ _ (gblk x3 x5 20 _ _ (rows_v x1 wd row tail) _ (by decide) (by decide) (by decide) rfl) (gates_20 x1 x3 x5 wd row tail)

/-- One step of the recurrence, as the kernel writes it, from a row of gates and a state. -/
def gruStep (gi : FVec Ideal S1x768 .f32) (h : FVec Ideal S1x256 .f32) : FVec Ideal S1x256 .f32 :=
  let gh : FVec Ideal S1x768 .f32 := addf (matmul (φ₁ := .f32) (φ₂ := .f32) dot_S1x256_S768x256_S1x768_1_1_0_0_n_n none h x4 (constant S1x768 FTy.f32 0#32)) (kernelRun.sl.v1805 (F := Ideal) x6)
  let r : FVec Ideal S1x256 .f32 := logistic (addf (extractStridedSlice S1x256 ![0, 0] gi (by decide)) (extractStridedSlice S1x256 ![0, 0] gh (by decide)))
  let z : FVec Ideal S1x256 .f32 := logistic (addf (extractStridedSlice S1x256 ![0, 256] gi (by decide)) (extractStridedSlice S1x256 ![0, 256] gh (by decide)))
  let n : FVec Ideal S1x256 .f32 := tanh (addf (extractStridedSlice S1x256 ![0, 512] gi (by decide)) (mulf r (extractStridedSlice S1x256 ![0, 512] gh (by decide))))
  addf (mulf (subf (kernelRun.sl.v2368 (F := Ideal)) z) n) (mulf z h)

theorem slice3 (o : ℕ) (ho : o + 256 ≤ 768) (x : FVec Ideal S1x768 .f32) (h : S1x768.Slices ![0, o] S1x256) (j : Fin 256) :
    extractStridedSlice S1x256 ![0, o] x h (ix2 0 j) = x (ix2 0 (Spec.at3 o ho j)) := by
  refine congrArg x ?_
  funext a
  refine Fin.ext ?_
  match a with
  | ⟨0, _⟩ => rfl
  | ⟨1, _⟩ => rfl

theorem gh_apply (h : FVec Ideal S1x256 .f32) (n : Fin 768) :
    addf (matmul (φ₁ := .f32) (φ₂ := .f32) dot_S1x256_S768x256_S1x768_1_1_0_0_n_n none h x4 (constant S1x768 FTy.f32 0#32)) (kernelRun.sl.v1805 (F := Ideal) x6) (ix2 0 n)
      = Spec.gh x4 x6 (fun j => h (ix2 0 j)) n := by
  rw [addf_apply]
  refine congrArg₂ (· + ·) ?_ (bias_apply x6 _ n)
  refine (Ideal.matmul_transposedRhs_apply (M := 1) (K := 256) (N := 768) none _ _ _ 0 n).trans ?_
  rw [show (constant S1x768 FTy.f32 0#32 : FVec Ideal S1x768 .f32) (ix2 0 n) = 0 from Ideal.ofBits_zero_f32, zero_add]

theorem gruStep_apply (gi : FVec Ideal S1x768 .f32) (h : FVec Ideal S1x256 .f32) (j : Fin 256) :
    gruStep x4 x6 gi h (ix2 0 j) = Spec.cell x4 x6 (fun n => gi (ix2 0 n)) (fun k => h (ix2 0 k)) j := by
  simp only [gruStep, Spec.cell, Spec.gate, addf_apply, mulf_apply, subf_apply, slice3 0 (by omega), slice3 256 (by omega), slice3 512 (by omega),
    ← gh_apply]
  refine congrArg₂ (· + ·) (congrArg₂ (· * ·) (congrArg₂ (· - ·) Ideal.ofBits_one_f32 ?_) ?_) (congrArg₂ (· * ·) ?_ rfl)
  · exact congrArg Ideal.logistic (congrArg₂ (· + ·) (slice3 256 (by omega) _ _ _) (slice3 256 (by omega) _ _ _))
  · refine congrArg Ideal.tanh (congrArg₂ (· + ·) (slice3 512 (by omega) _ _ _) (congrArg₂ (· * ·) ?_ (slice3 512 (by omega) _ _ _)))
    exact congrArg Ideal.logistic (congrArg₂ (· + ·) (slice3 0 (by omega) _ _ _) (slice3 0 (by omega) _ _ _))
  · exact congrArg Ideal.logistic (congrArg₂ (· + ·) (slice3 256 (by omega) _ _ _) (slice3 256 (by omega) _ _ _))

/-- The states. -/
def kh : ℕ → Fin 256 → EReal := Spec.hs x4 x6 (kg x1 x3 x5 wd row tail)

/-- A state of the chain is the recurrence's. -/
def IsSt (t : ℕ) (v : FVec Ideal S1x256 .f32) : Prop := ∀ j, v (ix2 0 j) = kh x1 x3 x4 x5 x6 wd row tail t j

theorem isSt_zero : IsSt x1 x3 x4 x5 x6 wd row tail 0 kernelRun.sl.v0 := fun _ => Ideal.ofBits_zero_f32

theorem isSt_succ {n : ℕ} (t : ℕ) (L : List (View.Piece (Elt Ideal) S24x768 .f32)) (hL : Gates L n (kg x1 x3 x5 wd row tail)) (ht : t < n)
    (u v : FVec Ideal S1x256 .f32) (inb : ∀ a, (![t, 0] : Fin 2 → ℕ) a + S1x768.size a ≤ S24x768.size a)
    (hu : IsSt x1 x3 x4 x5 x6 wd row tail t u)
    (h : v = gruStep x4 x6 (giM.view.readCov L (Rect.unit (s := S24x768) ![t, 0] S1x768.size inb).toLoadRect) u) :
    IsSt x1 x3 x4 x5 x6 wd row tail (t + 1) v := by
  intro j
  subst h
  rw [gruStep_apply]
  refine congrArg₂ (fun a b => Spec.cell x4 x6 a b j) (funext fun n => ?_) (funext hu)
  rw [View.readCov_eq_canon']
  have hn : t + 1 ≤ 24 := inb 0
  refine Eq.trans (congrArg _ ?_) (hL ⟨t, by omega⟩ n ht)
  funext a
  refine Fin.ext ?_
  match a with
  | ⟨0, _⟩ => rfl
  | ⟨1, _⟩ => show 0 + 1 * n.val = n.val; omega

theorem hrow_eq (t : ℕ) (u v : FVec Ideal S1x256 .f32) (hc : S1x256.ShapeCasts S1x256) (hu : IsSt x1 x3 x4 x5 x6 wd row tail (t + 1) u)
    (h : v = shapeCast S1x256 u hc) (j : Fin 256) : v (ix2 0 j) = kh x1 x3 x4 x5 x6 wd row tail (t + 1) j := by
  subst h
  rw [shapeCast_self]
  exact hu j

theorem st1 : IsSt x1 x3 x4 x5 x6 wd row tail 1 (kernelRun.sl.v2372 x1 x3 x4 x5 x6 wd row tail) :=
  isSt_succ x1 x3 x4 x5 x6 wd row tail 0 _ (gates_4 x1 x3 x5 wd row tail) (by decide) _ _ (by decide) (isSt_zero x1 x3 x4 x5 x6 wd row tail) rfl
theorem st2 : IsSt x1 x3 x4 x5 x6 wd row tail 2 (kernelRun.sl.v2504 x1 x3 x4 x5 x6 wd row tail) :=
  isSt_succ x1 x3 x4 x5 x6 wd row tail 1 _ (gates_4 x1 x3 x5 wd row tail) (by decide) _ _ (by decide) (st1 x1 x3 x4 x5 x6 wd row tail) rfl
theorem st3 : IsSt x1 x3 x4 x5 x6 wd row tail 3 (kernelRun.sl.v2636 x1 x3 x4 x5 x6 wd row tail) :=
  isSt_succ x1 x3 x4 x5 x6 wd row tail 2 _ (gates_4 x1 x3 x5 wd row tail) (by decide) _ _ (by decide) (st2 x1 x3 x4 x5 x6 wd row tail) rfl
theorem st4 : IsSt x1 x3 x4 x5 x6 wd row tail 4 (kernelRun.sl.v2768 x1 x3 x4 x5 x6 wd row tail) :=
  isSt_succ x1 x3 x4 x5 x6 wd row tail 3 _ (gates_4 x1 x3 x5 wd row tail) (by decide) _ _ (by decide) (st3 x1 x3 x4 x5 x6 wd row tail) rfl
theorem st5 : IsSt x1 x3 x4 x5 x6 wd row tail 5 (kernelRun.sl.v3107 x1 x3 x4 x5 x6 wd row tail) :=
  isSt_succ x1 x3 x4 x5 x6 wd row tail 4 _ (gates_8 x1 x3 x5 wd row tail) (by decide) _ _ (by decide) (st4 x1 x3 x4 x5 x6 wd row tail) rfl
theorem st6 : IsSt x1 x3 x4 x5 x6 wd row tail 6 (kernelRun.sl.v3438 x1 x3 x4 x5 x6 wd row tail) :=
  isSt_succ x1 x3 x4 x5 x6 wd row tail 5 _ (gates_8 x1 x3 x5 wd row tail) (by decide) _ _ (by decide) (st5 x1 x3 x4 x5 x6 wd row tail) rfl
theorem st7 : IsSt x1 x3 x4 x5 x6 wd row tail 7 (kernelRun.sl.v3769 x1 x3 x4 x5 x6 wd row tail) :=
  isSt_succ x1 x3 x4 x5 x6 wd row tail 6 _ (gates_8 x1 x3 x5 wd row tail) (by decide) _ _ (by decide) (st6 x1 x3 x4 x5 x6 wd row tail) rfl
theorem st8 : IsSt x1 x3 x4 x5 x6 wd row tail 8 (kernelRun.sl.v4100 x1 x3 x4 x5 x6 wd row tail) :=
  isSt_succ x1 x3 x4 x5 x6 wd row tail 7 _ (gates_8 x1 x3 x5 wd row tail) (by decide) _ _ (by decide) (st7 x1 x3 x4 x5 x6 wd row tail) rfl
theorem st9 : IsSt x1 x3 x4 x5 x6 wd row tail 9 (kernelRun.sl.v4439 x1 x3 x4 x5 x6 wd row tail) :=
  isSt_succ x1 x3 x4 x5 x6 wd row tail 8 _ (gates_12 x1 x3 x5 wd row tail) (by decide) _ _ (by decide) (st8 x1 x3 x4 x5 x6 wd row tail) rfl
theorem st10 : IsSt x1 x3 x4 x5 x6 wd row tail 10 (kernelRun.sl.v4770 x1 x3 x4 x5 x6 wd row tail) :=
  isSt_succ x1 x3 x4 x5 x6 wd row tail 9 _ (gates_12 x1 x3 x5 wd row tail) (by decide) _ _ (by decide) (st9 x1 x3 x4 x5 x6 wd row tail) rfl
theorem st11 : IsSt x1 x3 x4 x5 x6 wd row tail 11 (kernelRun.sl.v5101 x1 x3 x4 x5 x6 wd row tail) :=
  isSt_succ x1 x3 x4 x5 x6 wd row tail 10 _ (gates_12 x1 x3 x5 wd row tail) (by decide) _ _ (by decide) (st10 x1 x3 x4 x5 x6 wd row tail) rfl
theorem st12 : IsSt x1 x3 x4 x5 x6 wd row tail 12 (kernelRun.sl.v5432 x1 x3 x4 x5 x6 wd row tail) :=
  isSt_succ x1 x3 x4 x5 x6 wd row tail 11 _ (gates_12 x1 x3 x5 wd row tail) (by decide) _ _ (by decide) (st11 x1 x3 x4 x5 x6 wd row tail) rfl
theorem st13 : IsSt x1 x3 x4 x5 x6 wd row tail 13 (kernelRun.sl.v5771 x1 x3 x4 x5 x6 wd row tail) :=
  isSt_succ x1 x3 x4 x5 x6 wd row tail 12 _ (gates_16 x1 x3 x5 wd row tail) (by decide) _ _ (by decide) (st12 x1 x3 x4 x5 x6 wd row tail) rfl
theorem st14 : IsSt x1 x3 x4 x5 x6 wd row tail 14 (kernelRun.sl.v6102 x1 x3 x4 x5 x6 wd row tail) :=
  isSt_succ x1 x3 x4 x5 x6 wd row tail 13 _ (gates_16 x1 x3 x5 wd row tail) (by decide) _ _ (by decide) (st13 x1 x3 x4 x5 x6 wd row tail) rfl
theorem st15 : IsSt x1 x3 x4 x5 x6 wd row tail 15 (kernelRun.sl.v6433 x1 x3 x4 x5 x6 wd row tail) :=
  isSt_succ x1 x3 x4 x5 x6 wd row tail 14 _ (gates_16 x1 x3 x5 wd row tail) (by decide) _ _ (by decide) (st14 x1 x3 x4 x5 x6 wd row tail) rfl
theorem st16 : IsSt x1 x3 x4 x5 x6 wd row tail 16 (kernelRun.sl.v6764 x1 x3 x4 x5 x6 wd row tail) :=
  isSt_succ x1 x3 x4 x5 x6 wd row tail 15 _ (gates_16 x1 x3 x5 wd row tail) (by decide) _ _ (by decide) (st15 x1 x3 x4 x5 x6 wd row tail) rfl
theorem st17 : IsSt x1 x3 x4 x5 x6 wd row tail 17 (kernelRun.sl.v7103 x1 x3 x4 x5 x6 wd row tail) :=
  isSt_succ x1 x3 x4 x5 x6 wd row tail 16 _ (gates_20 x1 x3 x5 wd row tail) (by decide) _ _ (by decide) (st16 x1 x3 x4 x5 x6 wd row tail) rfl
theorem st18 : IsSt x1 x3 x4 x5 x6 wd row tail 18 (kernelRun.sl.v7434 x1 x3 x4 x5 x6 wd row tail) :=
  isSt_succ x1 x3 x4 x5 x6 wd row tail 17 _ (gates_20 x1 x3 x5 wd row tail) (by decide) _ _ (by decide) (st17 x1 x3 x4 x5 x6 wd row tail) rfl
theorem st19 : IsSt x1 x3 x4 x5 x6 wd row tail 19 (kernelRun.sl.v7765 x1 x3 x4 x5 x6 wd row tail) :=
  isSt_succ x1 x3 x4 x5 x6 wd row tail 18 _ (gates_20 x1 x3 x5 wd row tail) (by decide) _ _ (by decide) (st18 x1 x3 x4 x5 x6 wd row tail) rfl
theorem st20 : IsSt x1 x3 x4 x5 x6 wd row tail 20 (kernelRun.sl.v8097 x1 x3 x4 x5 x6 wd row tail) :=
  isSt_succ x1 x3 x4 x5 x6 wd row tail 19 _ (gates_20 x1 x3 x5 wd row tail) (by decide) _ _ (by decide) (st19 x1 x3 x4 x5 x6 wd row tail) rfl
theorem st21 : IsSt x1 x3 x4 x5 x6 wd row tail 21 (kernelRun.sl.v8129 x1 x3 x4 x5 x6 wd row tail) :=
  isSt_succ x1 x3 x4 x5 x6 wd row tail 20 _ (gates_24 x1 x3 x5 wd row tail) (by decide) _ _ (by decide) (st20 x1 x3 x4 x5 x6 wd row tail) rfl
theorem st22 : IsSt x1 x3 x4 x5 x6 wd row tail 22 (kernelRun.sl.v8153 x1 x3 x4 x5 x6 wd row tail) :=
  isSt_succ x1 x3 x4 x5 x6 wd row tail 21 _ (gates_24 x1 x3 x5 wd row tail) (by decide) _ _ (by decide) (st21 x1 x3 x4 x5 x6 wd row tail) rfl
theorem st23 : IsSt x1 x3 x4 x5 x6 wd row tail 23 (kernelRun.sl.v8177 x1 x3 x4 x5 x6 wd row tail) :=
  isSt_succ x1 x3 x4 x5 x6 wd row tail 22 _ (gates_24 x1 x3 x5 wd row tail) (by decide) _ _ (by decide) (st22 x1 x3 x4 x5 x6 wd row tail) rfl

/-- The rows of states: row `t` is the state after visit `t`, and the last row is zero. -/
def khs (t : ℕ) (j : Fin 256) : EReal := if t < 23 then kh x1 x3 x4 x5 x6 wd row tail (t + 1) j else 0

theorem hrow (t : ℕ) (ht : t < 23) (u v : FVec Ideal S1x256 .f32) (hc : S1x256.ShapeCasts S1x256) (hu : IsSt x1 x3 x4 x5 x6 wd row tail (t + 1) u)
    (h : v = shapeCast S1x256 u hc) (j : Fin 256) : v (ix2 0 j) = khs x1 x3 x4 x5 x6 wd row tail t j := by
  rw [khs, if_pos ht]
  exact hrow_eq x1 x3 x4 x5 x6 wd row tail t u v hc hu h j

theorem rows_h : Rows (kernelRun.sl.H18_24 x1 x3 x4 x5 x6 wd row tail) 24 (khs x1 x3 x4 x5 x6 wd row tail) :=
  Rows.cons (n := 23) _ _ (zrow_eq _ 23 (fun j => if_neg (by omega)) _ (by decide) rfl) <|
  Rows.cons (n := 22) _ _ (hrow x1 x3 x4 x5 x6 wd row tail 22 (by decide) _ _ (by decide) (st23 x1 x3 x4 x5 x6 wd row tail) rfl) <|
  Rows.cons (n := 21) _ _ (hrow x1 x3 x4 x5 x6 wd row tail 21 (by decide) _ _ (by decide) (st22 x1 x3 x4 x5 x6 wd row tail) rfl) <|
  Rows.cons (n := 20) _ _ (hrow x1 x3 x4 x5 x6 wd row tail 20 (by decide) _ _ (by decide) (st21 x1 x3 x4 x5 x6 wd row tail) rfl) <|
  Rows.cons (n := 19) _ _ (hrow x1 x3 x4 x5 x6 wd row tail 19 (by decide) _ _ (by decide) (st20 x1 x3 x4 x5 x6 wd row tail) rfl) <|
  Rows.cons (n := 18) _ _ (hrow x1 x3 x4 x5 x6 wd row tail 18 (by decide) _ _ (by decide) (st19 x1 x3 x4 x5 x6 wd row tail) rfl) <|
  Rows.cons (n := 17) _ _ (hrow x1 x3 x4 x5 x6 wd row tail 17 (by decide) _ _ (by decide) (st18 x1 x3 x4 x5 x6 wd row tail) rfl) <|
  Rows.cons (n := 16) _ _ (hrow x1 x3 x4 x5 x6 wd row tail 16 (by decide) _ _ (by decide) (st17 x1 x3 x4 x5 x6 wd row tail) rfl) <|
  Rows.cons (n := 15) _ _ (hrow x1 x3 x4 x5 x6 wd row tail 15 (by decide) _ _ (by decide) (st16 x1 x3 x4 x5 x6 wd row tail) rfl) <|
  Rows.cons (n := 14) _ _ (hrow x1 x3 x4 x5 x6 wd row tail 14 (by decide) _ _ (by decide) (st15 x1 x3 x4 x5 x6 wd row tail) rfl) <|
  Rows.cons (n := 13) _ _ (hrow x1 x3 x4 x5 x6 wd row tail 13 (by decide) _ _ (by decide) (st14 x1 x3 x4 x5 x6 wd row tail) rfl) <|
  Rows.cons (n := 12) _ _ (hrow x1 x3 x4 x5 x6 wd row tail 12 (by decide) _ _ (by decide) (st13 x1 x3 x4 x5 x6 wd row tail) rfl) <|
  Rows.cons (n := 11) _ _ (hrow x1 x3 x4 x5 x6 wd row tail 11 (by decide) _ _ (by decide) (st12 x1 x3 x4 x5 x6 wd row tail) rfl) <|
  Rows.cons (n := 10) _ _ (hrow x1 x3 x4 x5 x6 wd row tail 10 (by decide) _ _ (by decide) (st11 x1 x3 x4 x5 x6 wd row tail) rfl) <|
  Rows.cons (n := 9) _ _ (hrow x1 x3 x4 x5 x6 wd row tail 9 (by decide) _ _ (by decide) (st10 x1 x3 x4 x5 x6 wd row tail) rfl) <|
  Rows.cons (n := 8) _ _ (hrow x1 x3 x4 x5 x6 wd row tail 8 (by decide) _ _ (by decide) (st9 x1 x3 x4 x5 x6 wd row tail) rfl) <|
  Rows.cons (n := 7) _ _ (hrow x1 x3 x4 x5 x6 wd row tail 7 (by decide) _ _ (by decide) (st8 x1 x3 x4 x5 x6 wd row tail) rfl) <|
  Rows.cons (n := 6) _ _ (hrow x1 x3 x4 x5 x6 wd row tail 6 (by decide) _ _ (by decide) (st7 x1 x3 x4 x5 x6 wd row tail) rfl) <|
  Rows.cons (n := 5) _ _ (hrow x1 x3 x4 x5 x6 wd row tail 5 (by decide) _ _ (by decide) (st6 x1 x3 x4 x5 x6 wd row tail) rfl) <|
  Rows.cons (n := 4) _ _ (hrow x1 x3 x4 x5 x6 wd row tail 4 (by decide) _ _ (by decide) (st5 x1 x3 x4 x5 x6 wd row tail) rfl) <|
  Rows.cons (n := 3) _ _ (hrow x1 x3 x4 x5 x6 wd row tail 3 (by decide) _ _ (by decide) (st4 x1 x3 x4 x5 x6 wd row tail) rfl) <|
  Rows.cons (n := 2) _ _ (hrow x1 x3 x4 x5 x6 wd row tail 2 (by decide) _ _ (by decide) (st3 x1 x3 x4 x5 x6 wd row tail) rfl) <|
  Rows.cons (n := 1) _ _ (hrow x1 x3 x4 x5 x6 wd row tail 1 (by decide) _ _ (by decide) (st2 x1 x3 x4 x5 x6 wd row tail) rfl) <|
  Rows.cons (n := 0) _ _ (hrow x1 x3 x4 x5 x6 wd row tail 0 (by decide) _ _ (by decide) (st1 x1 x3 x4 x5 x6 wd row tail) rfl) <|
  Rows.nil _

end Cert.KernelIdeal.Val

end
-- ==== Proof.Value.KernelTail.lean ====
/- What the kernel's last part leaves: the prefix sums, the predictions, the loss, and the counts of the medicine codes. -/
module

public import proofs.«01_k».proof.Proof.Value.KernelGru
public import Idealize.ShloMosaic.Lib.KernelVsHost
public import Idealize.ShloMosaic.Lib.WordCmp
public import Idealize.ShloMosaic.Lib.Pointwise.Reduce

@[expose] public section

noncomputable section

namespace Cert.KernelIdeal.Val

open Cert.KernelIdeal Cert.KernelIdeal.Gen Cert.KernelIdeal.Hand
open Idealize.ShloMosaic hiding ix1 ix2 ix3
open Idealize.ShloMosaic.ValueIdx

/-! ## Prefix sums by doubling -/

/-- The sum of the last `w` values up to and with `t`. -/
def win (P : ℕ → Fin 256 → EReal) (w t : ℕ) (j : Fin 256) : EReal := ∑ i ∈ Finset.range w, if i ≤ t then P (t - i) j else 0

theorem win_double (P : ℕ → Fin 256 → EReal) (w t : ℕ) (j : Fin 256) :
    win P (w + w) t j = win P w t j + if w ≤ t then win P w (t - w) j else 0 := by
  unfold win
  rw [Finset.sum_range_add]
  refine congrArg (_ + ·) ?_
  split
  · refine Finset.sum_congr rfl fun i _ => ?_
    by_cases h : w + i ≤ t
    · rw [if_pos h, if_pos (by omega), Nat.sub_sub]
    · rw [if_neg h, if_neg (by omega)]
  · exact Finset.sum_eq_zero fun i _ => if_neg (by omega)

theorem win_full (P : ℕ → Fin 256 → EReal) (w t : ℕ) (h : t < w) (j : Fin 256) : win P w t j = Spec.pre P t j := by
  unfold win Spec.pre
  rw [show w = (t + 1) + (w - (t + 1)) by omega, Finset.sum_range_add,
    Finset.sum_eq_zero (s := Finset.range (w - (t + 1))) fun i _ => if_neg (by omega), add_zero, ← Finset.sum_range_reflect]
  refine Finset.sum_congr rfl fun i hi => ?_
  have := Finset.mem_range.mp hi
  rw [if_pos (by omega)]
  exact congrArg (P · j) (by omega)

/-- The array holds the windowed sums. -/
def IsWin (P : ℕ → Fin 256 → EReal) (w : ℕ) (c : FVec Ideal S24x256 .f32) : Prop := ∀ (t : Fin 24) (j : Fin 256), c (ix2 t j) = win P w t.val j

theorem isWin_double (P : ℕ → Fin 256 → EReal) (w : ℕ) (k : BitVec 32) (hk : k.toNat = w) (hw : w ≤ 16) (c v : FVec Ideal S24x256 .f32)
    (hr : S24x256.Rotates 0 none) (hc : IsWin P w c)
    (h : v = addf c (select (cmpi .sge (kernelRun.sl.v8194) (broadcast S24x256 k)) (dynamicRotate 0 k none c hr) (kernelRun.sl.v8198 (F := Ideal)))) :
    IsWin P (w + w) v := by
  intro t j
  subst h
  have ht := t.isLt
  rw [addf_apply, win_double, hc t j]
  refine congrArg (_ + ·) ?_
  rw [select_apply]
  have hcond : (cmpi .sge (kernelRun.sl.v8194) (broadcast S24x256 k)) (ix2 t j : S24x256.Idx) = BitVec.ofBool (decide (w ≤ t.val)) := by
    show BitVec.ofBool (k.sle (BitVec.ofNat 32 (0 * 24 + t.val))) = _
    refine congrArg _ ?_
    rw [BitVec.sle_eq_decide, decide_eq_decide, BitVec.toInt_eq_toNat_of_lt (by omega), BitVec.toInt_eq_toNat_of_lt (by rw [BitVec.toNat_ofNat]; omega),
      BitVec.toNat_ofNat]
    omega
  rw [hcond]
  by_cases hwt : w ≤ t.val
  · rw [if_pos hwt, decide_eq_true hwt]
    refine Eq.trans ?_ (hc ⟨t.val - w, by omega⟩ j)
    refine dynamicRotate_apply _ _ _ hr _ _ fun b => ?_
    match b with
    | ⟨0, _⟩ => show t.val - w = if (0 : Fin 2) = 0 then (t.val + 24 - k.toNat % 24) % 24 else t.val; rw [if_pos rfl, hk]; omega
    | ⟨1, _⟩ => rfl
  · rw [if_neg hwt, decide_eq_false hwt]
    exact Ideal.ofBits_zero_f32

variable (x1 : Vec Ideal S24x25 .i32) (x3 x4 : FVec Ideal S768x256 .f32) (x5 x6 : FVec Ideal S768 .f32) (x7 : FVec Ideal S256x256 .f32)
  (x8 : FVec Ideal S256 .f32) (x9 : FVec Ideal S500x256 .f32) (x10 : FVec Ideal S500 .f32)
  (wd : ℕ → ℕ → BitVec 32) (row : BitVec 32 → Vec Ideal S1x1x256 .f32) (tail : Vec Ideal S504x256 .f32)

/-- The attention times the embedding of each visit. -/
def kP (t : ℕ) (j : Fin 256) : EReal := Spec.attn x7 x8 (khs x1 x3 x4 x5 x6 wd row tail t) j * kv x1 wd row tail t j

theorem whole_apply (L : List (View.Piece (Elt Ideal) S24x256 .f32)) (f : ℕ → Fin 256 → EReal) (hL : Rows L 24 f)
    (v : View sig .tc .vmem S24x256 .f32) (inb : ∀ a, (![0, 0] : Fin 2 → ℕ) a + S24x256.size a ≤ S24x256.size a) (t : Fin 24) (j : Fin 256) :
    (v.readCov L (Rect.unit (s := S24x256) ![0, 0] S24x256.size inb).toLoadRect : FVec Ideal S24x256 .f32) (ix2 t j) = f t.val j := by
  rw [View.readCov_eq_canon']
  refine Eq.trans (congrArg _ ?_) (hL t j t.isLt)
  funext a
  refine Fin.ext ?_
  match a with
  | ⟨0, _⟩ => show 0 + 1 * t.val = t.val; omega
  | ⟨1, _⟩ => show 0 + 1 * j.val = j.val; omega

theorem brow_apply {M N : ℕ} (hM : 1 < N) (x : (⟨2, ![1, N]⟩ : Shape).Idx → EReal) (h : (⟨2, ![1, N]⟩ : Shape).Broadcasts ⟨2, ![M, N]⟩) (t : Fin M) (j : Fin N) :
    broadcastTo ⟨2, ![M, N]⟩ x h (ix2 t j) = x (ix2 0 j) := by
  refine congrArg x ?_
  funext a
  refine Fin.ext ?_
  match a with
  | ⟨0, _⟩ => rfl
  | ⟨1, _⟩ =>
    dsimp only
    split
    · next h1 => exact absurd h1 (show ¬N = 1 by omega)
    · rfl

theorem v8193_apply (t : Fin 24) (j : Fin 256) :
    kernelRun.sl.v8193 x1 x3 x4 x5 x6 x7 x8 wd row tail (ix2 t j) = kP x1 x3 x4 x5 x6 x7 x8 wd row tail t.val j := by
  refine congrArg₂ (· * ·) (congrArg Ideal.tanh (congrArg₂ (· + ·) ?_ ?_)) (whole_apply _ _ (rows_v x1 wd row tail) _ (by decide) t j)
  · refine (Ideal.matmul_transposedRhs_apply (M := 24) (K := 256) (N := 256) none _ _ _ t j).trans ?_
    rw [show (kernelRun.sl.cst_82 (F := Ideal) : FVec Ideal S24x256 .f32) (ix2 t j) = 0 from Ideal.ofBits_zero_f32, zero_add]
    exact Finset.sum_congr rfl fun k _ => congrArg (· * x7 (ix2 j k)) (whole_apply _ _ (rows_h x1 x3 x4 x5 x6 wd row tail) _ (by decide) t k)
  · exact (brow_apply (by decide) _ _ t j).trans (bias_apply x8 _ j)

theorem v8224_isWin : IsWin (kP x1 x3 x4 x5 x6 x7 x8 wd row tail) 32 (kernelRun.sl.v8224 x1 x3 x4 x5 x6 x7 x8 wd row tail) := by
  refine isWin_double _ 16 16#32 rfl (by decide) _ _ (by decide) ?_ rfl
  refine isWin_double _ 8 8#32 rfl (by decide) _ _ (by decide) ?_ rfl
  refine isWin_double _ 4 4#32 rfl (by decide) _ _ (by decide) ?_ rfl
  refine isWin_double _ 2 2#32 rfl (by decide) _ _ (by decide) ?_ rfl
  refine isWin_double _ 1 1#32 rfl (by decide) _ _ (by decide) ?_ rfl
  intro t j
  rw [v8193_apply, win, Finset.sum_range_one, if_pos (Nat.zero_le _), Nat.sub_zero]

/-- The predictions. -/
def kpred (t : ℕ) (n : Fin 500) : EReal :=
  Spec.out x9 x10 (fun k => Spec.pre (kP x1 x3 x4 x5 x6 x7 x8 wd row tail) t k + kc wd row t k) n

theorem v8234_apply (t : Fin 23) (n : Fin 500) :
    kernelRun.sl.v8234 x1 x3 x4 x5 x6 x7 x8 x9 x10 wd row tail (ix2 t n) = kpred x1 x3 x4 x5 x6 x7 x8 x9 x10 wd row tail t.val n := by
  have ht := t.isLt
  have hi : kernelRun.sl.v8234 x1 x3 x4 x5 x6 x7 x8 x9 x10 wd row tail (ix2 t n)
      = kernelRun.sl.v8233 x1 x3 x4 x5 x6 x7 x8 x9 x10 wd row tail (ix2 ⟨t.val, by omega⟩ n) := by
    refine congrArg (kernelRun.sl.v8233 x1 x3 x4 x5 x6 x7 x8 x9 x10 wd row tail) ?_
    funext a
    refine Fin.ext ?_
    match a with
    | ⟨0, _⟩ => exact Nat.zero_add _
    | ⟨1, _⟩ => exact Nat.zero_add _
  rw [hi]
  refine congrArg Ideal.logistic (congrArg₂ (· + ·) ?_ ?_)
  · refine (Ideal.matmul_transposedRhs_apply (M := 24) (K := 256) (N := 500) none _ _ _ ⟨t.val, by omega⟩ n).trans ?_
    rw [show (kernelRun.sl.cst_6095 (F := Ideal) : FVec Ideal S24x500 .f32) (ix2 ⟨t.val, by omega⟩ n) = 0 from Ideal.ofBits_zero_f32, zero_add]
    refine Finset.sum_congr rfl fun k _ => congrArg (· * x9 (ix2 n k)) (congrArg₂ (· + ·) ?_ ?_)
    · exact (v8224_isWin x1 x3 x4 x5 x6 x7 x8 wd row tail ⟨t.val, by omega⟩ k).trans (win_full _ _ _ (by show t.val < 32; omega) _)
    · exact whole_apply _ _ (rows_c wd row) _ (by decide) ⟨t.val, by omega⟩ k
  · exact (brow_apply (by decide) _ _ _ n).trans (bias_apply x10 _ n)

/-! ## The counts -/

/-- Whether code `j` of a visit is lane `k`. -/
def oneAt (j : ℕ) (h : S24x25.Slices ![0, j] S24x1) : FVec Ideal S24x504 .f32 :=
  select (cmpi .eq kernelRun.sl.v14 (broadcastTo S24x504 (extractStridedSlice S24x1 ![0, j] (kernelRun.sl.v16 x1) h) (by decide)))
    (kernelRun.sl.v20 (F := Ideal)) (kernelRun.sl.v21 (F := Ideal))

theorem slices25 (j : ℕ) (hj : j < 25) : S24x25.Slices ![0, j] S24x1 :=
  ⟨rfl, fun a => match a with
    | ⟨0, _⟩ => Nat.le_refl 24
    | ⟨1, _⟩ => (hj : j + 1 ≤ 25)⟩

/-- The counts of the first `n + 1` codes. -/
def cntTo : (n : ℕ) → n < 25 → FVec Ideal S24x504 .f32
  | 0, h => oneAt x1 0 (slices25 0 h)
  | n + 1, h => addf (cntTo n (by omega)) (oneAt x1 (n + 1) (slices25 (n + 1) h))

theorem oneAt_apply (j : ℕ) (hj : j < 25) (t : Fin 24) (k : Fin 504) :
    oneAt x1 j (slices25 j hj) (ix2 t k) = if BitVec.ofNat 32 k.val = x1 (ix2 t ⟨j, hj⟩) + 4#32 then 1 else 0 := by
  have e : (cmpi .eq kernelRun.sl.v14 (broadcastTo S24x504 (extractStridedSlice S24x1 ![0, j] (kernelRun.sl.v16 x1) (slices25 j hj)) (by decide)))
      (ix2 t k : S24x504.Idx) = BitVec.ofBool (BitVec.ofNat 32 (0 * 504 + k.val) == x1 (ix2 t ⟨j, hj⟩) + 4#32) := by
    refine congrArg (fun b : BitVec 32 => BitVec.ofBool (BitVec.ofNat 32 (0 * 504 + k.val) == b + 4#32)) (congrArg x1 ?_)
    funext a
    refine Fin.ext ?_
    match a with
    | ⟨0, _⟩ => exact Nat.zero_add _
    | ⟨1, _⟩ => rfl
  rw [oneAt, select_apply, e, Nat.zero_mul, Nat.zero_add]
  by_cases h : BitVec.ofNat 32 k.val = x1 (ix2 t ⟨j, hj⟩) + 4#32
  · rw [if_pos h, beq_iff_eq.mpr h]; exact Ideal.ofBits_one_f32
  · rw [if_neg h, beq_eq_false_iff_ne.mpr h]; exact Ideal.ofBits_zero_f32

/-- How many of a visit's codes are lane `k`. -/
def cnt (t : Fin 24) (k : ℕ) : EReal := ∑ j : Fin 25, if BitVec.ofNat 32 k = x1 (ix2 t j) + 4#32 then 1 else 0

theorem cntTo_apply (n : ℕ) (h : n < 25) (t : Fin 24) (k : Fin 504) :
    cntTo x1 n h (ix2 t k) = ∑ j ∈ Finset.range (n + 1), if hj : j < 25 then (if BitVec.ofNat 32 k.val = x1 (ix2 t ⟨j, hj⟩) + 4#32 then 1 else 0) else 0 := by
  induction n with
  | zero => rw [Finset.sum_range_one, dif_pos h]; exact oneAt_apply x1 0 h t k
  | succ n ih => rw [Finset.sum_range_succ, dif_pos h, ← ih (by omega), ← oneAt_apply]; rfl

theorem v190_apply (t : Fin 24) (k : Fin 504) : (kernelRun.sl.v190 (F := Ideal) x1) (ix2 t k) = cnt x1 t k.val := by
  refine Eq.trans (b := cntTo x1 24 (by decide) (ix2 t k)) rfl ?_
  rw [cntTo_apply, cnt, Finset.sum_range]
  exact Finset.sum_congr rfl fun j _ => dif_pos j.isLt

theorem md_eq (t : ℕ) (ht : t < 24) (j : Fin 256) :
    md x1 tail t j = ∑ k : Fin 504, cnt x1 ⟨t, ht⟩ k.val * (tail : FVec Ideal S504x256 .f32) (ix2 k j) := by
  rw [md, dif_pos ht]
  refine (Ideal.matmul_plain_apply (M := 24) (K := 504) (N := 256) none _ _ _ ⟨t, ht⟩ j).trans ?_
  rw [show (kernelRun.sl.cst_82 (F := Ideal) : FVec Ideal S24x256 .f32) (ix2 ⟨t, ht⟩ j) = 0 from Ideal.ofBits_zero_f32, zero_add]
  exact Finset.sum_congr rfl fun k _ => congrArg (· * _) (v190_apply x1 ⟨t, ht⟩ k)

/-! ## The one-hot rows -/

theorem half_f32 : Ideal.ofBits .f32 0x3F000000#32 = (((1 : ℝ) / 2 : ℝ) : EReal) := by
  simp [Ideal.ofBits, Ideal.ieee, -EReal.coe_mul]; norm_num

theorem half_lt_cnt (t : Fin 24) (k : ℕ) :
    Ideal.ofBits .f32 0x3F000000#32 < cnt x1 t k ↔ ∃ j : Fin 25, BitVec.ofNat 32 k = x1 (ix2 t j) + 4#32 := by
  rw [half_f32, cnt, Finset.sum_boole]
  constructor
  · intro h
    by_contra hn
    have : Finset.univ.filter (fun j : Fin 25 => BitVec.ofNat 32 k = x1 (ix2 t j) + 4#32) = ∅ :=
      Finset.filter_eq_empty_iff.mpr fun j _ hj => hn ⟨j, hj⟩
    rw [this, Finset.card_empty, Nat.cast_zero] at h
    exact absurd h (not_lt.mpr (EReal.coe_nonneg.mpr (by norm_num)))
  · rintro ⟨j, hj⟩
    have h1 : 1 ≤ (Finset.univ.filter (fun j : Fin 25 => BitVec.ofNat 32 k = x1 (ix2 t j) + 4#32)).card :=
      Finset.card_pos.mpr ⟨j, Finset.mem_filter.mpr ⟨Finset.mem_univ _, hj⟩⟩
    refine lt_of_lt_of_le (b := ((1 : ℕ) : EReal)) ?_ (by exact_mod_cast h1)
    rw [Nat.cast_one, ← EReal.coe_one]
    exact EReal.coe_lt_coe_iff.mpr (by norm_num)

open Classical in
/-- The one-hot row of the medicine codes of the visit after `t`. -/
def ky (t : ℕ) (n : Fin 500) : EReal :=
  if h : t + 1 < 24 then (if ∃ j : Fin 25, BitVec.ofNat 32 (n.val + 4) = x1 (ix2 ⟨t + 1, h⟩ j) + 4#32 then 1 else 0) else 0

theorem v197_apply (t : Fin 23) (n : Fin 500) : (kernelRun.sl.v197 (F := Ideal) x1) (ix2 t n) = ky x1 t.val n := by
  have ht := t.isLt
  have hn := n.isLt
  have e : (kernelRun.sl.v192 (F := Ideal) x1) (ix2 t n) = cnt x1 ⟨t.val + 1, by omega⟩ (n.val + 4) := by
    refine Eq.trans (b := kernelRun.sl.v191 (F := Ideal) x1 (ix2 ⟨t.val + 1, by omega⟩ ⟨n.val, by omega⟩)) ?_ ?_
    · refine congrArg (kernelRun.sl.v191 (F := Ideal) x1) ?_
      funext a
      refine Fin.ext ?_
      match a with
      | ⟨0, _⟩ => exact Nat.add_comm _ _
      | ⟨1, _⟩ => exact Nat.zero_add _
    · refine Eq.trans ?_ (v190_apply x1 ⟨t.val + 1, by omega⟩ ⟨n.val + 4, by omega⟩)
      refine dynamicRotate_apply _ _ _ _ _ _ fun b => ?_
      match b with
      | ⟨0, _⟩ => rfl
      | ⟨1, _⟩ => show n.val + 4 = if (1 : Fin 2) = 1 then (n.val + 504 - 500 % 504) % 504 else n.val; rw [if_pos rfl]; omega
  have c : (kernelRun.sl.v194 (F := Ideal) x1) (ix2 t n)
      = BitVec.ofBool (decide (Ideal.ofBits .f32 0x3F000000#32 < cnt x1 ⟨t.val + 1, by omega⟩ (n.val + 4))) := by
    rw [← e]; rfl
  refine Eq.trans (b := Scalar.select ((kernelRun.sl.v194 (F := Ideal) x1) (ix2 t n)) (Ideal.ofBits .f32 0x3F800000#32) (Ideal.ofBits .f32 0x00000000#32)) rfl ?_
  rw [c, ky, dif_pos (by omega)]
  by_cases h : ∃ j : Fin 25, BitVec.ofNat 32 (n.val + 4) = x1 (ix2 ⟨t.val + 1, by omega⟩ j) + 4#32
  · rw [if_pos h, decide_eq_true ((half_lt_cnt x1 _ _).mpr h)]; exact Ideal.ofBits_one_f32
  · rw [if_neg h, decide_eq_false (mt (half_lt_cnt x1 _ _).mp h)]; exact Ideal.ofBits_zero_f32

/-! ## The loss -/

theorem inv500 : (Named.named (F := Ideal) (φ := .f32) κ "inv_v2" 0x3B03126F#32 : EReal) = ((500⁻¹ : ℝ) : EReal) :=
  IdealRules.named_const.ideal_named_scalar _ _ _ _ rfl

theorem loss_apply (y p : FVec Ideal S23x500 .f32) :
    (k0_pay1 (F := Ideal) y p : EReal) = (∑ t : Fin 23, ∑ n : Fin 500, Spec.term (y (ix2 t n)) (p (ix2 t n))) * ((500⁻¹ : ℝ) : EReal) := by
  unfold k0_pay1
  refine congrArg₂ (· * ·) ?_ inv500
  refine (Ideal.reduceAdd_r3_a12 (n0 := 1) (n1 := 23) (n2 := 500) reduces_S1x23x500_S1 _ _).trans ?_
  refine Finset.sum_congr rfl fun t _ => Finset.sum_congr rfl fun n _ => ?_
  refine (shapeCast_apply _ _ _ (ix2 t n) ?_).trans ?_
  · rw [Shape.rowMajor_val_two, Shape.rowMajor_val_three]
    show t.val * 500 + n.val = (0 * 23 + t.val) * 500 + n.val
    omega
  · show Ideal.ofBits .f32 0x00000000#32 - (y (ix2 t n) * Ideal.log (p (ix2 t n)) + (Ideal.ofBits .f32 0x3F800000#32 - y (ix2 t n)) *
      Ideal.log1p (Ideal.ofBits .f32 0x00000000#32 - p (ix2 t n))) = _
    rw [Ideal.ofBits_zero_f32, Ideal.ofBits_one_f32, zero_sub, zero_sub, Spec.term]

end Cert.KernelIdeal.Val

end
-- ==== Proof.Value.KernelOut.lean ====
/- The kernel's four result arrays after the run, as functions of the argument arrays. -/
module

public import proofs.«01_k».proof.Proof.Value.KernelTail
public import proofs.«01_k».proof.Proof.HandIdeal.Run
public import Idealize.ShloMosaic.Lib.Pipeline.ValueKit

@[expose] public section

noncomputable section

namespace Cert.KernelIdeal.Val

open Cert.KernelIdeal Cert.KernelIdeal.Gen Cert.KernelIdeal.Hand
open Idealize.ShloMosaic hiding ix1 ix2 ix3 eq_ix1 eq_ix2 eq_ix3
open Idealize.ShloMosaic.ValueIdx

variable (m : (ℓ : Loc nD τ sig) → Buf (Elt Ideal) ℓ) (c : Dev nD) (hp : Bounds m)

/-- The one grid point. -/
abbrev p0 : Fin cfg0.N := ⟨0, by decide⟩

theorem idx2 : ∀ t : Fin cfg0.N, win0_0.index t = ![0, 0] ∧ win0_1.index t = ![0, 0] ∧ win0_2.index t = ![0, 0] ∧ win0_5.index t = ![0, 0]
    ∧ win0_7.index t = ![0, 0] ∧ win0_3.index t = ![0] ∧ win0_4.index t = ![0] ∧ win0_6.index t = ![0] ∧ win0_8.index t = ![0] := by decide +kernel

/-- Every input window covers its whole array. -/
theorem iblks : iblk m c 0 p0 = V m c main_arg2 ∧ iblk m c 1 p0 = V m c main_arg8 ∧ iblk m c 2 p0 = V m c main_arg9 ∧ iblk m c 3 p0 = V m c main_arg10 ∧ iblk m c 4 p0 = V m c main_arg11
    ∧ iblk m c 5 p0 = V m c main_arg14 ∧ iblk m c 6 p0 = V m c main_arg15 ∧ iblk m c 7 p0 = V m c main_arg16 ∧ iblk m c 8 p0 = V m c main_arg17 := by
  obtain ⟨i0, i1, i2, i5, i7, i3, i4, i6, i8⟩ := idx2 p0
  refine ⟨?_, ?_, ?_, ?_, ?_, ?_, ?_, ?_, ?_⟩ <;>
  · funext y
    blk_simp [iblk]
    refine congrArg (V m c _) ?_
    funext a
    apply Fin.ext
    blk_simp [i0, i1, i2, i3, i4, i5, i6, i7, i8]
    rcases a with ⟨_ | _ | _, ha⟩ <;> first | exact Nat.zero_add _ | exact absurd (show _ < 1 from ha) (by omega) | exact absurd (show _ < 2 from ha) (by omega)

/-- The predictions as functions of the arguments. -/
abbrev P (t : ℕ) (n : Fin 500) : EReal :=
  kpred (iblk m c 0 p0) (iblk m c 1 p0) (iblk m c 2 p0) (iblk m c 3 p0) (iblk m c 4 p0) (iblk m c 5 p0) (iblk m c 6 p0) (iblk m c 7 p0) (iblk m c 8 p0)
    (wdOf c (V m c main_arg0)) (rowOf c (V m c main_arg3)) (tailOf c (V m c main_arg3)) t n

/-- One write of a whole array reads back. -/
theorem canon_one {e : EltTy} (inb : ∀ a, (![0, 0] : Fin 2 → ℕ) a + S23x500.size a ≤ S23x500.size a) (w : S23x500.Idx → Elt Ideal e) (t : Fin 23) (n : Fin 500) :
    View.canon [(⟨Rect.unit (s := S23x500) ![0, 0] S23x500.size inb, w⟩ : View.Piece (Elt Ideal) S23x500 e)] (ix2 t n) = w (ix2 t n) := by
  have e' : (ix2 t n : S23x500.Idx) = (Rect.unit (s := S23x500) ![0, 0] S23x500.size inb).emb (ix2 t n : S23x500.Idx) := by
    funext a
    refine Fin.ext ?_
    match a with
    | ⟨0, _⟩ => show t.val = 0 + 1 * t.val; omega
    | ⟨1, _⟩ => show n.val = 0 + 1 * n.val; omega
  exact (congrArg _ e').trans (View.canon_cons_emb (Rect.unit (s := S23x500) ![0, 0] S23x500.size inb) w [] (ix2 t n : S23x500.Idx))

theorem out9_apply (t : Fin 23) (n : Fin 500) : out9 m hp c p0 (ix2 t n) = ky (iblk m c 0 p0) t.val n := by
  unfold out9
  rw [View.read_writes_junk_eq_canon]
  exact (canon_one (e := .f32) (by decide) (kernelRun.sl.v197 (F := Ideal) (iblk m c 0 p0)) t n).trans (v197_apply (iblk m c 0 p0) t n)

/-- The predictions' array as the body leaves it. -/
abbrev Pv : FVec Ideal S23x500 .f32 :=
  kernelRun.sl.v8234 (F := Ideal) (iblk m c 0 p0) (iblk m c 1 p0) (iblk m c 2 p0) (iblk m c 3 p0) (iblk m c 4 p0) (iblk m c 5 p0) (iblk m c 6 p0)
    (iblk m c 7 p0) (iblk m c 8 p0) (wdOf c (V m c main_arg0)) (rowOf c (V m c main_arg3)) (tailOf c (V m c main_arg3))

theorem Pv_apply (t : Fin 23) (n : Fin 500) : Pv m c (ix2 t n) = P m c t.val n := v8234_apply ..

theorem out11_apply (t : Fin 23) (n : Fin 500) : out11 m hp c p0 (ix2 t n) = P m c t.val n := by
  unfold out11
  rw [View.read_writes_junk_eq_canon]
  exact (canon_one (e := .f32) (by decide) (Pv m c) t n).trans (Pv_apply m c t n)

theorem out12_apply (i : S_.Idx) : out12 m hp c p0 i
    = (∑ t : Fin 23, ∑ n : Fin 500, Spec.term (ky (iblk m c 0 p0) t.val n) (P m c t.val n)) * ((500⁻¹ : ℝ) : EReal) := by
  unfold out12
  rw [View.read_writes_junk_eq_canon]
  have hi : i = (Rect.unit (s := S_) ![] S_.size inb_S_S_).emb (i : S_.Idx) := funext fun a => a.elim0
  have h1 := View.canon_cons_emb (Val := Elt Ideal) (e := .f32) (Rect.unit (s := S_) ![] S_.size inb_S_S_)
    (fun _ => k0_pay1 (F := Ideal) (kernelRun.sl.v197 (F := Ideal) (iblk m c 0 p0)) (Pv m c)) [] i
  rw [← hi] at h1
  refine Eq.trans h1 ((loss_apply _ _).trans ?_)
  exact congrArg (· * _) (Finset.sum_congr rfl fun t _ => Finset.sum_congr rfl fun n _ =>
      congrArg₂ Spec.term (v197_apply _ t n) (Pv_apply m c t n))

/-- The padded medicine codes. -/
def kpad (x : S24x25.Idx → BitVec 32) (t : ℕ) (n : Fin 500) : BitVec 32 :=
  if h : n.val < 25 ∧ t + 1 < 24 then x (ix2 ⟨t + 1, h.2⟩ ⟨n.val, h.1⟩) else 4294967295#32

theorem out10_apply (t : Fin 23) (n : Fin 500) : out10 m hp c p0 (ix2 t n) = kpad (iblk m c 0 p0) t.val n := by
  have ht := t.isLt
  unfold out10
  rw [View.read_writes_junk_eq_canon]
  let L : List (View.Piece (Elt Ideal) S23x500 .i32) := [⟨Rect.unit (s := S23x500) ![0, 0] S23x500.size (by decide), kernelRun.sl.v10⟩]
  let p : View.Piece (Elt Ideal) S23x500 .i32 := ⟨Rect.unit (s := S23x500) ![0, 0] S23x25.size (by decide), kernelRun.sl.v12 (F := Ideal) (iblk m c 0 p0)⟩
  show View.canon (p :: L) (ix2 t n) = _
  by_cases h : n.val < 25
  · rw [kpad, dif_pos ⟨h, by omega⟩]
    refine Eq.trans (congrArg _ ?_) ((View.canon_cons_emb p.1 p.2 L (ix2 t ⟨n.val, h⟩)).trans (congrArg (iblk m c 0 p0) ?_))
    · funext a
      refine Fin.ext ?_
      match a with
      | ⟨0, _⟩ => show t.val = 0 + 1 * t.val; omega
      | ⟨1, _⟩ => show n.val = 0 + 1 * n.val; omega
    · funext a
      refine Fin.ext ?_
      match a with
      | ⟨0, _⟩ => exact Nat.add_comm _ _
      | ⟨1, _⟩ => exact Nat.zero_add _
  · rw [kpad, dif_neg (fun h' => h h'.1), View.canon_cons_of_not_mem]
    · exact canon_one (e := .i32) _ _ t n
    · intro hm
      obtain ⟨x, hx⟩ := LoadRect.exists_idx_of_mem (Rect.toLoadRect _) hm
      have h0 := congrArg (fun i : S23x500.Idx => (i 1).val) hx
      have h1 : 0 + 1 * (x 1).val = n.val := h0
      have h2 : (x 1).val < 25 := (x 1).isLt
      omega

theorem out9_eq (j : S23x500.Idx) : out9 m hp c p0 j = ky (iblk m c 0 p0) (j 0).val (j 1) := by
  exact (congrArg (out9 m hp c p0) (eq_ix2 j)).trans (out9_apply m c hp (j 0) (j 1))
set_option maxHeartbeats 4000000 in
theorem arr9 : (dats m hp 0 c).arrAt 9 cfg0.N = fun i : S23x500.Idx => ky (iblk m c 0 p0) (i 0).val (i 1) := by
  refine (dats m hp 0 c).arrAt_eq_of_after_last 9 p0 (by decide +kernel) _ fun j => ?_
  rw [after9]
  exact out9_eq m c hp j
theorem out10_eq (j : S23x500.Idx) : out10 m hp c p0 j = kpad (iblk m c 0 p0) (j 0).val (j 1) := by
  exact (congrArg (out10 m hp c p0) (eq_ix2 j)).trans (out10_apply m c hp (j 0) (j 1))
theorem arr10 : (dats m hp 0 c).arrAt 10 cfg0.N = fun i : S23x500.Idx => kpad (iblk m c 0 p0) (i 0).val (i 1) := by
  refine (dats m hp 0 c).arrAt_eq_of_after_last 10 p0 (by decide +kernel) _ fun j => ?_
  rw [after10]
  exact out10_eq m c hp j
theorem out11_eq (j : S23x500.Idx) : out11 m hp c p0 j = P m c (j 0).val (j 1) := by
  exact (congrArg (out11 m hp c p0) (eq_ix2 j)).trans (out11_apply m c hp (j 0) (j 1))
set_option maxHeartbeats 4000000 in
theorem arr11 : (dats m hp 0 c).arrAt 11 cfg0.N = fun i : S23x500.Idx => P m c (i 0).val (i 1) := by
  refine (dats m hp 0 c).arrAt_eq_of_after_last 11 p0 (by decide +kernel) _ fun j => ?_
  rw [after11]
  exact out11_eq m c hp j
theorem arr12 : (dats m hp 0 c).arrAt 12 cfg0.N = fun _ : S_.Idx =>
    (∑ t : Fin 23, ∑ n : Fin 500, Spec.term (ky (iblk m c 0 p0) t.val n) (P m c t.val n)) * ((500⁻¹ : ℝ) : EReal) := by
  refine (dats m hp 0 c).arrAt_eq_of_after_last 12 p0 (by decide +kernel) _ fun j => ?_
  rw [after12]
  exact out12_apply m c hp _

end Cert.KernelIdeal.Val

end
-- ==== Proof.Value.RefCell.lean ====
/- The reference's recurrence, one visit at a time: the row of gates it reads, the state's gates, the gated cell, the row
   it writes into the stack. -/
module

public import proofs.«01_k».proof.Proof.Gen.ReferenceIdeal
public import proofs.«01_k».proof.Proof.Value.Spec
public import Idealize.ShloMosaic.Lib.IdealHost
public import Idealize.ShloMosaic.Lib.Pointwise.ShapeOpsCore
public import Idealize.ShloMosaic.Lib.KernelVsHost

@[expose] public section

noncomputable section

namespace Cert.ReferenceIdeal.Val

open Cert.ReferenceIdeal Cert.ReferenceIdeal.Gen
open Idealize.ShloMosaic hiding ix1 ix2 ix3 eq_ix1 eq_ix2 eq_ix3
open Idealize.ShloMosaic.ValueIdx

/-- Row `t` of an array of gates; zeros past the last row. -/
def grow (A : FVec Ideal S23x768 .f32) (t : ℕ) (n : Fin 768) : EReal := if h : t < 23 then A (ix2 ⟨t, h⟩ n) else 0

/-- The starts of a block at row `k`. -/
def at0 (i6 : IVec S_ 32) (h : 0 < S_.numel) : Fin 2 → Int :=
  fun k => (((![i6, constantI S_ 32 0#32] : Fin 2 → IVec S_ 32)) k (Shape.Idx.first h)).toInt

theorem at0_zero (i6 : IVec S_ 32) (h : 0 < S_.numel) (k : ℕ) (hk : k < 24) (h6 : i6 = fun _ => BitVec.ofNat 32 k) : at0 i6 h 0 = (k : Int) := by
  subst h6
  show (BitVec.ofNat 32 k).toInt = _
  rw [BitVec.toInt_eq_toNat_of_lt (by rw [BitVec.toNat_ofNat]; omega), BitVec.toNat_ofNat]
  omega

theorem at0_one (i6 : IVec S_ 32) (h : 0 < S_.numel) : at0 i6 h 1 = ((0 : ℕ) : Int) := rfl

/-- The row of gates visit `k` reads. -/
theorem row_eq (A : FVec Ideal S23x768 .f32) (i6 : IVec S_ 32) (h : 0 < S_.numel) (k : ℕ) (hk : k < 23) (h6 : i6 = fun _ => BitVec.ofNat 32 k)
    (hs : S23x768.Slices (fun _ => 0) S1x768) (hc : S1x768.ShapeCasts S768) (n : Fin 768) :
    shapeCast S768 (Host.dynamicSlice S1x768 A (at0 i6 h) hs) hc (ix1 n) = grow A k n := by
  rw [grow, dif_pos hk]
  refine (shapeCast_apply _ _ _ (ix2 0 n) ?_).trans ?_
  · rw [Shape.rowMajor_val_one, Shape.rowMajor_val_two]; exact (by omega : 0 * 768 + n.val = n.val)
  · rw [Host.dynamicSlice_apply]
    refine congrArg A ?_
    funext a
    refine Fin.ext ?_
    match a with
    | ⟨0, _⟩ =>
      have := Host.clampedStart_of_le (s := S23x768) (t := S1x768) hs.1 (at0 i6 h) 0 k (at0_zero i6 h k (by omega) h6) (by show k + 1 ≤ 23; omega)
      show Host.clampedStart S23x768 S1x768 hs.1 (at0 i6 h) 0 + 0 = k
      omega
    | ⟨1, _⟩ =>
      have := Host.clampedStart_of_le (s := S23x768) (t := S1x768) hs.1 (at0 i6 h) 1 0 (at0_one i6 h) (by show 0 + 768 ≤ 768; omega)
      show Host.clampedStart S23x768 S1x768 hs.1 (at0 i6 h) 1 + n.val = n.val
      omega

/-- The row visit `k` writes. -/
theorem put_eq (A : FVec Ideal S23x256 .f32) (x : FVec Ideal S256 .f32) (i6 : IVec S_ 32) (h : 0 < S_.numel) (k : ℕ) (hk : k < 23)
    (h6 : i6 = fun _ => BitVec.ofNat 32 k) (hs : S23x256.Slices (fun _ => 0) S1x256) (hb : S256.BroadcastsInDim S1x256 (![1] : Fin 1 → Fin S1x256.rank))
    (t : Fin 23) (j : Fin 256) :
    Host.dynamicUpdateSlice A (broadcastInDim S1x256 ![1] hb x) (at0 i6 h) hs (ix2 t j) = if t.val = k then x (ix1 j) else A (ix2 t j) := by
  have ht := t.isLt
  have hj := j.isLt
  have c0 := Host.clampedStart_of_le (s := S23x256) (t := S1x256) hs.1 (at0 i6 h) 0 k (at0_zero i6 h k (by omega) h6) (by show k + 1 ≤ 23; omega)
  have c1 := Host.clampedStart_of_le (s := S23x256) (t := S1x256) hs.1 (at0 i6 h) 1 0 (at0_one i6 h) (by show 0 + 256 ≤ 256; omega)
  rw [Host.dynamicUpdateSlice_apply]
  by_cases htk : t.val = k
  · rw [if_pos htk, dif_pos]
    · refine congrArg x ?_
      funext a
      refine Fin.ext ?_
      match a with
      | ⟨0, _⟩ =>
        show j.val - Host.clampedStart S23x256 S1x256 hs.1 (at0 i6 h) 1 = j.val
        rw [c1]; rfl
    · intro a
      match a with
      | ⟨0, _⟩ =>
        show Host.clampedStart S23x256 S1x256 hs.1 (at0 i6 h) 0 ≤ t.val ∧ t.val < Host.clampedStart S23x256 S1x256 hs.1 (at0 i6 h) 0 + 1
        omega
      | ⟨1, _⟩ =>
        show Host.clampedStart S23x256 S1x256 hs.1 (at0 i6 h) 1 ≤ j.val ∧ j.val < Host.clampedStart S23x256 S1x256 hs.1 (at0 i6 h) 1 + 256
        omega
  · rw [if_neg htk, dif_neg]
    intro hin
    have h0 : Host.clampedStart S23x256 S1x256 hs.1 (at0 i6 h) 0 ≤ t.val ∧ t.val < Host.clampedStart S23x256 S1x256 hs.1 (at0 i6 h) 0 + 1 := hin 0
    omega

/-- A 256-lane vector times a transposed matrix. -/
theorem vecmat (d : DotDims S256 S256x768 S768) (hd : d = dot_S256_S256x768_S768_0_0_n_1_n_n) (x : FVec Ideal S256 .f32) (w : FVec Ideal S768x256 .f32)
    (ht : S768x256.Transposes [1, 0] S256x768) (n : Fin 768) :
    Host.dotGeneral d none x (transpose S256x768 [1, 0] w ht) (ix1 n) = ∑ k : Fin 256, x (ix1 k) * w (ix2 n k) := by
  subst hd
  refine (Ideal.dotGeneral_apply _ _ _ _ _ _).trans ?_
  rw [← (contrEquiv1 dot_S256_S256x768_S768_0_0_n_1_n_n 256 rfl rfl).symm.sum_comp]
  refine Finset.sum_congr rfl fun k _ => congrArg₂ (· * ·) (congrArg x ?_) (congrArg w ?_)
  · funext a
    refine Fin.ext ?_
    match a with
    | ⟨0, _⟩ => exact contrEquiv1_symm_val dot_S256_S256x768_S768_0_0_n_1_n_n 256 rfl rfl k
  · funext a
    refine Fin.ext ?_
    match a with
    | ⟨0, _⟩ => rfl
    | ⟨1, _⟩ => exact contrEquiv1_symm_val dot_S256_S256x768_S768_0_0_n_1_n_n 256 rfl rfl k

theorem slice1 (o : ℕ) (ho : o + 256 ≤ 768) (x : FVec Ideal S768 .f32) (h : S768.Slices ![o] S256) (j : Fin 256) :
    extractStridedSlice S256 ![o] x h (ix1 j) = x (ix1 (Spec.at3 o ho j)) := by
  refine congrArg x ?_
  funext a
  refine Fin.ext ?_
  match a with
  | ⟨0, _⟩ => rfl

variable (b0 : S_.BroadcastsInDim S256 (![] : Fin 0 → Fin S256.rank)) (s0 : S768.Slices ![0] S256) (s1 : S768.Slices ![256] S256) (s2 : S768.Slices ![512] S256)

/-- The update gate as the reference writes it. -/
def zOf (G H : FVec Ideal S768 .f32) : FVec Ideal S256 .f32 :=
  Host.divf (broadcastInDim S256 ![] b0 (constant S_ .f32 0x3F800000#32)) (addf (broadcastInDim S256 ![] b0 (constant S_ .f32 0x3F800000#32)) (Host.exp (Host.negf (addf (extractStridedSlice S256 ![256] G s1) (extractStridedSlice S256 ![256] H s1)))))

/-- The next state as the reference writes it. -/
def hOf (G H : FVec Ideal S768 .f32) (h : FVec Ideal S256 .f32) : FVec Ideal S256 .f32 :=
  addf (mulf (subf (broadcastInDim S256 ![] b0 (constant S_ .f32 0x3F800000#32)) (zOf b0 s1 G H)) (Host.tanh (addf (extractStridedSlice S256 ![512] G s2) (mulf (Host.divf (broadcastInDim S256 ![] b0 (constant S_ .f32 0x3F800000#32)) (addf (broadcastInDim S256 ![] b0 (constant S_ .f32 0x3F800000#32)) (Host.exp (Host.negf (addf (extractStridedSlice S256 ![0] G s0) (extractStridedSlice S256 ![0] H s0)))))) (extractStridedSlice S256 ![512] H s2))))) (mulf (zOf b0 s1 G H) h)

theorem one_apply (j : Fin 256) : broadcastInDim S256 ![] b0 (constant (F := Ideal) S_ .f32 0x3F800000#32) (ix1 j) = 1 := Ideal.ofBits_one_f32

theorem sig_apply (o : ℕ) (ho : o + 256 ≤ 768) (s : S768.Slices ![o] S256) (G H : FVec Ideal S768 .f32) (j : Fin 256) :
    (Host.divf (broadcastInDim S256 ![] b0 (constant S_ .f32 0x3F800000#32)) (addf (broadcastInDim S256 ![] b0 (constant S_ .f32 0x3F800000#32)) (Host.exp (Host.negf (addf (extractStridedSlice S256 ![o] G s) (extractStridedSlice S256 ![o] H s))))) : FVec Ideal S256 .f32) (ix1 j)
      = Ideal.logistic (G (ix1 (Spec.at3 o ho j)) + H (ix1 (Spec.at3 o ho j))) := by
  rw [← slice1 o ho G s, ← slice1 o ho H s, Ideal.logistic, ← one_apply b0 j]
  rfl

/-- The next state is the gated cell's. -/
theorem hOf_apply (w : FVec Ideal S768x256 .f32) (b : FVec Ideal S768 .f32) (G H : FVec Ideal S768 .f32) (h : FVec Ideal S256 .f32)
    (g : Fin 768 → EReal) (st : Fin 256 → EReal) (hG : ∀ n, G (ix1 n) = g n) (hH : ∀ n, H (ix1 n) = Spec.gh w b st n)
    (hh : ∀ j, h (ix1 j) = st j) (j : Fin 256) : hOf b0 s0 s1 s2 G H h (ix1 j) = Spec.cell w b g st j := by
  rw [Spec.cell, Spec.gate, ← hG, ← hG, ← hG, ← hH, ← hH, ← hH, ← hh, ← sig_apply b0 256 (by omega) s1, ← sig_apply b0 0 (by omega) s0,
    ← slice1 512 (by omega) G s2, ← slice1 512 (by omega) H s2, ← one_apply b0 j]
  rfl

end Cert.ReferenceIdeal.Val

end
-- ==== Proof.Value.RefLoop.lean ====
/- The reference's loop: after `k` trips the carried buffers hold the two recurrences' states and the rows written so far. -/
module

public import proofs.«01_k».proof.Proof.Gen.ReferenceIdeal.Run
public import proofs.«01_k».proof.Proof.Value.RefCell

@[expose] public section

noncomputable section

namespace Cert.ReferenceIdeal.Val

open Cert.ReferenceIdeal Cert.ReferenceIdeal.Gen Cert.ReferenceIdeal.Value
open Idealize.ShloMosaic hiding ix1 ix2 ix3 eq_ix1 eq_ix2 eq_ix3
open Idealize.ShloMosaic.ValueIdx Idealize.ShloMosaic.StableHlo

/-- A buffer of the reference's contents, by its name. -/
abbrev rd (X : Valuation τ sig (Elt Ideal)) (r : Ref sig .tc) := X (Proc.devRef .tc r)

/-- The state a trip computes is the gated cell's of the row it reads and the state it holds. -/
theorem next_eq (A : FVec Ideal S23x768 .f32) (w : FVec Ideal S768x256 .f32) (b : FVec Ideal S768 .f32) (h : FVec Ideal S256 .f32)
    (i6 : IVec S_ 32) (k : ℕ) (hk : k < 23) (h6 : i6 = fun _ => BitVec.ofNat 32 k) (st : Fin 256 → EReal) (hh : ∀ j, h (ix1 j) = st j) (j : Fin 256) :
    hOf bcast_S_S256 slices_S768_S256_0 slices_S768_S256_256 slices_S768_S256_512
      (shapeCast S768 (Host.dynamicSlice S1x768 A (at0 i6 h_S_) sliceFits_S23x768_S1x768) shapeCasts_S1x768_S768)
      (addf (Host.dotGeneral dot_S256_S256x768_S768_0_0_n_1_n_n none h (transpose S256x768 [1, 0] w transposes_S768x256_S256x768_1_0)) b) h (ix1 j)
      = Spec.cell w b (grow A k) st j := by
  refine hOf_apply _ _ _ _ w b _ _ _ _ _ (fun n => row_eq A i6 h_S_ k hk h6 _ _ n) (fun n => ?_) hh j
  refine congrArg (· + b (ix1 n)) ((vecmat _ rfl h w _ n).trans ?_)
  exact Finset.sum_congr rfl fun k _ => congrArg (· * w (ix2 n k)) (hh k)

/-- What the carried buffers hold before trip `k`. -/
structure Inv (A B : FVec Ideal S23x768 .f32) (w2 w4 : FVec Ideal S768x256 .f32) (b3 b5 : FVec Ideal S768 .f32) (k : ℕ)
    (X : Valuation τ sig (Elt Ideal)) : Prop where
  h0 : (rd X main_v22_0 : FVec Ideal S23x768 .f32) = A
  h1 : (rd X main_v22_1 : FVec Ideal S23x768 .f32) = B
  h2 : (rd X main_v22_2 : FVec Ideal S768x256 .f32) = w2
  h3 : (rd X main_v22_3 : FVec Ideal S768 .f32) = b3
  h4 : (rd X main_v22_4 : FVec Ideal S768x256 .f32) = w4
  h5 : (rd X main_v22_5 : FVec Ideal S768 .f32) = b5
  h6 : (rd X main_v22_6 : IVec S_ 32) = fun _ => BitVec.ofNat 32 k
  h7 : ∀ j, (rd X main_v22_7 : FVec Ideal S256 .f32) (ix1 j) = Spec.hs w2 b3 (grow A) k j
  h8 : ∀ j, (rd X main_v22_8 : FVec Ideal S256 .f32) (ix1 j) = Spec.hs w4 b5 (grow B) k j
  h9 : ∀ (t : Fin 23) j, t.val < k → (rd X main_v22_9 : FVec Ideal S23x256 .f32) (ix2 t j) = Spec.hs w2 b3 (grow A) (t.val + 1) j
  h10 : ∀ (t : Fin 23) j, t.val < k → (rd X main_v22_10 : FVec Ideal S23x256 .f32) (ix2 t j) = Spec.hs w4 b5 (grow B) (t.val + 1) j

variable {A B : FVec Ideal S23x768 .f32} {w2 w4 : FVec Ideal S768x256 .f32} {b3 b5 : FVec Ideal S768 .f32} {k : ℕ} {X : Valuation τ sig (Elt Ideal)}

theorem inv_v137 (hk : k < 23) (h : Inv A B w2 w4 b3 b5 k X) (j : Fin 256) :
    (res_main_while0b_v137 X : FVec Ideal S256 .f32) (ix1 j) = Spec.hs w2 b3 (grow A) (k + 1) j := by
  have e := next_eq (rd X main_v22_0) (rd X main_v22_2) (rd X main_v22_3) (rd X main_v22_7) (rd X main_v22_6) k hk h.h6 _ h.h7 j
  rw [h.h0, h.h2, h.h3] at e
  refine Eq.trans ?_ e
  rw [← h.h0, ← h.h2, ← h.h3]
  unfold res_main_while0b_v137 res_main_while0b_v129 res_main_while0b_v109 res_main_while0b_v105
  rfl

theorem inv_v168 (hk : k < 23) (h : Inv A B w2 w4 b3 b5 k X) (j : Fin 256) :
    (res_main_while0b_v168 X : FVec Ideal S256 .f32) (ix1 j) = Spec.hs w4 b5 (grow B) (k + 1) j := by
  have e := next_eq (rd X main_v22_1) (rd X main_v22_4) (rd X main_v22_5) (rd X main_v22_8) (rd X main_v22_6) k hk h.h6 _ h.h8 j
  rw [h.h1, h.h4, h.h5] at e
  refine Eq.trans ?_ e
  rw [← h.h1, ← h.h4, ← h.h5]
  unfold res_main_while0b_v168 res_main_while0b_v160 res_main_while0b_v140 res_main_while0b_v106
  rfl

/-- A trip writes its row and keeps the rows before it. -/
theorem rows_step (S : FVec Ideal S23x256 .f32) (x : FVec Ideal S256 .f32) (i6 : IVec S_ 32) (hk : k < 23) (h6 : i6 = fun _ => BitVec.ofNat 32 k)
    (f : ℕ → Fin 256 → EReal) (hS : ∀ (t : Fin 23) j, t.val < k → S (ix2 t j) = f (t.val + 1) j) (hx : ∀ j, x (ix1 j) = f (k + 1) j)
    (t : Fin 23) (j : Fin 256) (ht : t.val < k + 1) :
    Host.dynamicUpdateSlice S (broadcastInDim S1x256 ![1] bcast_S256_S1x256_1 x) (at0 i6 h_S_) updateFits_S23x256_S1x256 (ix2 t j) = f (t.val + 1) j := by
  rw [put_eq S x i6 h_S_ k hk h6]
  by_cases e : t.val = k
  · rw [if_pos e, hx, e]
  · rw [if_neg e, hS t j (by omega)]

theorem inv_step (hk : k < 23) (h : Inv A B w2 w4 b3 b5 k X) : Inv A B w2 w4 b3 b5 (k + 1) (STEP X) where
  h0 := (STEP_main_v22_0 X).trans h.h0
  h1 := (STEP_main_v22_1 X).trans h.h1
  h2 := (STEP_main_v22_2 X).trans h.h2
  h3 := (STEP_main_v22_3 X).trans h.h3
  h4 := (STEP_main_v22_4 X).trans h.h4
  h5 := (STEP_main_v22_5 X).trans h.h5
  h6 := by
    refine (STEP_main_v22_6 X).trans ?_
    unfold step_main_v22_6
    refine (congrArg (fun v : IVec S_ 32 => addi v (constantI S_ 32 1#32)) h.h6).trans ?_
    funext i
    show BitVec.ofNat 32 k + 1#32 = BitVec.ofNat 32 (k + 1)
    rw [BitVec.ofNat_add]
  h7 j := (congrFun (STEP_main_v22_7 X) (ix1 j)).trans (inv_v137 hk h j)
  h8 j := (congrFun (STEP_main_v22_8 X) (ix1 j)).trans (inv_v168 hk h j)
  h9 t j ht := (congrFun (STEP_main_v22_9 X) (ix2 t j)).trans
    (rows_step (rd X main_v22_9) (res_main_while0b_v137 X) (rd X main_v22_6) hk h.h6 _ h.h9 (inv_v137 hk h) t j ht)
  h10 t j ht := (congrFun (STEP_main_v22_10 X) (ix2 t j)).trans
    (rows_step (rd X main_v22_10) (res_main_while0b_v168 X) (rd X main_v22_6) hk h.h6 _ h.h10 (inv_v168 hk h) t j ht)

theorem inv_iter (h : Inv A B w2 w4 b3 b5 0 X) : ∀ k, k ≤ 23 → Inv A B w2 w4 b3 b5 k (STEP^[k] X)
  | 0, _ => h
  | k + 1, hk => by
    rw [Function.iterate_succ_apply']
    exact inv_step (by omega) (inv_iter h k (by omega))

end Cert.ReferenceIdeal.Val

end
-- ==== Proof.Value.RefLists.lean ====
/- The reference's stretches of operations before and after the loop, each result as one term over what the stretch reads. -/
module

public import proofs.«01_k».proof.Proof.Gen.ReferenceIdeal.Run
public import Idealize.ShloMosaic.Lib.StableHlo.RunClose

@[expose] public section

set_option maxRecDepth 8192
set_option maxHeartbeats 4000000

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo

variable {F : FTy → Type} [FloatOps F] (X : Valuation τ sig (Elt F))

/-- The visits' sums of table rows. -/
abbrev sumF (codes : IVec S23x4000 32) (emb : FVec F S4001x256 .f32) : FVec F S23x256 .f32 :=
  Host.reduceAdd (Host.gather gather_S4001x256_S23x4000x1_S23x4000x256_2_0_n_n_0_2_1256 emb
    (broadcastInDim S23x4000x1 ![0, 1] bcast_S23x4000_S23x4000x1_0_1 (select (cmpi .slt codes (broadcastInDim S23x4000 ![] bcast_S_S23x4000 (constantI S_ 32 0#32)))
      (addi codes (broadcastInDim S23x4000 ![] bcast_S_S23x4000 (constantI S_ 32 4001#32))) codes)))
    (constant S_ .f32 0x00000000#32) reducesTo_S23x4000x256_S23x256_d1 h_S_

/-- The visits' gates. -/
abbrev giF (v : FVec F S23x256 .f32) (w : FVec F S768x256 .f32) (b : FVec F S768 .f32) : FVec F S23x768 .f32 :=
  addf (Host.dotGeneral dot_S23x256_S256x768_S23x768_1_0_0_1_n_n none v (transpose S256x768 [1, 0] w transposes_S768x256_S256x768_1_0))
    (broadcastInDim S23x768 ![0, 1] bcast_S1x768_S23x768_0_1 (broadcastInDim S1x768 ![1] bcast_S768_S1x768_1 b))

abbrev codes0 (a : IVec S24x4000 32) : IVec S23x4000 32 := extractStridedSlice S23x4000 ![0, 0] a slices_S24x4000_S23x4000_0_0
abbrev codes1 (a : IVec S24x4000 32) : IVec S23x4000 32 := extractStridedSlice S23x4000 ![1, 0] a slices_S24x4000_S23x4000_1_0

theorem pre_v8 : after hostOps0 X (Proc.devRef .tc main_v8) = sumF (codes0 (X (Proc.devRef .tc main_arg0))) (X (Proc.devRef .tc main_arg3)) := by
  after_results_entrywise []

theorem pre_v22_0 : after hostOps0 X (Proc.devRef .tc main_v22_0)
    = giF (sumF (codes0 (X (Proc.devRef .tc main_arg0))) (X (Proc.devRef .tc main_arg3))) (X (Proc.devRef .tc main_arg4)) (X (Proc.devRef .tc main_arg6)) := by
  after_results_entrywise []

theorem pre_v22_1 : after hostOps0 X (Proc.devRef .tc main_v22_1)
    = giF (sumF (codes0 (X (Proc.devRef .tc main_arg0))) (X (Proc.devRef .tc main_arg3))) (X (Proc.devRef .tc main_arg8)) (X (Proc.devRef .tc main_arg10)) := by
  after_results_entrywise []

theorem pre_v22_2 : after hostOps0 X (Proc.devRef .tc main_v22_2) = X (Proc.devRef .tc main_arg5) := by
  after_results_entrywise []
theorem pre_v22_3 : after hostOps0 X (Proc.devRef .tc main_v22_3) = X (Proc.devRef .tc main_arg7) := by
  after_results_entrywise []
theorem pre_v22_4 : after hostOps0 X (Proc.devRef .tc main_v22_4) = X (Proc.devRef .tc main_arg9) := by
  after_results_entrywise []
theorem pre_v22_5 : after hostOps0 X (Proc.devRef .tc main_v22_5) = X (Proc.devRef .tc main_arg11) := by
  after_results_entrywise []
theorem pre_v22_6 : after hostOps0 X (Proc.devRef .tc main_v22_6) = constantI S_ 32 0#32 := by
  after_results_entrywise []
theorem pre_v22_7 : after hostOps0 X (Proc.devRef .tc main_v22_7) = broadcastInDim S256 ![] bcast_S_S256 (constant S_ .f32 0x00000000#32) := by
  after_results_entrywise []
theorem pre_v22_8 : after hostOps0 X (Proc.devRef .tc main_v22_8) = broadcastInDim S256 ![] bcast_S_S256 (constant S_ .f32 0x00000000#32) := by
  after_results_entrywise []

/-- The visits' logits. -/
abbrev logitF (s : FVec F S23x256 .f32) (w : FVec F S1x256 .f32) (b : FVec F S1 .f32) : FVec F S23x1 .f32 :=
  addf (Host.dotGeneral dot_S23x256_S256x1_S23x1_1_0_0_1_n_n none s (transpose S256x1 [1, 0] w transposes_S1x256_S256x1_1_0))
    (broadcastInDim S23x1 ![0, 1] bcast_S1x1_S23x1_0_1 (broadcastInDim S1x1 ![1] bcast_S1_S1x1_1 b))

/-- The exponentials of the logits less their largest. -/
abbrev shiftF (l : FVec F S23x1 .f32) : FVec F S23x1 .f32 :=
  Host.exp (subf l (broadcastInDim S23x1 ![0] bcast_S23_S23x1_0 (maximumf (broadcastInDim S23 ![] bcast_S_S23 (constant S_ .f32 0xFF800000#32))
    (Host.reduce FloatOps.maximumf l (constant S_ .f32 0xFF800000#32) reducesTo_S23x1_S23_d1 h_S_))))

/-- The softmax over one logit. -/
abbrev softF (l : FVec F S23x1 .f32) : FVec F S23x1 .f32 :=
  Host.divf (shiftF l) (broadcastInDim S23x1 ![0] bcast_S23_S23x1_0 (Host.reduceAdd (shiftF l) (constant S_ .f32 0x00000000#32) reducesTo_S23x1_S23_d1 h_S_))

/-- The visits' attention. -/
abbrev attnF (s : FVec F S23x256 .f32) (w : FVec F S256x256 .f32) (b : FVec F S256 .f32) : FVec F S23x256 .f32 :=
  Host.tanh (addf (Host.dotGeneral dot_S23x256_S256x256_S23x256_1_0_0_1_n_n none s (transpose S256x256 [1, 0] w transposes_S256x256_S256x256_1_0))
    (broadcastInDim S23x256 ![0, 1] bcast_S1x256_S23x256_0_1 (broadcastInDim S1x256 ![1] bcast_S256_S1x256_1 b)))

theorem post_v45 : after hostOps0_1 X (Proc.devRef .tc main_v45)
    = mulf (mulf (broadcastInDim S23x256 ![0, 1] bcast_S23x1_S23x256_0_1 (softF (logitF (X (Proc.devRef .tc main_v22_9)) (X (Proc.devRef .tc main_arg12)) (X (Proc.devRef .tc main_arg13)))))
        (attnF (X (Proc.devRef .tc main_v22_10)) (X (Proc.devRef .tc main_arg14)) (X (Proc.devRef .tc main_arg15)))) (X (Proc.devRef .tc main_v8)) := by
  after_results_entrywise []

theorem post_v46 : after hostOps0_2 X (Proc.devRef .tc main_v46)
    = Host.reduceWindowAdd (F := F) ![23, 1] ![1, 1] ![22, 0] ![0, 0] (X (Proc.devRef .tc main_v45) : FVec F S23x256 .f32) (broadcastInDim S_ ![] bcast_S_S_ (constant S_ .f32 0x00000000#32))
        reduceWindows_S23x256_S23x256_w23s1p22_0_w1s1p0_0 h_S_ := by
  after_results_entrywise []

/-- The output unit. -/
abbrev outF (x : FVec F S23x256 .f32) (w : FVec F S500x256 .f32) (b : FVec F S500 .f32) : FVec F S23x500 .f32 :=
  Host.divf (broadcastInDim S23x500 ![] bcast_S_S23x500 (constant S_ .f32 0x3F800000#32))
    (addf (broadcastInDim S23x500 ![] bcast_S_S23x500 (constant S_ .f32 0x3F800000#32))
      (Host.exp (Host.negf (addf (Host.dotGeneral dot_S23x256_S256x500_S23x500_1_0_0_1_n_n none x (transpose S256x500 [1, 0] w transposes_S500x256_S256x500_1_0))
        (broadcastInDim S23x500 ![0, 1] bcast_S1x500_S23x500_0_1 (broadcastInDim S1x500 ![1] bcast_S500_S1x500_1 b))))))

/-- The visits' numbers, as a column. -/
abbrev iotaF : IVec S23x1 32 := broadcastInDim S23x1 ![0] bcast_S23_S23x1_0 (iotaInDim S23 32 0)

abbrev meds1 (a : IVec S24x25 32) : IVec S23x25 32 := extractStridedSlice S23x25 ![1, 0] a slices_S24x25_S23x25_1_0

/-- The pairs (visit, code) the ones are written at. -/
abbrev pairsF (a : IVec S24x25 32) : IVec S23x25x2 32 :=
  concatenate S23x25x2 2 [⟨S23x25x1, broadcastInDim S23x25x1 ![0, 1] bcast_S23x25_S23x25x1_0_1 (broadcastInDim S23x25 ![0, 1] bcast_S23x1_S23x25_0_1
      (select (cmpi .slt iotaF (broadcastInDim S23x1 ![] bcast_S_S23x1 (constantI S_ 32 0#32)))
        (addi iotaF (broadcastInDim S23x1 ![] bcast_S_S23x1 (constantI S_ 32 23#32))) iotaF))⟩,
    ⟨S23x25x1, broadcastInDim S23x25x1 ![0, 1] bcast_S23x25_S23x25x1_0_1
      (select (cmpi .slt (meds1 a) (broadcastInDim S23x25 ![] bcast_S_S23x25 (constantI S_ 32 0#32)))
        (addi (meds1 a) (broadcastInDim S23x25 ![] bcast_S_S23x25 (constantI S_ 32 500#32))) (meds1 a))⟩]
    concatenates_S23x25x1_S23x25x1_S23x25x2_d2

abbrev onehotF (a : IVec S24x25 32) : FVec F S23x500 .f32 :=
  Host.scatter scatter_S23x500_S23x25x2_S23x25_n_01_01_2 (fun _ b => b) (broadcastInDim S23x500 ![] bcast_S_S23x500 (constant S_ .f32 0x00000000#32))
    (pairsF a) (broadcastInDim S23x25 ![] bcast_S_S23x25 (constant S_ .f32 0x3F800000#32))

abbrev paddedF (a : IVec S24x25 32) : IVec S23x500 32 :=
  Host.scatter scatter_S23x500_S1_S23x25_01_n_1_0 (fun _ b => b) (broadcastInDim S23x500 ![] bcast_S_S23x500 (constantI S_ 32 4294967295#32))
    (broadcastInDim S1 ![] bcast_S_S1 (constantI S_ 32 0#32)) (meds1 a)

/-- The terms of the loss. -/
abbrev termsF (y p : FVec F S23x500 .f32) : FVec F S23x500 .f32 :=
  Host.negf (addf (mulf y (Host.log p)) (mulf (subf (broadcastInDim S23x500 ![] bcast_S_S23x500 (constant S_ .f32 0x3F800000#32)) y) (Host.log1p (Host.negf p))))

/-- The loss: the sum over the visits of the means of their terms. -/
abbrev lossF (y p : FVec F S23x500 .f32) : FVec F S_ .f32 :=
  Host.reduceAdd (Host.divf (Host.reduceAdd (termsF y p) (constant S_ .f32 0x00000000#32) reducesTo_S23x500_S23_d1 h_S_)
    (broadcastInDim S23 ![] bcast_S_S23 (constant S_ .f32 0x43FA0000#32))) (constant S_ .f32 0x00000000#32) reducesTo_S23_S_d0 h_S_

theorem post_v67 : after hostOps0_3 X (Proc.devRef .tc main_v67)
    = outF (addf (X (Proc.devRef .tc main_v46)) (sumF (codes1 (X (Proc.devRef .tc main_arg1))) (X (Proc.devRef .tc main_arg3))))
        (X (Proc.devRef .tc main_arg16)) (X (Proc.devRef .tc main_arg17)) := by
  after_results_entrywise []

theorem post_v87 : after hostOps0_3 X (Proc.devRef .tc main_v87) = onehotF (X (Proc.devRef .tc main_arg2)) := by
  after_results_entrywise []

theorem post_v91 : after hostOps0_3 X (Proc.devRef .tc main_v91) = paddedF (X (Proc.devRef .tc main_arg2)) := by
  after_results_entrywise []

theorem post_v104 : after hostOps0_3 X (Proc.devRef .tc main_v104) = lossF (onehotF (X (Proc.devRef .tc main_arg2)))
    (outF (addf (X (Proc.devRef .tc main_v46)) (sumF (codes1 (X (Proc.devRef .tc main_arg1))) (X (Proc.devRef .tc main_arg3))))
        (X (Proc.devRef .tc main_arg16)) (X (Proc.devRef .tc main_arg17))) := by
  after_results_entrywise []

end Cert.ReferenceIdeal.Val

end
-- ==== Proof.Value.RefOps.lean ====
/- The reference's gather of table rows, its running sums and its two scatters, read at an element. -/
module

public import proofs.«01_k».proof.Proof.Gen.ReferenceIdeal
public import proofs.«01_k».proof.Proof.Value.Spec
public import Idealize.ShloMosaic.Lib.IdealHost
public import Idealize.ShloMosaic.Lib.Routing.OpsSet
public import Idealize.ShloMosaic.Lib.Routing.OpsPair
public import Idealize.ShloMosaic.Lib.Pointwise.Reduce

@[expose] public section

noncomputable section

namespace Cert.ReferenceIdeal.Val

open Cert.ReferenceIdeal Cert.ReferenceIdeal.Gen
open Idealize.ShloMosaic hiding ix1 ix2 ix3 eq_ix1 eq_ix2 eq_ix3
open Idealize.ShloMosaic.ValueIdx

/-! ## The gather of table rows -/

/-- Row `t`, place `k` of the gather reads the table at the row its code names. -/
theorem gather_apply (x : FVec Ideal S4001x256 .f32) (idx : IVec S23x4000x1 32) (t : Fin 23) (k : Fin 4000) (j : Fin 256)
    (c : ℕ) (hc : c < 4001) (h : idx (ix3 t k 0) = BitVec.ofNat 32 c) :
    Host.gather gather_S4001x256_S23x4000x1_S23x4000x256_2_0_n_n_0_2_1256 x idx (ix3 t k j) = x (ix2 ⟨c, hc⟩ j) := by
  unfold Host.gather
  refine congrArg x ?_
  funext a
  refine Fin.ext ?_
  have hi : (gather_S4001x256_S23x4000x1_S23x4000x256_2_0_n_n_0_2_1256).siIdx (ix3 t k j : S23x4000x256.Idx) ⟨0, by decide⟩ = (ix3 t k 0 : S23x4000x1.Idx) := by
    funext b
    refine Fin.ext ?_
    match b with
    | ⟨0, _⟩ => rfl
    | ⟨1, _⟩ => rfl
    | ⟨2, _⟩ => rfl
  match a with
  | ⟨0, _⟩ =>
    show min (idx ((gather_S4001x256_S23x4000x1_S23x4000x256_2_0_n_n_0_2_1256).siIdx (ix3 t k j : S23x4000x256.Idx) ⟨0, by decide⟩)).toInt.toNat (4001 - 1) + 0 + 0 = c
    rw [hi, h, BitVec.toInt_eq_toNat_of_lt (by rw [BitVec.toNat_ofNat]; omega), BitVec.toNat_ofNat]
    omega
  | ⟨1, _⟩ =>
    show 0 + 0 + j.val = j.val
    omega

/-- The codes with the negative ones wrapped, as a column for the gather. -/
theorem wrap_apply (x : IVec S23x4000 32) (b0 : S_.BroadcastsInDim S23x4000 (![] : Fin 0 → Fin S23x4000.rank))
    (b1 : S23x4000.BroadcastsInDim S23x4000x1 (![0, 1] : Fin 2 → Fin S23x4000x1.rank)) (t : Fin 23) (k : Fin 4000) (h : (x (ix2 t k)).toNat < 4001) :
    broadcastInDim S23x4000x1 ![0, 1] b1 (select (cmpi .slt x (broadcastInDim S23x4000 ![] b0 (constantI S_ 32 0#32)))
      (addi x (broadcastInDim S23x4000 ![] b0 (constantI S_ 32 4001#32))) x) (ix3 t k 0) = x (ix2 t k) := by
  have e : ∀ y : IVec S23x4000 32, broadcastInDim S23x4000x1 ![0, 1] b1 y (ix3 t k 0) = y (ix2 t k) := fun y => congrArg y (by
    funext a
    refine Fin.ext ?_
    match a with
    | ⟨0, _⟩ => rfl
    | ⟨1, _⟩ => rfl)
  rw [e]
  exact Routing.wrap_of_lt _ _ (by show _ < 2 ^ 31; omega)

/-- The sum over a visit's places of the table rows its codes name. -/
def gsum (emb : FVec Ideal S4001x256 .f32) (code : ℕ → BitVec 32) (j : Fin 256) : EReal :=
  ∑ k : Fin 4000, emb (ix2 ⟨(code k.val).toNat % 4001, Nat.mod_lt _ (by decide)⟩ j)

theorem gsum_apply (emb : FVec Ideal S4001x256 .f32) (x : IVec S23x4000 32) (b0 : S_.BroadcastsInDim S23x4000 (![] : Fin 0 → Fin S23x4000.rank))
    (b1 : S23x4000.BroadcastsInDim S23x4000x1 (![0, 1] : Fin 2 → Fin S23x4000x1.rank)) (hr : S23x4000x256.ReducesTo [1] S23x256) (hu : 0 < S_.numel)
    (code : ℕ → ℕ → BitVec 32) (hx : ∀ (t : Fin 23) (k : Fin 4000), x (ix2 t k) = code t.val k.val) (hlt : ∀ (t : Fin 23) (k : Fin 4000), (code t.val k.val).toNat < 4001)
    (t : Fin 23) (j : Fin 256) :
    Host.reduceAdd (Host.gather gather_S4001x256_S23x4000x1_S23x4000x256_2_0_n_n_0_2_1256 emb
      (broadcastInDim S23x4000x1 ![0, 1] b1 (select (cmpi .slt x (broadcastInDim S23x4000 ![] b0 (constantI S_ 32 0#32)))
        (addi x (broadcastInDim S23x4000 ![] b0 (constantI S_ 32 4001#32))) x))) (constant (F := Ideal) S_ .f32 0x00000000#32) hr hu (ix2 t j)
      = gsum emb (code t.val) j := by
  refine (Ideal.hostReduceAdd_r3_a1 hr _ _ _).trans ?_
  rw [show (constant (F := Ideal) S_ .f32 0x00000000#32) (Shape.Idx.first hu) = 0 from Ideal.ofBits_zero_f32, zero_add]
  refine Finset.sum_congr rfl fun k _ => ?_
  refine gather_apply emb _ t k j _ (Nat.mod_lt _ (by decide)) ?_
  rw [wrap_apply x b0 b1 t k (by rw [hx]; exact hlt t k), hx, Nat.mod_eq_of_lt (hlt t k), BitVec.ofNat_toNat, BitVec.setWidth_eq]

/-! ## Running sums -/

theorem foldl_add_fin (n : ℕ) (f : Fin n → EReal) (v : EReal) : (List.finRange n).foldl (fun r i => r + f i) v = v + ∑ i, f i := by
  rw [← List.sum_ofFn, List.ofFn_eq_map, ← List.foldl_map (f := f) (g := fun r y => r + y)]
  generalize (List.finRange n).map f = l
  induction l generalizing v with
  | nil => simp
  | cons a l ih => rw [List.foldl_cons, ih, List.sum_cons, add_assoc]

theorem foldl_window {W : Shape} (f : W.Idx → EReal) (v : EReal) :
    (List.finRange W.numel).foldl (fun r n => r + f (W.rowMajor.symm n)) v = v + ∑ i, f i := by
  rw [foldl_add_fin, Equiv.sum_comp W.rowMajor.symm]

/-- What one place of the window that ends at a visit adds. -/
def winAt (x : FVec Ideal S23x256 .f32) (v : EReal) (t : Fin 23) (j : Fin 256) (i : (⟨2, ![23, 1]⟩ : Shape).Idx) : EReal :=
  if hin : ∀ a : Fin 2, (![22, 0] : Fin 2 → ℕ) a ≤ ((ix2 t j : S23x256.Idx) a).val * (![1, 1] : Fin 2 → ℕ) a + (i a).val
      ∧ ((ix2 t j : S23x256.Idx) a).val * (![1, 1] : Fin 2 → ℕ) a + (i a).val - (![22, 0] : Fin 2 → ℕ) a < S23x256.size a
    then x (fun a => ⟨((ix2 t j : S23x256.Idx) a).val * (![1, 1] : Fin 2 → ℕ) a + (i a).val - (![22, 0] : Fin 2 → ℕ) a, (hin a).2⟩) else v

theorem winAt_eq (x : FVec Ideal S23x256 .f32) (P : ℕ → Fin 256 → EReal) (hx : ∀ (t : Fin 23) j, x (ix2 t j) = P t.val j)
    (t : Fin 23) (j : Fin 256) (i : (⟨2, ![23, 1]⟩ : Shape).Idx) :
    winAt x 0 t j i = if 22 ≤ t.val + (i 0).val then P (t.val + (i 0).val - 22) j else 0 := by
  have ht := t.isLt
  have hj := j.isLt
  have h0 : (i 0).val < 23 := (i 0).isLt
  have h1 : (i 1).val < 1 := (i 1).isLt
  unfold winAt
  by_cases hc : 22 ≤ t.val + (i 0).val
  · rw [if_pos hc, dif_pos]
    · refine Eq.trans (congrArg x ?_) (hx ⟨t.val + (i 0).val - 22, by omega⟩ j)
      funext a
      refine Fin.ext ?_
      match a with
      | ⟨0, _⟩ => show t.val * 1 + (i 0).val - 22 = t.val + (i 0).val - 22; omega
      | ⟨1, _⟩ => show j.val * 1 + (i 1).val - 0 = j.val; omega
    · intro a
      match a with
      | ⟨0, _⟩ => show 22 ≤ t.val * 1 + (i 0).val ∧ t.val * 1 + (i 0).val - 22 < 23; omega
      | ⟨1, _⟩ => show 0 ≤ j.val * 1 + (i 1).val ∧ j.val * 1 + (i 1).val - 0 < 256; omega
  · rw [if_neg hc, dif_neg]
    intro hin
    have : 22 ≤ t.val * 1 + (i 0).val := (hin 0).1
    omega

/-- The sums of the windows that end at each visit are the prefix sums. -/
theorem cumsum_apply (x : FVec Ideal S23x256 .f32) (init : FVec Ideal S_ .f32) (hi : ∀ i, init i = 0) (P : ℕ → Fin 256 → EReal)
    (hx : ∀ (t : Fin 23) j, x (ix2 t j) = P t.val j) (h : S23x256.ReduceWindows ![23, 1] ![1, 1] ![22, 0] ![0, 0] S23x256) (hu : 0 < S_.numel)
    (t : Fin 23) (j : Fin 256) : Host.reduceWindowAdd ![23, 1] ![1, 1] ![22, 0] ![0, 0] x init h hu (ix2 t j) = Spec.pre P t.val j := by
  have ht := t.isLt
  have hv : init (Shape.Idx.first hu) = 0 := hi _
  have h1 : Host.reduceWindowAdd ![23, 1] ![1, 1] ![22, 0] ![0, 0] x init h hu (ix2 t j)
      = (List.finRange (⟨2, ![23, 1]⟩ : Shape).numel).foldl (fun r n => r + winAt x (init (Shape.Idx.first hu)) t j ((⟨2, ![23, 1]⟩ : Shape).rowMajor.symm n))
        (init (Shape.Idx.first hu)) := by
    unfold Host.reduceWindowAdd
    rw [Ideal.hostReduceWindowAdd_def]
    unfold Ideal.hostReduceWindowAdd Host.reduceWindow
    refine congrArg (fun f : EReal → Fin (⟨2, ![23, 1]⟩ : Shape).numel → EReal => (List.finRange (⟨2, ![23, 1]⟩ : Shape).numel).foldl f (init (Shape.Idx.first hu))) ?_
    funext r n
    refine congrArg (r + ·) ?_
    unfold winAt
    split
    · next hin =>
      rw [dif_pos]
      · rfl
      · exact hin
    · next hin =>
      rw [dif_neg]
      exact hin
  rw [h1, foldl_window (winAt x (init (Shape.Idx.first hu)) t j), hv, zero_add, Finset.sum_congr rfl fun i _ => winAt_eq x P hx t j i, ValueIdx.sum_idx2]
  refine Eq.trans (Finset.sum_congr rfl fun a _ => Fin.sum_univ_one _) ?_
  refine Eq.trans (Finset.sum_range (n := 23) fun a => if 22 ≤ t.val + a then P (t.val + a - 22) j else 0).symm ?_
  obtain ⟨q, hq⟩ : ∃ q, q = t.val := ⟨_, rfl⟩
  rw [← hq] at ht ⊢
  rw [show 23 = (22 - q) + (q + 1) by omega, Finset.sum_range_add,
    Finset.sum_eq_zero (s := Finset.range (22 - q)) fun i hi => if_neg (by have := Finset.mem_range.mp hi; omega), zero_add, Spec.pre]
  refine Finset.sum_congr rfl fun i _ => ?_
  rw [if_pos (by omega)]
  exact congrArg (P · j) (by omega)

/-! ## The two scatters -/

/-- The one-hot rows: the scatter of ones at the pairs (visit, code). -/
theorem onehot_apply (x0 : FVec Ideal S23x500 .f32) (h0 : ∀ i, x0 i = 0) (upd : FVec Ideal S23x25 .f32) (h1 : ∀ i, upd i = 1)
    (idx : IVec S23x25x2 32) (code : ℕ → ℕ → BitVec 32) (ha : ∀ (a : Fin 23) (b : Fin 25), idx (ix3 a b 0) = BitVec.ofNat 32 a.val)
    (hb : ∀ (a : Fin 23) (b : Fin 25), idx (ix3 a b 1) = code a.val b.val) (hlt : ∀ (a : Fin 23) (b : Fin 25), (code a.val b.val).toNat < 500)
    (t : Fin 23) (n : Fin 500) (p : Prop) [Decidable p] (hp : p ↔ ∃ b : Fin 25, (code t.val b.val).toNat = n.val) :
    Host.scatter scatter_S23x500_S23x25x2_S23x25_n_01_01_2 (fun _ b => b) x0 idx upd (ix2 t n) = if p then 1 else 0 := by
  have lands : ∀ (a : Fin 23) (b : Fin 25), (scatter_S23x500_S23x25x2_S23x25_n_01_01_2).resultIdx? (ix2 a b : S23x25.Idx) idx = some (ix2 t n : S23x500.Idx)
      ↔ a.val = t.val ∧ (code a.val b.val).toNat = n.val := by
    intro a b
    have hA := a.isLt
    refine (Routing.scatter_lands2 (R := 23) (C := 500) (A := 23) (B := 25) scatter_S23x500_S23x25x2_S23x25_n_01_01_2 rfl rfl rfl idx a b t n).trans ?_
    have := hlt a b
    rw [ha, hb, BitVec.toInt_eq_toNat_of_lt (by rw [BitVec.toNat_ofNat]; omega), BitVec.toInt_eq_toNat_of_lt (by omega), BitVec.toNat_ofNat,
      Nat.mod_eq_of_lt (by omega), Nat.cast_inj, Nat.cast_inj]
  by_cases h : p
  · rw [if_pos h]
    obtain ⟨b, hb'⟩ := hp.mp h
    exact Routing.scatter_set_hit _ _ _ _ _ 1 (fun k _ => h1 k) (ix2 t b) ((lands t b).mpr ⟨rfl, hb'⟩)
  · rw [if_neg h]
    refine (Routing.scatter_set_miss _ _ _ _ _ fun k hk => ?_).trans (h0 _)
    rw [ValueIdx.eq_ix2 k] at hk
    obtain ⟨q1, q2⟩ := (lands (k 0) (k 1)).mp hk
    exact h (hp.mpr ⟨k 1, by rw [← q1]; exact q2⟩)

/-- The padded rows: a block written into an array at its first column. -/
theorem padded_apply (x0 : IVec S23x500 32) (idx : IVec S1 32) (h0 : ∀ i, idx i = 0#32) (upd : IVec S23x25 32) (t : Fin 23) (n : Fin 500) :
    Host.scatter scatter_S23x500_S1_S23x25_01_n_1_0 (fun _ b => b) x0 idx upd (ix2 t n)
      = if h : n.val < 25 then upd (ix2 t ⟨n.val, h⟩) else x0 (ix2 t n) := by
  have lands : ∀ (a : Fin 23) (b : Fin 25), (scatter_S23x500_S1_S23x25_01_n_1_0).resultIdx? (ix2 a b : S23x25.Idx) idx = some (ix2 t n : S23x500.Idx)
      ↔ a.val = t.val ∧ b.val = n.val := by
    intro a b
    refine (Routing.resultIdx?_ix2 (R := 23) (C := 500) scatter_S23x500_S1_S23x25_01_n_1_0 _ idx t n).trans ?_
    have e0 : (scatter_S23x500_S1_S23x25_01_n_1_0).start (ix2 a b : S23x25.Idx) idx (0 : Fin 2) = 0 := rfl
    have e1 : (scatter_S23x500_S1_S23x25_01_n_1_0).start (ix2 a b : S23x25.Idx) idx (1 : Fin 2) = 0 := congrArg BitVec.toInt (h0 _)
    have w0 : (scatter_S23x500_S1_S23x25_01_n_1_0).window (ix2 a b : S23x25.Idx) (0 : Fin 2) = a.val := rfl
    have w1 : (scatter_S23x500_S1_S23x25_01_n_1_0).window (ix2 a b : S23x25.Idx) (1 : Fin 2) = b.val := rfl
    rw [e0, e1, w0, w1, zero_add, zero_add, Nat.cast_inj, Nat.cast_inj]
  by_cases h : n.val < 25
  · rw [dif_pos h]
    refine Routing.scatter_set_hit _ _ _ _ _ _ (fun k hk => ?_) (ix2 t ⟨n.val, h⟩) ((lands t ⟨n.val, h⟩).mpr ⟨rfl, rfl⟩)
    rw [ValueIdx.eq_ix2 k] at hk ⊢
    obtain ⟨q1, q2⟩ := (lands (k 0) (k 1)).mp hk
    rw [show (k 0 : Fin 23) = t from Fin.ext q1, show (k 1 : Fin 25) = ⟨n.val, h⟩ from Fin.ext q2]
    rfl
  · rw [dif_neg h]
    refine Routing.scatter_set_miss _ _ _ _ _ fun k hk => ?_
    rw [ValueIdx.eq_ix2 k] at hk
    obtain ⟨q1, q2⟩ := (lands (k 0) (k 1)).mp hk
    have h25 : (k 1).val < 25 := (k 1).isLt
    have : (k 1).val = n.val := q2
    omega

end Cert.ReferenceIdeal.Val

end
-- ==== Proof.Value.RefValue.lean ====
/- The reference's terms read at an element: the linear maps, the softmax over one logit, the output unit, the pairs of
   the scatter, the loss. -/
module

public import proofs.«01_k».proof.Proof.Value.RefLists
public import proofs.«01_k».proof.Proof.Value.RefOps
public import Idealize.ShloMosaic.Lib.StackMember
public import Idealize.ShloMosaic.Lib.KernelVsHost
public import Idealize.ShloMosaic.Lib.Pipeline.Value
public import Idealize.ShloMosaic.Lib.ValueLayout

@[expose] public section

noncomputable section

namespace Cert.Spec

open Idealize.ShloMosaic Idealize.ShloMosaic.ValueIdx

theorem logistic_real (x : EReal) : ∃ r : ℝ, Ideal.logistic x = r := by
  induction x with
  | bot => exact ⟨0, by rw [Ideal.logistic_bot]; rfl⟩
  | top => exact ⟨1, by rw [Ideal.logistic_top]; rfl⟩
  | coe r => exact ⟨_, Ideal.logistic_coe r⟩

theorem tanh_real (x : EReal) : ∃ r : ℝ, Ideal.tanh x = r := by
  induction x with
  | bot => exact ⟨-1, by rw [Ideal.tanh_bot]; rfl⟩
  | top => exact ⟨1, by rw [Ideal.tanh_top]; rfl⟩
  | coe r => exact ⟨_, Ideal.tanh_coe r⟩

/-- Every state of the recurrence is real. -/
theorem hs_real (w : (⟨2, ![768, 256]⟩ : Shape).Idx → EReal) (b : (⟨1, ![768]⟩ : Shape).Idx → EReal) (g : ℕ → Fin 768 → EReal) :
    ∀ (t : ℕ) (j : Fin 256), ∃ r : ℝ, hs w b g t j = r
  | 0, _ => ⟨0, rfl⟩
  | t + 1, j => by
    obtain ⟨h, eh⟩ := hs_real w b g t j
    show ∃ r : ℝ, gate _ _ _ _ _ _ (hs w b g t j) = r
    rw [gate, eh]
    obtain ⟨z, ez⟩ := logistic_real (g t (at3 256 (by omega) j) + gh w b (hs w b g t) (at3 256 (by omega) j))
    obtain ⟨u, eu⟩ := tanh_real (g t (at3 512 (by omega) j) + Ideal.logistic (g t (at3 0 (by omega) j) + gh w b (hs w b g t) (at3 0 (by omega) j)) * gh w b (hs w b g t) (at3 512 (by omega) j))
    rw [ez, eu]
    exact ⟨(1 - z) * u + z * h, by push_cast; rfl⟩

/-- The states depend on the gates of the visits before only. -/
theorem hs_congr (w : (⟨2, ![768, 256]⟩ : Shape).Idx → EReal) (b : (⟨1, ![768]⟩ : Shape).Idx → EReal) (g g' : ℕ → Fin 768 → EReal) :
    ∀ (k : ℕ), (∀ t, t < k → g t = g' t) → hs w b g k = hs w b g' k
  | 0, _ => rfl
  | k + 1, h => by
    show cell w b (g k) (hs w b g k) = cell w b (g' k) (hs w b g' k)
    rw [hs_congr w b g g' k fun t ht => h t (by omega), h k (by omega)]

theorem sum_mul_real {n : ℕ} (x y : Fin n → EReal) (hx : ∀ k, ∃ r : ℝ, x k = r) (hy : ∀ k, ∃ r : ℝ, y k = r) : ∃ r : ℝ, ∑ k, x k * y k = r := by
  induction n with
  | zero => exact ⟨0, by rw [Fin.sum_univ_zero]; rfl⟩
  | succ n ih =>
    obtain ⟨r, e⟩ := ih (fun k => x k.succ) (fun k => y k.succ) (fun k => hx _) (fun k => hy _)
    obtain ⟨a, ea⟩ := hx 0
    obtain ⟨b, eb⟩ := hy 0
    refine ⟨a * b + r, ?_⟩
    rw [Fin.sum_univ_succ, e, ea, eb]
    push_cast
    rfl

end Cert.Spec

namespace Cert.ReferenceIdeal.Val

open Cert.ReferenceIdeal Cert.ReferenceIdeal.Gen Cert.ReferenceIdeal.Value
open Idealize.ShloMosaic hiding ix1 ix2 ix3 eq_ix1 eq_ix2 eq_ix3
open Idealize.ShloMosaic.ValueIdx Idealize.ShloMosaic.StableHlo

/-- A linear map of the visits' rows, at an element. -/
theorem lin_apply {N : ℕ} (d : DotDims S23x256 ⟨2, ![256, N]⟩ ⟨2, ![23, N]⟩) (hd : d = DotDims.plain 23 256 N)
    (v : FVec Ideal S23x256 .f32) (w : FVec Ideal ⟨2, ![N, 256]⟩ .f32) (b : FVec Ideal ⟨1, ![N]⟩ .f32)
    (ht : (⟨2, ![N, 256]⟩ : Shape).Transposes [1, 0] ⟨2, ![256, N]⟩) (h1 : (⟨1, ![N]⟩ : Shape).BroadcastsInDim ⟨2, ![1, N]⟩ ![1])
    (h2 : (⟨2, ![1, N]⟩ : Shape).BroadcastsInDim ⟨2, ![23, N]⟩ ![0, 1]) (t : Fin 23) (n : Fin N) :
    addf (Host.dotGeneral d none v (transpose ⟨2, ![256, N]⟩ [1, 0] w ht)) (broadcastInDim ⟨2, ![23, N]⟩ ![0, 1] h2 (broadcastInDim ⟨2, ![1, N]⟩ ![1] h1 b)) (ix2 t n)
      = (∑ k : Fin 256, v (ix2 t k) * w (ix2 n k)) + b (ix1 n) := by
  subst hd
  refine congrArg₂ (· + ·) ?_ ?_
  · refine (StackMember.dotGeneral_plain_apply (φ₁ := .f32) (φ₂ := .f32) none v _ t n).trans ?_
    exact Finset.sum_congr rfl fun k _ => congrArg (v (ix2 t k) * ·) (ValueIdx.transpose_ix2_apply ..)
  · refine (broadcastInDim_oneRow_apply h2 _ t n).trans ?_
    refine broadcastInDim_apply ![1] h1 b (ix2 0 n) (ix1 n) fun a => ?_
    match a with
    | ⟨0, _⟩ =>
      show n.val = if N = 1 then 0 else n.val
      have := n.isLt
      split <;> omega

theorem foldl_max_const {n : ℕ} (f : Fin n → EReal) (v : EReal) : ∀ (l : List (Fin n)) (b : EReal), (∀ i ∈ l, f i = v) → l ≠ [] →
    l.foldl (fun r i => max r (f i)) b = max b v
  | [], _, _, h => absurd rfl h
  | [a], b, h, _ => by rw [List.foldl_cons, List.foldl_nil, h a (by simp)]
  | a :: c :: l, b, h, _ => by
    rw [List.foldl_cons, foldl_max_const f v (c :: l) _ (fun i hi => h i (List.mem_cons_of_mem _ hi)) (by simp), h a (by simp), max_assoc, max_self]

theorem negInf_f32 : Ideal.ofBits .f32 0xFF800000#32 = ⊥ := by
  simp [Ideal.ofBits, Ideal.ieee]

/-- The largest of a visit's one logit is the logit. -/
theorem max1_apply (l : FVec Ideal S23x1 .f32) (hr : S23x1.ReducesTo [1] S23) (hu : 0 < S_.numel) (t : Fin 23) :
    Host.reduce (FloatOps.maximumf (F := Ideal) (φ := .f32)) l (constant S_ .f32 0xFF800000#32) hr hu (ix1 t) = l (ix2 t 0) := by
  unfold Host.reduce
  refine (foldl_max_const (fun n => l (S23x1.rowMajor.symm n)) (l (ix2 t 0)) _ _ ?_ ?_).trans ?_
  · intro n hn
    obtain ⟨k, hk⟩ := (hr.fiber_r2_a1 (ix1 t) _).mp (of_decide_eq_true (List.mem_filter.mp hn).2)
    refine congrArg l (hk.symm.trans ?_)
    rw [Subsingleton.elim k 0]
    rfl
  · refine List.ne_nil_of_mem (a := S23x1.rowMajor (ix2 t 0)) (List.mem_filter.mpr ⟨List.mem_finRange _, decide_eq_true ?_⟩)
    rw [Equiv.symm_apply_apply]
    exact (hr.fiber_r2_a1 (ix1 t) _).mpr ⟨0, rfl⟩
  · rw [show constant (F := Ideal) S_ .f32 0xFF800000#32 (Shape.Idx.first hu) = ⊥ from negInf_f32]
    exact max_eq_right bot_le

theorem col_apply (h : S23.BroadcastsInDim S23x1 ![0]) {α : Type} (x : S23.Idx → α) (t : Fin 23) (k : Fin 1) : broadcastInDim S23x1 ![0] h x (ix2 t k) = x (ix1 t) := by
  refine broadcastInDim_apply ![0] h x (ix2 t k) (ix1 t) fun a => ?_
  match a with
  | ⟨0, _⟩ => rfl

theorem shift_apply (l : FVec Ideal S23x1 .f32) (t : Fin 23) (r : ℝ) (h : l (ix2 t 0) = r) : shiftF l (ix2 t 0) = 1 := by
  have e : broadcastInDim S23x1 ![0] bcast_S23_S23x1_0 (maximumf (broadcastInDim S23 ![] bcast_S_S23 (constant (F := Ideal) S_ .f32 0xFF800000#32))
      (Host.reduce FloatOps.maximumf l (constant S_ .f32 0xFF800000#32) reducesTo_S23x1_S23_d1 h_S_)) (ix2 t 0) = r := by
    refine (col_apply _ _ t 0).trans ?_
    refine (congrArg₂ (max (α := EReal)) negInf_f32 (max1_apply l _ _ t)).trans ?_
    rw [h]
    exact max_eq_right bot_le
  show Ideal.exp (l (ix2 t 0) - _) = 1
  rw [e, h, ← EReal.coe_sub, sub_self]
  show ((Real.exp 0 : ℝ) : EReal) = 1
  rw [Real.exp_zero]
  rfl

/-- A softmax over one real logit is one. -/
theorem soft_apply (l : FVec Ideal S23x1 .f32) (t : Fin 23) (r : ℝ) (h : l (ix2 t 0) = r) : softF l (ix2 t 0) = 1 := by
  have e : broadcastInDim S23x1 ![0] bcast_S23_S23x1_0 (Host.reduceAdd (shiftF l) (constant (F := Ideal) S_ .f32 0x00000000#32) reducesTo_S23x1_S23_d1 h_S_) (ix2 t 0) = 1 := by
    refine (col_apply _ _ t 0).trans ((Ideal.hostReduceAdd_r2_a1 reducesTo_S23x1_S23_d1 _ _ _).trans ?_)
    rw [show (constant (F := Ideal) S_ .f32 0x00000000#32) (Shape.Idx.first h_S_) = 0 from Ideal.ofBits_zero_f32, zero_add, Fin.sum_univ_one]
    exact shift_apply l t r h
  show Ideal.div (shiftF l (ix2 t 0)) _ = 1
  rw [e, shift_apply l t r h, Ideal.div, if_neg one_ne_zero, inv_one, one_mul]

/-- The product the running sums are taken of, at an element. -/
theorem prod_apply (g h v : FVec Ideal S23x256 .f32) (a12 : FVec Ideal S1x256 .f32) (a13 : FVec Ideal S1 .f32) (a14 : FVec Ideal S256x256 .f32) (a15 : FVec Ideal S256 .f32)
    (hg : ∀ (t : Fin 23) j, ∃ r : ℝ, g (ix2 t j) = r) (h12 : ∀ i, ∃ r : ℝ, a12 i = r) (h13 : ∀ i, ∃ r : ℝ, a13 i = r) (t : Fin 23) (j : Fin 256) :
    mulf (mulf (broadcastInDim S23x256 ![0, 1] bcast_S23x1_S23x256_0_1 (softF (logitF g a12 a13))) (attnF h a14 a15)) v (ix2 t j)
      = Spec.attn a14 a15 (fun k => h (ix2 t k)) j * v (ix2 t j) := by
  have e1 : broadcastInDim S23x256 ![0, 1] bcast_S23x1_S23x256_0_1 (softF (logitF g a12 a13)) (ix2 t j) = 1 := by
    obtain ⟨r1, e1⟩ := Spec.sum_mul_real (fun k : Fin 256 => g (ix2 t k)) (fun k => a12 (ix2 (0 : Fin 1) k)) (fun k => hg t k) (fun k => h12 _)
    obtain ⟨r2, e2⟩ := h13 (ix1 (0 : Fin 1))
    refine Eq.trans ?_ (soft_apply (logitF g a12 a13) t (r1 + r2) ?_)
    · refine broadcastInDim_apply ![0, 1] _ _ (ix2 t j) (ix2 t (0 : Fin 1)) fun a => ?_
      match a with
      | ⟨0, _⟩ => rfl
      | ⟨1, _⟩ => rfl
    · refine (lin_apply (N := 1) _ rfl g a12 a13 _ _ _ t 0).trans ?_
      rw [e1, e2]
      rfl
  have e2 : attnF h a14 a15 (ix2 t j) = Spec.attn a14 a15 (fun k => h (ix2 t k)) j := congrArg Ideal.tanh (lin_apply (N := 256) _ rfl h a14 a15 _ _ _ t j)
  show (_ * _) * _ = _
  rw [e1, e2, one_mul]

theorem out_apply (x : FVec Ideal S23x256 .f32) (w : FVec Ideal S500x256 .f32) (b : FVec Ideal S500 .f32) (t : Fin 23) (n : Fin 500) :
    outF x w b (ix2 t n) = Spec.out w b (fun k => x (ix2 t k)) n := by
  have e := lin_apply (N := 500) _ rfl x w b transposes_S500x256_S256x500_1_0 bcast_S500_S1x500_1 bcast_S1x500_S23x500_0_1 t n
  rw [Spec.out, ← e, Ideal.logistic, ← Ideal.ofBits_one_f32]
  rfl

theorem gi_apply (v : FVec Ideal S23x256 .f32) (w : FVec Ideal S768x256 .f32) (b : FVec Ideal S768 .f32) (V : ℕ → Fin 256 → EReal)
    (hV : ∀ (t : Fin 23) j, v (ix2 t j) = V t.val j) (t : Fin 23) (n : Fin 768) : giF v w b (ix2 t n) = Spec.gi w b V t.val n := by
  refine (lin_apply (N := 768) _ rfl v w b _ _ _ t n).trans ?_
  exact congrArg (· + _) (Finset.sum_congr rfl fun k _ => congrArg (· * _) (hV t k))

end Cert.ReferenceIdeal.Val

end
-- ==== Proof.Value.RefTail.lean ====
/- The reference's one-hot rows, padded rows and loss, read at an element. -/
module

public import proofs.«01_k».proof.Proof.Value.RefValue

@[expose] public section

noncomputable section

namespace Cert.Spec

/-- A real factor that is not negative comes out of a sum. -/
theorem sum_mul_const {n : ℕ} (x : Fin n → EReal) (c : ℝ) (hc : 0 ≤ c) : ∑ k, x k * (c : EReal) = (∑ k, x k) * (c : EReal) := by
  induction n with
  | zero => rw [Fin.sum_univ_zero, Fin.sum_univ_zero, zero_mul]
  | succ n ih =>
    rw [Fin.sum_univ_succ, Fin.sum_univ_succ, ih fun k => x k.succ,
      EReal.right_distrib_of_nonneg_of_ne_top (EReal.coe_nonneg.mpr hc) (EReal.coe_ne_top c)]

end Cert.Spec

namespace Cert.ReferenceIdeal.Val

open Cert.ReferenceIdeal Cert.ReferenceIdeal.Gen Cert.ReferenceIdeal.Value
open Idealize.ShloMosaic hiding ix1 ix2 ix3 eq_ix1 eq_ix2 eq_ix3
open Idealize.ShloMosaic.ValueIdx Idealize.ShloMosaic.StableHlo

theorem iota_apply (t : Fin 23) (k : Fin 1) : iotaF (ix2 t k) = BitVec.ofNat 32 t.val := col_apply _ _ t k

theorem drop_apply {α : Type} (x : S23x25.Idx → α) (t : Fin 23) (b : Fin 25) :
    broadcastInDim S23x25x1 ![0, 1] bcast_S23x25_S23x25x1_0_1 x (ix3 t b (0 : Fin 1)) = x (ix2 t b) := by
  refine broadcastInDim_apply ![0, 1] _ x (ix3 t b (0 : Fin 1)) (ix2 t b) fun a => ?_
  match a with
  | ⟨0, _⟩ => rfl
  | ⟨1, _⟩ => rfl

theorem pairs_zero (a : IVec S24x25 32) (t : Fin 23) (b : Fin 25) : pairsF a (ix3 t b 0) = BitVec.ofNat 32 t.val := by
  have ht := t.isLt
  refine (concatenate_pair_apply_left (t := S23x25x2) (s₁ := S23x25x1) (s₂ := S23x25x1) 2 _ _ _ (ix3 t b 0) rfl (ix3 t b (0 : Fin 1)) fun x => ?_).trans ?_
  · match x with
    | ⟨0, _⟩ => rfl
    | ⟨1, _⟩ => rfl
    | ⟨2, _⟩ => rfl
  refine (drop_apply _ t b).trans ?_
  refine Eq.trans (broadcastInDim_apply ![0, 1] bcast_S23x1_S23x25_0_1 _ (ix2 t b) (ix2 t (0 : Fin 1)) fun x => ?_) ?_
  · match x with
    | ⟨0, _⟩ => rfl
    | ⟨1, _⟩ => rfl
  refine Eq.trans ?_ (iota_apply t 0)
  refine Routing.wrap_of_lt (iotaF (ix2 t 0)) _ ?_
  rw [iota_apply, BitVec.toNat_ofNat]
  omega

theorem pairs_one (a : IVec S24x25 32) (ha : ∀ (t : Fin 24) b, (a (ix2 t b)).toNat < 500) (t : Fin 23) (b : Fin 25) :
    pairsF a (ix3 t b 1) = a (ix2 ⟨t.val + 1, by omega⟩ b) := by
  have e : meds1 a (ix2 t b) = a (ix2 ⟨t.val + 1, by omega⟩ b) := by
    refine congrArg a ?_
    funext x
    refine Fin.ext ?_
    match x with
    | ⟨0, _⟩ => show 1 + t.val = t.val + 1; omega
    | ⟨1, _⟩ => show 0 + b.val = b.val; omega
  refine (concatenate_pair_apply_right (t := S23x25x2) (s₁ := S23x25x1) (s₂ := S23x25x1) 2 _ _ _ (ix3 t b 1) rfl rfl (ix3 t b (0 : Fin 1)) (fun x hx => ?_) rfl).trans ?_
  · match x with
    | ⟨0, _⟩ => rfl
    | ⟨1, _⟩ => rfl
    | ⟨2, _⟩ => exact absurd rfl hx
  refine (drop_apply _ t b).trans ?_
  refine Eq.trans ?_ e
  refine Routing.wrap_of_lt (meds1 a (ix2 t b)) _ ?_
  rw [e]
  have := ha ⟨t.val + 1, by omega⟩ b
  omega

/-- The one-hot rows: one at the codes of the next visit. -/
theorem onehotF_apply (a : IVec S24x25 32) (ha : ∀ (t : Fin 24) b, (a (ix2 t b)).toNat < 500) (t : Fin 23) (n : Fin 500) (p : Prop) [Decidable p]
    (hp : p ↔ ∃ b : Fin 25, (a (ix2 ⟨t.val + 1, by omega⟩ b)).toNat = n.val) : (onehotF a : FVec Ideal S23x500 .f32) (ix2 t n) = if p then 1 else 0 := by
  refine onehot_apply _ (fun _ => Ideal.ofBits_zero_f32) _ (fun _ => Ideal.ofBits_one_f32) _
    (fun t b => if h : t < 23 ∧ b < 25 then a (ix2 ⟨t + 1, by omega⟩ ⟨b, h.2⟩) else 0#32) (pairs_zero a) (fun t b => ?_) (fun t b => ?_) t n p ?_
  · rw [dif_pos ⟨t.isLt, b.isLt⟩]; exact pairs_one a ha t b
  · rw [dif_pos ⟨t.isLt, b.isLt⟩]; exact ha _ b
  · rw [hp]
    refine exists_congr fun b => ?_
    rw [dif_pos ⟨t.isLt, b.isLt⟩]

theorem paddedF_apply (a : IVec S24x25 32) (t : Fin 23) (n : Fin 500) :
    paddedF a (ix2 t n) = if h : n.val < 25 then a (ix2 ⟨t.val + 1, by omega⟩ ⟨n.val, h⟩) else 4294967295#32 := by
  refine (padded_apply _ _ (fun _ => rfl) _ t n).trans ?_
  by_cases h : n.val < 25
  · rw [dif_pos h, dif_pos h]
    refine congrArg a ?_
    funext x
    refine Fin.ext ?_
    match x with
    | ⟨0, _⟩ => show 1 + t.val = t.val + 1; omega
    | ⟨1, _⟩ => show 0 + n.val = n.val; omega
  · rw [dif_neg h, dif_neg h]
    rfl

theorem fiveHundred_f32 : Ideal.ofBits .f32 0x43FA0000#32 = ((500 : ℝ) : EReal) := by
  simp [Ideal.ofBits, Ideal.ieee, -EReal.coe_mul]; norm_num

/-- The loss: the sum of the terms over the visits and the codes, over 500. -/
theorem lossF_apply (y p : FVec Ideal S23x500 .f32) (i : S_.Idx) :
    lossF y p i = (∑ t : Fin 23, ∑ n : Fin 500, Spec.term (y (ix2 t n)) (p (ix2 t n))) * ((500⁻¹ : ℝ) : EReal) := by
  have e0 : (constant (F := Ideal) S_ .f32 0x00000000#32) (Shape.Idx.first h_S_) = 0 := Ideal.ofBits_zero_f32
  refine (Ideal.hostReduceAdd_r1_a0 reducesTo_S23_S_d0 _ _ _).trans ?_
  rw [e0, zero_add, ← Spec.sum_mul_const _ _ (by norm_num)]
  refine Finset.sum_congr rfl fun t _ => ?_
  show Ideal.div _ (Ideal.ofBits .f32 0x43FA0000#32) = _
  rw [fiveHundred_f32, Ideal.div, if_neg (by exact_mod_cast (by norm_num : (500 : ℝ) ≠ 0)), ← EReal.coe_inv]
  refine congrArg (· * _) ((Ideal.hostReduceAdd_r2_a1 reducesTo_S23x500_S23_d1 _ _ _).trans ?_)
  rw [e0, zero_add]
  refine Finset.sum_congr rfl fun n _ => ?_
  rw [Spec.term, ← Ideal.ofBits_one_f32]
  rfl

end Cert.ReferenceIdeal.Val

end
-- ==== Proof.Value.RefFinal.lean ====
/- The reference's four results after its run, as functions of the argument arrays. -/
module

public import proofs.«01_k».proof.Proof.Value.RefLoop
public import proofs.«01_k».proof.Proof.Value.RefTail
public import proofs.«01_k».proof.Proof.Ref.Frame

@[expose] public section

set_option maxRecDepth 4000

noncomputable section

namespace Cert.ReferenceIdeal.Val

open Cert.ReferenceIdeal Cert.ReferenceIdeal.Gen Cert.ReferenceIdeal.Value Cert.ReferenceIdeal.Hand
open Idealize.ShloMosaic hiding ix1 ix2 ix3 eq_ix1 eq_ix2 eq_ix3
open Idealize.ShloMosaic.ValueIdx Idealize.ShloMosaic.StableHlo Idealize.ShloMosaic.TcCoe

variable {A B : FVec Ideal S23x768 .f32} {w2 w4 : FVec Ideal S768x256 .f32} {b3 b5 : FVec Ideal S768 .f32} {k : ℕ}

theorem inv_congr {X Y : Valuation τ sig (Elt Ideal)} (e : Agree X Y) (h : Inv A B w2 w4 b3 b5 k Y) : Inv A B w2 w4 b3 b5 k X where
  h0 := (e main_v22_0 (by decide)).trans h.h0
  h1 := (e main_v22_1 (by decide)).trans h.h1
  h2 := (e main_v22_2 (by decide)).trans h.h2
  h3 := (e main_v22_3 (by decide)).trans h.h3
  h4 := (e main_v22_4 (by decide)).trans h.h4
  h5 := (e main_v22_5 (by decide)).trans h.h5
  h6 := (e main_v22_6 (by decide)).trans h.h6
  h7 j := (congrFun (e main_v22_7 (by decide)) (ix1 j)).trans (h.h7 j)
  h8 j := (congrFun (e main_v22_8 (by decide)) (ix1 j)).trans (h.h8 j)
  h9 t j ht := (congrFun (e main_v22_9 (by decide)) (ix2 t j)).trans (h.h9 t j ht)
  h10 t j ht := (congrFun (e main_v22_10 (by decide)) (ix2 t j)).trans (h.h10 t j ht)

variable (m : (ℓ : Loc nD τ sig) → Buf (Elt Ideal) ℓ) (c : Dev nD)

/-- An argument as the reference was launched with it. -/
abbrev arg (r : Ref sig .tc) := m ((c.tc : Thread nD τ).loc r)

abbrev a0 : IVec S24x4000 32 := arg m c main_arg0
abbrev a1 : IVec S24x4000 32 := arg m c main_arg1
abbrev a2 : IVec S24x25 32 := arg m c main_arg2
abbrev a3 : FVec Ideal S4001x256 .f32 := arg m c main_arg3
abbrev a4 : FVec Ideal S768x256 .f32 := arg m c main_arg4
abbrev a5 : FVec Ideal S768x256 .f32 := arg m c main_arg5
abbrev a6 : FVec Ideal S768 .f32 := arg m c main_arg6
abbrev a7 : FVec Ideal S768 .f32 := arg m c main_arg7
abbrev a8 : FVec Ideal S768x256 .f32 := arg m c main_arg8
abbrev a9 : FVec Ideal S768x256 .f32 := arg m c main_arg9
abbrev a10 : FVec Ideal S768 .f32 := arg m c main_arg10
abbrev a11 : FVec Ideal S768 .f32 := arg m c main_arg11
abbrev a12 : FVec Ideal S1x256 .f32 := arg m c main_arg12
abbrev a13 : FVec Ideal S1 .f32 := arg m c main_arg13
abbrev a14 : FVec Ideal S256x256 .f32 := arg m c main_arg14
abbrev a15 : FVec Ideal S256 .f32 := arg m c main_arg15
abbrev a16 : FVec Ideal S500x256 .f32 := arg m c main_arg16
abbrev a17 : FVec Ideal S500 .f32 := arg m c main_arg17

/-- The visits' sums, as the reference computes them. -/
abbrev v8 : FVec Ideal S23x256 .f32 := sumF (codes0 (a0 m c)) (a3 m c)

theorem inv0 : Inv (giF (v8 m c) (a4 m c) (a6 m c)) (giF (v8 m c) (a8 m c) (a10 m c)) (a5 m c) (a9 m c) (a7 m c) (a11 m c) 0 (entryContents preI m c) where
  h0 := pre_v22_0 (launchContents m c)
  h1 := pre_v22_1 (launchContents m c)
  h2 := pre_v22_2 (launchContents m c)
  h3 := pre_v22_3 (launchContents m c)
  h4 := pre_v22_4 (launchContents m c)
  h5 := pre_v22_5 (launchContents m c)
  h6 := pre_v22_6 (launchContents m c)
  h7 j := (congrFun (pre_v22_7 (launchContents m c)) (ix1 j)).trans Ideal.ofBits_zero_f32
  h8 j := (congrFun (pre_v22_8 (launchContents m c)) (ix1 j)).trans Ideal.ofBits_zero_f32
  h9 t j ht := absurd ht (Nat.not_lt_zero _)
  h10 t j ht := absurd ht (Nat.not_lt_zero _)

/-- What the buffers hold after the loop. -/
abbrev Y0 : Valuation τ sig (Elt Ideal) := after condOps (atK m 23 c)
abbrev Y1 : Valuation τ sig (Elt Ideal) := after hostOps0_1 (Y0 m c)
abbrev Y2 : Valuation τ sig (Elt Ideal) := after hostOps0_2 (Y1 m c)

theorem invY : Inv (giF (v8 m c) (a4 m c) (a6 m c)) (giF (v8 m c) (a8 m c) (a10 m c)) (a5 m c) (a9 m c) (a7 m c) (a11 m c) 23 (Y0 m c) :=
  inv_congr (cond_keeps _) (inv_congr (atK_agree m c 23) (inv_iter (inv0 m c) 23 le_rfl))

/-- A buffer neither the loop nor its condition writes. -/
theorem Y0_of {r : Ref sig .tc} (h1 : r ∉ tripW) (h2 : r ∉ condOps_W) : Y0 m c (Proc.devRef .tc r) = after hostOps0 (launchContents m c) (Proc.devRef .tc r) :=
  (after_of_writes_sub condOps _ condOps_writes h2).trans (atK_of_not_mem m c h1 23)

theorem Y0_arg {r : Ref sig .tc} (h0 : r ∉ hostOps0_W) (h1 : r ∉ tripW) (h2 : r ∉ condOps_W) : Y0 m c (Proc.devRef .tc r) = arg m c r :=
  (Y0_of m c h1 h2).trans (after_of_writes_sub hostOps0 _ hostOps0_writes h0)

theorem Y2_arg {r : Ref sig .tc} (h0 : r ∉ hostOps0_W) (h1 : r ∉ tripW) (h2 : r ∉ condOps_W) (h3 : r ∉ hostOps0_1_W) (h4 : r ∉ hostOps0_2_W) :
    Y2 m c (Proc.devRef .tc r) = arg m c r :=
  (after_of_writes_sub hostOps0_2 _ hostOps0_2_writes h4).trans ((after_of_writes_sub hostOps0_1 _ hostOps0_1_writes h3).trans (Y0_arg m c h0 h1 h2))

/-- A code of an array of codes; zero outside it. -/
def cd (a : IVec S24x4000 32) (t k : ℕ) : BitVec 32 := if h : t < 24 ∧ k < 4000 then a (ix2 ⟨t, h.1⟩ ⟨k, h.2⟩) else 0

/-- What the results are stated over: the visits' sums and the current visits' sums, and the codes in range. -/
structure Drawn (V C : ℕ → Fin 256 → EReal) : Prop where
  lt0 : ∀ (t : Fin 23) (k : Fin 4000), (cd (a0 m c) t.val k.val).toNat < 4001
  lt1 : ∀ (t : Fin 23) (k : Fin 4000), (cd (a1 m c) (t.val + 1) k.val).toNat < 4001
  med : ∀ (t : Fin 24) b, (a2 m c (ix2 t b)).toNat < 500
  hV : ∀ (t : Fin 23) j, gsum (a3 m c) (cd (a0 m c) t.val) j = V t.val j
  hC : ∀ (t : Fin 23) j, gsum (a3 m c) (cd (a1 m c) (t.val + 1)) j = C t.val j
  r12 : ∀ i, ∃ r : ℝ, a12 m c i = r
  r13 : ∀ i, ∃ r : ℝ, a13 m c i = r

variable {V C : ℕ → Fin 256 → EReal} (h : Drawn m c V C)
include h

theorem v8_apply (t : Fin 23) (j : Fin 256) : v8 m c (ix2 t j) = V t.val j := by
  refine (gsum_apply (a3 m c) _ _ _ _ _ (cd (a0 m c)) (fun t k => ?_) h.lt0 t j).trans (h.hV t j)
  rw [cd, dif_pos ⟨by omega, k.isLt⟩]
  refine congrArg (a0 m c) ?_
  funext x
  refine Fin.ext ?_
  match x with
  | ⟨0, _⟩ => show 0 + t.val = t.val; omega
  | ⟨1, _⟩ => show 0 + k.val = k.val; omega

theorem cur_apply (t : Fin 23) (j : Fin 256) : sumF (codes1 (a1 m c)) (a3 m c) (ix2 t j) = C t.val j := by
  refine (gsum_apply (a3 m c) _ _ _ _ _ (fun t => cd (a1 m c) (t + 1)) (fun t k => ?_) h.lt1 t j).trans (h.hC t j)
  rw [cd, dif_pos ⟨by omega, k.isLt⟩]
  refine congrArg (a1 m c) ?_
  funext x
  refine Fin.ext ?_
  match x with
  | ⟨0, _⟩ => show 1 + t.val = t.val + 1; omega
  | ⟨1, _⟩ => show 0 + k.val = k.val; omega

/-- The second recurrence's states. -/
abbrev st (V : ℕ → Fin 256 → EReal) : ℕ → Fin 256 → EReal := Spec.hs (a9 m c) (a11 m c) (Spec.gi (a8 m c) (a10 m c) V)

/-- What the running sums are taken of. -/
abbrev prodP (V : ℕ → Fin 256 → EReal) (t : ℕ) (j : Fin 256) : EReal := Spec.attn (a14 m c) (a15 m c) (st m c V (t + 1)) j * V t j

/-- The predictions. -/
abbrev predP (V C : ℕ → Fin 256 → EReal) (t : ℕ) (n : Fin 500) : EReal :=
  Spec.out (a16 m c) (a17 m c) (fun k => Spec.pre (prodP m c V) t k + C t k) n

theorem v45_apply (t : Fin 23) (j : Fin 256) : (Y1 m c (Proc.devRef .tc main_v45) : FVec Ideal S23x256 .f32) (ix2 t j) = prodP m c V t.val j := by
  refine (congrFun (post_v45 (Y0 m c)) (ix2 t j)).trans ?_
  rw [Y0_arg m c (r := main_arg12) (by decide) (by decide) (by decide), Y0_arg m c (r := main_arg13) (by decide) (by decide) (by decide),
    Y0_arg m c (r := main_arg14) (by decide) (by decide) (by decide), Y0_arg m c (r := main_arg15) (by decide) (by decide) (by decide),
    Y0_of m c (r := main_v8) (by decide) (by decide), pre_v8]
  have hI := invY m c
  refine (prod_apply _ _ (v8 m c) (a12 m c) (a13 m c) (a14 m c) (a15 m c) (fun t j => ?_) h.r12 h.r13 t j).trans ?_
  · obtain ⟨r, hr⟩ := Spec.hs_real (a5 m c) (a7 m c) (grow (giF (v8 m c) (a4 m c) (a6 m c))) (t.val + 1) j
    exact ⟨r, (hI.h9 t j t.isLt).trans hr⟩
  · rw [v8_apply m c h]
    refine congrArg (fun x => Spec.attn (a14 m c) (a15 m c) x j * V t.val j) ?_
    funext k
    refine (hI.h10 t k t.isLt).trans ?_
    refine congrFun (Spec.hs_congr _ _ _ _ _ fun q hq => ?_) k
    funext n
    have ht := t.isLt
    rw [grow, dif_pos (by omega)]
    exact gi_apply (v8 m c) (a8 m c) (a10 m c) V (v8_apply m c h) ⟨q, by omega⟩ n

theorem v46_apply (t : Fin 23) (j : Fin 256) : (Y2 m c (Proc.devRef .tc main_v46) : FVec Ideal S23x256 .f32) (ix2 t j) = Spec.pre (prodP m c V) t.val j :=
  (congrFun (post_v46 (Y1 m c)) (ix2 t j)).trans (cumsum_apply _ _ (fun _ => Ideal.ofBits_zero_f32) _ (v45_apply m c h) _ _ t j)

theorem sum_apply (t : Fin 23) (j : Fin 256) :
    (addf (Y2 m c (Proc.devRef .tc main_v46)) (sumF (codes1 (a1 m c)) (a3 m c)) : FVec Ideal S23x256 .f32) (ix2 t j) = Spec.pre (prodP m c V) t.val j + C t.val j :=
  congrArg₂ (α := EReal) (β := EReal) (· + ·) (v46_apply m c h t j) (cur_apply m c h t j)

/-- What a result buffer ends at. -/
abbrev res (r : Ref sig .tc) := finalContents condOps preI bodyI postI 23 m c (Proc.devRef .tc r)

theorem pred_apply (t : Fin 23) (n : Fin 500) :
    outF (addf (Y2 m c (Proc.devRef .tc main_v46)) (sumF (codes1 (a1 m c)) (a3 m c))) (a16 m c) (a17 m c) (ix2 t n) = predP m c V C t.val n := by
  refine (out_apply _ _ _ t n).trans (congrArg (fun x => Spec.out (a16 m c) (a17 m c) x n) ?_)
  funext k
  exact sum_apply m c h t k

theorem res_v67 (t : Fin 23) (n : Fin 500) : (res m c main_v67 : FVec Ideal S23x500 .f32) (ix2 t n) = predP m c V C t.val n := by
  refine (congrFun (post_v67 (Y2 m c)) (ix2 t n)).trans ?_
  rw [Y2_arg m c (r := main_arg1) (by decide) (by decide) (by decide) (by decide) (by decide), Y2_arg m c (r := main_arg3) (by decide) (by decide) (by decide) (by decide) (by decide),
    Y2_arg m c (r := main_arg16) (by decide) (by decide) (by decide) (by decide) (by decide), Y2_arg m c (r := main_arg17) (by decide) (by decide) (by decide) (by decide) (by decide)]
  exact pred_apply m c h t n

theorem res_v87 (t : Fin 23) (n : Fin 500) (p : Prop) [Decidable p] (hp : p ↔ ∃ b : Fin 25, (a2 m c (ix2 ⟨t.val + 1, by omega⟩ b)).toNat = n.val) :
    (res m c main_v87 : FVec Ideal S23x500 .f32) (ix2 t n) = (if p then (1 : EReal) else 0) := by
  refine (congrFun (post_v87 (Y2 m c)) (ix2 t n)).trans ?_
  rw [Y2_arg m c (r := main_arg2) (by decide) (by decide) (by decide) (by decide) (by decide)]
  exact onehotF_apply (a2 m c) h.med t n p hp

omit h in
theorem res_v91 (t : Fin 23) (n : Fin 500) :
    (res m c main_v91 : IVec S23x500 32) (ix2 t n) = if h : n.val < 25 then a2 m c (ix2 ⟨t.val + 1, by omega⟩ ⟨n.val, h⟩) else 4294967295#32 := by
  refine (congrFun (post_v91 (Y2 m c)) (ix2 t n)).trans ?_
  rw [Y2_arg m c (r := main_arg2) (by decide) (by decide) (by decide) (by decide) (by decide)]
  exact paddedF_apply (a2 m c) t n

theorem res_v104 (i : S_.Idx) : (res m c main_v104 : FVec Ideal S_ .f32) i
    = (∑ t : Fin 23, ∑ n : Fin 500, Spec.term (onehotF (F := Ideal) (a2 m c) (ix2 t n)) (predP m c V C t.val n)) * ((500⁻¹ : ℝ) : EReal) := by
  refine (congrFun (post_v104 (Y2 m c)) i).trans ?_
  rw [Y2_arg m c (r := main_arg1) (by decide) (by decide) (by decide) (by decide) (by decide), Y2_arg m c (r := main_arg3) (by decide) (by decide) (by decide) (by decide) (by decide),
    Y2_arg m c (r := main_arg16) (by decide) (by decide) (by decide) (by decide) (by decide), Y2_arg m c (r := main_arg17) (by decide) (by decide) (by decide) (by decide) (by decide),
    Y2_arg m c (r := main_arg2) (by decide) (by decide) (by decide) (by decide) (by decide)]
  refine (lossF_apply _ _ i).trans (congrArg (· * _) ?_)
  refine Finset.sum_congr rfl fun t _ => Finset.sum_congr rfl fun n _ => ?_
  rw [pred_apply m c h]

end Cert.ReferenceIdeal.Val

end
-- ==== Proof.Value.PreReal.lean ====
/- What the precondition says of the arrays of reals: the padding row is zero and the first attention's weights are real. -/
module

public import proofs.«01_k».proof.Proof.Ref.Pre
public import Idealize.ShloMosaic.PureOps.Ideal.Laws
public import Idealize.ShloMosaic.Lib.Pipeline.Value

@[expose] public section

noncomputable section

namespace Cert.Visits

open Cert.Pre_visits_as_drawn Cert.Pre_visits_as_drawn.Gen
open Idealize.ShloMosaic Idealize.ShloMosaic.ValueIdx

theorem inf_bits : Ideal.ofBits .f32 0x7F800000#32 = ⊤ := by simp [Ideal.ofBits, Ideal.ieee]

/-- A value of finite absolute value is a real. -/
theorem real_of_abs_lt {x : EReal} (h : max x (-x) < ⊤) : ∃ r : ℝ, x = r := by
  induction x with
  | bot => simp at h
  | coe r => exact ⟨r, rfl⟩
  | top => simp at h

variable {a0 : IVec S24x4000 32} {a1 : IVec S24x4000 32} {a2 : IVec S24x25 32} {a3 : FVec Ideal S4001x256 .f32}
    {a4 a5 : FVec Ideal S768x256 .f32} {a6 a7 : FVec Ideal S768 .f32} {a8 a9 : FVec Ideal S768x256 .f32} {a10 a11 : FVec Ideal S768 .f32}
    {a12 : FVec Ideal S1x256 .f32} {a13 : FVec Ideal S1 .f32} {a14 : FVec Ideal S256x256 .f32} {a15 : FVec Ideal S256 .f32}
    {a16 : FVec Ideal S500x256 .f32} {a17 : FVec Ideal S500 .f32}
  (h : Holds a0 a1 a2 a3 a4 a5 a6 a7 a8 a9 a10 a11 a12 a13 a14 a15 a16 a17)
include h

theorem row_zero (j : Fin 256) : a3 (ix2 (⟨4000, by decide⟩ : Fin 4001) j) = (0 : EReal) := by
  have e : BitVec.ofBool (decide ((shapeCast S256 (extractStridedSlice S1x256 ![4000, 0] a3 slices_S4001x256_S1x256_4000_0) shapeCasts_S1x256_S256 (ix1 j) : EReal)
      = Ideal.ofBits .f32 0x00000000#32)) = 1#1 := congrFun h.2.2.2.2.2.2.2.1 (ix1 j)
  have hx : shapeCast S256 (extractStridedSlice S1x256 ![4000, 0] a3 slices_S4001x256_S1x256_4000_0) shapeCasts_S1x256_S256 (ix1 j)
      = a3 (ix2 (⟨4000, by decide⟩ : Fin 4001) j) := by
    refine (shapeCast_apply _ _ (ix1 j) (ix2 (0 : Fin 1) j) (by simp [Shape.rowMajor_val_two, Shape.rowMajor_val_one])).trans (congrArg a3 ?_)
    ext a; fin_cases a <;> simp [ix2]
  rw [hx, ofBool_eq_one, Ideal.ofBits_zero_f32] at e
  exact of_decide_eq_true e

theorem real12 (i : S1x256.Idx) : ∃ r : ℝ, a12 i = (r : EReal) := by
  have e : BitVec.ofBool (decide (max (a12 i) (-(a12 i) : EReal) < Ideal.ofBits .f32 0x7F800000#32)) = 1#1 := congrFun h.2.2.2.2.2.2.2.2.1 i
  rw [ofBool_eq_one, inf_bits] at e
  exact real_of_abs_lt (of_decide_eq_true e)

theorem real13 (i : S1.Idx) : ∃ r : ℝ, a13 i = (r : EReal) := by
  have e : BitVec.ofBool (decide (max (a13 i) (-(a13 i) : EReal) < Ideal.ofBits .f32 0x7F800000#32)) = 1#1 := congrFun h.2.2.2.2.2.2.2.2.2 i
  rw [ofBool_eq_one, inf_bits] at e
  exact real_of_abs_lt (of_decide_eq_true e)

end Cert.Visits

end
-- ==== Proof.Value.Bridge.lean ====
/- The kernel's sums over its gathered rows and counted codes are the reference's sums over all four thousand codes. -/
module

public import proofs.«01_k».proof.Proof.Value.KernelOut
public import proofs.«01_k».proof.Proof.Value.RefFinal
public import proofs.«01_k».proof.Proof.Value.PreReal

@[expose] public section

noncomputable section

namespace Cert.Spec

/-- A sum of nonnegative values times any value. -/
theorem sum_nonneg_mul {n : ℕ} (f : Fin n → EReal) (hf : ∀ i, 0 ≤ f i) (x : EReal) : (∑ i, f i) * x = ∑ i, f i * x := by
  induction n with
  | zero => simp
  | succ n ih =>
    rw [Fin.sum_univ_succ, Fin.sum_univ_succ, EReal.right_distrib_of_nonneg (hf 0) (Finset.sum_nonneg fun i _ => hf _), ih _ fun i => hf _]

/-- A visit's four thousand codes: sixty gathered, twenty-five counted, the rest padding. -/
theorem sum_codes (f : ℕ → EReal) :
    ∑ k : Fin 4000, f k.val = (∑ k ∈ Finset.range 60, f k + ∑ b : Fin 25, f (60 + b.val)) + ∑ k ∈ Finset.range 3915, f (85 + k) := by
  rw [Fin.sum_univ_eq_sum_range f 4000, show 4000 = 60 + 25 + 3915 from rfl, Finset.sum_range_add, Finset.sum_range_add,
    Fin.sum_univ_eq_sum_range (fun k => f (60 + k)) 25]

theorem sum_codes' (f : ℕ → EReal) : ∑ k : Fin 4000, f k.val = ∑ k ∈ Finset.range 60, f k + ∑ k ∈ Finset.range 3940, f (60 + k) := by
  rw [Fin.sum_univ_eq_sum_range f 4000, show 4000 = 60 + 3940 from rfl, Finset.sum_range_add]

/-- A shifted code names the row of its medicine. -/
theorem code_iff (b : BitVec 32) (hb : b.toNat < 500) (k : ℕ) (hk : k < 504) : BitVec.ofNat 32 k = b + 4#32 ↔ b.toNat + 4 = k := by
  rw [← BitVec.toNat_inj, BitVec.toNat_add, BitVec.toNat_ofNat, BitVec.toNat_ofNat]
  omega

end Cert.Spec

namespace Cert.Bridge

open Cert.KernelIdeal Cert.KernelIdeal.Gen Cert.KernelIdeal.Hand Cert.KernelIdeal.Val
open Cert.ReferenceIdeal.Val (gsum cd)
open Idealize.ShloMosaic hiding ix1 ix2 ix3 eq_ix1 eq_ix2 eq_ix3
open Idealize.ShloMosaic.ValueIdx

variable (c : Dev nD) (emb : FVec Ideal S4001x256 .f32)

/-- The row of a code. -/
def rw1 (w : BitVec 32) (j : Fin 256) : EReal := emb (ix2 (⟨w.toNat % 4001, Nat.mod_lt _ (by decide)⟩ : Fin 4001) j)

theorem rw1_eq (w : BitVec 32) (j : Fin 256) (n : Fin 4001) (h : w.toNat = n.val) : rw1 emb w j = emb (ix2 n j) := by
  refine congrArg (fun n : Fin 4001 => emb (ix2 n j)) (Fin.ext ?_)
  have := n.isLt
  show w.toNat % 4001 = n.val
  rw [h, Nat.mod_eq_of_lt this]

theorem dps_eq (wd : ℕ → ℕ → BitVec 32) (t : ℕ) (j : Fin 256) : dps wd (rowOf (F := Ideal) c emb) t j = ∑ k ∈ Finset.range 60, rw1 emb (wd t k) j := rfl

theorem gsum_eq (code : ℕ → BitVec 32) (j : Fin 256) : gsum emb code j = ∑ k : Fin 4000, rw1 emb (code k.val) j := rfl

/-- The counted codes' sum. -/
theorem md_sum (x1 : IVec S24x25 32) (hx : ∀ t b, (x1 (ix2 t b)).toNat < 500) (t : ℕ) (ht : t < 24) (j : Fin 256) :
    md x1 (tailOf (F := Ideal) c emb) t j = ∑ b : Fin 25, emb (ix2 (⟨3500 + (x1 (ix2 ⟨t, ht⟩ b)).toNat, by have := hx ⟨t, ht⟩ b; omega⟩ : Fin 4001) j) := by
  rw [md_eq x1 _ t ht j]
  have e : ∀ k : Fin 504, cnt x1 ⟨t, ht⟩ k.val * (tailOf (F := Ideal) c emb : FVec Ideal S504x256 .f32) (ix2 k j)
      = ∑ b : Fin 25, if (x1 (ix2 ⟨t, ht⟩ b)).toNat + 4 = k.val then (emb (ix2 (⟨3496 + k.val, by omega⟩ : Fin 4001) j) : EReal) else 0 := by
    intro k
    refine (Spec.sum_nonneg_mul _ (fun b => ?_) _).trans (Finset.sum_congr rfl fun b _ => ?_)
    · split
      · exact zero_le_one
      · exact le_rfl
    · have hi := Spec.code_iff _ (hx ⟨t, ht⟩ b) k.val k.isLt
      by_cases hb : (x1 (ix2 ⟨t, ht⟩ b)).toNat + 4 = k.val
      · rw [if_pos (hi.mpr hb), if_pos hb, one_mul]; rfl
      · rw [if_neg (fun h => hb (hi.mp h)), if_neg hb, zero_mul]
  rw [Finset.sum_congr rfl fun k _ => e k, Finset.sum_comm]
  refine Finset.sum_congr rfl fun b _ => ?_
  have hb := hx ⟨t, ht⟩ b
  rw [Finset.sum_eq_single (⟨(x1 (ix2 ⟨t, ht⟩ b)).toNat + 4, by omega⟩ : Fin 504)]
  · rw [if_pos rfl]
    refine congrArg (fun n : Fin 4001 => emb (ix2 n j)) (Fin.ext ?_)
    show 3496 + ((x1 (ix2 ⟨t, ht⟩ b)).toNat + 4) = 3500 + (x1 (ix2 ⟨t, ht⟩ b)).toNat
    omega
  · intro k _ hk
    exact if_neg fun h => hk (Fin.ext h.symm)
  · intro h; exact absurd (Finset.mem_univ _) h

variable {a0 : IVec S24x4000 32} {a1 : IVec S24x4000 32} {a2 : IVec S24x25 32} {a3 : FVec Ideal S4001x256 .f32}
    {a4 a5 : FVec Ideal S768x256 .f32} {a6 a7 : FVec Ideal S768 .f32} {a8 a9 : FVec Ideal S768x256 .f32} {a10 a11 : FVec Ideal S768 .f32}
    {a12 : FVec Ideal S1x256 .f32} {a13 : FVec Ideal S1 .f32} {a14 : FVec Ideal S256x256 .f32} {a15 : FVec Ideal S256 .f32}
    {a16 : FVec Ideal S500x256 .f32} {a17 : FVec Ideal S500 .f32}
  (h : Visits.Holds a0 a1 a2 a3 a4 a5 a6 a7 a8 a9 a10 a11 a12 a13 a14 a15 a16 a17)

theorem cd_at (a : IVec S24x4000 32) (t k : ℕ) (ht : t < 24) (hk : k < 4000) : cd a t k = a (ix2 ⟨t, ht⟩ ⟨k, hk⟩) := dif_pos ⟨ht, hk⟩

include h

theorem cd_low (t k : ℕ) (ht : t < 24) (hk : k < 60) : (cd a0 t k).toNat < 3500 := by
  rw [cd_at a0 t k ht (by omega)]
  by_cases hk4 : k < 40
  · exact lt_trans (Visits.diag_lt h ⟨t, ht⟩ ⟨k, hk4⟩) (by decide)
  · have := (Visits.proc_lt h ⟨t, ht⟩ ⟨k - 40, by omega⟩).2
    simp only [show 40 + (k - 40) = k by omega] at this
    exact this

theorem cd_med (t : ℕ) (ht : t < 23) (b : Fin 25) : (cd a0 t (60 + b.val)).toNat = 3500 + (a2 (ix2 ⟨t, by omega⟩ b)).toNat := by
  rw [cd_at a0 t _ (by omega) (by omega)]
  exact Visits.medcode_eq h ⟨t, ht⟩ b

theorem cd_pad (t k : ℕ) (ht : t < 23) (hk : k < 3915) : cd a0 t (85 + k) = 4000#32 := by
  rw [cd_at a0 t _ (by omega) (by omega)]
  exact Visits.pad_eq h ⟨t, ht⟩ ⟨k, hk⟩

theorem cd_cur (t k : ℕ) (ht : t < 23) (hk : k < 60) : cd a1 (t + 1) k = cd a0 (t + 1) k := by
  rw [cd_at a0 _ _ (by omega) (by omega), cd_at a1 _ _ (by omega) (by omega)]
  have := Visits.cur_eq h ⟨t, ht⟩ ⟨k, hk⟩
  simp only [show 1 + t = t + 1 by omega] at this
  exact this

theorem cd_curpad (t k : ℕ) (ht : t < 23) (hk : k < 3940) : cd a1 (t + 1) (60 + k) = 4000#32 := by
  rw [cd_at a1 _ _ (by omega) (by omega)]
  have := Visits.curpad_eq h ⟨t, ht⟩ ⟨k, hk⟩
  simp only [show 1 + t = t + 1 by omega] at this
  exact this

theorem lt0 (t : Fin 23) (k : Fin 4000) : (cd a0 t.val k.val).toNat < 4001 := by
  have ht := t.isLt
  have hk := k.isLt
  by_cases h6 : k.val < 60
  · exact lt_trans (cd_low h t.val k.val (by omega) h6) (by decide)
  by_cases h8 : k.val < 85
  · have e := cd_med h t.val ht ⟨k.val - 60, by omega⟩
    have := Visits.med_lt h ⟨t.val, by omega⟩ ⟨k.val - 60, by omega⟩
    simp only [show 60 + (k.val - 60) = k.val by omega] at e
    rw [e]; omega
  · have e := cd_pad h t.val (k.val - 85) ht (by omega)
    rw [show 85 + (k.val - 85) = k.val by omega] at e
    rw [e]; decide

theorem lt1 (t : Fin 23) (k : Fin 4000) : (cd a1 (t.val + 1) k.val).toNat < 4001 := by
  have ht := t.isLt
  have hk := k.isLt
  by_cases h6 : k.val < 60
  · rw [cd_cur h t.val k.val ht h6]
    exact lt_trans (cd_low h (t.val + 1) k.val (by omega) h6) (by decide)
  · have e := cd_curpad h t.val (k.val - 60) ht (by omega)
    rw [show 60 + (k.val - 60) = k.val by omega] at e
    rw [e]; decide

theorem rw1_pad (j : Fin 256) : rw1 a3 4000#32 j = 0 := (rw1_eq a3 _ j ⟨4000, by decide⟩ rfl).trans (Visits.row_zero h j)

/-- The visits' sums agree. -/
theorem hV (t : Fin 23) (j : Fin 256) : gsum a3 (cd a0 t.val) j = kv a2 (wdOf (F := Ideal) c a0) (rowOf (F := Ideal) c a3) (tailOf (F := Ideal) c a3) t.val j := by
  have ht := t.isLt
  rw [kv, if_pos ht, dps_eq, md_sum c a3 a2 (Visits.med_lt h) t.val (by omega), gsum_eq, Spec.sum_codes (fun k => rw1 a3 (cd a0 t.val k) j)]
  rw [Finset.sum_eq_zero (s := Finset.range 3915) fun k hk => (congrArg (rw1 a3 · j) (cd_pad h t.val k ht (Finset.mem_range.mp hk))).trans (rw1_pad h j), add_zero]
  refine congrArg₂ (· + ·) rfl (Finset.sum_congr rfl fun b _ => ?_)
  exact rw1_eq a3 _ j _ (cd_med h t.val ht b)

/-- The current visits' sums agree. -/
theorem hC (t : Fin 23) (j : Fin 256) : gsum a3 (cd a1 (t.val + 1)) j = kc (wdOf (F := Ideal) c a0) (rowOf (F := Ideal) c a3) t.val j := by
  have ht := t.isLt
  rw [kc, if_pos ht, dps_eq, gsum_eq, Spec.sum_codes' (fun k => rw1 a3 (cd a1 (t.val + 1) k) j)]
  rw [Finset.sum_eq_zero (s := Finset.range 3940) fun k hk => (congrArg (rw1 a3 · j) (cd_curpad h t.val k ht (Finset.mem_range.mp hk))).trans (rw1_pad h j), add_zero]
  refine Finset.sum_congr rfl fun k hk => ?_
  exact congrArg (rw1 a3 · j) (cd_cur h t.val k ht (Finset.mem_range.mp hk))

end Cert.Bridge

end
-- ==== Proof.Value.Algebraic.lean ====
/- The kernel's and the reference's four results are equal, from memories that agree on the arguments. -/
module

public import proofs.«01_k».proof.Proof.Value.Bridge
public import proofs.«01_k».proof.Proof.HandIdeal.FrameClaim

@[expose] public section

set_option maxRecDepth 4000

noncomputable section

namespace Cert.Bridge

open Cert.KernelIdeal Cert.KernelIdeal.Gen Cert.KernelIdeal.Hand Cert.KernelIdeal.Val
open Cert.ReferenceIdeal.Val (gsum cd arg a0 a1 a2 a3 a4 a5 a6 a7 a8 a9 a10 a11 a12 a13 a14 a15 a16 a17 predP prodP res Drawn onehotF onehotF_apply res_v87 res_v91 res_v67 res_v104)
open Idealize.ShloMosaic hiding ix1 ix2 ix3 eq_ix1 eq_ix2 eq_ix3
open Idealize.ShloMosaic.ValueIdx Idealize.SL.Sem

section Parts

variable (m' : (ℓ : Loc Cert.ReferenceIdeal.nD Cert.ReferenceIdeal.τ Cert.ReferenceIdeal.sig) → Buf (Elt Ideal) ℓ) (c : Dev Cert.ReferenceIdeal.nD)

/-- The two predictions are one function of the weights and the visits' sums. -/
theorem pred_eq (x1 : IVec S24x25 32) (x3 x4 : FVec Ideal S768x256 .f32) (x5 x6 : FVec Ideal S768 .f32) (x7 : FVec Ideal S256x256 .f32) (x8 : FVec Ideal S256 .f32)
    (x9 : FVec Ideal S500x256 .f32) (x10 : FVec Ideal S500 .f32) (wd : ℕ → ℕ → BitVec 32) (row : BitVec 32 → Vec Ideal S1x1x256 .f32) (tail : Vec Ideal S504x256 .f32)
    (h3 : x3 = a8 m' c) (h4 : x4 = a9 m' c) (h5 : x5 = a10 m' c) (h6 : x6 = a11 m' c) (h7 : x7 = a14 m' c) (h8 : x8 = a15 m' c) (h9 : x9 = a16 m' c) (h10 : x10 = a17 m' c)
    (t : ℕ) (ht : t < 23) (n : Fin 500) :
    kpred x1 x3 x4 x5 x6 x7 x8 x9 x10 wd row tail t n = predP m' c (kv x1 wd row tail) (kc wd row) t n := by
  subst h3 h4 h5 h6 h7 h8 h9 h10
  refine congrArg (fun x => Spec.out (a16 m' c) (a17 m' c) x n) ?_
  funext k
  refine congrArg (· + kc wd row t k) (Finset.sum_congr rfl fun s hs => ?_)
  have hs' := Finset.mem_range.mp hs
  refine congrArg (fun x => Spec.attn (a14 m' c) (a15 m' c) x k * kv x1 wd row tail s k) ?_
  funext j
  exact if_pos (show s < 23 by omega)

/-- A visit holds the medicine exactly when one of its shifted codes names the medicine's row. -/
theorem ky_iff (x1 : IVec S24x25 32) (hx : ∀ t b, (x1 (ix2 t b)).toNat < 500) (t : Fin 23) (n : Fin 500) :
    (∃ b : Fin 25, BitVec.ofNat 32 (n.val + 4) = x1 (ix2 ⟨t.val + 1, by omega⟩ b) + 4#32) ↔ ∃ b : Fin 25, (x1 (ix2 ⟨t.val + 1, by omega⟩ b)).toNat = n.val := by
  refine exists_congr fun b => ?_
  have hn := n.isLt
  rw [Spec.code_iff _ (hx _ b) (n.val + 4) (by omega)]
  omega

theorem ky_eq (x1 : IVec S24x25 32) (hx : ∀ t b, (x1 (ix2 t b)).toNat < 500) (t : Fin 23) (n : Fin 500) :
    (onehotF (F := Ideal) x1 (ix2 t n) : EReal) = ky x1 t.val n := by
  have ht := t.isLt
  rw [ky, dif_pos (by omega)]
  exact onehotF_apply x1 hx t n _ (ky_iff x1 hx t n)

/-- The precondition gives what the reference's results are stated over. -/
theorem drawn (h : Visits.Holds (a0 m' c) (a1 m' c) (a2 m' c) (a3 m' c) (a4 m' c) (a5 m' c) (a6 m' c) (a7 m' c) (a8 m' c) (a9 m' c) (a10 m' c) (a11 m' c)
      (a12 m' c) (a13 m' c) (a14 m' c) (a15 m' c) (a16 m' c) (a17 m' c)) (d : Dev nD) :
    Drawn m' c (kv (a2 m' c) (wdOf (F := Ideal) d (a0 m' c)) (rowOf (F := Ideal) d (a3 m' c)) (tailOf (F := Ideal) d (a3 m' c)))
      (kc (wdOf (F := Ideal) d (a0 m' c)) (rowOf (F := Ideal) d (a3 m' c))) where
  lt0 := lt0 h
  lt1 := lt1 h
  med := Visits.med_lt h
  hV := hV d h
  hC := hC d h
  r12 := Visits.real12 h
  r13 := Visits.real13 h

end Parts

/-- The memories agree on one device's arguments. -/
def Same (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD) : Prop :=
  m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)

section Results

variable (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)
  (hpre : Cert.Pre_KernelIdeal m) (e : Same m m' c)
include hpre e

theorem holds' : Visits.Holds (a0 m' c) (a1 m' c) (a2 m' c) (a3 m' c) (a4 m' c) (a5 m' c) (a6 m' c) (a7 m' c) (a8 m' c) (a9 m' c) (a10 m' c) (a11 m' c)
      (a12 m' c) (a13 m' c) (a14 m' c) (a15 m' c) (a16 m' c) (a17 m' c) := by
  obtain ⟨e0, e1, e2, e3, e4, e5, e6, e7, e8, e9, e10, e11, e12, e13, e14, e15, e16, e17⟩ := e
  simp only [a0, a1, a2, a3, a4, a5, a6, a7, a8, a9, a10, a11, a12, a13, a14, a15, a16, a17, arg]
  rw [e0, e1, e2, e3, e4, e5, e6, e7, e8, e9, e10, e11, e12, e13, e14, e15, e16, e17]
  exact hpre c

theorem P_eq (t : Fin 23) (n : Fin 500) : P m c t.val n
    = predP m' c (kv (a2 m' c) (wdOf (F := Ideal) c (a0 m' c)) (rowOf (F := Ideal) c (a3 m' c)) (tailOf (F := Ideal) c (a3 m' c)))
      (kc (wdOf (F := Ideal) c (a0 m' c)) (rowOf (F := Ideal) c (a3 m' c))) t.val n := by
  obtain ⟨e0, e1, e2, e3, e4, e5, e6, e7, e8, e9, e10, e11, e12, e13, e14, e15, e16, e17⟩ := e
  have q0 : a0 m' c = V m c main_arg0 := e0
  have q2 : a2 m' c = V m c main_arg2 := e2
  have q3 : a3 m' c = V m c main_arg3 := e3
  obtain ⟨i0, i1, i2, i3, i4, i5, i6, i7, i8⟩ := iblks m c
  rw [P, i0, i1, i2, i3, i4, i5, i6, i7, i8, q0, q2, q3]
  exact pred_eq m' c _ _ _ _ _ _ _ _ _ _ _ _ e8.symm e9.symm e10.symm e11.symm e14.symm e15.symm e16.symm e17.symm t.val t.isLt n

theorem x1_eq : iblk m c 0 p0 = a2 m' c := (iblks m c).1.trans e.2.2.1.symm

variable (hp : Bounds m)

theorem r9 : res m' c Cert.ReferenceIdeal.main_v87 = (dats m hp 0 c).arrAt 9 cfg0.N := by
  rw [arr9, x1_eq m m' c hpre e]
  have hD := drawn m' c (holds' m m' c hpre e) c
  have key : ∀ (t : Fin 23) (n : Fin 500), (res m' c Cert.ReferenceIdeal.main_v87 : FVec Ideal S23x500 .f32) (ix2 t n) = ky (a2 m' c) t.val n := by
    intro t n
    have ht := t.isLt
    rw [ky, dif_pos (by omega)]
    exact res_v87 m' c hD t n _ (ky_iff (a2 m' c) hD.med t n)
  funext i
  exact (congrArg _ (eq_ix2 i)).trans (key (i 0) (i 1))

theorem r10 : res m' c Cert.ReferenceIdeal.main_v91 = (dats m hp 0 c).arrAt 10 cfg0.N := by
  rw [arr10, x1_eq m m' c hpre e]
  have key : ∀ (t : Fin 23) (n : Fin 500), (res m' c Cert.ReferenceIdeal.main_v91 : IVec S23x500 32) (ix2 t n) = kpad (a2 m' c) t.val n := by
    intro t n
    have ht := t.isLt
    refine (res_v91 m' c t n).trans ?_
    by_cases hn : n.val < 25
    · rw [dif_pos hn, kpad, dif_pos ⟨hn, by omega⟩]
    · rw [dif_neg hn, kpad, dif_neg fun h => hn h.1]
  funext i
  exact (congrArg _ (eq_ix2 i)).trans (key (i 0) (i 1))

theorem r11 : res m' c Cert.ReferenceIdeal.main_v67 = (dats m hp 0 c).arrAt 11 cfg0.N := by
  rw [arr11]
  have hD := drawn m' c (holds' m m' c hpre e) c
  have key : ∀ (t : Fin 23) (n : Fin 500), (res m' c Cert.ReferenceIdeal.main_v67 : FVec Ideal S23x500 .f32) (ix2 t n) = P m c t.val n :=
    fun t n => (res_v67 m' c hD t n).trans (P_eq m m' c hpre e t n).symm
  funext i
  exact (congrArg _ (eq_ix2 i)).trans (key (i 0) (i 1))

theorem r12 : res m' c Cert.ReferenceIdeal.main_v104 = (dats m hp 0 c).arrAt 12 cfg0.N := by
  rw [arr12, x1_eq m m' c hpre e]
  funext i
  have hD := drawn m' c (holds' m m' c hpre e) c
  refine (res_v104 m' c hD i).trans (congrArg (· * _) ?_)
  exact Finset.sum_congr rfl fun t _ => Finset.sum_congr rfl fun n _ =>
    congrArg₂ Spec.term (ky_eq (a2 m' c) hD.med t n) (P_eq m m' c hpre e t n).symm

end Results

theorem algebraic : Cert.algebraic_KernelIdeal_ReferenceIdeal := by
  intro m g m' g' hpre e
  have hp := bounds_of_pre m hpre
  refine ⟨fun c => (dats m hp 0 c).arrAt 9 cfg0.N, fun c => (dats m hp 0 c).arrAt 10 cfg0.N, fun c => (dats m hp 0 c).arrAt 11 cfg0.N,
    fun c => (dats m hp 0 c).arrAt 12 cfg0.N, ?_, ?_⟩
  · exact (θ_run Cert.KernelIdeal.defs _ _).mono (fun _ hr c => ⟨(hr.1 c).2.1, (hr.1 c).2.2.1, (hr.1 c).2.2.2.1, (hr.1 c).2.2.2.2, (hr.1 c).1⟩) (run_all m g hp)
  · refine (θ_run Cert.ReferenceIdeal.defs _ _).mono (fun _ hr c => ⟨?_, ?_, ?_, ?_, (hr c).2⟩) (Cert.ReferenceIdeal.Hand.run_args (F := Ideal) m' g')
    · exact ((hr c).1 Cert.ReferenceIdeal.main_v87 rfl).trans (r9 m m' c hpre (e c) hp)
    · exact ((hr c).1 Cert.ReferenceIdeal.main_v91 rfl).trans (r10 m m' c hpre (e c) hp)
    · exact ((hr c).1 Cert.ReferenceIdeal.main_v67 rfl).trans (r11 m m' c hpre (e c) hp)
    · exact ((hr c).1 Cert.ReferenceIdeal.main_v104 rfl).trans (r12 m m' c hpre (e c) hp)

end Cert.Bridge

end
-- ==== Proof.lean ====
/- The certificate's claims, each from its own module: the three frames, the named constant, and the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_visits_as_drawn
public import proofs.«01_k».proof.Proof.Hand.FrameClaim
public import proofs.«01_k».proof.Proof.HandIdeal.FrameClaim
public import proofs.«01_k».proof.Proof.Ref.Frame
public import proofs.«01_k».proof.Proof.Value.Algebraic
public import Idealize.ShloMosaic.Adequacy
public import Idealize.ShloMosaic.Init

@[expose] public section

noncomputable section

namespace Cert.Proof

open Idealize.ShloMosaic Idealize.SL.Sem

theorem preserves : Cert.preserves_Kernel_KernelIdeal :=
  IdealRules.named_const.statement Cert.KernelIdeal.κ "inv_v2" .f32 0x3B03126F#32 ((500⁻¹ : ℝ) : EReal) rfl

theorem claim : Cert.Claim := ⟨Cert.Kernel.Gen.facts, Cert.KernelIdeal.Gen.facts, Cert.ReferenceIdeal.Gen.facts, Cert.Pre_visits_as_drawn.Gen.facts,
  Cert.Kernel.Hand.frame_claim, Cert.KernelIdeal.Hand.frame_claim, Cert.ReferenceIdeal.Hand.frame_reference,
  fun m ρ _ => Cert.ReferenceIdeal.Hand.frame_reference m ρ trivial, preserves, Cert.Bridge.algebraic⟩

end Cert.Proof

end
